-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelFfnBwd (m : (ℓ : Loc Cert.KernelFfnBwd.nD Cert.KernelFfnBwd.τ Cert.KernelFfnBwd.sig) → Buf (Elt Bits) ℓ) : Prop :=
  True

def Pre_KernelFfnBwdIdeal (m : (ℓ : Loc Cert.KernelFfnBwdIdeal.nD Cert.KernelFfnBwdIdeal.τ Cert.KernelFfnBwdIdeal.sig) → Buf (Elt Ideal) ℓ) : Prop :=
  True

def Pre_KernelFfnBwdIdeal_ffn_finite [hPre_ffn_finite : Cert.Pre_ffn_finite.Facts] (m : (ℓ : Loc Cert.KernelFfnBwdIdeal.nD Cert.KernelFfnBwdIdeal.τ Cert.KernelFfnBwdIdeal.sig) → Buf (Elt Ideal) ℓ) : Prop :=
  ∀ c : Dev Cert.KernelFfnBwdIdeal.nD,
    (Cert.Pre_ffn_finite.fn (F := Ideal) (m ((c.tc : Thread Cert.KernelFfnBwdIdeal.nD Cert.KernelFfnBwdIdeal.τ).loc Cert.KernelFfnBwdIdeal.main_arg0)) (m ((c.tc : Thread Cert.KernelFfnBwdIdeal.nD Cert.KernelFfnBwdIdeal.τ).loc Cert.KernelFfnBwdIdeal.main_arg1)) (m ((c.tc : Thread Cert.KernelFfnBwdIdeal.nD Cert.KernelFfnBwdIdeal.τ).loc Cert.KernelFfnBwdIdeal.main_arg2)) (m ((c.tc : Thread Cert.KernelFfnBwdIdeal.nD Cert.KernelFfnBwdIdeal.τ).loc Cert.KernelFfnBwdIdeal.main_arg3)) (m ((c.tc : Thread Cert.KernelFfnBwdIdeal.nD Cert.KernelFfnBwdIdeal.τ).loc Cert.KernelFfnBwdIdeal.main_arg4)) (m ((c.tc : Thread Cert.KernelFfnBwdIdeal.nD Cert.KernelFfnBwdIdeal.τ).loc Cert.KernelFfnBwdIdeal.main_arg5))) = (fun _ => 1#1)

def Pre_ReferenceFfnBwdIdeal (m : (ℓ : Loc Cert.ReferenceFfnBwdIdeal.nD Cert.ReferenceFfnBwdIdeal.τ Cert.ReferenceFfnBwdIdeal.sig) → Buf (Elt Ideal) ℓ) : Prop :=
  True

def Pre_ReferenceFfnBwdIdeal_ffn_finite [hPre_ffn_finite : Cert.Pre_ffn_finite.Facts] (m : (ℓ : Loc Cert.ReferenceFfnBwdIdeal.nD Cert.ReferenceFfnBwdIdeal.τ Cert.ReferenceFfnBwdIdeal.sig) → Buf (Elt Ideal) ℓ) : Prop :=
  ∀ c : Dev Cert.ReferenceFfnBwdIdeal.nD,
    (Cert.Pre_ffn_finite.fn (F := Ideal) (m ((c.tc : Thread Cert.ReferenceFfnBwdIdeal.nD Cert.ReferenceFfnBwdIdeal.τ).loc Cert.ReferenceFfnBwdIdeal.main_arg0)) (m ((c.tc : Thread Cert.ReferenceFfnBwdIdeal.nD Cert.ReferenceFfnBwdIdeal.τ).loc Cert.ReferenceFfnBwdIdeal.main_arg1)) (m ((c.tc : Thread Cert.ReferenceFfnBwdIdeal.nD Cert.ReferenceFfnBwdIdeal.τ).loc Cert.ReferenceFfnBwdIdeal.main_arg2)) (m ((c.tc : Thread Cert.ReferenceFfnBwdIdeal.nD Cert.ReferenceFfnBwdIdeal.τ).loc Cert.ReferenceFfnBwdIdeal.main_arg3)) (m ((c.tc : Thread Cert.ReferenceFfnBwdIdeal.nD Cert.ReferenceFfnBwdIdeal.τ).loc Cert.ReferenceFfnBwdIdeal.main_arg4)) (m ((c.tc : Thread Cert.ReferenceFfnBwdIdeal.nD Cert.ReferenceFfnBwdIdeal.τ).loc Cert.ReferenceFfnBwdIdeal.main_arg5))) = (fun _ => 1#1)

def Pre_KernelFfn1Fwd (m : (ℓ : Loc Cert.KernelFfn1Fwd.nD Cert.KernelFfn1Fwd.τ Cert.KernelFfn1Fwd.sig) → Buf (Elt Bits) ℓ) : Prop :=
  True

def Pre_KernelFfn1FwdIdeal (m : (ℓ : Loc Cert.KernelFfn1FwdIdeal.nD Cert.KernelFfn1FwdIdeal.τ Cert.KernelFfn1FwdIdeal.sig) → Buf (Elt Ideal) ℓ) : Prop :=
  True

def Pre_ReferenceFfn1FwdIdeal (m : (ℓ : Loc Cert.ReferenceFfn1FwdIdeal.nD Cert.ReferenceFfn1FwdIdeal.τ Cert.ReferenceFfn1FwdIdeal.sig) → Buf (Elt Ideal) ℓ) : Prop :=
  True

def Pre_KernelFfn2Fwd (m : (ℓ : Loc Cert.KernelFfn2Fwd.nD Cert.KernelFfn2Fwd.τ Cert.KernelFfn2Fwd.sig) → Buf (Elt Bits) ℓ) : Prop :=
  True

def Pre_KernelFfn2FwdIdeal (m : (ℓ : Loc Cert.KernelFfn2FwdIdeal.nD Cert.KernelFfn2FwdIdeal.τ Cert.KernelFfn2FwdIdeal.sig) → Buf (Elt Ideal) ℓ) : Prop :=
  True

def Pre_ReferenceFfn2FwdIdeal (m : (ℓ : Loc Cert.ReferenceFfn2FwdIdeal.nD Cert.ReferenceFfn2FwdIdeal.τ Cert.ReferenceFfn2FwdIdeal.sig) → Buf (Elt Ideal) ℓ) : Prop :=
  True

def Pre_KernelProjBwd (m : (ℓ : Loc Cert.KernelProjBwd.nD Cert.KernelProjBwd.τ Cert.KernelProjBwd.sig) → Buf (Elt Bits) ℓ) : Prop :=
  True

def Pre_KernelProjBwdIdeal (m : (ℓ : Loc Cert.KernelProjBwdIdeal.nD Cert.KernelProjBwdIdeal.τ Cert.KernelProjBwdIdeal.sig) → Buf (Elt Ideal) ℓ) : Prop :=
  True

def Pre_KernelProjBwdIdeal_proj_finite [hPre_proj_finite : Cert.Pre_proj_finite.Facts] (m : (ℓ : Loc Cert.KernelProjBwdIdeal.nD Cert.KernelProjBwdIdeal.τ Cert.KernelProjBwdIdeal.sig) → Buf (Elt Ideal) ℓ) : Prop :=
  ∀ c : Dev Cert.KernelProjBwdIdeal.nD,
    (Cert.Pre_proj_finite.fn (F := Ideal) (m ((c.tc : Thread Cert.KernelProjBwdIdeal.nD Cert.KernelProjBwdIdeal.τ).loc Cert.KernelProjBwdIdeal.main_arg0)) (m ((c.tc : Thread Cert.KernelProjBwdIdeal.nD Cert.KernelProjBwdIdeal.τ).loc Cert.KernelProjBwdIdeal.main_arg1)) (m ((c.tc : Thread Cert.KernelProjBwdIdeal.nD Cert.KernelProjBwdIdeal.τ).loc Cert.KernelProjBwdIdeal.main_arg2)) (m ((c.tc : Thread Cert.KernelProjBwdIdeal.nD Cert.KernelProjBwdIdeal.τ).loc Cert.KernelProjBwdIdeal.main_arg3)) (m ((c.tc : Thread Cert.KernelProjBwdIdeal.nD Cert.KernelProjBwdIdeal.τ).loc Cert.KernelProjBwdIdeal.main_arg4))) = (fun _ => 1#1)

def Pre_ReferenceProjBwdIdeal (m : (ℓ : Loc Cert.ReferenceProjBwdIdeal.nD Cert.ReferenceProjBwdIdeal.τ Cert.ReferenceProjBwdIdeal.sig) → Buf (Elt Ideal) ℓ) : Prop :=
  True

def Pre_ReferenceProjBwdIdeal_proj_finite [hPre_proj_finite : Cert.Pre_proj_finite.Facts] (m : (ℓ : Loc Cert.ReferenceProjBwdIdeal.nD Cert.ReferenceProjBwdIdeal.τ Cert.ReferenceProjBwdIdeal.sig) → Buf (Elt Ideal) ℓ) : Prop :=
  ∀ c : Dev Cert.ReferenceProjBwdIdeal.nD,
    (Cert.Pre_proj_finite.fn (F := Ideal) (m ((c.tc : Thread Cert.ReferenceProjBwdIdeal.nD Cert.ReferenceProjBwdIdeal.τ).loc Cert.ReferenceProjBwdIdeal.main_arg0)) (m ((c.tc : Thread Cert.ReferenceProjBwdIdeal.nD Cert.ReferenceProjBwdIdeal.τ).loc Cert.ReferenceProjBwdIdeal.main_arg1)) (m ((c.tc : Thread Cert.ReferenceProjBwdIdeal.nD Cert.ReferenceProjBwdIdeal.τ).loc Cert.ReferenceProjBwdIdeal.main_arg2)) (m ((c.tc : Thread Cert.ReferenceProjBwdIdeal.nD Cert.ReferenceProjBwdIdeal.τ).loc Cert.ReferenceProjBwdIdeal.main_arg3)) (m ((c.tc : Thread Cert.ReferenceProjBwdIdeal.nD Cert.ReferenceProjBwdIdeal.τ).loc Cert.ReferenceProjBwdIdeal.main_arg4))) = (fun _ => 1#1)

def Pre_KernelAdamW1 (m : (ℓ : Loc Cert.KernelAdamW1.nD Cert.KernelAdamW1.τ Cert.KernelAdamW1.sig) → Buf (Elt Bits) ℓ) : Prop :=
  True

def Pre_KernelAdamW1Ideal (m : (ℓ : Loc Cert.KernelAdamW1Ideal.nD Cert.KernelAdamW1Ideal.τ Cert.KernelAdamW1Ideal.sig) → Buf (Elt Ideal) ℓ) : Prop :=
  True

def Pre_ReferenceAdamW1Ideal (m : (ℓ : Loc Cert.ReferenceAdamW1Ideal.nD Cert.ReferenceAdamW1Ideal.τ Cert.ReferenceAdamW1Ideal.sig) → Buf (Elt Ideal) ℓ) : Prop :=
  True

def Pre_KernelAdamW2 (m : (ℓ : Loc Cert.KernelAdamW2.nD Cert.KernelAdamW2.τ Cert.KernelAdamW2.sig) → Buf (Elt Bits) ℓ) : Prop :=
  True

def Pre_KernelAdamW2Ideal (m : (ℓ : Loc Cert.KernelAdamW2Ideal.nD Cert.KernelAdamW2Ideal.τ Cert.KernelAdamW2Ideal.sig) → Buf (Elt Ideal) ℓ) : Prop :=
  True

def Pre_ReferenceAdamW2Ideal (m : (ℓ : Loc Cert.ReferenceAdamW2Ideal.nD Cert.ReferenceAdamW2Ideal.τ Cert.ReferenceAdamW2Ideal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUq (m : (ℓ : Loc Cert.KernelAdamUq.nD Cert.KernelAdamUq.τ Cert.KernelAdamUq.sig) → Buf (Elt Bits) ℓ) : Prop :=
  True

def Pre_KernelAdamUqIdeal (m : (ℓ : Loc Cert.KernelAdamUqIdeal.nD Cert.KernelAdamUqIdeal.τ Cert.KernelAdamUqIdeal.sig) → Buf (Elt Ideal) ℓ) : Prop :=
  True

def Pre_ReferenceAdamUqIdeal (m : (ℓ : Loc Cert.ReferenceAdamUqIdeal.nD Cert.ReferenceAdamUqIdeal.τ Cert.ReferenceAdamUqIdeal.sig) → Buf (Elt Ideal) ℓ) : Prop :=
  True

def Pre_KernelAdamUkv (m : (ℓ : Loc Cert.KernelAdamUkv.nD Cert.KernelAdamUkv.τ Cert.KernelAdamUkv.sig) → Buf (Elt Bits) ℓ) : Prop :=
  True

def Pre_KernelAdamUkvIdeal (m : (ℓ : Loc Cert.KernelAdamUkvIdeal.nD Cert.KernelAdamUkvIdeal.τ Cert.KernelAdamUkvIdeal.sig) → Buf (Elt Ideal) ℓ) : Prop :=
  True

def Pre_ReferenceAdamUkvIdeal (m : (ℓ : Loc Cert.ReferenceAdamUkvIdeal.nD Cert.ReferenceAdamUkvIdeal.τ Cert.ReferenceAdamUkvIdeal.sig) → Buf (Elt Ideal) ℓ) : Prop :=
  True

def Pre_KernelAdamBr (m : (ℓ : Loc Cert.KernelAdamBr.nD Cert.KernelAdamBr.τ Cert.KernelAdamBr.sig) → Buf (Elt Bits) ℓ) : Prop :=
  True

def Pre_KernelAdamBrIdeal (m : (ℓ : Loc Cert.KernelAdamBrIdeal.nD Cert.KernelAdamBrIdeal.τ Cert.KernelAdamBrIdeal.sig) → Buf (Elt Ideal) ℓ) : Prop :=
  True

def Pre_ReferenceAdamBrIdeal (m : (ℓ : Loc Cert.ReferenceAdamBrIdeal.nD Cert.ReferenceAdamBrIdeal.τ Cert.ReferenceAdamBrIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelFfnBwd [hKernelFfnBwd : Cert.KernelFfnBwd.Facts] : Prop :=
  ∀ (m : (ℓ : Loc Cert.KernelFfnBwd.nD Cert.KernelFfnBwd.τ Cert.KernelFfnBwd.sig) → Buf (Elt Bits) ℓ) (g : Dev Cert.KernelFfnBwd.nD → PrngReg), Pre_KernelFfnBwd m →
    θ_run (Cert.KernelFfnBwd.defs (F := Bits)) (onTc (τ := Cert.KernelFfnBwd.τ) (Cert.KernelFfnBwd.main (F := Bits))) ⟨m, fun _ => 0, g⟩ (fun r => (∀ c : Dev Cert.KernelFfnBwd.nD,
      r.2.mem ((c.tc : Thread Cert.KernelFfnBwd.nD Cert.KernelFfnBwd.τ).loc Cert.KernelFfnBwd.main_arg0) = m ((c.tc : Thread Cert.KernelFfnBwd.nD Cert.KernelFfnBwd.τ).loc Cert.KernelFfnBwd.main_arg0)
      ∧ r.2.mem ((c.tc : Thread Cert.KernelFfnBwd.nD Cert.KernelFfnBwd.τ).loc Cert.KernelFfnBwd.main_arg1) = m ((c.tc : Thread Cert.KernelFfnBwd.nD Cert.KernelFfnBwd.τ).loc Cert.KernelFfnBwd.main_arg1)
      ∧ r.2.mem ((c.tc : Thread Cert.KernelFfnBwd.nD Cert.KernelFfnBwd.τ).loc Cert.KernelFfnBwd.main_arg2) = m ((c.tc : Thread Cert.KernelFfnBwd.nD Cert.KernelFfnBwd.τ).loc Cert.KernelFfnBwd.main_arg2)
      ∧ r.2.mem ((c.tc : Thread Cert.KernelFfnBwd.nD Cert.KernelFfnBwd.τ).loc Cert.KernelFfnBwd.main_arg3) = m ((c.tc : Thread Cert.KernelFfnBwd.nD Cert.KernelFfnBwd.τ).loc Cert.KernelFfnBwd.main_arg3)
      ∧ r.2.mem ((c.tc : Thread Cert.KernelFfnBwd.nD Cert.KernelFfnBwd.τ).loc Cert.KernelFfnBwd.main_arg4) = m ((c.tc : Thread Cert.KernelFfnBwd.nD Cert.KernelFfnBwd.τ).loc Cert.KernelFfnBwd.main_arg4)
      ∧ r.2.mem ((c.tc : Thread Cert.KernelFfnBwd.nD Cert.KernelFfnBwd.τ).loc Cert.KernelFfnBwd.main_arg5) = m ((c.tc : Thread Cert.KernelFfnBwd.nD Cert.KernelFfnBwd.τ).loc Cert.KernelFfnBwd.main_arg5))
      ∧ r.2.sem = fun _ => 0)

def quiescent_KernelFfnBwdIdeal [hKernelFfnBwdIdeal : Cert.KernelFfnBwdIdeal.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ r.2.sem = fun _ => 0)

def quiescent_KernelFfnBwdIdeal_pre_ffn_finite [hKernelFfnBwdIdeal : Cert.KernelFfnBwdIdeal.Facts] [hPre_ffn_finite : Cert.Pre_ffn_finite.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal_ffn_finite m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ r.2.sem = fun _ => 0)

def quiescent_ReferenceFfnBwdIdeal [hReferenceFfnBwdIdeal : Cert.ReferenceFfnBwdIdeal.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5))
      ∧ r.2.sem = fun _ => 0)

def quiescent_ReferenceFfnBwdIdeal_pre_ffn_finite [hReferenceFfnBwdIdeal : Cert.ReferenceFfnBwdIdeal.Facts] [hPre_ffn_finite : Cert.Pre_ffn_finite.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal_ffn_finite m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5))
      ∧ r.2.sem = fun _ => 0)

def quiescent_KernelFfn1Fwd [hKernelFfn1Fwd : Cert.KernelFfn1Fwd.Facts] : Prop :=
  ∀ (m : (ℓ : Loc Cert.KernelFfn1Fwd.nD Cert.KernelFfn1Fwd.τ Cert.KernelFfn1Fwd.sig) → Buf (Elt Bits) ℓ) (g : Dev Cert.KernelFfn1Fwd.nD → PrngReg), Pre_KernelFfn1Fwd m →
    θ_run (Cert.KernelFfn1Fwd.defs (F := Bits)) (onTc (τ := Cert.KernelFfn1Fwd.τ) (Cert.KernelFfn1Fwd.main (F := Bits))) ⟨m, fun _ => 0, g⟩ (fun r => (∀ c : Dev Cert.KernelFfn1Fwd.nD,
      r.2.mem ((c.tc : Thread Cert.KernelFfn1Fwd.nD Cert.KernelFfn1Fwd.τ).loc Cert.KernelFfn1Fwd.main_arg0) = m ((c.tc : Thread Cert.KernelFfn1Fwd.nD Cert.KernelFfn1Fwd.τ).loc Cert.KernelFfn1Fwd.main_arg0)
      ∧ r.2.mem ((c.tc : Thread Cert.KernelFfn1Fwd.nD Cert.KernelFfn1Fwd.τ).loc Cert.KernelFfn1Fwd.main_arg1) = m ((c.tc : Thread Cert.KernelFfn1Fwd.nD Cert.KernelFfn1Fwd.τ).loc Cert.KernelFfn1Fwd.main_arg1)
      ∧ r.2.mem ((c.tc : Thread Cert.KernelFfn1Fwd.nD Cert.KernelFfn1Fwd.τ).loc Cert.KernelFfn1Fwd.main_arg2) = m ((c.tc : Thread Cert.KernelFfn1Fwd.nD Cert.KernelFfn1Fwd.τ).loc Cert.KernelFfn1Fwd.main_arg2)
      ∧ r.2.mem ((c.tc : Thread Cert.KernelFfn1Fwd.nD Cert.KernelFfn1Fwd.τ).loc Cert.KernelFfn1Fwd.main_arg3) = m ((c.tc : Thread Cert.KernelFfn1Fwd.nD Cert.KernelFfn1Fwd.τ).loc Cert.KernelFfn1Fwd.main_arg3)
      ∧ r.2.mem ((c.tc : Thread Cert.KernelFfn1Fwd.nD Cert.KernelFfn1Fwd.τ).loc Cert.KernelFfn1Fwd.main_arg4) = m ((c.tc : Thread Cert.KernelFfn1Fwd.nD Cert.KernelFfn1Fwd.τ).loc Cert.KernelFfn1Fwd.main_arg4))
      ∧ r.2.sem = fun _ => 0)

def quiescent_KernelFfn1FwdIdeal [hKernelFfn1FwdIdeal : Cert.KernelFfn1FwdIdeal.Facts] : Prop :=
  ∀ (m : (ℓ : Loc Cert.KernelFfn1FwdIdeal.nD Cert.KernelFfn1FwdIdeal.τ Cert.KernelFfn1FwdIdeal.sig) → Buf (Elt Ideal) ℓ) (g : Dev Cert.KernelFfn1FwdIdeal.nD → PrngReg), Pre_KernelFfn1FwdIdeal m →
    θ_run (Cert.KernelFfn1FwdIdeal.defs (F := Ideal)) (onTc (τ := Cert.KernelFfn1FwdIdeal.τ) (Cert.KernelFfn1FwdIdeal.main (F := Ideal))) ⟨m, fun _ => 0, g⟩ (fun r => (∀ c : Dev Cert.KernelFfn1FwdIdeal.nD,
      r.2.mem ((c.tc : Thread Cert.KernelFfn1FwdIdeal.nD Cert.KernelFfn1FwdIdeal.τ).loc Cert.KernelFfn1FwdIdeal.main_arg0) = m ((c.tc : Thread Cert.KernelFfn1FwdIdeal.nD Cert.KernelFfn1FwdIdeal.τ).loc Cert.KernelFfn1FwdIdeal.main_arg0)
      ∧ r.2.mem ((c.tc : Thread Cert.KernelFfn1FwdIdeal.nD Cert.KernelFfn1FwdIdeal.τ).loc Cert.KernelFfn1FwdIdeal.main_arg1) = m ((c.tc : Thread Cert.KernelFfn1FwdIdeal.nD Cert.KernelFfn1FwdIdeal.τ).loc Cert.KernelFfn1FwdIdeal.main_arg1)
      ∧ r.2.mem ((c.tc : Thread Cert.KernelFfn1FwdIdeal.nD Cert.KernelFfn1FwdIdeal.τ).loc Cert.KernelFfn1FwdIdeal.main_arg2) = m ((c.tc : Thread Cert.KernelFfn1FwdIdeal.nD Cert.KernelFfn1FwdIdeal.τ).loc Cert.KernelFfn1FwdIdeal.main_arg2)
      ∧ r.2.mem ((c.tc : Thread Cert.KernelFfn1FwdIdeal.nD Cert.KernelFfn1FwdIdeal.τ).loc Cert.KernelFfn1FwdIdeal.main_arg3) = m ((c.tc : Thread Cert.KernelFfn1FwdIdeal.nD Cert.KernelFfn1FwdIdeal.τ).loc Cert.KernelFfn1FwdIdeal.main_arg3)
      ∧ r.2.mem ((c.tc : Thread Cert.KernelFfn1FwdIdeal.nD Cert.KernelFfn1FwdIdeal.τ).loc Cert.KernelFfn1FwdIdeal.main_arg4) = m ((c.tc : Thread Cert.KernelFfn1FwdIdeal.nD Cert.KernelFfn1FwdIdeal.τ).loc Cert.KernelFfn1FwdIdeal.main_arg4))
      ∧ r.2.sem = fun _ => 0)

def quiescent_ReferenceFfn1FwdIdeal [hReferenceFfn1FwdIdeal : Cert.ReferenceFfn1FwdIdeal.Facts] : Prop :=
  ∀ (m : (ℓ : Loc Cert.ReferenceFfn1FwdIdeal.nD Cert.ReferenceFfn1FwdIdeal.τ Cert.ReferenceFfn1FwdIdeal.sig) → Buf (Elt Ideal) ℓ) (g : Dev Cert.ReferenceFfn1FwdIdeal.nD → PrngReg), Pre_ReferenceFfn1FwdIdeal m →
    θ_run (Cert.ReferenceFfn1FwdIdeal.defs (F := Ideal)) (onTc (τ := Cert.ReferenceFfn1FwdIdeal.τ) (Cert.ReferenceFfn1FwdIdeal.main (F := Ideal))) ⟨m, fun _ => 0, g⟩ (fun r => (∀ c : Dev Cert.ReferenceFfn1FwdIdeal.nD,
      r.2.mem ((c.tc : Thread Cert.ReferenceFfn1FwdIdeal.nD Cert.ReferenceFfn1FwdIdeal.τ).loc Cert.ReferenceFfn1FwdIdeal.main_arg0) = m ((c.tc : Thread Cert.ReferenceFfn1FwdIdeal.nD Cert.ReferenceFfn1FwdIdeal.τ).loc Cert.ReferenceFfn1FwdIdeal.main_arg0)
      ∧ r.2.mem ((c.tc : Thread Cert.ReferenceFfn1FwdIdeal.nD Cert.ReferenceFfn1FwdIdeal.τ).loc Cert.ReferenceFfn1FwdIdeal.main_arg1) = m ((c.tc : Thread Cert.ReferenceFfn1FwdIdeal.nD Cert.ReferenceFfn1FwdIdeal.τ).loc Cert.ReferenceFfn1FwdIdeal.main_arg1)
      ∧ r.2.mem ((c.tc : Thread Cert.ReferenceFfn1FwdIdeal.nD Cert.ReferenceFfn1FwdIdeal.τ).loc Cert.ReferenceFfn1FwdIdeal.main_arg2) = m ((c.tc : Thread Cert.ReferenceFfn1FwdIdeal.nD Cert.ReferenceFfn1FwdIdeal.τ).loc Cert.ReferenceFfn1FwdIdeal.main_arg2)
      ∧ r.2.mem ((c.tc : Thread Cert.ReferenceFfn1FwdIdeal.nD Cert.ReferenceFfn1FwdIdeal.τ).loc Cert.ReferenceFfn1FwdIdeal.main_arg3) = m ((c.tc : Thread Cert.ReferenceFfn1FwdIdeal.nD Cert.ReferenceFfn1FwdIdeal.τ).loc Cert.ReferenceFfn1FwdIdeal.main_arg3)
      ∧ r.2.mem ((c.tc : Thread Cert.ReferenceFfn1FwdIdeal.nD Cert.ReferenceFfn1FwdIdeal.τ).loc Cert.ReferenceFfn1FwdIdeal.main_arg4) = m ((c.tc : Thread Cert.ReferenceFfn1FwdIdeal.nD Cert.ReferenceFfn1FwdIdeal.τ).loc Cert.ReferenceFfn1FwdIdeal.main_arg4))
      ∧ r.2.sem = fun _ => 0)

def quiescent_KernelFfn2Fwd [hKernelFfn2Fwd : Cert.KernelFfn2Fwd.Facts] : Prop :=
  ∀ (m : (ℓ : Loc Cert.KernelFfn2Fwd.nD Cert.KernelFfn2Fwd.τ Cert.KernelFfn2Fwd.sig) → Buf (Elt Bits) ℓ) (g : Dev Cert.KernelFfn2Fwd.nD → PrngReg), Pre_KernelFfn2Fwd m →
    θ_run (Cert.KernelFfn2Fwd.defs (F := Bits)) (onTc (τ := Cert.KernelFfn2Fwd.τ) (Cert.KernelFfn2Fwd.main (F := Bits))) ⟨m, fun _ => 0, g⟩ (fun r => (∀ c : Dev Cert.KernelFfn2Fwd.nD,
      r.2.mem ((c.tc : Thread Cert.KernelFfn2Fwd.nD Cert.KernelFfn2Fwd.τ).loc Cert.KernelFfn2Fwd.main_arg0) = m ((c.tc : Thread Cert.KernelFfn2Fwd.nD Cert.KernelFfn2Fwd.τ).loc Cert.KernelFfn2Fwd.main_arg0)
      ∧ r.2.mem ((c.tc : Thread Cert.KernelFfn2Fwd.nD Cert.KernelFfn2Fwd.τ).loc Cert.KernelFfn2Fwd.main_arg1) = m ((c.tc : Thread Cert.KernelFfn2Fwd.nD Cert.KernelFfn2Fwd.τ).loc Cert.KernelFfn2Fwd.main_arg1)
      ∧ r.2.mem ((c.tc : Thread Cert.KernelFfn2Fwd.nD Cert.KernelFfn2Fwd.τ).loc Cert.KernelFfn2Fwd.main_arg2) = m ((c.tc : Thread Cert.KernelFfn2Fwd.nD Cert.KernelFfn2Fwd.τ).loc Cert.KernelFfn2Fwd.main_arg2)
      ∧ r.2.mem ((c.tc : Thread Cert.KernelFfn2Fwd.nD Cert.KernelFfn2Fwd.τ).loc Cert.KernelFfn2Fwd.main_arg3) = m ((c.tc : Thread Cert.KernelFfn2Fwd.nD Cert.KernelFfn2Fwd.τ).loc Cert.KernelFfn2Fwd.main_arg3)
      ∧ r.2.mem ((c.tc : Thread Cert.KernelFfn2Fwd.nD Cert.KernelFfn2Fwd.τ).loc Cert.KernelFfn2Fwd.main_arg4) = m ((c.tc : Thread Cert.KernelFfn2Fwd.nD Cert.KernelFfn2Fwd.τ).loc Cert.KernelFfn2Fwd.main_arg4)
      ∧ r.2.mem ((c.tc : Thread Cert.KernelFfn2Fwd.nD Cert.KernelFfn2Fwd.τ).loc Cert.KernelFfn2Fwd.main_arg5) = m ((c.tc : Thread Cert.KernelFfn2Fwd.nD Cert.KernelFfn2Fwd.τ).loc Cert.KernelFfn2Fwd.main_arg5))
      ∧ r.2.sem = fun _ => 0)

def quiescent_KernelFfn2FwdIdeal [hKernelFfn2FwdIdeal : Cert.KernelFfn2FwdIdeal.Facts] : Prop :=
  ∀ (m : (ℓ : Loc Cert.KernelFfn2FwdIdeal.nD Cert.KernelFfn2FwdIdeal.τ Cert.KernelFfn2FwdIdeal.sig) → Buf (Elt Ideal) ℓ) (g : Dev Cert.KernelFfn2FwdIdeal.nD → PrngReg), Pre_KernelFfn2FwdIdeal m →
    θ_run (Cert.KernelFfn2FwdIdeal.defs (F := Ideal)) (onTc (τ := Cert.KernelFfn2FwdIdeal.τ) (Cert.KernelFfn2FwdIdeal.main (F := Ideal))) ⟨m, fun _ => 0, g⟩ (fun r => (∀ c : Dev Cert.KernelFfn2FwdIdeal.nD,
      r.2.mem ((c.tc : Thread Cert.KernelFfn2FwdIdeal.nD Cert.KernelFfn2FwdIdeal.τ).loc Cert.KernelFfn2FwdIdeal.main_arg0) = m ((c.tc : Thread Cert.KernelFfn2FwdIdeal.nD Cert.KernelFfn2FwdIdeal.τ).loc Cert.KernelFfn2FwdIdeal.main_arg0)
      ∧ r.2.mem ((c.tc : Thread Cert.KernelFfn2FwdIdeal.nD Cert.KernelFfn2FwdIdeal.τ).loc Cert.KernelFfn2FwdIdeal.main_arg1) = m ((c.tc : Thread Cert.KernelFfn2FwdIdeal.nD Cert.KernelFfn2FwdIdeal.τ).loc Cert.KernelFfn2FwdIdeal.main_arg1)
      ∧ r.2.mem ((c.tc : Thread Cert.KernelFfn2FwdIdeal.nD Cert.KernelFfn2FwdIdeal.τ).loc Cert.KernelFfn2FwdIdeal.main_arg2) = m ((c.tc : Thread Cert.KernelFfn2FwdIdeal.nD Cert.KernelFfn2FwdIdeal.τ).loc Cert.KernelFfn2FwdIdeal.main_arg2)
      ∧ r.2.mem ((c.tc : Thread Cert.KernelFfn2FwdIdeal.nD Cert.KernelFfn2FwdIdeal.τ).loc Cert.KernelFfn2FwdIdeal.main_arg3) = m ((c.tc : Thread Cert.KernelFfn2FwdIdeal.nD Cert.KernelFfn2FwdIdeal.τ).loc Cert.KernelFfn2FwdIdeal.main_arg3)
      ∧ r.2.mem ((c.tc : Thread Cert.KernelFfn2FwdIdeal.nD Cert.KernelFfn2FwdIdeal.τ).loc Cert.KernelFfn2FwdIdeal.main_arg4) = m ((c.tc : Thread Cert.KernelFfn2FwdIdeal.nD Cert.KernelFfn2FwdIdeal.τ).loc Cert.KernelFfn2FwdIdeal.main_arg4)
      ∧ r.2.mem ((c.tc : Thread Cert.KernelFfn2FwdIdeal.nD Cert.KernelFfn2FwdIdeal.τ).loc Cert.KernelFfn2FwdIdeal.main_arg5) = m ((c.tc : Thread Cert.KernelFfn2FwdIdeal.nD Cert.KernelFfn2FwdIdeal.τ).loc Cert.KernelFfn2FwdIdeal.main_arg5))
      ∧ r.2.sem = fun _ => 0)

def quiescent_ReferenceFfn2FwdIdeal [hReferenceFfn2FwdIdeal : Cert.ReferenceFfn2FwdIdeal.Facts] : Prop :=
  ∀ (m : (ℓ : Loc Cert.ReferenceFfn2FwdIdeal.nD Cert.ReferenceFfn2FwdIdeal.τ Cert.ReferenceFfn2FwdIdeal.sig) → Buf (Elt Ideal) ℓ) (g : Dev Cert.ReferenceFfn2FwdIdeal.nD → PrngReg), Pre_ReferenceFfn2FwdIdeal m →
    θ_run (Cert.ReferenceFfn2FwdIdeal.defs (F := Ideal)) (onTc (τ := Cert.ReferenceFfn2FwdIdeal.τ) (Cert.ReferenceFfn2FwdIdeal.main (F := Ideal))) ⟨m, fun _ => 0, g⟩ (fun r => (∀ c : Dev Cert.ReferenceFfn2FwdIdeal.nD,
      r.2.mem ((c.tc : Thread Cert.ReferenceFfn2FwdIdeal.nD Cert.ReferenceFfn2FwdIdeal.τ).loc Cert.ReferenceFfn2FwdIdeal.main_arg0) = m ((c.tc : Thread Cert.ReferenceFfn2FwdIdeal.nD Cert.ReferenceFfn2FwdIdeal.τ).loc Cert.ReferenceFfn2FwdIdeal.main_arg0)
      ∧ r.2.mem ((c.tc : Thread Cert.ReferenceFfn2FwdIdeal.nD Cert.ReferenceFfn2FwdIdeal.τ).loc Cert.ReferenceFfn2FwdIdeal.main_arg1) = m ((c.tc : Thread Cert.ReferenceFfn2FwdIdeal.nD Cert.ReferenceFfn2FwdIdeal.τ).loc Cert.ReferenceFfn2FwdIdeal.main_arg1)
      ∧ r.2.mem ((c.tc : Thread Cert.ReferenceFfn2FwdIdeal.nD Cert.ReferenceFfn2FwdIdeal.τ).loc Cert.ReferenceFfn2FwdIdeal.main_arg2) = m ((c.tc : Thread Cert.ReferenceFfn2FwdIdeal.nD Cert.ReferenceFfn2FwdIdeal.τ).loc Cert.ReferenceFfn2FwdIdeal.main_arg2)
      ∧ r.2.mem ((c.tc : Thread Cert.ReferenceFfn2FwdIdeal.nD Cert.ReferenceFfn2FwdIdeal.τ).loc Cert.ReferenceFfn2FwdIdeal.main_arg3) = m ((c.tc : Thread Cert.ReferenceFfn2FwdIdeal.nD Cert.ReferenceFfn2FwdIdeal.τ).loc Cert.ReferenceFfn2FwdIdeal.main_arg3)
      ∧ r.2.mem ((c.tc : Thread Cert.ReferenceFfn2FwdIdeal.nD Cert.ReferenceFfn2FwdIdeal.τ).loc Cert.ReferenceFfn2FwdIdeal.main_arg4) = m ((c.tc : Thread Cert.ReferenceFfn2FwdIdeal.nD Cert.ReferenceFfn2FwdIdeal.τ).loc Cert.ReferenceFfn2FwdIdeal.main_arg4)
      ∧ r.2.mem ((c.tc : Thread Cert.ReferenceFfn2FwdIdeal.nD Cert.ReferenceFfn2FwdIdeal.τ).loc Cert.ReferenceFfn2FwdIdeal.main_arg5) = m ((c.tc : Thread Cert.ReferenceFfn2FwdIdeal.nD Cert.ReferenceFfn2FwdIdeal.τ).loc Cert.ReferenceFfn2FwdIdeal.main_arg5))
      ∧ r.2.sem = fun _ => 0)

def quiescent_KernelProjBwd [hKernelProjBwd : Cert.KernelProjBwd.Facts] : Prop :=
  ∀ (m : (ℓ : Loc Cert.KernelProjBwd.nD Cert.KernelProjBwd.τ Cert.KernelProjBwd.sig) → Buf (Elt Bits) ℓ) (g : Dev Cert.KernelProjBwd.nD → PrngReg), Pre_KernelProjBwd m →
    θ_run (Cert.KernelProjBwd.defs (F := Bits)) (onTc (τ := Cert.KernelProjBwd.τ) (Cert.KernelProjBwd.main (F := Bits))) ⟨m, fun _ => 0, g⟩ (fun r => (∀ c : Dev Cert.KernelProjBwd.nD,
      r.2.mem ((c.tc : Thread Cert.KernelProjBwd.nD Cert.KernelProjBwd.τ).loc Cert.KernelProjBwd.main_arg0) = m ((c.tc : Thread Cert.KernelProjBwd.nD Cert.KernelProjBwd.τ).loc Cert.KernelProjBwd.main_arg0)
      ∧ r.2.mem ((c.tc : Thread Cert.KernelProjBwd.nD Cert.KernelProjBwd.τ).loc Cert.KernelProjBwd.main_arg1) = m ((c.tc : Thread Cert.KernelProjBwd.nD Cert.KernelProjBwd.τ).loc Cert.KernelProjBwd.main_arg1)
      ∧ r.2.mem ((c.tc : Thread Cert.KernelProjBwd.nD Cert.KernelProjBwd.τ).loc Cert.KernelProjBwd.main_arg2) = m ((c.tc : Thread Cert.KernelProjBwd.nD Cert.KernelProjBwd.τ).loc Cert.KernelProjBwd.main_arg2)
      ∧ r.2.mem ((c.tc : Thread Cert.KernelProjBwd.nD Cert.KernelProjBwd.τ).loc Cert.KernelProjBwd.main_arg3) = m ((c.tc : Thread Cert.KernelProjBwd.nD Cert.KernelProjBwd.τ).loc Cert.KernelProjBwd.main_arg3)
      ∧ r.2.mem ((c.tc : Thread Cert.KernelProjBwd.nD Cert.KernelProjBwd.τ).loc Cert.KernelProjBwd.main_arg4) = m ((c.tc : Thread Cert.KernelProjBwd.nD Cert.KernelProjBwd.τ).loc Cert.KernelProjBwd.main_arg4))
      ∧ r.2.sem = fun _ => 0)

def quiescent_KernelProjBwdIdeal [hKernelProjBwdIdeal : Cert.KernelProjBwdIdeal.Facts] : Prop :=
  ∀ (m : (ℓ : Loc Cert.KernelProjBwdIdeal.nD Cert.KernelProjBwdIdeal.τ Cert.KernelProjBwdIdeal.sig) → Buf (Elt Ideal) ℓ) (g : Dev Cert.KernelProjBwdIdeal.nD → PrngReg), Pre_KernelProjBwdIdeal m →
    θ_run (Cert.KernelProjBwdIdeal.defs (F := Ideal)) (onTc (τ := Cert.KernelProjBwdIdeal.τ) (Cert.KernelProjBwdIdeal.main (F := Ideal))) ⟨m, fun _ => 0, g⟩ (fun r => (∀ c : Dev Cert.KernelProjBwdIdeal.nD,
      r.2.mem ((c.tc : Thread Cert.KernelProjBwdIdeal.nD Cert.KernelProjBwdIdeal.τ).loc Cert.KernelProjBwdIdeal.main_arg0) = m ((c.tc : Thread Cert.KernelProjBwdIdeal.nD Cert.KernelProjBwdIdeal.τ).loc Cert.KernelProjBwdIdeal.main_arg0)
      ∧ r.2.mem ((c.tc : Thread Cert.KernelProjBwdIdeal.nD Cert.KernelProjBwdIdeal.τ).loc Cert.KernelProjBwdIdeal.main_arg1) = m ((c.tc : Thread Cert.KernelProjBwdIdeal.nD Cert.KernelProjBwdIdeal.τ).loc Cert.KernelProjBwdIdeal.main_arg1)
      ∧ r.2.mem ((c.tc : Thread Cert.KernelProjBwdIdeal.nD Cert.KernelProjBwdIdeal.τ).loc Cert.KernelProjBwdIdeal.main_arg2) = m ((c.tc : Thread Cert.KernelProjBwdIdeal.nD Cert.KernelProjBwdIdeal.τ).loc Cert.KernelProjBwdIdeal.main_arg2)
      ∧ r.2.mem ((c.tc : Thread Cert.KernelProjBwdIdeal.nD Cert.KernelProjBwdIdeal.τ).loc Cert.KernelProjBwdIdeal.main_arg3) = m ((c.tc : Thread Cert.KernelProjBwdIdeal.nD Cert.KernelProjBwdIdeal.τ).loc Cert.KernelProjBwdIdeal.main_arg3)
      ∧ r.2.mem ((c.tc : Thread Cert.KernelProjBwdIdeal.nD Cert.KernelProjBwdIdeal.τ).loc Cert.KernelProjBwdIdeal.main_arg4) = m ((c.tc : Thread Cert.KernelProjBwdIdeal.nD Cert.KernelProjBwdIdeal.τ).loc Cert.KernelProjBwdIdeal.main_arg4))
      ∧ r.2.sem = fun _ => 0)

def quiescent_KernelProjBwdIdeal_pre_proj_finite [hKernelProjBwdIdeal : Cert.KernelProjBwdIdeal.Facts] [hPre_proj_finite : Cert.Pre_proj_finite.Facts] : Prop :=
  ∀ (m : (ℓ : Loc Cert.KernelProjBwdIdeal.nD Cert.KernelProjBwdIdeal.τ Cert.KernelProjBwdIdeal.sig) → Buf (Elt Ideal) ℓ) (g : Dev Cert.KernelProjBwdIdeal.nD → PrngReg), Pre_KernelProjBwdIdeal_proj_finite m →
    θ_run (Cert.KernelProjBwdIdeal.defs (F := Ideal)) (onTc (τ := Cert.KernelProjBwdIdeal.τ) (Cert.KernelProjBwdIdeal.main (F := Ideal))) ⟨m, fun _ => 0, g⟩ (fun r => (∀ c : Dev Cert.KernelProjBwdIdeal.nD,
      r.2.mem ((c.tc : Thread Cert.KernelProjBwdIdeal.nD Cert.KernelProjBwdIdeal.τ).loc Cert.KernelProjBwdIdeal.main_arg0) = m ((c.tc : Thread Cert.KernelProjBwdIdeal.nD Cert.KernelProjBwdIdeal.τ).loc Cert.KernelProjBwdIdeal.main_arg0)
      ∧ r.2.mem ((c.tc : Thread Cert.KernelProjBwdIdeal.nD Cert.KernelProjBwdIdeal.τ).loc Cert.KernelProjBwdIdeal.main_arg1) = m ((c.tc : Thread Cert.KernelProjBwdIdeal.nD Cert.KernelProjBwdIdeal.τ).loc Cert.KernelProjBwdIdeal.main_arg1)
      ∧ r.2.mem ((c.tc : Thread Cert.KernelProjBwdIdeal.nD Cert.KernelProjBwdIdeal.τ).loc Cert.KernelProjBwdIdeal.main_arg2) = m ((c.tc : Thread Cert.KernelProjBwdIdeal.nD Cert.KernelProjBwdIdeal.τ).loc Cert.KernelProjBwdIdeal.main_arg2)
      ∧ r.2.mem ((c.tc : Thread Cert.KernelProjBwdIdeal.nD Cert.KernelProjBwdIdeal.τ).loc Cert.KernelProjBwdIdeal.main_arg3) = m ((c.tc : Thread Cert.KernelProjBwdIdeal.nD Cert.KernelProjBwdIdeal.τ).loc Cert.KernelProjBwdIdeal.main_arg3)
      ∧ r.2.mem ((c.tc : Thread Cert.KernelProjBwdIdeal.nD Cert.KernelProjBwdIdeal.τ).loc Cert.KernelProjBwdIdeal.main_arg4) = m ((c.tc : Thread Cert.KernelProjBwdIdeal.nD Cert.KernelProjBwdIdeal.τ).loc Cert.KernelProjBwdIdeal.main_arg4))
      ∧ r.2.sem = fun _ => 0)

def quiescent_ReferenceProjBwdIdeal [hReferenceProjBwdIdeal : Cert.ReferenceProjBwdIdeal.Facts] : Prop :=
  ∀ (m : (ℓ : Loc Cert.ReferenceProjBwdIdeal.nD Cert.ReferenceProjBwdIdeal.τ Cert.ReferenceProjBwdIdeal.sig) → Buf (Elt Ideal) ℓ) (g : Dev Cert.ReferenceProjBwdIdeal.nD → PrngReg), Pre_ReferenceProjBwdIdeal m →
    θ_run (Cert.ReferenceProjBwdIdeal.defs (F := Ideal)) (onTc (τ := Cert.ReferenceProjBwdIdeal.τ) (Cert.ReferenceProjBwdIdeal.main (F := Ideal))) ⟨m, fun _ => 0, g⟩ (fun r => (∀ c : Dev Cert.ReferenceProjBwdIdeal.nD,
      r.2.mem ((c.tc : Thread Cert.ReferenceProjBwdIdeal.nD Cert.ReferenceProjBwdIdeal.τ).loc Cert.ReferenceProjBwdIdeal.main_arg0) = m ((c.tc : Thread Cert.ReferenceProjBwdIdeal.nD Cert.ReferenceProjBwdIdeal.τ).loc Cert.ReferenceProjBwdIdeal.main_arg0)
      ∧ r.2.mem ((c.tc : Thread Cert.ReferenceProjBwdIdeal.nD Cert.ReferenceProjBwdIdeal.τ).loc Cert.ReferenceProjBwdIdeal.main_arg1) = m ((c.tc : Thread Cert.ReferenceProjBwdIdeal.nD Cert.ReferenceProjBwdIdeal.τ).loc Cert.ReferenceProjBwdIdeal.main_arg1)
      ∧ r.2.mem ((c.tc : Thread Cert.ReferenceProjBwdIdeal.nD Cert.ReferenceProjBwdIdeal.τ).loc Cert.ReferenceProjBwdIdeal.main_arg2) = m ((c.tc : Thread Cert.ReferenceProjBwdIdeal.nD Cert.ReferenceProjBwdIdeal.τ).loc Cert.ReferenceProjBwdIdeal.main_arg2)
      ∧ r.2.mem ((c.tc : Thread Cert.ReferenceProjBwdIdeal.nD Cert.ReferenceProjBwdIdeal.τ).loc Cert.ReferenceProjBwdIdeal.main_arg3) = m ((c.tc : Thread Cert.ReferenceProjBwdIdeal.nD Cert.ReferenceProjBwdIdeal.τ).loc Cert.ReferenceProjBwdIdeal.main_arg3)
      ∧ r.2.mem ((c.tc : Thread Cert.ReferenceProjBwdIdeal.nD Cert.ReferenceProjBwdIdeal.τ).loc Cert.ReferenceProjBwdIdeal.main_arg4) = m ((c.tc : Thread Cert.ReferenceProjBwdIdeal.nD Cert.ReferenceProjBwdIdeal.τ).loc Cert.ReferenceProjBwdIdeal.main_arg4))
      ∧ r.2.sem = fun _ => 0)

def quiescent_ReferenceProjBwdIdeal_pre_proj_finite [hReferenceProjBwdIdeal : Cert.ReferenceProjBwdIdeal.Facts] [hPre_proj_finite : Cert.Pre_proj_finite.Facts] : Prop :=
  ∀ (m : (ℓ : Loc Cert.ReferenceProjBwdIdeal.nD Cert.ReferenceProjBwdIdeal.τ Cert.ReferenceProjBwdIdeal.sig) → Buf (Elt Ideal) ℓ) (g : Dev Cert.ReferenceProjBwdIdeal.nD → PrngReg), Pre_ReferenceProjBwdIdeal_proj_finite m →
    θ_run (Cert.ReferenceProjBwdIdeal.defs (F := Ideal)) (onTc (τ := Cert.ReferenceProjBwdIdeal.τ) (Cert.ReferenceProjBwdIdeal.main (F := Ideal))) ⟨m, fun _ => 0, g⟩ (fun r => (∀ c : Dev Cert.ReferenceProjBwdIdeal.nD,
      r.2.mem ((c.tc : Thread Cert.ReferenceProjBwdIdeal.nD Cert.ReferenceProjBwdIdeal.τ).loc Cert.ReferenceProjBwdIdeal.main_arg0) = m ((c.tc : Thread Cert.ReferenceProjBwdIdeal.nD Cert.ReferenceProjBwdIdeal.τ).loc Cert.ReferenceProjBwdIdeal.main_arg0)
      ∧ r.2.mem ((c.tc : Thread Cert.ReferenceProjBwdIdeal.nD Cert.ReferenceProjBwdIdeal.τ).loc Cert.ReferenceProjBwdIdeal.main_arg1) = m ((c.tc : Thread Cert.ReferenceProjBwdIdeal.nD Cert.ReferenceProjBwdIdeal.τ).loc Cert.ReferenceProjBwdIdeal.main_arg1)
      ∧ r.2.mem ((c.tc : Thread Cert.ReferenceProjBwdIdeal.nD Cert.ReferenceProjBwdIdeal.τ).loc Cert.ReferenceProjBwdIdeal.main_arg2) = m ((c.tc : Thread Cert.ReferenceProjBwdIdeal.nD Cert.ReferenceProjBwdIdeal.τ).loc Cert.ReferenceProjBwdIdeal.main_arg2)
      ∧ r.2.mem ((c.tc : Thread Cert.ReferenceProjBwdIdeal.nD Cert.ReferenceProjBwdIdeal.τ).loc Cert.ReferenceProjBwdIdeal.main_arg3) = m ((c.tc : Thread Cert.ReferenceProjBwdIdeal.nD Cert.ReferenceProjBwdIdeal.τ).loc Cert.ReferenceProjBwdIdeal.main_arg3)
      ∧ r.2.mem ((c.tc : Thread Cert.ReferenceProjBwdIdeal.nD Cert.ReferenceProjBwdIdeal.τ).loc Cert.ReferenceProjBwdIdeal.main_arg4) = m ((c.tc : Thread Cert.ReferenceProjBwdIdeal.nD Cert.ReferenceProjBwdIdeal.τ).loc Cert.ReferenceProjBwdIdeal.main_arg4))
      ∧ r.2.sem = fun _ => 0)

def quiescent_KernelAdamW1 [hKernelAdamW1 : Cert.KernelAdamW1.Facts] : Prop :=
  ∀ (m : (ℓ : Loc Cert.KernelAdamW1.nD Cert.KernelAdamW1.τ Cert.KernelAdamW1.sig) → Buf (Elt Bits) ℓ) (g : Dev Cert.KernelAdamW1.nD → PrngReg), Pre_KernelAdamW1 m →
    θ_run (Cert.KernelAdamW1.defs (F := Bits)) (onTc (τ := Cert.KernelAdamW1.τ) (Cert.KernelAdamW1.main (F := Bits))) ⟨m, fun _ => 0, g⟩ (fun r => (∀ c : Dev Cert.KernelAdamW1.nD,
      r.2.mem ((c.tc : Thread Cert.KernelAdamW1.nD Cert.KernelAdamW1.τ).loc Cert.KernelAdamW1.main_arg0) = m ((c.tc : Thread Cert.KernelAdamW1.nD Cert.KernelAdamW1.τ).loc Cert.KernelAdamW1.main_arg0)
      ∧ r.2.mem ((c.tc : Thread Cert.KernelAdamW1.nD Cert.KernelAdamW1.τ).loc Cert.KernelAdamW1.main_arg1) = m ((c.tc : Thread Cert.KernelAdamW1.nD Cert.KernelAdamW1.τ).loc Cert.KernelAdamW1.main_arg1)
      ∧ r.2.mem ((c.tc : Thread Cert.KernelAdamW1.nD Cert.KernelAdamW1.τ).loc Cert.KernelAdamW1.main_arg2) = m ((c.tc : Thread Cert.KernelAdamW1.nD Cert.KernelAdamW1.τ).loc Cert.KernelAdamW1.main_arg2)
      ∧ r.2.mem ((c.tc : Thread Cert.KernelAdamW1.nD Cert.KernelAdamW1.τ).loc Cert.KernelAdamW1.main_arg3) = m ((c.tc : Thread Cert.KernelAdamW1.nD Cert.KernelAdamW1.τ).loc Cert.KernelAdamW1.main_arg3))
      ∧ r.2.sem = fun _ => 0)

def quiescent_KernelAdamW1Ideal [hKernelAdamW1Ideal : Cert.KernelAdamW1Ideal.Facts] : Prop :=
  ∀ (m : (ℓ : Loc Cert.KernelAdamW1Ideal.nD Cert.KernelAdamW1Ideal.τ Cert.KernelAdamW1Ideal.sig) → Buf (Elt Ideal) ℓ) (g : Dev Cert.KernelAdamW1Ideal.nD → PrngReg), Pre_KernelAdamW1Ideal m →
    θ_run (Cert.KernelAdamW1Ideal.defs (F := Ideal)) (onTc (τ := Cert.KernelAdamW1Ideal.τ) (Cert.KernelAdamW1Ideal.main (F := Ideal))) ⟨m, fun _ => 0, g⟩ (fun r => (∀ c : Dev Cert.KernelAdamW1Ideal.nD,
      r.2.mem ((c.tc : Thread Cert.KernelAdamW1Ideal.nD Cert.KernelAdamW1Ideal.τ).loc Cert.KernelAdamW1Ideal.main_arg0) = m ((c.tc : Thread Cert.KernelAdamW1Ideal.nD Cert.KernelAdamW1Ideal.τ).loc Cert.KernelAdamW1Ideal.main_arg0)
      ∧ r.2.mem ((c.tc : Thread Cert.KernelAdamW1Ideal.nD Cert.KernelAdamW1Ideal.τ).loc Cert.KernelAdamW1Ideal.main_arg1) = m ((c.tc : Thread Cert.KernelAdamW1Ideal.nD Cert.KernelAdamW1Ideal.τ).loc Cert.KernelAdamW1Ideal.main_arg1)
      ∧ r.2.mem ((c.tc : Thread Cert.KernelAdamW1Ideal.nD Cert.KernelAdamW1Ideal.τ).loc Cert.KernelAdamW1Ideal.main_arg2) = m ((c.tc : Thread Cert.KernelAdamW1Ideal.nD Cert.KernelAdamW1Ideal.τ).loc Cert.KernelAdamW1Ideal.main_arg2)
      ∧ r.2.mem ((c.tc : Thread Cert.KernelAdamW1Ideal.nD Cert.KernelAdamW1Ideal.τ).loc Cert.KernelAdamW1Ideal.main_arg3) = m ((c.tc : Thread Cert.KernelAdamW1Ideal.nD Cert.KernelAdamW1Ideal.τ).loc Cert.KernelAdamW1Ideal.main_arg3))
      ∧ r.2.sem = fun _ => 0)

def quiescent_ReferenceAdamW1Ideal [hReferenceAdamW1Ideal : Cert.ReferenceAdamW1Ideal.Facts] : Prop :=
  ∀ (m : (ℓ : Loc Cert.ReferenceAdamW1Ideal.nD Cert.ReferenceAdamW1Ideal.τ Cert.ReferenceAdamW1Ideal.sig) → Buf (Elt Ideal) ℓ) (g : Dev Cert.ReferenceAdamW1Ideal.nD → PrngReg), Pre_ReferenceAdamW1Ideal m →
    θ_run (Cert.ReferenceAdamW1Ideal.defs (F := Ideal)) (onTc (τ := Cert.ReferenceAdamW1Ideal.τ) (Cert.ReferenceAdamW1Ideal.main (F := Ideal))) ⟨m, fun _ => 0, g⟩ (fun r => (∀ c : Dev Cert.ReferenceAdamW1Ideal.nD,
      r.2.mem ((c.tc : Thread Cert.ReferenceAdamW1Ideal.nD Cert.ReferenceAdamW1Ideal.τ).loc Cert.ReferenceAdamW1Ideal.main_arg0) = m ((c.tc : Thread Cert.ReferenceAdamW1Ideal.nD Cert.ReferenceAdamW1Ideal.τ).loc Cert.ReferenceAdamW1Ideal.main_arg0)
      ∧ r.2.mem ((c.tc : Thread Cert.ReferenceAdamW1Ideal.nD Cert.ReferenceAdamW1Ideal.τ).loc Cert.ReferenceAdamW1Ideal.main_arg1) = m ((c.tc : Thread Cert.ReferenceAdamW1Ideal.nD Cert.ReferenceAdamW1Ideal.τ).loc Cert.ReferenceAdamW1Ideal.main_arg1)
      ∧ r.2.mem ((c.tc : Thread Cert.ReferenceAdamW1Ideal.nD Cert.ReferenceAdamW1Ideal.τ).loc Cert.ReferenceAdamW1Ideal.main_arg2) = m ((c.tc : Thread Cert.ReferenceAdamW1Ideal.nD Cert.ReferenceAdamW1Ideal.τ).loc Cert.ReferenceAdamW1Ideal.main_arg2)
      ∧ r.2.mem ((c.tc : Thread Cert.ReferenceAdamW1Ideal.nD Cert.ReferenceAdamW1Ideal.τ).loc Cert.ReferenceAdamW1Ideal.main_arg3) = m ((c.tc : Thread Cert.ReferenceAdamW1Ideal.nD Cert.ReferenceAdamW1Ideal.τ).loc Cert.ReferenceAdamW1Ideal.main_arg3))
      ∧ r.2.sem = fun _ => 0)

def quiescent_KernelAdamW2 [hKernelAdamW2 : Cert.KernelAdamW2.Facts] : Prop :=
  ∀ (m : (ℓ : Loc Cert.KernelAdamW2.nD Cert.KernelAdamW2.τ Cert.KernelAdamW2.sig) → Buf (Elt Bits) ℓ) (g : Dev Cert.KernelAdamW2.nD → PrngReg), Pre_KernelAdamW2 m →
    θ_run (Cert.KernelAdamW2.defs (F := Bits)) (onTc (τ := Cert.KernelAdamW2.τ) (Cert.KernelAdamW2.main (F := Bits))) ⟨m, fun _ => 0, g⟩ (fun r => (∀ c : Dev Cert.KernelAdamW2.nD,
      r.2.mem ((c.tc : Thread Cert.KernelAdamW2.nD Cert.KernelAdamW2.τ).loc Cert.KernelAdamW2.main_arg0) = m ((c.tc : Thread Cert.KernelAdamW2.nD Cert.KernelAdamW2.τ).loc Cert.KernelAdamW2.main_arg0)
      ∧ r.2.mem ((c.tc : Thread Cert.KernelAdamW2.nD Cert.KernelAdamW2.τ).loc Cert.KernelAdamW2.main_arg1) = m ((c.tc : Thread Cert.KernelAdamW2.nD Cert.KernelAdamW2.τ).loc Cert.KernelAdamW2.main_arg1)
      ∧ r.2.mem ((c.tc : Thread Cert.KernelAdamW2.nD Cert.KernelAdamW2.τ).loc Cert.KernelAdamW2.main_arg2) = m ((c.tc : Thread Cert.KernelAdamW2.nD Cert.KernelAdamW2.τ).loc Cert.KernelAdamW2.main_arg2)
      ∧ r.2.mem ((c.tc : Thread Cert.KernelAdamW2.nD Cert.KernelAdamW2.τ).loc Cert.KernelAdamW2.main_arg3) = m ((c.tc : Thread Cert.KernelAdamW2.nD Cert.KernelAdamW2.τ).loc Cert.KernelAdamW2.main_arg3))
      ∧ r.2.sem = fun _ => 0)

def quiescent_KernelAdamW2Ideal [hKernelAdamW2Ideal : Cert.KernelAdamW2Ideal.Facts] : Prop :=
  ∀ (m : (ℓ : Loc Cert.KernelAdamW2Ideal.nD Cert.KernelAdamW2Ideal.τ Cert.KernelAdamW2Ideal.sig) → Buf (Elt Ideal) ℓ) (g : Dev Cert.KernelAdamW2Ideal.nD → PrngReg), Pre_KernelAdamW2Ideal m →
    θ_run (Cert.KernelAdamW2Ideal.defs (F := Ideal)) (onTc (τ := Cert.KernelAdamW2Ideal.τ) (Cert.KernelAdamW2Ideal.main (F := Ideal))) ⟨m, fun _ => 0, g⟩ (fun r => (∀ c : Dev Cert.KernelAdamW2Ideal.nD,
      r.2.mem ((c.tc : Thread Cert.KernelAdamW2Ideal.nD Cert.KernelAdamW2Ideal.τ).loc Cert.KernelAdamW2Ideal.main_arg0) = m ((c.tc : Thread Cert.KernelAdamW2Ideal.nD Cert.KernelAdamW2Ideal.τ).loc Cert.KernelAdamW2Ideal.main_arg0)
      ∧ r.2.mem ((c.tc : Thread Cert.KernelAdamW2Ideal.nD Cert.KernelAdamW2Ideal.τ).loc Cert.KernelAdamW2Ideal.main_arg1) = m ((c.tc : Thread Cert.KernelAdamW2Ideal.nD Cert.KernelAdamW2Ideal.τ).loc Cert.KernelAdamW2Ideal.main_arg1)
      ∧ r.2.mem ((c.tc : Thread Cert.KernelAdamW2Ideal.nD Cert.KernelAdamW2Ideal.τ).loc Cert.KernelAdamW2Ideal.main_arg2) = m ((c.tc : Thread Cert.KernelAdamW2Ideal.nD Cert.KernelAdamW2Ideal.τ).loc Cert.KernelAdamW2Ideal.main_arg2)
      ∧ r.2.mem ((c.tc : Thread Cert.KernelAdamW2Ideal.nD Cert.KernelAdamW2Ideal.τ).loc Cert.KernelAdamW2Ideal.main_arg3) = m ((c.tc : Thread Cert.KernelAdamW2Ideal.nD Cert.KernelAdamW2Ideal.τ).loc Cert.KernelAdamW2Ideal.main_arg3))
      ∧ r.2.sem = fun _ => 0)

def quiescent_ReferenceAdamW2Ideal [hReferenceAdamW2Ideal : Cert.ReferenceAdamW2Ideal.Facts] : Prop :=
  ∀ (m : (ℓ : Loc Cert.ReferenceAdamW2Ideal.nD Cert.ReferenceAdamW2Ideal.τ Cert.ReferenceAdamW2Ideal.sig) → Buf (Elt Ideal) ℓ) (g : Dev Cert.ReferenceAdamW2Ideal.nD → PrngReg), Pre_ReferenceAdamW2Ideal m →
    θ_run (Cert.ReferenceAdamW2Ideal.defs (F := Ideal)) (onTc (τ := Cert.ReferenceAdamW2Ideal.τ) (Cert.ReferenceAdamW2Ideal.main (F := Ideal))) ⟨m, fun _ => 0, g⟩ (fun r => (∀ c : Dev Cert.ReferenceAdamW2Ideal.nD,
      r.2.mem ((c.tc : Thread Cert.ReferenceAdamW2Ideal.nD Cert.ReferenceAdamW2Ideal.τ).loc Cert.ReferenceAdamW2Ideal.main_arg0) = m ((c.tc : Thread Cert.ReferenceAdamW2Ideal.nD Cert.ReferenceAdamW2Ideal.τ).loc Cert.ReferenceAdamW2Ideal.main_arg0)
      ∧ r.2.mem ((c.tc : Thread Cert.ReferenceAdamW2Ideal.nD Cert.ReferenceAdamW2Ideal.τ).loc Cert.ReferenceAdamW2Ideal.main_arg1) = m ((c.tc : Thread Cert.ReferenceAdamW2Ideal.nD Cert.ReferenceAdamW2Ideal.τ).loc Cert.ReferenceAdamW2Ideal.main_arg1)
      ∧ r.2.mem ((c.tc : Thread Cert.ReferenceAdamW2Ideal.nD Cert.ReferenceAdamW2Ideal.τ).loc Cert.ReferenceAdamW2Ideal.main_arg2) = m ((c.tc : Thread Cert.ReferenceAdamW2Ideal.nD Cert.ReferenceAdamW2Ideal.τ).loc Cert.ReferenceAdamW2Ideal.main_arg2)
      ∧ r.2.mem ((c.tc : Thread Cert.ReferenceAdamW2Ideal.nD Cert.ReferenceAdamW2Ideal.τ).loc Cert.ReferenceAdamW2Ideal.main_arg3) = m ((c.tc : Thread Cert.ReferenceAdamW2Ideal.nD Cert.ReferenceAdamW2Ideal.τ).loc Cert.ReferenceAdamW2Ideal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUq [hKernelAdamUq : Cert.KernelAdamUq.Facts] : Prop :=
  ∀ (m : (ℓ : Loc Cert.KernelAdamUq.nD Cert.KernelAdamUq.τ Cert.KernelAdamUq.sig) → Buf (Elt Bits) ℓ) (g : Dev Cert.KernelAdamUq.nD → PrngReg), Pre_KernelAdamUq m →
    θ_run (Cert.KernelAdamUq.defs (F := Bits)) (onTc (τ := Cert.KernelAdamUq.τ) (Cert.KernelAdamUq.main (F := Bits))) ⟨m, fun _ => 0, g⟩ (fun r => (∀ c : Dev Cert.KernelAdamUq.nD,
      r.2.mem ((c.tc : Thread Cert.KernelAdamUq.nD Cert.KernelAdamUq.τ).loc Cert.KernelAdamUq.main_arg0) = m ((c.tc : Thread Cert.KernelAdamUq.nD Cert.KernelAdamUq.τ).loc Cert.KernelAdamUq.main_arg0)
      ∧ r.2.mem ((c.tc : Thread Cert.KernelAdamUq.nD Cert.KernelAdamUq.τ).loc Cert.KernelAdamUq.main_arg1) = m ((c.tc : Thread Cert.KernelAdamUq.nD Cert.KernelAdamUq.τ).loc Cert.KernelAdamUq.main_arg1)
      ∧ r.2.mem ((c.tc : Thread Cert.KernelAdamUq.nD Cert.KernelAdamUq.τ).loc Cert.KernelAdamUq.main_arg2) = m ((c.tc : Thread Cert.KernelAdamUq.nD Cert.KernelAdamUq.τ).loc Cert.KernelAdamUq.main_arg2)
      ∧ r.2.mem ((c.tc : Thread Cert.KernelAdamUq.nD Cert.KernelAdamUq.τ).loc Cert.KernelAdamUq.main_arg3) = m ((c.tc : Thread Cert.KernelAdamUq.nD Cert.KernelAdamUq.τ).loc Cert.KernelAdamUq.main_arg3))
      ∧ r.2.sem = fun _ => 0)

def quiescent_KernelAdamUqIdeal [hKernelAdamUqIdeal : Cert.KernelAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg), Pre_KernelAdamUqIdeal m →
    θ_run (Cert.KernelAdamUqIdeal.defs (F := Ideal)) (onTc (τ := Cert.KernelAdamUqIdeal.τ) (Cert.KernelAdamUqIdeal.main (F := Ideal))) ⟨m, fun _ => 0, g⟩ (fun r => (∀ c : Dev Cert.KernelAdamUqIdeal.nD,
      r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
      ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
      ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
      ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ r.2.sem = fun _ => 0)

def quiescent_ReferenceAdamUqIdeal [hReferenceAdamUqIdeal : Cert.ReferenceAdamUqIdeal.Facts] : Prop :=
  ∀ (m : (ℓ : Loc Cert.ReferenceAdamUqIdeal.nD Cert.ReferenceAdamUqIdeal.τ Cert.ReferenceAdamUqIdeal.sig) → Buf (Elt Ideal) ℓ) (g : Dev Cert.ReferenceAdamUqIdeal.nD → PrngReg), Pre_ReferenceAdamUqIdeal m →
    θ_run (Cert.ReferenceAdamUqIdeal.defs (F := Ideal)) (onTc (τ := Cert.ReferenceAdamUqIdeal.τ) (Cert.ReferenceAdamUqIdeal.main (F := Ideal))) ⟨m, fun _ => 0, g⟩ (fun r => (∀ c : Dev Cert.ReferenceAdamUqIdeal.nD,
      r.2.mem ((c.tc : Thread Cert.ReferenceAdamUqIdeal.nD Cert.ReferenceAdamUqIdeal.τ).loc Cert.ReferenceAdamUqIdeal.main_arg0) = m ((c.tc : Thread Cert.ReferenceAdamUqIdeal.nD Cert.ReferenceAdamUqIdeal.τ).loc Cert.ReferenceAdamUqIdeal.main_arg0)
      ∧ r.2.mem ((c.tc : Thread Cert.ReferenceAdamUqIdeal.nD Cert.ReferenceAdamUqIdeal.τ).loc Cert.ReferenceAdamUqIdeal.main_arg1) = m ((c.tc : Thread Cert.ReferenceAdamUqIdeal.nD Cert.ReferenceAdamUqIdeal.τ).loc Cert.ReferenceAdamUqIdeal.main_arg1)
      ∧ r.2.mem ((c.tc : Thread Cert.ReferenceAdamUqIdeal.nD Cert.ReferenceAdamUqIdeal.τ).loc Cert.ReferenceAdamUqIdeal.main_arg2) = m ((c.tc : Thread Cert.ReferenceAdamUqIdeal.nD Cert.ReferenceAdamUqIdeal.τ).loc Cert.ReferenceAdamUqIdeal.main_arg2)
      ∧ r.2.mem ((c.tc : Thread Cert.ReferenceAdamUqIdeal.nD Cert.ReferenceAdamUqIdeal.τ).loc Cert.ReferenceAdamUqIdeal.main_arg3) = m ((c.tc : Thread Cert.ReferenceAdamUqIdeal.nD Cert.ReferenceAdamUqIdeal.τ).loc Cert.ReferenceAdamUqIdeal.main_arg3))
      ∧ r.2.sem = fun _ => 0)

def quiescent_KernelAdamUkv [hKernelAdamUkv : Cert.KernelAdamUkv.Facts] : Prop :=
  ∀ (m : (ℓ : Loc Cert.KernelAdamUkv.nD Cert.KernelAdamUkv.τ Cert.KernelAdamUkv.sig) → Buf (Elt Bits) ℓ) (g : Dev Cert.KernelAdamUkv.nD → PrngReg), Pre_KernelAdamUkv m →
    θ_run (Cert.KernelAdamUkv.defs (F := Bits)) (onTc (τ := Cert.KernelAdamUkv.τ) (Cert.KernelAdamUkv.main (F := Bits))) ⟨m, fun _ => 0, g⟩ (fun r => (∀ c : Dev Cert.KernelAdamUkv.nD,
      r.2.mem ((c.tc : Thread Cert.KernelAdamUkv.nD Cert.KernelAdamUkv.τ).loc Cert.KernelAdamUkv.main_arg0) = m ((c.tc : Thread Cert.KernelAdamUkv.nD Cert.KernelAdamUkv.τ).loc Cert.KernelAdamUkv.main_arg0)
      ∧ r.2.mem ((c.tc : Thread Cert.KernelAdamUkv.nD Cert.KernelAdamUkv.τ).loc Cert.KernelAdamUkv.main_arg1) = m ((c.tc : Thread Cert.KernelAdamUkv.nD Cert.KernelAdamUkv.τ).loc Cert.KernelAdamUkv.main_arg1)
      ∧ r.2.mem ((c.tc : Thread Cert.KernelAdamUkv.nD Cert.KernelAdamUkv.τ).loc Cert.KernelAdamUkv.main_arg2) = m ((c.tc : Thread Cert.KernelAdamUkv.nD Cert.KernelAdamUkv.τ).loc Cert.KernelAdamUkv.main_arg2)
      ∧ r.2.mem ((c.tc : Thread Cert.KernelAdamUkv.nD Cert.KernelAdamUkv.τ).loc Cert.KernelAdamUkv.main_arg3) = m ((c.tc : Thread Cert.KernelAdamUkv.nD Cert.KernelAdamUkv.τ).loc Cert.KernelAdamUkv.main_arg3))
      ∧ r.2.sem = fun _ => 0)

def quiescent_KernelAdamUkvIdeal [hKernelAdamUkvIdeal : Cert.KernelAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg), Pre_KernelAdamUkvIdeal m →
    θ_run (Cert.KernelAdamUkvIdeal.defs (F := Ideal)) (onTc (τ := Cert.KernelAdamUkvIdeal.τ) (Cert.KernelAdamUkvIdeal.main (F := Ideal))) ⟨m, fun _ => 0, g⟩ (fun r => (∀ c : Dev Cert.KernelAdamUkvIdeal.nD,
      r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
      ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
      ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
      ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ r.2.sem = fun _ => 0)

def quiescent_ReferenceAdamUkvIdeal [hReferenceAdamUkvIdeal : Cert.ReferenceAdamUkvIdeal.Facts] : Prop :=
  ∀ (m : (ℓ : Loc Cert.ReferenceAdamUkvIdeal.nD Cert.ReferenceAdamUkvIdeal.τ Cert.ReferenceAdamUkvIdeal.sig) → Buf (Elt Ideal) ℓ) (g : Dev Cert.ReferenceAdamUkvIdeal.nD → PrngReg), Pre_ReferenceAdamUkvIdeal m →
    θ_run (Cert.ReferenceAdamUkvIdeal.defs (F := Ideal)) (onTc (τ := Cert.ReferenceAdamUkvIdeal.τ) (Cert.ReferenceAdamUkvIdeal.main (F := Ideal))) ⟨m, fun _ => 0, g⟩ (fun r => (∀ c : Dev Cert.ReferenceAdamUkvIdeal.nD,
      r.2.mem ((c.tc : Thread Cert.ReferenceAdamUkvIdeal.nD Cert.ReferenceAdamUkvIdeal.τ).loc Cert.ReferenceAdamUkvIdeal.main_arg0) = m ((c.tc : Thread Cert.ReferenceAdamUkvIdeal.nD Cert.ReferenceAdamUkvIdeal.τ).loc Cert.ReferenceAdamUkvIdeal.main_arg0)
      ∧ r.2.mem ((c.tc : Thread Cert.ReferenceAdamUkvIdeal.nD Cert.ReferenceAdamUkvIdeal.τ).loc Cert.ReferenceAdamUkvIdeal.main_arg1) = m ((c.tc : Thread Cert.ReferenceAdamUkvIdeal.nD Cert.ReferenceAdamUkvIdeal.τ).loc Cert.ReferenceAdamUkvIdeal.main_arg1)
      ∧ r.2.mem ((c.tc : Thread Cert.ReferenceAdamUkvIdeal.nD Cert.ReferenceAdamUkvIdeal.τ).loc Cert.ReferenceAdamUkvIdeal.main_arg2) = m ((c.tc : Thread Cert.ReferenceAdamUkvIdeal.nD Cert.ReferenceAdamUkvIdeal.τ).loc Cert.ReferenceAdamUkvIdeal.main_arg2)
      ∧ r.2.mem ((c.tc : Thread Cert.ReferenceAdamUkvIdeal.nD Cert.ReferenceAdamUkvIdeal.τ).loc Cert.ReferenceAdamUkvIdeal.main_arg3) = m ((c.tc : Thread Cert.ReferenceAdamUkvIdeal.nD Cert.ReferenceAdamUkvIdeal.τ).loc Cert.ReferenceAdamUkvIdeal.main_arg3))
      ∧ r.2.sem = fun _ => 0)

def quiescent_KernelAdamBr [hKernelAdamBr : Cert.KernelAdamBr.Facts] : Prop :=
  ∀ (m : (ℓ : Loc Cert.KernelAdamBr.nD Cert.KernelAdamBr.τ Cert.KernelAdamBr.sig) → Buf (Elt Bits) ℓ) (g : Dev Cert.KernelAdamBr.nD → PrngReg), Pre_KernelAdamBr m →
    θ_run (Cert.KernelAdamBr.defs (F := Bits)) (onTc (τ := Cert.KernelAdamBr.τ) (Cert.KernelAdamBr.main (F := Bits))) ⟨m, fun _ => 0, g⟩ (fun r => (∀ c : Dev Cert.KernelAdamBr.nD,
      r.2.mem ((c.tc : Thread Cert.KernelAdamBr.nD Cert.KernelAdamBr.τ).loc Cert.KernelAdamBr.main_arg0) = m ((c.tc : Thread Cert.KernelAdamBr.nD Cert.KernelAdamBr.τ).loc Cert.KernelAdamBr.main_arg0)
      ∧ r.2.mem ((c.tc : Thread Cert.KernelAdamBr.nD Cert.KernelAdamBr.τ).loc Cert.KernelAdamBr.main_arg1) = m ((c.tc : Thread Cert.KernelAdamBr.nD Cert.KernelAdamBr.τ).loc Cert.KernelAdamBr.main_arg1)
      ∧ r.2.mem ((c.tc : Thread Cert.KernelAdamBr.nD Cert.KernelAdamBr.τ).loc Cert.KernelAdamBr.main_arg2) = m ((c.tc : Thread Cert.KernelAdamBr.nD Cert.KernelAdamBr.τ).loc Cert.KernelAdamBr.main_arg2)
      ∧ r.2.mem ((c.tc : Thread Cert.KernelAdamBr.nD Cert.KernelAdamBr.τ).loc Cert.KernelAdamBr.main_arg3) = m ((c.tc : Thread Cert.KernelAdamBr.nD Cert.KernelAdamBr.τ).loc Cert.KernelAdamBr.main_arg3))
      ∧ r.2.sem = fun _ => 0)

def quiescent_KernelAdamBrIdeal [hKernelAdamBrIdeal : Cert.KernelAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg), Pre_KernelAdamBrIdeal m →
    θ_run (Cert.KernelAdamBrIdeal.defs (F := Ideal)) (onTc (τ := Cert.KernelAdamBrIdeal.τ) (Cert.KernelAdamBrIdeal.main (F := Ideal))) ⟨m, fun _ => 0, g⟩ (fun r => (∀ c : Dev Cert.KernelAdamBrIdeal.nD,
      r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
      ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
      ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
      ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ r.2.sem = fun _ => 0)

def quiescent_ReferenceAdamBrIdeal [hReferenceAdamBrIdeal : Cert.ReferenceAdamBrIdeal.Facts] : Prop :=
  ∀ (m : (ℓ : Loc Cert.ReferenceAdamBrIdeal.nD Cert.ReferenceAdamBrIdeal.τ Cert.ReferenceAdamBrIdeal.sig) → Buf (Elt Ideal) ℓ) (g : Dev Cert.ReferenceAdamBrIdeal.nD → PrngReg), Pre_ReferenceAdamBrIdeal m →
    θ_run (Cert.ReferenceAdamBrIdeal.defs (F := Ideal)) (onTc (τ := Cert.ReferenceAdamBrIdeal.τ) (Cert.ReferenceAdamBrIdeal.main (F := Ideal))) ⟨m, fun _ => 0, g⟩ (fun r => (∀ c : Dev Cert.ReferenceAdamBrIdeal.nD,
      r.2.mem ((c.tc : Thread Cert.ReferenceAdamBrIdeal.nD Cert.ReferenceAdamBrIdeal.τ).loc Cert.ReferenceAdamBrIdeal.main_arg0) = m ((c.tc : Thread Cert.ReferenceAdamBrIdeal.nD Cert.ReferenceAdamBrIdeal.τ).loc Cert.ReferenceAdamBrIdeal.main_arg0)
      ∧ r.2.mem ((c.tc : Thread Cert.ReferenceAdamBrIdeal.nD Cert.ReferenceAdamBrIdeal.τ).loc Cert.ReferenceAdamBrIdeal.main_arg1) = m ((c.tc : Thread Cert.ReferenceAdamBrIdeal.nD Cert.ReferenceAdamBrIdeal.τ).loc Cert.ReferenceAdamBrIdeal.main_arg1)
      ∧ r.2.mem ((c.tc : Thread Cert.ReferenceAdamBrIdeal.nD Cert.ReferenceAdamBrIdeal.τ).loc Cert.ReferenceAdamBrIdeal.main_arg2) = m ((c.tc : Thread Cert.ReferenceAdamBrIdeal.nD Cert.ReferenceAdamBrIdeal.τ).loc Cert.ReferenceAdamBrIdeal.main_arg2)
      ∧ r.2.mem ((c.tc : Thread Cert.ReferenceAdamBrIdeal.nD Cert.ReferenceAdamBrIdeal.τ).loc Cert.ReferenceAdamBrIdeal.main_arg3) = m ((c.tc : Thread Cert.ReferenceAdamBrIdeal.nD Cert.ReferenceAdamBrIdeal.τ).loc Cert.ReferenceAdamBrIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v7)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v7) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v8) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)) →
    ∃ (v0 : (c : Dev Cert.KernelDw2Ideal.nD) → Buf (Elt Ideal) ((c.tc : Thread Cert.KernelDw2Ideal.nD Cert.KernelDw2Ideal.τ).loc Cert.KernelDw2Ideal.main_v7)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v7) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v7) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v4)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v4) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v6) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelFfnBwd_KernelFfnBwdIdeal : Prop :=
  True

def algebraic_KernelFfnBwdIdeal_ReferenceFfnBwdIdeal_pre_ffn_finite [hKernelFfnBwdIdeal : Cert.KernelFfnBwdIdeal.Facts] [hReferenceFfnBwdIdeal : Cert.ReferenceFfnBwdIdeal.Facts] [hPre_ffn_finite : Cert.Pre_ffn_finite.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg)
    (m' : (ℓ : Loc Cert.ReferenceFfnBwdIdeal.nD Cert.ReferenceFfnBwdIdeal.τ Cert.ReferenceFfnBwdIdeal.sig) → Buf (Elt Ideal) ℓ) (g' : Dev Cert.ReferenceFfnBwdIdeal.nD → PrngReg), Pre_KernelFfnBwdIdeal_ffn_finite m →
    (∀ c : Dev Cert.KernelFfnBwdIdeal.nD,
      m' ((c.tc : Thread Cert.ReferenceFfnBwdIdeal.nD Cert.ReferenceFfnBwdIdeal.τ).loc Cert.ReferenceFfnBwdIdeal.main_arg0) = m ((c.tc : Thread Cert.KernelFfnBwdIdeal.nD Cert.KernelFfnBwdIdeal.τ).loc Cert.KernelFfnBwdIdeal.main_arg0)
      ∧ m' ((c.tc : Thread Cert.ReferenceFfnBwdIdeal.nD Cert.ReferenceFfnBwdIdeal.τ).loc Cert.ReferenceFfnBwdIdeal.main_arg1) = m ((c.tc : Thread Cert.KernelFfnBwdIdeal.nD Cert.KernelFfnBwdIdeal.τ).loc Cert.KernelFfnBwdIdeal.main_arg1)
      ∧ m' ((c.tc : Thread Cert.ReferenceFfnBwdIdeal.nD Cert.ReferenceFfnBwdIdeal.τ).loc Cert.ReferenceFfnBwdIdeal.main_arg2) = m ((c.tc : Thread Cert.KernelFfnBwdIdeal.nD Cert.KernelFfnBwdIdeal.τ).loc Cert.KernelFfnBwdIdeal.main_arg2)
      ∧ m' ((c.tc : Thread Cert.ReferenceFfnBwdIdeal.nD Cert.ReferenceFfnBwdIdeal.τ).loc Cert.ReferenceFfnBwdIdeal.main_arg3) = m ((c.tc : Thread Cert.KernelFfnBwdIdeal.nD Cert.KernelFfnBwdIdeal.τ).loc Cert.KernelFfnBwdIdeal.main_arg3)
      ∧ m' ((c.tc : Thread Cert.ReferenceFfnBwdIdeal.nD Cert.ReferenceFfnBwdIdeal.τ).loc Cert.ReferenceFfnBwdIdeal.main_arg4) = m ((c.tc : Thread Cert.KernelFfnBwdIdeal.nD Cert.KernelFfnBwdIdeal.τ).loc Cert.KernelFfnBwdIdeal.main_arg4)
      ∧ m' ((c.tc : Thread Cert.ReferenceFfnBwdIdeal.nD Cert.ReferenceFfnBwdIdeal.τ).loc Cert.ReferenceFfnBwdIdeal.main_arg5) = m ((c.tc : Thread Cert.KernelFfnBwdIdeal.nD Cert.KernelFfnBwdIdeal.τ).loc Cert.KernelFfnBwdIdeal.main_arg5)) →
    ∃ (v0 : (c : Dev Cert.KernelFfnBwdIdeal.nD) → Buf (Elt Ideal) ((c.tc : Thread Cert.KernelFfnBwdIdeal.nD Cert.KernelFfnBwdIdeal.τ).loc Cert.KernelFfnBwdIdeal.main_v33_0)) (v1 : (c : Dev Cert.KernelFfnBwdIdeal.nD) → Buf (Elt Ideal) ((c.tc : Thread Cert.KernelFfnBwdIdeal.nD Cert.KernelFfnBwdIdeal.τ).loc Cert.KernelFfnBwdIdeal.main_v33_1)) (v2 : (c : Dev Cert.KernelFfnBwdIdeal.nD) → Buf (Elt Ideal) ((c.tc : Thread Cert.KernelFfnBwdIdeal.nD Cert.KernelFfnBwdIdeal.τ).loc Cert.KernelFfnBwdIdeal.main_v33_2)) (v3 : (c : Dev Cert.KernelFfnBwdIdeal.nD) → Buf (Elt Ideal) ((c.tc : Thread Cert.KernelFfnBwdIdeal.nD Cert.KernelFfnBwdIdeal.τ).loc Cert.KernelFfnBwdIdeal.main_v33_3)) (v4 : (c : Dev Cert.KernelFfnBwdIdeal.nD) → Buf (Elt Ideal) ((c.tc : Thread Cert.KernelFfnBwdIdeal.nD Cert.KernelFfnBwdIdeal.τ).loc Cert.KernelFfnBwdIdeal.main_v33_4)) (v5 : (c : Dev Cert.KernelFfnBwdIdeal.nD) → Buf (Elt Ideal) ((c.tc : Thread Cert.KernelFfnBwdIdeal.nD Cert.KernelFfnBwdIdeal.τ).loc Cert.KernelFfnBwdIdeal.main_v33_5)),
      θ_run (Cert.KernelFfnBwdIdeal.defs (F := Ideal)) (onTc (τ := Cert.KernelFfnBwdIdeal.τ) (Cert.KernelFfnBwdIdeal.main (F := Ideal))) ⟨m, fun _ => 0, g⟩ (fun r => ∀ c : Dev Cert.KernelFfnBwdIdeal.nD,
          r.2.mem ((c.tc : Thread Cert.KernelFfnBwdIdeal.nD Cert.KernelFfnBwdIdeal.τ).loc Cert.KernelFfnBwdIdeal.main_v33_0) = v0 c
          ∧ r.2.mem ((c.tc : Thread Cert.KernelFfnBwdIdeal.nD Cert.KernelFfnBwdIdeal.τ).loc Cert.KernelFfnBwdIdeal.main_v33_1) = v1 c
          ∧ r.2.mem ((c.tc : Thread Cert.KernelFfnBwdIdeal.nD Cert.KernelFfnBwdIdeal.τ).loc Cert.KernelFfnBwdIdeal.main_v33_2) = v2 c
          ∧ r.2.mem ((c.tc : Thread Cert.KernelFfnBwdIdeal.nD Cert.KernelFfnBwdIdeal.τ).loc Cert.KernelFfnBwdIdeal.main_v33_3) = v3 c
          ∧ r.2.mem ((c.tc : Thread Cert.KernelFfnBwdIdeal.nD Cert.KernelFfnBwdIdeal.τ).loc Cert.KernelFfnBwdIdeal.main_v33_4) = v4 c
          ∧ r.2.mem ((c.tc : Thread Cert.KernelFfnBwdIdeal.nD Cert.KernelFfnBwdIdeal.τ).loc Cert.KernelFfnBwdIdeal.main_v33_5) = v5 c
          ∧ r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
          ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
          ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
          ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
          ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
          ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5))
      ∧ θ_run (Cert.ReferenceFfnBwdIdeal.defs (F := Ideal)) (onTc (τ := Cert.ReferenceFfnBwdIdeal.τ) (Cert.ReferenceFfnBwdIdeal.main (F := Ideal))) ⟨m', fun _ => 0, g'⟩ (fun r => ∀ c : Dev Cert.ReferenceFfnBwdIdeal.nD,
          r.2.mem ((c.tc : Thread Cert.ReferenceFfnBwdIdeal.nD Cert.ReferenceFfnBwdIdeal.τ).loc Cert.ReferenceFfnBwdIdeal.main_v88) = v0 c
          ∧ r.2.mem ((c.tc : Thread Cert.ReferenceFfnBwdIdeal.nD Cert.ReferenceFfnBwdIdeal.τ).loc Cert.ReferenceFfnBwdIdeal.main_v94) = v1 c
          ∧ r.2.mem ((c.tc : Thread Cert.ReferenceFfnBwdIdeal.nD Cert.ReferenceFfnBwdIdeal.τ).loc Cert.ReferenceFfnBwdIdeal.main_v95) = v2 c
          ∧ r.2.mem ((c.tc : Thread Cert.ReferenceFfnBwdIdeal.nD Cert.ReferenceFfnBwdIdeal.τ).loc Cert.ReferenceFfnBwdIdeal.main_v96) = v3 c
          ∧ r.2.mem ((c.tc : Thread Cert.ReferenceFfnBwdIdeal.nD Cert.ReferenceFfnBwdIdeal.τ).loc Cert.ReferenceFfnBwdIdeal.main_v42) = v4 c
          ∧ r.2.mem ((c.tc : Thread Cert.ReferenceFfnBwdIdeal.nD Cert.ReferenceFfnBwdIdeal.τ).loc Cert.ReferenceFfnBwdIdeal.main_v67) = v5 c
          ∧ r.2.mem ((c.tc : Thread Cert.ReferenceFfnBwdIdeal.nD Cert.ReferenceFfnBwdIdeal.τ).loc Cert.ReferenceFfnBwdIdeal.main_arg0) = m' ((c.tc : Thread Cert.ReferenceFfnBwdIdeal.nD Cert.ReferenceFfnBwdIdeal.τ).loc Cert.ReferenceFfnBwdIdeal.main_arg0)
          ∧ r.2.mem ((c.tc : Thread Cert.ReferenceFfnBwdIdeal.nD Cert.ReferenceFfnBwdIdeal.τ).loc Cert.ReferenceFfnBwdIdeal.main_arg1) = m' ((c.tc : Thread Cert.ReferenceFfnBwdIdeal.nD Cert.ReferenceFfnBwdIdeal.τ).loc Cert.ReferenceFfnBwdIdeal.main_arg1)
          ∧ r.2.mem ((c.tc : Thread Cert.ReferenceFfnBwdIdeal.nD Cert.ReferenceFfnBwdIdeal.τ).loc Cert.ReferenceFfnBwdIdeal.main_arg2) = m' ((c.tc : Thread Cert.ReferenceFfnBwdIdeal.nD Cert.ReferenceFfnBwdIdeal.τ).loc Cert.ReferenceFfnBwdIdeal.main_arg2)
          ∧ r.2.mem ((c.tc : Thread Cert.ReferenceFfnBwdIdeal.nD Cert.ReferenceFfnBwdIdeal.τ).loc Cert.ReferenceFfnBwdIdeal.main_arg3) = m' ((c.tc : Thread Cert.ReferenceFfnBwdIdeal.nD Cert.ReferenceFfnBwdIdeal.τ).loc Cert.ReferenceFfnBwdIdeal.main_arg3)
          ∧ r.2.mem ((c.tc : Thread Cert.ReferenceFfnBwdIdeal.nD Cert.ReferenceFfnBwdIdeal.τ).loc Cert.ReferenceFfnBwdIdeal.main_arg4) = m' ((c.tc : Thread Cert.ReferenceFfnBwdIdeal.nD Cert.ReferenceFfnBwdIdeal.τ).loc Cert.ReferenceFfnBwdIdeal.main_arg4)
          ∧ r.2.mem ((c.tc : Thread Cert.ReferenceFfnBwdIdeal.nD Cert.ReferenceFfnBwdIdeal.τ).loc Cert.ReferenceFfnBwdIdeal.main_arg5) = m' ((c.tc : Thread Cert.ReferenceFfnBwdIdeal.nD Cert.ReferenceFfnBwdIdeal.τ).loc Cert.ReferenceFfnBwdIdeal.main_arg5))

def preserves_KernelFfn1Fwd_KernelFfn1FwdIdeal : Prop :=
  True

def algebraic_KernelFfn1FwdIdeal_ReferenceFfn1FwdIdeal [hKernelFfn1FwdIdeal : Cert.KernelFfn1FwdIdeal.Facts] [hReferenceFfn1FwdIdeal : Cert.ReferenceFfn1FwdIdeal.Facts] : Prop :=
  ∀ (m : (ℓ : Loc Cert.KernelFfn1FwdIdeal.nD Cert.KernelFfn1FwdIdeal.τ Cert.KernelFfn1FwdIdeal.sig) → Buf (Elt Ideal) ℓ) (g : Dev Cert.KernelFfn1FwdIdeal.nD → PrngReg)
    (m' : (ℓ : Loc Cert.ReferenceFfn1FwdIdeal.nD Cert.ReferenceFfn1FwdIdeal.τ Cert.ReferenceFfn1FwdIdeal.sig) → Buf (Elt Ideal) ℓ) (g' : Dev Cert.ReferenceFfn1FwdIdeal.nD → PrngReg), Pre_KernelFfn1FwdIdeal m →
    (∀ c : Dev Cert.KernelFfn1FwdIdeal.nD,
      m' ((c.tc : Thread Cert.ReferenceFfn1FwdIdeal.nD Cert.ReferenceFfn1FwdIdeal.τ).loc Cert.ReferenceFfn1FwdIdeal.main_arg0) = m ((c.tc : Thread Cert.KernelFfn1FwdIdeal.nD Cert.KernelFfn1FwdIdeal.τ).loc Cert.KernelFfn1FwdIdeal.main_arg0)
      ∧ m' ((c.tc : Thread Cert.ReferenceFfn1FwdIdeal.nD Cert.ReferenceFfn1FwdIdeal.τ).loc Cert.ReferenceFfn1FwdIdeal.main_arg1) = m ((c.tc : Thread Cert.KernelFfn1FwdIdeal.nD Cert.KernelFfn1FwdIdeal.τ).loc Cert.KernelFfn1FwdIdeal.main_arg1)
      ∧ m' ((c.tc : Thread Cert.ReferenceFfn1FwdIdeal.nD Cert.ReferenceFfn1FwdIdeal.τ).loc Cert.ReferenceFfn1FwdIdeal.main_arg2) = m ((c.tc : Thread Cert.KernelFfn1FwdIdeal.nD Cert.KernelFfn1FwdIdeal.τ).loc Cert.KernelFfn1FwdIdeal.main_arg2)
      ∧ m' ((c.tc : Thread Cert.ReferenceFfn1FwdIdeal.nD Cert.ReferenceFfn1FwdIdeal.τ).loc Cert.ReferenceFfn1FwdIdeal.main_arg3) = m ((c.tc : Thread Cert.KernelFfn1FwdIdeal.nD Cert.KernelFfn1FwdIdeal.τ).loc Cert.KernelFfn1FwdIdeal.main_arg3)
      ∧ m' ((c.tc : Thread Cert.ReferenceFfn1FwdIdeal.nD Cert.ReferenceFfn1FwdIdeal.τ).loc Cert.ReferenceFfn1FwdIdeal.main_arg4) = m ((c.tc : Thread Cert.KernelFfn1FwdIdeal.nD Cert.KernelFfn1FwdIdeal.τ).loc Cert.KernelFfn1FwdIdeal.main_arg4)) →
    ∃ (v0 : (c : Dev Cert.KernelFfn1FwdIdeal.nD) → Buf (Elt Ideal) ((c.tc : Thread Cert.KernelFfn1FwdIdeal.nD Cert.KernelFfn1FwdIdeal.τ).loc Cert.KernelFfn1FwdIdeal.main_v9_0)) (v1 : (c : Dev Cert.KernelFfn1FwdIdeal.nD) → Buf (Elt Ideal) ((c.tc : Thread Cert.KernelFfn1FwdIdeal.nD Cert.KernelFfn1FwdIdeal.τ).loc Cert.KernelFfn1FwdIdeal.main_v9_1)) (v2 : (c : Dev Cert.KernelFfn1FwdIdeal.nD) → Buf (Elt Ideal) ((c.tc : Thread Cert.KernelFfn1FwdIdeal.nD Cert.KernelFfn1FwdIdeal.τ).loc Cert.KernelFfn1FwdIdeal.main_v9_2)) (v3 : (c : Dev Cert.KernelFfn1FwdIdeal.nD) → Buf (Elt Ideal) ((c.tc : Thread Cert.KernelFfn1FwdIdeal.nD Cert.KernelFfn1FwdIdeal.τ).loc Cert.KernelFfn1FwdIdeal.main_v9_3)),
      θ_run (Cert.KernelFfn1FwdIdeal.defs (F := Ideal)) (onTc (τ := Cert.KernelFfn1FwdIdeal.τ) (Cert.KernelFfn1FwdIdeal.main (F := Ideal))) ⟨m, fun _ => 0, g⟩ (fun r => ∀ c : Dev Cert.KernelFfn1FwdIdeal.nD,
          r.2.mem ((c.tc : Thread Cert.KernelFfn1FwdIdeal.nD Cert.KernelFfn1FwdIdeal.τ).loc Cert.KernelFfn1FwdIdeal.main_v9_0) = v0 c
          ∧ r.2.mem ((c.tc : Thread Cert.KernelFfn1FwdIdeal.nD Cert.KernelFfn1FwdIdeal.τ).loc Cert.KernelFfn1FwdIdeal.main_v9_1) = v1 c
          ∧ r.2.mem ((c.tc : Thread Cert.KernelFfn1FwdIdeal.nD Cert.KernelFfn1FwdIdeal.τ).loc Cert.KernelFfn1FwdIdeal.main_v9_2) = v2 c
          ∧ r.2.mem ((c.tc : Thread Cert.KernelFfn1FwdIdeal.nD Cert.KernelFfn1FwdIdeal.τ).loc Cert.KernelFfn1FwdIdeal.main_v9_3) = v3 c
          ∧ r.2.mem ((c.tc : Thread Cert.KernelFfn1FwdIdeal.nD Cert.KernelFfn1FwdIdeal.τ).loc Cert.KernelFfn1FwdIdeal.main_arg0) = m ((c.tc : Thread Cert.KernelFfn1FwdIdeal.nD Cert.KernelFfn1FwdIdeal.τ).loc Cert.KernelFfn1FwdIdeal.main_arg0)
          ∧ r.2.mem ((c.tc : Thread Cert.KernelFfn1FwdIdeal.nD Cert.KernelFfn1FwdIdeal.τ).loc Cert.KernelFfn1FwdIdeal.main_arg1) = m ((c.tc : Thread Cert.KernelFfn1FwdIdeal.nD Cert.KernelFfn1FwdIdeal.τ).loc Cert.KernelFfn1FwdIdeal.main_arg1)
          ∧ r.2.mem ((c.tc : Thread Cert.KernelFfn1FwdIdeal.nD Cert.KernelFfn1FwdIdeal.τ).loc Cert.KernelFfn1FwdIdeal.main_arg2) = m ((c.tc : Thread Cert.KernelFfn1FwdIdeal.nD Cert.KernelFfn1FwdIdeal.τ).loc Cert.KernelFfn1FwdIdeal.main_arg2)
          ∧ r.2.mem ((c.tc : Thread Cert.KernelFfn1FwdIdeal.nD Cert.KernelFfn1FwdIdeal.τ).loc Cert.KernelFfn1FwdIdeal.main_arg3) = m ((c.tc : Thread Cert.KernelFfn1FwdIdeal.nD Cert.KernelFfn1FwdIdeal.τ).loc Cert.KernelFfn1FwdIdeal.main_arg3)
          ∧ r.2.mem ((c.tc : Thread Cert.KernelFfn1FwdIdeal.nD Cert.KernelFfn1FwdIdeal.τ).loc Cert.KernelFfn1FwdIdeal.main_arg4) = m ((c.tc : Thread Cert.KernelFfn1FwdIdeal.nD Cert.KernelFfn1FwdIdeal.τ).loc Cert.KernelFfn1FwdIdeal.main_arg4))
      ∧ θ_run (Cert.ReferenceFfn1FwdIdeal.defs (F := Ideal)) (onTc (τ := Cert.ReferenceFfn1FwdIdeal.τ) (Cert.ReferenceFfn1FwdIdeal.main (F := Ideal))) ⟨m', fun _ => 0, g'⟩ (fun r => ∀ c : Dev Cert.ReferenceFfn1FwdIdeal.nD,
          r.2.mem ((c.tc : Thread Cert.ReferenceFfn1FwdIdeal.nD Cert.ReferenceFfn1FwdIdeal.τ).loc Cert.ReferenceFfn1FwdIdeal.main_v38) = v0 c
          ∧ r.2.mem ((c.tc : Thread Cert.ReferenceFfn1FwdIdeal.nD Cert.ReferenceFfn1FwdIdeal.τ).loc Cert.ReferenceFfn1FwdIdeal.main_v17) = v1 c
          ∧ r.2.mem ((c.tc : Thread Cert.ReferenceFfn1FwdIdeal.nD Cert.ReferenceFfn1FwdIdeal.τ).loc Cert.ReferenceFfn1FwdIdeal.main_v32) = v2 c
          ∧ r.2.mem ((c.tc : Thread Cert.ReferenceFfn1FwdIdeal.nD Cert.ReferenceFfn1FwdIdeal.τ).loc Cert.ReferenceFfn1FwdIdeal.main_v39) = v3 c
          ∧ r.2.mem ((c.tc : Thread Cert.ReferenceFfn1FwdIdeal.nD Cert.ReferenceFfn1FwdIdeal.τ).loc Cert.ReferenceFfn1FwdIdeal.main_arg0) = m' ((c.tc : Thread Cert.ReferenceFfn1FwdIdeal.nD Cert.ReferenceFfn1FwdIdeal.τ).loc Cert.ReferenceFfn1FwdIdeal.main_arg0)
          ∧ r.2.mem ((c.tc : Thread Cert.ReferenceFfn1FwdIdeal.nD Cert.ReferenceFfn1FwdIdeal.τ).loc Cert.ReferenceFfn1FwdIdeal.main_arg1) = m' ((c.tc : Thread Cert.ReferenceFfn1FwdIdeal.nD Cert.ReferenceFfn1FwdIdeal.τ).loc Cert.ReferenceFfn1FwdIdeal.main_arg1)
          ∧ r.2.mem ((c.tc : Thread Cert.ReferenceFfn1FwdIdeal.nD Cert.ReferenceFfn1FwdIdeal.τ).loc Cert.ReferenceFfn1FwdIdeal.main_arg2) = m' ((c.tc : Thread Cert.ReferenceFfn1FwdIdeal.nD Cert.ReferenceFfn1FwdIdeal.τ).loc Cert.ReferenceFfn1FwdIdeal.main_arg2)
          ∧ r.2.mem ((c.tc : Thread Cert.ReferenceFfn1FwdIdeal.nD Cert.ReferenceFfn1FwdIdeal.τ).loc Cert.ReferenceFfn1FwdIdeal.main_arg3) = m' ((c.tc : Thread Cert.ReferenceFfn1FwdIdeal.nD Cert.ReferenceFfn1FwdIdeal.τ).loc Cert.ReferenceFfn1FwdIdeal.main_arg3)
          ∧ r.2.mem ((c.tc : Thread Cert.ReferenceFfn1FwdIdeal.nD Cert.ReferenceFfn1FwdIdeal.τ).loc Cert.ReferenceFfn1FwdIdeal.main_arg4) = m' ((c.tc : Thread Cert.ReferenceFfn1FwdIdeal.nD Cert.ReferenceFfn1FwdIdeal.τ).loc Cert.ReferenceFfn1FwdIdeal.main_arg4))

def preserves_KernelFfn2Fwd_KernelFfn2FwdIdeal : Prop :=
  True

def algebraic_KernelFfn2FwdIdeal_ReferenceFfn2FwdIdeal [hKernelFfn2FwdIdeal : Cert.KernelFfn2FwdIdeal.Facts] [hReferenceFfn2FwdIdeal : Cert.ReferenceFfn2FwdIdeal.Facts] : Prop :=
  ∀ (m : (ℓ : Loc Cert.KernelFfn2FwdIdeal.nD Cert.KernelFfn2FwdIdeal.τ Cert.KernelFfn2FwdIdeal.sig) → Buf (Elt Ideal) ℓ) (g : Dev Cert.KernelFfn2FwdIdeal.nD → PrngReg)
    (m' : (ℓ : Loc Cert.ReferenceFfn2FwdIdeal.nD Cert.ReferenceFfn2FwdIdeal.τ Cert.ReferenceFfn2FwdIdeal.sig) → Buf (Elt Ideal) ℓ) (g' : Dev Cert.ReferenceFfn2FwdIdeal.nD → PrngReg), Pre_KernelFfn2FwdIdeal m →
    (∀ c : Dev Cert.KernelFfn2FwdIdeal.nD,
      m' ((c.tc : Thread Cert.ReferenceFfn2FwdIdeal.nD Cert.ReferenceFfn2FwdIdeal.τ).loc Cert.ReferenceFfn2FwdIdeal.main_arg0) = m ((c.tc : Thread Cert.KernelFfn2FwdIdeal.nD Cert.KernelFfn2FwdIdeal.τ).loc Cert.KernelFfn2FwdIdeal.main_arg0)
      ∧ m' ((c.tc : Thread Cert.ReferenceFfn2FwdIdeal.nD Cert.ReferenceFfn2FwdIdeal.τ).loc Cert.ReferenceFfn2FwdIdeal.main_arg1) = m ((c.tc : Thread Cert.KernelFfn2FwdIdeal.nD Cert.KernelFfn2FwdIdeal.τ).loc Cert.KernelFfn2FwdIdeal.main_arg1)
      ∧ m' ((c.tc : Thread Cert.ReferenceFfn2FwdIdeal.nD Cert.ReferenceFfn2FwdIdeal.τ).loc Cert.ReferenceFfn2FwdIdeal.main_arg2) = m ((c.tc : Thread Cert.KernelFfn2FwdIdeal.nD Cert.KernelFfn2FwdIdeal.τ).loc Cert.KernelFfn2FwdIdeal.main_arg2)
      ∧ m' ((c.tc : Thread Cert.ReferenceFfn2FwdIdeal.nD Cert.ReferenceFfn2FwdIdeal.τ).loc Cert.ReferenceFfn2FwdIdeal.main_arg3) = m ((c.tc : Thread Cert.KernelFfn2FwdIdeal.nD Cert.KernelFfn2FwdIdeal.τ).loc Cert.KernelFfn2FwdIdeal.main_arg3)
      ∧ m' ((c.tc : Thread Cert.ReferenceFfn2FwdIdeal.nD Cert.ReferenceFfn2FwdIdeal.τ).loc Cert.ReferenceFfn2FwdIdeal.main_arg4) = m ((c.tc : Thread Cert.KernelFfn2FwdIdeal.nD Cert.KernelFfn2FwdIdeal.τ).loc Cert.KernelFfn2FwdIdeal.main_arg4)
      ∧ m' ((c.tc : Thread Cert.ReferenceFfn2FwdIdeal.nD Cert.ReferenceFfn2FwdIdeal.τ).loc Cert.ReferenceFfn2FwdIdeal.main_arg5) = m ((c.tc : Thread Cert.KernelFfn2FwdIdeal.nD Cert.KernelFfn2FwdIdeal.τ).loc Cert.KernelFfn2FwdIdeal.main_arg5)) →
    ∃ (v0 : (c : Dev Cert.KernelFfn2FwdIdeal.nD) → Buf (Elt Ideal) ((c.tc : Thread Cert.KernelFfn2FwdIdeal.nD Cert.KernelFfn2FwdIdeal.τ).loc Cert.KernelFfn2FwdIdeal.main_v9_0)) (v1 : (c : Dev Cert.KernelFfn2FwdIdeal.nD) → Buf (Elt Ideal) ((c.tc : Thread Cert.KernelFfn2FwdIdeal.nD Cert.KernelFfn2FwdIdeal.τ).loc Cert.KernelFfn2FwdIdeal.main_v9_1)) (v2 : (c : Dev Cert.KernelFfn2FwdIdeal.nD) → Buf (Elt Ideal) ((c.tc : Thread Cert.KernelFfn2FwdIdeal.nD Cert.KernelFfn2FwdIdeal.τ).loc Cert.KernelFfn2FwdIdeal.main_v9_2)) (v3 : (c : Dev Cert.KernelFfn2FwdIdeal.nD) → Buf (Elt Ideal) ((c.tc : Thread Cert.KernelFfn2FwdIdeal.nD Cert.KernelFfn2FwdIdeal.τ).loc Cert.KernelFfn2FwdIdeal.main_v9_3)) (v4 : (c : Dev Cert.KernelFfn2FwdIdeal.nD) → Buf (Elt Ideal) ((c.tc : Thread Cert.KernelFfn2FwdIdeal.nD Cert.KernelFfn2FwdIdeal.τ).loc Cert.KernelFfn2FwdIdeal.main_v9_4)) (v5 : (c : Dev Cert.KernelFfn2FwdIdeal.nD) → Buf (Elt Ideal) ((c.tc : Thread Cert.KernelFfn2FwdIdeal.nD Cert.KernelFfn2FwdIdeal.τ).loc Cert.KernelFfn2FwdIdeal.main_v9_5)),
      θ_run (Cert.KernelFfn2FwdIdeal.defs (F := Ideal)) (onTc (τ := Cert.KernelFfn2FwdIdeal.τ) (Cert.KernelFfn2FwdIdeal.main (F := Ideal))) ⟨m, fun _ => 0, g⟩ (fun r => ∀ c : Dev Cert.KernelFfn2FwdIdeal.nD,
          r.2.mem ((c.tc : Thread Cert.KernelFfn2FwdIdeal.nD Cert.KernelFfn2FwdIdeal.τ).loc Cert.KernelFfn2FwdIdeal.main_v9_0) = v0 c
          ∧ r.2.mem ((c.tc : Thread Cert.KernelFfn2FwdIdeal.nD Cert.KernelFfn2FwdIdeal.τ).loc Cert.KernelFfn2FwdIdeal.main_v9_1) = v1 c
          ∧ r.2.mem ((c.tc : Thread Cert.KernelFfn2FwdIdeal.nD Cert.KernelFfn2FwdIdeal.τ).loc Cert.KernelFfn2FwdIdeal.main_v9_2) = v2 c
          ∧ r.2.mem ((c.tc : Thread Cert.KernelFfn2FwdIdeal.nD Cert.KernelFfn2FwdIdeal.τ).loc Cert.KernelFfn2FwdIdeal.main_v9_3) = v3 c
          ∧ r.2.mem ((c.tc : Thread Cert.KernelFfn2FwdIdeal.nD Cert.KernelFfn2FwdIdeal.τ).loc Cert.KernelFfn2FwdIdeal.main_v9_4) = v4 c
          ∧ r.2.mem ((c.tc : Thread Cert.KernelFfn2FwdIdeal.nD Cert.KernelFfn2FwdIdeal.τ).loc Cert.KernelFfn2FwdIdeal.main_v9_5) = v5 c
          ∧ r.2.mem ((c.tc : Thread Cert.KernelFfn2FwdIdeal.nD Cert.KernelFfn2FwdIdeal.τ).loc Cert.KernelFfn2FwdIdeal.main_arg0) = m ((c.tc : Thread Cert.KernelFfn2FwdIdeal.nD Cert.KernelFfn2FwdIdeal.τ).loc Cert.KernelFfn2FwdIdeal.main_arg0)
          ∧ r.2.mem ((c.tc : Thread Cert.KernelFfn2FwdIdeal.nD Cert.KernelFfn2FwdIdeal.τ).loc Cert.KernelFfn2FwdIdeal.main_arg1) = m ((c.tc : Thread Cert.KernelFfn2FwdIdeal.nD Cert.KernelFfn2FwdIdeal.τ).loc Cert.KernelFfn2FwdIdeal.main_arg1)
          ∧ r.2.mem ((c.tc : Thread Cert.KernelFfn2FwdIdeal.nD Cert.KernelFfn2FwdIdeal.τ).loc Cert.KernelFfn2FwdIdeal.main_arg2) = m ((c.tc : Thread Cert.KernelFfn2FwdIdeal.nD Cert.KernelFfn2FwdIdeal.τ).loc Cert.KernelFfn2FwdIdeal.main_arg2)
          ∧ r.2.mem ((c.tc : Thread Cert.KernelFfn2FwdIdeal.nD Cert.KernelFfn2FwdIdeal.τ).loc Cert.KernelFfn2FwdIdeal.main_arg3) = m ((c.tc : Thread Cert.KernelFfn2FwdIdeal.nD Cert.KernelFfn2FwdIdeal.τ).loc Cert.KernelFfn2FwdIdeal.main_arg3)
          ∧ r.2.mem ((c.tc : Thread Cert.KernelFfn2FwdIdeal.nD Cert.KernelFfn2FwdIdeal.τ).loc Cert.KernelFfn2FwdIdeal.main_arg4) = m ((c.tc : Thread Cert.KernelFfn2FwdIdeal.nD Cert.KernelFfn2FwdIdeal.τ).loc Cert.KernelFfn2FwdIdeal.main_arg4)
          ∧ r.2.mem ((c.tc : Thread Cert.KernelFfn2FwdIdeal.nD Cert.KernelFfn2FwdIdeal.τ).loc Cert.KernelFfn2FwdIdeal.main_arg5) = m ((c.tc : Thread Cert.KernelFfn2FwdIdeal.nD Cert.KernelFfn2FwdIdeal.τ).loc Cert.KernelFfn2FwdIdeal.main_arg5))
      ∧ θ_run (Cert.ReferenceFfn2FwdIdeal.defs (F := Ideal)) (onTc (τ := Cert.ReferenceFfn2FwdIdeal.τ) (Cert.ReferenceFfn2FwdIdeal.main (F := Ideal))) ⟨m', fun _ => 0, g'⟩ (fun r => ∀ c : Dev Cert.ReferenceFfn2FwdIdeal.nD,
          r.2.mem ((c.tc : Thread Cert.ReferenceFfn2FwdIdeal.nD Cert.ReferenceFfn2FwdIdeal.τ).loc Cert.ReferenceFfn2FwdIdeal.main_v61) = v0 c
          ∧ r.2.mem ((c.tc : Thread Cert.ReferenceFfn2FwdIdeal.nD Cert.ReferenceFfn2FwdIdeal.τ).loc Cert.ReferenceFfn2FwdIdeal.main_v17) = v1 c
          ∧ r.2.mem ((c.tc : Thread Cert.ReferenceFfn2FwdIdeal.nD Cert.ReferenceFfn2FwdIdeal.τ).loc Cert.ReferenceFfn2FwdIdeal.main_v32) = v2 c
          ∧ r.2.mem ((c.tc : Thread Cert.ReferenceFfn2FwdIdeal.nD Cert.ReferenceFfn2FwdIdeal.τ).loc Cert.ReferenceFfn2FwdIdeal.main_v62) = v3 c
          ∧ r.2.mem ((c.tc : Thread Cert.ReferenceFfn2FwdIdeal.nD Cert.ReferenceFfn2FwdIdeal.τ).loc Cert.ReferenceFfn2FwdIdeal.main_v52) = v4 c
          ∧ r.2.mem ((c.tc : Thread Cert.ReferenceFfn2FwdIdeal.nD Cert.ReferenceFfn2FwdIdeal.τ).loc Cert.ReferenceFfn2FwdIdeal.main_v55) = v5 c
          ∧ r.2.mem ((c.tc : Thread Cert.ReferenceFfn2FwdIdeal.nD Cert.ReferenceFfn2FwdIdeal.τ).loc Cert.ReferenceFfn2FwdIdeal.main_arg0) = m' ((c.tc : Thread Cert.ReferenceFfn2FwdIdeal.nD Cert.ReferenceFfn2FwdIdeal.τ).loc Cert.ReferenceFfn2FwdIdeal.main_arg0)
          ∧ r.2.mem ((c.tc : Thread Cert.ReferenceFfn2FwdIdeal.nD Cert.ReferenceFfn2FwdIdeal.τ).loc Cert.ReferenceFfn2FwdIdeal.main_arg1) = m' ((c.tc : Thread Cert.ReferenceFfn2FwdIdeal.nD Cert.ReferenceFfn2FwdIdeal.τ).loc Cert.ReferenceFfn2FwdIdeal.main_arg1)
          ∧ r.2.mem ((c.tc : Thread Cert.ReferenceFfn2FwdIdeal.nD Cert.ReferenceFfn2FwdIdeal.τ).loc Cert.ReferenceFfn2FwdIdeal.main_arg2) = m' ((c.tc : Thread Cert.ReferenceFfn2FwdIdeal.nD Cert.ReferenceFfn2FwdIdeal.τ).loc Cert.ReferenceFfn2FwdIdeal.main_arg2)
          ∧ r.2.mem ((c.tc : Thread Cert.ReferenceFfn2FwdIdeal.nD Cert.ReferenceFfn2FwdIdeal.τ).loc Cert.ReferenceFfn2FwdIdeal.main_arg3) = m' ((c.tc : Thread Cert.ReferenceFfn2FwdIdeal.nD Cert.ReferenceFfn2FwdIdeal.τ).loc Cert.ReferenceFfn2FwdIdeal.main_arg3)
          ∧ r.2.mem ((c.tc : Thread Cert.ReferenceFfn2FwdIdeal.nD Cert.ReferenceFfn2FwdIdeal.τ).loc Cert.ReferenceFfn2FwdIdeal.main_arg4) = m' ((c.tc : Thread Cert.ReferenceFfn2FwdIdeal.nD Cert.ReferenceFfn2FwdIdeal.τ).loc Cert.ReferenceFfn2FwdIdeal.main_arg4)
          ∧ r.2.mem ((c.tc : Thread Cert.ReferenceFfn2FwdIdeal.nD Cert.ReferenceFfn2FwdIdeal.τ).loc Cert.ReferenceFfn2FwdIdeal.main_arg5) = m' ((c.tc : Thread Cert.ReferenceFfn2FwdIdeal.nD Cert.ReferenceFfn2FwdIdeal.τ).loc Cert.ReferenceFfn2FwdIdeal.main_arg5))

def preserves_KernelProjBwd_KernelProjBwdIdeal : Prop :=
  True

def algebraic_KernelProjBwdIdeal_ReferenceProjBwdIdeal_pre_proj_finite [hKernelProjBwdIdeal : Cert.KernelProjBwdIdeal.Facts] [hReferenceProjBwdIdeal : Cert.ReferenceProjBwdIdeal.Facts] [hPre_proj_finite : Cert.Pre_proj_finite.Facts] : Prop :=
  ∀ (m : (ℓ : Loc Cert.KernelProjBwdIdeal.nD Cert.KernelProjBwdIdeal.τ Cert.KernelProjBwdIdeal.sig) → Buf (Elt Ideal) ℓ) (g : Dev Cert.KernelProjBwdIdeal.nD → PrngReg)
    (m' : (ℓ : Loc Cert.ReferenceProjBwdIdeal.nD Cert.ReferenceProjBwdIdeal.τ Cert.ReferenceProjBwdIdeal.sig) → Buf (Elt Ideal) ℓ) (g' : Dev Cert.ReferenceProjBwdIdeal.nD → PrngReg), Pre_KernelProjBwdIdeal_proj_finite m →
    (∀ c : Dev Cert.KernelProjBwdIdeal.nD,
      m' ((c.tc : Thread Cert.ReferenceProjBwdIdeal.nD Cert.ReferenceProjBwdIdeal.τ).loc Cert.ReferenceProjBwdIdeal.main_arg0) = m ((c.tc : Thread Cert.KernelProjBwdIdeal.nD Cert.KernelProjBwdIdeal.τ).loc Cert.KernelProjBwdIdeal.main_arg0)
      ∧ m' ((c.tc : Thread Cert.ReferenceProjBwdIdeal.nD Cert.ReferenceProjBwdIdeal.τ).loc Cert.ReferenceProjBwdIdeal.main_arg1) = m ((c.tc : Thread Cert.KernelProjBwdIdeal.nD Cert.KernelProjBwdIdeal.τ).loc Cert.KernelProjBwdIdeal.main_arg1)
      ∧ m' ((c.tc : Thread Cert.ReferenceProjBwdIdeal.nD Cert.ReferenceProjBwdIdeal.τ).loc Cert.ReferenceProjBwdIdeal.main_arg2) = m ((c.tc : Thread Cert.KernelProjBwdIdeal.nD Cert.KernelProjBwdIdeal.τ).loc Cert.KernelProjBwdIdeal.main_arg2)
      ∧ m' ((c.tc : Thread Cert.ReferenceProjBwdIdeal.nD Cert.ReferenceProjBwdIdeal.τ).loc Cert.ReferenceProjBwdIdeal.main_arg3) = m ((c.tc : Thread Cert.KernelProjBwdIdeal.nD Cert.KernelProjBwdIdeal.τ).loc Cert.KernelProjBwdIdeal.main_arg3)
      ∧ m' ((c.tc : Thread Cert.ReferenceProjBwdIdeal.nD Cert.ReferenceProjBwdIdeal.τ).loc Cert.ReferenceProjBwdIdeal.main_arg4) = m ((c.tc : Thread Cert.KernelProjBwdIdeal.nD Cert.KernelProjBwdIdeal.τ).loc Cert.KernelProjBwdIdeal.main_arg4)) →
    ∃ (v0 : (c : Dev Cert.KernelProjBwdIdeal.nD) → Buf (Elt Ideal) ((c.tc : Thread Cert.KernelProjBwdIdeal.nD Cert.KernelProjBwdIdeal.τ).loc Cert.KernelProjBwdIdeal.main_v3_0)) (v1 : (c : Dev Cert.KernelProjBwdIdeal.nD) → Buf (Elt Ideal) ((c.tc : Thread Cert.KernelProjBwdIdeal.nD Cert.KernelProjBwdIdeal.τ).loc Cert.KernelProjBwdIdeal.main_v3_1)),
      θ_run (Cert.KernelProjBwdIdeal.defs (F := Ideal)) (onTc (τ := Cert.KernelProjBwdIdeal.τ) (Cert.KernelProjBwdIdeal.main (F := Ideal))) ⟨m, fun _ => 0, g⟩ (fun r => ∀ c : Dev Cert.KernelProjBwdIdeal.nD,
          r.2.mem ((c.tc : Thread Cert.KernelProjBwdIdeal.nD Cert.KernelProjBwdIdeal.τ).loc Cert.KernelProjBwdIdeal.main_v3_0) = v0 c
          ∧ r.2.mem ((c.tc : Thread Cert.KernelProjBwdIdeal.nD Cert.KernelProjBwdIdeal.τ).loc Cert.KernelProjBwdIdeal.main_v3_1) = v1 c
          ∧ r.2.mem ((c.tc : Thread Cert.KernelProjBwdIdeal.nD Cert.KernelProjBwdIdeal.τ).loc Cert.KernelProjBwdIdeal.main_arg0) = m ((c.tc : Thread Cert.KernelProjBwdIdeal.nD Cert.KernelProjBwdIdeal.τ).loc Cert.KernelProjBwdIdeal.main_arg0)
          ∧ r.2.mem ((c.tc : Thread Cert.KernelProjBwdIdeal.nD Cert.KernelProjBwdIdeal.τ).loc Cert.KernelProjBwdIdeal.main_arg1) = m ((c.tc : Thread Cert.KernelProjBwdIdeal.nD Cert.KernelProjBwdIdeal.τ).loc Cert.KernelProjBwdIdeal.main_arg1)
          ∧ r.2.mem ((c.tc : Thread Cert.KernelProjBwdIdeal.nD Cert.KernelProjBwdIdeal.τ).loc Cert.KernelProjBwdIdeal.main_arg2) = m ((c.tc : Thread Cert.KernelProjBwdIdeal.nD Cert.KernelProjBwdIdeal.τ).loc Cert.KernelProjBwdIdeal.main_arg2)
          ∧ r.2.mem ((c.tc : Thread Cert.KernelProjBwdIdeal.nD Cert.KernelProjBwdIdeal.τ).loc Cert.KernelProjBwdIdeal.main_arg3) = m ((c.tc : Thread Cert.KernelProjBwdIdeal.nD Cert.KernelProjBwdIdeal.τ).loc Cert.KernelProjBwdIdeal.main_arg3)
          ∧ r.2.mem ((c.tc : Thread Cert.KernelProjBwdIdeal.nD Cert.KernelProjBwdIdeal.τ).loc Cert.KernelProjBwdIdeal.main_arg4) = m ((c.tc : Thread Cert.KernelProjBwdIdeal.nD Cert.KernelProjBwdIdeal.τ).loc Cert.KernelProjBwdIdeal.main_arg4))
      ∧ θ_run (Cert.ReferenceProjBwdIdeal.defs (F := Ideal)) (onTc (τ := Cert.ReferenceProjBwdIdeal.τ) (Cert.ReferenceProjBwdIdeal.main (F := Ideal))) ⟨m', fun _ => 0, g'⟩ (fun r => ∀ c : Dev Cert.ReferenceProjBwdIdeal.nD,
          r.2.mem ((c.tc : Thread Cert.ReferenceProjBwdIdeal.nD Cert.ReferenceProjBwdIdeal.τ).loc Cert.ReferenceProjBwdIdeal.main_v36) = v0 c
          ∧ r.2.mem ((c.tc : Thread Cert.ReferenceProjBwdIdeal.nD Cert.ReferenceProjBwdIdeal.τ).loc Cert.ReferenceProjBwdIdeal.main_v19) = v1 c
          ∧ r.2.mem ((c.tc : Thread Cert.ReferenceProjBwdIdeal.nD Cert.ReferenceProjBwdIdeal.τ).loc Cert.ReferenceProjBwdIdeal.main_arg0) = m' ((c.tc : Thread Cert.ReferenceProjBwdIdeal.nD Cert.ReferenceProjBwdIdeal.τ).loc Cert.ReferenceProjBwdIdeal.main_arg0)
          ∧ r.2.mem ((c.tc : Thread Cert.ReferenceProjBwdIdeal.nD Cert.ReferenceProjBwdIdeal.τ).loc Cert.ReferenceProjBwdIdeal.main_arg1) = m' ((c.tc : Thread Cert.ReferenceProjBwdIdeal.nD Cert.ReferenceProjBwdIdeal.τ).loc Cert.ReferenceProjBwdIdeal.main_arg1)
          ∧ r.2.mem ((c.tc : Thread Cert.ReferenceProjBwdIdeal.nD Cert.ReferenceProjBwdIdeal.τ).loc Cert.ReferenceProjBwdIdeal.main_arg2) = m' ((c.tc : Thread Cert.ReferenceProjBwdIdeal.nD Cert.ReferenceProjBwdIdeal.τ).loc Cert.ReferenceProjBwdIdeal.main_arg2)
          ∧ r.2.mem ((c.tc : Thread Cert.ReferenceProjBwdIdeal.nD Cert.ReferenceProjBwdIdeal.τ).loc Cert.ReferenceProjBwdIdeal.main_arg3) = m' ((c.tc : Thread Cert.ReferenceProjBwdIdeal.nD Cert.ReferenceProjBwdIdeal.τ).loc Cert.ReferenceProjBwdIdeal.main_arg3)
          ∧ r.2.mem ((c.tc : Thread Cert.ReferenceProjBwdIdeal.nD Cert.ReferenceProjBwdIdeal.τ).loc Cert.ReferenceProjBwdIdeal.main_arg4) = m' ((c.tc : Thread Cert.ReferenceProjBwdIdeal.nD Cert.ReferenceProjBwdIdeal.τ).loc Cert.ReferenceProjBwdIdeal.main_arg4))

def preserves_KernelAdamW1_KernelAdamW1Ideal : Prop :=
  True

def algebraic_KernelAdamW1Ideal_ReferenceAdamW1Ideal [hKernelAdamW1Ideal : Cert.KernelAdamW1Ideal.Facts] [hReferenceAdamW1Ideal : Cert.ReferenceAdamW1Ideal.Facts] : Prop :=
  ∀ (m : (ℓ : Loc Cert.KernelAdamW1Ideal.nD Cert.KernelAdamW1Ideal.τ Cert.KernelAdamW1Ideal.sig) → Buf (Elt Ideal) ℓ) (g : Dev Cert.KernelAdamW1Ideal.nD → PrngReg)
    (m' : (ℓ : Loc Cert.ReferenceAdamW1Ideal.nD Cert.ReferenceAdamW1Ideal.τ Cert.ReferenceAdamW1Ideal.sig) → Buf (Elt Ideal) ℓ) (g' : Dev Cert.ReferenceAdamW1Ideal.nD → PrngReg), Pre_KernelAdamW1Ideal m →
    (∀ c : Dev Cert.KernelAdamW1Ideal.nD,
      m' ((c.tc : Thread Cert.ReferenceAdamW1Ideal.nD Cert.ReferenceAdamW1Ideal.τ).loc Cert.ReferenceAdamW1Ideal.main_arg0) = m ((c.tc : Thread Cert.KernelAdamW1Ideal.nD Cert.KernelAdamW1Ideal.τ).loc Cert.KernelAdamW1Ideal.main_arg0)
      ∧ m' ((c.tc : Thread Cert.ReferenceAdamW1Ideal.nD Cert.ReferenceAdamW1Ideal.τ).loc Cert.ReferenceAdamW1Ideal.main_arg1) = m ((c.tc : Thread Cert.KernelAdamW1Ideal.nD Cert.KernelAdamW1Ideal.τ).loc Cert.KernelAdamW1Ideal.main_arg1)
      ∧ m' ((c.tc : Thread Cert.ReferenceAdamW1Ideal.nD Cert.ReferenceAdamW1Ideal.τ).loc Cert.ReferenceAdamW1Ideal.main_arg2) = m ((c.tc : Thread Cert.KernelAdamW1Ideal.nD Cert.KernelAdamW1Ideal.τ).loc Cert.KernelAdamW1Ideal.main_arg2)
      ∧ m' ((c.tc : Thread Cert.ReferenceAdamW1Ideal.nD Cert.ReferenceAdamW1Ideal.τ).loc Cert.ReferenceAdamW1Ideal.main_arg3) = m ((c.tc : Thread Cert.KernelAdamW1Ideal.nD Cert.KernelAdamW1Ideal.τ).loc Cert.KernelAdamW1Ideal.main_arg3)) →
    ∃ (v0 : (c : Dev Cert.KernelAdamW1Ideal.nD) → Buf (Elt Ideal) ((c.tc : Thread Cert.KernelAdamW1Ideal.nD Cert.KernelAdamW1Ideal.τ).loc Cert.KernelAdamW1Ideal.main_v3_0)) (v1 : (c : Dev Cert.KernelAdamW1Ideal.nD) → Buf (Elt Ideal) ((c.tc : Thread Cert.KernelAdamW1Ideal.nD Cert.KernelAdamW1Ideal.τ).loc Cert.KernelAdamW1Ideal.main_v3_1)) (v2 : (c : Dev Cert.KernelAdamW1Ideal.nD) → Buf (Elt Ideal) ((c.tc : Thread Cert.KernelAdamW1Ideal.nD Cert.KernelAdamW1Ideal.τ).loc Cert.KernelAdamW1Ideal.main_v3_2)) (v3 : (c : Dev Cert.KernelAdamW1Ideal.nD) → Buf (Elt Ideal) ((c.tc : Thread Cert.KernelAdamW1Ideal.nD Cert.KernelAdamW1Ideal.τ).loc Cert.KernelAdamW1Ideal.main_v3_3)),
      θ_run (Cert.KernelAdamW1Ideal.defs (F := Ideal)) (onTc (τ := Cert.KernelAdamW1Ideal.τ) (Cert.KernelAdamW1Ideal.main (F := Ideal))) ⟨m, fun _ => 0, g⟩ (fun r => ∀ c : Dev Cert.KernelAdamW1Ideal.nD,
          r.2.mem ((c.tc : Thread Cert.KernelAdamW1Ideal.nD Cert.KernelAdamW1Ideal.τ).loc Cert.KernelAdamW1Ideal.main_v3_0) = v0 c
          ∧ r.2.mem ((c.tc : Thread Cert.KernelAdamW1Ideal.nD Cert.KernelAdamW1Ideal.τ).loc Cert.KernelAdamW1Ideal.main_v3_1) = v1 c
          ∧ r.2.mem ((c.tc : Thread Cert.KernelAdamW1Ideal.nD Cert.KernelAdamW1Ideal.τ).loc Cert.KernelAdamW1Ideal.main_v3_2) = v2 c
          ∧ r.2.mem ((c.tc : Thread Cert.KernelAdamW1Ideal.nD Cert.KernelAdamW1Ideal.τ).loc Cert.KernelAdamW1Ideal.main_v3_3) = v3 c
          ∧ r.2.mem ((c.tc : Thread Cert.KernelAdamW1Ideal.nD Cert.KernelAdamW1Ideal.τ).loc Cert.KernelAdamW1Ideal.main_arg0) = m ((c.tc : Thread Cert.KernelAdamW1Ideal.nD Cert.KernelAdamW1Ideal.τ).loc Cert.KernelAdamW1Ideal.main_arg0)
          ∧ r.2.mem ((c.tc : Thread Cert.KernelAdamW1Ideal.nD Cert.KernelAdamW1Ideal.τ).loc Cert.KernelAdamW1Ideal.main_arg1) = m ((c.tc : Thread Cert.KernelAdamW1Ideal.nD Cert.KernelAdamW1Ideal.τ).loc Cert.KernelAdamW1Ideal.main_arg1)
          ∧ r.2.mem ((c.tc : Thread Cert.KernelAdamW1Ideal.nD Cert.KernelAdamW1Ideal.τ).loc Cert.KernelAdamW1Ideal.main_arg2) = m ((c.tc : Thread Cert.KernelAdamW1Ideal.nD Cert.KernelAdamW1Ideal.τ).loc Cert.KernelAdamW1Ideal.main_arg2)
          ∧ r.2.mem ((c.tc : Thread Cert.KernelAdamW1Ideal.nD Cert.KernelAdamW1Ideal.τ).loc Cert.KernelAdamW1Ideal.main_arg3) = m ((c.tc : Thread Cert.KernelAdamW1Ideal.nD Cert.KernelAdamW1Ideal.τ).loc Cert.KernelAdamW1Ideal.main_arg3))
      ∧ θ_run (Cert.ReferenceAdamW1Ideal.defs (F := Ideal)) (onTc (τ := Cert.ReferenceAdamW1Ideal.τ) (Cert.ReferenceAdamW1Ideal.main (F := Ideal))) ⟨m', fun _ => 0, g'⟩ (fun r => ∀ c : Dev Cert.ReferenceAdamW1Ideal.nD,
          r.2.mem ((c.tc : Thread Cert.ReferenceAdamW1Ideal.nD Cert.ReferenceAdamW1Ideal.τ).loc Cert.ReferenceAdamW1Ideal.main_v0) = v0 c
          ∧ r.2.mem ((c.tc : Thread Cert.ReferenceAdamW1Ideal.nD Cert.ReferenceAdamW1Ideal.τ).loc Cert.ReferenceAdamW1Ideal.main_v24) = v1 c
          ∧ r.2.mem ((c.tc : Thread Cert.ReferenceAdamW1Ideal.nD Cert.ReferenceAdamW1Ideal.τ).loc Cert.ReferenceAdamW1Ideal.main_v5) = v2 c
          ∧ r.2.mem ((c.tc : Thread Cert.ReferenceAdamW1Ideal.nD Cert.ReferenceAdamW1Ideal.τ).loc Cert.ReferenceAdamW1Ideal.main_v11) = v3 c
          ∧ r.2.mem ((c.tc : Thread Cert.ReferenceAdamW1Ideal.nD Cert.ReferenceAdamW1Ideal.τ).loc Cert.ReferenceAdamW1Ideal.main_arg0) = m' ((c.tc : Thread Cert.ReferenceAdamW1Ideal.nD Cert.ReferenceAdamW1Ideal.τ).loc Cert.ReferenceAdamW1Ideal.main_arg0)
          ∧ r.2.mem ((c.tc : Thread Cert.ReferenceAdamW1Ideal.nD Cert.ReferenceAdamW1Ideal.τ).loc Cert.ReferenceAdamW1Ideal.main_arg1) = m' ((c.tc : Thread Cert.ReferenceAdamW1Ideal.nD Cert.ReferenceAdamW1Ideal.τ).loc Cert.ReferenceAdamW1Ideal.main_arg1)
          ∧ r.2.mem ((c.tc : Thread Cert.ReferenceAdamW1Ideal.nD Cert.ReferenceAdamW1Ideal.τ).loc Cert.ReferenceAdamW1Ideal.main_arg2) = m' ((c.tc : Thread Cert.ReferenceAdamW1Ideal.nD Cert.ReferenceAdamW1Ideal.τ).loc Cert.ReferenceAdamW1Ideal.main_arg2)
          ∧ r.2.mem ((c.tc : Thread Cert.ReferenceAdamW1Ideal.nD Cert.ReferenceAdamW1Ideal.τ).loc Cert.ReferenceAdamW1Ideal.main_arg3) = m' ((c.tc : Thread Cert.ReferenceAdamW1Ideal.nD Cert.ReferenceAdamW1Ideal.τ).loc Cert.ReferenceAdamW1Ideal.main_arg3))

def preserves_KernelAdamW2_KernelAdamW2Ideal : Prop :=
  True

def algebraic_KernelAdamW2Ideal_ReferenceAdamW2Ideal [hKernelAdamW2Ideal : Cert.KernelAdamW2Ideal.Facts] [hReferenceAdamW2Ideal : Cert.ReferenceAdamW2Ideal.Facts] : Prop :=
  ∀ (m : (ℓ : Loc Cert.KernelAdamW2Ideal.nD Cert.KernelAdamW2Ideal.τ Cert.KernelAdamW2Ideal.sig) → Buf (Elt Ideal) ℓ) (g : Dev Cert.KernelAdamW2Ideal.nD → PrngReg)
    (m' : (ℓ : Loc Cert.ReferenceAdamW2Ideal.nD Cert.ReferenceAdamW2Ideal.τ Cert.ReferenceAdamW2Ideal.sig) → Buf (Elt Ideal) ℓ) (g' : Dev Cert.ReferenceAdamW2Ideal.nD → PrngReg), Pre_KernelAdamW2Ideal m →
    (∀ c : Dev Cert.KernelAdamW2Ideal.nD,
      m' ((c.tc : Thread Cert.ReferenceAdamW2Ideal.nD Cert.ReferenceAdamW2Ideal.τ).loc Cert.ReferenceAdamW2Ideal.main_arg0) = m ((c.tc : Thread Cert.KernelAdamW2Ideal.nD Cert.KernelAdamW2Ideal.τ).loc Cert.KernelAdamW2Ideal.main_arg0)
      ∧ m' ((c.tc : Thread Cert.ReferenceAdamW2Ideal.nD Cert.ReferenceAdamW2Ideal.τ).loc Cert.ReferenceAdamW2Ideal.main_arg1) = m ((c.tc : Thread Cert.KernelAdamW2Ideal.nD Cert.KernelAdamW2Ideal.τ).loc Cert.KernelAdamW2Ideal.main_arg1)
      ∧ m' ((c.tc : Thread Cert.ReferenceAdamW2Ideal.nD Cert.ReferenceAdamW2Ideal.τ).loc Cert.ReferenceAdamW2Ideal.main_arg2) = m ((c.tc : Thread Cert.KernelAdamW2Ideal.nD Cert.KernelAdamW2Ideal.τ).loc Cert.KernelAdamW2Ideal.main_arg2)
      ∧ m' ((c.tc : Thread Cert.ReferenceAdamW2Ideal.nD Cert.ReferenceAdamW2Ideal.τ).loc Cert.ReferenceAdamW2Ideal.main_arg3) = m ((c.tc : Thread Cert.KernelAdamW2Ideal.nD Cert.KernelAdamW2Ideal.τ).loc Cert.KernelAdamW2Ideal.main_arg3)) →
    ∃ (v0 : (c : Dev Cert.KernelAdamW2Ideal.nD) → Buf (Elt Ideal) ((c.tc : Thread Cert.KernelAdamW2Ideal.nD Cert.KernelAdamW2Ideal.τ).loc Cert.KernelAdamW2Ideal.main_v3_0)) (v1 : (c : Dev Cert.KernelAdamW2Ideal.nD) → Buf (Elt Ideal) ((c.tc : Thread Cert.KernelAdamW2Ideal.nD Cert.KernelAdamW2Ideal.τ).loc Cert.KernelAdamW2Ideal.main_v3_1)) (v2 : (c : Dev Cert.KernelAdamW2Ideal.nD) → Buf (Elt Ideal) ((c.tc : Thread Cert.KernelAdamW2Ideal.nD Cert.KernelAdamW2Ideal.τ).loc Cert.KernelAdamW2Ideal.main_v3_2)) (v3 : (c : Dev Cert.KernelAdamW2Ideal.nD) → Buf (Elt Ideal) ((c.tc : Thread Cert.KernelAdamW2Ideal.nD Cert.KernelAdamW2Ideal.τ).loc Cert.KernelAdamW2Ideal.main_v3_3)),
      θ_run (Cert.KernelAdamW2Ideal.defs (F := Ideal)) (onTc (τ := Cert.KernelAdamW2Ideal.τ) (Cert.KernelAdamW2Ideal.main (F := Ideal))) ⟨m, fun _ => 0, g⟩ (fun r => ∀ c : Dev Cert.KernelAdamW2Ideal.nD,
          r.2.mem ((c.tc : Thread Cert.KernelAdamW2Ideal.nD Cert.KernelAdamW2Ideal.τ).loc Cert.KernelAdamW2Ideal.main_v3_0) = v0 c
          ∧ r.2.mem ((c.tc : Thread Cert.KernelAdamW2Ideal.nD Cert.KernelAdamW2Ideal.τ).loc Cert.KernelAdamW2Ideal.main_v3_1) = v1 c
          ∧ r.2.mem ((c.tc : Thread Cert.KernelAdamW2Ideal.nD Cert.KernelAdamW2Ideal.τ).loc Cert.KernelAdamW2Ideal.main_v3_2) = v2 c
          ∧ r.2.mem ((c.tc : Thread Cert.KernelAdamW2Ideal.nD Cert.KernelAdamW2Ideal.τ).loc Cert.KernelAdamW2Ideal.main_v3_3) = v3 c
          ∧ r.2.mem ((c.tc : Thread Cert.KernelAdamW2Ideal.nD Cert.KernelAdamW2Ideal.τ).loc Cert.KernelAdamW2Ideal.main_arg0) = m ((c.tc : Thread Cert.KernelAdamW2Ideal.nD Cert.KernelAdamW2Ideal.τ).loc Cert.KernelAdamW2Ideal.main_arg0)
          ∧ r.2.mem ((c.tc : Thread Cert.KernelAdamW2Ideal.nD Cert.KernelAdamW2Ideal.τ).loc Cert.KernelAdamW2Ideal.main_arg1) = m ((c.tc : Thread Cert.KernelAdamW2Ideal.nD Cert.KernelAdamW2Ideal.τ).loc Cert.KernelAdamW2Ideal.main_arg1)
          ∧ r.2.mem ((c.tc : Thread Cert.KernelAdamW2Ideal.nD Cert.KernelAdamW2Ideal.τ).loc Cert.KernelAdamW2Ideal.main_arg2) = m ((c.tc : Thread Cert.KernelAdamW2Ideal.nD Cert.KernelAdamW2Ideal.τ).loc Cert.KernelAdamW2Ideal.main_arg2)
          ∧ r.2.mem ((c.tc : Thread Cert.KernelAdamW2Ideal.nD Cert.KernelAdamW2Ideal.τ).loc Cert.KernelAdamW2Ideal.main_arg3) = m ((c.tc : Thread Cert.KernelAdamW2Ideal.nD Cert.KernelAdamW2Ideal.τ).loc Cert.KernelAdamW2Ideal.main_arg3))
      ∧ θ_run (Cert.ReferenceAdamW2Ideal.defs (F := Ideal)) (onTc (τ := Cert.ReferenceAdamW2Ideal.τ) (Cert.ReferenceAdamW2Ideal.main (F := Ideal))) ⟨m', fun _ => 0, g'⟩ (fun r => ∀ c : Dev Cert.ReferenceAdamW2Ideal.nD,
          r.2.mem ((c.tc : Thread Cert.ReferenceAdamW2Ideal.nD Cert.ReferenceAdamW2Ideal.τ).loc Cert.ReferenceAdamW2Ideal.main_v0) = v0 c
          ∧ r.2.mem ((c.tc : Thread Cert.ReferenceAdamW2Ideal.nD Cert.ReferenceAdamW2Ideal.τ).loc Cert.ReferenceAdamW2Ideal.main_v24) = v1 c
          ∧ r.2.mem ((c.tc : Thread Cert.ReferenceAdamW2Ideal.nD Cert.ReferenceAdamW2Ideal.τ).loc Cert.ReferenceAdamW2Ideal.main_v5) = v2 c
          ∧ r.2.mem ((c.tc : Thread Cert.ReferenceAdamW2Ideal.nD Cert.ReferenceAdamW2Ideal.τ).loc Cert.ReferenceAdamW2Ideal.main_v11) = v3 c
          ∧ r.2.mem ((c.tc : Thread Cert.ReferenceAdamW2Ideal.nD Cert.ReferenceAdamW2Ideal.τ).loc Cert.ReferenceAdamW2Ideal.main_arg0) = m' ((c.tc : Thread Cert.ReferenceAdamW2Ideal.nD Cert.ReferenceAdamW2Ideal.τ).loc Cert.ReferenceAdamW2Ideal.main_arg0)
          ∧ r.2.mem ((c.tc : Thread Cert.ReferenceAdamW2Ideal.nD Cert.ReferenceAdamW2Ideal.τ).loc Cert.ReferenceAdamW2Ideal.main_arg1) = m' ((c.tc : Thread Cert.ReferenceAdamW2Ideal.nD Cert.ReferenceAdamW2Ideal.τ).loc Cert.ReferenceAdamW2Ideal.main_arg1)
          ∧ r.2.mem ((c.tc : Thread Cert.ReferenceAdamW2Ideal.nD Cert.ReferenceAdamW2Ideal.τ).loc Cert.ReferenceAdamW2Ideal.main_arg2) = m' ((c.tc : Thread Cert.ReferenceAdamW2Ideal.nD Cert.ReferenceAdamW2Ideal.τ).loc Cert.ReferenceAdamW2Ideal.main_arg2)
          ∧ r.2.mem ((c.tc : Thread Cert.ReferenceAdamW2Ideal.nD Cert.ReferenceAdamW2Ideal.τ).loc Cert.ReferenceAdamW2Ideal.main_arg3) = m' ((c.tc : Thread Cert.ReferenceAdamW2Ideal.nD Cert.ReferenceAdamW2Ideal.τ).loc Cert.ReferenceAdamW2Ideal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v2_0)) (v1 : (c : Dev Cert.KernelAdamInIdeal.nD) → Buf (Elt Ideal) ((c.tc : Thread Cert.KernelAdamInIdeal.nD Cert.KernelAdamInIdeal.τ).loc Cert.KernelAdamInIdeal.main_v2_1)) (v2 : (c : Dev Cert.KernelAdamInIdeal.nD) → Buf (Elt Ideal) ((c.tc : Thread Cert.KernelAdamInIdeal.nD Cert.KernelAdamInIdeal.τ).loc Cert.KernelAdamInIdeal.main_v2_2)) (v3 : (c : Dev Cert.KernelAdamInIdeal.nD) → Buf (Elt Ideal) ((c.tc : Thread Cert.KernelAdamInIdeal.nD Cert.KernelAdamInIdeal.τ).loc Cert.KernelAdamInIdeal.main_v2_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v2_0) = v0 c
          ∧ r.2.mem ((c.tc : Thread Cert.KernelAdamInIdeal.nD Cert.KernelAdamInIdeal.τ).loc Cert.KernelAdamInIdeal.main_v2_1) = v1 c
          ∧ r.2.mem ((c.tc : Thread Cert.KernelAdamInIdeal.nD Cert.KernelAdamInIdeal.τ).loc Cert.KernelAdamInIdeal.main_v2_2) = v2 c
          ∧ r.2.mem ((c.tc : Thread Cert.KernelAdamInIdeal.nD Cert.KernelAdamInIdeal.τ).loc Cert.KernelAdamInIdeal.main_v2_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v0) = v0 c
          ∧ r.2.mem ((c.tc : Thread Cert.ReferenceAdamInIdeal.nD Cert.ReferenceAdamInIdeal.τ).loc Cert.ReferenceAdamInIdeal.main_v24) = v1 c
          ∧ r.2.mem ((c.tc : Thread Cert.ReferenceAdamInIdeal.nD Cert.ReferenceAdamInIdeal.τ).loc Cert.ReferenceAdamInIdeal.main_v5) = v2 c
          ∧ r.2.mem ((c.tc : Thread Cert.ReferenceAdamInIdeal.nD Cert.ReferenceAdamInIdeal.τ).loc Cert.ReferenceAdamInIdeal.main_v11) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUq_KernelAdamUqIdeal : Prop :=
  True

def algebraic_KernelAdamUqIdeal_ReferenceAdamUqIdeal [hKernelAdamUqIdeal : Cert.KernelAdamUqIdeal.Facts] [hReferenceAdamUqIdeal : Cert.ReferenceAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg)
    (m' : (ℓ : Loc Cert.ReferenceAdamUqIdeal.nD Cert.ReferenceAdamUqIdeal.τ Cert.ReferenceAdamUqIdeal.sig) → Buf (Elt Ideal) ℓ) (g' : Dev Cert.ReferenceAdamUqIdeal.nD → PrngReg), Pre_KernelAdamUqIdeal m →
    (∀ c : Dev Cert.KernelAdamUqIdeal.nD,
      m' ((c.tc : Thread Cert.ReferenceAdamUqIdeal.nD Cert.ReferenceAdamUqIdeal.τ).loc Cert.ReferenceAdamUqIdeal.main_arg0) = m ((c.tc : Thread Cert.KernelAdamUqIdeal.nD Cert.KernelAdamUqIdeal.τ).loc Cert.KernelAdamUqIdeal.main_arg0)
      ∧ m' ((c.tc : Thread Cert.ReferenceAdamUqIdeal.nD Cert.ReferenceAdamUqIdeal.τ).loc Cert.ReferenceAdamUqIdeal.main_arg1) = m ((c.tc : Thread Cert.KernelAdamUqIdeal.nD Cert.KernelAdamUqIdeal.τ).loc Cert.KernelAdamUqIdeal.main_arg1)
      ∧ m' ((c.tc : Thread Cert.ReferenceAdamUqIdeal.nD Cert.ReferenceAdamUqIdeal.τ).loc Cert.ReferenceAdamUqIdeal.main_arg2) = m ((c.tc : Thread Cert.KernelAdamUqIdeal.nD Cert.KernelAdamUqIdeal.τ).loc Cert.KernelAdamUqIdeal.main_arg2)
      ∧ m' ((c.tc : Thread Cert.ReferenceAdamUqIdeal.nD Cert.ReferenceAdamUqIdeal.τ).loc Cert.ReferenceAdamUqIdeal.main_arg3) = m ((c.tc : Thread Cert.KernelAdamUqIdeal.nD Cert.KernelAdamUqIdeal.τ).loc Cert.KernelAdamUqIdeal.main_arg3)) →
    ∃ (v0 : (c : Dev Cert.KernelAdamUqIdeal.nD) → Buf (Elt Ideal) ((c.tc : Thread Cert.KernelAdamUqIdeal.nD Cert.KernelAdamUqIdeal.τ).loc Cert.KernelAdamUqIdeal.main_v2_0)) (v1 : (c : Dev Cert.KernelAdamUqIdeal.nD) → Buf (Elt Ideal) ((c.tc : Thread Cert.KernelAdamUqIdeal.nD Cert.KernelAdamUqIdeal.τ).loc Cert.KernelAdamUqIdeal.main_v2_1)) (v2 : (c : Dev Cert.KernelAdamUqIdeal.nD) → Buf (Elt Ideal) ((c.tc : Thread Cert.KernelAdamUqIdeal.nD Cert.KernelAdamUqIdeal.τ).loc Cert.KernelAdamUqIdeal.main_v2_2)) (v3 : (c : Dev Cert.KernelAdamUqIdeal.nD) → Buf (Elt Ideal) ((c.tc : Thread Cert.KernelAdamUqIdeal.nD Cert.KernelAdamUqIdeal.τ).loc Cert.KernelAdamUqIdeal.main_v2_3)),
      θ_run (Cert.KernelAdamUqIdeal.defs (F := Ideal)) (onTc (τ := Cert.KernelAdamUqIdeal.τ) (Cert.KernelAdamUqIdeal.main (F := Ideal))) ⟨m, fun _ => 0, g⟩ (fun r => ∀ c : Dev Cert.KernelAdamUqIdeal.nD,
          r.2.mem ((c.tc : Thread Cert.KernelAdamUqIdeal.nD Cert.KernelAdamUqIdeal.τ).loc Cert.KernelAdamUqIdeal.main_v2_0) = v0 c
          ∧ r.2.mem ((c.tc : Thread Cert.KernelAdamUqIdeal.nD Cert.KernelAdamUqIdeal.τ).loc Cert.KernelAdamUqIdeal.main_v2_1) = v1 c
          ∧ r.2.mem ((c.tc : Thread Cert.KernelAdamUqIdeal.nD Cert.KernelAdamUqIdeal.τ).loc Cert.KernelAdamUqIdeal.main_v2_2) = v2 c
          ∧ r.2.mem ((c.tc : Thread Cert.KernelAdamUqIdeal.nD Cert.KernelAdamUqIdeal.τ).loc Cert.KernelAdamUqIdeal.main_v2_3) = v3 c
          ∧ r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
          ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
          ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
          ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ θ_run (Cert.ReferenceAdamUqIdeal.defs (F := Ideal)) (onTc (τ := Cert.ReferenceAdamUqIdeal.τ) (Cert.ReferenceAdamUqIdeal.main (F := Ideal))) ⟨m', fun _ => 0, g'⟩ (fun r => ∀ c : Dev Cert.ReferenceAdamUqIdeal.nD,
          r.2.mem ((c.tc : Thread Cert.ReferenceAdamUqIdeal.nD Cert.ReferenceAdamUqIdeal.τ).loc Cert.ReferenceAdamUqIdeal.main_v0) = v0 c
          ∧ r.2.mem ((c.tc : Thread Cert.ReferenceAdamUqIdeal.nD Cert.ReferenceAdamUqIdeal.τ).loc Cert.ReferenceAdamUqIdeal.main_v24) = v1 c
          ∧ r.2.mem ((c.tc : Thread Cert.ReferenceAdamUqIdeal.nD Cert.ReferenceAdamUqIdeal.τ).loc Cert.ReferenceAdamUqIdeal.main_v5) = v2 c
          ∧ r.2.mem ((c.tc : Thread Cert.ReferenceAdamUqIdeal.nD Cert.ReferenceAdamUqIdeal.τ).loc Cert.ReferenceAdamUqIdeal.main_v11) = v3 c
          ∧ r.2.mem ((c.tc : Thread Cert.ReferenceAdamUqIdeal.nD Cert.ReferenceAdamUqIdeal.τ).loc Cert.ReferenceAdamUqIdeal.main_arg0) = m' ((c.tc : Thread Cert.ReferenceAdamUqIdeal.nD Cert.ReferenceAdamUqIdeal.τ).loc Cert.ReferenceAdamUqIdeal.main_arg0)
          ∧ r.2.mem ((c.tc : Thread Cert.ReferenceAdamUqIdeal.nD Cert.ReferenceAdamUqIdeal.τ).loc Cert.ReferenceAdamUqIdeal.main_arg1) = m' ((c.tc : Thread Cert.ReferenceAdamUqIdeal.nD Cert.ReferenceAdamUqIdeal.τ).loc Cert.ReferenceAdamUqIdeal.main_arg1)
          ∧ r.2.mem ((c.tc : Thread Cert.ReferenceAdamUqIdeal.nD Cert.ReferenceAdamUqIdeal.τ).loc Cert.ReferenceAdamUqIdeal.main_arg2) = m' ((c.tc : Thread Cert.ReferenceAdamUqIdeal.nD Cert.ReferenceAdamUqIdeal.τ).loc Cert.ReferenceAdamUqIdeal.main_arg2)
          ∧ r.2.mem ((c.tc : Thread Cert.ReferenceAdamUqIdeal.nD Cert.ReferenceAdamUqIdeal.τ).loc Cert.ReferenceAdamUqIdeal.main_arg3) = m' ((c.tc : Thread Cert.ReferenceAdamUqIdeal.nD Cert.ReferenceAdamUqIdeal.τ).loc Cert.ReferenceAdamUqIdeal.main_arg3))

def preserves_KernelAdamUkv_KernelAdamUkvIdeal : Prop :=
  True

def algebraic_KernelAdamUkvIdeal_ReferenceAdamUkvIdeal [hKernelAdamUkvIdeal : Cert.KernelAdamUkvIdeal.Facts] [hReferenceAdamUkvIdeal : Cert.ReferenceAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg)
    (m' : (ℓ : Loc Cert.ReferenceAdamUkvIdeal.nD Cert.ReferenceAdamUkvIdeal.τ Cert.ReferenceAdamUkvIdeal.sig) → Buf (Elt Ideal) ℓ) (g' : Dev Cert.ReferenceAdamUkvIdeal.nD → PrngReg), Pre_KernelAdamUkvIdeal m →
    (∀ c : Dev Cert.KernelAdamUkvIdeal.nD,
      m' ((c.tc : Thread Cert.ReferenceAdamUkvIdeal.nD Cert.ReferenceAdamUkvIdeal.τ).loc Cert.ReferenceAdamUkvIdeal.main_arg0) = m ((c.tc : Thread Cert.KernelAdamUkvIdeal.nD Cert.KernelAdamUkvIdeal.τ).loc Cert.KernelAdamUkvIdeal.main_arg0)
      ∧ m' ((c.tc : Thread Cert.ReferenceAdamUkvIdeal.nD Cert.ReferenceAdamUkvIdeal.τ).loc Cert.ReferenceAdamUkvIdeal.main_arg1) = m ((c.tc : Thread Cert.KernelAdamUkvIdeal.nD Cert.KernelAdamUkvIdeal.τ).loc Cert.KernelAdamUkvIdeal.main_arg1)
      ∧ m' ((c.tc : Thread Cert.ReferenceAdamUkvIdeal.nD Cert.ReferenceAdamUkvIdeal.τ).loc Cert.ReferenceAdamUkvIdeal.main_arg2) = m ((c.tc : Thread Cert.KernelAdamUkvIdeal.nD Cert.KernelAdamUkvIdeal.τ).loc Cert.KernelAdamUkvIdeal.main_arg2)
      ∧ m' ((c.tc : Thread Cert.ReferenceAdamUkvIdeal.nD Cert.ReferenceAdamUkvIdeal.τ).loc Cert.ReferenceAdamUkvIdeal.main_arg3) = m ((c.tc : Thread Cert.KernelAdamUkvIdeal.nD Cert.KernelAdamUkvIdeal.τ).loc Cert.KernelAdamUkvIdeal.main_arg3)) →
    ∃ (v0 : (c : Dev Cert.KernelAdamUkvIdeal.nD) → Buf (Elt Ideal) ((c.tc : Thread Cert.KernelAdamUkvIdeal.nD Cert.KernelAdamUkvIdeal.τ).loc Cert.KernelAdamUkvIdeal.main_v2_0)) (v1 : (c : Dev Cert.KernelAdamUkvIdeal.nD) → Buf (Elt Ideal) ((c.tc : Thread Cert.KernelAdamUkvIdeal.nD Cert.KernelAdamUkvIdeal.τ).loc Cert.KernelAdamUkvIdeal.main_v2_1)) (v2 : (c : Dev Cert.KernelAdamUkvIdeal.nD) → Buf (Elt Ideal) ((c.tc : Thread Cert.KernelAdamUkvIdeal.nD Cert.KernelAdamUkvIdeal.τ).loc Cert.KernelAdamUkvIdeal.main_v2_2)) (v3 : (c : Dev Cert.KernelAdamUkvIdeal.nD) → Buf (Elt Ideal) ((c.tc : Thread Cert.KernelAdamUkvIdeal.nD Cert.KernelAdamUkvIdeal.τ).loc Cert.KernelAdamUkvIdeal.main_v2_3)),
      θ_run (Cert.KernelAdamUkvIdeal.defs (F := Ideal)) (onTc (τ := Cert.KernelAdamUkvIdeal.τ) (Cert.KernelAdamUkvIdeal.main (F := Ideal))) ⟨m, fun _ => 0, g⟩ (fun r => ∀ c : Dev Cert.KernelAdamUkvIdeal.nD,
          r.2.mem ((c.tc : Thread Cert.KernelAdamUkvIdeal.nD Cert.KernelAdamUkvIdeal.τ).loc Cert.KernelAdamUkvIdeal.main_v2_0) = v0 c
          ∧ r.2.mem ((c.tc : Thread Cert.KernelAdamUkvIdeal.nD Cert.KernelAdamUkvIdeal.τ).loc Cert.KernelAdamUkvIdeal.main_v2_1) = v1 c
          ∧ r.2.mem ((c.tc : Thread Cert.KernelAdamUkvIdeal.nD Cert.KernelAdamUkvIdeal.τ).loc Cert.KernelAdamUkvIdeal.main_v2_2) = v2 c
          ∧ r.2.mem ((c.tc : Thread Cert.KernelAdamUkvIdeal.nD Cert.KernelAdamUkvIdeal.τ).loc Cert.KernelAdamUkvIdeal.main_v2_3) = v3 c
          ∧ r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
          ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
          ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
          ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ θ_run (Cert.ReferenceAdamUkvIdeal.defs (F := Ideal)) (onTc (τ := Cert.ReferenceAdamUkvIdeal.τ) (Cert.ReferenceAdamUkvIdeal.main (F := Ideal))) ⟨m', fun _ => 0, g'⟩ (fun r => ∀ c : Dev Cert.ReferenceAdamUkvIdeal.nD,
          r.2.mem ((c.tc : Thread Cert.ReferenceAdamUkvIdeal.nD Cert.ReferenceAdamUkvIdeal.τ).loc Cert.ReferenceAdamUkvIdeal.main_v0) = v0 c
          ∧ r.2.mem ((c.tc : Thread Cert.ReferenceAdamUkvIdeal.nD Cert.ReferenceAdamUkvIdeal.τ).loc Cert.ReferenceAdamUkvIdeal.main_v24) = v1 c
          ∧ r.2.mem ((c.tc : Thread Cert.ReferenceAdamUkvIdeal.nD Cert.ReferenceAdamUkvIdeal.τ).loc Cert.ReferenceAdamUkvIdeal.main_v5) = v2 c
          ∧ r.2.mem ((c.tc : Thread Cert.ReferenceAdamUkvIdeal.nD Cert.ReferenceAdamUkvIdeal.τ).loc Cert.ReferenceAdamUkvIdeal.main_v11) = v3 c
          ∧ r.2.mem ((c.tc : Thread Cert.ReferenceAdamUkvIdeal.nD Cert.ReferenceAdamUkvIdeal.τ).loc Cert.ReferenceAdamUkvIdeal.main_arg0) = m' ((c.tc : Thread Cert.ReferenceAdamUkvIdeal.nD Cert.ReferenceAdamUkvIdeal.τ).loc Cert.ReferenceAdamUkvIdeal.main_arg0)
          ∧ r.2.mem ((c.tc : Thread Cert.ReferenceAdamUkvIdeal.nD Cert.ReferenceAdamUkvIdeal.τ).loc Cert.ReferenceAdamUkvIdeal.main_arg1) = m' ((c.tc : Thread Cert.ReferenceAdamUkvIdeal.nD Cert.ReferenceAdamUkvIdeal.τ).loc Cert.ReferenceAdamUkvIdeal.main_arg1)
          ∧ r.2.mem ((c.tc : Thread Cert.ReferenceAdamUkvIdeal.nD Cert.ReferenceAdamUkvIdeal.τ).loc Cert.ReferenceAdamUkvIdeal.main_arg2) = m' ((c.tc : Thread Cert.ReferenceAdamUkvIdeal.nD Cert.ReferenceAdamUkvIdeal.τ).loc Cert.ReferenceAdamUkvIdeal.main_arg2)
          ∧ r.2.mem ((c.tc : Thread Cert.ReferenceAdamUkvIdeal.nD Cert.ReferenceAdamUkvIdeal.τ).loc Cert.ReferenceAdamUkvIdeal.main_arg3) = m' ((c.tc : Thread Cert.ReferenceAdamUkvIdeal.nD Cert.ReferenceAdamUkvIdeal.τ).loc Cert.ReferenceAdamUkvIdeal.main_arg3))

def preserves_KernelAdamBr_KernelAdamBrIdeal : Prop :=
  True

def algebraic_KernelAdamBrIdeal_ReferenceAdamBrIdeal [hKernelAdamBrIdeal : Cert.KernelAdamBrIdeal.Facts] [hReferenceAdamBrIdeal : Cert.ReferenceAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg)
    (m' : (ℓ : Loc Cert.ReferenceAdamBrIdeal.nD Cert.ReferenceAdamBrIdeal.τ Cert.ReferenceAdamBrIdeal.sig) → Buf (Elt Ideal) ℓ) (g' : Dev Cert.ReferenceAdamBrIdeal.nD → PrngReg), Pre_KernelAdamBrIdeal m →
    (∀ c : Dev Cert.KernelAdamBrIdeal.nD,
      m' ((c.tc : Thread Cert.ReferenceAdamBrIdeal.nD Cert.ReferenceAdamBrIdeal.τ).loc Cert.ReferenceAdamBrIdeal.main_arg0) = m ((c.tc : Thread Cert.KernelAdamBrIdeal.nD Cert.KernelAdamBrIdeal.τ).loc Cert.KernelAdamBrIdeal.main_arg0)
      ∧ m' ((c.tc : Thread Cert.ReferenceAdamBrIdeal.nD Cert.ReferenceAdamBrIdeal.τ).loc Cert.ReferenceAdamBrIdeal.main_arg1) = m ((c.tc : Thread Cert.KernelAdamBrIdeal.nD Cert.KernelAdamBrIdeal.τ).loc Cert.KernelAdamBrIdeal.main_arg1)
      ∧ m' ((c.tc : Thread Cert.ReferenceAdamBrIdeal.nD Cert.ReferenceAdamBrIdeal.τ).loc Cert.ReferenceAdamBrIdeal.main_arg2) = m ((c.tc : Thread Cert.KernelAdamBrIdeal.nD Cert.KernelAdamBrIdeal.τ).loc Cert.KernelAdamBrIdeal.main_arg2)
      ∧ m' ((c.tc : Thread Cert.ReferenceAdamBrIdeal.nD Cert.ReferenceAdamBrIdeal.τ).loc Cert.ReferenceAdamBrIdeal.main_arg3) = m ((c.tc : Thread Cert.KernelAdamBrIdeal.nD Cert.KernelAdamBrIdeal.τ).loc Cert.KernelAdamBrIdeal.main_arg3)) →
    ∃ (v0 : (c : Dev Cert.KernelAdamBrIdeal.nD) → Buf (Elt Ideal) ((c.tc : Thread Cert.KernelAdamBrIdeal.nD Cert.KernelAdamBrIdeal.τ).loc Cert.KernelAdamBrIdeal.main_v2_0)) (v1 : (c : Dev Cert.KernelAdamBrIdeal.nD) → Buf (Elt Ideal) ((c.tc : Thread Cert.KernelAdamBrIdeal.nD Cert.KernelAdamBrIdeal.τ).loc Cert.KernelAdamBrIdeal.main_v2_1)) (v2 : (c : Dev Cert.KernelAdamBrIdeal.nD) → Buf (Elt Ideal) ((c.tc : Thread Cert.KernelAdamBrIdeal.nD Cert.KernelAdamBrIdeal.τ).loc Cert.KernelAdamBrIdeal.main_v2_2)) (v3 : (c : Dev Cert.KernelAdamBrIdeal.nD) → Buf (Elt Ideal) ((c.tc : Thread Cert.KernelAdamBrIdeal.nD Cert.KernelAdamBrIdeal.τ).loc Cert.KernelAdamBrIdeal.main_v2_3)),
      θ_run (Cert.KernelAdamBrIdeal.defs (F := Ideal)) (onTc (τ := Cert.KernelAdamBrIdeal.τ) (Cert.KernelAdamBrIdeal.main (F := Ideal))) ⟨m, fun _ => 0, g⟩ (fun r => ∀ c : Dev Cert.KernelAdamBrIdeal.nD,
          r.2.mem ((c.tc : Thread Cert.KernelAdamBrIdeal.nD Cert.KernelAdamBrIdeal.τ).loc Cert.KernelAdamBrIdeal.main_v2_0) = v0 c
          ∧ r.2.mem ((c.tc : Thread Cert.KernelAdamBrIdeal.nD Cert.KernelAdamBrIdeal.τ).loc Cert.KernelAdamBrIdeal.main_v2_1) = v1 c
          ∧ r.2.mem ((c.tc : Thread Cert.KernelAdamBrIdeal.nD Cert.KernelAdamBrIdeal.τ).loc Cert.KernelAdamBrIdeal.main_v2_2) = v2 c
          ∧ r.2.mem ((c.tc : Thread Cert.KernelAdamBrIdeal.nD Cert.KernelAdamBrIdeal.τ).loc Cert.KernelAdamBrIdeal.main_v2_3) = v3 c
          ∧ r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
          ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
          ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
          ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ θ_run (Cert.ReferenceAdamBrIdeal.defs (F := Ideal)) (onTc (τ := Cert.ReferenceAdamBrIdeal.τ) (Cert.ReferenceAdamBrIdeal.main (F := Ideal))) ⟨m', fun _ => 0, g'⟩ (fun r => ∀ c : Dev Cert.ReferenceAdamBrIdeal.nD,
          r.2.mem ((c.tc : Thread Cert.ReferenceAdamBrIdeal.nD Cert.ReferenceAdamBrIdeal.τ).loc Cert.ReferenceAdamBrIdeal.main_v0) = v0 c
          ∧ r.2.mem ((c.tc : Thread Cert.ReferenceAdamBrIdeal.nD Cert.ReferenceAdamBrIdeal.τ).loc Cert.ReferenceAdamBrIdeal.main_v24) = v1 c
          ∧ r.2.mem ((c.tc : Thread Cert.ReferenceAdamBrIdeal.nD Cert.ReferenceAdamBrIdeal.τ).loc Cert.ReferenceAdamBrIdeal.main_v5) = v2 c
          ∧ r.2.mem ((c.tc : Thread Cert.ReferenceAdamBrIdeal.nD Cert.ReferenceAdamBrIdeal.τ).loc Cert.ReferenceAdamBrIdeal.main_v11) = v3 c
          ∧ r.2.mem ((c.tc : Thread Cert.ReferenceAdamBrIdeal.nD Cert.ReferenceAdamBrIdeal.τ).loc Cert.ReferenceAdamBrIdeal.main_arg0) = m' ((c.tc : Thread Cert.ReferenceAdamBrIdeal.nD Cert.ReferenceAdamBrIdeal.τ).loc Cert.ReferenceAdamBrIdeal.main_arg0)
          ∧ r.2.mem ((c.tc : Thread Cert.ReferenceAdamBrIdeal.nD Cert.ReferenceAdamBrIdeal.τ).loc Cert.ReferenceAdamBrIdeal.main_arg1) = m' ((c.tc : Thread Cert.ReferenceAdamBrIdeal.nD Cert.ReferenceAdamBrIdeal.τ).loc Cert.ReferenceAdamBrIdeal.main_arg1)
          ∧ r.2.mem ((c.tc : Thread Cert.ReferenceAdamBrIdeal.nD Cert.ReferenceAdamBrIdeal.τ).loc Cert.ReferenceAdamBrIdeal.main_arg2) = m' ((c.tc : Thread Cert.ReferenceAdamBrIdeal.nD Cert.ReferenceAdamBrIdeal.τ).loc Cert.ReferenceAdamBrIdeal.main_arg2)
          ∧ r.2.mem ((c.tc : Thread Cert.ReferenceAdamBrIdeal.nD Cert.ReferenceAdamBrIdeal.τ).loc Cert.ReferenceAdamBrIdeal.main_arg3) = m' ((c.tc : Thread Cert.ReferenceAdamBrIdeal.nD Cert.ReferenceAdamBrIdeal.τ).loc Cert.ReferenceAdamBrIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v2_0)) (v1 : (c : Dev Cert.KernelAdamOutIdeal.nD) → Buf (Elt Ideal) ((c.tc : Thread Cert.KernelAdamOutIdeal.nD Cert.KernelAdamOutIdeal.τ).loc Cert.KernelAdamOutIdeal.main_v2_1)) (v2 : (c : Dev Cert.KernelAdamOutIdeal.nD) → Buf (Elt Ideal) ((c.tc : Thread Cert.KernelAdamOutIdeal.nD Cert.KernelAdamOutIdeal.τ).loc Cert.KernelAdamOutIdeal.main_v2_2)) (v3 : (c : Dev Cert.KernelAdamOutIdeal.nD) → Buf (Elt Ideal) ((c.tc : Thread Cert.KernelAdamOutIdeal.nD Cert.KernelAdamOutIdeal.τ).loc Cert.KernelAdamOutIdeal.main_v2_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v2_0) = v0 c
          ∧ r.2.mem ((c.tc : Thread Cert.KernelAdamOutIdeal.nD Cert.KernelAdamOutIdeal.τ).loc Cert.KernelAdamOutIdeal.main_v2_1) = v1 c
          ∧ r.2.mem ((c.tc : Thread Cert.KernelAdamOutIdeal.nD Cert.KernelAdamOutIdeal.τ).loc Cert.KernelAdamOutIdeal.main_v2_2) = v2 c
          ∧ r.2.mem ((c.tc : Thread Cert.KernelAdamOutIdeal.nD Cert.KernelAdamOutIdeal.τ).loc Cert.KernelAdamOutIdeal.main_v2_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v0) = v0 c
          ∧ r.2.mem ((c.tc : Thread Cert.ReferenceAdamOutIdeal.nD Cert.ReferenceAdamOutIdeal.τ).loc Cert.ReferenceAdamOutIdeal.main_v24) = v1 c
          ∧ r.2.mem ((c.tc : Thread Cert.ReferenceAdamOutIdeal.nD Cert.ReferenceAdamOutIdeal.τ).loc Cert.ReferenceAdamOutIdeal.main_v5) = v2 c
          ∧ r.2.mem ((c.tc : Thread Cert.ReferenceAdamOutIdeal.nD Cert.ReferenceAdamOutIdeal.τ).loc Cert.ReferenceAdamOutIdeal.main_v11) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def Claim : Prop :=
  ∃ (hKernel : Cert.Kernel.Facts) (hKernelIdeal : Cert.KernelIdeal.Facts) (hReferenceIdeal : Cert.ReferenceIdeal.Facts) (hKernelDw1 : Cert.KernelDw1.Facts) (hKernelDw1Ideal : Cert.KernelDw1Ideal.Facts) (hReferenceDw1Ideal : Cert.ReferenceDw1Ideal.Facts) (hKernelDw2 : Cert.KernelDw2.Facts) (hKernelDw2Ideal : Cert.KernelDw2Ideal.Facts) (hReferenceDw2Ideal : Cert.ReferenceDw2Ideal.Facts) (hKernelDwIn : Cert.KernelDwIn.Facts) (hKernelDwInIdeal : Cert.KernelDwInIdeal.Facts) (hReferenceDwInIdeal : Cert.ReferenceDwInIdeal.Facts) (hKernelFfnBwd : Cert.KernelFfnBwd.Facts) (hKernelFfnBwdIdeal : Cert.KernelFfnBwdIdeal.Facts) (hReferenceFfnBwdIdeal : Cert.ReferenceFfnBwdIdeal.Facts) (hKernelFfn1Fwd : Cert.KernelFfn1Fwd.Facts) (hKernelFfn1FwdIdeal : Cert.KernelFfn1FwdIdeal.Facts) (hReferenceFfn1FwdIdeal : Cert.ReferenceFfn1FwdIdeal.Facts) (hKernelFfn2Fwd : Cert.KernelFfn2Fwd.Facts) (hKernelFfn2FwdIdeal : Cert.KernelFfn2FwdIdeal.Facts) (hReferenceFfn2FwdIdeal : Cert.ReferenceFfn2FwdIdeal.Facts) (hKernelProjBwd : Cert.KernelProjBwd.Facts) (hKernelProjBwdIdeal : Cert.KernelProjBwdIdeal.Facts) (hReferenceProjBwdIdeal : Cert.ReferenceProjBwdIdeal.Facts) (hKernelAdamW1 : Cert.KernelAdamW1.Facts) (hKernelAdamW1Ideal : Cert.KernelAdamW1Ideal.Facts) (hReferenceAdamW1Ideal : Cert.ReferenceAdamW1Ideal.Facts) (hKernelAdamW2 : Cert.KernelAdamW2.Facts) (hKernelAdamW2Ideal : Cert.KernelAdamW2Ideal.Facts) (hReferenceAdamW2Ideal : Cert.ReferenceAdamW2Ideal.Facts) (hKernelAdamIn : Cert.KernelAdamIn.Facts) (hKernelAdamInIdeal : Cert.KernelAdamInIdeal.Facts) (hReferenceAdamInIdeal : Cert.ReferenceAdamInIdeal.Facts) (hKernelAdamUq : Cert.KernelAdamUq.Facts) (hKernelAdamUqIdeal : Cert.KernelAdamUqIdeal.Facts) (hReferenceAdamUqIdeal : Cert.ReferenceAdamUqIdeal.Facts) (hKernelAdamUkv : Cert.KernelAdamUkv.Facts) (hKernelAdamUkvIdeal : Cert.KernelAdamUkvIdeal.Facts) (hReferenceAdamUkvIdeal : Cert.ReferenceAdamUkvIdeal.Facts) (hKernelAdamBr : Cert.KernelAdamBr.Facts) (hKernelAdamBrIdeal : Cert.KernelAdamBrIdeal.Facts) (hReferenceAdamBrIdeal : Cert.ReferenceAdamBrIdeal.Facts) (hKernelAdamOut : Cert.KernelAdamOut.Facts) (hKernelAdamOutIdeal : Cert.KernelAdamOutIdeal.Facts) (hReferenceAdamOutIdeal : Cert.ReferenceAdamOutIdeal.Facts) (hPre_finite : Cert.Pre_finite.Facts) (hPre_ffn_finite : Cert.Pre_ffn_finite.Facts) (hPre_proj_finite : Cert.Pre_proj_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelFfnBwd (hKernelFfnBwd := hKernelFfnBwd)
    ∧ quiescent_KernelFfnBwdIdeal (hKernelFfnBwdIdeal := hKernelFfnBwdIdeal)
    ∧ quiescent_KernelFfnBwdIdeal_pre_ffn_finite (hKernelFfnBwdIdeal := hKernelFfnBwdIdeal) (hPre_ffn_finite := hPre_ffn_finite)
    ∧ quiescent_ReferenceFfnBwdIdeal (hReferenceFfnBwdIdeal := hReferenceFfnBwdIdeal)
    ∧ quiescent_ReferenceFfnBwdIdeal_pre_ffn_finite (hReferenceFfnBwdIdeal := hReferenceFfnBwdIdeal) (hPre_ffn_finite := hPre_ffn_finite)
    ∧ quiescent_KernelFfn1Fwd (hKernelFfn1Fwd := hKernelFfn1Fwd)
    ∧ quiescent_KernelFfn1FwdIdeal (hKernelFfn1FwdIdeal := hKernelFfn1FwdIdeal)
    ∧ quiescent_ReferenceFfn1FwdIdeal (hReferenceFfn1FwdIdeal := hReferenceFfn1FwdIdeal)
    ∧ quiescent_KernelFfn2Fwd (hKernelFfn2Fwd := hKernelFfn2Fwd)
    ∧ quiescent_KernelFfn2FwdIdeal (hKernelFfn2FwdIdeal := hKernelFfn2FwdIdeal)
    ∧ quiescent_ReferenceFfn2FwdIdeal (hReferenceFfn2FwdIdeal := hReferenceFfn2FwdIdeal)
    ∧ quiescent_KernelProjBwd (hKernelProjBwd := hKernelProjBwd)
    ∧ quiescent_KernelProjBwdIdeal (hKernelProjBwdIdeal := hKernelProjBwdIdeal)
    ∧ quiescent_KernelProjBwdIdeal_pre_proj_finite (hKernelProjBwdIdeal := hKernelProjBwdIdeal) (hPre_proj_finite := hPre_proj_finite)
    ∧ quiescent_ReferenceProjBwdIdeal (hReferenceProjBwdIdeal := hReferenceProjBwdIdeal)
    ∧ quiescent_ReferenceProjBwdIdeal_pre_proj_finite (hReferenceProjBwdIdeal := hReferenceProjBwdIdeal) (hPre_proj_finite := hPre_proj_finite)
    ∧ quiescent_KernelAdamW1 (hKernelAdamW1 := hKernelAdamW1)
    ∧ quiescent_KernelAdamW1Ideal (hKernelAdamW1Ideal := hKernelAdamW1Ideal)
    ∧ quiescent_ReferenceAdamW1Ideal (hReferenceAdamW1Ideal := hReferenceAdamW1Ideal)
    ∧ quiescent_KernelAdamW2 (hKernelAdamW2 := hKernelAdamW2)
    ∧ quiescent_KernelAdamW2Ideal (hKernelAdamW2Ideal := hKernelAdamW2Ideal)
    ∧ quiescent_ReferenceAdamW2Ideal (hReferenceAdamW2Ideal := hReferenceAdamW2Ideal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUq (hKernelAdamUq := hKernelAdamUq)
    ∧ quiescent_KernelAdamUqIdeal (hKernelAdamUqIdeal := hKernelAdamUqIdeal)
    ∧ quiescent_ReferenceAdamUqIdeal (hReferenceAdamUqIdeal := hReferenceAdamUqIdeal)
    ∧ quiescent_KernelAdamUkv (hKernelAdamUkv := hKernelAdamUkv)
    ∧ quiescent_KernelAdamUkvIdeal (hKernelAdamUkvIdeal := hKernelAdamUkvIdeal)
    ∧ quiescent_ReferenceAdamUkvIdeal (hReferenceAdamUkvIdeal := hReferenceAdamUkvIdeal)
    ∧ quiescent_KernelAdamBr (hKernelAdamBr := hKernelAdamBr)
    ∧ quiescent_KernelAdamBrIdeal (hKernelAdamBrIdeal := hKernelAdamBrIdeal)
    ∧ quiescent_ReferenceAdamBrIdeal (hReferenceAdamBrIdeal := hReferenceAdamBrIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelFfnBwd_KernelFfnBwdIdeal
    ∧ algebraic_KernelFfnBwdIdeal_ReferenceFfnBwdIdeal_pre_ffn_finite (hKernelFfnBwdIdeal := hKernelFfnBwdIdeal) (hReferenceFfnBwdIdeal := hReferenceFfnBwdIdeal) (hPre_ffn_finite := hPre_ffn_finite)
    ∧ preserves_KernelFfn1Fwd_KernelFfn1FwdIdeal
    ∧ algebraic_KernelFfn1FwdIdeal_ReferenceFfn1FwdIdeal (hKernelFfn1FwdIdeal := hKernelFfn1FwdIdeal) (hReferenceFfn1FwdIdeal := hReferenceFfn1FwdIdeal)
    ∧ preserves_KernelFfn2Fwd_KernelFfn2FwdIdeal
    ∧ algebraic_KernelFfn2FwdIdeal_ReferenceFfn2FwdIdeal (hKernelFfn2FwdIdeal := hKernelFfn2FwdIdeal) (hReferenceFfn2FwdIdeal := hReferenceFfn2FwdIdeal)
    ∧ preserves_KernelProjBwd_KernelProjBwdIdeal
    ∧ algebraic_KernelProjBwdIdeal_ReferenceProjBwdIdeal_pre_proj_finite (hKernelProjBwdIdeal := hKernelProjBwdIdeal) (hReferenceProjBwdIdeal := hReferenceProjBwdIdeal) (hPre_proj_finite := hPre_proj_finite)
    ∧ preserves_KernelAdamW1_KernelAdamW1Ideal
    ∧ algebraic_KernelAdamW1Ideal_ReferenceAdamW1Ideal (hKernelAdamW1Ideal := hKernelAdamW1Ideal) (hReferenceAdamW1Ideal := hReferenceAdamW1Ideal)
    ∧ preserves_KernelAdamW2_KernelAdamW2Ideal
    ∧ algebraic_KernelAdamW2Ideal_ReferenceAdamW2Ideal (hKernelAdamW2Ideal := hKernelAdamW2Ideal) (hReferenceAdamW2Ideal := hReferenceAdamW2Ideal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUq_KernelAdamUqIdeal
    ∧ algebraic_KernelAdamUqIdeal_ReferenceAdamUqIdeal (hKernelAdamUqIdeal := hKernelAdamUqIdeal) (hReferenceAdamUqIdeal := hReferenceAdamUqIdeal)
    ∧ preserves_KernelAdamUkv_KernelAdamUkvIdeal
    ∧ algebraic_KernelAdamUkvIdeal_ReferenceAdamUkvIdeal (hKernelAdamUkvIdeal := hKernelAdamUkvIdeal) (hReferenceAdamUkvIdeal := hReferenceAdamUkvIdeal)
    ∧ preserves_KernelAdamBr_KernelAdamBrIdeal
    ∧ algebraic_KernelAdamBrIdeal_ReferenceAdamBrIdeal (hKernelAdamBrIdeal := hKernelAdamBrIdeal) (hReferenceAdamBrIdeal := hReferenceAdamBrIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
-- ==== Pre_ffn_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S4096x1024 .f32) (main_arg3 : FVec F S1x1024 .f32) (main_arg4 : FVec F S1024x5632 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : IVec S4096x1024 1 := andi main_v10 main_v13
  let main_c : IVec S_ 1 := constantI S_ 1 1#1
  let main_v15 : IVec S_ 1 := (fun x v => Host.reduce IntOp.andi x v reducesTo_S4096x1024_S_d0_1 h_S_) main_v14 main_c
  main_v15
-- ==== Pre_proj_finite.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S1024x5120 : S_.BroadcastsInDim S1024x5120 (![] : Fin 0 → Fin S1024x5120.rank)
  reducesTo_S1024x5120_S_d0_1 : S1024x5120.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5120 .f32) (main_arg1 : FVec F S1024x5120 .f32) (main_arg2 : FVec F S4096x1024 .f32) (main_arg3 : FVec F S1x1024 .f32) (main_arg4 : FVec F S4096x1024 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S1024x5120 .f32 := Host.absf main_arg1
  let main_cst_0 : FVec F S_ .f32 := constant S_ .f32 0x7F800000#32
  let main_v5 : FVec F S1024x5120 .f32 := broadcastInDim S1024x5120 ![] bcast_S_S1024x5120 main_cst_0
  let main_v6 : IVec S1024x5120 1 := cmpf .olt main_v4 main_v5
  let main_c_1 : IVec S_ 1 := constantI S_ 1 1#1
  let main_v7 : IVec S_ 1 := (fun x v => Host.reduce IntOp.andi x v reducesTo_S1024x5120_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8 : Shape := ⟨2, ![4096, 8]⟩
abbrev S4096x8x1 : Shape := ⟨3, ![4096, 8, 1]⟩
abbrev S1024x128 : Shape := ⟨2, ![1024, 128]⟩
abbrev S4096x128 : Shape := ⟨2, ![4096, 128]⟩
abbrev S512x128 : Shape := ⟨2, ![512, 128]⟩
abbrev S512x512 : Shape := ⟨2, ![512, 512]⟩
abbrev S512x1024 : Shape := ⟨2, ![512, 1024]⟩
abbrev S512x1 : Shape := ⟨2, ![512, 1]⟩

abbrev nBuf : Space → Nat
  | .hbm => 83
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x8x128, .f32⟩
  | .hbm, ⟨7, _⟩ => ⟨S8x4096x128, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S4096x8x128, .f32⟩
  | .hbm, ⟨32, _⟩ => ⟨S8x4096x128, .f32⟩
  | .hbm, ⟨33, _⟩ => ⟨S4096x8x128, .f32⟩
  | .hbm, ⟨34, _⟩ => ⟨S8x4096x128, .f32⟩
  | .hbm, ⟨35, _⟩ => ⟨S4096x8x128, .f32⟩
  | .hbm, ⟨36, _⟩ => ⟨S8x4096x128, .f32⟩
  | .hbm, ⟨37, _⟩ => ⟨S8x4096x4096, .f32⟩
  | .hbm, ⟨38, _⟩ => ⟨S4096, .i32⟩
  | .hbm, ⟨39, _⟩ => ⟨S4096x1, .i32⟩
  | .hbm, ⟨40, _⟩ => ⟨S1x4096, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S8x4096x4096, .i1⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x128, .f32⟩
  | .hbm, ⟨64, _⟩ => ⟨S4096x8x128, .f32⟩
  | .hbm, ⟨65, _⟩ => ⟨S4096x1024, .f32⟩
  | .hbm, ⟨66, _⟩ => ⟨S4096x1024, .f32⟩
  | .hbm, ⟨67, _⟩ => ⟨S4096x8x128, .f32⟩
  | .hbm, ⟨68, _⟩ => ⟨S_, .f32⟩
  | .hbm, ⟨69, _⟩ => ⟨S4096x8, .f32⟩
  | .hbm, ⟨70, _⟩ => ⟨S4096x8x1, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S4096x1024, .bf16⟩
  | .hbm, ⟨75, _⟩ => ⟨S4096x8x1, .f32⟩
  | .hbm, ⟨76, _⟩ => ⟨S4096x8x128, .f32⟩
  | .hbm, ⟨77, _⟩ => ⟨S4096x1024, .f32⟩
  | .hbm, ⟨78, _⟩ => ⟨S4096x8x128, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62_0 : Ref sig .tc := ⟨.hbm, 80, rfl⟩
abbrev main_v62_1 : Ref sig .tc := ⟨.hbm, 81, rfl⟩
abbrev main_v62_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  let c0_i32_2 : BitVec 32 := 0#32
  let v6 : BitVec 32 := Scalar.addi v5 c0_i32_2
  v6
def k0_mult2 (i : grid0.Coords) : BitVec 32 :=
  let arg1 : BitVec 32 := BitVec.ofNat 32 (i 1).val
  let c1024_i32_3 : BitVec 32 := 1024#32
  let v8 : BitVec 32 := Scalar.muli arg1 c1024_i32_3
  let c512_i32 : BitVec 32 := 512#32
  let v9 : BitVec 32 := Scalar.addi v8 c512_i32
  v9
def k0_off1 (i : grid0.Coords) (c0_i32_2 : BitVec 32) : Fin 2 → Nat :=
  let arg1 : BitVec 32 := BitVec.ofNat 32 (i 1).val
  let c1024_i32 : BitVec 32 := 1024#32
  let v5 : BitVec 32 := Scalar.muli arg1 c1024_i32
  let v6 : BitVec 32 := Scalar.addi v5 c0_i32_2
  let v7 : BitVec 32 := v6
  let v11 : Index := Scalar.indexCast v7
  let c0 : Index := 0#32
  ![v11.toNat, 0]
def k0_off2 (i : grid0.Coords) (c0_i32_2 : BitVec 32) : Fin 2 → Nat :=
  let arg1 : BitVec 32 := BitVec.ofNat 32 (i 1).val
  let c1024_i32 : BitVec 32 := 1024#32
  let v5 : BitVec 32 := Scalar.muli arg1 c1024_i32
  let v6 : BitVec 32 := Scalar.addi v5 c0_i32_2
  let v7 : BitVec 32 := v6
  let v50 : Index := Scalar.indexCast v7
  let c0_25 : Index := 0#32
  ![v50.toNat, 0]
@[reducible] def k0_t1_loop (i : grid0.Coords) : Scf.Loop 32 :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let c1_i32_48 : BitVec 32 := 1#32
  ⟨v119, v124, c1_i32_48⟩
def k0_mult3 (i : grid0.Coords) (k0_t1 : Fin (k0_t1_loop i).trips) : BitVec 32 :=
  let arg1 : BitVec 32 := BitVec.ofNat 32 (i 1).val
  let c1_i32 : BitVec 32 := 1#32
  let v119 : BitVec 32 := Scalar.addi arg1 c1_i32
  let c1_i32_48 : BitVec 32 := 1#32
  let arg11 : BitVec 32 := Scf.iv v119 c1_i32_48 k0_t1
  let c1024_i32_54 : BitVec 32 := 1024#32
  let v130 : BitVec 32 := Scalar.muli arg11 c1024_i32_54
  let c0_i32_55 : BitVec 32 := 0#32
  let v131 : BitVec 32 := Scalar.addi v130 c0_i32_55
  v131
def k0_mult4 (i : grid0.Coords) (k0_t1 : Fin (k0_t1_loop i).trips) : BitVec 32 :=
  let arg1 : BitVec 32 := BitVec.ofNat 32 (i 1).val
  let c1_i32 : BitVec 32 := 1#32
  let v119 : BitVec 32 := Scalar.addi arg1 c1_i32
  let c1_i32_48 : BitVec 32 := 1#32
  let arg11 : BitVec 32 := Scf.iv v119 c1_i32_48 k0_t1
  let c1024_i32_56 : BitVec 32 := 1024#32
  let v133 : BitVec 32 := Scalar.muli arg11 c1024_i32_56
  let c512_i32_57 : BitVec 32 := 512#32
  let v134 : BitVec 32 := Scalar.addi v133 c512_i32_57
  v134
def k0_off3 (i : grid0.Coords) (k0_t1 : Fin (k0_t1_loop i).trips) (c0_i32_55 : BitVec 32) : Fin 2 → Nat :=
  let arg1 : BitVec 32 := BitVec.ofNat 32 (i 1).val
  let c1_i32 : BitVec 32 := 1#32
  let v119 : BitVec 32 := Scalar.addi arg1 c1_i32
  let c1_i32_48 : BitVec 32 := 1#32
  let arg11 : BitVec 32 := Scf.iv v119 c1_i32_48 k0_t1
  let c1024_i32_54 : BitVec 32 := 1024#32
  let v130 : BitVec 32 := Scalar.muli arg11 c1024_i32_54
  let v131 : BitVec 32 := Scalar.addi v130 c0_i32_55
  let v132 : BitVec 32 := v131
  let v136 : Index := Scalar.indexCast v132
  let c0_58 : Index := 0#32
  ![v136.toNat, 0]
def k0_off4 (i : grid0.Coords) (k0_t1 : Fin (k0_t1_loop i).trips) (c0_i32_55 : BitVec 32) : Fin 2 → Nat :=
  let arg1 : BitVec 32 := BitVec.ofNat 32 (i 1).val
  let c1_i32 : BitVec 32 := 1#32
  let v119 : BitVec 32 := Scalar.addi arg1 c1_i32
  let c1_i32_48 : BitVec 32 := 1#32
  let arg11 : BitVec 32 := Scf.iv v119 c1_i32_48 k0_t1
  let c1024_i32_54 : BitVec 32 := 1024#32
  let v130 : BitVec 32 := Scalar.muli arg11 c1024_i32_54
  let v131 : BitVec 32 := Scalar.addi v130 c0_i32_55
  let v132 : BitVec 32 := v131
  let v168 : Index := Scalar.indexCast v132
  let c0_78 : Index := 0#32
  ![v168.toNat, 0]
@[reducible] def k0_t2_loop (i : grid0.Coords) : Scf.Loop 32 :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let v121 : BitVec 32 := Scalar.addi v119 v120
  let c1_i32_49 : BitVec 32 := 1#32
  ⟨v124, v121, c1_i32_49⟩
def k0_mult5 (i : grid0.Coords) (k0_t2 : Fin (k0_t2_loop i).trips) : BitVec 32 :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let c1_i32_49 : BitVec 32 := 1#32
  let arg11 : BitVec 32 := Scf.iv v124 c1_i32_49 k0_t2
  let c1024_i32_54 : BitVec 32 := 1024#32
  let v130 : BitVec 32 := Scalar.muli arg11 c1024_i32_54
  let c0_i32_55 : BitVec 32 := 0#32
  let v131 : BitVec 32 := Scalar.addi v130 c0_i32_55
  v131
def k0_mult6 (i : grid0.Coords) (k0_t2 : Fin (k0_t2_loop i).trips) : BitVec 32 :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let c1_i32_49 : BitVec 32 := 1#32
  let arg11 : BitVec 32 := Scf.iv v124 c1_i32_49 k0_t2
  let c1024_i32_56 : BitVec 32 := 1024#32
  let v133 : BitVec 32 := Scalar.muli arg11 c1024_i32_56
  let c512_i32_57 : BitVec 32 := 512#32
  let v134 : BitVec 32 := Scalar.addi v133 c512_i32_57
  v134
def k0_off5 (i : grid0.Coords) (k0_t2 : Fin (k0_t2_loop i).trips) (c0_i32_55 : BitVec 32) : Fin 2 → Nat :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let c1_i32_49 : BitVec 32 := 1#32
  let arg11 : BitVec 32 := Scf.iv v124 c1_i32_49 k0_t2
  let c1024_i32_54 : BitVec 32 := 1024#32
  let v130 : BitVec 32 := Scalar.muli arg11 c1024_i32_54
  let v131 : BitVec 32 := Scalar.addi v130 c0_i32_55
  let v132 : BitVec 32 := v131
  let v136 : Index := Scalar.indexCast v132
  let c0_58 : Index := 0#32
  ![v136.toNat, 0]
def k0_off6 (i : grid0.Coords) (k0_t2 : Fin (k0_t2_loop i).trips) (c0_i32_55 : BitVec 32) : Fin 2 → Nat :=
  let arg1 : BitVec 32 := BitVec.ofNat 32 (i 1).val
  let c1_i32 : BitVec 32 := 1#32
  let v119 : BitVec 32 := Scalar.addi arg1 c1_i32
  let c4_i32 : BitVec 32 := 4#32
  let v120 : BitVec 32 := Scalar.subi c4_i32 v119
  let c1_i32_47 : BitVec 32 := 1#32
  let v122 : BitVec 32 := Scalar.divsi v120 c1_i32_47
  let v123 : BitVec 32 := Scalar.muli v122 c1_i32_47
  let v124 : BitVec 32 := Scalar.addi v119 v123
  let c1_i32_49 : BitVec 32 := 1#32
  let arg11 : BitVec 32 := Scf.iv v124 c1_i32_49 k0_t2
  let c1024_i32_54 : BitVec 32 := 1024#32
  let v130 : BitVec 32 := Scalar.muli arg11 c1024_i32_54
  let v131 : BitVec 32 := Scalar.addi v130 c0_i32_55
  let v132 : BitVec 32 := v131
  let v168 : Index := Scalar.indexCast v132
  let c0_78 : Index := 0#32
  ![v168.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x128, .f32⟩
  | .hbm, ⟨63, _⟩ => ⟨S4096x8x128, .f32⟩
  | .hbm, ⟨64, _⟩ => ⟨S4096x1024, .f32⟩
  | .hbm, ⟨65, _⟩ => ⟨S4096x8x128, .f32⟩
  | .hbm, ⟨66, _⟩ => ⟨S8x4096x128, .f32⟩
  | .hbm, ⟨67, _⟩ => ⟨S8x128x4096, .f32⟩
  | .hbm, ⟨68, _⟩ => ⟨S8x4096x128, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096x4096, .f32⟩
  | .hbm, ⟨86, _⟩ => ⟨S8x4096x4096, .f32⟩
  | .hbm, ⟨87, _⟩ => ⟨S8x4096x128, .f32⟩
  | .hbm, ⟨88, _⟩ => ⟨S8x4096x128, .f32⟩
  | .hbm, ⟨89, _⟩ => ⟨S4096x8x128, .f32⟩
  | .hbm, ⟨90, _⟩ => ⟨S4096x1024, .f32⟩
  | .hbm, ⟨91, _⟩ => ⟨S4096x8x128, .f32⟩
  | .hbm, ⟨92, _⟩ => ⟨S4096x1024, .f32⟩
  | .hbm, ⟨93, _⟩ => ⟨S4096x8x128, .f32⟩
  | .hbm, ⟨94, _⟩ => ⟨S4096x1024, .f32⟩
  | .hbm, ⟨95, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_v13_1 : Ref sig .tc := ⟨.hbm, 19, rfl⟩
abbrev main_call0_v2 : Ref sig .tc := ⟨.hbm, 20, rfl⟩
abbrev main_v13_0 : Ref sig .tc := ⟨.hbm, 21, rfl⟩
abbrev main_call0_cst : Ref sig .tc := ⟨.hbm, 22, rfl⟩
abbrev main_v13_2 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== KernelDw1.lean ====
abbrev S4096x5632 : Shape := ⟨2, ![4096, 5632]⟩
abbrev S4096x1024 : Shape := ⟨2, ![4096, 1024]⟩
abbrev S4096x16x352 : Shape := ⟨3, ![4096, 16, 352]⟩
abbrev S_ : Shape := ⟨0, ![]⟩
abbrev S4096x16x384 : Shape := ⟨3, ![4096, 16, 384]⟩
abbrev S4096x8x768 : Shape := ⟨3, ![4096, 8, 768]⟩
abbrev S8x4096x768 : Shape := ⟨3, ![8, 4096, 768]⟩
abbrev S1x4096x1024 : Shape := ⟨3, ![1, 4096, 1024]⟩
abbrev S8x768x1024 : Shape := ⟨3, ![8, 768, 1024]⟩
abbrev S1x4096x768 : Shape := ⟨3, ![1, 4096, 768]⟩
abbrev S1x768x1024 : Shape := ⟨3, ![1, 768, 1024]⟩
abbrev S768x1024 : Shape := ⟨2, ![768, 1024]⟩
abbrev S4096x768 : Shape := ⟨2, ![4096, 768]⟩

abbrev nBuf : Space → Nat
  | .hbm => 12
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x16x352, .f32⟩
  | .hbm, ⟨3, _⟩ => ⟨S_, .i32⟩
  | .hbm, ⟨4, _⟩ => ⟨S_, .f32⟩
  | .hbm, ⟨5, _⟩ => ⟨S4096x16x384, .f32⟩
  | .hbm, ⟨6, _⟩ => ⟨S4096x8x768, .f32⟩
  | .hbm, ⟨7, _⟩ => ⟨S8x4096x768, .f32⟩
  | .hbm, ⟨8, _⟩ => ⟨S8x4096x768, .bf16⟩
  | .hbm, ⟨9, _⟩ => ⟨S1x4096x1024, .f32⟩
  | .hbm, ⟨10, _⟩ => ⟨S1x4096x1024, .bf16⟩
  | .hbm, ⟨11, _⟩ => ⟨S8x768x1024, .bf16⟩
  | .local _ .vmem, ⟨0, _⟩ => ⟨S1x4096x768, .bf16⟩
  | .local _ .vmem, ⟨1, _⟩ => ⟨S1x4096x768, .bf16⟩
  | .local _ .vmem, ⟨2, _⟩ => ⟨S1x4096x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S768x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def k0_cond2 (i : grid0.Coords) : BitVec 1 :=
  let arg3 : BitVec 32 := BitVec.ofNat 32 (i 3).val
  let c0_i32_10 : BitVec 32 := 0#32
  let v13 : BitVec 1 := Scalar.cmpi .eq arg3 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDw1Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S16x352x1024 : Shape := ⟨3, ![16, 352, 1024]⟩
abbrev S16x384x1024 : Shape := ⟨3, ![16, 384, 1024]⟩
abbrev S8x768x1024 : Shape := ⟨3, ![8, 768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S16x352x1024, .f32⟩
  | .hbm, ⟨9, _⟩ => ⟨S_, .i32⟩
  | .hbm, ⟨10, _⟩ => ⟨S_, .f32⟩
  | .hbm, ⟨11, _⟩ => ⟨S16x384x1024, .f32⟩
  | .hbm, ⟨12, _⟩ => ⟨S8x768x1024, .f32⟩
  | .hbm, ⟨13, _⟩ => ⟨S8x768x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelDw2.lean ====
abbrev S4096x2816 : Shape := ⟨2, ![4096, 2816]⟩
abbrev S4096x1024 : Shape := ⟨2, ![4096, 1024]⟩
abbrev S4096x8x352 : Shape := ⟨3, ![4096, 8, 352]⟩
abbrev S_ : Shape := ⟨0, ![]⟩
abbrev S4096x8x384 : Shape := ⟨3, ![4096, 8, 384]⟩
abbrev S4096x4x768 : Shape := ⟨3, ![4096, 4, 768]⟩
abbrev S4x4096x768 : Shape := ⟨3, ![4, 4096, 768]⟩
abbrev S1x4096x1024 : Shape := ⟨3, ![1, 4096, 1024]⟩
abbrev S4x768x1024 : Shape := ⟨3, ![4, 768, 1024]⟩
abbrev S1x4096x768 : Shape := ⟨3, ![1, 4096, 768]⟩
abbrev S1x768x1024 : Shape := ⟨3, ![1, 768, 1024]⟩
abbrev S768x1024 : Shape := ⟨2, ![768, 1024]⟩
abbrev S4096x768 : Shape := ⟨2, ![4096, 768]⟩

abbrev nBuf : Space → Nat
  | .hbm => 12
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x8x352, .f32⟩
  | .hbm, ⟨3, _⟩ => ⟨S_, .i32⟩
  | .hbm, ⟨4, _⟩ => ⟨S_, .f32⟩
  | .hbm, ⟨5, _⟩ => ⟨S4096x8x384, .f32⟩
  | .hbm, ⟨6, _⟩ => ⟨S4096x4x768, .f32⟩
  | .hbm, ⟨7, _⟩ => ⟨S4x4096x768, .f32⟩
  | .hbm, ⟨8, _⟩ => ⟨S4x4096x768, .bf16⟩
  | .hbm, ⟨9, _⟩ => ⟨S1x4096x1024, .f32⟩
  | .hbm, ⟨10, _⟩ => ⟨S1x4096x1024, .bf16⟩
  | .hbm, ⟨11, _⟩ => ⟨S4x768x1024, .bf16⟩
  | .local _ .vmem, ⟨0, _⟩ => ⟨S1x4096x768, .bf16⟩
  | .local _ .vmem, ⟨1, _⟩ => ⟨S1x4096x768, .bf16⟩
  | .local _ .vmem, ⟨2, _⟩ => ⟨S1x4096x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S768x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond2 (i : grid0.Coords) : BitVec 1 :=
  let arg3 : BitVec 32 := BitVec.ofNat 32 (i 3).val
  let c0_i32_10 : BitVec 32 := 0#32
  let v13 : BitVec 1 := Scalar.cmpi .eq arg3 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDw2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x384x1024 : Shape := ⟨3, ![8, 384, 1024]⟩
abbrev S4x768x1024 : Shape := ⟨3, ![4, 768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S4x768x1024, .f32⟩
  | .hbm, ⟨12, _⟩ => ⟨S4x768x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDwIn.lean ====
abbrev S4096x5120 : Shape := ⟨2, ![4096, 5120]⟩
abbrev S4096x1024 : Shape := ⟨2, ![4096, 1024]⟩
abbrev S1x4096x5120 : Shape := ⟨3, ![1, 4096, 5120]⟩
abbrev S1x4096x1024 : Shape := ⟨3, ![1, 4096, 1024]⟩
abbrev S1x5120x1024 : Shape := ⟨3, ![1, 5120, 1024]⟩
abbrev S1x4096x1280 : Shape := ⟨3, ![1, 4096, 1280]⟩
abbrev S1x1280x1024 : Shape := ⟨3, ![1, 1280, 1024]⟩
abbrev S1280x1024 : Shape := ⟨2, ![1280, 1024]⟩
abbrev S4096x1280 : Shape := ⟨2, ![4096, 1280]⟩

abbrev nBuf : Space → Nat
  | .hbm => 7
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S1x4096x5120, .f32⟩
  | .hbm, ⟨3, _⟩ => ⟨S1x4096x5120, .bf16⟩
  | .hbm, ⟨4, _⟩ => ⟨S1x4096x1024, .f32⟩
  | .hbm, ⟨5, _⟩ => ⟨S1x4096x1024, .bf16⟩
  | .hbm, ⟨6, _⟩ => ⟨S1x5120x1024, .bf16⟩
  | .local _ .vmem, ⟨0, _⟩ => ⟨S1x4096x1280, .bf16⟩
  | .local _ .vmem, ⟨1, _⟩ => ⟨S1x4096x1280, .bf16⟩
  | .local _ .vmem, ⟨2, _⟩ => ⟨S1x4096x1024, .bf16⟩
  | .local _ .vmem, ⟨3, _⟩ => ⟨S1x1280x1024, .bf16⟩
  | .local _ .vmem, ⟨4, _⟩ => ⟨S1x1280x1024, .bf16⟩
  | .local _ .vmem, ⟨5, _⟩ => ⟨S1280x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def k0_cond2 (i : grid0.Coords) : BitVec 1 :=
  let arg3 : BitVec 32 := BitVec.ofNat 32 (i 3).val
  let c0_i32_10 : BitVec 32 := 0#32
  let v13 : BitVec 1 := Scalar.cmpi .eq arg3 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDwInIdeal.lean ====
abbrev S4096x5120 : Shape := ⟨2, ![4096, 5120]⟩
abbrev S4096x1024 : Shape := ⟨2, ![4096, 1024]⟩
abbrev S_ : Shape := ⟨0, ![]⟩
abbrev S1024x5120 : Shape := ⟨2, ![1024, 5120]⟩
abbrev S5120x1024 : Shape := ⟨2, ![5120, 1024]⟩
abbrev S1x5120x1024 : Shape := ⟨3, ![1, 5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S_, .f32⟩
  | .hbm, ⟨3, _⟩ => ⟨S1024x5120, .f32⟩
  | .hbm, ⟨4, _⟩ => ⟨S4096x5120, .f32⟩
  | .hbm, ⟨5, _⟩ => ⟨S5120x1024, .f32⟩
  | .hbm, ⟨6, _⟩ => ⟨S1024x5120, .f32⟩
  | .hbm, ⟨7, _⟩ => ⟨S5120x1024, .f32⟩
  | .hbm, ⟨8, _⟩ => ⟨S1x5120x1024, .f32⟩
  | .hbm, ⟨9, _⟩ => ⟨S1x5120x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFfnBwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x16x352 : Shape := ⟨3, ![4096, 16, 352]⟩
abbrev S4096x16x384 : Shape := ⟨3, ![4096, 16, 384]⟩
abbrev S4096x8x768 : Shape := ⟨3, ![4096, 8, 768]⟩
abbrev S8x4096x768 : Shape := ⟨3, ![8, 4096, 768]⟩
abbrev S2x4x4096x768 : Shape := ⟨4, ![2, 4, 4096, 768]⟩
abbrev S8x352x1024 : Shape := ⟨3, ![8, 352, 1024]⟩
abbrev S8x384x1024 : Shape := ⟨3, ![8, 384, 1024]⟩
abbrev S4x768x1024 : Shape := ⟨3, ![4, 768, 1024]⟩
abbrev S5632x1024 : Shape := ⟨2, ![5632, 1024]⟩
abbrev S16x352x1024 : Shape := ⟨3, ![16, 352, 1024]⟩
abbrev S16x384x1024 : Shape := ⟨3, ![16, 384, 1024]⟩
abbrev S8x768x1024 : Shape := ⟨3, ![8, 768, 1024]⟩
abbrev S4x4096x768 : Shape := ⟨3, ![4, 4096, 768]⟩
abbrev S512x1024 : Shape := ⟨2, ![512, 1024]⟩
abbrev S2x1x512x768 : Shape := ⟨4, ![2, 1, 512, 768]⟩
abbrev S1x768x1024 : Shape := ⟨3, ![1, 768, 1024]⟩
abbrev S1x512x768 : Shape := ⟨3, ![1, 512, 768]⟩
abbrev S512 : Shape := ⟨1, ![512]⟩
abbrev S512x1 : Shape := ⟨2, ![512, 1]⟩
abbrev S1024 : Shape := ⟨1, ![1024]⟩
abbrev S256x1024 : Shape := ⟨2, ![256, 1024]⟩
abbrev S768x1024 : Shape := ⟨2, ![768, 1024]⟩
abbrev S256x768 : Shape := ⟨2, ![256, 768]⟩
abbrev S1x1x256x768 : Shape := ⟨4, ![1, 1, 256, 768]⟩
abbrev S1x256x768 : Shape := ⟨3, ![1, 256, 768]⟩

abbrev nBuf : Space → Nat
  | .hbm => 62
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x16x352, .f32⟩
  | .hbm, ⟨36, _⟩ => ⟨S_, .i32⟩
  | .hbm, ⟨37, _⟩ => ⟨S_, .f32⟩
  | .hbm, ⟨38, _⟩ => ⟨S4096x16x384, .f32⟩
  | .hbm, ⟨39, _⟩ => ⟨S4096x8x768, .f32⟩
  | .hbm, ⟨40, _⟩ => ⟨S8x4096x768, .f32⟩
  | .hbm, ⟨41, _⟩ => ⟨S8x4096x768, .bf16⟩
  | .hbm, ⟨42, _⟩ => ⟨S2x4x4096x768, .bf16⟩
  | .hbm, ⟨43, _⟩ => ⟨S8x352x1024, .f32⟩
  | .hbm, ⟨44, _⟩ => ⟨S_, .i32⟩
  | .hbm, ⟨45, _⟩ => ⟨S_, .f32⟩
  | .hbm, ⟨46, _⟩ => ⟨S8x384x1024, .f32⟩
  | .hbm, ⟨47, _⟩ => ⟨S4x768x1024, .f32⟩
  | .hbm, ⟨48, _⟩ => ⟨S4x768x1024, .bf16⟩
  | .hbm, ⟨49, _⟩ => ⟨S5632x1024, .f32⟩
  | .hbm, ⟨50, _⟩ => ⟨S16x352x1024, .f32⟩
  | .hbm, ⟨51, _⟩ => ⟨S_, .i32⟩
  | .hbm, ⟨52, _⟩ => ⟨S_, .f32⟩
  | .hbm, ⟨53, _⟩ => ⟨S16x384x1024, .f32⟩
  | .hbm, ⟨54, _⟩ => ⟨S8x768x1024, .f32⟩
  | .hbm, ⟨55, _⟩ => ⟨S8x768x1024, .bf16⟩
  | .hbm, ⟨56, _⟩ => ⟨S4x4096x768, .bf16⟩
  | .hbm, ⟨57, _⟩ => ⟨S2x4x4096x768, .bf16⟩
  | .hbm, ⟨58, _⟩ => ⟨S4096x1024, .bf16⟩
  | .hbm, ⟨59, _⟩ => ⟨S4096x1024, .f32⟩
  | .hbm, ⟨60, _⟩ => ⟨S1x1024, .f32⟩
  | .hbm, ⟨61, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S2x1x512x768, .bf16⟩
  | .local _ .vmem, ⟨9, _⟩ => ⟨S2x1x512x768, .bf16⟩
  | .local _ .vmem, ⟨10, _⟩ => ⟨S1x768x1024, .bf16⟩
  | .local _ .vmem, ⟨11, _⟩ => ⟨S1x768x1024, .bf16⟩
  | .local _ .vmem, ⟨12, _⟩ => ⟨S1x768x1024, .bf16⟩
  | .local _ .vmem, ⟨13, _⟩ => ⟨S1x768x1024, .bf16⟩
  | .local _ .vmem, ⟨14, _⟩ => ⟨S1x768x1024, .bf16⟩
  | .local _ .vmem, ⟨15, _⟩ => ⟨S1x768x1024, .bf16⟩
  | .local _ .vmem, ⟨16, _⟩ => ⟨S1x512x768, .bf16⟩
  | .local _ .vmem, ⟨17, _⟩ => ⟨S1x512x768, .bf16⟩
  | .local _ .vmem, ⟨18, _⟩ => ⟨S2x1x512x768, .bf16⟩
  | .local _ .vmem, ⟨19, _⟩ => ⟨S2x1x512x768, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call1_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v33_2 : Ref sig .tc := ⟨.hbm, 58, rfl⟩
abbrev main_v33_3 : Ref sig .tc := ⟨.hbm, 59, rfl⟩
abbrev main_v33_4 : Ref sig .tc := ⟨.hbm, 60, rfl⟩
abbrev main_v33_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c3_i32 : BitVec 32 := 3#32
  let v108 : BitVec 1 := Scalar.cmpi .eq arg1 c3_i32
  let v109 : BitVec 32 := Scalar.extui v108
  let c0_i32_80 : BitVec 32 := 0#32
  let v110 : BitVec 1 := Scalar.cmpi .ne v109 c0_i32_80
  v110

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceFfnBwdIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4096x8x352 : Shape := ⟨3, ![4096, 8, 352]⟩
abbrev S4096x8x384 : Shape := ⟨3, ![4096, 8, 384]⟩
abbrev S4096x4x768 : Shape := ⟨3, ![4096, 4, 768]⟩
abbrev S4x4096x768 : Shape := ⟨3, ![4, 4096, 768]⟩
abbrev S4096x16x352 : Shape := ⟨3, ![4096, 16, 352]⟩
abbrev S4096x16x384 : Shape := ⟨3, ![4096, 16, 384]⟩
abbrev S4096x8x768 : Shape := ⟨3, ![4096, 8, 768]⟩
abbrev S8x4096x768 : Shape := ⟨3, ![8, 4096, 768]⟩
abbrev S2x4x4096x768 : Shape := ⟨4, ![2, 4, 4096, 768]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S1x1024, .f32⟩
  | 2 => ⟨S4096x1024, .f32⟩
  | 3 => ⟨S1x1024, .f32⟩
  | 4 => ⟨S1024x5632, .f32⟩
  | 5 => ⟨S2816x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x5632, .f32⟩
  | 26 => ⟨S4096x2816, .f32⟩
  | 27 => ⟨S4096x2816, .f32⟩
  | 28 => ⟨S4096x2816, .f32⟩
  | 29 => ⟨S4096x2816, .f32⟩
  | 30 => ⟨S_, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x2816, .f32⟩
  | 92 => ⟨S4096x2816, .f32⟩
  | 93 => ⟨S4096x2816, .f32⟩
  | 94 => ⟨S4096x2816, .f32⟩
  | 95 => ⟨S4096x2816, .f32⟩
  | 96 => ⟨S4096x2816, .f32⟩
  | 97 => ⟨S4096x2816, .f32⟩
  | 98 => ⟨S4096x5632, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x8x352, .f32⟩
  | 124 => ⟨S_, .i32⟩
  | 125 => ⟨S_, .f32⟩
  | 126 => ⟨S4096x8x384, .f32⟩
  | 127 => ⟨S4096x4x768, .f32⟩
  | _ => ⟨S4096x1024, .f32⟩

abbrev hbmTy0_1 (i : Nat) : BufTy := match i % 128 with
  | 0 => ⟨S4x4096x768, .f32⟩
  | 1 => ⟨S4x4096x768, .bf16⟩
  | 2 => ⟨S4096x16x352, .f32⟩
  | 3 => ⟨S_, .i32⟩
  | 4 => ⟨S_, .f32⟩
  | 5 => ⟨S4096x16x384, .f32⟩
  | 6 => ⟨S4096x8x768, .f32⟩
  | 7 => ⟨S8x4096x768, .f32⟩
  | 8 => ⟨S8x4096x768, .bf16⟩
  | 9 => ⟨S2x4x4096x768, .bf16⟩
  | 10 => ⟨S4096x1024, .bf16⟩
  | 11 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c : Ref sig .tc := ⟨.hbm, 124, rfl⟩
abbrev main_call2_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_call3_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]
-- ==== KernelFfn1Fwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S16x352x1024 : Shape := ⟨3, ![16, 352, 1024]⟩
abbrev S_ : Shape := ⟨0, ![]⟩
abbrev S16x384x1024 : Shape := ⟨3, ![16, 384, 1024]⟩
abbrev S8x768x1024 : Shape := ⟨3, ![8, 768, 1024]⟩
abbrev S8x352x1024 : Shape := ⟨3, ![8, 352, 1024]⟩
abbrev S8x384x1024 : Shape := ⟨3, ![8, 384, 1024]⟩
abbrev S4x768x1024 : Shape := ⟨3, ![4, 768, 1024]⟩
abbrev S2x4x4096x768 : Shape := ⟨4, ![2, 4, 4096, 768]⟩
abbrev S512x1024 : Shape := ⟨2, ![512, 1024]⟩
abbrev S1x768x1024 : Shape := ⟨3, ![1, 768, 1024]⟩
abbrev S2x1x512x768 : Shape := ⟨4, ![2, 1, 512, 768]⟩
abbrev S512 : Shape := ⟨1, ![512]⟩
abbrev S512x1 : Shape := ⟨2, ![512, 1]⟩
abbrev S256x1024 : Shape := ⟨2, ![256, 1024]⟩
abbrev S768x1024 : Shape := ⟨2, ![768, 1024]⟩
abbrev S256x768 : Shape := ⟨2, ![256, 768]⟩
abbrev S1x1x256x768 : Shape := ⟨4, ![1, 1, 256, 768]⟩

abbrev nBuf : Space → Nat
  | .hbm => 22
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S5632x1024, .f32⟩
  | .hbm, ⟨6, _⟩ => ⟨S16x352x1024, .f32⟩
  | .hbm, ⟨7, _⟩ => ⟨S_, .i32⟩
  | .hbm, ⟨8, _⟩ => ⟨S_, .f32⟩
  | .hbm, ⟨9, _⟩ => ⟨S16x384x1024, .f32⟩
  | .hbm, ⟨10, _⟩ => ⟨S8x768x1024, .f32⟩
  | .hbm, ⟨11, _⟩ => ⟨S8x768x1024, .bf16⟩
  | .hbm, ⟨12, _⟩ => ⟨S8x352x1024, .f32⟩
  | .hbm, ⟨13, _⟩ => ⟨S_, .i32⟩
  | .hbm, ⟨14, _⟩ => ⟨S_, .f32⟩
  | .hbm, ⟨15, _⟩ => ⟨S8x384x1024, .f32⟩
  | .hbm, ⟨16, _⟩ => ⟨S4x768x1024, .f32⟩
  | .hbm, ⟨17, _⟩ => ⟨S4x768x1024, .bf16⟩
  | .hbm, ⟨18, _⟩ => ⟨S2x4x4096x768, .bf16⟩
  | .hbm, ⟨19, _⟩ => ⟨S4096x1024, .f32⟩
  | .hbm, ⟨20, _⟩ => ⟨S4096x1024, .f32⟩
  | .hbm, ⟨21, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1x768x1024, .bf16⟩
  | .local _ .vmem, ⟨9, _⟩ => ⟨S1x1024, .f32⟩
  | .local _ .vmem, ⟨10, _⟩ => ⟨S2x1x512x768, .bf16⟩
  | .local _ .vmem, ⟨11, _⟩ => ⟨S2x1x512x768, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_53 : BitVec 32 := 0#32
  let v71 : BitVec 1 := Scalar.cmpi .ne v70 c0_i32_53
  v71

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceFfn1FwdIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x16x352 : Shape := ⟨3, ![4096, 16, 352]⟩
abbrev S4096x16x384 : Shape := ⟨3, ![4096, 16, 384]⟩
abbrev S4096x8x768 : Shape := ⟨3, ![4096, 8, 768]⟩
abbrev S8x4096x768 : Shape := ⟨3, ![8, 4096, 768]⟩
abbrev S2x4x4096x768 : Shape := ⟨4, ![2, 4, 4096, 768]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x16x352, .f32⟩
  | .hbm, ⟨54, _⟩ => ⟨S_, .i32⟩
  | .hbm, ⟨55, _⟩ => ⟨S_, .f32⟩
  | .hbm, ⟨56, _⟩ => ⟨S4096x16x384, .f32⟩
  | .hbm, ⟨57, _⟩ => ⟨S4096x8x768, .f32⟩
  | .hbm, ⟨58, _⟩ => ⟨S8x4096x768, .f32⟩
  | .hbm, ⟨59, _⟩ => ⟨S8x4096x768, .bf16⟩
  | .hbm, ⟨60, _⟩ => ⟨S2x4x4096x768, .bf16⟩
  | .hbm, ⟨61, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== KernelFfn2Fwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S16x352x1024 : Shape := ⟨3, ![16, 352, 1024]⟩
abbrev S_ : Shape := ⟨0, ![]⟩
abbrev S16x384x1024 : Shape := ⟨3, ![16, 384, 1024]⟩
abbrev S8x768x1024 : Shape := ⟨3, ![8, 768, 1024]⟩
abbrev S8x352x1024 : Shape := ⟨3, ![8, 352, 1024]⟩
abbrev S8x384x1024 : Shape := ⟨3, ![8, 384, 1024]⟩
abbrev S4x768x1024 : Shape := ⟨3, ![4, 768, 1024]⟩
abbrev S2x4x4096x768 : Shape := ⟨4, ![2, 4, 4096, 768]⟩
abbrev S64x128 : Shape := ⟨2, ![64, 128]⟩
abbrev S512x1024 : Shape := ⟨2, ![512, 1024]⟩
abbrev S1x768x1024 : Shape := ⟨3, ![1, 768, 1024]⟩
abbrev S2x1x512x768 : Shape := ⟨4, ![2, 1, 512, 768]⟩
abbrev S8x128 : Shape := ⟨2, ![8, 128]⟩
abbrev S512 : Shape := ⟨1, ![512]⟩
abbrev S512x1 : Shape := ⟨2, ![512, 1]⟩
abbrev S256x1024 : Shape := ⟨2, ![256, 1024]⟩
abbrev S768x1024 : Shape := ⟨2, ![768, 1024]⟩
abbrev S256x768 : Shape := ⟨2, ![256, 768]⟩
abbrev S1x1x256x768 : Shape := ⟨4, ![1, 1, 256, 768]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 25
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S16x352x1024, .f32⟩
  | .hbm, ⟨8, _⟩ => ⟨S_, .i32⟩
  | .hbm, ⟨9, _⟩ => ⟨S_, .f32⟩
  | .hbm, ⟨10, _⟩ => ⟨S16x384x1024, .f32⟩
  | .hbm, ⟨11, _⟩ => ⟨S8x768x1024, .f32⟩
  | .hbm, ⟨12, _⟩ => ⟨S8x768x1024, .bf16⟩
  | .hbm, ⟨13, _⟩ => ⟨S8x352x1024, .f32⟩
  | .hbm, ⟨14, _⟩ => ⟨S_, .i32⟩
  | .hbm, ⟨15, _⟩ => ⟨S_, .f32⟩
  | .hbm, ⟨16, _⟩ => ⟨S8x384x1024, .f32⟩
  | .hbm, ⟨17, _⟩ => ⟨S4x768x1024, .f32⟩
  | .hbm, ⟨18, _⟩ => ⟨S4x768x1024, .bf16⟩
  | .hbm, ⟨19, _⟩ => ⟨S2x4x4096x768, .bf16⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S64x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1x768x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S2x1x512x768, .bf16⟩
  | .local _ .vmem, ⟨13, _⟩ => ⟨S2x1x512x768, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S8x128, .f32⟩
  | .local _ .vmem, ⟨23, _⟩ => ⟨S8x128, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_53 : BitVec 32 := 0#32
  let v71 : BitVec 1 := Scalar.cmpi .ne v70 c0_i32_53
  v71

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceFfn2FwdIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x512x1024 : Shape := ⟨3, ![8, 512, 1024]⟩
abbrev S8x512 : Shape := ⟨2, ![8, 512]⟩
abbrev S8 : Shape := ⟨1, ![8]⟩
abbrev S8x1x1 : Shape := ⟨3, ![8, 1, 1]⟩
abbrev S8x8x128 : Shape := ⟨3, ![8, 8, 128]⟩
abbrev S64x128 : Shape := ⟨2, ![64, 128]⟩
abbrev S4096x16x352 : Shape := ⟨3, ![4096, 16, 352]⟩
abbrev S4096x16x384 : Shape := ⟨3, ![4096, 16, 384]⟩
abbrev S4096x8x768 : Shape := ⟨3, ![4096, 8, 768]⟩
abbrev S8x4096x768 : Shape := ⟨3, ![8, 4096, 768]⟩
abbrev S2x4x4096x768 : Shape := ⟨4, ![2, 4, 4096, 768]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S8x512x1024, .f32⟩
  | .hbm, ⟨60, _⟩ => ⟨S_, .f32⟩
  | .hbm, ⟨61, _⟩ => ⟨S8x512, .f32⟩
  | .hbm, ⟨62, _⟩ => ⟨S_, .f32⟩
  | .hbm, ⟨63, _⟩ => ⟨S8x512, .f32⟩
  | .hbm, ⟨64, _⟩ => ⟨S8x512, .f32⟩
  | .hbm, ⟨65, _⟩ => ⟨S_, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x512, .f32⟩
  | .hbm, ⟨76, _⟩ => ⟨S_, .f32⟩
  | .hbm, ⟨77, _⟩ => ⟨S8x512, .f32⟩
  | .hbm, ⟨78, _⟩ => ⟨S8x512, .f32⟩
  | .hbm, ⟨79, _⟩ => ⟨S8x512x1024, .f32⟩
  | .hbm, ⟨80, _⟩ => ⟨S4096x1024, .f32⟩
  | .hbm, ⟨81, _⟩ => ⟨S4096x1024, .f32⟩
  | .hbm, ⟨82, _⟩ => ⟨S8x1x1, .f32⟩
  | .hbm, ⟨83, _⟩ => ⟨S8x8x128, .f32⟩
  | .hbm, ⟨84, _⟩ => ⟨S64x128, .f32⟩
  | .hbm, ⟨85, _⟩ => ⟨S4096x16x352, .f32⟩
  | .hbm, ⟨86, _⟩ => ⟨S_, .i32⟩
  | .hbm, ⟨87, _⟩ => ⟨S_, .f32⟩
  | .hbm, ⟨88, _⟩ => ⟨S4096x16x384, .f32⟩
  | .hbm, ⟨89, _⟩ => ⟨S4096x8x768, .f32⟩
  | .hbm, ⟨90, _⟩ => ⟨S8x4096x768, .f32⟩
  | .hbm, ⟨91, _⟩ => ⟨S8x4096x768, .bf16⟩
  | .hbm, ⟨92, _⟩ => ⟨S2x4x4096x768, .bf16⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c : Ref sig .tc := ⟨.hbm, 86, rfl⟩
abbrev main_call1_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== KernelProjBwd.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S5120x1024 : Shape := ⟨2, ![5120, 1024]⟩
abbrev S1024x2560 : Shape := ⟨2, ![1024, 2560]⟩
abbrev S2560x1024 : Shape := ⟨2, ![2560, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x5120, .bf16⟩
  | .hbm, ⟨6, _⟩ => ⟨S5120x1024, .f32⟩
  | .hbm, ⟨7, _⟩ => ⟨S5120x1024, .bf16⟩
  | .hbm, ⟨8, _⟩ => ⟨S4096x1024, .f32⟩
  | .hbm, ⟨9, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceProjBwdIdeal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5120, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelAdamW1.lean ====
abbrev S2x352x1024 : Shape := ⟨3, ![2, 352, 1024]⟩
abbrev S8x2x352x1024 : Shape := ⟨4, ![8, 2, 352, 1024]⟩
abbrev S_ : Shape := ⟨0, ![]⟩
abbrev S8x2x384x1024 : Shape := ⟨4, ![8, 2, 384, 1024]⟩
abbrev S8x128 : Shape := ⟨2, ![8, 128]⟩
abbrev S1x352x512 : Shape := ⟨3, ![1, 352, 512]⟩
abbrev S8x1x352x512 : Shape := ⟨4, ![8, 1, 352, 512]⟩
abbrev S1x1x352x512 : Shape := ⟨4, ![1, 1, 352, 512]⟩
abbrev S352x512 : Shape := ⟨2, ![352, 512]⟩

abbrev nBuf : Space → Nat
  | .hbm => 14
  | .vmem => 17
  | .smem => 0
  | _ => 0

abbrev bufTy : (tb : Table) → Fin (tcTables nBuf tb) → BufTy
  | .hbm, ⟨0, _⟩ => ⟨S2x352x1024, .f32⟩
  | .hbm, ⟨1, _⟩ => ⟨S8x2x352x1024, .f32⟩
  | .hbm, ⟨2, _⟩ => ⟨S2x352x1024, .f32⟩
  | .hbm, ⟨3, _⟩ => ⟨S2x352x1024, .f32⟩
  | .hbm, ⟨4, _⟩ => ⟨S_, .i32⟩
  | .hbm, ⟨5, _⟩ => ⟨S_, .f32⟩
  | .hbm, ⟨6, _⟩ => ⟨S8x2x384x1024, .f32⟩
  | .hbm, ⟨7, _⟩ => ⟨S8x2x384x1024, .bf16⟩
  | .hbm, ⟨8, _⟩ => ⟨S_, .f32⟩
  | .hbm, ⟨9, _⟩ => ⟨S8x128, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .local _ .vmem, ⟨0, _⟩ => ⟨S1x352x512, .f32⟩
  | .local _ .vmem, ⟨1, _⟩ => ⟨S1x352x512, .f32⟩
  | .local _ .vmem, ⟨2, _⟩ => ⟨S8x1x352x512, .bf16⟩
  | .local _ .vmem, ⟨3, _⟩ => ⟨S8x1x352x512, .bf16⟩
  | .local _ .vmem, ⟨4, _⟩ => ⟨S1x352x512, .f32⟩
  | .local _ .vmem, ⟨5, _⟩ => ⟨S1x352x512, .f32⟩
  | .local _ .vmem, ⟨6, _⟩ => ⟨S1x352x512, .f32⟩
  | .local _ .vmem, ⟨7, _⟩ => ⟨S1x352x512, .f32⟩
  | .local _ .vmem, ⟨8, _⟩ => ⟨S8x128, .f32⟩
  | .local _ .vmem, ⟨9, _⟩ => ⟨S1x352x512, .f32⟩
  | .local _ .vmem, ⟨10, _⟩ => ⟨S1x352x512, .f32⟩
  | .local _ .vmem, ⟨11, _⟩ => ⟨S1x352x512, .f32⟩
  | .local _ .vmem, ⟨12, _⟩ => ⟨S1x352x512, .f32⟩
  | .local _ .vmem, ⟨13, _⟩ => ⟨S1x352x512, .f32⟩
  | .local _ .vmem, ⟨14, _⟩ => ⟨S1x352x512, .f32⟩
  | .local _ .vmem, ⟨15, _⟩ => ⟨S1x352x512, .f32⟩
  | .local _ .vmem, ⟨16, _⟩ => ⟨S1x352x512, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAdamW1Ideal.lean ====
abbrev S2x352x1024 : Shape := ⟨3, ![2, 352, 1024]⟩
abbrev S8x2x352x1024 : Shape := ⟨4, ![8, 2, 352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S8x2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S_, .f32⟩
  | .hbm, ⟨7, _⟩ => ⟨S2x352x1024, .f32⟩
  | .hbm, ⟨8, _⟩ => ⟨S2x352x1024, .f32⟩
  | .hbm, ⟨9, _⟩ => ⟨S_, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S_, .f32⟩
  | .hbm, ⟨14, _⟩ => ⟨S2x352x1024, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S_, .f32⟩
  | .hbm, ⟨25, _⟩ => ⟨S2x352x1024, .f32⟩
  | .hbm, ⟨26, _⟩ => ⟨S2x352x1024, .f32⟩
  | .hbm, ⟨27, _⟩ => ⟨S2x352x1024, .f32⟩
  | .hbm, ⟨28, _⟩ => ⟨S_, .f32⟩
  | .hbm, ⟨29, _⟩ => ⟨S2x352x1024, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamW2.lean ====
abbrev S1x352x1024 : Shape := ⟨3, ![1, 352, 1024]⟩
abbrev S8x1x352x1024 : Shape := ⟨4, ![8, 1, 352, 1024]⟩
abbrev S_ : Shape := ⟨0, ![]⟩
abbrev S8x1x384x1024 : Shape := ⟨4, ![8, 1, 384, 1024]⟩
abbrev S8x128 : Shape := ⟨2, ![8, 128]⟩
abbrev S1x352x512 : Shape := ⟨3, ![1, 352, 512]⟩
abbrev S8x1x352x512 : Shape := ⟨4, ![8, 1, 352, 512]⟩
abbrev S1x1x352x512 : Shape := ⟨4, ![1, 1, 352, 512]⟩
abbrev S352x512 : Shape := ⟨2, ![352, 512]⟩

abbrev nBuf : Space → Nat
  | .hbm => 14
  | .vmem => 17
  | .smem => 0
  | _ => 0

abbrev bufTy : (tb : Table) → Fin (tcTables nBuf tb) → BufTy
  | .hbm, ⟨0, _⟩ => ⟨S1x352x1024, .f32⟩
  | .hbm, ⟨1, _⟩ => ⟨S8x1x352x1024, .f32⟩
  | .hbm, ⟨2, _⟩ => ⟨S1x352x1024, .f32⟩
  | .hbm, ⟨3, _⟩ => ⟨S1x352x1024, .f32⟩
  | .hbm, ⟨4, _⟩ => ⟨S_, .i32⟩
  | .hbm, ⟨5, _⟩ => ⟨S_, .f32⟩
  | .hbm, ⟨6, _⟩ => ⟨S8x1x384x1024, .f32⟩
  | .hbm, ⟨7, _⟩ => ⟨S8x1x384x1024, .bf16⟩
  | .hbm, ⟨8, _⟩ => ⟨S_, .f32⟩
  | .hbm, ⟨9, _⟩ => ⟨S8x128, .f32⟩
  | .hbm, ⟨10, _⟩ => ⟨S1x352x1024, .f32⟩
  | .hbm, ⟨11, _⟩ => ⟨S1x352x1024, .f32⟩
  | .hbm, ⟨12, _⟩ => ⟨S1x352x1024, .f32⟩
  | .hbm, ⟨13, _⟩ => ⟨S1x352x1024, .f32⟩
  | .local _ .vmem, ⟨0, _⟩ => ⟨S1x352x512, .f32⟩
  | .local _ .vmem, ⟨1, _⟩ => ⟨S1x352x512, .f32⟩
  | .local _ .vmem, ⟨2, _⟩ => ⟨S8x1x352x512, .bf16⟩
  | .local _ .vmem, ⟨3, _⟩ => ⟨S8x1x352x512, .bf16⟩
  | .local _ .vmem, ⟨4, _⟩ => ⟨S1x352x512, .f32⟩
  | .local _ .vmem, ⟨5, _⟩ => ⟨S1x352x512, .f32⟩
  | .local _ .vmem, ⟨6, _⟩ => ⟨S1x352x512, .f32⟩
  | .local _ .vmem, ⟨7, _⟩ => ⟨S1x352x512, .f32⟩
  | .local _ .vmem, ⟨8, _⟩ => ⟨S8x128, .f32⟩
  | .local _ .vmem, ⟨9, _⟩ => ⟨S1x352x512, .f32⟩
  | .local _ .vmem, ⟨10, _⟩ => ⟨S1x352x512, .f32⟩
  | .local _ .vmem, ⟨11, _⟩ => ⟨S1x352x512, .f32⟩
  | .local _ .vmem, ⟨12, _⟩ => ⟨S1x352x512, .f32⟩
  | .local _ .vmem, ⟨13, _⟩ => ⟨S1x352x512, .f32⟩
  | .local _ .vmem, ⟨14, _⟩ => ⟨S1x352x512, .f32⟩
  | .local _ .vmem, ⟨15, _⟩ => ⟨S1x352x512, .f32⟩
  | .local _ .vmem, ⟨16, _⟩ => ⟨S1x352x512, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAdamW2Ideal.lean ====
abbrev S1x352x1024 : Shape := ⟨3, ![1, 352, 1024]⟩
abbrev S8x1x352x1024 : Shape := ⟨4, ![8, 1, 352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S1x352x1024, .f32⟩
  | .hbm, ⟨6, _⟩ => ⟨S_, .f32⟩
  | .hbm, ⟨7, _⟩ => ⟨S1x352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S1x352x1024, .f32⟩
  | .hbm, ⟨13, _⟩ => ⟨S_, .f32⟩
  | .hbm, ⟨14, _⟩ => ⟨S1x352x1024, .f32⟩
  | .hbm, ⟨15, _⟩ => ⟨S1x352x1024, .f32⟩
  | .hbm, ⟨16, _⟩ => ⟨S1x352x1024, .f32⟩
  | .hbm, ⟨17, _⟩ => ⟨S_, .f32⟩
  | .hbm, ⟨18, _⟩ => ⟨S1x352x1024, .f32⟩
  | .hbm, ⟨19, _⟩ => ⟨S1x352x1024, .f32⟩
  | .hbm, ⟨20, _⟩ => ⟨S1x352x1024, .f32⟩
  | .hbm, ⟨21, _⟩ => ⟨S_, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S1x352x1024, .f32⟩
  | .hbm, ⟨28, _⟩ => ⟨S_, .f32⟩
  | .hbm, ⟨29, _⟩ => ⟨S1x352x1024, .f32⟩
  | .hbm, ⟨30, _⟩ => ⟨S1x352x1024, .f32⟩
  | .hbm, ⟨31, _⟩ => ⟨S1x352x1024, .f32⟩
  | .hbm, ⟨32, _⟩ => ⟨S_, .f32⟩
  | .hbm, ⟨33, _⟩ => ⟨S1x352x1024, .f32⟩
  | .hbm, ⟨34, _⟩ => ⟨S1x352x1024, .f32⟩
  | .hbm, ⟨35, _⟩ => ⟨S1x352x1024, .f32⟩
  | .hbm, ⟨36, _⟩ => ⟨S_, .f32⟩
  | .hbm, ⟨37, _⟩ => ⟨S1x352x1024, .f32⟩
  | .hbm, ⟨38, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamIn.lean ====
abbrev S1x532x1024 : Shape := ⟨3, ![1, 532, 1024]⟩
abbrev S8x1x532x1024 : Shape := ⟨4, ![8, 1, 532, 1024]⟩
abbrev S_ : Shape := ⟨0, ![]⟩
abbrev S8x128 : Shape := ⟨2, ![8, 128]⟩
abbrev S1x532x512 : Shape := ⟨3, ![1, 532, 512]⟩
abbrev S8x1x532x512 : Shape := ⟨4, ![8, 1, 532, 512]⟩
abbrev S1x1x532x512 : Shape := ⟨4, ![1, 1, 532, 512]⟩
abbrev S532x512 : Shape := ⟨2, ![532, 512]⟩

abbrev nBuf : Space → Nat
  | .hbm => 11
  | .vmem => 17
  | .smem => 0
  | _ => 0

abbrev bufTy : (tb : Table) → Fin (tcTables nBuf tb) → BufTy
  | .hbm, ⟨0, _⟩ => ⟨S1x532x1024, .f32⟩
  | .hbm, ⟨1, _⟩ => ⟨S8x1x532x1024, .f32⟩
  | .hbm, ⟨2, _⟩ => ⟨S1x532x1024, .f32⟩
  | .hbm, ⟨3, _⟩ => ⟨S1x532x1024, .f32⟩
  | .hbm, ⟨4, _⟩ => ⟨S8x1x532x1024, .bf16⟩
  | .hbm, ⟨5, _⟩ => ⟨S_, .f32⟩
  | .hbm, ⟨6, _⟩ => ⟨S8x128, .f32⟩
  | .hbm, ⟨7, _⟩ => ⟨S1x532x1024, .f32⟩
  | .hbm, ⟨8, _⟩ => ⟨S1x532x1024, .f32⟩
  | .hbm, ⟨9, _⟩ => ⟨S1x532x1024, .f32⟩
  | .hbm, ⟨10, _⟩ => ⟨S1x532x1024, .f32⟩
  | .local _ .vmem, ⟨0, _⟩ => ⟨S1x532x512, .f32⟩
  | .local _ .vmem, ⟨1, _⟩ => ⟨S1x532x512, .f32⟩
  | .local _ .vmem, ⟨2, _⟩ => ⟨S8x1x532x512, .bf16⟩
  | .local _ .vmem, ⟨3, _⟩ => ⟨S8x1x532x512, .bf16⟩
  | .local _ .vmem, ⟨4, _⟩ => ⟨S1x532x512, .f32⟩
  | .local _ .vmem, ⟨5, _⟩ => ⟨S1x532x512, .f32⟩
  | .local _ .vmem, ⟨6, _⟩ => ⟨S1x532x512, .f32⟩
  | .local _ .vmem, ⟨7, _⟩ => ⟨S1x532x512, .f32⟩
  | .local _ .vmem, ⟨8, _⟩ => ⟨S8x128, .f32⟩
  | .local _ .vmem, ⟨9, _⟩ => ⟨S1x532x512, .f32⟩
  | .local _ .vmem, ⟨10, _⟩ => ⟨S1x532x512, .f32⟩
  | .local _ .vmem, ⟨11, _⟩ => ⟨S1x532x512, .f32⟩
  | .local _ .vmem, ⟨12, _⟩ => ⟨S1x532x512, .f32⟩
  | .local _ .vmem, ⟨13, _⟩ => ⟨S1x532x512, .f32⟩
  | .local _ .vmem, ⟨14, _⟩ => ⟨S1x532x512, .f32⟩
  | .local _ .vmem, ⟨15, _⟩ => ⟨S1x532x512, .f32⟩
  | .local _ .vmem, ⟨16, _⟩ => ⟨S1x532x512, .f32⟩
  | _, _ => ⟨S1x532x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x532x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x532x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x532x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x532x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x532x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x532x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x532x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x532x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelAdamInIdeal.lean ====
abbrev S1x532x1024 : Shape := ⟨3, ![1, 532, 1024]⟩
abbrev S8x1x532x1024 : Shape := ⟨4, ![8, 1, 532, 1024]⟩
abbrev S_ : Shape := ⟨0, ![]⟩
abbrev S8x128 : Shape := ⟨2, ![8, 128]⟩
abbrev S1x532x512 : Shape := ⟨3, ![1, 532, 512]⟩
abbrev S8x1x532x512 : Shape := ⟨4, ![8, 1, 532, 512]⟩
abbrev S1x1x532x512 : Shape := ⟨4, ![1, 1, 532, 512]⟩
abbrev S532x512 : Shape := ⟨2, ![532, 512]⟩

abbrev nBuf : Space → Nat
  | .hbm => 11
  | .vmem => 17
  | .smem => 0
  | _ => 0

abbrev bufTy : (tb : Table) → Fin (tcTables nBuf tb) → BufTy
  | .hbm, ⟨0, _⟩ => ⟨S1x532x1024, .f32⟩
  | .hbm, ⟨1, _⟩ => ⟨S8x1x532x1024, .f32⟩
  | .hbm, ⟨2, _⟩ => ⟨S1x532x1024, .f32⟩
  | .hbm, ⟨3, _⟩ => ⟨S1x532x1024, .f32⟩
  | .hbm, ⟨4, _⟩ => ⟨S8x1x532x1024, .bf16⟩
  | .hbm, ⟨5, _⟩ => ⟨S_, .f32⟩
  | .hbm, ⟨6, _⟩ => ⟨S8x128, .f32⟩
  | .hbm, ⟨7, _⟩ => ⟨S1x532x1024, .f32⟩
  | .hbm, ⟨8, _⟩ => ⟨S1x532x1024, .f32⟩
  | .hbm, ⟨9, _⟩ => ⟨S1x532x1024, .f32⟩
  | .hbm, ⟨10, _⟩ => ⟨S1x532x1024, .f32⟩
  | .local _ .vmem, ⟨0, _⟩ => ⟨S1x532x512, .f32⟩
  | .local _ .vmem, ⟨1, _⟩ => ⟨S1x532x512, .f32⟩
  | .local _ .vmem, ⟨2, _⟩ => ⟨S8x1x532x512, .bf16⟩
  | .local _ .vmem, ⟨3, _⟩ => ⟨S8x1x532x512, .bf16⟩
  | .local _ .vmem, ⟨4, _⟩ => ⟨S1x532x512, .f32⟩
  | .local _ .vmem, ⟨5, _⟩ => ⟨S1x532x512, .f32⟩
  | .local _ .vmem, ⟨6, _⟩ => ⟨S1x532x512, .f32⟩
  | .local _ .vmem, ⟨7, _⟩ => ⟨S1x532x512, .f32⟩
  | .local _ .vmem, ⟨8, _⟩ => ⟨S8x128, .f32⟩
  | .local _ .vmem, ⟨9, _⟩ => ⟨S1x532x512, .f32⟩
  | .local _ .vmem, ⟨10, _⟩ => ⟨S1x532x512, .f32⟩
  | .local _ .vmem, ⟨11, _⟩ => ⟨S1x532x512, .f32⟩
  | .local _ .vmem, ⟨12, _⟩ => ⟨S1x532x512, .f32⟩
  | .local _ .vmem, ⟨13, _⟩ => ⟨S1x532x512, .f32⟩
  | .local _ .vmem, ⟨14, _⟩ => ⟨S1x532x512, .f32⟩
  | .local _ .vmem, ⟨15, _⟩ => ⟨S1x532x512, .f32⟩
  | .local _ .vmem, ⟨16, _⟩ => ⟨S1x532x512, .f32⟩
  | _, _ => ⟨S1x532x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x532x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x532x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x532x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x532x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x532x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x532x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x532x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x532x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAdamInIdeal.lean ====
abbrev S1x532x1024 : Shape := ⟨3, ![1, 532, 1024]⟩
abbrev S8x1x532x1024 : Shape := ⟨4, ![8, 1, 532, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x532x1024, .f32⟩
  | .hbm, ⟨1, _⟩ => ⟨S8x1x532x1024, .f32⟩
  | .hbm, ⟨2, _⟩ => ⟨S1x532x1024, .f32⟩
  | .hbm, ⟨3, _⟩ => ⟨S1x532x1024, .f32⟩
  | .hbm, ⟨4, _⟩ => ⟨S_, .f32⟩
  | .hbm, ⟨5, _⟩ => ⟨S1x532x1024, .f32⟩
  | .hbm, ⟨6, _⟩ => ⟨S_, .f32⟩
  | .hbm, ⟨7, _⟩ => ⟨S1x532x1024, .f32⟩
  | .hbm, ⟨8, _⟩ => ⟨S1x532x1024, .f32⟩
  | .hbm, ⟨9, _⟩ => ⟨S_, .f32⟩
  | .hbm, ⟨10, _⟩ => ⟨S1x532x1024, .f32⟩
  | .hbm, ⟨11, _⟩ => ⟨S1x532x1024, .f32⟩
  | .hbm, ⟨12, _⟩ => ⟨S1x532x1024, .f32⟩
  | .hbm, ⟨13, _⟩ => ⟨S_, .f32⟩
  | .hbm, ⟨14, _⟩ => ⟨S1x532x1024, .f32⟩
  | .hbm, ⟨15, _⟩ => ⟨S1x532x1024, .f32⟩
  | .hbm, ⟨16, _⟩ => ⟨S1x532x1024, .f32⟩
  | .hbm, ⟨17, _⟩ => ⟨S_, .f32⟩
  | .hbm, ⟨18, _⟩ => ⟨S1x532x1024, .f32⟩
  | .hbm, ⟨19, _⟩ => ⟨S1x532x1024, .f32⟩
  | .hbm, ⟨20, _⟩ => ⟨S1x532x1024, .f32⟩
  | .hbm, ⟨21, _⟩ => ⟨S_, .f32⟩
  | .hbm, ⟨22, _⟩ => ⟨S1x532x1024, .f32⟩
  | .hbm, ⟨23, _⟩ => ⟨S1x532x1024, .f32⟩
  | .hbm, ⟨24, _⟩ => ⟨S_, .f32⟩
  | .hbm, ⟨25, _⟩ => ⟨S1x532x1024, .f32⟩
  | .hbm, ⟨26, _⟩ => ⟨S1x532x1024, .f32⟩
  | .hbm, ⟨27, _⟩ => ⟨S1x532x1024, .f32⟩
  | .hbm, ⟨28, _⟩ => ⟨S_, .f32⟩
  | .hbm, ⟨29, _⟩ => ⟨S1x532x1024, .f32⟩
  | .hbm, ⟨30, _⟩ => ⟨S1x532x1024, .f32⟩
  | .hbm, ⟨31, _⟩ => ⟨S1x532x1024, .f32⟩
  | .hbm, ⟨32, _⟩ => ⟨S_, .f32⟩
  | .hbm, ⟨33, _⟩ => ⟨S1x532x1024, .f32⟩
  | .hbm, ⟨34, _⟩ => ⟨S1x532x1024, .f32⟩
  | .hbm, ⟨35, _⟩ => ⟨S1x532x1024, .f32⟩
  | .hbm, ⟨36, _⟩ => ⟨S_, .f32⟩
  | .hbm, ⟨37, _⟩ => ⟨S1x532x1024, .f32⟩
  | .hbm, ⟨38, _⟩ => ⟨S1x532x1024, .f32⟩
  | _, _ => ⟨S1x532x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamUq.lean ====
abbrev S1x96x384 : Shape := ⟨3, ![1, 96, 384]⟩
abbrev S8x1x96x384 : Shape := ⟨4, ![8, 1, 96, 384]⟩
abbrev S_ : Shape := ⟨0, ![]⟩
abbrev S8x128 : Shape := ⟨2, ![8, 128]⟩
abbrev S1x1x96x384 : Shape := ⟨4, ![1, 1, 96, 384]⟩
abbrev S96x384 : Shape := ⟨2, ![96, 384]⟩

abbrev nBuf : Space → Nat
  | .hbm => 11
  | .vmem => 9
  | .smem => 0
  | _ => 0

abbrev bufTy : (tb : Table) → Fin (tcTables nBuf tb) → BufTy
  | .hbm, ⟨0, _⟩ => ⟨S1x96x384, .f32⟩
  | .hbm, ⟨1, _⟩ => ⟨S8x1x96x384, .f32⟩
  | .hbm, ⟨2, _⟩ => ⟨S1x96x384, .f32⟩
  | .hbm, ⟨3, _⟩ => ⟨S1x96x384, .f32⟩
  | .hbm, ⟨4, _⟩ => ⟨S8x1x96x384, .bf16⟩
  | .hbm, ⟨5, _⟩ => ⟨S_, .f32⟩
  | .hbm, ⟨6, _⟩ => ⟨S8x128, .f32⟩
  | .hbm, ⟨7, _⟩ => ⟨S1x96x384, .f32⟩
  | .hbm, ⟨8, _⟩ => ⟨S1x96x384, .f32⟩
  | .hbm, ⟨9, _⟩ => ⟨S1x96x384, .f32⟩
  | .hbm, ⟨10, _⟩ => ⟨S1x96x384, .f32⟩
  | .local _ .vmem, ⟨0, _⟩ => ⟨S1x96x384, .f32⟩
  | .local _ .vmem, ⟨1, _⟩ => ⟨S8x1x96x384, .bf16⟩
  | .local _ .vmem, ⟨2, _⟩ => ⟨S1x96x384, .f32⟩
  | .local _ .vmem, ⟨3, _⟩ => ⟨S1x96x384, .f32⟩
  | .local _ .vmem, ⟨4, _⟩ => ⟨S8x128, .f32⟩
  | .local _ .vmem, ⟨5, _⟩ => ⟨S1x96x384, .f32⟩
  | .local _ .vmem, ⟨6, _⟩ => ⟨S1x96x384, .f32⟩
  | .local _ .vmem, ⟨7, _⟩ => ⟨S1x96x384, .f32⟩
  | .local _ .vmem, ⟨8, _⟩ => ⟨S1x96x384, .f32⟩
  | _, _ => ⟨S1x96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x96x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x96x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x96x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x96x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== KernelAdamUqIdeal.lean ====
abbrev S1x96x384 : Shape := ⟨3, ![1, 96, 384]⟩
abbrev S8x1x96x384 : Shape := ⟨4, ![8, 1, 96, 384]⟩
abbrev S_ : Shape := ⟨0, ![]⟩
abbrev S8x128 : Shape := ⟨2, ![8, 128]⟩
abbrev S1x1x96x384 : Shape := ⟨4, ![1, 1, 96, 384]⟩
abbrev S96x384 : Shape := ⟨2, ![96, 384]⟩

abbrev nBuf : Space → Nat
  | .hbm => 11
  | .vmem => 9
  | .smem => 0
  | _ => 0

abbrev bufTy : (tb : Table) → Fin (tcTables nBuf tb) → BufTy
  | .hbm, ⟨0, _⟩ => ⟨S1x96x384, .f32⟩
  | .hbm, ⟨1, _⟩ => ⟨S8x1x96x384, .f32⟩
  | .hbm, ⟨2, _⟩ => ⟨S1x96x384, .f32⟩
  | .hbm, ⟨3, _⟩ => ⟨S1x96x384, .f32⟩
  | .hbm, ⟨4, _⟩ => ⟨S8x1x96x384, .bf16⟩
  | .hbm, ⟨5, _⟩ => ⟨S_, .f32⟩
  | .hbm, ⟨6, _⟩ => ⟨S8x128, .f32⟩
  | .hbm, ⟨7, _⟩ => ⟨S1x96x384, .f32⟩
  | .hbm, ⟨8, _⟩ => ⟨S1x96x384, .f32⟩
  | .hbm, ⟨9, _⟩ => ⟨S1x96x384, .f32⟩
  | .hbm, ⟨10, _⟩ => ⟨S1x96x384, .f32⟩
  | .local _ .vmem, ⟨0, _⟩ => ⟨S1x96x384, .f32⟩
  | .local _ .vmem, ⟨1, _⟩ => ⟨S8x1x96x384, .bf16⟩
  | .local _ .vmem, ⟨2, _⟩ => ⟨S1x96x384, .f32⟩
  | .local _ .vmem, ⟨3, _⟩ => ⟨S1x96x384, .f32⟩
  | .local _ .vmem, ⟨4, _⟩ => ⟨S8x128, .f32⟩
  | .local _ .vmem, ⟨5, _⟩ => ⟨S1x96x384, .f32⟩
  | .local _ .vmem, ⟨6, _⟩ => ⟨S1x96x384, .f32⟩
  | .local _ .vmem, ⟨7, _⟩ => ⟨S1x96x384, .f32⟩
  | .local _ .vmem, ⟨8, _⟩ => ⟨S1x96x384, .f32⟩
  | _, _ => ⟨S1x96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x96x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x96x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x96x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x96x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== ReferenceAdamUqIdeal.lean ====
abbrev S1x96x384 : Shape := ⟨3, ![1, 96, 384]⟩
abbrev S8x1x96x384 : Shape := ⟨4, ![8, 1, 96, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x96x384, .f32⟩
  | .hbm, ⟨1, _⟩ => ⟨S8x1x96x384, .f32⟩
  | .hbm, ⟨2, _⟩ => ⟨S1x96x384, .f32⟩
  | .hbm, ⟨3, _⟩ => ⟨S1x96x384, .f32⟩
  | .hbm, ⟨4, _⟩ => ⟨S_, .f32⟩
  | .hbm, ⟨5, _⟩ => ⟨S1x96x384, .f32⟩
  | .hbm, ⟨6, _⟩ => ⟨S_, .f32⟩
  | .hbm, ⟨7, _⟩ => ⟨S1x96x384, .f32⟩
  | .hbm, ⟨8, _⟩ => ⟨S1x96x384, .f32⟩
  | .hbm, ⟨9, _⟩ => ⟨S_, .f32⟩
  | .hbm, ⟨10, _⟩ => ⟨S1x96x384, .f32⟩
  | .hbm, ⟨11, _⟩ => ⟨S1x96x384, .f32⟩
  | .hbm, ⟨12, _⟩ => ⟨S1x96x384, .f32⟩
  | .hbm, ⟨13, _⟩ => ⟨S_, .f32⟩
  | .hbm, ⟨14, _⟩ => ⟨S1x96x384, .f32⟩
  | .hbm, ⟨15, _⟩ => ⟨S1x96x384, .f32⟩
  | .hbm, ⟨16, _⟩ => ⟨S1x96x384, .f32⟩
  | .hbm, ⟨17, _⟩ => ⟨S_, .f32⟩
  | .hbm, ⟨18, _⟩ => ⟨S1x96x384, .f32⟩
  | .hbm, ⟨19, _⟩ => ⟨S1x96x384, .f32⟩
  | .hbm, ⟨20, _⟩ => ⟨S1x96x384, .f32⟩
  | .hbm, ⟨21, _⟩ => ⟨S_, .f32⟩
  | .hbm, ⟨22, _⟩ => ⟨S1x96x384, .f32⟩
  | .hbm, ⟨23, _⟩ => ⟨S1x96x384, .f32⟩
  | .hbm, ⟨24, _⟩ => ⟨S_, .f32⟩
  | .hbm, ⟨25, _⟩ => ⟨S1x96x384, .f32⟩
  | .hbm, ⟨26, _⟩ => ⟨S1x96x384, .f32⟩
  | .hbm, ⟨27, _⟩ => ⟨S1x96x384, .f32⟩
  | .hbm, ⟨28, _⟩ => ⟨S_, .f32⟩
  | .hbm, ⟨29, _⟩ => ⟨S1x96x384, .f32⟩
  | .hbm, ⟨30, _⟩ => ⟨S1x96x384, .f32⟩
  | .hbm, ⟨31, _⟩ => ⟨S1x96x384, .f32⟩
  | .hbm, ⟨32, _⟩ => ⟨S_, .f32⟩
  | .hbm, ⟨33, _⟩ => ⟨S1x96x384, .f32⟩
  | .hbm, ⟨34, _⟩ => ⟨S1x96x384, .f32⟩
  | .hbm, ⟨35, _⟩ => ⟨S1x96x384, .f32⟩
  | .hbm, ⟨36, _⟩ => ⟨S_, .f32⟩
  | .hbm, ⟨37, _⟩ => ⟨S1x96x384, .f32⟩
  | .hbm, ⟨38, _⟩ => ⟨S1x96x384, .f32⟩
  | _, _ => ⟨S1x96x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamUkv.lean ====
abbrev S1x256x128 : Shape := ⟨3, ![1, 256, 128]⟩
abbrev S8x1x256x128 : Shape := ⟨4, ![8, 1, 256, 128]⟩
abbrev S_ : Shape := ⟨0, ![]⟩
abbrev S8x128 : Shape := ⟨2, ![8, 128]⟩
abbrev S1x1x256x128 : Shape := ⟨4, ![1, 1, 256, 128]⟩
abbrev S256x128 : Shape := ⟨2, ![256, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x256x128, .f32⟩
  | .hbm, ⟨1, _⟩ => ⟨S8x1x256x128, .f32⟩
  | .hbm, ⟨2, _⟩ => ⟨S1x256x128, .f32⟩
  | .hbm, ⟨3, _⟩ => ⟨S1x256x128, .f32⟩
  | .hbm, ⟨4, _⟩ => ⟨S8x1x256x128, .bf16⟩
  | .hbm, ⟨5, _⟩ => ⟨S_, .f32⟩
  | .hbm, ⟨6, _⟩ => ⟨S8x128, .f32⟩
  | .hbm, ⟨7, _⟩ => ⟨S1x256x128, .f32⟩
  | .hbm, ⟨8, _⟩ => ⟨S1x256x128, .f32⟩
  | .hbm, ⟨9, _⟩ => ⟨S1x256x128, .f32⟩
  | .hbm, ⟨10, _⟩ => ⟨S1x256x128, .f32⟩
  | .local _ .vmem, ⟨0, _⟩ => ⟨S1x256x128, .f32⟩
  | .local _ .vmem, ⟨1, _⟩ => ⟨S8x1x256x128, .bf16⟩
  | .local _ .vmem, ⟨2, _⟩ => ⟨S1x256x128, .f32⟩
  | .local _ .vmem, ⟨3, _⟩ => ⟨S1x256x128, .f32⟩
  | .local _ .vmem, ⟨4, _⟩ => ⟨S8x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | _, _ => ⟨S1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== KernelAdamUkvIdeal.lean ====
abbrev S1x256x128 : Shape := ⟨3, ![1, 256, 128]⟩
abbrev S8x1x256x128 : Shape := ⟨4, ![8, 1, 256, 128]⟩
abbrev S_ : Shape := ⟨0, ![]⟩
abbrev S8x128 : Shape := ⟨2, ![8, 128]⟩
abbrev S1x1x256x128 : Shape := ⟨4, ![1, 1, 256, 128]⟩
abbrev S256x128 : Shape := ⟨2, ![256, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x256x128, .f32⟩
  | .hbm, ⟨1, _⟩ => ⟨S8x1x256x128, .f32⟩
  | .hbm, ⟨2, _⟩ => ⟨S1x256x128, .f32⟩
  | .hbm, ⟨3, _⟩ => ⟨S1x256x128, .f32⟩
  | .hbm, ⟨4, _⟩ => ⟨S8x1x256x128, .bf16⟩
  | .hbm, ⟨5, _⟩ => ⟨S_, .f32⟩
  | .hbm, ⟨6, _⟩ => ⟨S8x128, .f32⟩
  | .hbm, ⟨7, _⟩ => ⟨S1x256x128, .f32⟩
  | .hbm, ⟨8, _⟩ => ⟨S1x256x128, .f32⟩
  | .hbm, ⟨9, _⟩ => ⟨S1x256x128, .f32⟩
  | .hbm, ⟨10, _⟩ => ⟨S1x256x128, .f32⟩
  | .local _ .vmem, ⟨0, _⟩ => ⟨S1x256x128, .f32⟩
  | .local _ .vmem, ⟨1, _⟩ => ⟨S8x1x256x128, .bf16⟩
  | .local _ .vmem, ⟨2, _⟩ => ⟨S1x256x128, .f32⟩
  | .local _ .vmem, ⟨3, _⟩ => ⟨S1x256x128, .f32⟩
  | .local _ .vmem, ⟨4, _⟩ => ⟨S8x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | _, _ => ⟨S1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== ReferenceAdamUkvIdeal.lean ====
abbrev S1x256x128 : Shape := ⟨3, ![1, 256, 128]⟩
abbrev S8x1x256x128 : Shape := ⟨4, ![8, 1, 256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x128, .f32⟩
  | .hbm, ⟨1, _⟩ => ⟨S8x1x256x128, .f32⟩
  | .hbm, ⟨2, _⟩ => ⟨S1x256x128, .f32⟩
  | .hbm, ⟨3, _⟩ => ⟨S1x256x128, .f32⟩
  | .hbm, ⟨4, _⟩ => ⟨S_, .f32⟩
  | .hbm, ⟨5, _⟩ => ⟨S1x256x128, .f32⟩
  | .hbm, ⟨6, _⟩ => ⟨S_, .f32⟩
  | .hbm, ⟨7, _⟩ => ⟨S1x256x128, .f32⟩
  | .hbm, ⟨8, _⟩ => ⟨S1x256x128, .f32⟩
  | .hbm, ⟨9, _⟩ => ⟨S_, .f32⟩
  | .hbm, ⟨10, _⟩ => ⟨S1x256x128, .f32⟩
  | .hbm, ⟨11, _⟩ => ⟨S1x256x128, .f32⟩
  | .hbm, ⟨12, _⟩ => ⟨S1x256x128, .f32⟩
  | .hbm, ⟨13, _⟩ => ⟨S_, .f32⟩
  | .hbm, ⟨14, _⟩ => ⟨S1x256x128, .f32⟩
  | .hbm, ⟨15, _⟩ => ⟨S1x256x128, .f32⟩
  | .hbm, ⟨16, _⟩ => ⟨S1x256x128, .f32⟩
  | .hbm, ⟨17, _⟩ => ⟨S_, .f32⟩
  | .hbm, ⟨18, _⟩ => ⟨S1x256x128, .f32⟩
  | .hbm, ⟨19, _⟩ => ⟨S1x256x128, .f32⟩
  | .hbm, ⟨20, _⟩ => ⟨S1x256x128, .f32⟩
  | .hbm, ⟨21, _⟩ => ⟨S_, .f32⟩
  | .hbm, ⟨22, _⟩ => ⟨S1x256x128, .f32⟩
  | .hbm, ⟨23, _⟩ => ⟨S1x256x128, .f32⟩
  | .hbm, ⟨24, _⟩ => ⟨S_, .f32⟩
  | .hbm, ⟨25, _⟩ => ⟨S1x256x128, .f32⟩
  | .hbm, ⟨26, _⟩ => ⟨S1x256x128, .f32⟩
  | .hbm, ⟨27, _⟩ => ⟨S1x256x128, .f32⟩
  | .hbm, ⟨28, _⟩ => ⟨S_, .f32⟩
  | .hbm, ⟨29, _⟩ => ⟨S1x256x128, .f32⟩
  | .hbm, ⟨30, _⟩ => ⟨S1x256x128, .f32⟩
  | .hbm, ⟨31, _⟩ => ⟨S1x256x128, .f32⟩
  | .hbm, ⟨32, _⟩ => ⟨S_, .f32⟩
  | .hbm, ⟨33, _⟩ => ⟨S1x256x128, .f32⟩
  | .hbm, ⟨34, _⟩ => ⟨S1x256x128, .f32⟩
  | .hbm, ⟨35, _⟩ => ⟨S1x256x128, .f32⟩
  | .hbm, ⟨36, _⟩ => ⟨S_, .f32⟩
  | .hbm, ⟨37, _⟩ => ⟨S1x256x128, .f32⟩
  | .hbm, ⟨38, _⟩ => ⟨S1x256x128, .f32⟩
  | _, _ => ⟨S1x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamBr.lean ====
abbrev S1x512x128 : Shape := ⟨3, ![1, 512, 128]⟩
abbrev S8x1x512x128 : Shape := ⟨4, ![8, 1, 512, 128]⟩
abbrev S_ : Shape := ⟨0, ![]⟩
abbrev S8x128 : Shape := ⟨2, ![8, 128]⟩
abbrev S1x1x512x128 : Shape := ⟨4, ![1, 1, 512, 128]⟩
abbrev S512x128 : Shape := ⟨2, ![512, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x512x128, .f32⟩
  | .hbm, ⟨1, _⟩ => ⟨S8x1x512x128, .f32⟩
  | .hbm, ⟨2, _⟩ => ⟨S1x512x128, .f32⟩
  | .hbm, ⟨3, _⟩ => ⟨S1x512x128, .f32⟩
  | .hbm, ⟨4, _⟩ => ⟨S8x1x512x128, .bf16⟩
  | .hbm, ⟨5, _⟩ => ⟨S_, .f32⟩
  | .hbm, ⟨6, _⟩ => ⟨S8x128, .f32⟩
  | .hbm, ⟨7, _⟩ => ⟨S1x512x128, .f32⟩
  | .hbm, ⟨8, _⟩ => ⟨S1x512x128, .f32⟩
  | .hbm, ⟨9, _⟩ => ⟨S1x512x128, .f32⟩
  | .hbm, ⟨10, _⟩ => ⟨S1x512x128, .f32⟩
  | .local _ .vmem, ⟨0, _⟩ => ⟨S1x512x128, .f32⟩
  | .local _ .vmem, ⟨1, _⟩ => ⟨S8x1x512x128, .bf16⟩
  | .local _ .vmem, ⟨2, _⟩ => ⟨S1x512x128, .f32⟩
  | .local _ .vmem, ⟨3, _⟩ => ⟨S1x512x128, .f32⟩
  | .local _ .vmem, ⟨4, _⟩ => ⟨S8x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== KernelAdamBrIdeal.lean ====
abbrev S1x512x128 : Shape := ⟨3, ![1, 512, 128]⟩
abbrev S8x1x512x128 : Shape := ⟨4, ![8, 1, 512, 128]⟩
abbrev S_ : Shape := ⟨0, ![]⟩
abbrev S8x128 : Shape := ⟨2, ![8, 128]⟩
abbrev S1x1x512x128 : Shape := ⟨4, ![1, 1, 512, 128]⟩
abbrev S512x128 : Shape := ⟨2, ![512, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x512x128, .f32⟩
  | .hbm, ⟨1, _⟩ => ⟨S8x1x512x128, .f32⟩
  | .hbm, ⟨2, _⟩ => ⟨S1x512x128, .f32⟩
  | .hbm, ⟨3, _⟩ => ⟨S1x512x128, .f32⟩
  | .hbm, ⟨4, _⟩ => ⟨S8x1x512x128, .bf16⟩
  | .hbm, ⟨5, _⟩ => ⟨S_, .f32⟩
  | .hbm, ⟨6, _⟩ => ⟨S8x128, .f32⟩
  | .hbm, ⟨7, _⟩ => ⟨S1x512x128, .f32⟩
  | .hbm, ⟨8, _⟩ => ⟨S1x512x128, .f32⟩
  | .hbm, ⟨9, _⟩ => ⟨S1x512x128, .f32⟩
  | .hbm, ⟨10, _⟩ => ⟨S1x512x128, .f32⟩
  | .local _ .vmem, ⟨0, _⟩ => ⟨S1x512x128, .f32⟩
  | .local _ .vmem, ⟨1, _⟩ => ⟨S8x1x512x128, .bf16⟩
  | .local _ .vmem, ⟨2, _⟩ => ⟨S1x512x128, .f32⟩
  | .local _ .vmem, ⟨3, _⟩ => ⟨S1x512x128, .f32⟩
  | .local _ .vmem, ⟨4, _⟩ => ⟨S8x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S8x1x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]

abbrev stage0_8 : Fin 1 → Memref sig .tc .vmem S1x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, true]
-- ==== ReferenceAdamBrIdeal.lean ====
abbrev S1x512x128 : Shape := ⟨3, ![1, 512, 128]⟩
abbrev S8x1x512x128 : Shape := ⟨4, ![8, 1, 512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S8x1x512x128, .f32⟩
  | .hbm, ⟨2, _⟩ => ⟨S1x512x128, .f32⟩
  | .hbm, ⟨3, _⟩ => ⟨S1x512x128, .f32⟩
  | .hbm, ⟨4, _⟩ => ⟨S_, .f32⟩
  | .hbm, ⟨5, _⟩ => ⟨S1x512x128, .f32⟩
  | .hbm, ⟨6, _⟩ => ⟨S_, .f32⟩
  | .hbm, ⟨7, _⟩ => ⟨S1x512x128, .f32⟩
  | .hbm, ⟨8, _⟩ => ⟨S1x512x128, .f32⟩
  | .hbm, ⟨9, _⟩ => ⟨S_, .f32⟩
  | .hbm, ⟨10, _⟩ => ⟨S1x512x128, .f32⟩
  | .hbm, ⟨11, _⟩ => ⟨S1x512x128, .f32⟩
  | .hbm, ⟨12, _⟩ => ⟨S1x512x128, .f32⟩
  | .hbm, ⟨13, _⟩ => ⟨S_, .f32⟩
  | .hbm, ⟨14, _⟩ => ⟨S1x512x128, .f32⟩
  | .hbm, ⟨15, _⟩ => ⟨S1x512x128, .f32⟩
  | .hbm, ⟨16, _⟩ => ⟨S1x512x128, .f32⟩
  | .hbm, ⟨17, _⟩ => ⟨S_, .f32⟩
  | .hbm, ⟨18, _⟩ => ⟨S1x512x128, .f32⟩
  | .hbm, ⟨19, _⟩ => ⟨S1x512x128, .f32⟩
  | .hbm, ⟨20, _⟩ => ⟨S1x512x128, .f32⟩
  | .hbm, ⟨21, _⟩ => ⟨S_, .f32⟩
  | .hbm, ⟨22, _⟩ => ⟨S1x512x128, .f32⟩
  | .hbm, ⟨23, _⟩ => ⟨S1x512x128, .f32⟩
  | .hbm, ⟨24, _⟩ => ⟨S_, .f32⟩
  | .hbm, ⟨25, _⟩ => ⟨S1x512x128, .f32⟩
  | .hbm, ⟨26, _⟩ => ⟨S1x512x128, .f32⟩
  | .hbm, ⟨27, _⟩ => ⟨S1x512x128, .f32⟩
  | .hbm, ⟨28, _⟩ => ⟨S_, .f32⟩
  | .hbm, ⟨29, _⟩ => ⟨S1x512x128, .f32⟩
  | .hbm, ⟨30, _⟩ => ⟨S1x512x128, .f32⟩
  | .hbm, ⟨31, _⟩ => ⟨S1x512x128, .f32⟩
  | .hbm, ⟨32, _⟩ => ⟨S_, .f32⟩
  | .hbm, ⟨33, _⟩ => ⟨S1x512x128, .f32⟩
  | .hbm, ⟨34, _⟩ => ⟨S1x512x128, .f32⟩
  | .hbm, ⟨35, _⟩ => ⟨S1x512x128, .f32⟩
  | .hbm, ⟨36, _⟩ => ⟨S_, .f32⟩
  | .hbm, ⟨37, _⟩ => ⟨S1x512x128, .f32⟩
  | .hbm, ⟨38, _⟩ => ⟨S1x512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamOut.lean ====
abbrev S1x128x1024 : Shape := ⟨3, ![1, 128, 1024]⟩
abbrev S8x1x128x1024 : Shape := ⟨4, ![8, 1, 128, 1024]⟩
abbrev S_ : Shape := ⟨0, ![]⟩
abbrev S8x128 : Shape := ⟨2, ![8, 128]⟩
abbrev S1x128x512 : Shape := ⟨3, ![1, 128, 512]⟩
abbrev S8x1x128x512 : Shape := ⟨4, ![8, 1, 128, 512]⟩
abbrev S1x1x128x512 : Shape := ⟨4, ![1, 1, 128, 512]⟩
abbrev S128x512 : Shape := ⟨2, ![128, 512]⟩

abbrev nBuf : Space → Nat
  | .hbm => 11
  | .vmem => 17
  | .smem => 0
  | _ => 0

abbrev bufTy : (tb : Table) → Fin (tcTables nBuf tb) → BufTy
  | .hbm, ⟨0, _⟩ => ⟨S1x128x1024, .f32⟩
  | .hbm, ⟨1, _⟩ => ⟨S8x1x128x1024, .f32⟩
  | .hbm, ⟨2, _⟩ => ⟨S1x128x1024, .f32⟩
  | .hbm, ⟨3, _⟩ => ⟨S1x128x1024, .f32⟩
  | .hbm, ⟨4, _⟩ => ⟨S8x1x128x1024, .bf16⟩
  | .hbm, ⟨5, _⟩ => ⟨S_, .f32⟩
  | .hbm, ⟨6, _⟩ => ⟨S8x128, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .local _ .vmem, ⟨0, _⟩ => ⟨S1x128x512, .f32⟩
  | .local _ .vmem, ⟨1, _⟩ => ⟨S1x128x512, .f32⟩
  | .local _ .vmem, ⟨2, _⟩ => ⟨S8x1x128x512, .bf16⟩
  | .local _ .vmem, ⟨3, _⟩ => ⟨S8x1x128x512, .bf16⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S8x128, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAdamOutIdeal.lean ====
abbrev S1x128x1024 : Shape := ⟨3, ![1, 128, 1024]⟩
abbrev S8x1x128x1024 : Shape := ⟨4, ![8, 1, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S_, .f32⟩
  | .hbm, ⟨7, _⟩ => ⟨S1x128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128x1024, .f32⟩
  | .hbm, ⟨15, _⟩ => ⟨S1x128x1024, .f32⟩
  | .hbm, ⟨16, _⟩ => ⟨S1x128x1024, .f32⟩
  | .hbm, ⟨17, _⟩ => ⟨S_, .f32⟩
  | .hbm, ⟨18, _⟩ => ⟨S1x128x1024, .f32⟩
  | .hbm, ⟨19, _⟩ => ⟨S1x128x1024, .f32⟩
  | .hbm, ⟨20, _⟩ => ⟨S1x128x1024, .f32⟩
  | .hbm, ⟨21, _⟩ => ⟨S_, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S_, .f32⟩
  | .hbm, ⟨29, _⟩ => ⟨S1x128x1024, .f32⟩
  | .hbm, ⟨30, _⟩ => ⟨S1x128x1024, .f32⟩
  | .hbm, ⟨31, _⟩ => ⟨S1x128x1024, .f32⟩
  | .hbm, ⟨32, _⟩ => ⟨S_, .f32⟩
  | .hbm, ⟨33, _⟩ => ⟨S1x128x1024, .f32⟩
  | .hbm, ⟨34, _⟩ => ⟨S1x128x1024, .f32⟩
  | .hbm, ⟨35, _⟩ => ⟨S1x128x1024, .f32⟩
  | .hbm, ⟨36, _⟩ => ⟨S_, .f32⟩
  | .hbm, ⟨37, _⟩ => ⟨S1x128x1024, .f32⟩
  | .hbm, ⟨38, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Adam.lean ====
module

public import proofs.«01_k».proof.Defs
public import proofs.«01_k».proof.Proof.Gen.KernelAdamW1Ideal.Value
public import proofs.«01_k».proof.Proof.Gen.ReferenceAdamW1Ideal.Read
public import proofs.«01_k».proof.Proof.Gen.KernelAdamW2Ideal.Value
public import proofs.«01_k».proof.Proof.Gen.ReferenceAdamW2Ideal.Read
public import proofs.«01_k».proof.Proof.Gen.KernelAdamInIdeal.Value
public import proofs.«01_k».proof.Proof.Gen.ReferenceAdamInIdeal.Read
public import proofs.«01_k».proof.Proof.Gen.KernelAdamUqIdeal.Value
public import proofs.«01_k».proof.Proof.Gen.ReferenceAdamUqIdeal.Read
public import proofs.«01_k».proof.Proof.Gen.KernelAdamUkvIdeal.Value
public import proofs.«01_k».proof.Proof.Gen.ReferenceAdamUkvIdeal.Read
public import proofs.«01_k».proof.Proof.Gen.KernelAdamBrIdeal.Value
public import proofs.«01_k».proof.Proof.Gen.ReferenceAdamBrIdeal.Read
public import proofs.«01_k».proof.Proof.Gen.KernelAdamOutIdeal.Value
public import proofs.«01_k».proof.Proof.Gen.ReferenceAdamOutIdeal.Read
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

/-! One AdamW update of a weight from the devices' terms of its gradient. The update is written down once, for any shape; then, for each shape of weight the step updates, the call and the reference both are that update. -/

namespace Cert.Adam

variable {a b c : Nat} (w : FVec Ideal ⟨3, ![a, b, c]⟩ .f32) (p : FVec Ideal ⟨4, ![8, a, b, c]⟩ .f32) (m v : FVec Ideal ⟨3, ![a, b, c]⟩ .f32)

/-- The gradient, -/
def G : FVec Ideal ⟨3, ![a, b, c]⟩ .f32 := fun i => ∑ j : Fin 8, p (ix4 j (i 0) (i 1) (i 2))
/-- the new first moment, -/
def M : FVec Ideal ⟨3, ![a, b, c]⟩ .f32 := fun i => Ideal.ofBits .f32 0x3F666666#32 * m i + Ideal.ofBits .f32 0x3DCCCCCD#32 * G p i
/-- the new second moment -/
def V : FVec Ideal ⟨3, ![a, b, c]⟩ .f32 := fun i => Ideal.ofBits .f32 0x3F7FBE77#32 * v i + Ideal.ofBits .f32 0x3A83126F#32 * (G p i * G p i)
/-- and the step. -/
def D : FVec Ideal ⟨3, ![a, b, c]⟩ .f32 := fun i => Ideal.ofBits .f32 0xBA83126F#32 *
  (Ideal.div (Ideal.div (M p m i) (Ideal.ofBits .f32 0x3F26BD02#32)) (Ideal.sqrt (Ideal.div (V p v i) (Ideal.ofBits .f32 0x3C231ACC#32)) + Ideal.ofBits .f32 0x322BCC77#32)
    + Ideal.ofBits .f32 0x3C23D70A#32 * w i)

/-- The call adds the devices' terms one after the other. -/
theorem sum (p : Fin 8 → EReal) : p 0 + p 1 + p 2 + p 3 + p 4 + p 5 + p 6 + p 7 = ∑ j, p j := by
  rw [Fin.sum_univ_eight]

/-- All four. -/
abbrev all := (G p, D w p m v, M p m, V p v)

end Cert.Adam

namespace Cert.KernelAdamW1Ideal.Adam

open Cert.KernelAdamW1Ideal.Gen

variable (m : (ℓ : Loc nD τ sig) → Buf (Elt Ideal) ℓ) (c : Dev nD) (t : Fin cfg0.N)

/-- `ffn1_w1` and `ffn2_w1`: the terms of the gradient, -/
abbrev p : FVec Ideal S8x2x352x1024 .f32 := m ((c.tc : Thread nD τ).loc main_arg1)
/-- and the four results. -/
abbrev res := @Adam.all 2 352 1024 (m ((c.tc : Thread nD τ).loc main_arg0)) (p m c) (m ((c.tc : Thread nD τ).loc main_arg2)) (m ((c.tc : Thread nD τ).loc main_arg3))

theorem idx : ∀ t : Fin cfg0.N, win0_0.index t = ![t.val / 2, 0, t.val % 2] ∧ win0_1.index t = ![0, t.val / 2, 0, t.val % 2] ∧ win0_2.index t = ![t.val / 2, 0, t.val % 2] ∧ win0_3.index t = ![t.val / 2, 0, t.val % 2]
    ∧ win0_5.index t = ![t.val / 2, 0, t.val % 2] ∧ win0_6.index t = ![t.val / 2, 0, t.val % 2] ∧ win0_7.index t = ![t.val / 2, 0, t.val % 2] ∧ win0_8.index t = ![t.val / 2, 0, t.val % 2] := by
  decide +kernel

/-- Which of the matrices of the weight a point is on. -/
abbrev row : Fin 2 := ⟨t.val / 2, by have : t.val < 4 := t.isLt; omega⟩
/-- The column where a column of a point lies. -/
abbrev col (e : Fin 512) : Fin 1024 := ⟨512 * (t.val % 2) + e.val, by have : t.val < 4 := t.isLt; omega⟩

theorem p_at (j : Fin 8) (r : Fin 352) (e : Fin 512) : X0_1 m c t (ix4 j 0 r e) = p m c (ix4 j (row t) r (col t e)) := by
  rw [X0_1, Pipeline.Window.fill, dif_pos (moved0_1 t _)]
  have h : Gen.V m c main_v1 = truncf .bf16 (pad S8x2x384x1024 ![0, 0, 0, 0] ![0, 0, 32, 0] ![0, 0, 0, 0] (p m c) (sitofp .f32 (constantI S_ 32 0#32)) pads_S8x2x352x1024_S8x2x384x1024_000_000_0320_000 h_S_) bitsLt_bf16_f32 := by
    rfl
  refine ((congrArg (Gen.V m c main_v1) (show _ = ix4 j (row t) ⟨r.val, by omega⟩ (col t e) by blk_ext [idx t])).trans (congrFun h _)).trans ?_
  pointwise
  have : t.val < 4 := t.isLt
  split
  · rfl
  · omega

theorem point (y : Shape.Idx S1x352x512) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 352) (e : Fin 512), y = ix3 0 r e := ⟨y 1, y 2, (eq_ix3 y).trans (by congr 1; omega)⟩
  have h0 : iblk m c 0 t (ix3 0 r e) = _ := (congrArg (Gen.V m c main_arg0) (show _ = ix3 (row t) r (col t e) by blk_ext [idx t])).trans (congrFun (V_main_arg0 m c) _)
  have h2 : iblk m c 2 t (ix3 0 r e) = _ := (congrArg (Gen.V m c main_arg2) (show _ = ix3 (row t) r (col t e) by blk_ext [idx t])).trans (congrFun (V_main_arg2 m c) _)
  have h3 : iblk m c 3 t (ix3 0 r e) = _ := (congrArg (Gen.V m c main_arg3) (show _ = ix3 (row t) r (col t e) by blk_ext [idx t])).trans (congrFun (V_main_arg3 m c) _)
  rw [after0_5, after0_6, after0_7, after0_8]
  refine ⟨Eq.trans ?_ (congrArg _ (show ix3 (row t) r (col t e) = _ by blk_ext [idx t])), Eq.trans ?_ (congrArg _ (show ix3 (row t) r (col t e) = _ by blk_ext [idx t])),
    Eq.trans ?_ (congrArg _ (show ix3 (row t) r (col t e) = _ by blk_ext [idx t])), Eq.trans ?_ (congrArg _ (show ix3 (row t) r (col t e) = _ by blk_ext [idx t]))⟩ <;>
  · try unfold outsAt0
    frame_out
    pointwise [k0_pay1, k0_pay2, k0_pay3, k0_pay4, k0_pay5, k0_pay6, k0_pay7, k0_pay8, k0_pay9, k0_pay10]
    simp only [p_at, h0, h2, h3]
    simp only [Adam.sum (fun j => p m c (ix4 j (row t) r (col t e)))]
    rfl

theorem ref_frame : Cert.quiescent_ReferenceAdamW1Ideal := fun m ρ _ =>
  (θ_run _ _ _).mono (fun r h => ⟨fun c => (h c).2.2.2.2, sem_eq_zero_of_no_sems (by decide) r.2⟩) (Cert.ReferenceAdamW1Ideal.Value.run (F := Ideal) m ρ)

theorem algebraic : Cert.algebraic_KernelAdamW1Ideal_ReferenceAdamW1Ideal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamW1Ideal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 2) (r : Fin 352) (e : Fin 1024), i = ix3 z r e := ⟨i 0, i 1, i 2, eq_ix3 i⟩
      pointwise
      rfl

end Cert.KernelAdamW1Ideal.Adam

namespace Cert.KernelAdamW2Ideal.Adam

open Cert.KernelAdamW2Ideal.Gen

variable (m : (ℓ : Loc nD τ sig) → Buf (Elt Ideal) ℓ) (c : Dev nD) (t : Fin cfg0.N)

/-- `ffn1_w2` and `ffn2_w2`: the terms of the gradient, -/
abbrev p : FVec Ideal S8x1x352x1024 .f32 := m ((c.tc : Thread nD τ).loc main_arg1)
/-- and the four results. -/
abbrev res := @Adam.all 1 352 1024 (m ((c.tc : Thread nD τ).loc main_arg0)) (p m c) (m ((c.tc : Thread nD τ).loc main_arg2)) (m ((c.tc : Thread nD τ).loc main_arg3))

theorem idx : ∀ t : Fin cfg0.N, win0_0.index t = ![0, 0, t.val] ∧ win0_1.index t = ![0, 0, 0, t.val] ∧ win0_2.index t = ![0, 0, t.val] ∧ win0_3.index t = ![0, 0, t.val]
    ∧ win0_5.index t = ![0, 0, t.val] ∧ win0_6.index t = ![0, 0, t.val] ∧ win0_7.index t = ![0, 0, t.val] ∧ win0_8.index t = ![0, 0, t.val] := by
  decide +kernel

/-- The column where a column of a point lies. -/
abbrev col (e : Fin 512) : Fin 1024 := ⟨512 * t.val + e.val, by have : t.val < 2 := t.isLt; omega⟩

theorem p_at (j : Fin 8) (r : Fin 352) (e : Fin 512) : X0_1 m c t (ix4 j 0 r e) = p m c (ix4 j 0 r (col t e)) := by
  rw [X0_1, Pipeline.Window.fill, dif_pos (moved0_1 t _)]
  have h : Gen.V m c main_v1 = truncf .bf16 (pad S8x1x384x1024 ![0, 0, 0, 0] ![0, 0, 32, 0] ![0, 0, 0, 0] (p m c) (sitofp .f32 (constantI S_ 32 0#32)) pads_S8x1x352x1024_S8x1x384x1024_000_000_0320_000 h_S_) bitsLt_bf16_f32 := by
    rfl
  refine ((congrArg (Gen.V m c main_v1) (show _ = ix4 j 0 ⟨r.val, by omega⟩ (col t e) by blk_ext [idx t])).trans (congrFun h _)).trans ?_
  pointwise
  have : t.val < 2 := t.isLt
  split
  · rfl
  · omega

theorem point (y : Shape.Idx S1x352x512) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 352) (e : Fin 512), y = ix3 0 r e := ⟨y 1, y 2, (eq_ix3 y).trans (by congr 1; omega)⟩
  have h0 : iblk m c 0 t (ix3 0 r e) = _ := (congrArg (Gen.V m c main_arg0) (show _ = ix3 0 r (col t e) by blk_ext [idx t])).trans (congrFun (V_main_arg0 m c) _)
  have h2 : iblk m c 2 t (ix3 0 r e) = _ := (congrArg (Gen.V m c main_arg2) (show _ = ix3 0 r (col t e) by blk_ext [idx t])).trans (congrFun (V_main_arg2 m c) _)
  have h3 : iblk m c 3 t (ix3 0 r e) = _ := (congrArg (Gen.V m c main_arg3) (show _ = ix3 0 r (col t e) by blk_ext [idx t])).trans (congrFun (V_main_arg3 m c) _)
  rw [after0_5, after0_6, after0_7, after0_8]
  refine ⟨Eq.trans ?_ (congrArg _ (show ix3 0 r (col t e) = _ by blk_ext [idx t])), Eq.trans ?_ (congrArg _ (show ix3 0 r (col t e) = _ by blk_ext [idx t])),
    Eq.trans ?_ (congrArg _ (show ix3 0 r (col t e) = _ by blk_ext [idx t])), Eq.trans ?_ (congrArg _ (show ix3 0 r (col t e) = _ by blk_ext [idx t]))⟩ <;>
  · try unfold outsAt0
    frame_out
    pointwise [k0_pay1, k0_pay2, k0_pay3, k0_pay4, k0_pay5, k0_pay6, k0_pay7, k0_pay8, k0_pay9, k0_pay10]
    simp only [p_at, h0, h2, h3]
    simp only [Adam.sum (fun j => p m c (ix4 j 0 r (col t e)))]
    rfl

theorem ref_frame : Cert.quiescent_ReferenceAdamW2Ideal := fun m ρ _ =>
  (θ_run _ _ _).mono (fun r h => ⟨fun c => (h c).2.2.2.2, sem_eq_zero_of_no_sems (by decide) r.2⟩) (Cert.ReferenceAdamW2Ideal.Value.run (F := Ideal) m ρ)

theorem algebraic : Cert.algebraic_KernelAdamW2Ideal_ReferenceAdamW2Ideal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamW2Ideal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 352) (e : Fin 1024), i = ix3 z r e := ⟨i 0, i 1, i 2, eq_ix3 i⟩
      obtain rfl : z = 0 := by omega
      pointwise
      rfl

end Cert.KernelAdamW2Ideal.Adam

namespace Cert.KernelAdamInIdeal.Adam

open Cert.KernelAdamInIdeal.Gen

variable (m : (ℓ : Loc nD τ sig) → Buf (Elt Ideal) ℓ) (c : Dev nD) (t : Fin cfg0.N)

/-- `w_in`: the terms of the gradient, -/
abbrev p : FVec Ideal S8x1x532x1024 .f32 := m ((c.tc : Thread nD τ).loc main_arg1)
/-- and the four results. -/
abbrev res := @Adam.all 1 532 1024 (m ((c.tc : Thread nD τ).loc main_arg0)) (p m c) (m ((c.tc : Thread nD τ).loc main_arg2)) (m ((c.tc : Thread nD τ).loc main_arg3))

theorem idx : ∀ t : Fin cfg0.N, win0_0.index t = ![0, 0, t.val] ∧ win0_1.index t = ![0, 0, 0, t.val] ∧ win0_2.index t = ![0, 0, t.val] ∧ win0_3.index t = ![0, 0, t.val]
    ∧ win0_5.index t = ![0, 0, t.val] ∧ win0_6.index t = ![0, 0, t.val] ∧ win0_7.index t = ![0, 0, t.val] ∧ win0_8.index t = ![0, 0, t.val] := by
  decide +kernel

/-- The column where a column of a point lies. -/
abbrev col (e : Fin 512) : Fin 1024 := ⟨512 * t.val + e.val, by have : t.val < 2 := t.isLt; omega⟩

theorem p_at (j : Fin 8) (r : Fin 532) (e : Fin 512) : iblk m c 1 t (ix4 j 0 r e) = p m c (ix4 j 0 r (col t e)) := by
  have h : Gen.V m c main_v0 = truncf .bf16 (p m c) bitsLt_bf16_f32 := by
    rfl
  refine ((congrArg (Gen.V m c main_v0) (show _ = ix4 j 0 r (col t e) by blk_ext [idx t])).trans (congrFun h _)).trans ?_
  pointwise

theorem point (y : Shape.Idx S1x532x512) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 532) (e : Fin 512), y = ix3 0 r e := ⟨y 1, y 2, (eq_ix3 y).trans (by congr 1; omega)⟩
  have h0 : iblk m c 0 t (ix3 0 r e) = _ := (congrArg (Gen.V m c main_arg0) (show _ = ix3 0 r (col t e) by blk_ext [idx t])).trans (congrFun (V_main_arg0 m c) _)
  have h2 : iblk m c 2 t (ix3 0 r e) = _ := (congrArg (Gen.V m c main_arg2) (show _ = ix3 0 r (col t e) by blk_ext [idx t])).trans (congrFun (V_main_arg2 m c) _)
  have h3 : iblk m c 3 t (ix3 0 r e) = _ := (congrArg (Gen.V m c main_arg3) (show _ = ix3 0 r (col t e) by blk_ext [idx t])).trans (congrFun (V_main_arg3 m c) _)
  rw [after0_5, after0_6, after0_7, after0_8]
  refine ⟨Eq.trans ?_ (congrArg _ (show ix3 0 r (col t e) = _ by blk_ext [idx t])), Eq.trans ?_ (congrArg _ (show ix3 0 r (col t e) = _ by blk_ext [idx t])),
    Eq.trans ?_ (congrArg _ (show ix3 0 r (col t e) = _ by blk_ext [idx t])), Eq.trans ?_ (congrArg _ (show ix3 0 r (col t e) = _ by blk_ext [idx t]))⟩ <;>
  · frame_out
    pointwise [k0_pay1, k0_pay2, k0_pay3, k0_pay4, k0_pay5, k0_pay6, k0_pay7, k0_pay8, k0_pay9, k0_pay10, k0_pay11]
    simp only [p_at, h0, h2, h3]
    simp only [Adam.sum (fun j => p m c (ix4 j 0 r (col t e)))]
    rfl

theorem ref_frame : Cert.quiescent_ReferenceAdamInIdeal := fun m ρ _ =>
  (θ_run _ _ _).mono (fun r h => ⟨fun c => (h c).2.2.2.2, sem_eq_zero_of_no_sems (by decide) r.2⟩) (Cert.ReferenceAdamInIdeal.Value.run (F := Ideal) m ρ)

theorem algebraic : Cert.algebraic_KernelAdamInIdeal_ReferenceAdamInIdeal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamInIdeal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 532) (e : Fin 1024), i = ix3 z r e := ⟨i 0, i 1, i 2, eq_ix3 i⟩
      obtain rfl : z = 0 := by omega
      pointwise
      rfl

end Cert.KernelAdamInIdeal.Adam

namespace Cert.KernelAdamUqIdeal.Adam

open Cert.KernelAdamUqIdeal.Gen

variable (m : (ℓ : Loc nD τ sig) → Buf (Elt Ideal) ℓ) (c : Dev nD) (t : Fin cfg0.N)

/-- `mla_w_uq`: the terms of the gradient, -/
abbrev p : FVec Ideal S8x1x96x384 .f32 := m ((c.tc : Thread nD τ).loc main_arg1)
/-- and the four results. -/
abbrev res := @Adam.all 1 96 384 (m ((c.tc : Thread nD τ).loc main_arg0)) (p m c) (m ((c.tc : Thread nD τ).loc main_arg2)) (m ((c.tc : Thread nD τ).loc main_arg3))

theorem idx : ∀ t : Fin cfg0.N, win0_0.index t = ![0, 0, 0] ∧ win0_1.index t = ![0, 0, 0, 0] ∧ win0_2.index t = ![0, 0, 0] ∧ win0_3.index t = ![0, 0, 0]
    ∧ win0_5.index t = ![0, 0, 0] ∧ win0_6.index t = ![0, 0, 0] ∧ win0_7.index t = ![0, 0, 0] ∧ win0_8.index t = ![0, 0, 0] := by
  decide +kernel

theorem p_at (j : Fin 8) (r : Fin 96) (e : Fin 384) : iblk m c 1 t (ix4 j 0 r e) = p m c (ix4 j 0 r e) := by
  have h : Gen.V m c main_v0 = truncf .bf16 (p m c) bitsLt_bf16_f32 := by
    rfl
  refine ((congrArg (Gen.V m c main_v0) (show _ = ix4 j 0 r e by blk_ext [idx t])).trans (congrFun h _)).trans ?_
  pointwise

theorem point (y : Shape.Idx S1x96x384) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 96) (e : Fin 384), y = ix3 0 r e := ⟨y 1, y 2, (eq_ix3 y).trans (by congr 1; omega)⟩
  have h0 : iblk m c 0 t (ix3 0 r e) = _ := (congrArg (Gen.V m c main_arg0) (show _ = ix3 0 r e by blk_ext [idx t])).trans (congrFun (V_main_arg0 m c) _)
  have h2 : iblk m c 2 t (ix3 0 r e) = _ := (congrArg (Gen.V m c main_arg2) (show _ = ix3 0 r e by blk_ext [idx t])).trans (congrFun (V_main_arg2 m c) _)
  have h3 : iblk m c 3 t (ix3 0 r e) = _ := (congrArg (Gen.V m c main_arg3) (show _ = ix3 0 r e by blk_ext [idx t])).trans (congrFun (V_main_arg3 m c) _)
  rw [after0_5, after0_6, after0_7, after0_8]
  refine ⟨Eq.trans ?_ (congrArg _ (show ix3 0 r e = _ by blk_ext [idx t])), Eq.trans ?_ (congrArg _ (show ix3 0 r e = _ by blk_ext [idx t])),
    Eq.trans ?_ (congrArg _ (show ix3 0 r e = _ by blk_ext [idx t])), Eq.trans ?_ (congrArg _ (show ix3 0 r e = _ by blk_ext [idx t]))⟩ <;>
  · frame_out
    pointwise [k0_pay1, k0_pay2, k0_pay3, k0_pay4, k0_pay5, k0_pay6, k0_pay7, k0_pay8, k0_pay9, k0_pay10, k0_pay11]
    simp only [p_at, h0, h2, h3]
    simp only [Adam.sum (fun j => p m c (ix4 j 0 r e))]
    rfl

theorem ref_frame : Cert.quiescent_ReferenceAdamUqIdeal := fun m ρ _ =>
  (θ_run _ _ _).mono (fun r h => ⟨fun c => (h c).2.2.2.2, sem_eq_zero_of_no_sems (by decide) r.2⟩) (Cert.ReferenceAdamUqIdeal.Value.run (F := Ideal) m ρ)

theorem algebraic : Cert.algebraic_KernelAdamUqIdeal_ReferenceAdamUqIdeal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamUqIdeal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 96) (e : Fin 384), i = ix3 z r e := ⟨i 0, i 1, i 2, eq_ix3 i⟩
      obtain rfl : z = 0 := by omega
      pointwise
      rfl

end Cert.KernelAdamUqIdeal.Adam

namespace Cert.KernelAdamUkvIdeal.Adam

open Cert.KernelAdamUkvIdeal.Gen

variable (m : (ℓ : Loc nD τ sig) → Buf (Elt Ideal) ℓ) (c : Dev nD) (t : Fin cfg0.N)

/-- `mla_w_ukv`: the terms of the gradient, -/
abbrev p : FVec Ideal S8x1x256x128 .f32 := m ((c.tc : Thread nD τ).loc main_arg1)
/-- and the four results. -/
abbrev res := @Adam.all 1 256 128 (m ((c.tc : Thread nD τ).loc main_arg0)) (p m c) (m ((c.tc : Thread nD τ).loc main_arg2)) (m ((c.tc : Thread nD τ).loc main_arg3))

theorem idx : ∀ t : Fin cfg0.N, win0_0.index t = ![0, 0, 0] ∧ win0_1.index t = ![0, 0, 0, 0] ∧ win0_2.index t = ![0, 0, 0] ∧ win0_3.index t = ![0, 0, 0]
    ∧ win0_5.index t = ![0, 0, 0] ∧ win0_6.index t = ![0, 0, 0] ∧ win0_7.index t = ![0, 0, 0] ∧ win0_8.index t = ![0, 0, 0] := by
  decide +kernel

theorem p_at (j : Fin 8) (r : Fin 256) (e : Fin 128) : iblk m c 1 t (ix4 j 0 r e) = p m c (ix4 j 0 r e) := by
  have h : Gen.V m c main_v0 = truncf .bf16 (p m c) bitsLt_bf16_f32 := by
    rfl
  refine ((congrArg (Gen.V m c main_v0) (show _ = ix4 j 0 r e by blk_ext [idx t])).trans (congrFun h _)).trans ?_
  pointwise

theorem point (y : Shape.Idx S1x256x128) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 256) (e : Fin 128), y = ix3 0 r e := ⟨y 1, y 2, (eq_ix3 y).trans (by congr 1; omega)⟩
  have h0 : iblk m c 0 t (ix3 0 r e) = _ := (congrArg (Gen.V m c main_arg0) (show _ = ix3 0 r e by blk_ext [idx t])).trans (congrFun (V_main_arg0 m c) _)
  have h2 : iblk m c 2 t (ix3 0 r e) = _ := (congrArg (Gen.V m c main_arg2) (show _ = ix3 0 r e by blk_ext [idx t])).trans (congrFun (V_main_arg2 m c) _)
  have h3 : iblk m c 3 t (ix3 0 r e) = _ := (congrArg (Gen.V m c main_arg3) (show _ = ix3 0 r e by blk_ext [idx t])).trans (congrFun (V_main_arg3 m c) _)
  rw [after0_5, after0_6, after0_7, after0_8]
  refine ⟨Eq.trans ?_ (congrArg _ (show ix3 0 r e = _ by blk_ext [idx t])), Eq.trans ?_ (congrArg _ (show ix3 0 r e = _ by blk_ext [idx t])),
    Eq.trans ?_ (congrArg _ (show ix3 0 r e = _ by blk_ext [idx t])), Eq.trans ?_ (congrArg _ (show ix3 0 r e = _ by blk_ext [idx t]))⟩ <;>
  · frame_out
    pointwise [k0_pay1, k0_pay2, k0_pay3, k0_pay4, k0_pay5, k0_pay6, k0_pay7, k0_pay8, k0_pay9, k0_pay10, k0_pay11]
    simp only [p_at, h0, h2, h3]
    simp only [Adam.sum (fun j => p m c (ix4 j 0 r e))]
    rfl

theorem ref_frame : Cert.quiescent_ReferenceAdamUkvIdeal := fun m ρ _ =>
  (θ_run _ _ _).mono (fun r h => ⟨fun c => (h c).2.2.2.2, sem_eq_zero_of_no_sems (by decide) r.2⟩) (Cert.ReferenceAdamUkvIdeal.Value.run (F := Ideal) m ρ)

theorem algebraic : Cert.algebraic_KernelAdamUkvIdeal_ReferenceAdamUkvIdeal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamUkvIdeal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 256) (e : Fin 128), i = ix3 z r e := ⟨i 0, i 1, i 2, eq_ix3 i⟩
      obtain rfl : z = 0 := by omega
      pointwise
      rfl

end Cert.KernelAdamUkvIdeal.Adam

namespace Cert.KernelAdamBrIdeal.Adam

open Cert.KernelAdamBrIdeal.Gen

variable (m : (ℓ : Loc nD τ sig) → Buf (Elt Ideal) ℓ) (c : Dev nD) (t : Fin cfg0.N)

/-- `w_branch_mla` and `w_branch_ret`: the terms of the gradient, -/
abbrev p : FVec Ideal S8x1x512x128 .f32 := m ((c.tc : Thread nD τ).loc main_arg1)
/-- and the four results. -/
abbrev res := @Adam.all 1 512 128 (m ((c.tc : Thread nD τ).loc main_arg0)) (p m c) (m ((c.tc : Thread nD τ).loc main_arg2)) (m ((c.tc : Thread nD τ).loc main_arg3))

theorem idx : ∀ t : Fin cfg0.N, win0_0.index t = ![0, 0, 0] ∧ win0_1.index t = ![0, 0, 0, 0] ∧ win0_2.index t = ![0, 0, 0] ∧ win0_3.index t = ![0, 0, 0]
    ∧ win0_5.index t = ![0, 0, 0] ∧ win0_6.index t = ![0, 0, 0] ∧ win0_7.index t = ![0, 0, 0] ∧ win0_8.index t = ![0, 0, 0] := by
  decide +kernel

theorem p_at (j : Fin 8) (r : Fin 512) (e : Fin 128) : iblk m c 1 t (ix4 j 0 r e) = p m c (ix4 j 0 r e) := by
  have h : Gen.V m c main_v0 = truncf .bf16 (p m c) bitsLt_bf16_f32 := by
    rfl
  refine ((congrArg (Gen.V m c main_v0) (show _ = ix4 j 0 r e by blk_ext [idx t])).trans (congrFun h _)).trans ?_
  pointwise

theorem point (y : Shape.Idx S1x512x128) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 512) (e : Fin 128), y = ix3 0 r e := ⟨y 1, y 2, (eq_ix3 y).trans (by congr 1; omega)⟩
  have h0 : iblk m c 0 t (ix3 0 r e) = _ := (congrArg (Gen.V m c main_arg0) (show _ = ix3 0 r e by blk_ext [idx t])).trans (congrFun (V_main_arg0 m c) _)
  have h2 : iblk m c 2 t (ix3 0 r e) = _ := (congrArg (Gen.V m c main_arg2) (show _ = ix3 0 r e by blk_ext [idx t])).trans (congrFun (V_main_arg2 m c) _)
  have h3 : iblk m c 3 t (ix3 0 r e) = _ := (congrArg (Gen.V m c main_arg3) (show _ = ix3 0 r e by blk_ext [idx t])).trans (congrFun (V_main_arg3 m c) _)
  rw [after0_5, after0_6, after0_7, after0_8]
  refine ⟨Eq.trans ?_ (congrArg _ (show ix3 0 r e = _ by blk_ext [idx t])), Eq.trans ?_ (congrArg _ (show ix3 0 r e = _ by blk_ext [idx t])),
    Eq.trans ?_ (congrArg _ (show ix3 0 r e = _ by blk_ext [idx t])), Eq.trans ?_ (congrArg _ (show ix3 0 r e = _ by blk_ext [idx t]))⟩ <;>
  · frame_out
    pointwise [k0_pay1, k0_pay2, k0_pay3, k0_pay4, k0_pay5, k0_pay6, k0_pay7, k0_pay8, k0_pay9, k0_pay10, k0_pay11]
    simp only [p_at, h0, h2, h3]
    simp only [Adam.sum (fun j => p m c (ix4 j 0 r e))]
    rfl

theorem ref_frame : Cert.quiescent_ReferenceAdamBrIdeal := fun m ρ _ =>
  (θ_run _ _ _).mono (fun r h => ⟨fun c => (h c).2.2.2.2, sem_eq_zero_of_no_sems (by decide) r.2⟩) (Cert.ReferenceAdamBrIdeal.Value.run (F := Ideal) m ρ)

theorem algebraic : Cert.algebraic_KernelAdamBrIdeal_ReferenceAdamBrIdeal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamBrIdeal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 512) (e : Fin 128), i = ix3 z r e := ⟨i 0, i 1, i 2, eq_ix3 i⟩
      obtain rfl : z = 0 := by omega
      pointwise
      rfl

end Cert.KernelAdamBrIdeal.Adam

namespace Cert.KernelAdamOutIdeal.Adam

open Cert.KernelAdamOutIdeal.Gen

variable (m : (ℓ : Loc nD τ sig) → Buf (Elt Ideal) ℓ) (c : Dev nD) (t : Fin cfg0.N)

/-- `w_out`: the terms of the gradient, -/
abbrev p : FVec Ideal S8x1x128x1024 .f32 := m ((c.tc : Thread nD τ).loc main_arg1)
/-- and the four results. -/
abbrev res := @Adam.all 1 128 1024 (m ((c.tc : Thread nD τ).loc main_arg0)) (p m c) (m ((c.tc : Thread nD τ).loc main_arg2)) (m ((c.tc : Thread nD τ).loc main_arg3))

theorem idx : ∀ t : Fin cfg0.N, win0_0.index t = ![0, 0, t.val] ∧ win0_1.index t = ![0, 0, 0, t.val] ∧ win0_2.index t = ![0, 0, t.val] ∧ win0_3.index t = ![0, 0, t.val]
    ∧ win0_5.index t = ![0, 0, t.val] ∧ win0_6.index t = ![0, 0, t.val] ∧ win0_7.index t = ![0, 0, t.val] ∧ win0_8.index t = ![0, 0, t.val] := by
  decide +kernel

/-- The column where a column of a point lies. -/
abbrev col (e : Fin 512) : Fin 1024 := ⟨512 * t.val + e.val, by have : t.val < 2 := t.isLt; omega⟩

theorem p_at (j : Fin 8) (r : Fin 128) (e : Fin 512) : iblk m c 1 t (ix4 j 0 r e) = p m c (ix4 j 0 r (col t e)) := by
  have h : Gen.V m c main_v0 = truncf .bf16 (p m c) bitsLt_bf16_f32 := by
    rfl
  refine ((congrArg (Gen.V m c main_v0) (show _ = ix4 j 0 r (col t e) by blk_ext [idx t])).trans (congrFun h _)).trans ?_
  pointwise

theorem point (y : Shape.Idx S1x128x512) : (dats m 0 c).after 5 t y = (res m c).1 (((cfg0.win 5).blk t).view.emb y) ∧ (dats m 0 c).after 6 t y = (res m c).2.1 (((cfg0.win 6).blk t).view.emb y)
    ∧ (dats m 0 c).after 7 t y = (res m c).2.2.1 (((cfg0.win 7).blk t).view.emb y) ∧ (dats m 0 c).after 8 t y = (res m c).2.2.2 (((cfg0.win 8).blk t).view.emb y) := by
  obtain ⟨r, e, rfl⟩ : ∃ (r : Fin 128) (e : Fin 512), y = ix3 0 r e := ⟨y 1, y 2, (eq_ix3 y).trans (by congr 1; omega)⟩
  have h0 : iblk m c 0 t (ix3 0 r e) = _ := (congrArg (Gen.V m c main_arg0) (show _ = ix3 0 r (col t e) by blk_ext [idx t])).trans (congrFun (V_main_arg0 m c) _)
  have h2 : iblk m c 2 t (ix3 0 r e) = _ := (congrArg (Gen.V m c main_arg2) (show _ = ix3 0 r (col t e) by blk_ext [idx t])).trans (congrFun (V_main_arg2 m c) _)
  have h3 : iblk m c 3 t (ix3 0 r e) = _ := (congrArg (Gen.V m c main_arg3) (show _ = ix3 0 r (col t e) by blk_ext [idx t])).trans (congrFun (V_main_arg3 m c) _)
  rw [after0_5, after0_6, after0_7, after0_8]
  refine ⟨Eq.trans ?_ (congrArg _ (show ix3 0 r (col t e) = _ by blk_ext [idx t])), Eq.trans ?_ (congrArg _ (show ix3 0 r (col t e) = _ by blk_ext [idx t])),
    Eq.trans ?_ (congrArg _ (show ix3 0 r (col t e) = _ by blk_ext [idx t])), Eq.trans ?_ (congrArg _ (show ix3 0 r (col t e) = _ by blk_ext [idx t]))⟩ <;>
  · frame_out
    pointwise [k0_pay1, k0_pay2, k0_pay3, k0_pay4, k0_pay5, k0_pay6, k0_pay7, k0_pay8, k0_pay9, k0_pay10, k0_pay11]
    simp only [p_at, h0, h2, h3]
    simp only [Adam.sum (fun j => p m c (ix4 j 0 r (col t e)))]
    rfl

theorem ref_frame : Cert.quiescent_ReferenceAdamOutIdeal := fun m ρ _ =>
  (θ_run _ _ _).mono (fun r h => ⟨fun c => (h c).2.2.2.2, sem_eq_zero_of_no_sems (by decide) r.2⟩) (Cert.ReferenceAdamOutIdeal.Value.run (F := Ideal) m ρ)

theorem algebraic : Cert.algebraic_KernelAdamOutIdeal_ReferenceAdamOutIdeal := by
  intro m ρ m' ρ' hpre hagree
  refine ⟨fun c => (res m c).1, fun c => (res m c).2.1, fun c => (res m c).2.2.1, fun c => (res m c).2.2.2, (θ_run _ _ _).mono (fun r h c => ?_) (Value.run_blocks (F := Ideal) m ρ),
    (θ_run _ _ _).mono (fun r h c => ?_) (Cert.ReferenceAdamOutIdeal.Value.run (F := Ideal) m' ρ')⟩
  · have f := point m c
    exact ⟨(h c).1.trans ((dats m 0 c).arrAt_eq_of_covers 5 _ (by decide +kernel) fun t _ y => (f t y).1), (h c).2.1.trans ((dats m 0 c).arrAt_eq_of_covers 6 _ (by decide +kernel) fun t _ y => (f t y).2.1),
      (h c).2.2.1.trans ((dats m 0 c).arrAt_eq_of_covers 7 _ (by decide +kernel) fun t _ y => (f t y).2.2.1), (h c).2.2.2.1.trans ((dats m 0 c).arrAt_eq_of_covers 8 _ (by decide +kernel) fun t _ y => (f t y).2.2.2), (h c).2.2.2.2⟩
  · obtain ⟨h0, h1, h2, h3⟩ := hagree c
    refine ⟨(h c).1.trans ?_, (h c).2.1.trans ?_, (h c).2.2.1.trans ?_, (h c).2.2.2.1.trans ?_, (h c).2.2.2.2⟩ <;>
    · simp only [h0, h1, h2, h3]
      funext i
      obtain ⟨z, r, e, rfl⟩ : ∃ (z : Fin 1) (r : Fin 128) (e : Fin 1024), i = ix3 z r e := ⟨i 0, i 1, i 2, eq_ix3 i⟩
      obtain rfl : z = 0 := by omega
      pointwise
      rfl

end Cert.KernelAdamOutIdeal.Adam

end
-- ==== Proof.AttnTrip.lean ====
module

public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

theorem rows_inb {o : ℕ} (h : o + 512 ≤ 4096) : ∀ a, (![o, 0] : Fin S4096x128.rank → ℕ) a + S512x128.size a ≤ S4096x128.size a :=
  Fin.forall_fin_two.mpr ⟨h, Nat.le_of_ble_eq_true rfl⟩

theorem col_inb {o : ℕ} (h : o + 512 ≤ 4096) : ∀ a, (![o, 0] : Fin S4096x128.rank → ℕ) a + S512x1.size a ≤ S4096x128.size a :=
  Fin.forall_fin_two.mpr ⟨h, Nat.le_of_ble_eq_true rfl⟩

/-- 512 rows of a head's 4096, from row `o`. -/
def rows {e : EltTy} (X : Vec F S4096x128 e) (o : ℕ) (h : o + 512 ≤ 4096) : Vec F S512x128 e :=
  VecWindow.window X ![o, 0] S512x128.size (rows_inb h)

/-- The first lane of 512 rows, from row `o`. -/
def col {e : EltTy} (X : Vec F S4096x128 e) (o : ℕ) (h : o + 512 ≤ 4096) : Vec F S512x1 e :=
  VecWindow.window X ![o, 0] S512x1.size (col_inb h)

/-- 512 rows of `D` replaced from row `o`. -/
def setRows {e : EltTy} (D : Vec F S4096x128 e) (o : ℕ) (w : Vec F S512x128 e) : Vec F S4096x128 e :=
  VecWindow.put D ![o, 0] S512x128.size w

/-- What one unmasked step over the query rows from `o` makes of the two accumulators (of `dk`, of `dv`). -/
def tripAcc (x0 x1 : Vec F S1024x128 .bf16) (x2 x3 : Vec F S4096x128 .bf16) (x4 x5 : Vec F S4096x128 .f32) (o : ℕ) (h : o + 1024 ≤ 4096)
    (acc : FVec F S1024x128 .f32 × FVec F S1024x128 .f32) : FVec F S1024x128 .f32 × FVec F S1024x128 .f32 :=
  (k0_pay2 (k0_pay11 (rows x3 (o + 512) (by omega)) x1)
    (k0_pay16 acc.1 (k0_pay8 (rows x2 o (by omega)) x0) (k0_pay10 (rows x3 o (by omega)) x1) (k0_pay13 (rows x2 o (by omega))) (col x4 o (by omega)) (col x5 o (by omega)))
    (k0_pay19 (rows x2 (o + 512) (by omega))) (k0_pay20 (k0_pay9 (rows x2 (o + 512) (by omega)) x0) (col x4 (o + 512) (by omega))) (col x5 (o + 512) (by omega)),
   k0_pay21 acc.2 (k0_pay8 (rows x2 o (by omega)) x0) (k0_pay9 (rows x2 (o + 512) (by omega)) x0) (rows x3 o (by omega)) (col x4 o (by omega))
    (rows x3 (o + 512) (by omega)) (col x4 (o + 512) (by omega)))

/-- What one unmasked step over the query rows from `o` makes of `dq`. -/
def tripDq (x0 x1 : Vec F S1024x128 .bf16) (x2 x3 : Vec F S4096x128 .bf16) (x4 x5 : Vec F S4096x128 .f32) (o : ℕ) (h : o + 1024 ≤ 4096)
    (D : Vec F S4096x128 .f32) : Vec F S4096x128 .f32 :=
  setRows (setRows D o (k0_pay17 (k0_pay8 (rows x2 o (by omega)) x0) (k0_pay10 (rows x3 o (by omega)) x1) (k0_pay12 x0) (col x4 o (by omega)) (col x5 o (by omega)) (rows D o (by omega))))
    (o + 512) (k0_pay3 (k0_pay11 (rows x3 (o + 512) (by omega)) x1) (k0_pay18 x0) (k0_pay20 (k0_pay9 (rows x2 (o + 512) (by omega)) x0) (col x4 (o + 512) (by omega)))
      (col x5 (o + 512) (by omega)) (rows D (o + 512) (by omega)))

/-- The rows a trip works on lie in the head. -/
theorem trip_bound (i : grid0.Coords) (k : Fin (k0_t1_loop i).trips) : 1024 * (i 1).val + 1024 * k.val + 1024 + 1024 ≤ 4096 := by
  revert i; decide +kernel

theorem off3_0 (i : grid0.Coords) (k : Fin (k0_t1_loop i).trips) : k0_off3 i k 0#32 = ![1024 * (i 1).val + 1024 * k.val + 1024, 0] :=
  (k0_off3_eq i k 0)
theorem off3_1 (i : grid0.Coords) (k : Fin (k0_t1_loop i).trips) : k0_off3 i k 512#32 = ![1024 * (i 1).val + 1024 * k.val + 1024 + 512, 0] :=
  (k0_off3_eq i k 1).trans (by show ![1024 * (i 1).val + 1024 * k.val + 512 * 1 + 1024, 0] = _; congr 1)
theorem off4_0 (i : grid0.Coords) (k : Fin (k0_t1_loop i).trips) : k0_off4 i k 0#32 = ![1024 * (i 1).val + 1024 * k.val + 1024, 0] :=
  (k0_off4_eq i k 0)
theorem off4_1 (i : grid0.Coords) (k : Fin (k0_t1_loop i).trips) : k0_off4 i k 512#32 = ![1024 * (i 1).val + 1024 * k.val + 1024 + 512, 0] :=
  (k0_off4_eq i k 1).trans (by show ![1024 * (i 1).val + 1024 * k.val + 512 * 1 + 1024, 0] = _; congr 1)

/-- A load of 512 rows of a whole buffer. -/
theorem readAt_rows {e : EltTy} {m : Memref sig .tc .vmem S4096x128 e} (f : BufTy.Contents (Elt F) m.view.ty) {off : Fin 2 → ℕ}
    (inb : ∀ a, off a + S512x128.size a ≤ S4096x128.size a) {o : ℕ} (ho : off = ![o, 0]) (h : o + 512 ≤ 4096) :
    View.readAt (Elt F) m.view (Rect.unit (s := S4096x128) off S512x128.size inb).toLoadRect f = rows (m.view.read (Elt F) f) o h :=
  View.readAt_unit m.view f inb ho (rows_inb h)

theorem readAt_col {e : EltTy} {m : Memref sig .tc .vmem S4096x128 e} (f : BufTy.Contents (Elt F) m.view.ty) {off : Fin 2 → ℕ}
    (inb : ∀ a, off a + S512x1.size a ≤ S4096x128.size a) {o : ℕ} (ho : off = ![o, 0]) (h : o + 512 ≤ 4096) :
    View.readAt (Elt F) m.view (Rect.unit (s := S4096x128) off S512x1.size inb).toLoadRect f = col (m.view.read (Elt F) f) o h :=
  View.readAt_unit m.view f inb ho (col_inb h)

section
variable (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)
  (arg7 : Memref sig .tc .vmem S4096x128 .f32) (harg7 : arg7.IsWhole) (arg8 : Memref sig .tc .vmem S4096x128 .f32) (harg8 : arg8.IsWhole) (arg9 : Memref sig .tc .vmem S1024x128 .f32) (harg9 : arg9.IsWhole) (arg10 : Memref sig .tc .vmem S1024x128 .bf16) (harg10 : arg10.IsWhole) (v119 : BitVec 32)
  (x0 x1 : Vec F S1024x128 .bf16) (x2 x3 : Vec F S4096x128 .bf16) (x4 x5 : Vec F S4096x128 .f32) (k : Fin (k0_t1_loop i).trips)
  (acc : FVec F S1024x128 .f32 × FVec F S1024x128 .f32) (f : BufTy.Contents (Elt F) arg8.view.ty)

/-- A trip's result. -/
theorem tripR_eq :
    (trip_k0_t1 (F := F) 𝒱 c bd i arg2 harg2 arg3 harg3 arg4 harg4 arg5 harg5 arg6 harg6 arg7 harg7 arg8 harg8 arg9 harg9 arg10 harg10 v119 (harg2.unread x0) (harg3.unread x1) (harg4.unread x2) (harg5.unread x3) (harg6.unread x4) (harg7.unread x5) k).1 acc f
      = tripAcc x0 x1 x2 x3 x4 x5 (1024 * (i 1).val + 1024 * k.val + 1024) (trip_bound i k) acc := by
  have hb := trip_bound i k
  unfold trip_k0_t1
  dsimp only
  sl_unfold_run_names
  rw [readAt_rows (m := arg4) _ _ (off3_0 i k) (by omega), readAt_rows (m := arg4) _ _ (off3_1 i k) (by omega),
    readAt_rows (m := arg5) _ _ (off3_0 i k) (by omega), readAt_rows (m := arg5) _ _ (off3_1 i k) (by omega),
    readAt_col (m := arg6) _ _ (off4_0 i k) (by omega), readAt_col (m := arg6) _ _ (off4_1 i k) (by omega),
    readAt_col (m := arg7) _ _ (off4_0 i k) (by omega), readAt_col (m := arg7) _ _ (off4_1 i k) (by omega),
    View.readAt_full arg2.view, View.readAt_full arg3.view]
  simp only [harg2.read_unread, harg3.read_unread, harg4.read_unread, harg5.read_unread, harg6.read_unread, harg7.read_unread]
  rfl

/-- What a trip leaves in `dq`. -/
theorem tripL_eq :
    arg8.view.read (Elt F) (arg8.view.writes (Elt F) f ((trip_k0_t1 (F := F) 𝒱 c bd i arg2 harg2 arg3 harg3 arg4 harg4 arg5 harg5 arg6 harg6 arg7 harg7 arg8 harg8 arg9 harg9 arg10 harg10 v119 (harg2.unread x0) (harg3.unread x1) (harg4.unread x2) (harg5.unread x3) (harg6.unread x4) (harg7.unread x5) k).2.1 acc f))
      = tripDq x0 x1 x2 x3 x4 x5 (1024 * (i 1).val + 1024 * k.val + 1024) (trip_bound i k) (arg8.view.read (Elt F) f) := by
  have hb := trip_bound i k
  unfold trip_k0_t1
  dsimp only
  sl_unfold_run_names
  rw [View.read_writes_cons_put _ _ _ _ _ (off3_1 i k), View.read_writes_cons_put _ _ _ _ _ (off3_0 i k), View.writes_nil]
  rw [readAt_rows (m := arg4) _ _ (off3_0 i k) (by omega), readAt_rows (m := arg4) _ _ (off3_1 i k) (by omega),
    readAt_rows (m := arg5) _ _ (off3_0 i k) (by omega), readAt_rows (m := arg5) _ _ (off3_1 i k) (by omega),
    readAt_rows (m := arg8) _ _ (off3_0 i k) (by omega), readAt_rows (m := arg8) _ _ (off3_1 i k) (by omega),
    readAt_col (m := arg6) _ _ (off4_0 i k) (by omega), readAt_col (m := arg6) _ _ (off4_1 i k) (by omega),
    readAt_col (m := arg7) _ _ (off4_0 i k) (by omega), readAt_col (m := arg7) _ _ (off4_1 i k) (by omega),
    View.readAt_full arg2.view, View.readAt_full arg3.view]
  simp only [harg2.read_unread, harg3.read_unread, harg4.read_unread, harg5.read_unread, harg6.read_unread, harg7.read_unread]
  rfl

end

/-- The accumulators after `n` unmasked steps from the block of rows behind block `b`. -/
def loopAcc (x0 x1 : Vec F S1024x128 .bf16) (x2 x3 : Vec F S4096x128 .bf16) (x4 x5 : Vec F S4096x128 .f32) (b : ℕ)
    (acc : FVec F S1024x128 .f32 × FVec F S1024x128 .f32) : ℕ → FVec F S1024x128 .f32 × FVec F S1024x128 .f32
  | 0 => acc
  | n + 1 => if h : 1024 * b + 1024 * n + 1024 + 1024 ≤ 4096 then tripAcc x0 x1 x2 x3 x4 x5 (1024 * b + 1024 * n + 1024) h (loopAcc x0 x1 x2 x3 x4 x5 b acc n)
      else loopAcc x0 x1 x2 x3 x4 x5 b acc n

/-- `dq` after `n` unmasked steps from the block of rows behind block `b`. -/
def loopDq (x0 x1 : Vec F S1024x128 .bf16) (x2 x3 : Vec F S4096x128 .bf16) (x4 x5 : Vec F S4096x128 .f32) (b : ℕ)
    (D : Vec F S4096x128 .f32) : ℕ → Vec F S4096x128 .f32
  | 0 => D
  | n + 1 => if h : 1024 * b + 1024 * n + 1024 + 1024 ≤ 4096 then tripDq x0 x1 x2 x3 x4 x5 (1024 * b + 1024 * n + 1024) h (loopDq x0 x1 x2 x3 x4 x5 b D n)
      else loopDq x0 x1 x2 x3 x4 x5 b D n

/-- The first half of a block of keys or values. -/
def half (x : Vec F S1024x128 .bf16) : Vec F S512x128 .bf16 :=
  VecWindow.window x ![0, 0] S512x128.size inb_S1024x128_S512x128_0_0

/-- The two accumulators after the masked step on the block of query rows from `o`. -/
def diagAcc (x0 x1 : Vec F S1024x128 .bf16) (x2 x3 : Vec F S4096x128 .bf16) (x4 x5 : Vec F S4096x128 .f32) (o : ℕ) (h : o + 1024 ≤ 4096) :
    FVec F S1024x128 .f32 × FVec F S1024x128 .f32 :=
  (k0_pay53 (k0_pay40 (rows x2 (o + 512) (by omega)) x0) (k0_pay44 (k0_pay42 (rows x3 (o + 512) (by omega))) (k0_pay43 x1))
    (k0_pay48 k0_pay37 (k0_pay39 (rows x2 o (by omega)) (half x0)) (k0_pay41 (rows x3 o (by omega)) (half x1)) (rows x2 o (by omega)) (col x4 o (by omega)) (col x5 o (by omega)))
    (rows x2 (o + 512) (by omega)) (col x4 (o + 512) (by omega)) (col x5 (o + 512) (by omega)),
   k0_pay51 (k0_pay40 (rows x2 (o + 512) (by omega)) x0) (k0_pay46 k0_pay38 (k0_pay39 (rows x2 o (by omega)) (half x0)) (rows x3 o (by omega)) (col x4 o (by omega)))
    (rows x3 (o + 512) (by omega)) (col x4 (o + 512) (by omega)))

/-- `dq` after the masked step on the block of query rows from `o`. -/
def diagDq (x0 x1 : Vec F S1024x128 .bf16) (x2 x3 : Vec F S4096x128 .bf16) (x4 x5 : Vec F S4096x128 .f32) (o : ℕ) (h : o + 1024 ≤ 4096)
    (D : Vec F S4096x128 .f32) : Vec F S4096x128 .f32 :=
  setRows (setRows D o (k0_pay49 (k0_pay39 (rows x2 o (by omega)) (half x0)) (k0_pay41 (rows x3 o (by omega)) (half x1)) (half x0) (col x4 o (by omega)) (col x5 o (by omega)) (rows D o (by omega))))
    (o + 512) (k0_pay54 (k0_pay40 (rows x2 (o + 512) (by omega)) x0) (k0_pay44 (k0_pay42 (rows x3 (o + 512) (by omega))) (k0_pay43 x1)) x0
      (col x4 (o + 512) (by omega)) (col x5 (o + 512) (by omega)) (rows D (o + 512) (by omega)))

theorem blk_bound (i : grid0.Coords) : 1024 * (i 1).val + 1024 ≤ 4096 := by revert i; decide +kernel

/-- The accumulators a grid point ends with. -/
def pointAcc (x0 x1 : Vec F S1024x128 .bf16) (x2 x3 : Vec F S4096x128 .bf16) (x4 x5 : Vec F S4096x128 .f32) (i : grid0.Coords) :
    FVec F S1024x128 .f32 × FVec F S1024x128 .f32 :=
  loopAcc x0 x1 x2 x3 x4 x5 (i 1).val (diagAcc x0 x1 x2 x3 x4 x5 (1024 * (i 1).val) (blk_bound i)) (k0_t1_loop i).trips

/-- `dq` as a grid point leaves it. -/
def pointDq (x0 x1 : Vec F S1024x128 .bf16) (x2 x3 : Vec F S4096x128 .bf16) (x4 x5 : Vec F S4096x128 .f32) (i : grid0.Coords)
    (D : Vec F S4096x128 .f32) : Vec F S4096x128 .f32 :=
  loopDq x0 x1 x2 x3 x4 x5 (i 1).val (diagDq x0 x1 x2 x3 x4 x5 (1024 * (i 1).val) (blk_bound i) D) (k0_t1_loop i).trips

section
variable (𝒱 : Variants) (c : Dev nD) (bd : Option 𝒱.V) (i : grid0.Coords) (arg2 : Memref sig .tc .vmem S1024x128 .bf16) (harg2 : arg2.IsWhole) (arg3 : Memref sig .tc .vmem S1024x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)
  (arg7 : Memref sig .tc .vmem S4096x128 .f32) (harg7 : arg7.IsWhole) (arg8 : Memref sig .tc .vmem S4096x128 .f32) (harg8 : arg8.IsWhole) (arg9 : Memref sig .tc .vmem S1024x128 .f32) (harg9 : arg9.IsWhole) (arg10 : Memref sig .tc .vmem S1024x128 .bf16) (harg10 : arg10.IsWhole) (v119 : BitVec 32)
  (x0 x1 : Vec F S1024x128 .bf16) (x2 x3 : Vec F S4096x128 .bf16) (x4 x5 : Vec F S4096x128 .f32)
  (acc : FVec F S1024x128 .f32 × FVec F S1024x128 .f32) (G : BufTy.Contents (Elt F) arg8.view.ty)

/-- The loop's state before trip `n`. -/
theorem st_eq (n : ℕ) (hn : n ≤ (k0_t1_loop i).trips) :
    (st_k0_t1 (F := F) 𝒱 c bd i arg2 harg2 arg3 harg3 arg4 harg4 arg5 harg5 arg6 harg6 arg7 harg7 arg8 harg8 arg9 harg9 arg10 harg10 v119 (harg2.unread x0) (harg3.unread x1) (harg4.unread x2) (harg5.unread x3) (harg6.unread x4) (harg7.unread x5) G acc n).1 = loopAcc x0 x1 x2 x3 x4 x5 (i 1).val acc n ∧
    arg8.view.read (Elt F) (arg8.view.writes (Elt F) G (st_k0_t1 (F := F) 𝒱 c bd i arg2 harg2 arg3 harg3 arg4 harg4 arg5 harg5 arg6 harg6 arg7 harg7 arg8 harg8 arg9 harg9 arg10 harg10 v119 (harg2.unread x0) (harg3.unread x1) (harg4.unread x2) (harg5.unread x3) (harg6.unread x4) (harg7.unread x5) G acc n).2)
      = loopDq x0 x1 x2 x3 x4 x5 (i 1).val (arg8.view.read (Elt F) G) n := by
  induction n with
  | zero => exact ⟨rfl, rfl⟩
  | succ n ih =>
    obtain ⟨h1, h2⟩ := ih (by omega)
    have hb := trip_bound i ⟨n, hn⟩
    have e := st_k0_t1_succ (F := F) 𝒱 c bd i arg2 harg2 arg3 harg3 arg4 harg4 arg5 harg5 arg6 harg6 arg7 harg7 arg8 harg8 arg9 harg9 arg10 harg10 v119 (harg2.unread x0) (harg3.unread x1) (harg4.unread x2) (harg5.unread x3) (harg6.unread x4) (harg7.unread x5) G acc ⟨n, hn⟩
    dsimp only at e hb
    rw [e]
    constructor
    · rw [loopAcc, dif_pos hb, ← h1]
      exact tripR_eq 𝒱 c bd i arg2 harg2 arg3 harg3 arg4 harg4 arg5 harg5 arg6 harg6 arg7 harg7 arg8 harg8 arg9 harg9 arg10 harg10 v119 x0 x1 x2 x3 x4 x5 ⟨n, hn⟩ _ _
    · rw [loopDq, dif_pos hb, ← h2, View.writes_append]
      exact tripL_eq 𝒱 c bd i arg2 harg2 arg3 harg3 arg4 harg4 arg5 harg5 arg6 harg6 arg7 harg7 arg8 harg8 arg9 harg9 arg10 harg10 v119 x0 x1 x2 x3 x4 x5 ⟨n, hn⟩ _ _

end

end Cert.KernelIdeal.Attn
end
-- ==== Proof.AttnSum.lean ====
module

public import proofs.«01_k».proof.Proof.AttnTrip
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Cert.KernelIdeal.Gen

/-! ## Windows of a head's rows at an index -/

theorem rows_at {e : EltTy} (X : Vec Ideal S4096x128 e) (o : ℕ) (h : o + 512 ≤ 4096) (u : Fin 512) (d : Fin 128) :
    rows X o h (ix2 u d) = X (ix2 ⟨o + u.val, by omega⟩ d) := by
  refine congrArg X (funext (Fin.forall_fin_two.mpr ⟨Fin.ext ?_, Fin.ext ?_⟩))
  · show o + 1 * u.val = o + u.val; omega
  · show 0 + 1 * d.val = d.val; omega

theorem col_at {e : EltTy} (X : Vec Ideal S4096x128 e) (o : ℕ) (h : o + 512 ≤ 4096) (u : Fin 512) :
    col X o h (ix2 u 0) = X (ix2 ⟨o + u.val, by omega⟩ 0) := by
  refine congrArg X (funext (Fin.forall_fin_two.mpr ⟨Fin.ext ?_, Fin.ext ?_⟩))
  · show o + 1 * u.val = o + u.val; omega
  · rfl

theorem half_at (X : Vec Ideal S1024x128 .bf16) (u : Fin 512) (d : Fin 128) :
    half X (ix2 u d) = X (ix2 ⟨u.val, by omega⟩ d) := by
  refine congrArg X (funext (Fin.forall_fin_two.mpr ⟨Fin.ext ?_, Fin.ext ?_⟩))
  · show 0 + 1 * u.val = u.val; omega
  · show 0 + 1 * d.val = d.val; omega

theorem setRows_at {e : EltTy} (D : Vec Ideal S4096x128 e) (o : ℕ) (w : Vec Ideal S512x128 e) (t : Fin 4096) (d : Fin 128) :
    setRows D o w (ix2 t d) = if h : o ≤ t.val ∧ t.val < o + 512 then w (ix2 ⟨t.val - o, by omega⟩ d) else D (ix2 t d) := by
  unfold setRows VecWindow.put
  by_cases h : o ≤ t.val ∧ t.val < o + 512
  · rw [dif_pos h, dif_pos (Fin.forall_fin_two.mpr ⟨h, Nat.zero_le _, by show d.val < 0 + 128; omega⟩)]
    refine congrArg w (funext (Fin.forall_fin_two.mpr ⟨Fin.ext rfl, Fin.ext rfl⟩))
  · rw [dif_neg h, dif_neg (fun h' => h (h' 0))]

/-! ## A point's weights at an index -/

section
variable (x0 x1 : Vec Ideal S1024x128 .bf16) (x2 x3 : Vec Ideal S4096x128 .bf16) (x4 x5 : Vec Ideal S4096x128 .f32)

/-- The softmax weight of query row `t` on key row `j` of the point's block, unmasked. -/
def pw (t : Fin 4096) (j : Fin 1024) : EReal := Ideal.exp ((∑ d : Fin 128, x2 (ix2 t d) * x0 (ix2 j d) : EReal) - x4 (ix2 t 0))

/-- The score gradient of query row `t` on key row `j` of the point's block, unmasked. -/
def dw (t : Fin 4096) (j : Fin 1024) : EReal := pw x0 x2 x4 t j * ((∑ d : Fin 128, x3 (ix2 t d) * x1 (ix2 j d) : EReal) - x5 (ix2 t 0))

/-- `pw` where the query does not precede the key of block `b`, else zero. -/
def pM (b : ℕ) (t : Fin 4096) (j : Fin 1024) : EReal := if 1024 * b + j.val ≤ t.val then pw x0 x2 x4 t j else 0

/-- `dw` where the query does not precede the key of block `b`, else zero. -/
def dM (b : ℕ) (t : Fin 4096) (j : Fin 1024) : EReal := if 1024 * b + j.val ≤ t.val then dw x0 x1 x2 x3 x4 x5 t j else 0

section
variable (o : ℕ) (h : o + 512 ≤ 4096) (u : Fin 512) (j : Fin 1024)

theorem pay14_at : k0_pay14 (F := Ideal) (k0_pay8 (rows x2 o h) x0) (col x4 o h) (ix2 u j) = pw x0 x2 x4 ⟨o + u.val, by omega⟩ j := by
  pointwise [k0_pay14, k0_pay8]
  simp only [rows_at, col_at]
  rfl
theorem pay20_at : k0_pay20 (F := Ideal) (k0_pay9 (rows x2 o h) x0) (col x4 o h) (ix2 u j) = pw x0 x2 x4 ⟨o + u.val, by omega⟩ j := by
  pointwise [k0_pay20, k0_pay9]
  simp only [rows_at, col_at]
  rfl
theorem pay10_at : k0_pay10 (F := Ideal) (rows x3 o h) x1 (ix2 u j) = (∑ d : Fin 128, x3 (ix2 ⟨o + u.val, by omega⟩ d) * x1 (ix2 j d) : EReal) := by
  pointwise [k0_pay10]
  simp only [rows_at]
theorem pay11_at : k0_pay11 (F := Ideal) (rows x3 o h) x1 (ix2 u j) = (∑ d : Fin 128, x3 (ix2 ⟨o + u.val, by omega⟩ d) * x1 (ix2 j d) : EReal) := by
  pointwise [k0_pay11]
  simp only [rows_at]
theorem pay15_at : k0_pay15 (F := Ideal) (k0_pay8 (rows x2 o h) x0) (k0_pay10 (rows x3 o h) x1) (col x4 o h) (col x5 o h) (ix2 u j)
    = dw x0 x1 x2 x3 x4 x5 ⟨o + u.val, by omega⟩ j := by
  have e : k0_pay15 (F := Ideal) (k0_pay8 (rows x2 o h) x0) (k0_pay10 (rows x3 o h) x1) (col x4 o h) (col x5 o h) (ix2 u j)
      = (k0_pay14 (F := Ideal) (k0_pay8 (rows x2 o h) x0) (col x4 o h) (ix2 u j) * (k0_pay10 (F := Ideal) (rows x3 o h) x1 (ix2 u j) - col x5 o h (ix2 u 0)) : EReal) := by
    pointwise [k0_pay15]
  rw [e, pay14_at, pay10_at, col_at]
  rfl
end

/-! The masked halves of the diagonal step. -/

theorem mask_exp (p : Prop) [Decidable p] (a l : EReal) : Ideal.exp ((if p then a else (⊥ : EReal)) - l) = if p then Ideal.exp (a - l) else 0 := by
  split
  · rfl
  · rw [EReal.bot_sub]; rfl

theorem mask_named : (Named.named (F := Ideal) κ "mask" (φ := .f32) 4048155338#32 : EReal) = ⊥ := rfl

theorem mask_select (c u j : ℕ) (hc : c < 1024) (hu : u < 1024) (hj : j < 1024) (x y : EReal) :
    Scalar.select (IntOp.cmpi CmpIPredicate.sge (IntOp.addi (BitVec.ofNat 32 u) (BitVec.ofNat 32 c)) (BitVec.ofNat 32 j)) x y = if j ≤ u + c then x else y := by
  rw [show IntOp.addi (BitVec.ofNat 32 u) (BitVec.ofNat 32 c) = BitVec.ofNat 32 (u + c) from (BitVec.ofNat_add u c).symm]
  simp (disch := omega) only [hlo_ix]

variable (b : ℕ) (h : 1024 * b + 1024 ≤ 4096) (u : Fin 512)

theorem pay45_at (j : Fin 512) : k0_pay45 (F := Ideal) (k0_pay39 (rows x2 (1024 * b) (by omega)) (half x0)) (col x4 (1024 * b) (by omega)) (ix2 u j)
    = pM x0 x2 x4 b ⟨1024 * b + u.val, by omega⟩ ⟨j.val, by omega⟩ := by
  pointwise [k0_pay45, k0_pay39]
  rw [mask_named, mask_select 0 u.val j.val (by omega) (by omega) (by omega), mask_exp]
  simp only [rows_at, col_at, half_at]
  unfold pM
  refine if_congr ?_ rfl rfl
  show j.val ≤ u.val + 0 ↔ 1024 * b + j.val ≤ 1024 * b + u.val
  omega
theorem pay50_at (j : Fin 1024) : k0_pay50 (F := Ideal) (k0_pay40 (rows x2 (1024 * b + 512) (by omega)) x0) (col x4 (1024 * b + 512) (by omega)) (ix2 u j)
    = pM x0 x2 x4 b ⟨1024 * b + 512 + u.val, by omega⟩ j := by
  pointwise [k0_pay50, k0_pay40]
  rw [mask_named, mask_select 512 u.val j.val (by omega) (by omega) (by omega), mask_exp]
  simp only [rows_at, col_at]
  unfold pM
  refine if_congr ?_ rfl rfl
  show j.val ≤ u.val + 512 ↔ 1024 * b + j.val ≤ 1024 * b + 512 + u.val
  omega

theorem pM_mul (t : Fin 4096) (j : Fin 1024) :
    pM x0 x2 x4 b t j * ((∑ d : Fin 128, x3 (ix2 t d) * x1 (ix2 j d) : EReal) - x5 (ix2 t 0)) = dM x0 x1 x2 x3 x4 x5 b t j := by
  unfold pM dM
  split
  · rfl
  · exact zero_mul _

theorem pay47_at (j : Fin 512) : k0_pay47 (F := Ideal) (k0_pay39 (rows x2 (1024 * b) (by omega)) (half x0)) (k0_pay41 (rows x3 (1024 * b) (by omega)) (half x1))
      (col x4 (1024 * b) (by omega)) (col x5 (1024 * b) (by omega)) (ix2 u j)
    = dM x0 x1 x2 x3 x4 x5 b ⟨1024 * b + u.val, by omega⟩ ⟨j.val, by omega⟩ := by
  have e : k0_pay47 (F := Ideal) (k0_pay39 (rows x2 (1024 * b) (by omega)) (half x0)) (k0_pay41 (rows x3 (1024 * b) (by omega)) (half x1))
      (col x4 (1024 * b) (by omega)) (col x5 (1024 * b) (by omega)) (ix2 u j)
      = (k0_pay45 (F := Ideal) (k0_pay39 (rows x2 (1024 * b) (by omega)) (half x0)) (col x4 (1024 * b) (by omega)) (ix2 u j)
        * ((∑ d : Fin 128, rows x3 (1024 * b) (by omega) (ix2 u d) * half x1 (ix2 j d)) - col x5 (1024 * b) (by omega) (ix2 u 0)) : EReal) := by
    pointwise [k0_pay47, k0_pay41]
  rw [e, pay45_at x0 x2 x4 b h, ← pM_mul]
  simp only [rows_at, col_at, half_at]
theorem pay52_at (j : Fin 1024) : k0_pay52 (F := Ideal) (k0_pay40 (rows x2 (1024 * b + 512) (by omega)) x0) (k0_pay44 (k0_pay42 (rows x3 (1024 * b + 512) (by omega))) (k0_pay43 x1))
      (col x4 (1024 * b + 512) (by omega)) (col x5 (1024 * b + 512) (by omega)) (ix2 u j)
    = dM x0 x1 x2 x3 x4 x5 b ⟨1024 * b + 512 + u.val, by omega⟩ j := by
  have e : k0_pay52 (F := Ideal) (k0_pay40 (rows x2 (1024 * b + 512) (by omega)) x0) (k0_pay44 (k0_pay42 (rows x3 (1024 * b + 512) (by omega))) (k0_pay43 x1))
      (col x4 (1024 * b + 512) (by omega)) (col x5 (1024 * b + 512) (by omega)) (ix2 u j)
      = (k0_pay50 (F := Ideal) (k0_pay40 (rows x2 (1024 * b + 512) (by omega)) x0) (col x4 (1024 * b + 512) (by omega)) (ix2 u j)
        * ((∑ d : Fin 128, rows x3 (1024 * b + 512) (by omega) (ix2 u d) * x1 (ix2 j d)) - col x5 (1024 * b + 512) (by omega) (ix2 u 0)) : EReal) := by
    pointwise [k0_pay52, k0_pay44, k0_pay42, k0_pay43]
  rw [e, pay50_at x0 x2 x4 b h, ← pM_mul]
  simp only [rows_at, col_at]

end

/-! ## Sums over a stretch of query rows -/

/-- `G` at a row of the head, zero behind its end. -/
def ext (G : Fin 4096 → EReal) (n : ℕ) : EReal := if h : n < 4096 then G ⟨n, h⟩ else 0

theorem sum_block (G : Fin 4096 → EReal) (o : ℕ) (h : o + 512 ≤ 4096) :
    (∑ u : Fin 512, G ⟨o + u.val, by omega⟩) = ∑ n ∈ Finset.Ico o (o + 512), ext G n := by
  rw [Finset.sum_Ico_eq_sum_range, Nat.add_sub_cancel_left, Finset.sum_range]
  refine Finset.sum_congr rfl fun u _ => ?_
  unfold ext
  rw [dif_pos (by omega)]

theorem sum_all (G : Fin 4096 → EReal) : (∑ t, G t) = ∑ n ∈ Finset.range 4096, ext G n := by
  rw [Finset.sum_range]
  refine Finset.sum_congr rfl fun u _ => ?_
  unfold ext
  rw [dif_pos u.isLt]

theorem sum_tail (G : Fin 4096 → EReal) (o : ℕ) (h : o ≤ 4096) (hG : ∀ t : Fin 4096, t.val < o → G t = 0) :
    (∑ t, G t) = ∑ n ∈ Finset.Ico o 4096, ext G n := by
  rw [sum_all, Finset.range_eq_Ico, ← Finset.sum_Ico_consecutive _ (Nat.zero_le o) h, Finset.sum_eq_zero, zero_add]
  intro n hn
  have := (Finset.mem_Ico.mp hn).2
  unfold ext
  rw [dif_pos (by omega)]
  exact hG _ this

/-! ## One step over 1024 query rows -/

section
variable (x0 x1 : Vec Ideal S1024x128 .bf16) (x2 x3 : Vec Ideal S4096x128 .bf16) (x4 x5 : Vec Ideal S4096x128 .f32)

/-- Query row `t`'s term of `dk` of key row `j`. -/
def gK (b : ℕ) (j : Fin 1024) (d : Fin 128) (t : Fin 4096) : EReal := dM x0 x1 x2 x3 x4 x5 b t j * x2 (ix2 t d)
/-- Query row `t`'s term of `dv` of key row `j`. -/
def gV (b : ℕ) (j : Fin 1024) (d : Fin 128) (t : Fin 4096) : EReal := pM x0 x2 x4 b t j * x3 (ix2 t d)
/-- What block `b`'s keys contribute to `dq` of query row `t`. -/
def gQ (b : ℕ) (t : Fin 4096) (d : Fin 128) : EReal := ∑ j : Fin 1024, dM x0 x1 x2 x3 x4 x5 b t j * x0 (ix2 j d)

variable (b : ℕ) (j : Fin 1024) (d : Fin 128)

theorem dM_past (t : Fin 4096) (ht : 1024 * b + 1024 ≤ t.val) (j : Fin 1024) : dM x0 x1 x2 x3 x4 x5 b t j = dw x0 x1 x2 x3 x4 x5 t j :=
  if_pos (by omega)
theorem pM_past (t : Fin 4096) (ht : 1024 * b + 1024 ≤ t.val) (j : Fin 1024) : pM x0 x2 x4 b t j = pw x0 x2 x4 t j :=
  if_pos (by omega)

theorem tripK (o : ℕ) (h : o + 1024 ≤ 4096) (hb : 1024 * b + 1024 ≤ o) (acc : FVec Ideal S1024x128 .f32 × FVec Ideal S1024x128 .f32) :
    (tripAcc x0 x1 x2 x3 x4 x5 o h acc).1 (ix2 j d) = (acc.1 (ix2 j d) + ∑ n ∈ Finset.Ico o (o + 1024), ext (gK x0 x1 x2 x3 x4 x5 b j d) n : EReal) := by
  have e : (tripAcc x0 x1 x2 x3 x4 x5 o h acc).1 (ix2 j d)
      = (acc.1 (ix2 j d) + (∑ u : Fin 512, gK x0 x1 x2 x3 x4 x5 b j d ⟨o + u.val, by omega⟩) + ∑ u : Fin 512, gK x0 x1 x2 x3 x4 x5 b j d ⟨o + 512 + u.val, by omega⟩ : EReal) := by
    unfold tripAcc
    pointwise [k0_pay2, k0_pay1, k0_pay19, k0_pay16, k0_pay13]
    simp only [pay15_at, pay20_at, pay11_at, rows_at, col_at]
    refine congrArg₂ (· + ·) (congrArg (acc.1 (ix2 j d) + ·) (Finset.sum_congr rfl fun u _ => ?_)) (Finset.sum_congr rfl fun u _ => ?_)
    · exact congrArg (· * _) (dM_past x0 x1 x2 x3 x4 x5 b _ (by show _ ≤ o + u.val; omega) j).symm
    · exact congrArg (· * _) (dM_past x0 x1 x2 x3 x4 x5 b _ (by show _ ≤ o + 512 + u.val; omega) j).symm
  rw [e, sum_block _ o (by omega), sum_block _ (o + 512) (by omega), add_assoc, Finset.sum_Ico_consecutive _ (by omega) (by omega)]

theorem tripV (o : ℕ) (h : o + 1024 ≤ 4096) (hb : 1024 * b + 1024 ≤ o) (acc : FVec Ideal S1024x128 .f32 × FVec Ideal S1024x128 .f32) :
    (tripAcc x0 x1 x2 x3 x4 x5 o h acc).2 (ix2 j d) = (acc.2 (ix2 j d) + ∑ n ∈ Finset.Ico o (o + 1024), ext (gV x0 x2 x3 x4 b j d) n : EReal) := by
  have e : (tripAcc x0 x1 x2 x3 x4 x5 o h acc).2 (ix2 j d)
      = (acc.2 (ix2 j d) + (∑ u : Fin 512, gV x0 x2 x3 x4 b j d ⟨o + u.val, by omega⟩) + ∑ u : Fin 512, gV x0 x2 x3 x4 b j d ⟨o + 512 + u.val, by omega⟩ : EReal) := by
    unfold tripAcc
    pointwise [k0_pay21]
    simp only [pay14_at, pay20_at, rows_at]
    refine congrArg₂ (· + ·) (congrArg (acc.2 (ix2 j d) + ·) (Finset.sum_congr rfl fun u _ => ?_)) (Finset.sum_congr rfl fun u _ => ?_)
    · exact congrArg (· * _) (pM_past x0 x2 x4 b _ (by show _ ≤ o + u.val; omega) j).symm
    · exact congrArg (· * _) (pM_past x0 x2 x4 b _ (by show _ ≤ o + 512 + u.val; omega) j).symm
  rw [e, sum_block _ o (by omega), sum_block _ (o + 512) (by omega), add_assoc, Finset.sum_Ico_consecutive _ (by omega) (by omega)]

theorem tripQ (o : ℕ) (h : o + 1024 ≤ 4096) (hb : 1024 * b + 1024 ≤ o) (D : Vec Ideal S4096x128 .f32) (t : Fin 4096) :
    tripDq x0 x1 x2 x3 x4 x5 o h D (ix2 t d) = if o ≤ t.val ∧ t.val < o + 1024 then (D (ix2 t d) + gQ x0 x1 x2 x3 x4 x5 b t d : EReal) else D (ix2 t d) := by
  unfold tripDq
  simp only [setRows_at]
  by_cases h2 : o + 512 ≤ t.val ∧ t.val < o + 512 + 512
  · rw [dif_pos h2, if_pos (by omega)]
    have ht : (⟨o + 512 + (t.val - (o + 512)), by omega⟩ : Fin 4096) = t := Fin.ext (by show o + 512 + (t.val - (o + 512)) = t.val; omega)
    pointwise [k0_pay3, k0_pay1, k0_pay18]
    simp only [pay20_at, pay11_at, rows_at, col_at, ht]
    exact congrArg (D (ix2 t d) + ·) (Finset.sum_congr rfl fun j _ => congrArg (· * _) (dM_past x0 x1 x2 x3 x4 x5 b _ (by omega) j).symm)
  · rw [dif_neg h2]
    by_cases h1 : o ≤ t.val ∧ t.val < o + 512
    · rw [dif_pos h1, if_pos (by omega)]
      have ht : (⟨o + (t.val - o), by omega⟩ : Fin 4096) = t := Fin.ext (by show o + (t.val - o) = t.val; omega)
      pointwise [k0_pay17, k0_pay12]
      simp only [pay15_at, rows_at, ht]
      exact congrArg (D (ix2 t d) + ·) (Finset.sum_congr rfl fun j _ => congrArg (· * _) (dM_past x0 x1 x2 x3 x4 x5 b _ (by omega) j).symm)
    · rw [dif_neg h1, if_neg (by omega)]

/-! ## The masked step on the block's own query rows -/

theorem sum_halves (f : Fin 1024 → EReal) (hf : ∀ j : Fin 1024, 512 ≤ j.val → f j = 0) : (∑ j, f j) = ∑ j : Fin 512, f ⟨j.val, by omega⟩ := by
  have e := Fin.sum_univ_add (a := 512) (b := 512) (fun j : Fin (512 + 512) => f j)
  refine e.trans ?_
  rw [Finset.sum_eq_zero (s := Finset.univ) (f := fun i : Fin 512 => f (Fin.natAdd 512 i)), add_zero]
  · rfl
  · intro i _
    exact hf _ (by show 512 ≤ 512 + i.val; omega)

theorem pM_early (u : Fin 512) (h : 1024 * b + 1024 ≤ 4096) (j : Fin 1024) (hj : 512 ≤ j.val) : pM x0 x2 x4 b ⟨1024 * b + u.val, by omega⟩ j = 0 :=
  if_neg (by show ¬ 1024 * b + j.val ≤ 1024 * b + u.val; omega)
theorem dM_early (u : Fin 512) (h : 1024 * b + 1024 ≤ 4096) (j : Fin 1024) (hj : 512 ≤ j.val) : dM x0 x1 x2 x3 x4 x5 b ⟨1024 * b + u.val, by omega⟩ j = 0 :=
  if_neg (by show ¬ 1024 * b + j.val ≤ 1024 * b + u.val; omega)

theorem zero37 (i : S1024x128.Idx) : (k0_pay37 (F := Ideal) i : EReal) = 0 := by
  obtain ⟨a, c, rfl⟩ : ∃ a c, i = ix2 a c := ⟨i 0, i 1, eq_ix2 i⟩
  pointwise [k0_pay37]
theorem zero38 (i : S1024x128.Idx) : (k0_pay38 (F := Ideal) i : EReal) = 0 := by
  obtain ⟨a, c, rfl⟩ : ∃ a c, i = ix2 a c := ⟨i 0, i 1, eq_ix2 i⟩
  pointwise [k0_pay38]
theorem zero36 (i : S4096x128.Idx) : (k0_pay36 (F := Ideal) i : EReal) = 0 := by
  obtain ⟨a, c, rfl⟩ : ∃ a c, i = ix2 a c := ⟨i 0, i 1, eq_ix2 i⟩
  pointwise [k0_pay36]

theorem diagK (h : 1024 * b + 1024 ≤ 4096) :
    (diagAcc x0 x1 x2 x3 x4 x5 (1024 * b) h).1 (ix2 j d) = (∑ n ∈ Finset.Ico (1024 * b) (1024 * b + 1024), ext (gK x0 x1 x2 x3 x4 x5 b j d) n : EReal) := by
  have e : (diagAcc x0 x1 x2 x3 x4 x5 (1024 * b) h).1 (ix2 j d)
      = ((∑ u : Fin 512, gK x0 x1 x2 x3 x4 x5 b j d ⟨1024 * b + u.val, by omega⟩) + ∑ u : Fin 512, gK x0 x1 x2 x3 x4 x5 b j d ⟨1024 * b + 512 + u.val, by omega⟩ : EReal) := by
    unfold diagAcc
    pointwise [k0_pay53, k0_pay48]
    simp only [pay47_at x0 x1 x2 x3 x4 x5 b h, pay52_at x0 x1 x2 x3 x4 x5 b h, rows_at, zero37, zero_add]
    refine congrArg (· + _) ?_
    split
    · rfl
    · refine (Finset.sum_eq_zero fun u _ => ?_).symm
      unfold gK
      rw [dM_early x0 x1 x2 x3 x4 x5 b u h j (by omega), zero_mul]
  rw [e, sum_block _ (1024 * b) (by omega), sum_block _ (1024 * b + 512) (by omega), Finset.sum_Ico_consecutive _ (by omega) (by omega)]

theorem diagV (h : 1024 * b + 1024 ≤ 4096) :
    (diagAcc x0 x1 x2 x3 x4 x5 (1024 * b) h).2 (ix2 j d) = (∑ n ∈ Finset.Ico (1024 * b) (1024 * b + 1024), ext (gV x0 x2 x3 x4 b j d) n : EReal) := by
  have e : (diagAcc x0 x1 x2 x3 x4 x5 (1024 * b) h).2 (ix2 j d)
      = ((∑ u : Fin 512, gV x0 x2 x3 x4 b j d ⟨1024 * b + u.val, by omega⟩) + ∑ u : Fin 512, gV x0 x2 x3 x4 b j d ⟨1024 * b + 512 + u.val, by omega⟩ : EReal) := by
    unfold diagAcc
    pointwise [k0_pay51, k0_pay46]
    simp only [pay45_at x0 x2 x4 b h, pay50_at x0 x2 x4 b h, rows_at, zero38, zero_add]
    refine congrArg (· + _) ?_
    split
    · rfl
    · refine (Finset.sum_eq_zero fun u _ => ?_).symm
      unfold gV
      rw [pM_early x0 x2 x4 b u h j (by omega), zero_mul]
  rw [e, sum_block _ (1024 * b) (by omega), sum_block _ (1024 * b + 512) (by omega), Finset.sum_Ico_consecutive _ (by omega) (by omega)]

theorem diagQ (h : 1024 * b + 1024 ≤ 4096) (D : Vec Ideal S4096x128 .f32) (t : Fin 4096) :
    diagDq x0 x1 x2 x3 x4 x5 (1024 * b) h D (ix2 t d)
      = if 1024 * b ≤ t.val ∧ t.val < 1024 * b + 1024 then (D (ix2 t d) + gQ x0 x1 x2 x3 x4 x5 b t d : EReal) else D (ix2 t d) := by
  unfold diagDq
  simp only [setRows_at]
  by_cases h2 : 1024 * b + 512 ≤ t.val ∧ t.val < 1024 * b + 512 + 512
  · rw [dif_pos h2, if_pos (by omega)]
    have ht : (⟨1024 * b + 512 + (t.val - (1024 * b + 512)), by omega⟩ : Fin 4096) = t := Fin.ext (by show 1024 * b + 512 + (t.val - (1024 * b + 512)) = t.val; omega)
    pointwise [k0_pay54]
    simp only [pay52_at x0 x1 x2 x3 x4 x5 b h, rows_at, ht]
    rfl
  · rw [dif_neg h2]
    by_cases h1 : 1024 * b ≤ t.val ∧ t.val < 1024 * b + 512
    · rw [dif_pos h1, if_pos (by omega)]
      have ht : (⟨1024 * b + (t.val - 1024 * b), by omega⟩ : Fin 4096) = t := Fin.ext (by show 1024 * b + (t.val - 1024 * b) = t.val; omega)
      pointwise [k0_pay49]
      simp only [pay47_at x0 x1 x2 x3 x4 x5 b h, rows_at, half_at, ht]
      refine congrArg (D (ix2 t d) + ·) ?_
      unfold gQ
      rw [sum_halves]
      intro j hj
      have := dM_early x0 x1 x2 x3 x4 x5 b ⟨t.val - 1024 * b, by omega⟩ h j hj
      rw [ht] at this
      rw [this, zero_mul]
    · rw [dif_neg h1, if_neg (by omega)]

/-! ## A point -/

theorem loopK (n : ℕ) (hn : 1024 * b + 1024 * n + 1024 ≤ 4096) (acc : FVec Ideal S1024x128 .f32 × FVec Ideal S1024x128 .f32) :
    (loopAcc x0 x1 x2 x3 x4 x5 b acc n).1 (ix2 j d)
      = (acc.1 (ix2 j d) + ∑ n ∈ Finset.Ico (1024 * b + 1024) (1024 * b + 1024 * n + 1024), ext (gK x0 x1 x2 x3 x4 x5 b j d) n : EReal) := by
  induction n with
  | zero => simp [loopAcc]
  | succ n ih =>
    rw [loopAcc, dif_pos (by omega), tripK x0 x1 x2 x3 x4 x5 b j d _ _ (by omega), ih (by omega), add_assoc,
      Finset.sum_Ico_consecutive _ (by omega) (by omega)]
    rfl

theorem loopV (n : ℕ) (hn : 1024 * b + 1024 * n + 1024 ≤ 4096) (acc : FVec Ideal S1024x128 .f32 × FVec Ideal S1024x128 .f32) :
    (loopAcc x0 x1 x2 x3 x4 x5 b acc n).2 (ix2 j d)
      = (acc.2 (ix2 j d) + ∑ n ∈ Finset.Ico (1024 * b + 1024) (1024 * b + 1024 * n + 1024), ext (gV x0 x2 x3 x4 b j d) n : EReal) := by
  induction n with
  | zero => simp [loopAcc]
  | succ n ih =>
    rw [loopAcc, dif_pos (by omega), tripV x0 x1 x2 x3 x4 x5 b j d _ _ (by omega), ih (by omega), add_assoc,
      Finset.sum_Ico_consecutive _ (by omega) (by omega)]
    rfl

theorem loopQ (n : ℕ) (hn : 1024 * b + 1024 * n + 1024 ≤ 4096) (D : Vec Ideal S4096x128 .f32) (t : Fin 4096) :
    loopDq x0 x1 x2 x3 x4 x5 b D n (ix2 t d)
      = if 1024 * b + 1024 ≤ t.val ∧ t.val < 1024 * b + 1024 * n + 1024 then (D (ix2 t d) + gQ x0 x1 x2 x3 x4 x5 b t d : EReal) else D (ix2 t d) := by
  induction n with
  | zero => rw [if_neg (by omega)]; rfl
  | succ n ih =>
    rw [loopDq, dif_pos (by omega), tripQ x0 x1 x2 x3 x4 x5 b d _ _ (by omega), ih (by omega)]
    by_cases h : 1024 * b + 1024 ≤ t.val ∧ t.val < 1024 * b + 1024 * n + 1024
    · rw [if_neg (by omega), if_pos h, if_pos (by omega)]
    · rw [if_neg h]
      refine if_congr ?_ rfl rfl
      omega

theorem trips_eq (i : grid0.Coords) : 1024 * (i 1).val + 1024 * (k0_t1_loop i).trips + 1024 = 4096 := by
  revert i; decide +kernel

/-- A point's `dk`: the sum over the head's query rows. -/
theorem pointK (i : grid0.Coords) :
    (pointAcc x0 x1 x2 x3 x4 x5 i).1 (ix2 j d) = (∑ t, gK x0 x1 x2 x3 x4 x5 (i 1).val j d t : EReal) := by
  have hb := blk_bound i
  have ht := trips_eq i
  unfold pointAcc
  rw [loopK x0 x1 x2 x3 x4 x5 _ j d _ (by omega), diagK x0 x1 x2 x3 x4 x5 _ j d hb, ht, Finset.sum_Ico_consecutive _ (by omega) hb]
  refine (sum_tail _ _ (by omega) fun t ht => ?_).symm
  unfold gK dM
  rw [if_neg (by omega), zero_mul]

/-- A point's `dv`: the sum over the head's query rows. -/
theorem pointV (i : grid0.Coords) :
    (pointAcc x0 x1 x2 x3 x4 x5 i).2 (ix2 j d) = (∑ t, gV x0 x2 x3 x4 (i 1).val j d t : EReal) := by
  have hb := blk_bound i
  have ht := trips_eq i
  unfold pointAcc
  rw [loopV x0 x1 x2 x3 x4 x5 _ j d _ (by omega), diagV x0 x1 x2 x3 x4 x5 _ j d hb, ht, Finset.sum_Ico_consecutive _ (by omega) hb]
  refine (sum_tail _ _ (by omega) fun t ht => ?_).symm
  unfold gV pM
  rw [if_neg (by omega), zero_mul]

/-- A point adds its keys' contribution to every row of `dq`. -/
theorem pointQ (i : grid0.Coords) (D : Vec Ideal S4096x128 .f32) (t : Fin 4096) :
    pointDq x0 x1 x2 x3 x4 x5 i D (ix2 t d) = (D (ix2 t d) + gQ x0 x1 x2 x3 x4 x5 (i 1).val t d : EReal) := by
  have hb := blk_bound i
  have ht := trips_eq i
  unfold pointDq
  rw [loopQ x0 x1 x2 x3 x4 x5 _ d _ (by omega), diagQ x0 x1 x2 x3 x4 x5 _ d hb, ht]
  by_cases h1 : 1024 * (i 1).val + 1024 ≤ t.val
  · rw [if_pos ⟨h1, t.isLt⟩, if_neg (by omega)]
  · rw [if_neg (by omega)]
    by_cases h2 : 1024 * (i 1).val ≤ t.val
    · rw [if_pos (by omega)]
    · rw [if_neg (by omega)]
      have e : gQ x0 x1 x2 x3 x4 x5 (i 1).val t d = 0 := Finset.sum_eq_zero fun j _ => by
        unfold dM
        rw [if_neg (by omega), zero_mul]
      rw [e, add_zero]

end
end Cert.KernelIdeal.Attn
end
-- ==== Proof.AttnRun.lean ====
module

public import proofs.«01_k».proof.Proof.AttnTrip
public import proofs.«01_k».proof.Proof.Gen.KernelIdeal.Skeleton
public import Idealize.ShloMosaic.Lib.LoopRemainder

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The condition under which a point clears `dq`. -/
abbrev first (i : grid0.Coords) : Prop := (Scalar.cmpi .ne (Scalar.extui (Scalar.cmpi .eq (BitVec.ofNat 32 (i 1).val) 0#32)) 0#32) = 1#1

theorem off1_0 (i : grid0.Coords) : k0_off1 i 0#32 = ![1024 * (i 1).val, 0] := k0_off1_eq i 0
theorem off1_1 (i : grid0.Coords) : k0_off1 i 512#32 = ![1024 * (i 1).val + 512, 0] := k0_off1_eq i 1
theorem off2_0 (i : grid0.Coords) : k0_off2 i 0#32 = ![1024 * (i 1).val, 0] := k0_off2_eq i 0
theorem off2_1 (i : grid0.Coords) : k0_off2 i 512#32 = ![1024 * (i 1).val + 512, 0] := k0_off2_eq i 1

/-- The rows behind 512 replaced rows are as before. -/
theorem rows_put_next {e : EltTy} (D : Vec F S4096x128 e) (o : ℕ) (w : Vec F S512x128 e) (h : o + 512 + 512 ≤ 4096) :
    rows (VecWindow.put D ![o, 0] ![512, 128] w) (o + 512) h = rows D (o + 512) h :=
  VecWindow.window_put_of_disjoint D _ _ _ _ _ _ (0 : Fin 2) (.inr (Nat.le_refl _))

/-- A load of the first half of a block. -/
theorem readAt_half (m : Memref sig .tc .vmem S1024x128 .bf16) (f : BufTy.Contents (Elt F) m.view.ty) :
    View.readAt (Elt F) m.view (Rect.unit (s := S1024x128) ![0, 0] S512x128.size inb_S1024x128_S512x128_0_0).toLoadRect f = half (m.view.read (Elt F) f) :=
  View.readAt_unit m.view f _ rfl _

set_option maxHeartbeats 1000000 in
/-- The body at a point that clears `dq` first. -/
theorem run_first (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)
  (arg7 : Memref sig .tc .vmem S4096x128 .f32) (harg7 : arg7.IsWhole) (arg8 : Memref sig .tc .vmem S4096x128 .f32) (harg8 : arg8.IsWhole) (arg9 : Memref sig .tc .vmem S1024x128 .f32) (harg9 : arg9.IsWhole) (arg10 : Memref sig .tc .vmem S1024x128 .bf16) (harg10 : arg10.IsWhole) (hc0 : first i)
    (x0 x1 : Vec F S1024x128 .bf16) (x2 x3 : Vec F S4096x128 .bf16) (x4 x5 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (pointDq x0 x1 x2 x3 x4 x5 i k0_pay36)
              ∗ owns (c : Thread nD τ) arg9 fullShare (pointAcc x0 x1 x2 x3 x4 x5 i).1
              ∗ owns (c : Thread nD τ) arg10 fullShare (k0_pay7 (pointAcc x0 x1 x2 x3 x4 x5 i).2)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
    intro E K
    simp only [cc0_mla_attn_bwd_eq_skeleton]; unfold cc0_mla_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have hb := blk_bound i
      have hz : ∀ f, arg8.view.read (Elt F) (arg8.view.writes (Elt F) f [⟨Rect.unit ![0, 0] ![4096, 128] inb_S4096x128_S4096x128_0_0, k0_pay36⟩]) = k0_pay36 :=
        fun f => View.read_writes_full arg8.view f _ _ _
      rw [View.writes_append]
      refine (st_eq (F := F) Variants.none c none i arg2 harg2 arg3 harg3 arg4 harg4 arg5 harg5 arg6 harg6 arg7 harg7 arg8 harg8 arg9 harg9 arg10 harg10 _ x0 x1 x2 x3 x4 x5 _ _ _ le_rfl).2.trans ?_
      unfold pointDq
      refine congrArg (fun D => loopDq x0 x1 x2 x3 x4 x5 (i 1).val D (k0_t1_loop i).trips) ?_
      sl_unfold_run_names
      rw [View.read_writes_cons_put _ _ _ _ _ (off1_1 i), View.read_writes_cons_put _ _ _ _ _ (off1_0 i)]
      rw [readAt_rows (m := arg8) _ _ (off1_0 i) (by omega), readAt_rows (m := arg8) _ _ (off1_1 i) (by omega), readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
      simp only [harg2.read_unread, harg3.read_unread, harg4.read_unread, harg5.read_unread, harg6.read_unread, harg7.read_unread, hz]
      rw [View.read_writes_cons_put _ _ _ _ _ (off1_0 i), hz, rows_put_next]
      rfl
    isplitl [H7]
    · iexists _; isplitr; swap; · iexact H7
      ipureintro
      have hb := blk_bound i
      rw [View.read_writes_full arg9.view]
      refine congrArg Prod.fst ((st_eq (F := F) Variants.none c none i arg2 harg2 arg3 harg3 arg4 harg4 arg5 harg5 arg6 harg6 arg7 harg7 arg8 harg8 arg9 harg9 arg10 harg10 _ x0 x1 x2 x3 x4 x5 _ _ _ le_rfl).1.trans ?_)
      unfold pointAcc
      refine congrArg (fun a => loopAcc x0 x1 x2 x3 x4 x5 (i 1).val a (k0_t1_loop i).trips) ?_
      sl_unfold_run_names
      rw [readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
      simp only [harg2.read_unread, harg3.read_unread, harg4.read_unread, harg5.read_unread, harg6.read_unread, harg7.read_unread]
      rfl
    iexists _; isplitr; swap; · iexact H8
    ipureintro
    have hb := blk_bound i
    rw [View.read_writes_full arg10.view]
    refine congrArg (fun a => k0_pay7 (Prod.snd a)) ((st_eq (F := F) Variants.none c none i arg2 harg2 arg3 harg3 arg4 harg4 arg5 harg5 arg6 harg6 arg7 harg7 arg8 harg8 arg9 harg9 arg10 harg10 _ x0 x1 x2 x3 x4 x5 _ _ _ le_rfl).1.trans ?_)
    unfold pointAcc
    refine congrArg (fun a => loopAcc x0 x1 x2 x3 x4 x5 (i 1).val a (k0_t1_loop i).trips) ?_
    sl_unfold_run_names
    rw [readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
    simp only [harg2.read_unread, harg3.read_unread, harg4.read_unread, harg5.read_unread, harg6.read_unread, harg7.read_unread]
    rfl

set_option maxHeartbeats 1000000 in
/-- The body at a point that adds to `dq` as it finds it. -/
theorem run_later (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)
  (arg7 : Memref sig .tc .vmem S4096x128 .f32) (harg7 : arg7.IsWhole) (arg8 : Memref sig .tc .vmem S4096x128 .f32) (harg8 : arg8.IsWhole) (arg9 : Memref sig .tc .vmem S1024x128 .f32) (harg9 : arg9.IsWhole) (arg10 : Memref sig .tc .vmem S1024x128 .bf16) (harg10 : arg10.IsWhole) (hc0 : ¬ first i)
    (x0 x1 : Vec F S1024x128 .bf16) (x2 x3 : Vec F S4096x128 .bf16) (x4 x5 : Vec F S4096x128 .f32) (D : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare D ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (pointDq x0 x1 x2 x3 x4 x5 i D)
              ∗ owns (c : Thread nD τ) arg9 fullShare (pointAcc x0 x1 x2 x3 x4 x5 i).1
              ∗ owns (c : Thread nD τ) arg10 fullShare (k0_pay7 (pointAcc x0 x1 x2 x3 x4 x5 i).2)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
    intro E K
    simp only [cc0_mla_attn_bwd_eq_skeleton]; unfold cc0_mla_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have hb := blk_bound i
      rw [View.writes_append]
      refine (st_eq (F := F) Variants.none c none i arg2 harg2 arg3 harg3 arg4 harg4 arg5 harg5 arg6 harg6 arg7 harg7 arg8 harg8 arg9 harg9 arg10 harg10 _ x0 x1 x2 x3 x4 x5 _ _ _ le_rfl).2.trans ?_
      unfold pointDq
      refine congrArg (fun D => loopDq x0 x1 x2 x3 x4 x5 (i 1).val D (k0_t1_loop i).trips) ?_
      sl_unfold_run_names
      rw [View.read_writes_cons_put _ _ _ _ _ (off1_1 i), View.read_writes_cons_put _ _ _ _ _ (off1_0 i), View.writes_nil]
      rw [readAt_rows (m := arg8) _ _ (off1_0 i) (by omega), readAt_rows (m := arg8) _ _ (off1_1 i) (by omega), readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
      simp only [harg2.read_unread, harg3.read_unread, harg4.read_unread, harg5.read_unread, harg6.read_unread, harg7.read_unread, View.writes_nil, hf6]
      rfl
    isplitl [H7]
    · iexists _; isplitr; swap; · iexact H7
      ipureintro
      have hb := blk_bound i
      rw [View.read_writes_full arg9.view]
      refine congrArg Prod.fst ((st_eq (F := F) Variants.none c none i arg2 harg2 arg3 harg3 arg4 harg4 arg5 harg5 arg6 harg6 arg7 harg7 arg8 harg8 arg9 harg9 arg10 harg10 _ x0 x1 x2 x3 x4 x5 _ _ _ le_rfl).1.trans ?_)
      unfold pointAcc
      refine congrArg (fun a => loopAcc x0 x1 x2 x3 x4 x5 (i 1).val a (k0_t1_loop i).trips) ?_
      sl_unfold_run_names
      rw [readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
      simp only [harg2.read_unread, harg3.read_unread, harg4.read_unread, harg5.read_unread, harg6.read_unread, harg7.read_unread]
      rfl
    iexists _; isplitr; swap; · iexact H8
    ipureintro
    have hb := blk_bound i
    rw [View.read_writes_full arg10.view]
    refine congrArg (fun a => k0_pay7 (Prod.snd a)) ((st_eq (F := F) Variants.none c none i arg2 harg2 arg3 harg3 arg4 harg4 arg5 harg5 arg6 harg6 arg7 harg7 arg8 harg8 arg9 harg9 arg10 harg10 _ x0 x1 x2 x3 x4 x5 _ _ _ le_rfl).1.trans ?_)
    unfold pointAcc
    refine congrArg (fun a => loopAcc x0 x1 x2 x3 x4 x5 (i 1).val a (k0_t1_loop i).trips) ?_
    sl_unfold_run_names
    rw [readAt_rows (m := arg4) _ _ (off1_0 i) (by omega), readAt_rows (m := arg4) _ _ (off1_1 i) (by omega), readAt_rows (m := arg5) _ _ (off1_0 i) (by omega), readAt_rows (m := arg5) _ _ (off1_1 i) (by omega), readAt_col (m := arg6) _ _ (off2_0 i) (by omega), readAt_col (m := arg6) _ _ (off2_1 i) (by omega), readAt_col (m := arg7) _ _ (off2_0 i) (by omega), readAt_col (m := arg7) _ _ (off2_1 i) (by omega), readAt_half arg2, readAt_half arg3, View.readAt_full arg2.view, View.readAt_full arg3.view]
    simp only [harg2.read_unread, harg3.read_unread, harg4.read_unread, harg5.read_unread, harg6.read_unread, harg7.read_unread]
    rfl

end Cert.KernelIdeal.Attn
end
-- ==== Proof.AttnFrame.lean ====
module

public import proofs.«01_k».proof.Proof.AttnRun
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point clears `dq` when it is the first of its head's four. -/
theorem first_iff : ∀ t : Fin cfg0.N, first (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [first, e0, e1]
    word_cmp
   : ∀ t : Fin grid0.N, first (grid0.coords t) ↔ t.val % 4 = 0)

/-- The accumulators of `dk` and `dv` at the end of a point. -/
def accAt (c : Dev nD) (t : Fin cfg0.N) : FVec F S1024x128 .f32 × FVec F S1024x128 .f32 :=
  pointAcc (iblk m c 0 t) (iblk m c 1 t) (iblk m c 2 t) (iblk m c 3 t) (iblk m c 4 t) (iblk m c 5 t) (grid0.coords t)

/-- A point's change to `dq`. -/
def dqStep (c : Dev nD) (t : Fin cfg0.N) (D : Vec F S4096x128 .f32) : Vec F S4096x128 .f32 :=
  pointDq (iblk m c 0 t) (iblk m c 1 t) (iblk m c 2 t) (iblk m c 3 t) (iblk m c 4 t) (iblk m c 5 t) (grid0.coords t) D

/-- `dq` of the point's head, as the point leaves it. -/
def dqAt (c : Dev nD) : (n : ℕ) → n < cfg0.N → Vec F S4096x128 .f32
  | 0, h => dqStep m c ⟨0, h⟩ k0_pay36
  | n + 1, h => dqStep m c ⟨n + 1, h⟩ (if (n + 1) % 4 = 0 then k0_pay36 else dqAt c n (Nat.lt_of_succ_lt h))

theorem dqAt_first (c : Dev nD) (t : Fin cfg0.N) (h0 : t.val % 4 = 0) : dqAt m c t.val t.isLt = dqStep m c t k0_pay36 := by
  obtain ⟨n, hn⟩ := t
  cases n with
  | zero => rfl
  | succ n => dsimp only at h0 ⊢; rw [dqAt, if_pos h0]

theorem dqAt_later (c : Dev nD) (t : Fin cfg0.N) (h0 : ¬ t.val % 4 = 0) :
    dqAt m c t.val t.isLt = dqStep m c t (dqAt m c (t.val - 1) (Nat.lt_of_le_of_lt (Nat.sub_le _ _) t.isLt)) := by
  obtain ⟨n, hn⟩ := t
  cases n with
  | zero => exact absurd rfl h0
  | succ n => dsimp only at h0 ⊢; rw [dqAt, if_neg h0]; rfl

/-- What the run is over: the arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => (accAt m c t).1
    | ⟨8, _⟩ => k0_pay7 (accAt m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t.val t.isLt := by dsimp only [dats]
theorem after_7 (c : Dev nD) (t : Fin cfg0.N) : (dats m 0 c).after 7 t = (accAt m c t).1 := by dsimp only [dats]
theorem after_8 (c : Dev nD) (t : Fin cfg0.N) : (dats m 0 c).after 8 t = k0_pay7 (accAt m c t).2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A later point finds in `dq` what the point before left. -/
theorem before_6_later (c : Dev nD) (t : Fin cfg0.N) (h0 : ¬ t.val % 4 = 0) (d) :
    (dats m 0 c).before 6 t d = dqAt m c (t.val - 1) (Nat.lt_of_le_of_lt (Nat.sub_le _ _) t.isLt) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

abbrev stage_0 (t : Fin cfg0.N) : Memref sig .tc .vmem S1024x128 .bf16 := win0_0.stage (cfg0.slots t 0)
abbrev stage_1 (t : Fin cfg0.N) : Memref sig .tc .vmem S1024x128 .bf16 := win0_1.stage (cfg0.slots t 1)
abbrev stage_2 (t : Fin cfg0.N) : Memref sig .tc .vmem S4096x128 .bf16 := win0_2.stage (cfg0.slots t 2)
abbrev stage_3 (t : Fin cfg0.N) : Memref sig .tc .vmem S4096x128 .bf16 := win0_3.stage (cfg0.slots t 3)
abbrev stage_4 (t : Fin cfg0.N) : Memref sig .tc .vmem S4096x128 .f32 := win0_4.stage (cfg0.slots t 4)
abbrev stage_5 (t : Fin cfg0.N) : Memref sig .tc .vmem S4096x128 .f32 := win0_5.stage (cfg0.slots t 5)
abbrev stage_6 (t : Fin cfg0.N) : Memref sig .tc .vmem S4096x128 .f32 := win0_6.stage (cfg0.slots t 6)
abbrev stage_7 (t : Fin cfg0.N) : Memref sig .tc .vmem S1024x128 .f32 := win0_7.stage (cfg0.slots t 7)
abbrev stage_8 (t : Fin cfg0.N) : Memref sig .tc .vmem S1024x128 .bf16 := win0_8.stage (cfg0.slots t 8)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d))
    ∗ (∃ d, owns (c : Thread nD τ) (stage_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ owns (c : Thread nD τ) (stage_4 t) fullShare ((dats m 0 c).after 4 t)
    ∗ owns (c : Thread nD τ) (stage_5 t) fullShare ((dats m 0 c).after 5 t)
    ∗ owns (c : Thread nD τ) (stage_6 t) fullShare ((dats m 0 c).after 6 t)
    ∗ owns (c : Thread nD τ) (stage_7 t) fullShare ((dats m 0 c).after 7 t)
    ∗ owns (c : Thread nD τ) (stage_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 4 = 0
  · rw [dqAt_first m c t h0]
    unfold dqStep accAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqAt_later m c t h0]; simp only [before_6_later m c t h0]
    unfold dqStep accAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the program: every array of the pipeline ends at what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program runs to the end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn
end
-- ==== Proof.AttnHost.lean ====
module

public import proofs.«01_k».proof.Proof.Gen.KernelIdeal.Frame
public import proofs.«01_k».proof.Proof.Gen.ReferenceIdeal.Read
public import Idealize.ShloMosaic.Lib.StableHlo.Run

@[expose] public section

set_option maxRecDepth 16384

noncomputable section

namespace Cert.KernelIdeal.Attn

open Idealize.ShloMosaic Idealize.ShloMosaic.TcCoe Idealize.ShloMosaic.Tactic Idealize.ShloMosaic.StableHlo
open Cert.KernelIdeal.Gen
open Cert.ReferenceIdeal.Read

variable {F : FTy → Type} [FloatOps F] [Named F]
variable (m : (ℓ : Loc nD τ sig) → Buf (Elt F) ℓ) (c : Dev nD)

/-- The row sums of the exponentials of `z` less the row's entry of `y`. -/
def expSum (z : FVec F S8x4096x4096 .f32) (y : FVec F S8x4096 .f32) : FVec F S8x4096 .f32 :=
  Host.reduceAdd (Host.exp (subf z (broadcastInDim S8x4096x4096 ![0, 1, 2] bcast_S8x4096x1_S8x4096x4096_0_1_2
    (broadcastInDim S8x4096x1 ![0, 1] bcast_S8x4096_S8x4096x1_0_1 y)))) (constant S_ .f32 0x00000000#32) reducesTo_S8x4096x4096_S8x4096_d2 h_S_

/-- `y` plus the logarithm of `l`, each row's spread over its head's lanes. -/
def lseWide (y l : FVec F S8x4096 .f32) : FVec F S4096x1024 .f32 :=
  shapeCast S4096x1024 (broadcastInDim S4096x8x128 ![0, 1, 2] bcast_S4096x8x1_S4096x8x128_0_1_2
    (transpose S4096x8x1 [1, 0, 2] (addf (broadcastInDim S8x4096x1 ![0, 1] bcast_S8x4096_S8x4096x1_0_1 y)
      (Host.log (broadcastInDim S8x4096x1 ![0, 1] bcast_S8x4096_S8x4096x1_0_1 l))) transposes_S8x4096x1_S4096x8x1_1_0_2)) shapeCasts_S4096x8x128_S4096x1024

/-- The row log-sums as the call reads them: each spread over its head's lanes. -/
def lseArr (q k : FVec F S4096x1024 .f32) : FVec F S4096x1024 .f32 :=
  lseWide (val_main_v14 (F := F) q k) (expSum (val_main_v13_0 (F := F) q k) (val_main_v14 (F := F) q k))

/-- The products of the output's rows with `do`'s, as the call reads them. -/
def dltArr (q k v d : FVec F S4096x1024 .f32) : FVec F S4096x1024 .f32 :=
  shapeCast S4096x1024 (broadcastInDim S4096x8x128 ![0, 1, 2] bcast_S4096x8x1_S4096x8x128_0_1_2
    (broadcastInDim S4096x8x1 ![0, 1] bcast_S4096x8_S4096x8x1_0_1 (Host.reduceAdd (shapeCast S4096x8x128 (mulf d (val_main_v44 (F := F) q k v)) shapeCasts_S4096x1024_S4096x8x128)
      (constant S_ .f32 0x00000000#32) reducesTo_S4096x8x128_S4096x8_d2 h_S_))) shapeCasts_S4096x8x128_S4096x1024

set_option maxHeartbeats 4000000 in
theorem V_q : Gen.V m c main_v53 = truncf .bf16 (m ((c.tc : Thread nD τ).loc main_arg0)) bitsLt_bf16_f32 := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

set_option maxHeartbeats 4000000 in
theorem V_k : Gen.V m c main_v54 = truncf .bf16 (m ((c.tc : Thread nD τ).loc main_arg1)) bitsLt_bf16_f32 := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

set_option maxHeartbeats 4000000 in
theorem V_v : Gen.V m c main_v55 = truncf .bf16 (m ((c.tc : Thread nD τ).loc main_arg2)) bitsLt_bf16_f32 := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

set_option maxHeartbeats 4000000 in
theorem V_do : Gen.V m c main_v56 = truncf .bf16 (m ((c.tc : Thread nD τ).loc main_arg3)) bitsLt_bf16_f32 := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

set_option maxHeartbeats 4000000 in
theorem V_lse : Gen.V m c main_v59 = lseArr (m ((c.tc : Thread nD τ).loc main_arg0)) (m ((c.tc : Thread nD τ).loc main_arg1)) := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

set_option maxHeartbeats 4000000 in
theorem V_dlt : Gen.V m c main_v61 = dltArr (m ((c.tc : Thread nD τ).loc main_arg0)) (m ((c.tc : Thread nD τ).loc main_arg1))
    (m ((c.tc : Thread nD τ).loc main_arg2)) (m ((c.tc : Thread nD τ).loc main_arg3)) := by
  simp only [Gen.V, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

end Cert.KernelIdeal.Attn
end
-- ==== Proof.AttnRef.lean ====
module

public import proofs.«01_k».proof.Proof.AttnHost
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Cert.KernelIdeal.Gen
open Cert.ReferenceIdeal.Read

theorem negInf : Ideal.ofBits .f32 4286578688#32 = ⊥ := by simp [Ideal.ofBits, Ideal.ieee]

theorem causal (t s : Fin 4096) (x y : EReal) :
    Scalar.select (IntOp.cmpi CmpIPredicate.sge (BitVec.ofNat 32 t.val) (BitVec.ofNat 32 s.val)) x y = if s.val ≤ t.val then x else y := by
  have := t.isLt
  have := s.isLt
  simp (disch := omega) only [hlo_ix]

/-! ## The reference's values, and what the host hands the call, at an index -/

section
variable (q k v d : FVec Ideal S4096x1024 .f32) (h : Fin 8) (t s : Fin 4096) (e : Fin 128)

/-- Lane `e` of head `h`. -/
abbrev hd (h : Fin 8) (e : Fin 128) : Fin 1024 := ⟨h.val * 128 + e.val, by omega⟩

theorem v6_at : val_main_v6 (F := Ideal) q k (ix3 h t s) = (∑ x : Fin 128, q (ix2 t (hd h x)) * k (ix2 s (hd h x)) : EReal) := by
  pointwise [val_main_v6, val_main_v1, val_main_v0, val_main_v3, val_main_v2]
theorem v13_at : val_main_v13_0 (F := Ideal) q k (ix3 h t s) = if s.val ≤ t.val then (∑ x : Fin 128, q (ix2 t (hd h x)) * k (ix2 s (hd h x)) : EReal) else ⊥ := by
  rw [← v6_at, ← causal, ← negInf]
  pointwise [val_main_v13_0, val_main_v13_1, val_main_v12, val_main_v11, val_main_v10, val_main_v9, val_main_v8, val_main_v7, val_main_call0_v2, val_main_call0_v0, val_main_cst]
  rfl
theorem v14_at : val_main_v14 (F := Ideal) q k (ix2 h t) = Finset.fold max (⊥ : EReal) (fun x : Fin 4096 => val_main_v13_0 (F := Ideal) q k (ix3 h t x)) Finset.univ := by
  rw [← negInf]
  pointwise [val_main_v14, val_main_cst_0]
theorem v21_at : val_main_v21 (F := Ideal) q k (ix2 h t) = val_main_v14 (F := Ideal) q k (ix2 h t) := by
  rw [val_main_v21_apply, val_main_v20_apply, val_main_cst_2_apply]
  generalize val_main_v14 (F := Ideal) q k (ix2 h t) = y
  exact (congrArg (fun z : EReal => max z y) negInf).trans (max_eq_right bot_le)
theorem v34_at : val_main_v34 (F := Ideal) q k (ix3 h t s) = Ideal.exp ((val_main_v13_0 (F := Ideal) q k (ix3 h t s) : EReal) - val_main_v14 (F := Ideal) q k (ix2 h t)) := by
  rw [← v21_at]
  pointwise [val_main_v34, val_main_v33, val_main_v32, val_main_v31]
theorem v35_at : val_main_v35 (F := Ideal) q k (ix2 h t) = (∑ x : Fin 4096, val_main_v34 (F := Ideal) q k (ix3 h t x) : EReal) := by
  pointwise [val_main_v35, val_main_cst_8]
theorem v38_at : val_main_v38 (F := Ideal) q k (ix3 h t s) = Ideal.div (val_main_v34 (F := Ideal) q k (ix3 h t s)) (val_main_v35 (F := Ideal) q k (ix2 h t)) := by
  pointwise [val_main_v38, val_main_v37, val_main_v36]
theorem v42_at : val_main_v42 (F := Ideal) q k v (ix3 h t e) = (∑ x : Fin 4096, val_main_v38 (F := Ideal) q k (ix3 h t x) * v (ix2 x (hd h e)) : EReal) := by
  pointwise [val_main_v42, val_main_v5, val_main_v4]
theorem v49_at : val_main_v49 (F := Ideal) v d (ix3 h t s) = (∑ x : Fin 128, d (ix2 t (hd h x)) * v (ix2 s (hd h x)) : EReal) := by
  pointwise [val_main_v49, val_main_v46, val_main_v45, val_main_v5, val_main_v4]
theorem v53_at : val_main_v53 (F := Ideal) q k v d (ix2 h t)
    = (∑ x : Fin 4096, val_main_v49 (F := Ideal) v d (ix3 h t x) * Ideal.div 1 ((val_main_v35 (F := Ideal) q k (ix2 h t) : EReal) * val_main_v35 (F := Ideal) q k (ix2 h t))
      * val_main_v34 (F := Ideal) q k (ix3 h t x) : EReal) := by
  pointwise [val_main_v53, val_main_v52, val_main_v51, val_main_v50, val_main_v41, val_main_v40, val_main_v39, val_main_v36, val_main_cst_9, val_main_cst_10]
theorem v62_at : val_main_v62 (F := Ideal) q k v d (ix3 h t s)
    = if s.val ≤ t.val then ((Ideal.div (val_main_v49 (F := Ideal) v d (ix3 h t s)) (val_main_v35 (F := Ideal) q k (ix2 h t)) + -(val_main_v53 (F := Ideal) q k v d (ix2 h t) : EReal))
      * val_main_v34 (F := Ideal) q k (ix3 h t s) : EReal) else 0 := by
  rw [← causal]
  pointwise [val_main_v62, val_main_v61, val_main_v60, val_main_v59, val_main_v58, val_main_v57, val_main_v56, val_main_v55, val_main_v54, val_main_cst_11, val_main_v36, val_main_call1_v0, val_main_call1_cst,
    val_main_v13_1, val_main_v12, val_main_v11, val_main_v10, val_main_v9, val_main_v8, val_main_v7]
  rw [Fin.sum_univ_one]
theorem v70_at (n : Fin 1024) : val_main_v70 (F := Ideal) q k v d (ix2 t n) = (∑ x : Fin 4096, val_main_v62 (F := Ideal) q k v d (ix3 ⟨n.val / 128, by omega⟩ t x) * k (ix2 x n) : EReal) := by
  pointwise [val_main_v70, val_main_v69, val_main_v64, val_main_v3, val_main_v2]
theorem v68_at (n : Fin 1024) : val_main_v68 (F := Ideal) q k v d (ix2 t n) = (∑ x : Fin 4096, val_main_v62 (F := Ideal) q k v d (ix3 ⟨n.val / 128, by omega⟩ x t) * q (ix2 x n) : EReal) := by
  pointwise [val_main_v68, val_main_v67, val_main_v63, val_main_v1, val_main_v0]
theorem v71_at (n : Fin 1024) : val_main_v71 (F := Ideal) q k d (ix2 t n) = (∑ x : Fin 4096, d (ix2 x n) * val_main_v38 (F := Ideal) q k (ix3 ⟨n.val / 128, by omega⟩ x t) : EReal) := by
  pointwise [val_main_v71, val_main_v66, val_main_v65, val_main_v48, val_main_v47, val_main_v46, val_main_v45]
theorem expSum_at (z : FVec Ideal S8x4096x4096 .f32) (y : FVec Ideal S8x4096 .f32) :
    expSum z y (ix2 h t) = (∑ x : Fin 4096, Ideal.exp (z (ix3 h t x) - y (ix2 h t)) : EReal) := by
  pointwise [expSum]
theorem lseWide_at (y l : FVec Ideal S8x4096 .f32) (n : Fin 1024) (hn : n.val / 128 = h.val) :
    lseWide y l (ix2 t n) = (y (ix2 h t) + Ideal.log (l (ix2 h t)) : EReal) := by
  pointwise [lseWide]
  simp only [hn]
theorem lse_at : lseArr (F := Ideal) q k (ix2 t (hd h 0)) = (val_main_v14 (F := Ideal) q k (ix2 h t) + Ideal.log (val_main_v35 (F := Ideal) q k (ix2 h t)) : EReal) := by
  have e : (hd h 0).val / 128 = h.val := by show (h.val * 128 + 0) / 128 = h.val; omega
  rw [v35_at, lseArr, lseWide_at h t _ _ _ e, expSum_at]
  simp only [v34_at]
theorem dlt_at : dltArr (F := Ideal) q k v d (ix2 t (hd h 0)) = (∑ x : Fin 128, d (ix2 t (hd h x)) * val_main_v42 (F := Ideal) q k v (ix3 h t x) : EReal) := by
  unfold dltArr val_main_v44 val_main_v43
  generalize val_main_v42 (F := Ideal) q k v = y
  have e : (hd h 0).val / 128 = h.val := by show (h.val * 128 + 0) / 128 = h.val; omega
  generalize hn : hd h 0 = n
  rw [hn] at e
  pointwise []
  refine Finset.sum_congr rfl fun x _ => ?_
  have e1 : (⟨n.val / 128 * 128 + x.val, by omega⟩ : Fin 1024) = hd h x := Fin.ext (by show n.val / 128 * 128 + x.val = h.val * 128 + x.val; omega)
  have e2 : (⟨(n.val / 128 * 128 + x.val) / 128, by omega⟩ : Fin 8) = h := Fin.ext (by show (n.val / 128 * 128 + x.val) / 128 = h.val; omega)
  exact congrArg₂ (fun (a : Fin 1024) (b : Fin 8) => (d (ix2 t a) * y (ix3 b t x) : EReal)) e1 e2
end
end Cert.KernelIdeal.Attn
end
-- ==== Proof.AttnMath.lean ====
module

public import proofs.«01_k».proof.Proof.AttnRef

@[expose] public section

set_option maxRecDepth 16384

noncomputable section

namespace Cert.KernelIdeal.Attn

open Idealize.ShloMosaic Idealize.ShloMosaic.TcCoe
open Cert.ReferenceIdeal.Read

/-! ## Softmax of finite scores -/

theorem coe_sum {ι : Type} (u : Finset ι) (f : ι → ℝ) : (∑ i ∈ u, (f i : EReal)) = ((∑ i ∈ u, f i : ℝ) : EReal) := by
  classical
  induction u using Finset.induction_on with
  | empty => rfl
  | insert a u h ih => rw [Finset.sum_insert h, Finset.sum_insert h, ih, EReal.coe_add]

theorem coe_dot {ι : Type} (u : Finset ι) (f g : ι → ℝ) : (∑ i ∈ u, (f i : EReal) * (g i : EReal)) = ((∑ i ∈ u, f i * g i : ℝ) : EReal) := by
  rw [← coe_sum]
  exact Finset.sum_congr rfl fun i _ => (EReal.coe_mul _ _).symm

/-- The largest of finitely many scores, of which some are masked and one is not, is finite. -/
theorem max_finite {n : ℕ} (z : Fin n → EReal) (s : Fin n → ℝ) (p : Fin n → Prop) [DecidablePred p] (hz : ∀ x, z x = if p x then (s x : EReal) else ⊥)
    (a : Fin n) (ha : p a) : ∃ r : ℝ, Finset.fold max (⊥ : EReal) z Finset.univ = r := by
  have h1 : Finset.fold max (⊥ : EReal) z Finset.univ ≠ ⊤ := by
    refine ne_of_lt ((Finset.fold_max_lt _).mpr ⟨bot_lt_top, fun x _ => ?_⟩)
    rw [hz]; split
    · exact EReal.coe_lt_top _
    · exact bot_lt_top
  have h2 : Finset.fold max (⊥ : EReal) z Finset.univ ≠ ⊥ := by
    refine ne_of_gt ((Finset.lt_fold_max _).mpr (Or.inr ⟨a, Finset.mem_univ _, ?_⟩))
    rw [hz, if_pos ha]; exact EReal.bot_lt_coe _
  exact ⟨_, (EReal.coe_toReal h1 h2).symm⟩

section
variable {n : ℕ} (z : Fin n → EReal) (s : Fin n → ℝ) (p : Fin n → Prop) [DecidablePred p] (r : ℝ)

/-- The exponential of a score less the row's largest, zero where masked. -/
def ew (x : Fin n) : ℝ := if p x then Real.exp (s x - r) else 0

theorem exp_score (hz : ∀ x, z x = if p x then (s x : EReal) else ⊥) (x : Fin n) : Ideal.exp (z x - (r : EReal)) = (ew s p r x : EReal) := by
  rw [hz, ew]
  split
  · rw [← EReal.coe_sub, Ideal.exp_coe]
  · rw [EReal.bot_sub]; rfl

theorem ew_sum_pos (a : Fin n) (ha : p a) : 0 < ∑ x, ew s p r x := by
  refine Finset.sum_pos' (fun x _ => ?_) ⟨a, Finset.mem_univ _, ?_⟩
  · rw [ew]; split
    · exact (Real.exp_pos _).le
    · exact le_rfl
  · rw [ew, if_pos ha]; exact Real.exp_pos _

/-- The weight through the row's log-sum is the exponential over the row's sum. -/
theorem weight_eq (L : ℝ) (hL : 0 < L) (x : Fin n) :
    (if p x then Ideal.exp ((s x : EReal) - ((r : EReal) + Ideal.log (L : EReal))) else 0) = ((ew s p r x * (1 / L) : ℝ) : EReal) := by
  rw [ew]
  split
  · rw [Ideal.log_coe, if_neg (not_le.mpr hL), ← EReal.coe_add, ← EReal.coe_sub, Ideal.exp_coe, EReal.coe_eq_coe_iff,
      show s x - (r + Real.log L) = (s x - r) - Real.log L by ring, Real.exp_sub, Real.exp_log hL]
    ring
  · simp

/-- The score gradient through the sum of the row's products is that through the derivative of the quotient. -/
theorem grad_eq (L : ℝ) (hL : 0 < L) (dp : Fin n → ℝ) (x : Fin n) :
    ew s p r x * (1 / L) * (dp x - ∑ y, ew s p r y * (1 / L) * dp y)
      = (dp x * (1 / L) + -∑ y, dp y * (1 * (1 / (L * L))) * ew s p r y) * ew s p r x := by
  have e : ∑ y, dp y * (1 * (1 / (L * L))) * ew s p r y = (1 / L) * ∑ y, ew s p r y * (1 / L) * dp y := by
    rw [Finset.mul_sum]
    refine Finset.sum_congr rfl fun y _ => ?_
    field_simp
  rw [e]; ring
end

/-! ## The call's weights and score gradients are the reference's -/

section
variable (q k v d : FVec Ideal S4096x1024 .f32) (h : Fin 8) (t s : Fin 4096)

/-- The call's weight of query row `t` on key row `s` in head `h`. -/
def kP : EReal := if s.val ≤ t.val then Ideal.exp ((∑ x : Fin 128, q (ix2 t (hd h x)) * k (ix2 s (hd h x)) : EReal) - lseArr (F := Ideal) q k (ix2 t (hd h 0))) else 0

/-- The call's score gradient of query row `t` on key row `s` in head `h`. -/
def kDS : EReal := if s.val ≤ t.val then Ideal.exp ((∑ x : Fin 128, q (ix2 t (hd h x)) * k (ix2 s (hd h x)) : EReal) - lseArr (F := Ideal) q k (ix2 t (hd h 0)))
    * ((∑ x : Fin 128, d (ix2 t (hd h x)) * v (ix2 s (hd h x)) : EReal) - dltArr (F := Ideal) q k v d (ix2 t (hd h 0))) else 0

variable {q k v d}
variable (qr kr vr dr : S4096x1024.Idx → ℝ) (hq : ∀ i, q i = (qr i : EReal)) (hk : ∀ i, k i = (kr i : EReal)) (hv : ∀ i, v i = (vr i : EReal)) (hd' : ∀ i, d i = (dr i : EReal))

include hq hk in
theorem row_facts : ∃ (sr : Fin 4096 → ℝ) (r L : ℝ), 0 < L
    ∧ (∀ s, (∑ x : Fin 128, q (ix2 t (hd h x)) * k (ix2 s (hd h x)) : EReal) = (sr s : EReal))
    ∧ val_main_v14 (F := Ideal) q k (ix2 h t) = (r : EReal)
    ∧ val_main_v35 (F := Ideal) q k (ix2 h t) = (L : EReal)
    ∧ (∀ s, val_main_v34 (F := Ideal) q k (ix3 h t s) = (ew sr (fun s => s.val ≤ t.val) r s : EReal)) := by
  obtain ⟨sr, hs⟩ : ∃ sr : Fin 4096 → ℝ, ∀ s, (∑ x : Fin 128, q (ix2 t (hd h x)) * k (ix2 s (hd h x)) : EReal) = (sr s : EReal) :=
    ⟨fun s => ∑ x : Fin 128, qr (ix2 t (hd h x)) * kr (ix2 s (hd h x)), fun s => by simp only [hq, hk]; exact coe_dot _ _ _⟩
  have hz : ∀ s, val_main_v13_0 (F := Ideal) q k (ix3 h t s) = if s.val ≤ t.val then (sr s : EReal) else ⊥ := fun s => by rw [v13_at, hs]
  obtain ⟨r, hr⟩ := max_finite (fun s => val_main_v13_0 (F := Ideal) q k (ix3 h t s)) sr (fun s => s.val ≤ t.val) hz t le_rfl
  rw [← v14_at] at hr
  have he : ∀ s, val_main_v34 (F := Ideal) q k (ix3 h t s) = (ew sr (fun s => s.val ≤ t.val) r s : EReal) := fun s => by
    rw [v34_at, hr]; exact exp_score (fun s => val_main_v13_0 (F := Ideal) q k (ix3 h t s)) sr _ r hz s
  refine ⟨sr, r, ∑ x, ew sr (fun s => s.val ≤ t.val) r x, ew_sum_pos sr _ r t le_rfl, hs, hr, ?_, he⟩
  rw [v35_at, ← coe_sum]
  exact Finset.sum_congr rfl fun x _ => he x

include hq hk in
theorem kP_eq : kP q k h t s = val_main_v38 (F := Ideal) q k (ix3 h t s) := by
  obtain ⟨sr, r, L, hL, hs, hr, hl, he⟩ := row_facts h t qr kr hq hk
  rw [kP, v38_at, lse_at, hs, hr, hl, he, Ideal.div_coe hL.ne', ← EReal.coe_mul]
  exact weight_eq sr (fun s => s.val ≤ t.val) r L hL s

include hq hk hv hd' in
theorem kDS_eq : kDS q k v d h t s = val_main_v62 (F := Ideal) q k v d (ix3 h t s) := by
  obtain ⟨sr, r, L, hL, hs, hr, hl, he⟩ := row_facts h t qr kr hq hk
  have h38 : ∀ s, val_main_v38 (F := Ideal) q k (ix3 h t s) = ((ew sr (fun s => s.val ≤ t.val) r s * (1 / L) : ℝ) : EReal) := fun s => by
    rw [v38_at, hl, he, Ideal.div_coe hL.ne', ← EReal.coe_mul]
  have h49 : ∀ s, val_main_v49 (F := Ideal) v d (ix3 h t s) = ((∑ x : Fin 128, dr (ix2 t (hd h x)) * vr (ix2 s (hd h x)) : ℝ) : EReal) := fun s => by
    rw [v49_at]; simp only [hv, hd']; exact coe_dot _ _ _
  have hδ : dltArr (F := Ideal) q k v d (ix2 t (hd h 0)) = ((∑ s : Fin 4096, ew sr (fun s => s.val ≤ t.val) r s * (1 / L) * (∑ x : Fin 128, dr (ix2 t (hd h x)) * vr (ix2 s (hd h x))) : ℝ) : EReal) := by
    rw [dlt_at]
    have e : ∀ x : Fin 128, val_main_v42 (F := Ideal) q k v (ix3 h t x) = ((∑ s : Fin 4096, ew sr (fun s => s.val ≤ t.val) r s * (1 / L) * vr (ix2 s (hd h x)) : ℝ) : EReal) := fun x => by
      rw [v42_at]; simp only [h38, hv]; exact coe_dot _ _ _
    simp only [e, hd']
    rw [coe_dot, EReal.coe_eq_coe_iff]
    simp only [Finset.mul_sum]
    rw [Finset.sum_comm]
    exact Finset.sum_congr rfl fun s _ => Finset.sum_congr rfl fun x _ => by ring
  have h53 : val_main_v53 (F := Ideal) q k v d (ix2 h t)
      = ((∑ s : Fin 4096, (∑ x : Fin 128, dr (ix2 t (hd h x)) * vr (ix2 s (hd h x))) * (1 * (1 / (L * L))) * ew sr (fun s => s.val ≤ t.val) r s : ℝ) : EReal) := by
    rw [v53_at]
    simp only [hl, he, h49, ← EReal.coe_mul, Ideal.div_coe (mul_pos hL hL).ne', ← EReal.coe_one]
    exact coe_sum _ _
  have hw := weight_eq sr (fun s => s.val ≤ t.val) r L hL s
  rw [kDS, v62_at]
  by_cases hst : s.val ≤ t.val
  · rw [if_pos hst] at hw ⊢
    rw [if_pos hst, lse_at, hs, hr, hl, he, hw, hδ, h53, h49, ← v49_at, h49, Ideal.div_coe hL.ne', ← EReal.coe_sub, ← EReal.coe_mul, ← EReal.coe_mul, ← EReal.coe_neg, ← EReal.coe_add, ← EReal.coe_mul,
      EReal.coe_eq_coe_iff]
    exact grad_eq sr (fun s => s.val ≤ t.val) r L hL (fun s => ∑ x : Fin 128, dr (ix2 t (hd h x)) * vr (ix2 s (hd h x))) s
  · rw [if_neg hst, if_neg hst]
end
end Cert.KernelIdeal.Attn
end
-- ==== Proof.AttnValue.lean ====
module

public import proofs.«01_k».proof.Proof.AttnSum
public import proofs.«01_k».proof.Proof.AttnFrame
public import proofs.«01_k».proof.Proof.AttnMath
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.ShloMosaic.Pipeline (Dat Cfg Window)
open Cert.KernelIdeal.Gen
open Cert.ReferenceIdeal.Read

variable (m : (ℓ : Loc nD τ sig) → Buf (Elt Ideal) ℓ) (c : Dev nD)

/-! ## What a point's windows hold -/

abbrev aq : FVec Ideal S4096x1024 .f32 := m ((c.tc : Thread nD τ).loc main_arg0)
abbrev ak : FVec Ideal S4096x1024 .f32 := m ((c.tc : Thread nD τ).loc main_arg1)
abbrev av : FVec Ideal S4096x1024 .f32 := m ((c.tc : Thread nD τ).loc main_arg2)
abbrev ad : FVec Ideal S4096x1024 .f32 := m ((c.tc : Thread nD τ).loc main_arg3)

/-- The head of a point, -/
abbrev hOf (t : Fin cfg0.N) : Fin 8 := ⟨t.val / 4, by have : t.val < 32 := lt_of_lt_of_eq t.isLt N_0; omega⟩

theorem coords_0 (t : Fin cfg0.N) : (grid0.coords t 0).val = t.val / 4 := by
  have ht : t.val < 32 := Nat.lt_of_lt_of_eq t.isLt N_0
  have e0 : (grid0.coords t 0).val = t.val / 4 % 8 := Pipeline.Grid.coords_val t 0 (by decide) rfl
  omega
/-- and its block of key rows. -/
theorem coords_1 (t : Fin cfg0.N) : (grid0.coords t 1).val = t.val % 4 := by
  have e1 : (grid0.coords t 1).val = t.val / 1 % 4 := Pipeline.Grid.coords_val t 1 (by decide) rfl
  omega

theorem idx : ∀ t : Fin cfg0.N, win0_0.index t = ![t.val % 4, t.val / 4] ∧ win0_1.index t = ![t.val % 4, t.val / 4]
    ∧ win0_2.index t = ![0, t.val / 4] ∧ win0_3.index t = ![0, t.val / 4] ∧ win0_4.index t = ![0, t.val / 4] ∧ win0_5.index t = ![0, t.val / 4]
    ∧ win0_6.index t = ![0, t.val / 4] ∧ win0_7.index t = ![t.val % 4, t.val / 4] ∧ win0_8.index t = ![t.val % 4, t.val / 4] := by
  decide +kernel

/-- Key row `j` of a point's block. -/
abbrev kr (t : Fin cfg0.N) (j : Fin 1024) : Fin 4096 := ⟨1024 * (t.val % 4) + j.val, by omega⟩

theorem x0_at (t : Fin cfg0.N) (j : Fin 1024) (e : Fin 128) : iblk m c 0 t (ix2 j e) = ak m c (ix2 (kr t j) (hd (hOf t) e)) := by
  have h : ∀ W : FVec Ideal S4096x1024 .bf16, ((cfg0.win 0).blk t).view.read (Elt Ideal) W (ix2 j e) = W (ix2 (kr t j) (hd (hOf t) e)) := fun W => by blk_ext [idx t]
  exact (h (Gen.V m c main_v54)).trans (congrFun (V_k m c) _)
theorem x1_at (t : Fin cfg0.N) (j : Fin 1024) (e : Fin 128) : iblk m c 1 t (ix2 j e) = av m c (ix2 (kr t j) (hd (hOf t) e)) := by
  have h : ∀ W : FVec Ideal S4096x1024 .bf16, ((cfg0.win 1).blk t).view.read (Elt Ideal) W (ix2 j e) = W (ix2 (kr t j) (hd (hOf t) e)) := fun W => by blk_ext [idx t]
  exact (h (Gen.V m c main_v55)).trans (congrFun (V_v m c) _)
theorem x2_at (t : Fin cfg0.N) (r : Fin 4096) (e : Fin 128) : iblk m c 2 t (ix2 r e) = aq m c (ix2 r (hd (hOf t) e)) := by
  have h : ∀ W : FVec Ideal S4096x1024 .bf16, ((cfg0.win 2).blk t).view.read (Elt Ideal) W (ix2 r e) = W (ix2 r (hd (hOf t) e)) := fun W => by blk_ext [idx t]
  exact (h (Gen.V m c main_v53)).trans (congrFun (V_q m c) _)
theorem x3_at (t : Fin cfg0.N) (r : Fin 4096) (e : Fin 128) : iblk m c 3 t (ix2 r e) = ad m c (ix2 r (hd (hOf t) e)) := by
  have h : ∀ W : FVec Ideal S4096x1024 .bf16, ((cfg0.win 3).blk t).view.read (Elt Ideal) W (ix2 r e) = W (ix2 r (hd (hOf t) e)) := fun W => by blk_ext [idx t]
  exact (h (Gen.V m c main_v56)).trans (congrFun (V_do m c) _)
theorem x4_at (t : Fin cfg0.N) (r : Fin 4096) (e : Fin 128) : iblk m c 4 t (ix2 r e) = lseArr (F := Ideal) (aq m c) (ak m c) (ix2 r (hd (hOf t) e)) := by
  have h : ∀ W : FVec Ideal S4096x1024 .f32, ((cfg0.win 4).blk t).view.read (Elt Ideal) W (ix2 r e) = W (ix2 r (hd (hOf t) e)) := fun W => by blk_ext [idx t]
  exact (h (Gen.V m c main_v59)).trans (congrFun (V_lse m c) _)
theorem x5_at (t : Fin cfg0.N) (r : Fin 4096) (e : Fin 128) : iblk m c 5 t (ix2 r e) = dltArr (F := Ideal) (aq m c) (ak m c) (av m c) (ad m c) (ix2 r (hd (hOf t) e)) := by
  have h : ∀ W : FVec Ideal S4096x1024 .f32, ((cfg0.win 5).blk t).view.read (Elt Ideal) W (ix2 r e) = W (ix2 r (hd (hOf t) e)) := fun W => by blk_ext [idx t]
  exact (h (Gen.V m c main_v61)).trans (congrFun (V_dlt m c) _)

/-! ## What a point leaves -/

theorem dM_eq (t : Fin cfg0.N) (r : Fin 4096) (j : Fin 1024) :
    dM (iblk m c 0 t) (iblk m c 1 t) (iblk m c 2 t) (iblk m c 3 t) (iblk m c 4 t) (iblk m c 5 t) (grid0.coords t 1).val r j = kDS (aq m c) (ak m c) (av m c) (ad m c) (hOf t) r (kr t j) := by
  unfold dM kDS dw pw
  simp only [coords_1, x0_at, x1_at, x2_at, x3_at, x4_at, x5_at]

theorem pM_eq (t : Fin cfg0.N) (r : Fin 4096) (j : Fin 1024) :
    pM (iblk m c 0 t) (iblk m c 2 t) (iblk m c 4 t) (grid0.coords t 1).val r j = kP (aq m c) (ak m c) (hOf t) r (kr t j) := by
  unfold pM kP pw
  simp only [coords_1, x0_at, x2_at, x4_at]

theorem dk_at (t : Fin cfg0.N) (j : Fin 1024) (e : Fin 128) :
    (accAt m c t).1 (ix2 j e) = (∑ r : Fin 4096, kDS (aq m c) (ak m c) (av m c) (ad m c) (hOf t) r (kr t j) * aq m c (ix2 r (hd (hOf t) e)) : EReal) := by
  unfold accAt
  rw [pointK]
  refine Finset.sum_congr rfl fun r _ => ?_
  unfold gK
  rw [dM_eq, x2_at]

theorem dv_at (t : Fin cfg0.N) (j : Fin 1024) (e : Fin 128) :
    (accAt m c t).2 (ix2 j e) = (∑ r : Fin 4096, kP (aq m c) (ak m c) (hOf t) r (kr t j) * ad m c (ix2 r (hd (hOf t) e)) : EReal) := by
  unfold accAt
  rw [pointV]
  refine Finset.sum_congr rfl fun r _ => ?_
  unfold gV
  rw [pM_eq, x3_at]

/-- A point's part of `dq`: the sum over the key rows of its block. -/
def dqPart (h : Fin 8) (r : Fin 4096) (e : Fin 128) (b : Fin 4) : EReal :=
  ∑ j : Fin 1024, kDS (aq m c) (ak m c) (av m c) (ad m c) h r ⟨1024 * b.val + j.val, by omega⟩ * ak m c (ix2 ⟨1024 * b.val + j.val, by omega⟩ (hd h e))

theorem dqStep_at (t : Fin cfg0.N) (D : Vec Ideal S4096x128 .f32) (r : Fin 4096) (e : Fin 128) :
    dqStep m c t D (ix2 r e) = (D (ix2 r e) + dqPart m c (hOf t) r e ⟨t.val % 4, by omega⟩ : EReal) := by
  unfold dqStep
  rw [pointQ]
  refine congrArg (fun z : EReal => (D (ix2 r e) + z : EReal)) (Finset.sum_congr rfl fun j _ => ?_)
  rw [dM_eq, x0_at]

/-- What a head's points add up to. -/
theorem dqAt_last (t : Fin cfg0.N) (h3 : t.val % 4 = 3) (r : Fin 4096) (e : Fin 128) :
    dqAt m c t.val t.isLt (ix2 r e) = (∑ s : Fin 4096, kDS (aq m c) (ak m c) (av m c) (ad m c) (hOf t) r s * ak m c (ix2 s (hd (hOf t) e)) : EReal) := by
  have hN : t.val < 32 := lt_of_lt_of_eq t.isLt (show cfg0.N = 32 from N_0)
  have hstep : ∀ (u : ℕ) (hu : u < cfg0.N) (b : Fin 4), u % 4 = b.val → u / 4 = t.val / 4 → ∀ D, dqStep m c ⟨u, hu⟩ D (ix2 r e) = (D (ix2 r e) + dqPart m c (hOf t) r e b : EReal) := by
    intro u hu b hb hd D
    rw [dqStep_at]
    congr 2
    · exact Fin.ext hd
    · exact Fin.ext hb
  rw [dqAt_later m c t (by omega), hstep t.val t.isLt 3 h3 rfl,
    dqAt_later m c ⟨t.val - 1, by omega⟩ (by dsimp only; omega), hstep (t.val - 1) _ 2 (by simp; omega) (by omega),
    dqAt_later m c ⟨t.val - 1 - 1, by omega⟩ (by dsimp only; omega), hstep (t.val - 1 - 1) _ 1 (by simp; omega) (by omega),
    dqAt_first m c ⟨t.val - 1 - 1 - 1, by omega⟩ (by dsimp only; omega), hstep (t.val - 1 - 1 - 1) _ 0 (by simp; omega) (by omega), zero36]
  rw [← Equiv.sum_comp (finProdFinEquiv (m := 4) (n := 1024)), Fintype.sum_prod_type, Fin.sum_univ_four, zero_add]
  have hp : ∀ b : Fin 4, (∑ y : Fin 1024, kDS (aq m c) (ak m c) (av m c) (ad m c) (hOf t) r (finProdFinEquiv (b, y)) * ak m c (ix2 (finProdFinEquiv (b, y)) (hd (hOf t) e)) : EReal) = dqPart m c (hOf t) r e b := by
    intro b
    refine Finset.sum_congr rfl fun y _ => ?_
    have : (finProdFinEquiv (b, y) : Fin 4096) = ⟨1024 * b.val + y.val, by omega⟩ := Fin.ext (Nat.add_comm y.val (1024 * b.val))
    rw [this]
  simp only [hp]

/-! ## The output arrays -/

section
variable (qr vr kr' dr : S4096x1024.Idx → ℝ) (hq : ∀ i, aq m c i = (qr i : EReal)) (hk : ∀ i, ak m c i = (kr' i : EReal)) (hv : ∀ i, av m c i = (vr i : EReal)) (hd' : ∀ i, ad m c i = (dr i : EReal))

include hq hk hv hd'
/-- The first output ends at the reference's gradient of the queries. -/
theorem out_dq : (dats m 0 c).arrAt 6 cfg0.N = val_main_v70 (F := Ideal) (aq m c) (ak m c) (av m c) (ad m c) := by
  refine (dats m 0 c).arrAt_eq_of_covers 6 _ (by decide +kernel) fun t hf y => ?_
  obtain ⟨r, e, rfl⟩ : ∃ (r : Fin 4096) (e : Fin 128), y = ix2 r e := ⟨y 0, y 1, eq_ix2 y⟩
  rw [after_6]
  have hN : t.val < 32 := lt_of_lt_of_eq t.isLt (show cfg0.N = 32 from N_0)
  have hi : ((cfg0.win 6).blk t).view.emb (ix2 r e) = ix2 r (hd (hOf t) e) := by blk_ext [idx t]
  refine (dqAt_last m c t ((flush0_6 t).mp hf) r e).trans ?_
  refine Eq.trans ?_ (congrArg (val_main_v70 (F := Ideal) (aq m c) (ak m c) (av m c) (ad m c)) hi).symm
  rw [v70_at]
  have hh : (⟨(hd (hOf t) e).val / 128, by omega⟩ : Fin 8) = hOf t := Fin.ext (by show (t.val / 4 * 128 + e.val) / 128 = t.val / 4; omega)
  rw [hh]
  refine Finset.sum_congr rfl fun s _ => ?_
  rw [kDS_eq (hOf t) r s qr kr' vr dr hq hk hv hd']

/-- The second output ends at the reference's gradient of the keys. -/
theorem out_dk : (dats m 0 c).arrAt 7 cfg0.N = val_main_v68 (F := Ideal) (aq m c) (ak m c) (av m c) (ad m c) := by
  refine (dats m 0 c).arrAt_eq_of_covers 7 _ (by decide +kernel) fun t hf y => ?_
  obtain ⟨j, e, rfl⟩ : ∃ (r : Fin 1024) (e : Fin 128), y = ix2 r e := ⟨y 0, y 1, eq_ix2 y⟩
  rw [after_7]
  have hN : t.val < 32 := lt_of_lt_of_eq t.isLt (show cfg0.N = 32 from N_0)
  have hi : ((cfg0.win 7).blk t).view.emb (ix2 j e) = ix2 (kr t j) (hd (hOf t) e) := by blk_ext [idx t]
  refine (dk_at m c t j e).trans ?_
  refine Eq.trans ?_ (congrArg (val_main_v68 (F := Ideal) (aq m c) (ak m c) (av m c) (ad m c)) hi).symm
  rw [v68_at]
  have hh : (⟨(hd (hOf t) e).val / 128, by omega⟩ : Fin 8) = hOf t := Fin.ext (by show (t.val / 4 * 128 + e.val) / 128 = t.val / 4; omega)
  rw [hh]
  refine Finset.sum_congr rfl fun r _ => ?_
  rw [kDS_eq (hOf t) r (kr t j) qr kr' vr dr hq hk hv hd']

omit hv hd' in
/-- The third output ends at the reference's gradient of the values. -/
theorem out_dv : (dats m 0 c).arrAt 8 cfg0.N = val_main_v71 (F := Ideal) (aq m c) (ak m c) (ad m c) := by
  refine (dats m 0 c).arrAt_eq_of_covers 8 _ (by decide +kernel) fun t hf y => ?_
  obtain ⟨j, e, rfl⟩ : ∃ (r : Fin 1024) (e : Fin 128), y = ix2 r e := ⟨y 0, y 1, eq_ix2 y⟩
  rw [after_8]
  have hN : t.val < 32 := lt_of_lt_of_eq t.isLt (show cfg0.N = 32 from N_0)
  have hi : ((cfg0.win 8).blk t).view.emb (ix2 j e) = ix2 (kr t j) (hd (hOf t) e) := by blk_ext [idx t]
  refine (dv_at m c t j e).trans ?_
  refine Eq.trans ?_ (congrArg (val_main_v71 (F := Ideal) (aq m c) (ak m c) (ad m c)) hi).symm
  rw [v71_at]
  have hh : (⟨(hd (hOf t) e).val / 128, by omega⟩ : Fin 8) = hOf t := Fin.ext (by show (t.val / 4 * 128 + e.val) / 128 = t.val / 4; omega)
  rw [hh]
  refine Finset.sum_congr rfl fun r _ => ?_
  rw [kP_eq (hOf t) r (kr t j) qr kr' hq hk]
  exact mul_comm _ _
end
end Cert.KernelIdeal.Attn
end
-- ==== Proof.AttnPre.lean ====
module

public import proofs.«01_k».proof.Proof.Gen.Pre_finite
public import Idealize.ShloMosaic.Lib.ReduceAll
public import Idealize.ShloMosaic.Lib.Pointwise

@[expose] public section

set_option maxRecDepth 16384

noncomputable section

namespace Cert.KernelIdeal.Attn

open Idealize.ShloMosaic

theorem posInf : Ideal.ofBits .f32 2139095040#32 = ⊤ := by simp [Ideal.ofBits, Ideal.ieee]

/-- A number whose magnitude compares below infinity is real. -/
theorem real_of_lt (x : EReal) (h : FloatOps.cmpf (F := Ideal) (φ := .f32) .olt (FloatOps.absf (F := Ideal) (φ := .f32) x) (Ideal.ofBits .f32 2139095040#32) = 1#1) : ∃ r : ℝ, x = r := by
  rw [posInf] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

theorem real_of_finite [Cert.Pre_finite.Facts] (a b c d : FVec Ideal Cert.Pre_finite.S4096x1024 .f32) (h : Cert.Pre_finite.fn (F := Ideal) a b c d = fun _ => 1#1) :
    (∃ r : Cert.Pre_finite.S4096x1024.Idx → ℝ, ∀ i, a i = (r i : EReal)) ∧ (∃ r : Cert.Pre_finite.S4096x1024.Idx → ℝ, ∀ i, b i = (r i : EReal))
      ∧ (∃ r : Cert.Pre_finite.S4096x1024.Idx → ℝ, ∀ i, c i = (r i : EReal)) ∧ (∃ r : Cert.Pre_finite.S4096x1024.Idx → ℝ, ∀ i, d i = (r i : EReal)) := by
  haveI : Subsingleton Cert.Pre_finite.S_.Idx := ⟨fun a b => funext fun i => i.elim0⟩
  have e : ∀ i, _ := Host.reduce_andi_all _ _ _ _ _ (congrFun h ix0)
  have e' : ∀ i, (∃ r : ℝ, a i = r) ∧ (∃ r : ℝ, b i = r) ∧ (∃ r : ℝ, c i = r) ∧ (∃ r : ℝ, d i = r) := fun i => by
    have h0 := e i
    simp only [andi] at h0
    obtain ⟨h1, hd⟩ := IntOp.andi_eq_one.1 h0
    obtain ⟨h2, hc⟩ := IntOp.andi_eq_one.1 h1
    obtain ⟨ha, hb⟩ := IntOp.andi_eq_one.1 h2
    exact ⟨real_of_lt _ ha, real_of_lt _ hb, real_of_lt _ hc, real_of_lt _ hd⟩
  exact ⟨⟨fun i => (e' i).1.choose, fun i => (e' i).1.choose_spec⟩, ⟨fun i => (e' i).2.1.choose, fun i => (e' i).2.1.choose_spec⟩,
    ⟨fun i => (e' i).2.2.1.choose, fun i => (e' i).2.2.1.choose_spec⟩, ⟨fun i => (e' i).2.2.2.choose, fun i => (e' i).2.2.2.choose_spec⟩⟩
end Cert.KernelIdeal.Attn
end
-- ==== Proof.AttnClaim.lean ====
module

public import proofs.«01_k».proof.Defs
public import proofs.«01_k».proof.Proof.AttnValue
public import proofs.«01_k».proof.Proof.AttnPre
public import proofs.«01_k».proof.Proof.Gen.Kernel

@[expose] public section

set_option maxRecDepth 16384

noncomputable section

open Idealize.ShloMosaic Idealize.ShloMosaic.TcCoe Idealize.SL.Sem

namespace Cert.ReferenceIdeal.Attn

open Cert.ReferenceIdeal

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) r.2⟩) (Value.run (F := Ideal) m ρ)

end Cert.ReferenceIdeal.Attn

namespace Cert.KernelIdeal.Attn

open Cert.KernelIdeal.Gen
open Cert.ReferenceIdeal.Read

/-- Over the device's own floats the named constant is the number that the program writes for it. -/
@[reducible] def written : Named Bits := ⟨fun _ _ {φ} bits => Scalar.ofBits φ bits⟩

attribute [local instance] written

set_option maxHeartbeats 8000000 in
/-- With that, the two printings of the call have the same bodies. -/
theorem bodies : Cert.Kernel.defs₀ (F := Bits) = Cert.KernelIdeal.defs₀ (F := Bits) := by
  funext p l a
  cases p with
  | tc =>
    match l with
    | 0 => rfl
  | scScalar i => rfl
  | scVector i j => rfl

set_option maxHeartbeats 8000000 in
theorem tables : Cert.Kernel.defs (F := Bits) = Cert.KernelIdeal.defs (F := Bits) :=
  congrArg (Pipeline.defs (Cert.KernelIdeal.pcfgs (F := Bits))) bodies

set_option maxHeartbeats 8000000 in
/-- The call, over the device's own floats: it runs to the end, leaves its arguments as they were and every semaphore at zero. -/
theorem frame_kernel : Cert.quiescent_Kernel := fun m ρ _ => by
  rw [tables]
  exact frame (F := Bits) m ρ

/-- On finite arguments the call's three results are the reference's three gradients. -/
theorem algebraic : Cert.algebraic_KernelIdeal_ReferenceIdeal_pre_finite := by
  intro m ρ m' ρ' hpre hagree
  refine ⟨fun c => val_main_v70 (F := Ideal) (aq m c) (ak m c) (av m c) (ad m c), fun c => val_main_v68 (F := Ideal) (aq m c) (ak m c) (av m c) (ad m c),
    fun c => val_main_v71 (F := Ideal) (aq m c) (ak m c) (ad m c), ?_, ?_⟩
  · refine (θ_run _ _ _).mono (fun r h c => ?_) (θ_run_and (run_main (F := Ideal) m ρ) (unchanged (F := Ideal) m ρ))
    obtain ⟨⟨qr, hq⟩, ⟨kr, hk⟩, ⟨vr, hv⟩, ⟨dr, hd⟩⟩ := real_of_finite _ _ _ _ (hpre c)
    exact ⟨((h.1 c).1 6).trans (out_dq m c qr vr kr dr hq hk hv hd), ((h.1 c).1 7).trans (out_dk m c qr vr kr dr hq hk hv hd),
      ((h.1 c).1 8).trans (out_dv m c qr kr hq hk), h.2 c⟩
  · refine (θ_run _ _ _).mono (fun r h c => ?_) (Cert.ReferenceIdeal.Value.run (F := Ideal) m' ρ')
    obtain ⟨h0, h1, h2, h3⟩ := hagree c
    obtain ⟨e0, e1, e2, e3⟩ := h c
    rw [val_main_v70_eq, h0, h1, h2, h3] at e0
    rw [val_main_v68_eq, h0, h1, h2, h3] at e1
    rw [val_main_v71_eq, h0, h1, h3] at e2
    exact ⟨e0, e1, e2, e3⟩

end Cert.KernelIdeal.Attn
end
-- ==== Proof.GradDw1.lean ====
module

public import proofs.«01_k».proof.Defs
public import proofs.«01_k».proof.Proof.Gen.KernelDw1Ideal.Value
public import proofs.«01_k».proof.Proof.Gen.ReferenceDw1Ideal.Read
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceDw1Ideal.Grad

open Cert.ReferenceDw1Ideal

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run (F := Ideal) m ρ)

end Cert.ReferenceDw1Ideal.Grad

namespace Cert.KernelDw1Ideal.Grad

open Cert.KernelDw1Ideal.Gen
open Cert.ReferenceDw1Ideal.Read

variable (m : (ℓ : Loc nD τ sig) → Buf (Elt Ideal) ℓ) (c : Dev nD)

/-- The upstream gradient of the product, -/
abbrev ax : FVec Ideal S4096x5632 .f32 := m ((c.tc : Thread nD τ).loc main_arg0)
/-- and the product's other factor. -/
abbrev ay : FVec Ideal S4096x1024 .f32 := m ((c.tc : Thread nD τ).loc main_arg1)

/-- The padding word zero is the number zero. -/
theorem zero_word : (FloatOps.sitofp (F := Ideal) .f32 (0#32) : EReal) = 0 := by
  show (((0#32 : BitVec 32).toInt : ℝ) : EReal) = 0
  simp

/-- The step's layout of the upstream gradient: column blocks of 352, each padded to 384, two to a chunk. -/
def packed (x : FVec Ideal S4096x5632 .f32) : FVec Ideal S8x4096x768 .bf16 :=
  truncf .bf16 (transpose S8x4096x768 [1, 0, 2] (shapeCast S4096x8x768 (pad S4096x16x384 ![0, 0, 0] ![0, 0, 32] ![0, 0, 0]
    (shapeCast S4096x16x352 x shapeCasts_S4096x5632_S4096x16x352) (sitofp .f32 (constantI S_ 32 0#32)) pads_S4096x16x352_S4096x16x384_000_000_0320 h_S_)
    shapeCasts_S4096x16x384_S4096x8x768) transposes_S4096x8x768_S8x4096x768_1_0_2) bitsLt_bf16_f32

set_option maxHeartbeats 1000000 in
theorem V_x : Gen.V m c main_v4 = packed (ax m c) := by
  simp only [Gen.V, hostOps0, hostOps0_1, hostOps0_2, List.flatten_cons, List.flatten_nil, List.append_nil, List.cons_append, List.nil_append,
    TRef.nullary, TRef.binary, TRef.unary, TRef.toBuf, TRef.ofBuf, cast_eq]
  after_results_simp <;> rfl

theorem V_y : Gen.V m c main_v6 = truncf .bf16 (broadcastInDim S1x4096x1024 ![1, 2] bcast_S4096x1024_S1x4096x1024_1_2 (ay m c)) bitsLt_bf16_f32 := by
  simp only [Gen.V, hostOps0, hostOps0_1, hostOps0_2, List.flatten_cons, List.flatten_nil, List.append_nil, List.cons_append, List.nil_append,
    TRef.nullary, TRef.binary, TRef.unary, TRef.toBuf, TRef.ofBuf, cast_eq]
  after_results_simp <;> rfl

theorem idx : ∀ t : Fin cfg0.N, win0_0.index t = ![t.val, 0, 0] ∧ win0_1.index t = ![0, 0, 0] ∧ win0_2.index t = ![t.val, 0, 0] := by
  decide +kernel

/-- The chunk of a point. -/
abbrev ch (t : Fin cfg0.N) : Fin 8 := ⟨t.val, t.isLt⟩

/-- The column that lane `e` of chunk `p` holds, for a lane that holds one. -/
abbrev col (p : Fin 8) (e : Fin 768) (h : e.val % 384 < 352) : Fin 5632 := ⟨(p.val * 2 + e.val / 384) * 352 + e.val % 384, by omega⟩

theorem x_at (t : Fin cfg0.N) (r : Fin 4096) (e : Fin 768) : iblk m c 0 t (ix3 0 r e) = packed (ax m c) (ix3 (ch t) r e) := by
  have h : ∀ W : FVec Ideal S8x4096x768 .bf16, ((cfg0.win 0).blk t).view.read (Elt Ideal) W (ix3 0 r e) = W (ix3 (ch t) r e) := fun W => by blk_ext [idx t]
  exact (h (Gen.V m c main_v4)).trans (congrFun (V_x m c) _)

theorem y_at (t : Fin cfg0.N) (r : Fin 4096) (b : Fin 1024) : iblk m c 1 t (ix3 0 r b) = ay m c (ix2 r b) := by
  have h : ∀ W : FVec Ideal S1x4096x1024 .bf16, ((cfg0.win 1).blk t).view.read (Elt Ideal) W (ix3 0 r b) = W (ix3 0 r b) := fun W => by blk_ext [idx t]
  refine ((h (Gen.V m c main_v6)).trans (congrFun (V_y m c) _)).trans ?_
  pointwise

theorem packed_in (x : FVec Ideal S4096x5632 .f32) (p : Fin 8) (r : Fin 4096) (e : Fin 768) (h : e.val % 384 < 352) :
    (packed x (ix3 p r e) : EReal) = x (ix2 r (col p e h)) := by
  pointwise [packed]
  exact dif_pos ⟨by omega, h⟩

theorem packed_out (x : FVec Ideal S4096x5632 .f32) (p : Fin 8) (r : Fin 4096) (e : Fin 768) (h : ¬e.val % 384 < 352) :
    (packed x (ix3 p r e) : EReal) = 0 := by
  pointwise [packed]
  exact (dif_neg fun h2 => h h2.2).trans zero_word

/-- What a point computes from its two blocks: the sum over the tokens of their products. -/
theorem pay_at (x : Vec Ideal S1x4096x768 .bf16) (y : Vec Ideal S1x4096x1024 .bf16) (a : Fin 768) (b : Fin 1024) :
    (k0_pay3 (F := Ideal) (k0_pay2 k0_pay1 x y) (ix3 0 a b) : EReal) = ∑ r : Fin 4096, (x (ix3 0 r a) * y (ix3 0 r b) : EReal) := by
  pointwise [k0_pay3, k0_pay2, k0_pay1]

theorem ref_in (x : FVec Ideal S4096x5632 .f32) (y : FVec Ideal S4096x1024 .f32) (p : Fin 8) (e : Fin 768) (b : Fin 1024) (h : e.val % 384 < 352) :
    (val_main_v8 (F := Ideal) x y (ix3 p e b) : EReal) = ∑ r : Fin 4096, x (ix2 r (col p e h)) * y (ix2 r b) := by
  pointwise [val_main_v8, val_main_v7, val_main_v6, val_main_v5, val_main_v4, val_main_v3, val_main_v2, val_main_call0_v0, val_main_c]
  exact dif_pos ⟨by omega, h⟩

theorem ref_out (x : FVec Ideal S4096x5632 .f32) (y : FVec Ideal S4096x1024 .f32) (p : Fin 8) (e : Fin 768) (b : Fin 1024) (h : ¬e.val % 384 < 352) :
    (val_main_v8 (F := Ideal) x y (ix3 p e b) : EReal) = 0 := by
  pointwise [val_main_v8, val_main_v7, val_main_v6, val_main_v5, val_main_v4, val_main_v3, val_main_v2, val_main_call0_v0, val_main_c]
  exact (dif_neg fun h2 => h h2.2).trans zero_word

/-- The call's result is the gradient of the product's weight, in the step's layout. -/
theorem out : (dats m 0 c).arrAt 2 cfg0.N = val_main_v8 (F := Ideal) (ax m c) (ay m c) := by
  refine (dats m 0 c).arrAt_eq_of_covers 2 _ (by decide +kernel) fun t hf y => ?_
  obtain ⟨z, a, b, rfl⟩ : ∃ (z : Fin 1) (a : Fin 768) (b : Fin 1024), y = ix3 z a b := ⟨y 0, y 1, y 2, eq_ix3 y⟩
  obtain rfl : z = 0 := by omega
  have hi : ((cfg0.win 2).blk t).view.emb (ix3 0 a b) = ix3 (ch t) a b := by blk_ext [idx t]
  rw [after0_2, outsAt0]
  refine Eq.trans ?_ (congrArg (val_main_v8 (F := Ideal) (ax m c) (ay m c)) hi).symm
  frame_out
  refine (pay_at _ _ a b).trans ?_
  by_cases h : a.val % 384 < 352
  · rw [ref_in _ _ _ _ _ h]
    exact Finset.sum_congr rfl fun r _ => congrArg₂ (· * · : EReal → EReal → EReal) ((x_at m c t r a).trans (packed_in _ _ r a h)) (y_at m c t r b)
  · rw [ref_out _ _ _ _ _ h]
    exact Finset.sum_eq_zero fun r _ => (congrArg (· * _ : EReal → EReal) ((x_at m c t r a).trans (packed_out _ _ r a h))).trans (zero_mul _)

/-- The call's result is the reference's, whatever the arguments. -/
theorem algebraic : Cert.algebraic_KernelDw1Ideal_ReferenceDw1Ideal := by
  intro m ρ m' ρ' hpre hagree
  refine ⟨fun c => val_main_v8 (F := Ideal) (ax m c) (ay m c), ?_, ?_⟩
  · exact (θ_run _ _ _).mono (fun r h c => ⟨(h c).1.trans (out m c), (h c).2⟩) (Value.run_blocks (F := Ideal) m ρ)
  · refine (θ_run _ _ _).mono (fun r h c => ?_) (Cert.ReferenceDw1Ideal.Value.run (F := Ideal) m' ρ')
    obtain ⟨h0, h1⟩ := hagree c
    obtain ⟨e0, e⟩ := h c
    rw [val_main_v8_eq, h0, h1] at e0
    exact ⟨e0, e⟩

end Cert.KernelDw1Ideal.Grad
end
-- ==== Proof.GradDw2.lean ====
module

public import proofs.«01_k».proof.Defs
public import proofs.«01_k».proof.Proof.Gen.KernelDw2Ideal.Value
public import proofs.«01_k».proof.Proof.Gen.ReferenceDw2Ideal.Read
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceDw2Ideal.Grad

open Cert.ReferenceDw2Ideal

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run (F := Ideal) m ρ)

end Cert.ReferenceDw2Ideal.Grad

namespace Cert.KernelDw2Ideal.Grad

open Cert.KernelDw2Ideal.Gen
open Cert.ReferenceDw2Ideal.Read

variable (m : (ℓ : Loc nD τ sig) → Buf (Elt Ideal) ℓ) (c : Dev nD)

/-- The upstream gradient of the product, -/
abbrev ax : FVec Ideal S4096x2816 .f32 := m ((c.tc : Thread nD τ).loc main_arg0)
/-- and the product's other factor. -/
abbrev ay : FVec Ideal S4096x1024 .f32 := m ((c.tc : Thread nD τ).loc main_arg1)

/-- The padding word zero is the number zero. -/
theorem zero_word : (FloatOps.sitofp (F := Ideal) .f32 (0#32) : EReal) = 0 := by
  show (((0#32 : BitVec 32).toInt : ℝ) : EReal) = 0
  simp

/-- The step's layout of the upstream gradient: column blocks of 352, each padded to 384, two to a chunk. -/
def packed (x : FVec Ideal S4096x2816 .f32) : FVec Ideal S4x4096x768 .bf16 :=
  truncf .bf16 (transpose S4x4096x768 [1, 0, 2] (shapeCast S4096x4x768 (pad S4096x8x384 ![0, 0, 0] ![0, 0, 32] ![0, 0, 0]
    (shapeCast S4096x8x352 x shapeCasts_S4096x2816_S4096x8x352) (sitofp .f32 (constantI S_ 32 0#32)) pads_S4096x8x352_S4096x8x384_000_000_0320 h_S_)
    shapeCasts_S4096x8x384_S4096x4x768) transposes_S4096x4x768_S4x4096x768_1_0_2) bitsLt_bf16_f32

set_option maxHeartbeats 1000000 in
theorem V_x : Gen.V m c main_v4 = packed (ax m c) := by
  simp only [Gen.V, hostOps0, hostOps0_1, hostOps0_2, List.flatten_cons, List.flatten_nil, List.append_nil, List.cons_append, List.nil_append,
    TRef.nullary, TRef.binary, TRef.unary, TRef.toBuf, TRef.ofBuf, cast_eq]
  after_results_simp <;> rfl

theorem V_y : Gen.V m c main_v6 = truncf .bf16 (broadcastInDim S1x4096x1024 ![1, 2] bcast_S4096x1024_S1x4096x1024_1_2 (ay m c)) bitsLt_bf16_f32 := by
  simp only [Gen.V, hostOps0, hostOps0_1, hostOps0_2, List.flatten_cons, List.flatten_nil, List.append_nil, List.cons_append, List.nil_append,
    TRef.nullary, TRef.binary, TRef.unary, TRef.toBuf, TRef.ofBuf, cast_eq]
  after_results_simp <;> rfl

theorem idx : ∀ t : Fin cfg0.N, win0_0.index t = ![t.val, 0, 0] ∧ win0_1.index t = ![0, 0, 0] ∧ win0_2.index t = ![t.val, 0, 0] := by
  decide +kernel

/-- The chunk of a point. -/
abbrev ch (t : Fin cfg0.N) : Fin 4 := ⟨t.val, t.isLt⟩

/-- The column that lane `e` of chunk `p` holds, for a lane that holds one. -/
abbrev col (p : Fin 4) (e : Fin 768) (h : e.val % 384 < 352) : Fin 2816 := ⟨(p.val * 2 + e.val / 384) * 352 + e.val % 384, by omega⟩

theorem x_at (t : Fin cfg0.N) (r : Fin 4096) (e : Fin 768) : iblk m c 0 t (ix3 0 r e) = packed (ax m c) (ix3 (ch t) r e) := by
  have h : ∀ W : FVec Ideal S4x4096x768 .bf16, ((cfg0.win 0).blk t).view.read (Elt Ideal) W (ix3 0 r e) = W (ix3 (ch t) r e) := fun W => by blk_ext [idx t]
  exact (h (Gen.V m c main_v4)).trans (congrFun (V_x m c) _)

theorem y_at (t : Fin cfg0.N) (r : Fin 4096) (b : Fin 1024) : iblk m c 1 t (ix3 0 r b) = ay m c (ix2 r b) := by
  have h : ∀ W : FVec Ideal S1x4096x1024 .bf16, ((cfg0.win 1).blk t).view.read (Elt Ideal) W (ix3 0 r b) = W (ix3 0 r b) := fun W => by blk_ext [idx t]
  refine ((h (Gen.V m c main_v6)).trans (congrFun (V_y m c) _)).trans ?_
  pointwise

theorem packed_in (x : FVec Ideal S4096x2816 .f32) (p : Fin 4) (r : Fin 4096) (e : Fin 768) (h : e.val % 384 < 352) :
    (packed x (ix3 p r e) : EReal) = x (ix2 r (col p e h)) := by
  pointwise [packed]
  exact dif_pos ⟨by omega, h⟩

theorem packed_out (x : FVec Ideal S4096x2816 .f32) (p : Fin 4) (r : Fin 4096) (e : Fin 768) (h : ¬e.val % 384 < 352) :
    (packed x (ix3 p r e) : EReal) = 0 := by
  pointwise [packed]
  exact (dif_neg fun h2 => h h2.2).trans zero_word

/-- What a point computes from its two blocks: the sum over the tokens of their products. -/
theorem pay_at (x : Vec Ideal S1x4096x768 .bf16) (y : Vec Ideal S1x4096x1024 .bf16) (a : Fin 768) (b : Fin 1024) :
    (k0_pay3 (F := Ideal) (k0_pay2 k0_pay1 x y) (ix3 0 a b) : EReal) = ∑ r : Fin 4096, (x (ix3 0 r a) * y (ix3 0 r b) : EReal) := by
  pointwise [k0_pay3, k0_pay2, k0_pay1]

theorem ref_in (x : FVec Ideal S4096x2816 .f32) (y : FVec Ideal S4096x1024 .f32) (p : Fin 4) (e : Fin 768) (b : Fin 1024) (h : e.val % 384 < 352) :
    (val_main_v7 (F := Ideal) x y (ix3 p e b) : EReal) = ∑ r : Fin 4096, x (ix2 r (col p e h)) * y (ix2 r b) := by
  pointwise [val_main_v7, val_main_v6, val_main_v5, val_main_v4, val_main_v3, val_main_v2, val_main_call0_v0, val_main_c]
  refine (dif_pos (show p.val * 2 + e.val / 384 < 8 ∧ e.val % 384 < 352 from ⟨by omega, h⟩)).trans ?_
  exact Finset.sum_congr rfl fun r _ => mul_comm _ _

theorem ref_out (x : FVec Ideal S4096x2816 .f32) (y : FVec Ideal S4096x1024 .f32) (p : Fin 4) (e : Fin 768) (b : Fin 1024) (h : ¬e.val % 384 < 352) :
    (val_main_v7 (F := Ideal) x y (ix3 p e b) : EReal) = 0 := by
  pointwise [val_main_v7, val_main_v6, val_main_v5, val_main_v4, val_main_v3, val_main_v2, val_main_call0_v0, val_main_c]
  exact (dif_neg fun h2 => h h2.2).trans zero_word

/-- The call's result is the gradient of the product's weight, in the step's layout. -/
theorem out : (dats m 0 c).arrAt 2 cfg0.N = val_main_v7 (F := Ideal) (ax m c) (ay m c) := by
  refine (dats m 0 c).arrAt_eq_of_covers 2 _ (by decide +kernel) fun t hf y => ?_
  obtain ⟨z, a, b, rfl⟩ : ∃ (z : Fin 1) (a : Fin 768) (b : Fin 1024), y = ix3 z a b := ⟨y 0, y 1, y 2, eq_ix3 y⟩
  obtain rfl : z = 0 := by omega
  have hi : ((cfg0.win 2).blk t).view.emb (ix3 0 a b) = ix3 (ch t) a b := by blk_ext [idx t]
  rw [after0_2, outsAt0]
  refine Eq.trans ?_ (congrArg (val_main_v7 (F := Ideal) (ax m c) (ay m c)) hi).symm
  frame_out
  refine (pay_at _ _ a b).trans ?_
  by_cases h : a.val % 384 < 352
  · rw [ref_in _ _ _ _ _ h]
    exact Finset.sum_congr rfl fun r _ => congrArg₂ (· * · : EReal → EReal → EReal) ((x_at m c t r a).trans (packed_in _ _ r a h)) (y_at m c t r b)
  · rw [ref_out _ _ _ _ _ h]
    exact Finset.sum_eq_zero fun r _ => (congrArg (· * _ : EReal → EReal) ((x_at m c t r a).trans (packed_out _ _ r a h))).trans (zero_mul _)

/-- The call's result is the reference's, whatever the arguments. -/
theorem algebraic : Cert.algebraic_KernelDw2Ideal_ReferenceDw2Ideal := by
  intro m ρ m' ρ' hpre hagree
  refine ⟨fun c => val_main_v7 (F := Ideal) (ax m c) (ay m c), ?_, ?_⟩
  · exact (θ_run _ _ _).mono (fun r h c => ⟨(h c).1.trans (out m c), (h c).2⟩) (Value.run_blocks (F := Ideal) m ρ)
  · refine (θ_run _ _ _).mono (fun r h c => ?_) (Cert.ReferenceDw2Ideal.Value.run (F := Ideal) m' ρ')
    obtain ⟨h0, h1⟩ := hagree c
    obtain ⟨e0, e⟩ := h c
    rw [val_main_v7_eq, h0, h1] at e0
    exact ⟨e0, e⟩

end Cert.KernelDw2Ideal.Grad
end
-- ==== Proof.GradIn.lean ====
module

public import proofs.«01_k».proof.Defs
public import proofs.«01_k».proof.Proof.Gen.KernelDwInIdeal.Value
public import proofs.«01_k».proof.Proof.Gen.ReferenceDwInIdeal.Read
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceDwInIdeal.Grad

open Cert.ReferenceDwInIdeal

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run (F := Ideal) m ρ)

end Cert.ReferenceDwInIdeal.Grad

namespace Cert.KernelDwInIdeal.Grad

open Cert.KernelDwInIdeal.Gen
open Cert.ReferenceDwInIdeal.Read

variable (m : (ℓ : Loc nD τ sig) → Buf (Elt Ideal) ℓ) (c : Dev nD)

/-- The upstream gradient of the projection, -/
abbrev ax : FVec Ideal S4096x5120 .f32 := m ((c.tc : Thread nD τ).loc main_arg0)
/-- and the projection's input. -/
abbrev ay : FVec Ideal S4096x1024 .f32 := m ((c.tc : Thread nD τ).loc main_arg1)

theorem V_x : Gen.V m c main_v1 = truncf .bf16 (broadcastInDim S1x4096x5120 ![1, 2] bcast_S4096x5120_S1x4096x5120_1_2 (ax m c)) bitsLt_bf16_f32 := by
  simp only [Gen.V, hostOps0, List.flatten_cons, List.flatten_nil, List.append_nil, List.cons_append, List.nil_append,
    TRef.nullary, TRef.ternary, TRef.unary, TRef.toBuf, TRef.ofBuf, cast_eq]
  after_results_simp <;> rfl

theorem V_y : Gen.V m c main_v3 = truncf .bf16 (broadcastInDim S1x4096x1024 ![1, 2] bcast_S4096x1024_S1x4096x1024_1_2 (ay m c)) bitsLt_bf16_f32 := by
  simp only [Gen.V, hostOps0, List.flatten_cons, List.flatten_nil, List.append_nil, List.cons_append, List.nil_append,
    TRef.nullary, TRef.ternary, TRef.unary, TRef.toBuf, TRef.ofBuf, cast_eq]
  after_results_simp <;> rfl

theorem idx : ∀ t : Fin cfg0.N, win0_0.index t = ![0, 0, t.val] ∧ win0_1.index t = ![0, 0, 0] ∧ win0_2.index t = ![0, t.val, 0] := by
  decide +kernel

theorem hN (t : Fin cfg0.N) : t.val < 4 := t.isLt

/-- Column `a` of a point's block. -/
abbrev col (t : Fin cfg0.N) (a : Fin 1280) : Fin 5120 := ⟨1280 * t.val + a.val, by have := hN t; omega⟩

theorem x_at (t : Fin cfg0.N) (r : Fin 4096) (a : Fin 1280) : iblk m c 0 t (ix3 0 r a) = ax m c (ix2 r (col t a)) := by
  have h : ∀ W : FVec Ideal S1x4096x5120 .bf16, ((cfg0.win 0).blk t).view.read (Elt Ideal) W (ix3 0 r a) = W (ix3 0 r (col t a)) := fun W => by blk_ext [idx t]
  refine ((h (Gen.V m c main_v1)).trans (congrFun (V_x m c) _)).trans ?_
  pointwise

theorem y_at (t : Fin cfg0.N) (r : Fin 4096) (b : Fin 1024) : iblk m c 1 t (ix3 0 r b) = ay m c (ix2 r b) := by
  have h : ∀ W : FVec Ideal S1x4096x1024 .bf16, ((cfg0.win 1).blk t).view.read (Elt Ideal) W (ix3 0 r b) = W (ix3 0 r b) := fun W => by blk_ext [idx t]
  refine ((h (Gen.V m c main_v3)).trans (congrFun (V_y m c) _)).trans ?_
  pointwise

/-- What a point computes from its two blocks: the sum over the tokens of their products. -/
theorem pay_at (x : Vec Ideal S1x4096x1280 .bf16) (y : Vec Ideal S1x4096x1024 .bf16) (a : Fin 1280) (b : Fin 1024) :
    (k0_pay3 (F := Ideal) (k0_pay2 k0_pay1 x y) (ix3 0 a b) : EReal) = ∑ r : Fin 4096, (x (ix3 0 r a) * y (ix3 0 r b) : EReal) := by
  pointwise [k0_pay3, k0_pay2, k0_pay1]

theorem ref_at (x : FVec Ideal S4096x5120 .f32) (y : FVec Ideal S4096x1024 .f32) (a : Fin 5120) (b : Fin 1024) :
    (val_main_v6 (F := Ideal) x y (ix3 0 a b) : EReal) = ∑ r : Fin 4096, x (ix2 r a) * y (ix2 r b) := by
  pointwise [val_main_v6, val_main_v5, val_main_v4, val_main_v3, val_main_v2]

/-- The call's result is the gradient of the projection's weight. -/
theorem out : (dats m 0 c).arrAt 2 cfg0.N = val_main_v6 (F := Ideal) (ax m c) (ay m c) := by
  refine (dats m 0 c).arrAt_eq_of_covers 2 _ (by decide +kernel) fun t hf y => ?_
  obtain ⟨z, a, b, rfl⟩ : ∃ (z : Fin 1) (a : Fin 1280) (b : Fin 1024), y = ix3 z a b := ⟨y 0, y 1, y 2, eq_ix3 y⟩
  obtain rfl : z = 0 := by omega
  have h4 := hN t
  have hi : ((cfg0.win 2).blk t).view.emb (ix3 0 a b) = ix3 0 (col t a) b := by blk_ext [idx t]
  rw [after0_2, outsAt0]
  refine Eq.trans ?_ (congrArg (val_main_v6 (F := Ideal) (ax m c) (ay m c)) hi).symm
  frame_out
  refine (pay_at _ _ a b).trans ?_
  rw [ref_at]
  exact Finset.sum_congr rfl fun r _ => congrArg₂ (· * · : EReal → EReal → EReal) (x_at m c t r a) (y_at m c t r b)

/-- The call's result is the reference's, whatever the arguments. -/
theorem algebraic : Cert.algebraic_KernelDwInIdeal_ReferenceDwInIdeal := by
  intro m ρ m' ρ' hpre hagree
  refine ⟨fun c => val_main_v6 (F := Ideal) (ax m c) (ay m c), ?_, ?_⟩
  · exact (θ_run _ _ _).mono (fun r h c => ⟨(h c).1.trans (out m c), (h c).2⟩) (Value.run_blocks (F := Ideal) m ρ)
  · refine (θ_run _ _ _).mono (fun r h c => ?_) (Cert.ReferenceDwInIdeal.Value.run (F := Ideal) m' ρ')
    obtain ⟨h0, h1⟩ := hagree c
    obtain ⟨e0, e⟩ := h c
    rw [val_main_v6_eq, h0, h1] at e0
    exact ⟨e0, e⟩

end Cert.KernelDwInIdeal.Grad
end
-- ==== Proof.FfnBwdRun.lean ====
module

public import proofs.«01_k».proof.Proof.Gen.KernelFfnBwdIdeal.Skeleton
public import Idealize.ShloMosaic.Lib.VecWindow
public import Idealize.ShloMosaic.Lib.Ring
public import Idealize.ShloMosaic.Lib.Tactic

@[expose] public section

set_option maxRecDepth 16384

noncomputable section

namespace Cert.KernelFfnBwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelFfnBwdIdeal.Gen

variable {F : FTy → Type} [FloatOps F]

local notation "𝕄" => MT nD τ sig Unit (Elt F) ℕ (UR sig nD τ) ℕ

/-- The first 256 rows of a block of 512. -/
def top {e : EltTy} (X : Vec F S512x1024 e) : Vec F S256x1024 e :=
  VecWindow.window X ![0, 0] S256x1024.size inb_S512x1024_S256x1024_0_0

/-- The last 256 rows of a block of 512. -/
def bot {e : EltTy} (X : Vec F S512x1024 e) : Vec F S256x1024 e :=
  VecWindow.window X ![256, 0] S256x1024.size inb_S512x1024_S256x1024_256_0

/-- The gate half of `u`, first 256 rows. -/
def gateTop (U : Vec F S2x1x512x768 .bf16) : Vec F S1x1x256x768 .bf16 :=
  VecWindow.window U ![0, 0, 0, 0] S1x1x256x768.size inb_S2x1x512x768_S1x1x256x768_0_0_0_0

/-- The linear half of `u`, first 256 rows. -/
def upTop (U : Vec F S2x1x512x768 .bf16) : Vec F S1x1x256x768 .bf16 :=
  VecWindow.window U ![1, 0, 0, 0] S1x1x256x768.size inb_S2x1x512x768_S1x1x256x768_1_0_0_0

/-- The gate half of `u`, last 256 rows. -/
def gateBot (U : Vec F S2x1x512x768 .bf16) : Vec F S1x1x256x768 .bf16 :=
  VecWindow.window U ![0, 0, 256, 0] S1x1x256x768.size inb_S2x1x512x768_S1x1x256x768_0_0_256_0

/-- The linear half of `u`, last 256 rows. -/
def upBot (U : Vec F S2x1x512x768 .bf16) : Vec F S1x1x256x768 .bf16 :=
  VecWindow.window U ![1, 0, 256, 0] S1x1x256x768.size inb_S2x1x512x768_S1x1x256x768_1_0_256_0

/-- What a point writes of the recomputed hidden activation, over what the buffer held. -/
def pointG (U : Vec F S2x1x512x768 .bf16) (d : Vec F S1x512x768 .bf16) : Vec F S1x512x768 .bf16 :=
  VecWindow.put (VecWindow.put d ![0, 0, 0] S1x256x768.size (k0_pay23 (k0_pay18 (gateTop U)) (k0_pay19 (upTop U)) (k0_pay20 (gateTop U))))
    ![0, 256, 0] S1x256x768.size (k0_pay34 (gateBot U) (upBot U))

/-- What a point writes of the gradient of `u`, over what the buffer held. -/
def pointDu (D : Vec F S512x1024 .bf16) (W : Vec F S1x768x1024 .bf16) (U d : Vec F S2x1x512x768 .bf16) : Vec F S2x1x512x768 .bf16 :=
  VecWindow.put (VecWindow.put (VecWindow.put (VecWindow.put d
      ![0, 0, 0, 0] S1x1x256x768.size (k0_pay26 (k0_pay16 (top D) W) (k0_pay18 (gateTop U)) (k0_pay19 (upTop U)) (k0_pay20 (gateTop U))))
      ![1, 0, 0, 0] S1x1x256x768.size (k0_pay27 (k0_pay16 (top D) W) (k0_pay18 (gateTop U)) (k0_pay20 (gateTop U))))
      ![0, 0, 256, 0] S1x1x256x768.size (k0_pay37 (k0_pay17 (bot D) W) (gateBot U) (upBot U)))
      ![1, 0, 256, 0] S1x1x256x768.size (k0_pay38 (k0_pay17 (bot D) W) (gateBot U))

/-- The gradient of the normalized input, accumulated over the hidden chunks, after a point that found `S` in it. -/
def pointDa (D : Vec F S512x1024 .bf16) (U : Vec F S2x1x512x768 .bf16) (W Wg Wu : Vec F S1x768x1024 .bf16) (S : Vec F S512x1024 .f32) :
    Vec F S512x1024 .f32 :=
  VecWindow.put (VecWindow.put S ![0, 0] S256x1024.size
      (k0_pay29 (k0_pay28 (k0_pay16 (top D) W) (k0_pay18 (gateTop U)) (k0_pay19 (upTop U)) (k0_pay20 (gateTop U)) (top S) Wg Wu)))
    ![256, 0] S256x1024.size
      (k0_pay1 (k0_pay35 (k0_pay17 (bot D) W) (gateBot U) (upBot U)) (k0_pay36 (k0_pay17 (bot D) W) (gateBot U)) (bot S) Wg Wu)

/-- Filling both halves of the rows leaves nothing of what was there. -/
theorem pointG_any (U : Vec F S2x1x512x768 .bf16) (d d' : Vec F S1x512x768 .bf16) : pointG U d = pointG U d' := by
  funext y
  have h0 : (y 0).val < 1 := (y 0).isLt
  have h1 : (y 1).val < 512 := (y 1).isLt
  have h2 : (y 2).val < 768 := (y 2).isLt
  unfold pointG VecWindow.put
  split
  · rfl
  · next h =>
    have hlt : (y 1).val < 256 := by
      by_contra hge
      exact h fun | 0 => ⟨Nat.zero_le _, h0⟩ | 1 => ⟨by show 256 ≤ _; omega, h1⟩ | 2 => ⟨Nat.zero_le _, by show _ < 0 + 768; omega⟩
    rw [dif_pos, dif_pos] <;> exact fun | 0 => ⟨Nat.zero_le _, h0⟩ | 1 => ⟨Nat.zero_le _, by show _ < 0 + 256; omega⟩ | 2 => ⟨Nat.zero_le _, by show _ < 0 + 768; omega⟩

/-- The same of the gradient of `u`, whose two halves have two halves each. -/
theorem pointDu_any (D : Vec F S512x1024 .bf16) (W : Vec F S1x768x1024 .bf16) (U d d' : Vec F S2x1x512x768 .bf16) :
    pointDu D W U d = pointDu D W U d' := by
  funext y
  have h0 : (y 0).val < 2 := (y 0).isLt
  have h1 : (y 1).val < 1 := (y 1).isLt
  have h2 : (y 2).val < 512 := (y 2).isLt
  have h3 : (y 3).val < 768 := (y 3).isLt
  unfold pointDu VecWindow.put
  split
  · rfl
  · next ha =>
    split
    · rfl
    · next hb =>
      split
      · rfl
      · next hc =>
        have hlt : (y 2).val < 256 := by
          by_contra hge
          by_cases hz : (y 0).val = 0
          · exact hb fun | 0 => ⟨Nat.zero_le _, by show _ < 0 + 1; omega⟩ | 1 => ⟨Nat.zero_le _, h1⟩ | 2 => ⟨by show 256 ≤ _; omega, h2⟩ | 3 => ⟨Nat.zero_le _, by show _ < 0 + 768; omega⟩
          · exact ha fun | 0 => ⟨by show 1 ≤ _; omega, h0⟩ | 1 => ⟨Nat.zero_le _, h1⟩ | 2 => ⟨by show 256 ≤ _; omega, h2⟩ | 3 => ⟨Nat.zero_le _, by show _ < 0 + 768; omega⟩
        have hz : (y 0).val = 0 := by
          by_contra hz
          exact hc fun | 0 => ⟨by show 1 ≤ _; omega, h0⟩ | 1 => ⟨Nat.zero_le _, h1⟩ | 2 => ⟨Nat.zero_le _, by show _ < 0 + 256; omega⟩ | 3 => ⟨Nat.zero_le _, by show _ < 0 + 768; omega⟩
        rw [dif_pos, dif_pos] <;> exact fun | 0 => ⟨Nat.zero_le _, by show _ < 0 + 1; omega⟩ | 1 => ⟨Nat.zero_le _, h1⟩ | 2 => ⟨Nat.zero_le _, by show _ < 0 + 256; omega⟩ | 3 => ⟨Nat.zero_le _, by show _ < 0 + 768; omega⟩

/-- Filling both halves of an accumulator leaves nothing of what was there. -/
theorem put_both (S S' : Vec F S512x1024 .f32) (w w' : Vec F S256x1024 .f32) :
    VecWindow.put (VecWindow.put S ![0, 0] S256x1024.size w) ![256, 0] S256x1024.size w'
      = VecWindow.put (VecWindow.put S' ![0, 0] S256x1024.size w) ![256, 0] S256x1024.size w' := by
  funext y
  have h0 : (y 0).val < 512 := (y 0).isLt
  have h1 : (y 1).val < 1024 := (y 1).isLt
  unfold VecWindow.put
  split
  · rfl
  · next h =>
    have hlt : (y 0).val < 256 := by
      by_contra hge
      exact h fun | 0 => ⟨by show 256 ≤ _; omega, h0⟩ | 1 => ⟨Nat.zero_le _, by show _ < 0 + 1024; omega⟩
    rw [dif_pos, dif_pos] <;> exact fun | 0 => ⟨Nat.zero_le _, by show _ < 0 + 256; omega⟩ | 1 => ⟨Nat.zero_le _, by show _ < 0 + 1024; omega⟩

/-- A load of the whole accumulator after both halves were stored. -/
theorem readCov_both (m : Memref sig .tc .vmem S512x1024 .f32) (w w' : Vec F S256x1024 .f32) (S : Vec F S512x1024 .f32) :
    m.view.readCov (Val := Elt F) [⟨Rect.unit ![256, 0] ![256, 1024] inb_S512x1024_S256x1024_256_0, w'⟩,
        ⟨Rect.unit ![0, 0] ![256, 1024] inb_S512x1024_S256x1024_0_0, w⟩] (Rect.unit ![0, 0] ![512, 1024] inb_S512x1024_S512x1024_0_0).toLoadRect
      = VecWindow.put (VecWindow.put S ![0, 0] S256x1024.size w) ![256, 0] S256x1024.size w' := by
  refine (View.readAt_full m.view _ _).trans ?_
  rw [View.read_writes_cons_put _ _ _ _ _ rfl, View.read_writes_cons_put _ _ _ _ _ rfl]
  exact put_both _ _ _ _

/-- The last rows do not change when the first are replaced. -/
theorem bot_put (S : Vec F S512x1024 .f32) (w : Vec F S256x1024 .f32) :
    bot (VecWindow.put S ![0, 0] S256x1024.size w) = bot S :=
  VecWindow.window_put_of_disjoint S _ _ _ _ _ _ (0 : Fin 2) (.inr (Nat.le_refl _))

/-- A load of the first rows after the whole was stored. -/
theorem readCov_top {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![0, 0] ![256, 1024] inb_S512x1024_S256x1024_0_0).toLoadRect = top S :=
  (View.readAt_unit m.view _ _ rfl _).trans (congrArg top (View.read_writes_full m.view _ _ _ _))

/-- A load of the last rows after the whole was stored. -/
theorem readCov_bot {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![256, 0] ![256, 1024] inb_S512x1024_S256x1024_256_0).toLoadRect = bot S :=
  (View.readAt_unit m.view _ _ rfl _).trans (congrArg bot (View.read_writes_full m.view _ _ _ _))

/-- A load of a row after it was stored. -/
theorem readCov_row (m : Memref sig .tc .vmem S1x1024 .f32) (S : Vec F S1x1024 .f32) :
    m.view.readCov (Val := Elt F) [⟨Rect.unit ![0, 0] ![1, 1024] inb_S1x1024_S1x1024_0_0, S⟩]
      (Rect.unit ![0, 0] ![1, 1024] inb_S1x1024_S1x1024_0_0).toLoadRect = S :=
  (View.readAt_full m.view _ _).trans (View.read_writes_full m.view _ _ _ _)

/-- A load of the last rows after the whole and then the first rows were stored. -/
theorem readCov_bot_top (m : Memref sig .tc .vmem S512x1024 .f32) (w : Vec F S256x1024 .f32) (S : Vec F S512x1024 .f32) :
    m.view.readCov (Val := Elt F) [⟨Rect.unit ![0, 0] ![256, 1024] inb_S512x1024_S256x1024_0_0, w⟩,
        ⟨Rect.unit ![0, 0] ![512, 1024] inb_S512x1024_S512x1024_0_0, S⟩] (Rect.unit ![256, 0] ![256, 1024] inb_S512x1024_S256x1024_256_0).toLoadRect
      = bot S := by
  refine (View.readAt_unit m.view _ _ rfl _).trans ?_
  rw [View.read_writes_cons_put _ _ _ _ _ rfl]
  exact (bot_put _ _).trans (congrArg bot (View.read_writes_full m.view _ _ _ _))

theorem readAt_top {e : EltTy} (m : Memref sig .tc .vmem S512x1024 e) (f : BufTy.Contents (Elt F) m.view.ty) :
    View.readAt (Elt F) m.view (Rect.unit (s := S512x1024) ![0, 0] S256x1024.size inb_S512x1024_S256x1024_0_0).toLoadRect f = top (m.view.read (Elt F) f) :=
  View.readAt_unit m.view f _ rfl _
theorem readAt_bot {e : EltTy} (m : Memref sig .tc .vmem S512x1024 e) (f : BufTy.Contents (Elt F) m.view.ty) :
    View.readAt (Elt F) m.view (Rect.unit (s := S512x1024) ![256, 0] S256x1024.size inb_S512x1024_S256x1024_256_0).toLoadRect f = bot (m.view.read (Elt F) f) :=
  View.readAt_unit m.view f _ rfl _
theorem readAt_gateTop (m : Memref sig .tc .vmem S2x1x512x768 .bf16) (f : BufTy.Contents (Elt F) m.view.ty) :
    View.readAt (Elt F) m.view (Rect.unit (s := S2x1x512x768) ![0, 0, 0, 0] S1x1x256x768.size inb_S2x1x512x768_S1x1x256x768_0_0_0_0).toLoadRect f = gateTop (m.view.read (Elt F) f) :=
  View.readAt_unit m.view f _ rfl _
theorem readAt_upTop (m : Memref sig .tc .vmem S2x1x512x768 .bf16) (f : BufTy.Contents (Elt F) m.view.ty) :
    View.readAt (Elt F) m.view (Rect.unit (s := S2x1x512x768) ![1, 0, 0, 0] S1x1x256x768.size inb_S2x1x512x768_S1x1x256x768_1_0_0_0).toLoadRect f = upTop (m.view.read (Elt F) f) :=
  View.readAt_unit m.view f _ rfl _
theorem readAt_gateBot (m : Memref sig .tc .vmem S2x1x512x768 .bf16) (f : BufTy.Contents (Elt F) m.view.ty) :
    View.readAt (Elt F) m.view (Rect.unit (s := S2x1x512x768) ![0, 0, 256, 0] S1x1x256x768.size inb_S2x1x512x768_S1x1x256x768_0_0_256_0).toLoadRect f = gateBot (m.view.read (Elt F) f) :=
  View.readAt_unit m.view f _ rfl _
theorem readAt_upBot (m : Memref sig .tc .vmem S2x1x512x768 .bf16) (f : BufTy.Contents (Elt F) m.view.ty) :
    View.readAt (Elt F) m.view (Rect.unit (s := S2x1x512x768) ![1, 0, 256, 0] S1x1x256x768.size inb_S2x1x512x768_S1x1x256x768_1_0_256_0).toLoadRect f = upBot (m.view.read (Elt F) f) :=
  View.readAt_unit m.view f _ rfl _

set_option maxHeartbeats 4000000 in
/-- The body at the first point of all. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S2x1x512x768 .bf16) (harg7 : arg7.IsWhole) (arg8 : Memref sig .tc .vmem S1x768x1024 .bf16) (harg8 : arg8.IsWhole) (arg9 : Memref sig .tc .vmem S1x768x1024 .bf16) (harg9 : arg9.IsWhole) (arg10 : Memref sig .tc .vmem S1x768x1024 .bf16) (harg10 : arg10.IsWhole) (arg11 : Memref sig .tc .vmem S1x512x768 .bf16) (harg11 : arg11.IsWhole) (arg12 : Memref sig .tc .vmem S2x1x512x768 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (hc1 : k0_cond1 i = 1#1) (hc2 : k0_cond2 i = 1#1) (hc3 : ¬ k0_cond3 i = 1#1)
    (x0 x1 : Vec F S512x1024 .f32) (x2 : Vec F S1x1024 .f32) (x3 : Vec F S512x1024 .f32) (x4 : Vec F S1x1024 .f32) (x5 : Vec F S2x1x512x768 .bf16)
    (x6 x7 x8 : Vec F S1x768x1024 .bf16)  (d9 : Vec F S1x512x768 .bf16) (d10 : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (pointG x5 d9) ∗ owns (c : Thread nD τ) arg12 fullShare (pointDu (k0_pay10 x1 x2 x0) x6 x5 d10) ∗ owns (c : Thread nD τ) arg13 fullShare ((k0_pay10 x1 x2 x0)) ∗ owns (c : Thread nD τ) arg15 fullShare (k0_pay11 x1 x0 k0_pay13) ∗ owns (c : Thread nD τ) arg16 fullShare (k0_pay14) ∗ owns (c : Thread nD τ) arg17 fullShare (pointDa (k0_pay10 x1 x2 x0) x5 x6 x7 x8 (k0_pay15 k0_pay12))) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn2_bwd_eq_skeleton]; unfold cc0_ffn2_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%e9, %f9, -, H9⟩, ⟨%e10, %f10, -, H10⟩, ⟨%e11, %f11, -, H11⟩, ⟨%e13, %f13, -, H13⟩, ⟨%e14, %f14, -, H14⟩, ⟨%e15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine Eq.trans ?_ (pointG_any x5 (arg11.view.read (Elt F) f9) d9)
      sl_unfold_run_names
      rw [View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
      all_goals rfl
    isplitl [H10]
    · iexists _; isplitr; swap; · iexact H10
      ipureintro
      refine Eq.trans ?_ (pointDu_any (k0_pay10 x1 x2 x0) x6 x5 (arg12.view.read (Elt F) f10) d10)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
      all_goals rfl
    isplitl [H11]
    · iexists _; isplitr; swap; · iexact H11
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
      all_goals rfl
    isplitl [H13]
    · iexists _; isplitr; swap; · iexact H13
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
      all_goals rfl
    isplitl [H14]
    · iexists _; isplitr; swap; · iexact H14
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
      all_goals rfl
    iexists _; isplitr; swap; · iexact H15
    ipureintro
    sl_unfold_run_names
    rw [View.read_writes_cons_put _ _ _ _ _ rfl, View.read_writes_cons_put _ _ _ _ _ rfl]
    simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread]
    all_goals rfl

set_option maxHeartbeats 4000000 in
/-- The body at the first point of a later block of rows. -/
theorem run_row (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S2x1x512x768 .bf16) (harg7 : arg7.IsWhole) (arg8 : Memref sig .tc .vmem S1x768x1024 .bf16) (harg8 : arg8.IsWhole) (arg9 : Memref sig .tc .vmem S1x768x1024 .bf16) (harg9 : arg9.IsWhole) (arg10 : Memref sig .tc .vmem S1x768x1024 .bf16) (harg10 : arg10.IsWhole) (arg11 : Memref sig .tc .vmem S1x512x768 .bf16) (harg11 : arg11.IsWhole) (arg12 : Memref sig .tc .vmem S2x1x512x768 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (hc1 : ¬ k0_cond1 i = 1#1) (hc2 : k0_cond2 i = 1#1) (hc3 : ¬ k0_cond3 i = 1#1)
    (x0 x1 : Vec F S512x1024 .f32) (x2 : Vec F S1x1024 .f32) (x3 : Vec F S512x1024 .f32) (x4 : Vec F S1x1024 .f32) (x5 : Vec F S2x1x512x768 .bf16)
    (x6 x7 x8 : Vec F S1x768x1024 .bf16) (G : Vec F S1x1024 .f32) (d9 : Vec F S1x512x768 .bf16) (d10 : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg15 fullShare G ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (pointG x5 d9) ∗ owns (c : Thread nD τ) arg12 fullShare (pointDu (k0_pay10 x1 x2 x0) x6 x5 d10) ∗ owns (c : Thread nD τ) arg13 fullShare ((k0_pay10 x1 x2 x0)) ∗ owns (c : Thread nD τ) arg15 fullShare (k0_pay11 x1 x0 G) ∗ owns (c : Thread nD τ) arg17 fullShare (pointDa (k0_pay10 x1 x2 x0) x5 x6 x7 x8 (k0_pay15 k0_pay12))) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn2_bwd_eq_skeleton]; unfold cc0_ffn2_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%e9, %f9, -, H9⟩, ⟨%e10, %f10, -, H10⟩, ⟨%e11, %f11, -, H11⟩, ⟨%f13, %hf13, H13⟩, ⟨%e15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine Eq.trans ?_ (pointG_any x5 (arg11.view.read (Elt F) f9) d9)
      sl_unfold_run_names
      rw [View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf13]
      all_goals rfl
    isplitl [H10]
    · iexists _; isplitr; swap; · iexact H10
      ipureintro
      refine Eq.trans ?_ (pointDu_any (k0_pay10 x1 x2 x0) x6 x5 (arg12.view.read (Elt F) f10) d10)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf13]
      all_goals rfl
    isplitl [H11]
    · iexists _; isplitr; swap; · iexact H11
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf13]
      all_goals rfl
    isplitl [H13]
    · iexists _; isplitr; swap; · iexact H13
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf13]
      all_goals rfl
    iexists _; isplitr; swap; · iexact H15
    ipureintro
    sl_unfold_run_names
    rw [View.read_writes_cons_put _ _ _ _ _ rfl, View.read_writes_cons_put _ _ _ _ _ rfl]
    simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf13]
    all_goals rfl

set_option maxHeartbeats 4000000 in
/-- The body at a point that is neither the first nor the last of its block of rows. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S2x1x512x768 .bf16) (harg7 : arg7.IsWhole) (arg8 : Memref sig .tc .vmem S1x768x1024 .bf16) (harg8 : arg8.IsWhole) (arg9 : Memref sig .tc .vmem S1x768x1024 .bf16) (harg9 : arg9.IsWhole) (arg10 : Memref sig .tc .vmem S1x768x1024 .bf16) (harg10 : arg10.IsWhole) (arg11 : Memref sig .tc .vmem S1x512x768 .bf16) (harg11 : arg11.IsWhole) (arg12 : Memref sig .tc .vmem S2x1x512x768 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (hc1 : ¬ k0_cond1 i = 1#1) (hc2 : ¬ k0_cond2 i = 1#1) (hc3 : ¬ k0_cond3 i = 1#1)
    (x0 x1 : Vec F S512x1024 .f32) (x2 : Vec F S1x1024 .f32) (x3 : Vec F S512x1024 .f32) (x4 : Vec F S1x1024 .f32) (x5 : Vec F S2x1x512x768 .bf16)
    (x6 x7 x8 : Vec F S1x768x1024 .bf16) (D : Vec F S512x1024 .bf16) (S : Vec F S512x1024 .f32) (d9 : Vec F S1x512x768 .bf16) (d10 : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare D ∗ owns (c : Thread nD τ) arg17 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (pointG x5 d9) ∗ owns (c : Thread nD τ) arg12 fullShare (pointDu D x6 x5 d10) ∗ owns (c : Thread nD τ) arg13 fullShare (D) ∗ owns (c : Thread nD τ) arg17 fullShare (pointDa D x5 x6 x7 x8 S)) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn2_bwd_eq_skeleton]; unfold cc0_ffn2_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%e9, %f9, -, H9⟩, ⟨%e10, %f10, -, H10⟩, ⟨%f11, %hf11, H11⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine Eq.trans ?_ (pointG_any x5 (arg11.view.read (Elt F) f9) d9)
      sl_unfold_run_names
      rw [View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf15]
      all_goals rfl
    isplitl [H10]
    · iexists _; isplitr; swap; · iexact H10
      ipureintro
      refine Eq.trans ?_ (pointDu_any D x6 x5 (arg12.view.read (Elt F) f10) d10)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf15]
      all_goals rfl
    isplitl [H11]
    · iexists _; isplitr; swap; · iexact H11
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf15]
      all_goals rfl
    iexists _; isplitr; swap; · iexact H15
    ipureintro
    sl_unfold_run_names
    rw [View.read_writes_cons_put _ _ _ _ _ rfl, View.read_writes_cons_put _ _ _ _ _ rfl, View.writes_nil]
    simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf15]
    all_goals rfl

set_option maxHeartbeats 4000000 in
/-- The body at the last point of a block of rows. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S2x1x512x768 .bf16) (harg7 : arg7.IsWhole) (arg8 : Memref sig .tc .vmem S1x768x1024 .bf16) (harg8 : arg8.IsWhole) (arg9 : Memref sig .tc .vmem S1x768x1024 .bf16) (harg9 : arg9.IsWhole) (arg10 : Memref sig .tc .vmem S1x768x1024 .bf16) (harg10 : arg10.IsWhole) (arg11 : Memref sig .tc .vmem S1x512x768 .bf16) (harg11 : arg11.IsWhole) (arg12 : Memref sig .tc .vmem S2x1x512x768 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (hc1 : ¬ k0_cond1 i = 1#1) (hc2 : ¬ k0_cond2 i = 1#1) (hc3 : k0_cond3 i = 1#1)
    (x0 x1 : Vec F S512x1024 .f32) (x2 : Vec F S1x1024 .f32) (x3 : Vec F S512x1024 .f32) (x4 : Vec F S1x1024 .f32) (x5 : Vec F S2x1x512x768 .bf16)
    (x6 x7 x8 : Vec F S1x768x1024 .bf16) (D : Vec F S512x1024 .bf16) (S : Vec F S512x1024 .f32) (P : Vec F S1x1024 .f32) (d9 : Vec F S1x512x768 .bf16) (d10 : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare D ∗ (∃ d, owns (c : Thread nD τ) arg14 fullShare d) ∗ owns (c : Thread nD τ) arg16 fullShare P ∗ owns (c : Thread nD τ) arg17 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (pointG x5 d9) ∗ owns (c : Thread nD τ) arg12 fullShare (pointDu D x6 x5 d10) ∗ owns (c : Thread nD τ) arg13 fullShare (D) ∗ owns (c : Thread nD τ) arg14 fullShare (k0_pay4 x3 x4 (pointDa D x5 x6 x7 x8 S) x0) ∗ owns (c : Thread nD τ) arg16 fullShare (k0_pay5 x3 (pointDa D x5 x6 x7 x8 S) P) ∗ owns (c : Thread nD τ) arg17 fullShare (pointDa D x5 x6 x7 x8 S)) -∗ K ⟨⟩))
          ⊢ wp frame (wpE (defs₀ (F := F)) Variants.none c none) E (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn2_bwd_eq_skeleton]; unfold cc0_ffn2_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%e9, %f9, -, H9⟩, ⟨%e10, %f10, -, H10⟩, ⟨%f11, %hf11, H11⟩, ⟨%e12, %f12, -, H12⟩, ⟨%f14, %hf14, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine Eq.trans ?_ (pointG_any x5 (arg11.view.read (Elt F) f9) d9)
      sl_unfold_run_names
      rw [View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
      all_goals rfl
    isplitl [H10]
    · iexists _; isplitr; swap; · iexact H10
      ipureintro
      refine Eq.trans ?_ (pointDu_any D x6 x5 (arg12.view.read (Elt F) f10) d10)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
      all_goals rfl
    isplitl [H11]
    · iexists _; isplitr; swap; · iexact H11
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
      all_goals rfl
    isplitl [H12]
    · iexists _; isplitr; swap; · iexact H12
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
      rw [readCov_both arg17 _ _ S]
      all_goals rfl
    isplitl [H14]
    · iexists _; isplitr; swap; · iexact H14
      ipureintro
      sl_unfold_run_names
      simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
      rw [readCov_both arg17 _ _ S]
      all_goals rfl
    iexists _; isplitr; swap; · iexact H15
    ipureintro
    sl_unfold_run_names
    rw [View.read_writes_cons_put _ _ _ _ _ rfl, View.read_writes_cons_put _ _ _ _ _ rfl, View.writes_nil]
    simp only [readAt_top arg13, readAt_bot arg13, readAt_top arg17, readAt_bot arg17, readAt_gateTop arg7, readAt_upTop arg7, readAt_gateBot arg7, readAt_upBot arg7, readCov_top, readCov_bot, readCov_row, readCov_bot_top arg17, View.readAt_full arg2.view, View.readAt_full arg3.view, View.readAt_full arg4.view, View.readAt_full arg5.view, View.readAt_full arg6.view, View.readAt_full arg8.view, View.readAt_full arg9.view, View.readAt_full arg10.view, View.readAt_full arg13.view, View.readAt_full arg14.view, View.readAt_full arg15.view, View.readAt_full arg16.view, View.readAt_full arg17.view, View.read_writes_full arg13.view, View.read_writes_full arg14.view, View.read_writes_full arg15.view, View.read_writes_full arg16.view, View.read_writes_full arg17.view, View.read_writes_cons_put _ _ _ _ _ rfl, bot_put, View.writes_nil, harg2.read_unread, harg3.read_unread, harg4.read_unread, harg5.read_unread, harg6.read_unread, harg7.read_unread, harg8.read_unread, harg9.read_unread, harg10.read_unread, hf11, hf14, hf15]
    all_goals rfl

end Cert.KernelFfnBwdIdeal.Ffn
end
-- ==== Proof.FfnBwdFrame.lean ====
module

public import proofs.«01_k».proof.Proof.FfnBwdRun
public import proofs.«01_k».proof.Proof.Gen.KernelFfnBwdIdeal.Frame
public import Idealize.ShloMosaic.Lib.Pipeline.FrameBody
public import Idealize.ShloMosaic.Lib.Pipeline.TableIdle
public import Idealize.ShloMosaic.Lib.WordCmp
public import Idealize.ShloMosaic.Lib.Claim

@[expose] public section

set_option maxRecDepth 16384

noncomputable section

namespace Cert.KernelFfnBwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of all clears the two weight gradients. -/
theorem cond1_iff : ∀ t : Fin cfg0.N, k0_cond1 (grid0.coords t) = 1#1 ↔ t.val = 0 := by decide +kernel
/-- The first point of a block of rows takes the output norm back. -/
theorem cond2_iff : ∀ t : Fin cfg0.N, k0_cond2 (grid0.coords t) = 1#1 ↔ t.val % 4 = 0 := by decide +kernel
/-- The last point of a block of rows takes the input norm back. -/
theorem cond3_iff : ∀ t : Fin cfg0.N, k0_cond3 (grid0.coords t) = 1#1 ↔ t.val % 4 = 3 := by decide +kernel

theorem idle_11 : ∀ t : Fin cfg0.N, cfg0.idle 11 (cfg0.grid.coords t) = !decide (t.val % 4 = 0) := by decide +kernel
theorem idle_12 : ∀ t : Fin cfg0.N, cfg0.idle 12 (cfg0.grid.coords t) = !decide (t.val % 4 = 3) := by decide +kernel
theorem idle_13 : ∀ t : Fin cfg0.N, cfg0.idle 13 (cfg0.grid.coords t) = !decide (t.val % 4 = 0) := by decide +kernel
theorem idle_14 : ∀ t : Fin cfg0.N, cfg0.idle 14 (cfg0.grid.coords t) = !decide (t.val = 0 ∨ t.val % 4 = 3) := by decide +kernel

theorem flush_11 (t : Fin cfg0.N) : (cfg0.win 11).flush t = decide (t.val % 4 = 3) := by
  rw [Bool.eq_iff_iff, decide_eq_true_iff]; exact flush0_11 t
theorem flush_12 (t : Fin cfg0.N) : (cfg0.win 12).flush t = decide (t.val % 4 = 3) := by
  rw [Bool.eq_iff_iff, decide_eq_true_iff]; exact flush0_12 t
theorem flush_13 (t : Fin cfg0.N) : (cfg0.win 13).flush t = decide (t.val % 32 = 31) := by
  rw [Bool.eq_iff_iff, decide_eq_true_iff]; exact flush0_13 t
theorem flush_14 (t : Fin cfg0.N) : (cfg0.win 14).flush t = decide (t.val % 32 = 31) := by
  rw [Bool.eq_iff_iff, decide_eq_true_iff]; exact flush0_14 t

theorem fresh_11 (n : ℕ) (h : n ≤ cfg0.N) : cfg0.fresh 11 n = decide (n % 4 = 0) :=
  Pipeline.Cfg.fresh_tab cfg0 11 (fun n => decide (n % 4 = 0)) rfl (fun t => by
    rw [flush_11, idle_11]; revert t; decide +kernel) n h
theorem fresh_13 (n : ℕ) (h : n ≤ cfg0.N) : cfg0.fresh 13 n = decide (n % 32 = 0) :=
  Pipeline.Cfg.fresh_tab cfg0 13 (fun n => decide (n % 32 = 0)) rfl (fun t => by
    rw [flush_13, idle_13]; revert t; decide +kernel) n h
theorem fresh_14 (n : ℕ) (h : n ≤ cfg0.N) : cfg0.fresh 14 n = decide (n % 32 = 0) :=
  Pipeline.Cfg.fresh_tab cfg0 14 (fun n => decide (n % 32 = 0)) rfl (fun t => by
    rw [flush_14, idle_14]; revert t; decide +kernel) n h

/-- The gradient of the block's output before the output norm, at the points of a block of rows. -/
def dfAt (c : Dev nD) : (n : ℕ) → n < cfg0.N → Vec F S512x1024 .bf16
  | 0, h => k0_pay10 (iblk m c 1 ⟨0, h⟩) (iblk m c 2 ⟨0, h⟩) (iblk m c 0 ⟨0, h⟩)
  | n + 1, h => if (n + 1) % 4 = 0 then k0_pay10 (iblk m c 1 ⟨n + 1, h⟩) (iblk m c 2 ⟨n + 1, h⟩) (iblk m c 0 ⟨n + 1, h⟩)
    else dfAt c n (Nat.lt_of_succ_lt h)

theorem dfAt_first (c : Dev nD) (t : Fin cfg0.N) (h0 : t.val % 4 = 0) :
    dfAt m c t.val t.isLt = k0_pay10 (iblk m c 1 t) (iblk m c 2 t) (iblk m c 0 t) := by
  obtain ⟨n, hn⟩ := t
  cases n with
  | zero => rfl
  | succ n => dsimp only at h0 ⊢; rw [dfAt, if_pos h0]

theorem dfAt_later (c : Dev nD) (t : Fin cfg0.N) (h0 : ¬ t.val % 4 = 0) :
    dfAt m c t.val t.isLt = dfAt m c (t.val - 1) (Nat.lt_of_le_of_lt (Nat.sub_le _ _) t.isLt) := by
  obtain ⟨n, hn⟩ := t
  cases n with
  | zero => exact absurd rfl h0
  | succ n => dsimp only at h0 ⊢; rw [dfAt, if_neg h0]; rfl

/-- A point's step of the accumulated gradient of the normalized input. -/
def daStep (c : Dev nD) (t : Fin cfg0.N) (S : Vec F S512x1024 .f32) : Vec F S512x1024 .f32 :=
  pointDa (dfAt m c t.val t.isLt) (iblk m c 5 t) (iblk m c 6 t) (iblk m c 7 t) (iblk m c 8 t) S

/-- The accumulated gradient of the normalized input, as a point leaves it. -/
def daAt (c : Dev nD) : (n : ℕ) → n < cfg0.N → Vec F S512x1024 .f32
  | 0, h => daStep m c ⟨0, h⟩ (k0_pay15 k0_pay12)
  | n + 1, h => daStep m c ⟨n + 1, h⟩ (if (n + 1) % 4 = 0 then k0_pay15 k0_pay12 else daAt c n (Nat.lt_of_succ_lt h))

theorem daAt_first (c : Dev nD) (t : Fin cfg0.N) (h0 : t.val % 4 = 0) : daAt m c t.val t.isLt = daStep m c t (k0_pay15 k0_pay12) := by
  obtain ⟨n, hn⟩ := t
  cases n with
  | zero => rfl
  | succ n => dsimp only at h0 ⊢; rw [daAt, if_pos h0]

theorem daAt_later (c : Dev nD) (t : Fin cfg0.N) (h0 : ¬ t.val % 4 = 0) :
    daAt m c t.val t.isLt = daStep m c t (daAt m c (t.val - 1) (Nat.lt_of_le_of_lt (Nat.sub_le _ _) t.isLt)) := by
  obtain ⟨n, hn⟩ := t
  cases n with
  | zero => exact absurd rfl h0
  | succ n => dsimp only at h0 ⊢; rw [daAt, if_neg h0]; rfl

/-- The gradient of the output norm's weight, as a point leaves it. -/
def gpostAt (c : Dev nD) : (n : ℕ) → n < cfg0.N → Vec F S1x1024 .f32
  | 0, h => k0_pay11 (iblk m c 1 ⟨0, h⟩) (iblk m c 0 ⟨0, h⟩) k0_pay13
  | n + 1, h => if (n + 1) % 4 = 0 then k0_pay11 (iblk m c 1 ⟨n + 1, h⟩) (iblk m c 0 ⟨n + 1, h⟩) (gpostAt c n (Nat.lt_of_succ_lt h))
    else gpostAt c n (Nat.lt_of_succ_lt h)

theorem gpostAt_zero (c : Dev nD) (t : Fin cfg0.N) (h0 : t.val = 0) :
    gpostAt m c t.val t.isLt = k0_pay11 (iblk m c 1 t) (iblk m c 0 t) k0_pay13 := by
  obtain ⟨n, hn⟩ := t
  dsimp only at h0; subst h0; rfl

theorem gpostAt_row (c : Dev nD) (t : Fin cfg0.N) (h0 : ¬ t.val = 0) (h1 : t.val % 4 = 0) :
    gpostAt m c t.val t.isLt = k0_pay11 (iblk m c 1 t) (iblk m c 0 t) (gpostAt m c (t.val - 1) (Nat.lt_of_le_of_lt (Nat.sub_le _ _) t.isLt)) := by
  obtain ⟨n, hn⟩ := t
  cases n with
  | zero => exact absurd rfl h0
  | succ n => dsimp only at h1 ⊢; rw [gpostAt, if_pos h1]; rfl

theorem gpostAt_later (c : Dev nD) (t : Fin cfg0.N) (h1 : ¬ t.val % 4 = 0) :
    gpostAt m c t.val t.isLt = gpostAt m c (t.val - 1) (Nat.lt_of_le_of_lt (Nat.sub_le _ _) t.isLt) := by
  obtain ⟨n, hn⟩ := t
  cases n with
  | zero => exact absurd rfl h1
  | succ n => dsimp only at h1 ⊢; rw [gpostAt, if_neg h1]; rfl

/-- The gradient of the input norm's weight, as a point leaves it. -/
def gpreAt (c : Dev nD) : (n : ℕ) → n < cfg0.N → Vec F S1x1024 .f32
  | 0, h => k0_pay14
  | n + 1, h => if (n + 1) % 4 = 3 then k0_pay5 (iblk m c 3 ⟨n + 1, h⟩) (daAt m c (n + 1) h) (gpreAt c n (Nat.lt_of_succ_lt h))
    else gpreAt c n (Nat.lt_of_succ_lt h)

theorem gpreAt_zero (c : Dev nD) (t : Fin cfg0.N) (h0 : t.val = 0) : gpreAt m c t.val t.isLt = k0_pay14 := by
  obtain ⟨n, hn⟩ := t
  dsimp only at h0; subst h0; rfl

theorem gpreAt_last (c : Dev nD) (t : Fin cfg0.N) (h1 : t.val % 4 = 3) :
    gpreAt m c t.val t.isLt = k0_pay5 (iblk m c 3 t) (daAt m c t.val t.isLt) (gpreAt m c (t.val - 1) (Nat.lt_of_le_of_lt (Nat.sub_le _ _) t.isLt)) := by
  obtain ⟨n, hn⟩ := t
  cases n with
  | zero => exact absurd (show (0 : ℕ) % 4 = 3 from h1) (by decide)
  | succ n => dsimp only at h1 ⊢; rw [gpreAt, if_pos h1]; rfl

theorem gpreAt_later (c : Dev nD) (t : Fin cfg0.N) (h0 : ¬ t.val = 0) (h1 : ¬ t.val % 4 = 3) :
    gpreAt m c t.val t.isLt = gpreAt m c (t.val - 1) (Nat.lt_of_le_of_lt (Nat.sub_le _ _) t.isLt) := by
  obtain ⟨n, hn⟩ := t
  cases n with
  | zero => exact absurd rfl h0
  | succ n => dsimp only at h1 ⊢; rw [gpreAt, if_neg h1]; rfl

/-- The buffer carried from point to point. -/
abbrev carried : Memref sig .tc .vmem S512x1024 .f32 := Memref.whole cc0_scratch0

theorem PhiA_eq (c : Dev nD) :
    (Pipeline.ΦA spec0 c : sProp 𝕄) = iprop((∃ d, owns (c : Thread nD τ) carried fullShare d) ∗ (∃ r, prngReg c r)) := by
  unfold Pipeline.ΦA; rw [scopedRest0_eq]; simp only [carried, owns_whole]; try rfl

/-- What holds before a point: the carried buffer has what the point before left in it. -/
def Phi (c : Dev nD) : (n : ℕ) → n ≤ cfg0.N → sProp 𝕄
  | 0, _ => Pipeline.ΦA spec0 c
  | n + 1, hn => iprop(owns (c : Thread nD τ) carried fullShare (daAt m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) carried fullShare (daAt m c n hn) ∗ (∃ r, prngReg c r)) := rfl

theorem Phi_pos (c : Dev nD) (n : ℕ) (h : n ≤ cfg0.N) (hz : n ≠ 0) :
    Phi m c n h = iprop(owns (c : Thread nD τ) carried fullShare (daAt m c (n - 1) (by omega)) ∗ (∃ r, prngReg c r)) := by
  cases n with
  | zero => exact absurd rfl hz
  | succ n => rfl

/-- What the run is over: the arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => pointG (iblk m c 5 t) (constant S1x512x768 .bf16 0x0000#16)
    | ⟨10, _⟩ => pointDu (dfAt m c t.val t.isLt) (iblk m c 6 t) (iblk m c 5 t) (constant S2x1x512x768 .bf16 0x0000#16)
    | ⟨11, _⟩ => dfAt m c t.val t.isLt
    | ⟨12, _⟩ => k0_pay4 (iblk m c 3 t) (iblk m c 4 t) (daAt m c t.val t.isLt) (iblk m c 0 t)
    | ⟨13, _⟩ => gpostAt m c t.val t.isLt
    | ⟨14, _⟩ => gpreAt m c t.val t.isLt
    | ⟨_ + 15, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = pointG (iblk m c 5 t) (constant S1x512x768 .bf16 0x0000#16) := by dsimp only [dats]
theorem after_10 (c : Dev nD) (t : Fin cfg0.N) : (dats m 0 c).after 10 t = pointDu (dfAt m c t.val t.isLt) (iblk m c 6 t) (iblk m c 5 t) (constant S2x1x512x768 .bf16 0x0000#16) := by dsimp only [dats]
theorem after_11 (c : Dev nD) (t : Fin cfg0.N) : (dats m 0 c).after 11 t = dfAt m c t.val t.isLt := by dsimp only [dats]
theorem after_12 (c : Dev nD) (t : Fin cfg0.N) : (dats m 0 c).after 12 t = k0_pay4 (iblk m c 3 t) (iblk m c 4 t) (daAt m c t.val t.isLt) (iblk m c 0 t) := by dsimp only [dats]
theorem after_13 (c : Dev nD) (t : Fin cfg0.N) : (dats m 0 c).after 13 t = gpostAt m c t.val t.isLt := by dsimp only [dats]
theorem after_14 (c : Dev nD) (t : Fin cfg0.N) : (dats m 0 c).after 14 t = gpreAt m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- A point finds in the gradient before the output norm what the point before left. -/
theorem before_11 (c : Dev nD) (t : Fin cfg0.N) (h0 : ¬ t.val % 4 = 0) (d) :
    (dats m 0 c).before 11 t d = dfAt m c (t.val - 1) (Nat.lt_of_le_of_lt (Nat.sub_le _ _) t.isLt) := by
  have hN : t.val < 32 := lt_of_lt_of_eq t.isLt (show cfg0.N = 32 from N_0)
  rw [Dat.before_out_traj (dats m 0 c) 11 rfl (fun _ _ => rfl) (fun t ht hi hf => by
      rw [after_11, after_11]; exact dfAt_later m c t (by simpa using (idle_11 t).symm.trans hi)) t.val t rfl d,
    fresh_11 t.val (Nat.le_of_lt t.isLt), if_neg (by simp only [decide_eq_true_eq]; omega), after_11]

/-- A point finds in the gradient of the output norm's weight what the point before left. -/
theorem before_13 (c : Dev nD) (t : Fin cfg0.N) (h0 : ¬ t.val = 0) (d) :
    (dats m 0 c).before 13 t d = gpostAt m c (t.val - 1) (Nat.lt_of_le_of_lt (Nat.sub_le _ _) t.isLt) := by
  have hN : t.val < 32 := lt_of_lt_of_eq t.isLt (show cfg0.N = 32 from N_0)
  rw [Dat.before_out_traj (dats m 0 c) 13 rfl (fun _ _ => rfl) (fun t ht hi hf => by
      rw [after_13, after_13]; exact gpostAt_later m c t (by simpa using (idle_13 t).symm.trans hi)) t.val t rfl d,
    fresh_13 t.val (Nat.le_of_lt t.isLt), if_neg (by simp only [decide_eq_true_eq]; omega), after_13]

/-- A point finds in the gradient of the input norm's weight what the point before left. -/
theorem before_14 (c : Dev nD) (t : Fin cfg0.N) (h0 : ¬ t.val = 0) (d) :
    (dats m 0 c).before 14 t d = gpreAt m c (t.val - 1) (Nat.lt_of_le_of_lt (Nat.sub_le _ _) t.isLt) := by
  have hN : t.val < 32 := lt_of_lt_of_eq t.isLt (show cfg0.N = 32 from N_0)
  rw [Dat.before_out_traj (dats m 0 c) 14 rfl (fun _ _ => rfl) (fun t ht hi hf => by
      rw [after_14, after_14]; exact gpreAt_later m c t ht (by have := (idle_14 t).symm.trans hi; simp only [Bool.not_eq_true', decide_eq_false_iff_not] at this; omega)) t.val t rfl d,
    fresh_14 t.val (Nat.le_of_lt t.isLt), if_neg (by simp only [decide_eq_true_eq]; omega), after_14]
abbrev stage_0 (t : Fin cfg0.N) : Memref sig .tc .vmem S512x1024 .f32 := win0_0.stage (cfg0.slots t 0)
abbrev stage_1 (t : Fin cfg0.N) : Memref sig .tc .vmem S512x1024 .f32 := win0_1.stage (cfg0.slots t 1)
abbrev stage_2 (t : Fin cfg0.N) : Memref sig .tc .vmem S1x1024 .f32 := win0_2.stage (cfg0.slots t 2)
abbrev stage_3 (t : Fin cfg0.N) : Memref sig .tc .vmem S512x1024 .f32 := win0_3.stage (cfg0.slots t 3)
abbrev stage_4 (t : Fin cfg0.N) : Memref sig .tc .vmem S1x1024 .f32 := win0_4.stage (cfg0.slots t 4)
abbrev stage_5 (t : Fin cfg0.N) : Memref sig .tc .vmem S2x1x512x768 .bf16 := win0_5.stage (cfg0.slots t 5)
abbrev stage_6 (t : Fin cfg0.N) : Memref sig .tc .vmem S1x768x1024 .bf16 := win0_6.stage (cfg0.slots t 6)
abbrev stage_7 (t : Fin cfg0.N) : Memref sig .tc .vmem S1x768x1024 .bf16 := win0_7.stage (cfg0.slots t 7)
abbrev stage_8 (t : Fin cfg0.N) : Memref sig .tc .vmem S1x768x1024 .bf16 := win0_8.stage (cfg0.slots t 8)
abbrev stage_9 (t : Fin cfg0.N) : Memref sig .tc .vmem S1x512x768 .bf16 := win0_9.stage (cfg0.slots t 9)
abbrev stage_10 (t : Fin cfg0.N) : Memref sig .tc .vmem S2x1x512x768 .bf16 := win0_10.stage (cfg0.slots t 10)
abbrev stage_11 (t : Fin cfg0.N) : Memref sig .tc .vmem S512x1024 .bf16 := win0_11.stage (cfg0.slots t 11)
abbrev stage_12 (t : Fin cfg0.N) : Memref sig .tc .vmem S512x1024 .f32 := win0_12.stage (cfg0.slots t 12)
abbrev stage_13 (t : Fin cfg0.N) : Memref sig .tc .vmem S1x1024 .f32 := win0_13.stage (cfg0.slots t 13)
abbrev stage_14 (t : Fin cfg0.N) : Memref sig .tc .vmem S1x1024 .f32 := win0_14.stage (cfg0.slots t 14)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d))
    ∗ (∃ d, owns (c : Thread nD τ) (stage_8 t) fullShare ((dats m 0 c).before 8 t d))
    ∗ (∃ d, owns (c : Thread nD τ) (stage_9 t) fullShare ((dats m 0 c).before 9 t d))
    ∗ (∃ d, owns (c : Thread nD τ) (stage_10 t) fullShare ((dats m 0 c).before 10 t d))
    ∗ (∃ d, owns (c : Thread nD τ) (stage_11 t) fullShare ((dats m 0 c).before 11 t d))
    ∗ (∃ d, owns (c : Thread nD τ) (stage_12 t) fullShare ((dats m 0 c).before 12 t d))
    ∗ (∃ d, owns (c : Thread nD τ) (stage_13 t) fullShare ((dats m 0 c).before 13 t d))
    ∗ (∃ d, owns (c : Thread nD τ) (stage_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ owns (c : Thread nD τ) (stage_4 t) fullShare ((dats m 0 c).after 4 t)
    ∗ owns (c : Thread nD τ) (stage_5 t) fullShare ((dats m 0 c).after 5 t)
    ∗ owns (c : Thread nD τ) (stage_6 t) fullShare ((dats m 0 c).after 6 t)
    ∗ owns (c : Thread nD τ) (stage_7 t) fullShare ((dats m 0 c).after 7 t)
    ∗ owns (c : Thread nD τ) (stage_8 t) fullShare ((dats m 0 c).after 8 t)
    ∗ owns (c : Thread nD τ) (stage_9 t) fullShare ((dats m 0 c).after 9 t)
    ∗ owns (c : Thread nD τ) (stage_10 t) fullShare ((dats m 0 c).after 10 t)
    ∗ (dats m 0 c).leavesExact 11 t
    ∗ (dats m 0 c).leavesExact 12 t
    ∗ (dats m 0 c).leavesExact 13 t
    ∗ (dats m 0 c).leavesExact 14 t)

theorem leaves_11_live (c : Dev nD) (t : Fin cfg0.N) (h : cfg0.idle 11 (cfg0.grid.coords t) = false ∨ (cfg0.win 11).flush t = true) :
    (dats m 0 c).leavesExact 11 t = owns (c : Thread nD τ) (stage_11 t) fullShare ((dats m 0 c).after 11 t) := by
  unfold Dat.leavesExact
  rcases h with h | h
  · rw [h]
  · rw [h]; split <;> rfl

theorem leaves_11_idle (c : Dev nD) (t : Fin cfg0.N) (hi : cfg0.idle 11 (cfg0.grid.coords t) = true) (hf : (cfg0.win 11).flush t = false) :
    (dats m 0 c).leavesExact 11 t = iprop(∃ d, owns (c : Thread nD τ) (stage_11 t) fullShare ((dats m 0 c).before 11 t d)) :=
  Dat.leavesExact_idle (dats m 0 c) 11 t hi hf

theorem leaves_12_live (c : Dev nD) (t : Fin cfg0.N) (h : cfg0.idle 12 (cfg0.grid.coords t) = false ∨ (cfg0.win 12).flush t = true) :
    (dats m 0 c).leavesExact 12 t = owns (c : Thread nD τ) (stage_12 t) fullShare ((dats m 0 c).after 12 t) := by
  unfold Dat.leavesExact
  rcases h with h | h
  · rw [h]
  · rw [h]; split <;> rfl

theorem leaves_12_idle (c : Dev nD) (t : Fin cfg0.N) (hi : cfg0.idle 12 (cfg0.grid.coords t) = true) (hf : (cfg0.win 12).flush t = false) :
    (dats m 0 c).leavesExact 12 t = iprop(∃ d, owns (c : Thread nD τ) (stage_12 t) fullShare ((dats m 0 c).before 12 t d)) :=
  Dat.leavesExact_idle (dats m 0 c) 12 t hi hf

theorem leaves_13_live (c : Dev nD) (t : Fin cfg0.N) (h : cfg0.idle 13 (cfg0.grid.coords t) = false ∨ (cfg0.win 13).flush t = true) :
    (dats m 0 c).leavesExact 13 t = owns (c : Thread nD τ) (stage_13 t) fullShare ((dats m 0 c).after 13 t) := by
  unfold Dat.leavesExact
  rcases h with h | h
  · rw [h]
  · rw [h]; split <;> rfl

theorem leaves_13_idle (c : Dev nD) (t : Fin cfg0.N) (hi : cfg0.idle 13 (cfg0.grid.coords t) = true) (hf : (cfg0.win 13).flush t = false) :
    (dats m 0 c).leavesExact 13 t = iprop(∃ d, owns (c : Thread nD τ) (stage_13 t) fullShare ((dats m 0 c).before 13 t d)) :=
  Dat.leavesExact_idle (dats m 0 c) 13 t hi hf

theorem leaves_14_live (c : Dev nD) (t : Fin cfg0.N) (h : cfg0.idle 14 (cfg0.grid.coords t) = false ∨ (cfg0.win 14).flush t = true) :
    (dats m 0 c).leavesExact 14 t = owns (c : Thread nD τ) (stage_14 t) fullShare ((dats m 0 c).after 14 t) := by
  unfold Dat.leavesExact
  rcases h with h | h
  · rw [h]
  · rw [h]; split <;> rfl

theorem leaves_14_idle (c : Dev nD) (t : Fin cfg0.N) (hi : cfg0.idle 14 (cfg0.grid.coords t) = true) (hf : (cfg0.win 14).flush t = false) :
    (dats m 0 c).leavesExact 14 t = iprop(∃ d, owns (c : Thread nD τ) (stage_14 t) fullShare ((dats m 0 c).before 14 t d)) :=
  Dat.leavesExact_idle (dats m 0 c) 14 t hi hf

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before_0, before_1, before_2, before_3, before_4, before_5, before_6, before_7, before_8]
  rw [show (dats m 0 c).Φ t.succ = Phi m c (t.val + 1) t.isLt from rfl, Phi_succ, Phi_castSucc m c t,
    show (dats m 0 c).owesAt () t.succ = (dats m 0 c).owesAt () t.castSucc from rfl,
    after_0, after_1, after_2, after_3, after_4, after_5, after_6, after_7, after_8, after_9, after_10]
  by_cases h0 : t.val % 4 = 0
  · have hc2 := (cond2_iff t).mpr h0
    have hc3 : ¬ k0_cond3 (grid0.coords t) = 1#1 := fun h => by have := (cond3_iff t).mp h; omega
    by_cases hz : t.val = 0
    · have hc1 := (cond1_iff t).mpr hz
      rw [leaves_11_live m c t (.inl (by rw [idle_11]; simp only [Bool.not_eq_false', decide_eq_true_eq]; omega)), leaves_12_idle m c t (by rw [idle_12]; simp only [Bool.not_eq_true', decide_eq_false_iff_not]; omega) (by rw [flush_12]; simp only [decide_eq_false_iff_not]; omega), leaves_13_live m c t (.inl (by rw [idle_13]; simp only [Bool.not_eq_false', decide_eq_true_eq]; omega)), leaves_14_live m c t (.inl (by rw [idle_14]; simp only [Bool.not_eq_false', decide_eq_true_eq]; omega)),
        after_11, after_13, after_14, Phi_zero m c _ _ hz, PhiA_eq, daAt_first m c t h0, gpostAt_zero m c t hz, gpreAt_zero m c t hz]
      unfold daStep
      rw [dfAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_first c (grid0.coords t) _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t)  (constant S1x512x768 .bf16 0x0000#16) (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H13]; · iexists _; iexact H13
      isplitl [H14]; · iexists _; iexact H14
      isplitl [HS]; · iexact HS
      iintro ⟨H0, H1, H2, H3, H4, H5, H6, H7, H8, H9, H10, H11, H13, H14, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists d12; iexact H12
      isplitl [H13]; · iexact H13
      iexact H14
    · have hc1 : ¬ k0_cond1 (grid0.coords t) = 1#1 := fun h => hz ((cond1_iff t).mp h)
      rw [leaves_11_live m c t (.inl (by rw [idle_11]; simp only [Bool.not_eq_false', decide_eq_true_eq]; omega)), leaves_12_idle m c t (by rw [idle_12]; simp only [Bool.not_eq_true', decide_eq_false_iff_not]; omega) (by rw [flush_12]; simp only [decide_eq_false_iff_not]; omega), leaves_13_live m c t (.inl (by rw [idle_13]; simp only [Bool.not_eq_false', decide_eq_true_eq]; omega)), leaves_14_idle m c t (by rw [idle_14]; simp only [Bool.not_eq_true', decide_eq_false_iff_not]; omega) (by rw [flush_14]; simp only [decide_eq_false_iff_not]; omega),
        after_11, after_13, Phi_pos m c _ _ hz, daAt_first m c t h0, gpostAt_row m c t hz h0]
      simp only [before_13 m c t hz]
      unfold daStep
      rw [dfAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_row c (grid0.coords t) _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) _ (constant S1x512x768 .bf16 0x0000#16) (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H13]; · iexact H13
      isplitl [HS]; · iexists _; iexact HS
      iintro ⟨H0, H1, H2, H3, H4, H5, H6, H7, H8, H9, H10, H11, H13, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists d12; iexact H12
      isplitl [H13]; · iexact H13
      iexists d14; iexact H14
  · have hz : ¬ t.val = 0 := fun h => h0 (by omega)
    have hc1 : ¬ k0_cond1 (grid0.coords t) = 1#1 := fun h => hz ((cond1_iff t).mp h)
    have hc2 : ¬ k0_cond2 (grid0.coords t) = 1#1 := fun h => h0 ((cond2_iff t).mp h)
    by_cases h3 : t.val % 4 = 3
    · have hc3 := (cond3_iff t).mpr h3
      by_cases he : t.val % 32 = 31
      · rw [leaves_11_live m c t (.inr (by rw [flush_11]; simp only [decide_eq_true_eq]; omega)), leaves_12_live m c t (.inl (by rw [idle_12]; simp only [Bool.not_eq_false', decide_eq_true_eq]; omega)), leaves_13_live m c t (.inr (by rw [flush_13]; simp only [decide_eq_true_eq]; omega)), leaves_14_live m c t (.inl (by rw [idle_14]; simp only [Bool.not_eq_false', decide_eq_true_eq]; omega)),
          after_11, after_12, after_13, gpostAt_later m c t h0, after_14, gpreAt_last m c t h3, Phi_pos m c _ _ hz, daAt_later m c t h0]
        simp only [before_11 m c t h0, before_13 m c t hz, before_14 m c t hz]
        unfold daStep
        rw [dfAt_later m c t h0]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (run_last c (grid0.coords t) _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) _ _ _ (constant S1x512x768 .bf16 0x0000#16) (constant S2x1x512x768 .bf16 0x0000#16) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        isplitl [H12]; · iexists _; iexact H12
        isplitl [H14]; · iexact H14
        isplitl [HS]; · iexact HS
        iintro ⟨H0, H1, H2, H3, H4, H5, H6, H7, H8, H9, H10, H11, H12, H14, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · rw [leaves_11_live m c t (.inr (by rw [flush_11]; simp only [decide_eq_true_eq]; omega)), leaves_12_live m c t (.inl (by rw [idle_12]; simp only [Bool.not_eq_false', decide_eq_true_eq]; omega)), leaves_13_idle m c t (by rw [idle_13]; simp only [Bool.not_eq_true', decide_eq_false_iff_not]; omega) (by rw [flush_13]; simp only [decide_eq_false_iff_not]; omega), leaves_14_live m c t (.inl (by rw [idle_14]; simp only [Bool.not_eq_false', decide_eq_true_eq]; omega)),
          after_11, after_12, after_14, gpreAt_last m c t h3, Phi_pos m c _ _ hz, daAt_later m c t h0]
        simp only [before_11 m c t h0, before_13 m c t hz, before_14 m c t hz]
        unfold daStep
        rw [dfAt_later m c t h0]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (run_last c (grid0.coords t) _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) _ _ _ (constant S1x512x768 .bf16 0x0000#16) (constant S2x1x512x768 .bf16 0x0000#16) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        isplitl [H12]; · iexists _; iexact H12
        isplitl [H14]; · iexact H14
        isplitl [HS]; · iexact HS
        iintro ⟨H0, H1, H2, H3, H4, H5, H6, H7, H8, H9, H10, H11, H12, H14, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists d13; iexact H13
        iexact H14
    · have hc3 : ¬ k0_cond3 (grid0.coords t) = 1#1 := fun h => h3 ((cond3_iff t).mp h)
      rw [leaves_11_idle m c t (by rw [idle_11]; simp only [Bool.not_eq_true', decide_eq_false_iff_not]; omega) (by rw [flush_11]; simp only [decide_eq_false_iff_not]; omega), leaves_12_idle m c t (by rw [idle_12]; simp only [Bool.not_eq_true', decide_eq_false_iff_not]; omega) (by rw [flush_12]; simp only [decide_eq_false_iff_not]; omega), leaves_13_idle m c t (by rw [idle_13]; simp only [Bool.not_eq_true', decide_eq_false_iff_not]; omega) (by rw [flush_13]; simp only [decide_eq_false_iff_not]; omega), leaves_14_idle m c t (by rw [idle_14]; simp only [Bool.not_eq_true', decide_eq_false_iff_not]; omega) (by rw [flush_14]; simp only [decide_eq_false_iff_not]; omega),
        Phi_pos m c _ _ hz, daAt_later m c t h0]
      simp only [before_11 m c t h0]
      unfold daStep
      rw [dfAt_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_mid c (grid0.coords t) _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) _ _ (constant S1x512x768 .bf16 0x0000#16) (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS]; · iexact HS
      iintro ⟨H0, H1, H2, H3, H4, H5, H6, H7, H8, H9, H10, H11, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists d11; iexact H11
      isplitl [H12]; · iexists d12; iexact H12
      isplitl [H13]; · iexists d13; iexact H13
      iexists d14; iexact H14

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = Phi m c cfg0.N (Nat.le_refl _) from rfl, Phi_pos m c _ _ (by omega), PhiA_eq]
  iintro ⟨HS, Hg⟩
  isplitl [HS]
  · iexists _; iexact HS
  iexact Hg

set_option backward.isDefEq.respectTransparency.types false in
/-- The run of the program, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the program: every array of the pipeline ends at what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  frame_of m ρ (dats m) (A_eq m) (run_main m ρ)

/-- The frame: the program runs to the end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelFfnBwdIdeal.Ffn
end
-- ==== Proof.FfnMath.lean ====
module

public import Idealize.ShloMosaic.PureOps.Ideal
public import Idealize.ShloMosaic.PureOps.Ideal.Laws

@[expose] public section

noncomputable section

namespace Cert.Ffn

open Idealize.ShloMosaic

/-! ## Numbers -/

theorem word_1024 : Ideal.ofBits .f32 1149239296#32 = ((1024 : ℝ) : EReal) := by
  simp [Ideal.ofBits, Ideal.ieee, -EReal.coe_mul]; norm_num
theorem word_half : Ideal.ofBits .f32 1056964608#32 = ((1 / 2 : ℝ) : EReal) := by
  simp [Ideal.ofBits, Ideal.ieee, -EReal.coe_mul]; norm_num
theorem word_neg_half : Ideal.ofBits .f32 3204448256#32 = ((-(1 / 2) : ℝ) : EReal) := by
  simp [Ideal.ofBits, Ideal.ieee, -EReal.coe_mul]; norm_num

/-- The small number a normalization adds to the mean square. -/
def eps : ℝ := (1 + 407485 / 8388608) * 2 ^ (-20 : ℤ)
theorem eps_pos : 0 < eps := by unfold eps; positivity
theorem word_eps : Ideal.ofBits .f32 897988541#32 = ((eps : ℝ) : EReal) := by
  simp [Ideal.ofBits, Ideal.ieee, eps, -EReal.coe_mul]; norm_num

theorem sum_coe {ι : Type} (u : Finset ι) (f : ι → ℝ) : (∑ i ∈ u, (f i : EReal)) = ((∑ i ∈ u, f i : ℝ) : EReal) := by
  classical
  induction u using Finset.induction_on with
  | empty => rfl
  | insert a u h ih => rw [Finset.sum_insert h, Finset.sum_insert h, ih, EReal.coe_add]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-! ## A row's normalization and its pullback -/

section
variable (x y : Fin 1024 → ℝ)

/-- The mean square of a row, and the small number. -/
def ms : ℝ := (∑ j, x j * x j) / 1024 + eps
/-- The reciprocal root of it. -/
def rs : ℝ := (Real.sqrt (ms x))⁻¹

theorem ms_pos : 0 < ms x :=
  add_pos_of_nonneg_of_pos (div_nonneg (Finset.sum_nonneg fun j _ => mul_self_nonneg _) (by norm_num)) eps_pos

theorem ms_coe : Ideal.div (∑ j, (x j : EReal) * (x j : EReal)) (Ideal.ofBits .f32 1149239296#32) + Ideal.ofBits .f32 897988541#32 = ((ms x : ℝ) : EReal) := by
  simp only [word_1024, word_eps, ← EReal.coe_mul, sum_coe]
  rw [div_coe _ _ (by norm_num), ← EReal.coe_add]; rfl

theorem rsqrt_ms : Ideal.rsqrt ((ms x : ℝ) : EReal) = ((rs x : ℝ) : EReal) := by
  rw [Ideal.rsqrt_coe, if_neg (not_lt.mpr (ms_pos x).le), if_neg (ms_pos x).ne']; rfl

theorem rs_coe : Ideal.rsqrt (Ideal.div (∑ j, (x j : EReal) * (x j : EReal)) (Ideal.ofBits .f32 1149239296#32) + Ideal.ofBits .f32 897988541#32)
    = ((rs x : ℝ) : EReal) := by
  rw [ms_coe, rsqrt_ms]

theorem rs_sq : rs x * rs x * ms x = 1 := by
  have h := ms_pos x
  rw [rs, ← mul_inv, Real.mul_self_sqrt h.le, inv_mul_cancel₀ h.ne']

/-- The gradient of a row through its normalization, `y` being the gradient of the normalized row. -/
def rmsb (j : Fin 1024) : ℝ := rs x * (y j - x j * rs x * ((∑ k, y k * (x k * rs x)) / 1024))

/-- What the derivative of the mean square and of the reciprocal root multiply to. -/
def rmsc : ℝ := (∑ k, x k * y k) * (-(1 / 2) * (rs x / ms x)) / 1024

/-- The gradient of a row, from the derivative of each step of the normalization. -/
theorem rmsb_eq (j : Fin 1024) : y j * rs x + x j * rmsc x y + rmsc x y * x j = rmsb x y j := by
  have h := ms_pos x
  have e : ∑ k, y k * (x k * rs x) = (∑ k, x k * y k) * rs x := by
    rw [Finset.sum_mul]; exact Finset.sum_congr rfl fun k _ => by ring
  have e2 : rs x / ms x = rs x * (rs x * rs x) := by
    rw [div_eq_iff h.ne', mul_assoc, rs_sq, mul_one]
  rw [rmsb, rmsc, e, e2]; ring
end

/-! ## The gated unit -/

/-- The logistic function. -/
def sg (z : ℝ) : ℝ := 1 / (1 + Real.exp (-z))
/-- A hidden unit. -/
def act (g u : ℝ) : ℝ := g * sg g * u
/-- The gradient of its gate, `d` being that of the unit. -/
def dgate (g u d : ℝ) : ℝ := d * u * (sg g + g * sg g * (1 - sg g))
/-- The gradient of its other factor. -/
def dup (g d : ℝ) : ℝ := d * (g * sg g)

theorem den_ne (z : ℝ) : 1 + Real.exp (-z) ≠ 0 := (add_pos one_pos (Real.exp_pos _)).ne'

theorem sg_coe (z : ℝ) : Ideal.div 1 (1 + Ideal.exp (0 - (z : EReal))) = ((sg z : ℝ) : EReal) := by
  rw [zero_sub, ← EReal.coe_neg, Ideal.exp_coe, ← EReal.coe_one, ← EReal.coe_add, div_coe _ _ (den_ne z)]; rfl

theorem sg_coe' (z : ℝ) : Ideal.div 1 (1 + Ideal.exp (-(z : EReal))) = ((sg z : ℝ) : EReal) := by
  rw [← EReal.coe_neg, Ideal.exp_coe, ← EReal.coe_one, ← EReal.coe_add, div_coe _ _ (den_ne z)]; rfl

/-! ## The layer's backward pass over the real numbers -/

/-- The layer's arguments. -/
structure Args where
  /-- the gradient of the layer's result, -/
  dho : Fin 4096 → Fin 1024 → ℝ
  /-- the weight of the normalization after it, -/
  post : Fin 1024 → ℝ
  /-- its input, -/
  h : Fin 4096 → Fin 1024 → ℝ
  /-- the weight of the normalization before it, -/
  pre : Fin 1024 → ℝ
  /-- and the layer's two weights. -/
  w1 : Fin 1024 → Fin 5632 → ℝ
  w2 : Fin 2816 → Fin 1024 → ℝ

namespace Args
variable (R : Args)

def a (i : Fin 4096) (j : Fin 1024) : ℝ := R.h i j * rs (R.h i) * R.pre j
def u (i : Fin 4096) (n : Fin 5632) : ℝ := ∑ j, R.a i j * R.w1 j n
def gate (i : Fin 4096) (n : Fin 2816) : ℝ := R.u i ⟨n.val, by omega⟩
def up (i : Fin 4096) (n : Fin 2816) : ℝ := R.u i ⟨2816 + n.val, by omega⟩
def hid (i : Fin 4096) (n : Fin 2816) : ℝ := act (R.gate i n) (R.up i n)
def f (i : Fin 4096) (j : Fin 1024) : ℝ := ∑ n, R.hid i n * R.w2 n j
def y (i : Fin 4096) (j : Fin 1024) : ℝ := 1 / 2 * R.dho i j * R.post j
def df (i : Fin 4096) (j : Fin 1024) : ℝ := rmsb (R.f i) (R.y i) j
def dg (i : Fin 4096) (n : Fin 2816) : ℝ := ∑ j, R.df i j * R.w2 n j
def dug (i : Fin 4096) (n : Fin 2816) : ℝ := dgate (R.gate i n) (R.up i n) (R.dg i n)
def duu (i : Fin 4096) (n : Fin 2816) : ℝ := dup (R.gate i n) (R.dg i n)
def du (i : Fin 4096) (n : Fin 5632) : ℝ := if h : n.val < 2816 then R.dug i ⟨n.val, h⟩ else R.duu i ⟨n.val - 2816, by omega⟩
def da (i : Fin 4096) (j : Fin 1024) : ℝ := ∑ n, R.du i n * R.w1 j n
def dh (i : Fin 4096) (j : Fin 1024) : ℝ := R.dho i j + rmsb (R.h i) (fun k => R.da i k * R.pre k) j
def gpost (j : Fin 1024) : ℝ := ∑ i, 1 / 2 * R.dho i j * (R.f i j * rs (R.f i))
def gpre (j : Fin 1024) : ℝ := ∑ i, R.da i j * (R.h i j * rs (R.h i))

/-- The two halves of the hidden gradient multiply the two halves of the weight. -/
theorem da_halves (i : Fin 4096) (j : Fin 1024) :
    R.da i j = (∑ n : Fin 2816, R.dug i n * R.w1 j ⟨n.val, by omega⟩) + ∑ n : Fin 2816, R.duu i n * R.w1 j ⟨2816 + n.val, by omega⟩ := by
  rw [da, Fin.sum_univ_add (a := 2816) (b := 2816)]
  refine congrArg₂ (· + ·) (Finset.sum_congr rfl fun n _ => ?_) (Finset.sum_congr rfl fun n _ => ?_)
  · rw [du, dif_pos (show (Fin.castAdd 2816 n).val < 2816 from n.isLt)]; rfl
  · rw [du, dif_neg (show ¬(Fin.natAdd 2816 n).val < 2816 by simp)]
    refine congrArg₂ (· * ·) (congrArg (R.duu i) (Fin.ext ?_)) rfl
    simp

end Args

/-! ## The padded columns: blocks of 352, each padded to 384, two to a chunk -/

/-- The column that lane `e` of chunk `k` holds, for a lane that holds one. -/
abbrev lane (k : Fin 4) (e : Fin 768) (h : e.val % 384 < 352) : Fin 2816 := ⟨(k.val * 2 + e.val / 384) * 352 + e.val % 384, by omega⟩

/-- Summing over the chunks' lanes that hold a column is summing over the columns. -/
theorem sum_lanes {M : Type} [AddCommMonoid M] (g : Fin 2816 → M) : ∑ k : Fin 4, ∑ e : Fin 768, (if h : e.val % 384 < 352 then g (lane k e h) else 0) = ∑ n, g n := by
  rw [← Finset.sum_product', ← Finset.sum_filter_add_sum_filter_not _ (fun p : Fin 4 × Fin 768 => p.2.val % 384 < 352),
    Finset.sum_eq_zero (s := Finset.filter _ _) (f := fun p : Fin 4 × Fin 768 => if h : p.2.val % 384 < 352 then g (lane p.1 p.2 h) else (0 : M))
      (fun p hp => dif_neg (Finset.mem_filter.mp hp).2), add_zero]
  refine Finset.sum_bij' (fun p hp => lane p.1 p.2 (Finset.mem_filter.mp hp).2)
    (fun n _ => ((⟨n.val / 704, by omega⟩, ⟨(n.val / 352 % 2) * 384 + n.val % 352, by omega⟩) : Fin 4 × Fin 768)) ?_ ?_ ?_ ?_ ?_
  · intro p hp; exact Finset.mem_univ _
  · intro n _
    refine Finset.mem_filter.mpr ⟨Finset.mem_product.mpr ⟨Finset.mem_univ _, Finset.mem_univ _⟩, ?_⟩
    show ((n.val / 352 % 2) * 384 + n.val % 352) % 384 < 352
    omega
  · intro p hp
    have h := (Finset.mem_filter.mp hp).2
    refine Prod.ext (Fin.ext ?_) (Fin.ext ?_)
    · show ((p.1.val * 2 + p.2.val / 384) * 352 + p.2.val % 384) / 704 = p.1.val
      omega
    · show (((p.1.val * 2 + p.2.val / 384) * 352 + p.2.val % 384) / 352 % 2) * 384 + ((p.1.val * 2 + p.2.val / 384) * 352 + p.2.val % 384) % 352 = p.2.val
      omega
  · intro n _
    refine Fin.ext ?_
    show ((n.val / 704) * 2 + ((n.val / 352 % 2) * 384 + n.val % 352) / 384) * 352 + ((n.val / 352 % 2) * 384 + n.val % 352) % 384 = n.val
    omega
  · intro p hp
    exact dif_pos (Finset.mem_filter.mp hp).2

end Cert.Ffn
end
-- ==== Proof.FfnRef.lean ====
module

public import proofs.«01_k».proof.Defs
public import proofs.«01_k».proof.Proof.FfnMath
public import proofs.«01_k».proof.Proof.Gen.ReferenceFfnBwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceFfnBwdIdeal.Ffn

open Cert.ReferenceFfnBwdIdeal Cert.ReferenceFfnBwdIdeal.Gen Cert.ReferenceFfnBwdIdeal.Read Cert.Ffn

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2.2.2.2, sem_eq_zero_of_no_sems (by decide) r.2⟩) (Value.run (F := Ideal) m ρ)

/-! ## What each step of the reference computes from real arguments -/

variable (A0 A2 : FVec Ideal S4096x1024 .f32) (A1 A3 : FVec Ideal S1x1024 .f32) (A4 : FVec Ideal S1024x5632 .f32) (A5 : FVec Ideal S2816x1024 .f32)

/-- The arguments are these real numbers. -/
structure Are (R : Args) : Prop where
  dho : ∀ i j, (A0 (ix2 i j) : EReal) = ((R.dho i j : ℝ) : EReal)
  post : ∀ j, (A1 (ix2 0 j) : EReal) = ((R.post j : ℝ) : EReal)
  h : ∀ i j, (A2 (ix2 i j) : EReal) = ((R.h i j : ℝ) : EReal)
  pre : ∀ j, (A3 (ix2 0 j) : EReal) = ((R.pre j : ℝ) : EReal)
  w1 : ∀ j n, (A4 (ix2 j n) : EReal) = ((R.w1 j n : ℝ) : EReal)
  w2 : ∀ n j, (A5 (ix2 n j) : EReal) = ((R.w2 n j : ℝ) : EReal)

variable {A0 A1 A2 A3 A4 A5} {R : Args} (H : Are A0 A2 A1 A3 A4 A5 R)

include H

theorem ref_v6 (i : Fin 4096) : (val_main_v6 (F := Ideal) A2 (ix2 i 0) : EReal) = ((ms (R.h i) : ℝ) : EReal) := by
  pointwise [val_main_v6, val_main_v5, val_main_v4, val_main_v3, val_main_v2, val_main_v1, val_main_v0, val_main_cst, val_main_cst_0, val_main_cst_1]
  simp only [H.h]
  exact ms_coe _

theorem ref_v7 (i : Fin 4096) : (val_main_v7 (F := Ideal) A2 (ix2 i 0) : EReal) = ((rs (R.h i) : ℝ) : EReal) := by
  pointwise [val_main_v7]
  rw [ref_v6 H]
  exact rsqrt_ms _

theorem ref_v12 (i : Fin 4096) (j : Fin 1024) : (val_main_v12 (F := Ideal) A2 (ix2 i j) : EReal) = ((R.h i j * rs (R.h i) : ℝ) : EReal) := by
  pointwise [val_main_v12, val_main_v11]
  rw [ref_v7 H, H.h, ← EReal.coe_mul]

theorem ref_v14 (i : Fin 4096) (j : Fin 1024) : (val_main_v14 (F := Ideal) A2 A3 (ix2 i j) : EReal) = ((R.a i j : ℝ) : EReal) := by
  pointwise [val_main_v14, val_main_v13]
  rw [ref_v12 H, H.pre, ← EReal.coe_mul]; rfl

theorem ref_v15 (i : Fin 4096) (n : Fin 5632) : (val_main_v15 (F := Ideal) A2 A3 A4 (ix2 i n) : EReal) = ((R.u i n : ℝ) : EReal) := by
  pointwise [val_main_v15]
  simp only [ref_v14 H, H.w1, ← EReal.coe_mul, sum_coe]; rfl

theorem ref_v16 (i : Fin 4096) (n : Fin 2816) : (val_main_v16 (F := Ideal) A2 A3 A4 (ix2 i n) : EReal) = ((R.gate i n : ℝ) : EReal) := by
  pointwise [val_main_v16]
  exact ref_v15 H i _

theorem ref_v17 (i : Fin 4096) (n : Fin 2816) : (val_main_v17 (F := Ideal) A2 A3 A4 (ix2 i n) : EReal) = ((R.up i n : ℝ) : EReal) := by
  pointwise [val_main_v17]
  exact ref_v15 H i _

theorem ref_sg (i : Fin 4096) (n : Fin 2816) : (val_main_v18_2 (F := Ideal) A2 A3 A4 (ix2 i n) : EReal) = ((sg (R.gate i n) : ℝ) : EReal) := by
  pointwise [val_main_v18_2, val_main_call0_v0, val_main_call0_v1, val_main_call0_v2, val_main_call0_v3, val_main_call0_v4, val_main_call0_cst, val_main_call0_cst_0]
  rw [ref_v16 H]
  exact sg_coe' _

theorem ref_dsg (i : Fin 4096) (n : Fin 2816) :
    (val_main_v18_1 (F := Ideal) A2 A3 A4 (ix2 i n) : EReal) = ((sg (R.gate i n) * (1 - sg (R.gate i n)) : ℝ) : EReal) := by
  pointwise [val_main_v18_1, val_main_call0_v6, val_main_call0_v7, val_main_call0_cst_1]
  rw [ref_sg H, ← EReal.coe_one, ← EReal.coe_sub, ← EReal.coe_mul]

theorem ref_silu (i : Fin 4096) (n : Fin 2816) :
    (val_main_v18_0 (F := Ideal) A2 A3 A4 (ix2 i n) : EReal) = ((R.gate i n * sg (R.gate i n) : ℝ) : EReal) := by
  pointwise [val_main_v18_0]
  rw [ref_sg H, ref_v16 H, ← EReal.coe_mul]

theorem ref_v19 (i : Fin 4096) (n : Fin 2816) : (val_main_v19 (F := Ideal) A2 A3 A4 (ix2 i n) : EReal) = ((R.hid i n : ℝ) : EReal) := by
  pointwise [val_main_v19]
  rw [ref_silu H, ref_v17 H, ← EReal.coe_mul]; rfl

theorem ref_v20 (i : Fin 4096) (j : Fin 1024) : (val_main_v20 (F := Ideal) A2 A3 A4 A5 (ix2 i j) : EReal) = ((R.f i j : ℝ) : EReal) := by
  pointwise [val_main_v20]
  simp only [ref_v19 H, H.w2, ← EReal.coe_mul, sum_coe]; rfl

theorem ref_v27 (i : Fin 4096) : (val_main_v27 (F := Ideal) A2 A3 A4 A5 (ix2 i 0) : EReal) = ((ms (R.f i) : ℝ) : EReal) := by
  pointwise [val_main_v27, val_main_v26, val_main_v25, val_main_v24, val_main_v23, val_main_v22, val_main_v21, val_main_cst_3, val_main_cst_4, val_main_cst_5]
  simp only [ref_v20 H]
  exact ms_coe _

theorem ref_v28 (i : Fin 4096) : (val_main_v28 (F := Ideal) A2 A3 A4 A5 (ix2 i 0) : EReal) = ((rs (R.f i) : ℝ) : EReal) := by
  pointwise [val_main_v28]
  rw [ref_v27 H]
  exact rsqrt_ms _

theorem ref_v31 (i : Fin 4096) : (val_main_v31 (F := Ideal) A2 A3 A4 A5 (ix2 i 0) : EReal) = ((-(1 / 2) * (rs (R.f i) / ms (R.f i)) : ℝ) : EReal) := by
  pointwise [val_main_v31, val_main_v30, val_main_v29, val_main_cst_6]
  rw [ref_v28 H, ref_v27 H, div_coe _ _ (ms_pos _).ne', word_neg_half, ← EReal.coe_mul]

theorem ref_v33 (i : Fin 4096) (j : Fin 1024) : (val_main_v33 (F := Ideal) A2 A3 A4 A5 (ix2 i j) : EReal) = ((R.f i j * rs (R.f i) : ℝ) : EReal) := by
  pointwise [val_main_v33, val_main_v32]
  rw [ref_v28 H, ref_v20 H, ← EReal.coe_mul]

theorem ref_v39 (i : Fin 4096) (j : Fin 1024) : (val_main_v39 (F := Ideal) A0 (ix2 i j) : EReal) = ((1 / 2 * R.dho i j : ℝ) : EReal) := by
  pointwise [val_main_v39, val_main_v38, val_main_cst_8]
  rw [word_half, H.dho, ← EReal.coe_mul]

/-- The gradient of the second normalization's weight. -/
theorem ref_gpost (j : Fin 1024) : (val_main_v42 (F := Ideal) A0 A2 A3 A4 A5 (ix2 0 j) : EReal) = ((R.gpost j : ℝ) : EReal) := by
  pointwise [val_main_v42, val_main_v41, val_main_v40, val_main_cst_9]
  simp only [ref_v33 H, ref_v39 H, ← EReal.coe_mul, sum_coe]
  exact congrArg _ (Finset.sum_congr rfl fun i _ => by ring)

theorem ref_v44 (i : Fin 4096) (j : Fin 1024) : (val_main_v44 (F := Ideal) A0 A1 (ix2 i j) : EReal) = ((R.y i j : ℝ) : EReal) := by
  pointwise [val_main_v44, val_main_v43]
  rw [ref_v39 H, H.post, ← EReal.coe_mul]; rfl

theorem ref_v46 (i : Fin 4096) : (val_main_v46 (F := Ideal) A0 A1 A2 A3 A4 A5 (ix1 i) : EReal) = ((∑ k, R.f i k * R.y i k : ℝ) : EReal) := by
  pointwise [val_main_v46, val_main_v45, val_main_cst_10]
  simp only [ref_v20 H, ref_v44 H, ← EReal.coe_mul, sum_coe]

theorem ref_v52 (i : Fin 4096) : (val_main_v52 (F := Ideal) A0 A1 A2 A3 A4 A5 (ix2 i 0) : EReal) = ((rmsc (R.f i) (R.y i) : ℝ) : EReal) := by
  pointwise [val_main_v52, val_main_v51, val_main_v50, val_main_v47, val_main_cst_11]
  rw [ref_v46 H, ref_v31 H, word_1024, ← EReal.coe_mul, div_coe _ _ (by norm_num)]; rfl

theorem ref_v54 (i : Fin 4096) (j : Fin 1024) : (val_main_v54 (F := Ideal) A0 A1 A2 A3 A4 A5 (ix2 i j) : EReal) = ((rmsc (R.f i) (R.y i) : ℝ) : EReal) := by
  pointwise [val_main_v54, val_main_v53, val_main_cst_12]
  rw [Fin.sum_univ_one]
  exact ref_v52 H i

/-- The gradient of the second product. -/
theorem ref_df (i : Fin 4096) (j : Fin 1024) : (val_main_v58 (F := Ideal) A0 A1 A2 A3 A4 A5 (ix2 i j) : EReal) = ((R.df i j : ℝ) : EReal) := by
  pointwise [val_main_v58, val_main_v57, val_main_v56, val_main_v55, val_main_v49, val_main_v48]
  rw [ref_v54 H, ref_v44 H, ref_v28 H, ref_v20 H]
  simp only [← EReal.coe_mul, ← EReal.coe_add]
  exact congrArg _ (rmsb_eq _ _ _)

theorem ref_v59 (i : Fin 4096) (n : Fin 2816) : (val_main_v59 (F := Ideal) A0 A1 A2 A3 A4 A5 (ix2 i n) : EReal) = ((R.dg i n : ℝ) : EReal) := by
  pointwise [val_main_v59]
  simp only [ref_df H, H.w2, ← EReal.coe_mul, sum_coe]; rfl

theorem ref_v60 (i : Fin 4096) (n : Fin 2816) : (val_main_v60 (F := Ideal) A0 A1 A2 A3 A4 A5 (ix2 i n) : EReal) = ((R.duu i n : ℝ) : EReal) := by
  pointwise [val_main_v60]
  rw [ref_silu H, ref_v59 H, ← EReal.coe_mul]
  exact congrArg _ (mul_comm _ _)

theorem ref_v61 (i : Fin 4096) (n : Fin 2816) : (val_main_v61 (F := Ideal) A0 A1 A2 A3 A4 A5 (ix2 i n) : EReal) = ((R.dg i n * R.up i n : ℝ) : EReal) := by
  pointwise [val_main_v61]
  rw [ref_v17 H, ref_v59 H, ← EReal.coe_mul]

theorem ref_v62 (i : Fin 4096) (n : Fin 2816) : (val_main_v62 (F := Ideal) A0 A1 A2 A3 A4 A5 (ix2 i n) : EReal) = ((R.dug i n : ℝ) : EReal) := by
  pointwise [val_main_v62, val_main_call1_v0, val_main_call1_v1, val_main_call1_v2]
  rw [ref_v61 H, ref_sg H, ref_dsg H, ref_v16 H]
  simp only [← EReal.coe_mul, ← EReal.coe_add]
  refine congrArg _ ?_
  rw [Args.dug, dgate]; ring

/-- The gradient of the first product. -/
theorem ref_du (i : Fin 4096) (n : Fin 5632) : (val_main_v63 (F := Ideal) A0 A1 A2 A3 A4 A5 (ix2 i n) : EReal) = ((R.du i n : ℝ) : EReal) := by
  pointwise [val_main_v63]
  rw [Args.du]
  split
  · exact ref_v62 H i _
  · exact ref_v60 H i _

theorem ref_v64 (i : Fin 4096) (j : Fin 1024) : (val_main_v64 (F := Ideal) A0 A1 A2 A3 A4 A5 (ix2 i j) : EReal) = ((R.da i j : ℝ) : EReal) := by
  pointwise [val_main_v64]
  simp only [ref_du H, H.w1, ← EReal.coe_mul, sum_coe]; rfl

/-- The gradient of the first normalization's weight. -/
theorem ref_gpre (j : Fin 1024) : (val_main_v67 (F := Ideal) A0 A1 A2 A3 A4 A5 (ix2 0 j) : EReal) = ((R.gpre j : ℝ) : EReal) := by
  pointwise [val_main_v67, val_main_v66, val_main_v65, val_main_cst_13]
  simp only [ref_v12 H, ref_v64 H, ← EReal.coe_mul, sum_coe]
  exact congrArg _ (Finset.sum_congr rfl fun i _ => mul_comm _ _)

theorem ref_v69 (i : Fin 4096) (j : Fin 1024) : (val_main_v69 (F := Ideal) A0 A1 A2 A3 A4 A5 (ix2 i j) : EReal) = ((R.da i j * R.pre j : ℝ) : EReal) := by
  pointwise [val_main_v69, val_main_v68]
  rw [ref_v64 H, H.pre, ← EReal.coe_mul]

theorem ref_v71 (i : Fin 4096) : (val_main_v71 (F := Ideal) A0 A1 A2 A3 A4 A5 (ix1 i) : EReal) = ((∑ k, R.h i k * (R.da i k * R.pre k) : ℝ) : EReal) := by
  pointwise [val_main_v71, val_main_v70, val_main_cst_14]
  simp only [H.h, ref_v69 H, ← EReal.coe_mul, sum_coe]

theorem ref_v10 (i : Fin 4096) : (val_main_v10 (F := Ideal) A2 (ix2 i 0) : EReal) = ((-(1 / 2) * (rs (R.h i) / ms (R.h i)) : ℝ) : EReal) := by
  pointwise [val_main_v10, val_main_v9, val_main_v8, val_main_cst_2]
  rw [ref_v7 H, ref_v6 H, div_coe _ _ (ms_pos _).ne', word_neg_half, ← EReal.coe_mul]

theorem ref_v77 (i : Fin 4096) :
    (val_main_v77 (F := Ideal) A0 A1 A2 A3 A4 A5 (ix2 i 0) : EReal) = ((rmsc (R.h i) (fun k => R.da i k * R.pre k) : ℝ) : EReal) := by
  pointwise [val_main_v77, val_main_v76, val_main_v75, val_main_v72, val_main_cst_15]
  rw [ref_v71 H, ref_v10 H, word_1024, ← EReal.coe_mul, div_coe _ _ (by norm_num)]; rfl

theorem ref_v79 (i : Fin 4096) (j : Fin 1024) :
    (val_main_v79 (F := Ideal) A0 A1 A2 A3 A4 A5 (ix2 i j) : EReal) = ((rmsc (R.h i) (fun k => R.da i k * R.pre k) : ℝ) : EReal) := by
  pointwise [val_main_v79, val_main_v78, val_main_cst_16]
  rw [Fin.sum_univ_one]
  exact ref_v77 H i

/-- The gradient of the layer's input. -/
theorem ref_dh (i : Fin 4096) (j : Fin 1024) : (val_main_v96 (F := Ideal) A0 A1 A2 A3 A4 A5 (ix2 i j) : EReal) = ((R.dh i j : ℝ) : EReal) := by
  pointwise [val_main_v96, val_main_v83, val_main_v82, val_main_v81, val_main_v80, val_main_v74, val_main_v73]
  rw [ref_v79 H, ref_v69 H, ref_v7 H, H.h, H.dho]
  simp only [← EReal.coe_mul, ← EReal.coe_add]
  exact congrArg _ (congrArg (R.dho i j + ·) (rmsb_eq (R.h i) (fun k => R.da i k * R.pre k) j))

omit H in
theorem zero_word : (FloatOps.sitofp (F := Ideal) .f32 (0#32) : EReal) = 0 := by
  show (((0#32 : BitVec 32).toInt : ℝ) : EReal) = 0
  simp

/-- The hidden units, in the step's layout. -/
theorem ref_g (k : Fin 4) (i : Fin 4096) (e : Fin 768) :
    (val_main_v88 (F := Ideal) A2 A3 A4 (ix3 k i e) : EReal) = ((if h : e.val % 384 < 352 then R.hid i (lane k e h) else 0 : ℝ) : EReal) := by
  pointwise [val_main_v88, val_main_v87, val_main_v86, val_main_v85, val_main_v84, val_main_call2_v0, val_main_c]
  by_cases h : e.val % 384 < 352
  · rw [dif_pos h]
    exact (dif_pos ⟨by omega, h⟩).trans (ref_v19 H i (lane k e h))
  · rw [dif_neg h]
    exact (dif_neg fun h2 => h h2.2).trans (zero_word.trans EReal.coe_zero.symm)

/-- The column of the first product that lane `e` of chunk `k` of half `s` holds, for a lane that holds one. -/
abbrev pcol (s : Fin 2) (k : Fin 4) (e : Fin 768) (h : e.val % 384 < 352) : Fin 5632 := ⟨((s.val * 4 + k.val) * 2 + e.val / 384) * 352 + e.val % 384, by omega⟩

/-- The step's layout of a product of two halves: column blocks of 352, each padded to 384, two to a chunk, four chunks to a half. -/
def packed (X : FVec Ideal S4096x5632 .f32) : FVec Ideal S2x4x4096x768 .bf16 :=
  shapeCast S2x4x4096x768 (truncf .bf16 (transpose S8x4096x768 [1, 0, 2] (shapeCast S4096x8x768 (pad S4096x16x384 ![0, 0, 0] ![0, 0, 32] ![0, 0, 0]
    (shapeCast S4096x16x352 X shapeCasts_S4096x5632_S4096x16x352) (sitofp .f32 (constantI S_ 32 0#32)) pads_S4096x16x352_S4096x16x384_000_000_0320 h_S_)
    shapeCasts_S4096x16x384_S4096x8x768) transposes_S4096x8x768_S8x4096x768_1_0_2) bitsLt_bf16_f32) shapeCasts_S8x4096x768_S2x4x4096x768

omit H in
theorem packed_at (X : FVec Ideal S4096x5632 .f32) (x : Fin 4096 → Fin 5632 → ℝ) (hX : ∀ i n, (X (ix2 i n) : EReal) = ((x i n : ℝ) : EReal))
    (s : Fin 2) (k : Fin 4) (i : Fin 4096) (e : Fin 768) :
    (packed X (ix4 s k i e) : EReal) = ((if h : e.val % 384 < 352 then x i (pcol s k e h) else 0 : ℝ) : EReal) := by
  pointwise [packed]
  split
  · next h =>
    have hr : (if h : e.val % 384 < 352 then x i (pcol s k e h) else 0) = x i (pcol s k e h.2) := dif_pos h.2
    refine (hX i _).trans (Eq.trans (congrArg (fun n => ((x i n : ℝ) : EReal)) (Fin.ext ?_)) (congrArg (fun z : ℝ => (z : EReal)) hr.symm))
    show ((s.val * 4 + k.val) * 2 + e.val / 384) * 352 + e.val % 384 = ((s.val * 4 + k.val) * 2 + e.val / 384) * 352 + e.val % 384
    with_reducible rfl
  · next h =>
    rw [dif_neg fun h2 => h ⟨by omega, h2⟩]
    exact zero_word.trans EReal.coe_zero.symm

/-- The gradient of the first product, in the step's layout. -/
theorem ref_du_packed (s : Fin 2) (k : Fin 4) (i : Fin 4096) (e : Fin 768) :
    (val_main_v94 (F := Ideal) A0 A1 A2 A3 A4 A5 (ix4 s k i e) : EReal)
      = ((if h : e.val % 384 < 352 then R.du i (pcol s k e h) else 0 : ℝ) : EReal) := by
  have e0 : val_main_v94 (F := Ideal) A0 A1 A2 A3 A4 A5 = packed (val_main_v63 (F := Ideal) A0 A1 A2 A3 A4 A5) := rfl
  rw [e0]
  exact packed_at _ _ (ref_du H) s k i e

theorem ref_df_narrow (i : Fin 4096) (j : Fin 1024) : (val_main_v95 (F := Ideal) A0 A1 A2 A3 A4 A5 (ix2 i j) : EReal) = ((R.df i j : ℝ) : EReal) := by
  pointwise [val_main_v95]
  exact ref_df H i j

end Cert.ReferenceFfnBwdIdeal.Ffn
end
-- ==== Proof.FfnHost.lean ====
module

public import proofs.«01_k».proof.Proof.FfnBwdFrame
public import proofs.«01_k».proof.Proof.FfnRef
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfnBwdIdeal.Ffn

open Cert.KernelFfnBwdIdeal Cert.KernelFfnBwdIdeal.Gen Cert.Ffn
open Cert.ReferenceFfnBwdIdeal.Read Cert.ReferenceFfnBwdIdeal.Ffn

variable (m : (ℓ : Loc nD τ sig) → Buf (Elt Ideal) ℓ) (c : Dev nD)

/-- The layer's arguments: the gradient of its result, -/
abbrev a0 : FVec Ideal S4096x1024 .f32 := m ((c.tc : Thread nD τ).loc main_arg0)
/-- the weight of the second normalization, -/
abbrev a1 : FVec Ideal S1x1024 .f32 := m ((c.tc : Thread nD τ).loc main_arg1)
/-- the layer's input, -/
abbrev a2 : FVec Ideal S4096x1024 .f32 := m ((c.tc : Thread nD τ).loc main_arg2)
/-- the weight of the first normalization, -/
abbrev a3 : FVec Ideal S1x1024 .f32 := m ((c.tc : Thread nD τ).loc main_arg3)
/-- the first product's weight, -/
abbrev a4 : FVec Ideal S1024x5632 .f32 := m ((c.tc : Thread nD τ).loc main_arg4)
/-- and the second's. -/
abbrev a5 : FVec Ideal S2816x1024 .f32 := m ((c.tc : Thread nD τ).loc main_arg5)

/-- The second weight's rows in the step's layout: blocks of 352, each padded to 384, two to a chunk. -/
def packedW2 (w : FVec Ideal S2816x1024 .f32) : FVec Ideal S4x768x1024 .bf16 :=
  truncf .bf16 (shapeCast S4x768x1024 (pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_) shapeCasts_S8x384x1024_S4x768x1024) bitsLt_bf16_f32

/-- The first weight's columns, turned into rows, in the step's layout. -/
def packedW1 (w : FVec Ideal S1024x5632 .f32) : FVec Ideal S8x768x1024 .bf16 :=
  truncf .bf16 (shapeCast S8x768x1024 (pad S16x384x1024 ![0, 0, 0] ![0, 32, 0] ![0, 0, 0] (shapeCast S16x352x1024
    (transpose S5632x1024 [1, 0] w transposes_S1024x5632_S5632x1024_1_0) shapeCasts_S5632x1024_S16x352x1024)
    (sitofp .f32 (constantI S_ 32 0#32)) pads_S16x352x1024_S16x384x1024_000_0320_000 h_S_) shapeCasts_S16x384x1024_S8x768x1024) bitsLt_bf16_f32

set_option maxHeartbeats 1000000 in
theorem V_f : Gen.V m c main_v17 = val_main_v20 (F := Ideal) (a2 m c) (a3 m c) (a4 m c) (a5 m c) := by
  simp only [Gen.V, hostOps0, hostOps0_1, hostOps0_2, hostOps0_3, hostOps0_4, hostOps0_5, hostOps0_6, hostOps0_7, hostOps0_8, List.flatten_cons, List.flatten_nil, List.append_nil, List.cons_append, List.nil_append,
    TRef.nullary, TRef.binary, TRef.unary, TRef.toBuf, TRef.ofBuf, cast_eq]
  after_results_simp <;> rfl

set_option maxHeartbeats 1000000 in
theorem V_u : Gen.V m c main_v23 = packed (val_main_v15 (F := Ideal) (a2 m c) (a3 m c) (a4 m c)) := by
  simp only [Gen.V, hostOps0, hostOps0_1, hostOps0_2, hostOps0_3, hostOps0_4, hostOps0_5, hostOps0_6, hostOps0_7, hostOps0_8, List.flatten_cons, List.flatten_nil, List.append_nil, List.cons_append, List.nil_append,
    TRef.nullary, TRef.binary, TRef.unary, TRef.toBuf, TRef.ofBuf, cast_eq]
  after_results_simp <;> rfl

set_option maxHeartbeats 1000000 in
theorem V_w2 : Gen.V m c main_v27 = packedW2 (a5 m c) := by
  simp only [Gen.V, hostOps0, hostOps0_1, hostOps0_2, hostOps0_3, hostOps0_4, hostOps0_5, hostOps0_6, hostOps0_7, hostOps0_8, List.flatten_cons, List.flatten_nil, List.append_nil, List.cons_append, List.nil_append,
    TRef.nullary, TRef.binary, TRef.unary, TRef.toBuf, TRef.ofBuf, cast_eq]
  after_results_simp <;> rfl

set_option maxHeartbeats 1000000 in
theorem V_w1 : Gen.V m c main_v32 = packedW1 (a4 m c) := by
  simp only [Gen.V, hostOps0, hostOps0_1, hostOps0_2, hostOps0_3, hostOps0_4, hostOps0_5, hostOps0_6, hostOps0_7, hostOps0_8, List.flatten_cons, List.flatten_nil, List.append_nil, List.cons_append, List.nil_append,
    TRef.nullary, TRef.binary, TRef.unary, TRef.toBuf, TRef.ofBuf, cast_eq]
  after_results_simp <;> rfl

/-- The blocks of a point: row block `t / 4`, hidden chunk `t % 4`. -/
theorem idx : ∀ t : Fin cfg0.N, win0_0.index t = ![t.val / 4, 0] ∧ win0_1.index t = ![t.val / 4, 0] ∧ win0_2.index t = ![0, 0] ∧ win0_3.index t = ![t.val / 4, 0]
    ∧ win0_4.index t = ![0, 0] ∧ win0_5.index t = ![0, t.val % 4, t.val / 4, 0] ∧ win0_6.index t = ![t.val % 4, 0, 0] ∧ win0_7.index t = ![t.val % 4, 0, 0]
    ∧ win0_8.index t = ![4 + t.val % 4, 0, 0] ∧ win0_9.index t = ![t.val % 4, t.val / 4, 0] ∧ win0_10.index t = ![0, t.val % 4, t.val / 4, 0]
    ∧ win0_11.index t = ![t.val / 4, 0] ∧ win0_12.index t = ![t.val / 4, 0] ∧ win0_13.index t = ![0, 0] ∧ win0_14.index t = ![0, 0] := by
  decide +kernel

theorem point_lt (t : Fin cfg0.N) : t.val < 32 := t.isLt

/-- Row `r` of a point's row block. -/
abbrev row (t : Fin cfg0.N) (r : Fin 512) : Fin 4096 := ⟨t.val / 4 * 512 + r.val, by have := point_lt t; omega⟩
/-- The hidden chunk of a point. -/
abbrev chunk (t : Fin cfg0.N) : Fin 4 := ⟨t.val % 4, Nat.mod_lt _ (by decide)⟩

theorem packedW2_at (w : FVec Ideal S2816x1024 .f32) (x : Fin 2816 → Fin 1024 → ℝ) (hw : ∀ n j, (w (ix2 n j) : EReal) = ((x n j : ℝ) : EReal))
    (k : Fin 4) (e : Fin 768) (j : Fin 1024) :
    (packedW2 w (ix3 k e j) : EReal) = ((if h : e.val % 384 < 352 then x (lane k e h) j else 0 : ℝ) : EReal) := by
  pointwise [packedW2]
  split
  · next h =>
    have hr : (if h : e.val % 384 < 352 then x (lane k e h) j else 0) = x (lane k e h.2) j := dif_pos h.2
    refine (hw _ j).trans (Eq.trans (congrArg (fun n => ((x n j : ℝ) : EReal)) (Fin.ext ?_)) (congrArg (fun z : ℝ => (z : EReal)) hr.symm))
    show (k.val * 2 + e.val / 384) * 352 + e.val % 384 = (k.val * 2 + e.val / 384) * 352 + e.val % 384
    with_reducible rfl
  · next h =>
    rw [dif_neg fun h2 => h ⟨by omega, h2⟩]
    exact zero_word.trans EReal.coe_zero.symm

theorem packedW1_at (w : FVec Ideal S1024x5632 .f32) (x : Fin 1024 → Fin 5632 → ℝ) (hw : ∀ j n, (w (ix2 j n) : EReal) = ((x j n : ℝ) : EReal))
    (p : Fin 8) (s : Fin 2) (k : Fin 4) (hp : p.val = s.val * 4 + k.val) (e : Fin 768) (j : Fin 1024) :
    (packedW1 w (ix3 p e j) : EReal) = ((if h : e.val % 384 < 352 then x j (pcol s k e h) else 0 : ℝ) : EReal) := by
  pointwise [packedW1]
  split
  · next h =>
    have hr : (if h : e.val % 384 < 352 then x j (pcol s k e h) else 0) = x j (pcol s k e h.2) := dif_pos h.2
    refine (hw j _).trans (Eq.trans (congrArg (fun n => ((x j n : ℝ) : EReal)) (Fin.ext ?_)) (congrArg (fun z : ℝ => (z : EReal)) hr.symm))
    show (p.val * 2 + e.val / 384) * 352 + e.val % 384 = ((s.val * 4 + k.val) * 2 + e.val / 384) * 352 + e.val % 384
    rw [hp]
  · next h =>
    rw [dif_neg fun h2 => h ⟨by omega, h2⟩]
    exact zero_word.trans EReal.coe_zero.symm

/-! ## What a point's blocks hold -/

variable {m c} {R : Args} (H : Are (a0 m c) (a2 m c) (a1 m c) (a3 m c) (a4 m c) (a5 m c) R)

include H

theorem b0 (t : Fin cfg0.N) (r : Fin 512) (j : Fin 1024) : (iblk m c 0 t (ix2 r j) : EReal) = ((R.dho (row t r) j : ℝ) : EReal) := by
  have h : ∀ W : FVec Ideal S4096x1024 .f32, ((cfg0.win 0).blk t).view.read (Elt Ideal) W (ix2 r j) = W (ix2 (row t r) j) := fun W => by blk_ext [idx t]
  exact ((h (Gen.V m c main_arg0)).trans (congrFun (V_main_arg0 m c) _)).trans (H.dho _ _)

theorem b1 (t : Fin cfg0.N) (r : Fin 512) (j : Fin 1024) : (iblk m c 1 t (ix2 r j) : EReal) = ((R.f (row t r) j : ℝ) : EReal) := by
  have h : ∀ W : FVec Ideal S4096x1024 .f32, ((cfg0.win 1).blk t).view.read (Elt Ideal) W (ix2 r j) = W (ix2 (row t r) j) := fun W => by blk_ext [idx t]
  exact ((h (Gen.V m c main_v17)).trans (congrFun (V_f m c) _)).trans (ref_v20 H _ _)

theorem b2 (t : Fin cfg0.N) (j : Fin 1024) : (iblk m c 2 t (ix2 0 j) : EReal) = ((R.post j : ℝ) : EReal) := by
  have h : ∀ W : FVec Ideal S1x1024 .f32, ((cfg0.win 2).blk t).view.read (Elt Ideal) W (ix2 0 j) = W (ix2 0 j) := fun W => by blk_ext [idx t]
  exact ((h (Gen.V m c main_arg1)).trans (congrFun (V_main_arg1 m c) _)).trans (H.post _)

theorem b3 (t : Fin cfg0.N) (r : Fin 512) (j : Fin 1024) : (iblk m c 3 t (ix2 r j) : EReal) = ((R.h (row t r) j : ℝ) : EReal) := by
  have h : ∀ W : FVec Ideal S4096x1024 .f32, ((cfg0.win 3).blk t).view.read (Elt Ideal) W (ix2 r j) = W (ix2 (row t r) j) := fun W => by blk_ext [idx t]
  exact ((h (Gen.V m c main_arg2)).trans (congrFun (V_main_arg2 m c) _)).trans (H.h _ _)

theorem b4 (t : Fin cfg0.N) (j : Fin 1024) : (iblk m c 4 t (ix2 0 j) : EReal) = ((R.pre j : ℝ) : EReal) := by
  have h : ∀ W : FVec Ideal S1x1024 .f32, ((cfg0.win 4).blk t).view.read (Elt Ideal) W (ix2 0 j) = W (ix2 0 j) := fun W => by blk_ext [idx t]
  exact ((h (Gen.V m c main_arg3)).trans (congrFun (V_main_arg3 m c) _)).trans (H.pre _)

theorem b5 (t : Fin cfg0.N) (s : Fin 2) (r : Fin 512) (e : Fin 768) :
    (iblk m c 5 t (ix4 s 0 r e) : EReal) = ((if h : e.val % 384 < 352 then R.u (row t r) (pcol s (chunk t) e h) else 0 : ℝ) : EReal) := by
  have h : ∀ W : FVec Ideal S2x4x4096x768 .bf16, ((cfg0.win 5).blk t).view.read (Elt Ideal) W (ix4 s 0 r e) = W (ix4 s (chunk t) (row t r) e) := fun W => by blk_ext [idx t]
  exact ((h (Gen.V m c main_v23)).trans (congrFun (V_u m c) _)).trans (packed_at _ _ (ref_v15 H) _ _ _ _)

theorem b6 (t : Fin cfg0.N) (e : Fin 768) (j : Fin 1024) :
    (iblk m c 6 t (ix3 0 e j) : EReal) = ((if h : e.val % 384 < 352 then R.w2 (lane (chunk t) e h) j else 0 : ℝ) : EReal) := by
  have h : ∀ W : FVec Ideal S4x768x1024 .bf16, ((cfg0.win 6).blk t).view.read (Elt Ideal) W (ix3 0 e j) = W (ix3 (chunk t) e j) := fun W => by blk_ext [idx t]
  exact ((h (Gen.V m c main_v27)).trans (congrFun (V_w2 m c) _)).trans (packedW2_at _ _ H.w2 _ _ _)

theorem b7 (t : Fin cfg0.N) (e : Fin 768) (j : Fin 1024) :
    (iblk m c 7 t (ix3 0 e j) : EReal) = ((if h : e.val % 384 < 352 then R.w1 j (pcol 0 (chunk t) e h) else 0 : ℝ) : EReal) := by
  have h : ∀ W : FVec Ideal S8x768x1024 .bf16, ((cfg0.win 7).blk t).view.read (Elt Ideal) W (ix3 0 e j)
      = W (ix3 ⟨t.val % 4, by omega⟩ e j) := fun W => by blk_ext [idx t]
  exact ((h (Gen.V m c main_v32)).trans (congrFun (V_w1 m c) _)).trans (packedW1_at _ _ H.w1 _ 0 (chunk t) (by simp) _ _)

theorem b8 (t : Fin cfg0.N) (e : Fin 768) (j : Fin 1024) :
    (iblk m c 8 t (ix3 0 e j) : EReal) = ((if h : e.val % 384 < 352 then R.w1 j (pcol 1 (chunk t) e h) else 0 : ℝ) : EReal) := by
  have h : ∀ W : FVec Ideal S8x768x1024 .bf16, ((cfg0.win 8).blk t).view.read (Elt Ideal) W (ix3 0 e j)
      = W (ix3 ⟨4 + t.val % 4, by omega⟩ e j) := fun W => by blk_ext [idx t]
  exact ((h (Gen.V m c main_v32)).trans (congrFun (V_w1 m c) _)).trans (packedW1_at _ _ H.w1 _ 1 (chunk t) (by simp) _ _)

end Cert.KernelFfnBwdIdeal.Ffn
end
-- ==== Proof.FfnPoint.lean ====
module

public import proofs.«01_k».proof.Proof.FfnBwdRun
public import proofs.«01_k».proof.Proof.FfnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfnBwdIdeal.Ffn

open Cert.KernelFfnBwdIdeal Cert.KernelFfnBwdIdeal.Gen Cert.Ffn

/-! ## What a point computes for one of its rows -/

/-- A row's addition to the gradient of the normalized input: the hidden gradient times the two weights. -/
def addR (d : Fin 1024 → ℝ) (g u : Fin 768 → ℝ) (w wg wu : Fin 768 → Fin 1024 → ℝ) (j : Fin 1024) : ℝ :=
  (∑ e, dgate (g e) (u e) (∑ k, d k * w e k) * wg e j) + ∑ e, dup (g e) (∑ k, d k * w e k) * wu e j

section
variable {D : Vec Ideal S256x1024 .bf16} {W Wg Wu : Vec Ideal S1x768x1024 .bf16} {U V : Vec Ideal S1x1x256x768 .bf16} {S : Vec Ideal S256x1024 .f32}
  (r : Fin 256) (d : Fin 1024 → ℝ) (w wg wu : Fin 768 → Fin 1024 → ℝ) (g u : Fin 768 → ℝ)
  (hD : ∀ j, (D (ix2 r j) : EReal) = ((d j : ℝ) : EReal)) (hW : ∀ e j, (W (ix3 0 e j) : EReal) = ((w e j : ℝ) : EReal))
  (hU : ∀ e, (U (ix4 0 0 r e) : EReal) = ((g e : ℝ) : EReal)) (hV : ∀ e, (V (ix4 0 0 r e) : EReal) = ((u e : ℝ) : EReal))
  (hg : ∀ e j, (Wg (ix3 0 e j) : EReal) = ((wg e j : ℝ) : EReal)) (hu : ∀ e j, (Wu (ix3 0 e j) : EReal) = ((wu e j : ℝ) : EReal))

section
include hD hW
theorem dg_top (e : Fin 768) : (k0_pay16 (F := Ideal) D W (ix2 r e) : EReal) = ((∑ k, d k * w e k : ℝ) : EReal) := by
  pointwise [k0_pay16]
  simp only [hD, hW, ← EReal.coe_mul, sum_coe]
theorem dg_bot (e : Fin 768) : (k0_pay17 (F := Ideal) D W (ix2 r e) : EReal) = ((∑ k, d k * w e k : ℝ) : EReal) := by
  pointwise [k0_pay17]
  simp only [hD, hW, ← EReal.coe_mul, sum_coe]
end

section
include hU
theorem gate_top (e : Fin 768) : (k0_pay18 (F := Ideal) U (ix2 r e) : EReal) = ((g e : ℝ) : EReal) := by
  pointwise [k0_pay18]
  exact hU e
theorem sg_top (e : Fin 768) : (k0_pay21 (F := Ideal) (k0_pay20 U) (ix2 r e) : EReal) = ((sg (g e) : ℝ) : EReal) := by
  pointwise [k0_pay21, k0_pay20, k0_pay18]
  rw [hU]
  exact sg_coe _
theorem silu_top (e : Fin 768) : (k0_pay22 (F := Ideal) (k0_pay18 U) (k0_pay20 U) (ix2 r e) : EReal) = ((g e * sg (g e) : ℝ) : EReal) := by
  pointwise [k0_pay22]
  rw [gate_top r g hU, sg_top r g hU, ← EReal.coe_mul]
theorem gate_bot (e : Fin 768) : (k0_pay30 (F := Ideal) U (ix2 r e) : EReal) = ((g e : ℝ) : EReal) := by
  pointwise [k0_pay30]
  exact hU e
theorem sg_bot (e : Fin 768) : (k0_pay32 (F := Ideal) U (ix2 r e) : EReal) = ((sg (g e) : ℝ) : EReal) := by
  pointwise [k0_pay32, k0_pay30]
  rw [hU]
  exact sg_coe _
theorem silu_bot (e : Fin 768) : (k0_pay33 (F := Ideal) U (ix2 r e) : EReal) = ((g e * sg (g e) : ℝ) : EReal) := by
  pointwise [k0_pay33]
  rw [gate_bot r g hU, sg_bot r g hU, ← EReal.coe_mul]
end

section
include hV
theorem up_top (e : Fin 768) : (k0_pay19 (F := Ideal) V (ix2 r e) : EReal) = ((u e : ℝ) : EReal) := by
  pointwise [k0_pay19]
  exact hV e
theorem up_bot (e : Fin 768) : (k0_pay31 (F := Ideal) V (ix2 r e) : EReal) = ((u e : ℝ) : EReal) := by
  pointwise [k0_pay31]
  exact hV e
end

section
include hU hV
theorem act_top (e : Fin 768) : (k0_pay23 (F := Ideal) (k0_pay18 U) (k0_pay19 V) (k0_pay20 U) (ix3 0 r e) : EReal) = ((act (g e) (u e) : ℝ) : EReal) := by
  pointwise [k0_pay23]
  rw [silu_top r g hU, up_top r u hV, ← EReal.coe_mul]; rfl
theorem act_bot (e : Fin 768) : (k0_pay34 (F := Ideal) U V (ix3 0 r e) : EReal) = ((act (g e) (u e) : ℝ) : EReal) := by
  pointwise [k0_pay34]
  rw [silu_bot r g hU, up_bot r u hV, ← EReal.coe_mul]; rfl
end

section
include hD hW hU
theorem duu_top (e : Fin 768) : (k0_pay25 (F := Ideal) (k0_pay16 D W) (k0_pay18 U) (k0_pay20 U) (ix2 r e) : EReal) = ((dup (g e) (∑ k, d k * w e k) : ℝ) : EReal) := by
  pointwise [k0_pay25]
  rw [silu_top r g hU, dg_top r d w hD hW, ← EReal.coe_mul]; rfl
theorem duu_bot (e : Fin 768) : (k0_pay36 (F := Ideal) (k0_pay17 D W) U (ix2 r e) : EReal) = ((dup (g e) (∑ k, d k * w e k) : ℝ) : EReal) := by
  pointwise [k0_pay36]
  rw [silu_bot r g hU, dg_bot r d w hD hW, ← EReal.coe_mul]; rfl
theorem duu_top_out (e : Fin 768) : (k0_pay27 (F := Ideal) (k0_pay16 D W) (k0_pay18 U) (k0_pay20 U) (ix4 0 0 r e) : EReal) = ((dup (g e) (∑ k, d k * w e k) : ℝ) : EReal) := by
  pointwise [k0_pay27]
  exact duu_top r d w g hD hW hU e
theorem duu_bot_out (e : Fin 768) : (k0_pay38 (F := Ideal) (k0_pay17 D W) U (ix4 0 0 r e) : EReal) = ((dup (g e) (∑ k, d k * w e k) : ℝ) : EReal) := by
  pointwise [k0_pay38]
  exact duu_bot r d w g hD hW hU e
include hV
theorem dug_top (e : Fin 768) : (k0_pay24 (F := Ideal) (k0_pay16 D W) (k0_pay18 U) (k0_pay19 V) (k0_pay20 U) (ix2 r e) : EReal)
    = ((dgate (g e) (u e) (∑ k, d k * w e k) : ℝ) : EReal) := by
  pointwise [k0_pay24]
  rw [silu_top r g hU, sg_top r g hU, up_top r u hV, dg_top r d w hD hW, ← EReal.coe_one]
  simp only [← EReal.coe_mul, ← EReal.coe_add, ← EReal.coe_sub]; rfl
theorem dug_bot (e : Fin 768) : (k0_pay35 (F := Ideal) (k0_pay17 D W) U V (ix2 r e) : EReal) = ((dgate (g e) (u e) (∑ k, d k * w e k) : ℝ) : EReal) := by
  pointwise [k0_pay35]
  rw [silu_bot r g hU, sg_bot r g hU, up_bot r u hV, dg_bot r d w hD hW, ← EReal.coe_one]
  simp only [← EReal.coe_mul, ← EReal.coe_add, ← EReal.coe_sub]; rfl
theorem dug_top_out (e : Fin 768) : (k0_pay26 (F := Ideal) (k0_pay16 D W) (k0_pay18 U) (k0_pay19 V) (k0_pay20 U) (ix4 0 0 r e) : EReal)
    = ((dgate (g e) (u e) (∑ k, d k * w e k) : ℝ) : EReal) := by
  pointwise [k0_pay26]
  exact dug_top r d w g u hD hW hU hV e
theorem dug_bot_out (e : Fin 768) : (k0_pay37 (F := Ideal) (k0_pay17 D W) U V (ix4 0 0 r e) : EReal) = ((dgate (g e) (u e) (∑ k, d k * w e k) : ℝ) : EReal) := by
  pointwise [k0_pay37]
  exact dug_bot r d w g u hD hW hU hV e
include hg hu
theorem da_top (j : Fin 1024) (s : ℝ) (hS : (S (ix2 r j) : EReal) = ((s : ℝ) : EReal)) :
    (k0_pay29 (F := Ideal) (k0_pay28 (k0_pay16 D W) (k0_pay18 U) (k0_pay19 V) (k0_pay20 U) S Wg Wu) (ix2 r j) : EReal) = ((s + addR d g u w wg wu j : ℝ) : EReal) := by
  pointwise [k0_pay29, k0_pay28]
  simp only [dug_top r d w g u hD hW hU hV, duu_top r d w g hD hW hU, hg, hu, hS, ← EReal.coe_mul, sum_coe, ← EReal.coe_add]; rfl
theorem da_bot (j : Fin 1024) (s : ℝ) (hS : (S (ix2 r j) : EReal) = ((s : ℝ) : EReal)) :
    (k0_pay1 (F := Ideal) (k0_pay35 (k0_pay17 D W) U V) (k0_pay36 (k0_pay17 D W) U) S Wg Wu (ix2 r j) : EReal) = ((s + addR d g u w wg wu j : ℝ) : EReal) := by
  pointwise [k0_pay1]
  simp only [dug_bot r d w g u hD hW hU hV, duu_bot r d w g hD hW hU, hg, hu, hS, ← EReal.coe_mul, sum_coe, ← EReal.coe_add]; rfl
end
end

/-! ## A point's rows, whichever half they are in -/

section
variable {e : EltTy}
theorem put_top (S : Vec Ideal S512x1024 e) (w w' : Vec Ideal S256x1024 e) (r : Fin 512) (j : Fin 1024) (h : r.val < 256) :
    VecWindow.put (VecWindow.put S ![0, 0] S256x1024.size w) ![256, 0] S256x1024.size w' (ix2 r j) = w (ix2 ⟨r.val, h⟩ j) := by
  refine (dif_neg fun hh => ?_).trans ((dif_pos fun a => ?_).trans (congrArg w (funext fun a => ?_)))
  · have h0 : 256 ≤ r.val := (hh 0).1
    omega
  · match a with
    | 0 => exact ⟨Nat.zero_le _, by show r.val < 0 + 256; omega⟩
    | 1 => exact ⟨Nat.zero_le _, by show j.val < 0 + 1024; omega⟩
  · match a with
    | 0 => exact Fin.ext (show r.val - 0 = r.val from Nat.sub_zero _)
    | 1 => exact Fin.ext (show j.val - 0 = j.val from Nat.sub_zero _)

theorem put_bot (S : Vec Ideal S512x1024 e) (w w' : Vec Ideal S256x1024 e) (r : Fin 512) (j : Fin 1024) (h : ¬r.val < 256) :
    VecWindow.put (VecWindow.put S ![0, 0] S256x1024.size w) ![256, 0] S256x1024.size w' (ix2 r j) = w' (ix2 ⟨r.val - 256, by omega⟩ j) := by
  refine (dif_pos fun a => ?_).trans (congrArg w' (funext fun a => ?_))
  · match a with
    | 0 => exact ⟨by show 256 ≤ r.val; omega, by show r.val < 256 + 256; omega⟩
    | 1 => exact ⟨Nat.zero_le _, by show j.val < 0 + 1024; omega⟩
  · match a with
    | 0 => rfl
    | 1 => exact Fin.ext (show j.val - 0 = j.val from Nat.sub_zero _)

theorem top_at (X : Vec Ideal S512x1024 e) (r : Fin 512) (j : Fin 1024) (h : r.val < 256) : top X (ix2 ⟨r.val, h⟩ j) = X (ix2 r j) := by
  refine congrArg X (funext fun a => ?_)
  match a with
  | 0 => exact Fin.ext ((ValueKit.rect_emb_unit_val _ _ _ _ _).trans (show 0 + r.val = r.val by omega))
  | 1 => exact Fin.ext ((ValueKit.rect_emb_unit_val _ _ _ _ _).trans (show 0 + j.val = j.val by omega))

theorem bot_at (X : Vec Ideal S512x1024 e) (r : Fin 512) (j : Fin 1024) (h : ¬r.val < 256) : bot X (ix2 ⟨r.val - 256, by omega⟩ j) = X (ix2 r j) := by
  refine congrArg X (funext fun a => ?_)
  match a with
  | 0 => exact Fin.ext ((ValueKit.rect_emb_unit_val _ _ _ _ _).trans (show 256 + (r.val - 256) = r.val by omega))
  | 1 => exact Fin.ext ((ValueKit.rect_emb_unit_val _ _ _ _ _).trans (show 0 + j.val = j.val by omega))
end

section
variable (U : Vec Ideal S2x1x512x768 .bf16) (r : Fin 512) (x : Fin 768)
theorem gateTop_at (h : r.val < 256) : gateTop U (ix4 0 0 ⟨r.val, h⟩ x) = U (ix4 0 0 r x) := by
  refine congrArg U (funext fun a => ?_)
  match a with
  | 0 => rfl
  | 1 => rfl
  | 2 => exact Fin.ext ((ValueKit.rect_emb_unit_val _ _ _ _ _).trans (show 0 + r.val = r.val by omega))
  | 3 => exact Fin.ext ((ValueKit.rect_emb_unit_val _ _ _ _ _).trans (show 0 + x.val = x.val by omega))
theorem upTop_at (h : r.val < 256) : upTop U (ix4 0 0 ⟨r.val, h⟩ x) = U (ix4 1 0 r x) := by
  refine congrArg U (funext fun a => ?_)
  match a with
  | 0 => rfl
  | 1 => rfl
  | 2 => exact Fin.ext ((ValueKit.rect_emb_unit_val _ _ _ _ _).trans (show 0 + r.val = r.val by omega))
  | 3 => exact Fin.ext ((ValueKit.rect_emb_unit_val _ _ _ _ _).trans (show 0 + x.val = x.val by omega))
theorem gateBot_at (h : ¬r.val < 256) : gateBot U (ix4 0 0 ⟨r.val - 256, by omega⟩ x) = U (ix4 0 0 r x) := by
  refine congrArg U (funext fun a => ?_)
  match a with
  | 0 => rfl
  | 1 => rfl
  | 2 => exact Fin.ext ((ValueKit.rect_emb_unit_val _ _ _ _ _).trans (show 256 + (r.val - 256) = r.val by omega))
  | 3 => exact Fin.ext ((ValueKit.rect_emb_unit_val _ _ _ _ _).trans (show 0 + x.val = x.val by omega))
theorem upBot_at (h : ¬r.val < 256) : upBot U (ix4 0 0 ⟨r.val - 256, by omega⟩ x) = U (ix4 1 0 r x) := by
  refine congrArg U (funext fun a => ?_)
  match a with
  | 0 => rfl
  | 1 => rfl
  | 2 => exact Fin.ext ((ValueKit.rect_emb_unit_val _ _ _ _ _).trans (show 256 + (r.val - 256) = r.val by omega))
  | 3 => exact Fin.ext ((ValueKit.rect_emb_unit_val _ _ _ _ _).trans (show 0 + x.val = x.val by omega))
end

theorem put3_top (S : Vec Ideal S1x512x768 .bf16) (w w' : Vec Ideal S1x256x768 .bf16) (r : Fin 512) (x : Fin 768) (h : r.val < 256) :
    VecWindow.put (VecWindow.put S ![0, 0, 0] S1x256x768.size w) ![0, 256, 0] S1x256x768.size w' (ix3 0 r x) = w (ix3 0 ⟨r.val, h⟩ x) := by
  refine (dif_neg fun hh => ?_).trans ((dif_pos fun a => ?_).trans (congrArg w (funext fun a => ?_)))
  · have h0 : 256 ≤ r.val := (hh 1).1
    omega
  · match a with
    | 0 => exact ⟨Nat.zero_le _, by show 0 < 0 + 1; omega⟩
    | 1 => exact ⟨Nat.zero_le _, by show r.val < 0 + 256; omega⟩
    | 2 => exact ⟨Nat.zero_le _, by show x.val < 0 + 768; omega⟩
  · match a with
    | 0 => rfl
    | 1 => exact Fin.ext (show r.val - 0 = r.val from Nat.sub_zero _)
    | 2 => exact Fin.ext (show x.val - 0 = x.val from Nat.sub_zero _)

theorem put3_bot (S : Vec Ideal S1x512x768 .bf16) (w w' : Vec Ideal S1x256x768 .bf16) (r : Fin 512) (x : Fin 768) (h : ¬r.val < 256) :
    VecWindow.put (VecWindow.put S ![0, 0, 0] S1x256x768.size w) ![0, 256, 0] S1x256x768.size w' (ix3 0 r x) = w' (ix3 0 ⟨r.val - 256, by omega⟩ x) := by
  refine (dif_pos fun a => ?_).trans (congrArg w' (funext fun a => ?_))
  · match a with
    | 0 => exact ⟨Nat.zero_le _, by show 0 < 0 + 1; omega⟩
    | 1 => exact ⟨by show 256 ≤ r.val; omega, by show r.val < 256 + 256; omega⟩
    | 2 => exact ⟨Nat.zero_le _, by show x.val < 0 + 768; omega⟩
  · match a with
    | 0 => rfl
    | 1 => rfl
    | 2 => exact Fin.ext (show x.val - 0 = x.val from Nat.sub_zero _)

/-- Storing a quarter leaves it at its own rows. -/
theorem put4_hit (S : Vec Ideal S2x1x512x768 .bf16) (w : Vec Ideal S1x1x256x768 .bf16) (a b : ℕ) (s : Fin 2) (r : Fin 512) (x : Fin 768) (q : Fin 256)
    (hs : s.val = a) (hr : r.val = b + q.val) : VecWindow.put S ![a, 0, b, 0] S1x1x256x768.size w (ix4 s 0 r x) = w (ix4 0 0 q x) := by
  refine (dif_pos fun i => ?_).trans (congrArg w (funext fun i => ?_))
  · match i with
    | 0 => exact ⟨hs.ge, by show s.val < a + 1; omega⟩
    | 1 => exact ⟨Nat.zero_le _, by show 0 < 0 + 1; omega⟩
    | 2 => exact ⟨by show b ≤ r.val; omega, by show r.val < b + 256; omega⟩
    | 3 => exact ⟨Nat.zero_le _, by show x.val < 0 + 768; omega⟩
  · match i with
    | 0 => exact Fin.ext (show s.val - a = 0 by omega)
    | 1 => rfl
    | 2 => exact Fin.ext (show r.val - b = q.val by omega)
    | 3 => exact Fin.ext (show x.val - 0 = x.val from Nat.sub_zero _)

/-- And leaves the others as they were. -/
theorem put4_miss (S : Vec Ideal S2x1x512x768 .bf16) (w : Vec Ideal S1x1x256x768 .bf16) (a b : ℕ) (s : Fin 2) (r : Fin 512) (x : Fin 768)
    (h : s.val < a ∨ a + 1 ≤ s.val ∨ r.val < b ∨ b + 256 ≤ r.val) : VecWindow.put S ![a, 0, b, 0] S1x1x256x768.size w (ix4 s 0 r x) = S (ix4 s 0 r x) := by
  refine dif_neg fun hh => ?_
  have h0 : a ≤ s.val ∧ s.val < a + 1 := hh 0
  have h2 : b ≤ r.val ∧ r.val < b + 256 := hh 2
  omega

section
variable {D : Vec Ideal S512x1024 .bf16} {W Wg Wu : Vec Ideal S1x768x1024 .bf16} {U : Vec Ideal S2x1x512x768 .bf16} {S : Vec Ideal S512x1024 .f32}
  (r : Fin 512) (d : Fin 1024 → ℝ) (w wg wu : Fin 768 → Fin 1024 → ℝ) (g u : Fin 768 → ℝ)
  (hD : ∀ j, (D (ix2 r j) : EReal) = ((d j : ℝ) : EReal)) (hW : ∀ e j, (W (ix3 0 e j) : EReal) = ((w e j : ℝ) : EReal))
  (hU : ∀ e, (U (ix4 0 0 r e) : EReal) = ((g e : ℝ) : EReal)) (hV : ∀ e, (U (ix4 1 0 r e) : EReal) = ((u e : ℝ) : EReal))
  (hg : ∀ e j, (Wg (ix3 0 e j) : EReal) = ((wg e j : ℝ) : EReal)) (hu : ∀ e j, (Wu (ix3 0 e j) : EReal) = ((wu e j : ℝ) : EReal))

section
include hU hV
theorem pointG_at (z : Vec Ideal S1x512x768 .bf16) (e : Fin 768) : (pointG (F := Ideal) U z (ix3 0 r e) : EReal) = ((act (g e) (u e) : ℝ) : EReal) := by
  unfold pointG
  by_cases h : r.val < 256
  · exact (put3_top _ _ _ r e h).trans (act_top _ g u (fun e => (gateTop_at U r e h).trans (hU e)) (fun e => (upTop_at U r e h).trans (hV e)) e)
  · exact (put3_bot _ _ _ r e h).trans (act_bot _ g u (fun e => (gateBot_at U r e h).trans (hU e)) (fun e => (upBot_at U r e h).trans (hV e)) e)
end

section
include hD hW hU
theorem pointDu_up (z : Vec Ideal S2x1x512x768 .bf16) (e : Fin 768) :
    (pointDu (F := Ideal) D W U z (ix4 1 0 r e) : EReal) = ((dup (g e) (∑ k, d k * w e k) : ℝ) : EReal) := by
  unfold pointDu
  by_cases h : r.val < 256
  · refine (put4_miss _ _ 1 256 1 r e (by omega)).trans ((put4_miss _ _ 0 256 1 r e (by omega)).trans
      ((put4_hit _ _ 1 0 1 r e ⟨r.val, h⟩ rfl (Nat.zero_add _).symm).trans ?_))
    exact duu_top_out _ d w g (fun j => (top_at D r j h).trans (hD j)) hW (fun e => (gateTop_at U r e h).trans (hU e)) e
  · refine (put4_hit _ _ 1 256 1 r e ⟨r.val - 256, by omega⟩ rfl (by show r.val = 256 + (r.val - 256); omega)).trans ?_
    exact duu_bot_out _ d w g (fun j => (bot_at D r j h).trans (hD j)) hW (fun e => (gateBot_at U r e h).trans (hU e)) e
include hV
theorem pointDu_gate (z : Vec Ideal S2x1x512x768 .bf16) (e : Fin 768) :
    (pointDu (F := Ideal) D W U z (ix4 0 0 r e) : EReal) = ((dgate (g e) (u e) (∑ k, d k * w e k) : ℝ) : EReal) := by
  unfold pointDu
  by_cases h : r.val < 256
  · refine (put4_miss _ _ 1 256 0 r e (by omega)).trans ((put4_miss _ _ 0 256 0 r e (by omega)).trans
      ((put4_miss _ _ 1 0 0 r e (by simp)).trans ((put4_hit _ _ 0 0 0 r e ⟨r.val, h⟩ rfl (Nat.zero_add _).symm).trans ?_)))
    exact dug_top_out _ d w g u (fun j => (top_at D r j h).trans (hD j)) hW (fun e => (gateTop_at U r e h).trans (hU e)) (fun e => (upTop_at U r e h).trans (hV e)) e
  · refine (put4_miss _ _ 1 256 0 r e (by simp)).trans
      ((put4_hit _ _ 0 256 0 r e ⟨r.val - 256, by omega⟩ rfl (by show r.val = 256 + (r.val - 256); omega)).trans ?_)
    exact dug_bot_out _ d w g u (fun j => (bot_at D r j h).trans (hD j)) hW (fun e => (gateBot_at U r e h).trans (hU e)) (fun e => (upBot_at U r e h).trans (hV e)) e
include hg hu
theorem pointDa_at (j : Fin 1024) (s : ℝ) (hS : (S (ix2 r j) : EReal) = ((s : ℝ) : EReal)) :
    (pointDa (F := Ideal) D U W Wg Wu S (ix2 r j) : EReal) = ((s + addR d g u w wg wu j : ℝ) : EReal) := by
  unfold pointDa
  by_cases h : r.val < 256
  · exact (put_top _ _ _ r j h).trans (da_top _ d w wg wu g u (fun j => (top_at D r j h).trans (hD j)) hW (fun e => (gateTop_at U r e h).trans (hU e))
      (fun e => (upTop_at U r e h).trans (hV e)) hg hu j s ((top_at S r j h).trans hS))
  · exact (put_bot _ _ _ r j h).trans (da_bot _ d w wg wu g u (fun j => (bot_at D r j h).trans (hD j)) hW (fun e => (gateBot_at U r e h).trans (hU e))
      (fun e => (upBot_at U r e h).trans (hV e)) hg hu j s ((bot_at S r j h).trans hS))
end
end

/-! ## The two normalizations' pullbacks -/

theorem df_pay (f dho : Vec Ideal S512x1024 .f32) (post : Vec Ideal S1x1024 .f32) (r : Fin 512) (x z : Fin 1024 → ℝ) (p : Fin 1024 → ℝ)
    (hf : ∀ j, (f (ix2 r j) : EReal) = ((x j : ℝ) : EReal)) (hz : ∀ j, (dho (ix2 r j) : EReal) = ((z j : ℝ) : EReal))
    (hp : ∀ j, (post (ix2 0 j) : EReal) = ((p j : ℝ) : EReal)) (j : Fin 1024) :
    (k0_pay10 (F := Ideal) f post dho (ix2 r j) : EReal) = ((rmsb x (fun k => 1 / 2 * z k * p k) j : ℝ) : EReal) := by
  pointwise [k0_pay10, k0_pay9, k0_pay8, k0_pay7, k0_pay6]
  simp only [hf, hz, hp, rs_coe]
  simp only [word_half, ← EReal.coe_mul, sum_coe]
  rw [word_1024, div_coe _ _ (by norm_num), ← EReal.coe_mul, ← EReal.coe_sub, ← EReal.coe_mul]; rfl

theorem gpost_pay (f dho : Vec Ideal S512x1024 .f32) (G : Vec Ideal S1x1024 .f32) (x z : Fin 512 → Fin 1024 → ℝ)
    (hf : ∀ r j, (f (ix2 r j) : EReal) = ((x r j : ℝ) : EReal)) (hz : ∀ r j, (dho (ix2 r j) : EReal) = ((z r j : ℝ) : EReal))
    (j : Fin 1024) (s : ℝ) (hG : (G (ix2 0 j) : EReal) = ((s : ℝ) : EReal)) :
    (k0_pay11 (F := Ideal) f dho G (ix2 0 j) : EReal) = ((s + ∑ r, 1 / 2 * z r j * (x r j * rs (x r)) : ℝ) : EReal) := by
  pointwise [k0_pay11, k0_pay9, k0_pay8, k0_pay7, k0_pay6]
  simp only [hf, hz, hG, rs_coe]
  simp only [word_half, ← EReal.coe_mul, sum_coe, ← EReal.coe_add]

theorem dh_pay (h da dho : Vec Ideal S512x1024 .f32) (pre : Vec Ideal S1x1024 .f32) (r : Fin 512) (x a z : Fin 1024 → ℝ) (p : Fin 1024 → ℝ)
    (hf : ∀ j, (h (ix2 r j) : EReal) = ((x j : ℝ) : EReal)) (ha : ∀ j, (da (ix2 r j) : EReal) = ((a j : ℝ) : EReal))
    (hz : ∀ j, (dho (ix2 r j) : EReal) = ((z j : ℝ) : EReal))
    (hp : ∀ j, (pre (ix2 0 j) : EReal) = ((p j : ℝ) : EReal)) (j : Fin 1024) :
    (k0_pay4 (F := Ideal) h pre da dho (ix2 r j) : EReal) = ((z j + rmsb x (fun k => a k * p k) j : ℝ) : EReal) := by
  pointwise [k0_pay4, k0_pay3, k0_pay2]
  simp only [hf, ha, hz, hp, rs_coe]
  simp only [← EReal.coe_mul, sum_coe]
  rw [word_1024, div_coe _ _ (by norm_num), ← EReal.coe_mul, ← EReal.coe_sub, ← EReal.coe_mul, ← EReal.coe_add]; rfl

theorem gpre_pay (h da : Vec Ideal S512x1024 .f32) (G : Vec Ideal S1x1024 .f32) (x a : Fin 512 → Fin 1024 → ℝ)
    (hf : ∀ r j, (h (ix2 r j) : EReal) = ((x r j : ℝ) : EReal)) (ha : ∀ r j, (da (ix2 r j) : EReal) = ((a r j : ℝ) : EReal))
    (j : Fin 1024) (s : ℝ) (hG : (G (ix2 0 j) : EReal) = ((s : ℝ) : EReal)) :
    (k0_pay5 (F := Ideal) h da G (ix2 0 j) : EReal) = ((s + ∑ r, a r j * (x r j * rs (x r)) : ℝ) : EReal) := by
  pointwise [k0_pay5, k0_pay3, k0_pay2]
  simp only [hf, ha, hG, rs_coe]
  simp only [← EReal.coe_mul, sum_coe, ← EReal.coe_add]

theorem zero13 (j : Fin 1024) : (k0_pay13 (F := Ideal) (ix2 0 j) : EReal) = ((0 : ℝ) : EReal) := by
  pointwise [k0_pay13]
  exact EReal.coe_zero.symm
theorem zero14 (j : Fin 1024) : (k0_pay14 (F := Ideal) (ix2 0 j) : EReal) = ((0 : ℝ) : EReal) := by
  pointwise [k0_pay14]
  exact EReal.coe_zero.symm
theorem zero15 (r : Fin 512) (j : Fin 1024) : (k0_pay15 (F := Ideal) k0_pay12 (ix2 r j) : EReal) = ((0 : ℝ) : EReal) := by
  pointwise [k0_pay15, k0_pay12]
  exact EReal.coe_zero.symm

end Cert.KernelFfnBwdIdeal.Ffn
end
-- ==== Proof.FfnValue.lean ====
module

public import proofs.«01_k».proof.Proof.FfnBwdFrame
public import proofs.«01_k».proof.Proof.FfnHost
public import proofs.«01_k».proof.Proof.FfnPoint

@[expose] public section

set_option maxRecDepth 16384

noncomputable section

open Idealize.ShloMosaic Idealize.ShloMosaic.TcCoe Idealize.ShloMosaic.Tactic Idealize.ShloMosaic.StableHlo Idealize.SL.Sem

namespace Cert.KernelFfnBwdIdeal.Ffn

open Cert.KernelFfnBwdIdeal Cert.KernelFfnBwdIdeal.Gen Cert.Ffn Cert.ReferenceFfnBwdIdeal.Read Cert.ReferenceFfnBwdIdeal.Ffn

/-! ## The padded columns of a chunk, as real numbers -/

section
variable (R : Args) (k : Fin 4)

/-- The gates and the other halves of a row, the second weight and the first weight's two halves, at a chunk's lanes. -/
def pg (i : Fin 4096) (e : Fin 768) : ℝ := if h : e.val % 384 < 352 then R.u i (pcol 0 k e h) else 0
def pu (i : Fin 4096) (e : Fin 768) : ℝ := if h : e.val % 384 < 352 then R.u i (pcol 1 k e h) else 0
def pw (e : Fin 768) (j : Fin 1024) : ℝ := if h : e.val % 384 < 352 then R.w2 (lane k e h) j else 0
def pwg (e : Fin 768) (j : Fin 1024) : ℝ := if h : e.val % 384 < 352 then R.w1 j (pcol 0 k e h) else 0
def pwu (e : Fin 768) (j : Fin 1024) : ℝ := if h : e.val % 384 < 352 then R.w1 j (pcol 1 k e h) else 0

theorem pcol_gate (e : Fin 768) (h : e.val % 384 < 352) : pcol 0 k e h = ⟨(lane k e h).val, by omega⟩ :=
  Fin.ext (by show ((0 * 4 + k.val) * 2 + e.val / 384) * 352 + e.val % 384 = (k.val * 2 + e.val / 384) * 352 + e.val % 384; omega)
theorem pcol_up (e : Fin 768) (h : e.val % 384 < 352) : pcol 1 k e h = ⟨2816 + (lane k e h).val, by omega⟩ :=
  Fin.ext (by show ((1 * 4 + k.val) * 2 + e.val / 384) * 352 + e.val % 384 = 2816 + ((k.val * 2 + e.val / 384) * 352 + e.val % 384); omega)

theorem pg_pos (i : Fin 4096) (e : Fin 768) (h : e.val % 384 < 352) : pg R k i e = R.gate i (lane k e h) :=
  (dif_pos h).trans (congrArg (R.u i) (pcol_gate k e h))
theorem pu_pos (i : Fin 4096) (e : Fin 768) (h : e.val % 384 < 352) : pu R k i e = R.up i (lane k e h) :=
  (dif_pos h).trans (congrArg (R.u i) (pcol_up k e h))
theorem pw_pos (e : Fin 768) (j : Fin 1024) (h : e.val % 384 < 352) : pw R k e j = R.w2 (lane k e h) j := dif_pos h

theorem pdg (i : Fin 4096) (e : Fin 768) : (∑ j, R.df i j * pw R k e j) = if h : e.val % 384 < 352 then R.dg i (lane k e h) else 0 := by
  split
  · next h => exact Finset.sum_congr rfl fun j _ => by rw [pw_pos R k e j h]
  · next h => exact Finset.sum_eq_zero fun j _ => by rw [pw, dif_neg h, mul_zero]

theorem pact (i : Fin 4096) (e : Fin 768) : act (pg R k i e) (pu R k i e) = if h : e.val % 384 < 352 then R.hid i (lane k e h) else 0 := by
  split
  · next h => rw [pg_pos R k i e h, pu_pos R k i e h]; rfl
  · next h => rw [pg, dif_neg h, act, zero_mul, zero_mul]

theorem pdug (i : Fin 4096) (e : Fin 768) : dgate (pg R k i e) (pu R k i e) (∑ j, R.df i j * pw R k e j)
    = if h : e.val % 384 < 352 then R.dug i (lane k e h) else 0 := by
  rw [pdg]
  split
  · next h => rw [pg_pos R k i e h, pu_pos R k i e h]; rfl
  · next h => rw [dgate, zero_mul, zero_mul]

theorem pduu (i : Fin 4096) (e : Fin 768) : dup (pg R k i e) (∑ j, R.df i j * pw R k e j)
    = if h : e.val % 384 < 352 then R.duu i (lane k e h) else 0 := by
  rw [pdg]
  split
  · next h => rw [pg_pos R k i e h]; rfl
  · next h => rw [dup, zero_mul]

/-- What a chunk adds to a row of the gradient of the normalized input. -/
def term (i : Fin 4096) (j : Fin 1024) : ℝ := addR (R.df i) (pg R k i) (pu R k i) (pw R k) (pwg R k) (pwu R k) j

theorem term_eq (i : Fin 4096) (j : Fin 1024) : term R k i j
    = (∑ e : Fin 768, if h : e.val % 384 < 352 then R.dug i (lane k e h) * R.w1 j ⟨(lane k e h).val, by omega⟩ else 0)
      + ∑ e : Fin 768, if h : e.val % 384 < 352 then R.duu i (lane k e h) * R.w1 j ⟨2816 + (lane k e h).val, by omega⟩ else 0 := by
  refine congrArg₂ (· + ·) (Finset.sum_congr rfl fun e _ => ?_) (Finset.sum_congr rfl fun e _ => ?_)
  · rw [pdug]
    split
    · next h => exact congrArg (_ * ·) ((dif_pos h).trans (congrArg (R.w1 j) (pcol_gate k e h)))
    · next h => exact zero_mul _
  · rw [pduu]
    split
    · next h => exact congrArg (_ * ·) ((dif_pos h).trans (congrArg (R.w1 j) (pcol_up k e h)))
    · next h => exact zero_mul _

omit k in
/-- The four chunks' additions make up the gradient of the normalized input. -/
theorem sum_term (i : Fin 4096) (j : Fin 1024) : ∑ k, term R k i j = R.da i j := by
  rw [Args.da_halves, Finset.sum_congr rfl fun k _ => term_eq R k i j, Finset.sum_add_distrib,
    sum_lanes (fun n => R.dug i n * R.w1 j ⟨n.val, by omega⟩), sum_lanes (fun n => R.duu i n * R.w1 j ⟨2816 + n.val, by omega⟩)]

/-- The same for a chunk counted from the start of the row block. -/
def termN (n : ℕ) (i : Fin 4096) (j : Fin 1024) : ℝ := term R ⟨n % 4, Nat.mod_lt _ (by decide)⟩ i j

omit k in
theorem sum_termN (i : Fin 4096) (j : Fin 1024) : ∑ n ∈ Finset.range 4, termN R n i j = R.da i j := by
  rw [← sum_term R i j, Finset.sum_range]
  exact Finset.sum_congr rfl fun k _ => congrArg (fun q => term R q i j) (Fin.ext (Nat.mod_eq_of_lt k.isLt))

end

/-- Row `r` of row block `b`. -/
def rowN (b : ℕ) (r : Fin 512) : Fin 4096 := ⟨b % 8 * 512 + r.val, by omega⟩

/-- Summing over the eight row blocks is summing over the rows. -/
theorem sum_rows (g : Fin 4096 → ℝ) : ∑ b ∈ Finset.range 8, ∑ r, g (rowN b r) = ∑ i, g i := by
  rw [Finset.sum_range, ← Finset.sum_product']
  refine Finset.sum_bij' (fun p _ => rowN p.1.val p.2) (fun i _ => ((⟨i.val / 512, by omega⟩, ⟨i.val % 512, by omega⟩) : Fin 8 × Fin 512)) ?_ ?_ ?_ ?_ ?_
  · intro p _; exact Finset.mem_univ _
  · intro i _; exact Finset.mem_product.mpr ⟨Finset.mem_univ _, Finset.mem_univ _⟩
  · intro p _
    refine Prod.ext (Fin.ext ?_) (Fin.ext ?_)
    · show (p.1.val % 8 * 512 + p.2.val) / 512 = p.1.val
      omega
    · show (p.1.val % 8 * 512 + p.2.val) % 512 = p.2.val
      omega
  · intro i _
    refine Fin.ext ?_
    show i.val / 512 % 8 * 512 + i.val % 512 = i.val
    omega
  · intro p _; rfl

/-! ## What the points leave in the scratch and the revisited outputs -/

variable (m : (ℓ : Loc nD τ sig) → Buf (Elt Ideal) ℓ) (c : Dev nD) {R : Args}
  (H : Are (a0 m c) (a2 m c) (a1 m c) (a3 m c) (a4 m c) (a5 m c) R)

include H

theorem dfAt_at (n : ℕ) : ∀ (hn : n < cfg0.N) (r : Fin 512) (j : Fin 1024),
    (dfAt m c n hn (ix2 r j) : EReal) = ((R.df (row ⟨n, hn⟩ r) j : ℝ) : EReal) := by
  induction n with
  | zero =>
    intro hn r j
    exact (congrFun (dfAt_first m c ⟨0, hn⟩ rfl) _).trans (df_pay _ _ _ r _ _ _ (b1 H _ r) (b0 H _ r) (b2 H _) j)
  | succ n ih =>
    intro hn r j
    by_cases h0 : (n + 1) % 4 = 0
    · exact (congrFun (dfAt_first m c ⟨n + 1, hn⟩ h0) _).trans (df_pay _ _ _ r _ _ _ (b1 H _ r) (b0 H _ r) (b2 H _) j)
    · refine (congrFun (dfAt_later m c ⟨n + 1, hn⟩ h0) _).trans ((ih _ r j).trans (congrArg (fun i => ((R.df i j : ℝ) : EReal)) (Fin.ext ?_)))
      show n / 4 * 512 + r.val = (n + 1) / 4 * 512 + r.val
      omega

theorem daStep_at (t : Fin cfg0.N) (S : Vec Ideal S512x1024 .f32) (r : Fin 512) (j : Fin 1024) (s : ℝ) (hS : (S (ix2 r j) : EReal) = ((s : ℝ) : EReal)) :
    (daStep m c t S (ix2 r j) : EReal) = ((s + termN R (t.val % 4) (row t r) j : ℝ) : EReal) := by
  refine (pointDa_at r (R.df (row t r)) (pw R (chunk t)) (pwg R (chunk t)) (pwu R (chunk t)) (pg R (chunk t) (row t r)) (pu R (chunk t) (row t r))
    (dfAt_at m c H t.val t.isLt r) (b6 H t) (b5 H t 0 r) (b5 H t 1 r) (b7 H t) (b8 H t) j s hS).trans ?_
  exact congrArg (fun q => ((s + term R q (row t r) j : ℝ) : EReal)) (Fin.ext (Nat.mod_mod _ _).symm)

theorem daAt_at (n : ℕ) : ∀ (hn : n < cfg0.N) (r : Fin 512) (j : Fin 1024),
    (daAt m c n hn (ix2 r j) : EReal) = ((∑ q ∈ Finset.range (n % 4 + 1), termN R q (row ⟨n, hn⟩ r) j : ℝ) : EReal) := by
  have first : ∀ (t : Fin cfg0.N), t.val % 4 = 0 → ∀ r j, (daAt m c t.val t.isLt (ix2 r j) : EReal)
      = ((∑ q ∈ Finset.range (t.val % 4 + 1), termN R q (row t r) j : ℝ) : EReal) := fun t h0 r j => by
    refine (congrFun (daAt_first m c t h0) _).trans ((daStep_at m c H t _ r j 0 (zero15 r j)).trans ?_)
    rw [h0, Finset.sum_range_one, zero_add]
  induction n with
  | zero => exact fun hn r j => first ⟨0, hn⟩ rfl r j
  | succ n ih =>
    intro hn r j
    by_cases h0 : (n + 1) % 4 = 0
    · exact first ⟨n + 1, hn⟩ h0 r j
    · refine (congrFun (daAt_later m c ⟨n + 1, hn⟩ h0) _).trans ((daStep_at m c H ⟨n + 1, hn⟩ _ r j _ (ih _ r j)).trans ?_)
      have e0 : row ⟨n, Nat.lt_of_succ_lt hn⟩ r = row ⟨n + 1, hn⟩ r := Fin.ext (by show n / 4 * 512 + r.val = (n + 1) / 4 * 512 + r.val; omega)
      have e1 : (n + 1) % 4 = n % 4 + 1 := by omega
      rw [e0, Finset.sum_range_succ _ ((n + 1) % 4), e1]

/-- At the last chunk of a row block the sum is whole. -/
theorem daAt_last (t : Fin cfg0.N) (h : t.val % 4 = 3) (r : Fin 512) (j : Fin 1024) :
    (daAt m c t.val t.isLt (ix2 r j) : EReal) = ((R.da (row t r) j : ℝ) : EReal) := by
  refine (daAt_at m c H t.val t.isLt r j).trans ?_
  rw [h]
  exact congrArg _ (sum_termN R _ j)

/-- What a row block adds to the gradients of the normalizations' weights. -/
def postB (R : Args) (b : ℕ) (j : Fin 1024) : ℝ := ∑ r, 1 / 2 * R.dho (rowN b r) j * (R.f (rowN b r) j * rs (R.f (rowN b r)))
def preB (R : Args) (b : ℕ) (j : Fin 1024) : ℝ := ∑ r, R.da (rowN b r) j * (R.h (rowN b r) j * rs (R.h (rowN b r)))

omit H in
theorem row_eq (t : Fin cfg0.N) (r : Fin 512) : row t r = rowN (t.val / 4) r :=
  Fin.ext (by have := point_lt t; show t.val / 4 * 512 + r.val = t.val / 4 % 8 * 512 + r.val; omega)

theorem gpostAt_at (n : ℕ) : ∀ (hn : n < cfg0.N) (j : Fin 1024),
    (gpostAt m c n hn (ix2 0 j) : EReal) = ((∑ b ∈ Finset.range (n / 4 + 1), postB R b j : ℝ) : EReal) := by
  have step : ∀ (t : Fin cfg0.N) (G : Vec Ideal S1x1024 .f32) (j : Fin 1024) (s : ℝ), (G (ix2 0 j) : EReal) = ((s : ℝ) : EReal) →
      (k0_pay11 (iblk m c 1 t) (iblk m c 0 t) G (ix2 0 j) : EReal) = ((s + postB R (t.val / 4) j : ℝ) : EReal) := fun t G j s hG => by
    refine (gpost_pay _ _ G (fun r => R.f (row t r)) (fun r => R.dho (row t r)) (b1 H t) (b0 H t) j s hG).trans ?_
    exact congrArg (fun v => ((s + v : ℝ) : EReal)) (Finset.sum_congr rfl fun r _ => by rw [row_eq t r])
  induction n with
  | zero =>
    intro hn j
    refine (congrFun (gpostAt_zero m c ⟨0, hn⟩ rfl) _).trans ((step ⟨0, hn⟩ _ j 0 (zero13 j)).trans ?_)
    rw [zero_add, Nat.zero_div, Finset.sum_range_one]
  | succ n ih =>
    intro hn j
    by_cases h0 : (n + 1) % 4 = 0
    · refine (congrFun (gpostAt_row m c ⟨n + 1, hn⟩ (Nat.succ_ne_zero n) h0) _).trans ((step ⟨n + 1, hn⟩ _ j _ (ih _ j)).trans ?_)
      have e1 : (n + 1) / 4 = n / 4 + 1 := by omega
      rw [Finset.sum_range_succ _ ((n + 1) / 4), e1]
    · refine (congrFun (gpostAt_later m c ⟨n + 1, hn⟩ h0) _).trans ((ih _ j).trans ?_)
      rw [show (n + 1) / 4 = n / 4 by omega]

theorem gpreAt_at (n : ℕ) : ∀ (hn : n < cfg0.N) (j : Fin 1024),
    (gpreAt m c n hn (ix2 0 j) : EReal) = ((∑ b ∈ Finset.range ((n + 1) / 4), preB R b j : ℝ) : EReal) := by
  have step : ∀ (t : Fin cfg0.N) (h : t.val % 4 = 3) (G : Vec Ideal S1x1024 .f32) (j : Fin 1024) (s : ℝ), (G (ix2 0 j) : EReal) = ((s : ℝ) : EReal) →
      (k0_pay5 (iblk m c 3 t) (daAt m c t.val t.isLt) G (ix2 0 j) : EReal) = ((s + preB R (t.val / 4) j : ℝ) : EReal) := fun t h G j s hG => by
    refine (gpre_pay _ _ G (fun r => R.h (row t r)) (fun r => R.da (row t r)) (b3 H t) (daAt_last m c H t h) j s hG).trans ?_
    exact congrArg (fun v => ((s + v : ℝ) : EReal)) (Finset.sum_congr rfl fun r _ => by rw [row_eq t r])
  induction n with
  | zero =>
    intro hn j
    refine (congrFun (gpreAt_zero m c ⟨0, hn⟩ rfl) _).trans ((zero14 j).trans ?_)
    rw [show (0 + 1) / 4 = 0 from rfl, Finset.sum_range_zero]
  | succ n ih =>
    intro hn j
    by_cases h0 : (n + 1) % 4 = 3
    · refine (congrFun (gpreAt_last m c ⟨n + 1, hn⟩ h0) _).trans ((step ⟨n + 1, hn⟩ h0 _ j _ (ih _ j)).trans ?_)
      have e1 : (n + 1 + 1) / 4 = (n + 1) / 4 + 1 := by omega
      rw [e1, Finset.sum_range_succ _ ((n + 1) / 4)]
    · refine (congrFun (gpreAt_later m c ⟨n + 1, hn⟩ (Nat.succ_ne_zero n) h0) _).trans ((ih _ j).trans ?_)
      rw [show (n + 1 + 1) / 4 = (n + 1) / 4 by omega]

/-! ## The results -/

/-- The hidden units are the reference's. -/
theorem out_g : (dats m 0 c).arrAt 9 cfg0.N = val_main_v88 (F := Ideal) (a2 m c) (a3 m c) (a4 m c) := by
  refine (dats m 0 c).arrAt_eq_of_covers 9 _ (by decide +kernel) fun t hf y => ?_
  obtain ⟨r, e, rfl⟩ : ∃ (r : Fin 512) (e : Fin 768), y = ix3 0 r e := ⟨y 1, y 2, (eq_ix3 y).trans (congrArg (fun z => ix3 z (y 1) (y 2)) (Subsingleton.elim (α := Fin 1) _ _))⟩
  rw [after_9]
  have hi : ((cfg0.win 9).blk t).view.emb (ix3 0 r e) = ix3 (chunk t) (row t r) e := by blk_ext [idx t]
  refine (pointG_at r _ _ (b5 H t 0 r) (b5 H t 1 r) _ e).trans (Eq.trans ?_ (congrArg (val_main_v88 (F := Ideal) (a2 m c) (a3 m c) (a4 m c)) hi).symm)
  rw [ref_g H]
  exact congrArg _ (pact R (chunk t) (row t r) e)

/-- The gradient of the first product is the reference's. -/
theorem out_du : (dats m 0 c).arrAt 10 cfg0.N = val_main_v94 (F := Ideal) (a0 m c) (a1 m c) (a2 m c) (a3 m c) (a4 m c) (a5 m c) := by
  refine (dats m 0 c).arrAt_eq_of_covers 10 _ (by decide +kernel) fun t hf y => ?_
  obtain ⟨s, r, e, rfl⟩ : ∃ (s : Fin 2) (r : Fin 512) (e : Fin 768), y = ix4 s 0 r e :=
    ⟨y 0, y 2, y 3, (eq_ix4 y).trans (congrArg (fun z => ix4 (y 0) z (y 2) (y 3)) (Subsingleton.elim (α := Fin 1) _ _))⟩
  rw [after_10]
  have hi : ((cfg0.win 10).blk t).view.emb (ix4 s 0 r e) = ix4 s (chunk t) (row t r) e := by blk_ext [idx t]
  refine Eq.trans ?_ (congrArg (val_main_v94 (F := Ideal) (a0 m c) (a1 m c) (a2 m c) (a3 m c) (a4 m c) (a5 m c)) hi).symm
  rw [ref_du_packed H]
  match s with
  | 0 =>
    refine (pointDu_gate r (R.df (row t r)) (pw R (chunk t)) (pg R (chunk t) (row t r)) (pu R (chunk t) (row t r))
      (dfAt_at m c H t.val t.isLt r) (b6 H t) (b5 H t 0 r) (b5 H t 1 r) _ e).trans (congrArg _ ?_)
    rw [pdug]
    split
    · next h =>
      refine Eq.symm ((congrArg (R.du (row t r)) (pcol_gate (chunk t) e h)).trans ?_)
      exact dif_pos (lane (chunk t) e h).isLt
    · rfl
  | 1 =>
    refine (pointDu_up r (R.df (row t r)) (pw R (chunk t)) (pg R (chunk t) (row t r))
      (dfAt_at m c H t.val t.isLt r) (b6 H t) (b5 H t 0 r) _ e).trans (congrArg _ ?_)
    rw [pduu]
    split
    · next h =>
      refine Eq.symm ((congrArg (R.du (row t r)) (pcol_up (chunk t) e h)).trans ?_)
      refine (dif_neg (Nat.not_lt.mpr (Nat.le_add_right 2816 (lane (chunk t) e h).val))).trans (congrArg (R.duu (row t r)) (Fin.ext ?_))
      exact Nat.add_sub_cancel_left ..
    · rfl

/-- The gradient of the second product is the reference's. -/
theorem out_df : (dats m 0 c).arrAt 11 cfg0.N = val_main_v95 (F := Ideal) (a0 m c) (a1 m c) (a2 m c) (a3 m c) (a4 m c) (a5 m c) := by
  refine (dats m 0 c).arrAt_eq_of_covers 11 _ (by decide +kernel) fun t hf y => ?_
  obtain ⟨r, j, rfl⟩ : ∃ (r : Fin 512) (j : Fin 1024), y = ix2 r j := ⟨y 0, y 1, eq_ix2 y⟩
  rw [after_11]
  have hi : ((cfg0.win 11).blk t).view.emb (ix2 r j) = ix2 (row t r) j := by blk_ext [idx t]
  refine (dfAt_at m c H t.val t.isLt r j).trans (Eq.trans ?_ (congrArg (val_main_v95 (F := Ideal) (a0 m c) (a1 m c) (a2 m c) (a3 m c) (a4 m c) (a5 m c)) hi).symm)
  exact (ref_df_narrow H _ _).symm

/-- The gradient of the layer's input is the reference's. -/
theorem out_dh : (dats m 0 c).arrAt 12 cfg0.N = val_main_v96 (F := Ideal) (a0 m c) (a1 m c) (a2 m c) (a3 m c) (a4 m c) (a5 m c) := by
  refine (dats m 0 c).arrAt_eq_of_covers 12 _ (by decide +kernel) fun t hf y => ?_
  obtain ⟨r, j, rfl⟩ : ∃ (r : Fin 512) (j : Fin 1024), y = ix2 r j := ⟨y 0, y 1, eq_ix2 y⟩
  rw [after_12]
  have hi : ((cfg0.win 12).blk t).view.emb (ix2 r j) = ix2 (row t r) j := by blk_ext [idx t]
  refine (dh_pay _ _ _ _ r (R.h (row t r)) (R.da (row t r)) (R.dho (row t r)) R.pre (b3 H t r) (daAt_last m c H t ((flush0_12 t).mp hf) r)
    (b0 H t r) (b4 H t) j).trans (Eq.trans ?_ (congrArg (val_main_v96 (F := Ideal) (a0 m c) (a1 m c) (a2 m c) (a3 m c) (a4 m c) (a5 m c)) hi).symm)
  exact (ref_dh H _ _).symm

/-- The gradients of the two normalizations' weights are the reference's. -/
theorem out_gpost : (dats m 0 c).arrAt 13 cfg0.N = val_main_v42 (F := Ideal) (a0 m c) (a2 m c) (a3 m c) (a4 m c) (a5 m c) := by
  refine (dats m 0 c).arrAt_eq_of_covers 13 _ (by decide +kernel) fun t hf y => ?_
  obtain ⟨j, rfl⟩ : ∃ (j : Fin 1024), y = ix2 0 j := ⟨y 1, (eq_ix2 y).trans (congrArg (fun z => ix2 z (y 1)) (Subsingleton.elim (α := Fin 1) _ _))⟩
  rw [after_13]
  have hi : ((cfg0.win 13).blk t).view.emb (ix2 0 j) = ix2 0 j := by blk_ext [idx t]
  refine (gpostAt_at m c H t.val t.isLt j).trans (Eq.trans ?_ (congrArg (val_main_v42 (F := Ideal) (a0 m c) (a2 m c) (a3 m c) (a4 m c) (a5 m c)) hi).symm)
  rw [ref_gpost H]
  have h3 : t.val % 32 = 31 := (flush0_13 t).mp hf
  have h4 := point_lt t
  rw [show t.val / 4 + 1 = 8 by omega]
  exact congrArg _ (sum_rows fun i => 1 / 2 * R.dho i j * (R.f i j * rs (R.f i)))

theorem out_gpre : (dats m 0 c).arrAt 14 cfg0.N = val_main_v67 (F := Ideal) (a0 m c) (a1 m c) (a2 m c) (a3 m c) (a4 m c) (a5 m c) := by
  refine (dats m 0 c).arrAt_eq_of_covers 14 _ (by decide +kernel) fun t hf y => ?_
  obtain ⟨j, rfl⟩ : ∃ (j : Fin 1024), y = ix2 0 j := ⟨y 1, (eq_ix2 y).trans (congrArg (fun z => ix2 z (y 1)) (Subsingleton.elim (α := Fin 1) _ _))⟩
  rw [after_14]
  have hi : ((cfg0.win 14).blk t).view.emb (ix2 0 j) = ix2 0 j := by blk_ext [idx t]
  refine (gpreAt_at m c H t.val t.isLt j).trans (Eq.trans ?_ (congrArg (val_main_v67 (F := Ideal) (a0 m c) (a1 m c) (a2 m c) (a3 m c) (a4 m c) (a5 m c)) hi).symm)
  rw [ref_gpre H]
  have h3 : t.val % 32 = 31 := (flush0_14 t).mp hf
  have h4 := point_lt t
  rw [show (t.val + 1) / 4 = 8 by omega]
  exact congrArg _ (sum_rows fun i => R.da i j * (R.h i j * rs (R.h i)))

end Cert.KernelFfnBwdIdeal.Ffn
end
-- ==== Proof.FfnClaim.lean ====
module

public import proofs.«01_k».proof.Defs
public import proofs.«01_k».proof.Proof.FfnValue
public import proofs.«01_k».proof.Proof.AttnPre
public import proofs.«01_k».proof.Proof.Gen.KernelFfnBwd
public import proofs.«01_k».proof.Proof.Gen.Pre_ffn_finite

@[expose] public section

set_option maxRecDepth 16384

noncomputable section

open Idealize.ShloMosaic Idealize.ShloMosaic.TcCoe Idealize.SL.Sem

namespace Cert.KernelFfnBwdIdeal.Ffn

open Cert.KernelFfnBwdIdeal.Gen Cert.Ffn
open Cert.ReferenceFfnBwdIdeal.Read Cert.ReferenceFfnBwdIdeal.Ffn

/-- Arguments that pass the finiteness check are real numbers. -/
theorem are_of_finite [Cert.Pre_ffn_finite.Facts] (A0 : FVec Ideal S4096x1024 .f32) (A1 : FVec Ideal S1x1024 .f32) (A2 : FVec Ideal S4096x1024 .f32)
    (A3 : FVec Ideal S1x1024 .f32) (A4 : FVec Ideal S1024x5632 .f32) (A5 : FVec Ideal S2816x1024 .f32)
    (h : Cert.Pre_ffn_finite.fn (F := Ideal) A0 A1 A2 A3 A4 A5 = fun _ => 1#1) : ∃ R : Args, Are A0 A2 A1 A3 A4 A5 R := by
  haveI : Subsingleton Cert.Pre_ffn_finite.S_.Idx := ⟨fun a b => funext fun i => i.elim0⟩
  have e := congrFun h ix0
  simp only [Cert.Pre_ffn_finite.fn, Cert.Pre_ffn_finite.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have f0 : ∀ i, ∃ r : ℝ, A0 i = (r : EReal) := fun i => Cert.KernelIdeal.Attn.real_of_lt _ (Host.reduce_andi_all _ _ _ _ _ e0 i)
  have f1 : ∀ i, ∃ r : ℝ, A1 i = (r : EReal) := fun i => Cert.KernelIdeal.Attn.real_of_lt _ (Host.reduce_andi_all _ _ _ _ _ e1 i)
  have f2 : ∀ i, ∃ r : ℝ, A2 i = (r : EReal) := fun i => Cert.KernelIdeal.Attn.real_of_lt _ (Host.reduce_andi_all _ _ _ _ _ e2 i)
  have f3 : ∀ i, ∃ r : ℝ, A3 i = (r : EReal) := fun i => Cert.KernelIdeal.Attn.real_of_lt _ (Host.reduce_andi_all _ _ _ _ _ e3 i)
  have f4 : ∀ i, ∃ r : ℝ, A4 i = (r : EReal) := fun i => Cert.KernelIdeal.Attn.real_of_lt _ (Host.reduce_andi_all _ _ _ _ _ e4 i)
  have f5 : ∀ i, ∃ r : ℝ, A5 i = (r : EReal) := fun i => Cert.KernelIdeal.Attn.real_of_lt _ (Host.reduce_andi_all _ _ _ _ _ e5 i)
  choose r0 h0 using f0
  choose r1 h1 using f1
  choose r2 h2 using f2
  choose r3 h3 using f3
  choose r4 h4 using f4
  choose r5 h5 using f5
  exact ⟨⟨fun i j => r0 (ix2 i j), fun j => r1 (ix2 0 j), fun i j => r2 (ix2 i j), fun j => r3 (ix2 0 j), fun j n => r4 (ix2 j n), fun n j => r5 (ix2 n j)⟩,
    ⟨fun _ _ => h0 _, fun _ => h1 _, fun _ _ => h2 _, fun _ => h3 _, fun _ _ => h4 _, fun _ _ => h5 _⟩⟩

set_option maxHeartbeats 8000000 in
/-- The two printings of the call have the same bodies. -/
theorem bodies : Cert.KernelFfnBwd.defs₀ (F := Bits) = Cert.KernelFfnBwdIdeal.defs₀ (F := Bits) := by
  funext p l a
  cases p with
  | tc =>
    match l with
    | 0 => rfl
  | scScalar i => rfl
  | scVector i j => rfl

set_option maxHeartbeats 8000000 in
theorem tables : Cert.KernelFfnBwd.defs (F := Bits) = Cert.KernelFfnBwdIdeal.defs (F := Bits) :=
  congrArg (Pipeline.defs (Cert.KernelFfnBwdIdeal.pcfgs (F := Bits))) bodies

set_option maxHeartbeats 8000000 in
/-- The layer's backward call, over the device's own floats: it runs to the end, leaves its arguments as they were and every semaphore at zero. -/
theorem frame_kernel : Cert.quiescent_KernelFfnBwd := fun m ρ _ => by
  rw [tables]
  exact frame (F := Bits) m ρ

set_option maxHeartbeats 2000000 in
/-- On finite arguments the call's six results are the reference's. -/
theorem algebraic : Cert.algebraic_KernelFfnBwdIdeal_ReferenceFfnBwdIdeal_pre_ffn_finite := by
  intro m ρ m' ρ' hpre hagree
  refine ⟨fun c => val_main_v88 (F := Ideal) (a2 m c) (a3 m c) (a4 m c), fun c => val_main_v94 (F := Ideal) (a0 m c) (a1 m c) (a2 m c) (a3 m c) (a4 m c) (a5 m c),
    fun c => val_main_v95 (F := Ideal) (a0 m c) (a1 m c) (a2 m c) (a3 m c) (a4 m c) (a5 m c),
    fun c => val_main_v96 (F := Ideal) (a0 m c) (a1 m c) (a2 m c) (a3 m c) (a4 m c) (a5 m c),
    fun c => val_main_v42 (F := Ideal) (a0 m c) (a2 m c) (a3 m c) (a4 m c) (a5 m c),
    fun c => val_main_v67 (F := Ideal) (a0 m c) (a1 m c) (a2 m c) (a3 m c) (a4 m c) (a5 m c), ?_, ?_⟩
  · refine (θ_run _ _ _).mono (fun r h c => ?_) (θ_run_and (run_main (F := Ideal) m ρ) (unchanged (F := Ideal) m ρ))
    obtain ⟨R, H⟩ := are_of_finite _ _ _ _ _ _ (hpre c)
    exact ⟨((h.1 c).1 9).trans (out_g m c H), ((h.1 c).1 10).trans (out_du m c H), ((h.1 c).1 11).trans (out_df m c H),
      ((h.1 c).1 12).trans (out_dh m c H), ((h.1 c).1 13).trans (out_gpost m c H), ((h.1 c).1 14).trans (out_gpre m c H), h.2 c⟩
  · refine (θ_run _ _ _).mono (fun r h c => ?_) (Cert.ReferenceFfnBwdIdeal.Value.run (F := Ideal) m' ρ')
    obtain ⟨h0, h1, h2, h3, h4, h5⟩ := hagree c
    obtain ⟨e0, e1, e2, e3, e4, e5, e6⟩ := h c
    have k0 : StableHlo.launchContents m' c (Proc.devRef .tc Cert.ReferenceFfnBwdIdeal.main_arg0) = a0 m c := h0
    have k1 : StableHlo.launchContents m' c (Proc.devRef .tc Cert.ReferenceFfnBwdIdeal.main_arg1) = a1 m c := h1
    have k2 : StableHlo.launchContents m' c (Proc.devRef .tc Cert.ReferenceFfnBwdIdeal.main_arg2) = a2 m c := h2
    have k3 : StableHlo.launchContents m' c (Proc.devRef .tc Cert.ReferenceFfnBwdIdeal.main_arg3) = a3 m c := h3
    have k4 : StableHlo.launchContents m' c (Proc.devRef .tc Cert.ReferenceFfnBwdIdeal.main_arg4) = a4 m c := h4
    have k5 : StableHlo.launchContents m' c (Proc.devRef .tc Cert.ReferenceFfnBwdIdeal.main_arg5) = a5 m c := h5
    rw [val_main_v88_eq, k2, k3, k4] at e0
    rw [val_main_v94_eq, k0, k1, k2, k3, k4, k5] at e1
    rw [val_main_v95_eq, k0, k1, k2, k3, k4, k5] at e2
    rw [val_main_v96_eq, k0, k1, k2, k3, k4, k5] at e3
    rw [val_main_v42_eq, k0, k2, k3, k4, k5] at e4
    rw [val_main_v67_eq, k0, k1, k2, k3, k4, k5] at e5
    exact ⟨e0, e1, e2, e3, e4, e5, e6⟩

end Cert.KernelFfnBwdIdeal.Ffn
end
-- ==== Proof.Ffn1FwdRun.lean ====
module

public import proofs.«01_k».proof.Proof.Gen.KernelFfn1FwdIdeal.Skeleton
public import Idealize.ShloMosaic.Lib.VecWindow
public import Idealize.ShloMosaic.Lib.Ring
public import Idealize.ShloMosaic.Lib.Tactic

@[expose] public section

set_option maxRecDepth 16384

noncomputable section

namespace Cert.KernelFfn1FwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelFfn1FwdIdeal.Gen

variable {F : FTy → Type} [FloatOps F]

local notation "𝕄" => MT nD τ sig Unit (Elt F) ℕ (UR sig nD τ) ℕ

/-- The first 256 rows of a block of 512. -/
def top {e : EltTy} (X : Vec F S512x1024 e) : Vec F S256x1024 e :=
  VecWindow.window X ![0, 0] S256x1024.size inb_S512x1024_S256x1024_0_0

/-- The last 256 rows of a block of 512. -/
def bot {e : EltTy} (X : Vec F S512x1024 e) : Vec F S256x1024 e :=
  VecWindow.window X ![256, 0] S256x1024.size inb_S512x1024_S256x1024_256_0

/-- What a point writes of `u`, over what the buffer held. -/
def pointU (A : Vec F S512x1024 .bf16) (Wg Wu : Vec F S1x768x1024 .bf16) (d : Vec F S2x1x512x768 .bf16) : Vec F S2x1x512x768 .bf16 :=
  VecWindow.put (VecWindow.put (VecWindow.put (VecWindow.put d
      ![0, 0, 0, 0] S1x1x256x768.size (k0_pay8 (top A) Wg))
      ![1, 0, 0, 0] S1x1x256x768.size (k0_pay9 (top A) Wu))
      ![0, 0, 256, 0] S1x1x256x768.size (k0_pay15 (bot A) Wg))
      ![1, 0, 256, 0] S1x1x256x768.size (k0_pay16 (bot A) Wu)

/-- The block's output before the output norm, accumulated over the hidden chunks, after a point that found `S` in it. -/
def pointAcc (A : Vec F S512x1024 .bf16) (Wg Wu W : Vec F S1x768x1024 .bf16) (S : Vec F S512x1024 .f32) : Vec F S512x1024 .f32 :=
  VecWindow.put (VecWindow.put S ![0, 0] S256x1024.size (k0_pay11 (top S) (k0_pay10 (top A) Wg Wu) W))
    ![256, 0] S256x1024.size (k0_pay1 (k0_pay14 (bot A) Wu) (bot S) (k0_pay17 (bot A) Wg) W)

/-- Filling both halves of the rows of both halves of `u` leaves nothing of what was there. -/
theorem pointU_any (A : Vec F S512x1024 .bf16) (Wg Wu : Vec F S1x768x1024 .bf16) (d d' : Vec F S2x1x512x768 .bf16) :
    pointU A Wg Wu d = pointU A Wg Wu d' := by
  funext y
  have h0 : (y 0).val < 2 := (y 0).isLt
  have h1 : (y 1).val < 1 := (y 1).isLt
  have h2 : (y 2).val < 512 := (y 2).isLt
  have h3 : (y 3).val < 768 := (y 3).isLt
  unfold pointU VecWindow.put
  split
  · rfl
  · next ha =>
    split
    · rfl
    · next hb =>
      split
      · rfl
      · next hc =>
        have hlt : (y 2).val < 256 := by
          by_contra hge
          by_cases hz : (y 0).val = 0
          · exact hb fun | 0 => ⟨Nat.zero_le _, by show _ < 0 + 1; omega⟩ | 1 => ⟨Nat.zero_le _, h1⟩ | 2 => ⟨by show 256 ≤ _; omega, h2⟩ | 3 => ⟨Nat.zero_le _, by show _ < 0 + 768; omega⟩
          · exact ha fun | 0 => ⟨by show 1 ≤ _; omega, h0⟩ | 1 => ⟨Nat.zero_le _, h1⟩ | 2 => ⟨by show 256 ≤ _; omega, h2⟩ | 3 => ⟨Nat.zero_le _, by show _ < 0 + 768; omega⟩
        have hz : (y 0).val = 0 := by
          by_contra hz
          exact hc fun | 0 => ⟨by show 1 ≤ _; omega, h0⟩ | 1 => ⟨Nat.zero_le _, h1⟩ | 2 => ⟨Nat.zero_le _, by show _ < 0 + 256; omega⟩ | 3 => ⟨Nat.zero_le _, by show _ < 0 + 768; omega⟩
        rw [dif_pos, dif_pos] <;> exact fun | 0 => ⟨Nat.zero_le _, by show _ < 0 + 1; omega⟩ | 1 => ⟨Nat.zero_le _, h1⟩ | 2 => ⟨Nat.zero_le _, by show _ < 0 + 256; omega⟩ | 3 => ⟨Nat.zero_le _, by show _ < 0 + 768; omega⟩

/-- Filling both halves of an accumulator leaves nothing of what was there. -/
theorem put_both (S S' : Vec F S512x1024 .f32) (w w' : Vec F S256x1024 .f32) :
    VecWindow.put (VecWindow.put S ![0, 0] S256x1024.size w) ![256, 0] S256x1024.size w'
      = VecWindow.put (VecWindow.put S' ![0, 0] S256x1024.size w) ![256, 0] S256x1024.size w' := by
  funext y
  have h0 : (y 0).val < 512 := (y 0).isLt
  have h1 : (y 1).val < 1024 := (y 1).isLt
  unfold VecWindow.put
  split
  · rfl
  · next h =>
    have hlt : (y 0).val < 256 := by
      by_contra hge
      exact h fun | 0 => ⟨by show 256 ≤ _; omega, h0⟩ | 1 => ⟨Nat.zero_le _, by show _ < 0 + 1024; omega⟩
    rw [dif_pos, dif_pos] <;> exact fun | 0 => ⟨Nat.zero_le _, by show _ < 0 + 256; omega⟩ | 1 => ⟨Nat.zero_le _, by show _ < 0 + 1024; omega⟩

/-- A load of the whole accumulator after both halves were stored. -/
theorem readCov_both (m : Memref sig .tc .vmem S512x1024 .f32) (w w' : Vec F S256x1024 .f32) (S : Vec F S512x1024 .f32) :
    m.view.readCov (Val := Elt F) [⟨Rect.unit ![256, 0] ![256, 1024] inb_S512x1024_S256x1024_256_0, w'⟩,
        ⟨Rect.unit ![0, 0] ![256, 1024] inb_S512x1024_S256x1024_0_0, w⟩] (Rect.unit ![0, 0] ![512, 1024] inb_S512x1024_S512x1024_0_0).toLoadRect
      = VecWindow.put (VecWindow.put S ![0, 0] S256x1024.size w) ![256, 0] S256x1024.size w' := by
  refine (View.readAt_full m.view _ _).trans ?_
  rw [View.read_writes_cons_put _ _ _ _ _ rfl, View.read_writes_cons_put _ _ _ _ _ rfl]
  exact put_both _ _ _ _

/-- The last rows do not change when the first are replaced. -/
theorem bot_put (S : Vec F S512x1024 .f32) (w : Vec F S256x1024 .f32) :
    bot (VecWindow.put S ![0, 0] S256x1024.size w) = bot S :=
  VecWindow.window_put_of_disjoint S _ _ _ _ _ _ (0 : Fin 2) (.inr (Nat.le_refl _))

/-- A load of the first rows after the whole was stored. -/
theorem readCov_top {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![0, 0] ![256, 1024] inb_S512x1024_S256x1024_0_0).toLoadRect = top S :=
  (View.readAt_unit m.view _ _ rfl _).trans (congrArg top (View.read_writes_full m.view _ _ _ _))

/-- A load of the last rows after the whole was stored. -/
theorem readCov_bot {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![256, 0] ![256, 1024] inb_S512x1024_S256x1024_256_0).toLoadRect = bot S :=
  (View.readAt_unit m.view _ _ rfl _).trans (congrArg bot (View.read_writes_full m.view _ _ _ _))

/-- A load of a row after it was stored. -/
theorem readCov_row (m : Memref sig .tc .vmem S1x1024 .f32) (S : Vec F S1x1024 .f32) :
    m.view.readCov (Val := Elt F) [⟨Rect.unit ![0, 0] ![1, 1024] inb_S1x1024_S1x1024_0_0, S⟩]
      (Rect.unit ![0, 0] ![1, 1024] inb_S1x1024_S1x1024_0_0).toLoadRect = S :=
  (View.readAt_full m.view _ _).trans (View.read_writes_full m.view _ _ _ _)

/-- A load of the last rows after the whole and then the first rows were stored. -/
theorem readCov_bot_top (m : Memref sig .tc .vmem S512x1024 .f32) (w : Vec F S256x1024 .f32) (S : Vec F S512x1024 .f32) :
    m.view.readCov (Val := Elt F) [⟨Rect.unit ![0, 0] ![256, 1024] inb_S512x1024_S256x1024_0_0, w⟩,
        ⟨Rect.unit ![0, 0] ![512, 1024] inb_S512x1024_S512x1024_0_0, S⟩] (Rect.unit ![256, 0] ![256, 1024] inb_S512x1024_S256x1024_256_0).toLoadRect
      = bot S := by
  refine (View.readAt_unit m.view _ _ rfl _).trans ?_
  rw [View.read_writes_cons_put _ _ _ _ _ rfl]
  exact (bot_put _ _).trans (congrArg bot (View.read_writes_full m.view _ _ _ _))

theorem readAt_top {e : EltTy} (m : Memref sig .tc .vmem S512x1024 e) (f : BufTy.Contents (Elt F) m.view.ty) :
    View.readAt (Elt F) m.view (Rect.unit (s := S512x1024) ![0, 0] S256x1024.size inb_S512x1024_S256x1024_0_0).toLoadRect f = top (m.view.read (Elt F) f) :=
  View.readAt_unit m.view f _ rfl _

theorem readAt_bot {e : EltTy} (m : Memref sig .tc .vmem S512x1024 e) (f : BufTy.Contents (Elt F) m.view.ty) :
    View.readAt (Elt F) m.view (Rect.unit (s := S512x1024) ![256, 0] S256x1024.size inb_S512x1024_S256x1024_256_0).toLoadRect f = bot (m.view.read (Elt F) f) :=
  View.readAt_unit m.view f _ rfl _

set_option maxHeartbeats 4000000 in
/-- The body at the first point of a block of rows. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S2x1x512x768 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc1 : k0_cond1 i = 1#1) (hc2 : ¬ k0_cond2 i = 1#1)
    (x0 : Vec F S512x1024 .f32) (x1 : Vec F S1x1024 .f32) (x2 x3 x4 : Vec F S1x768x1024 .bf16) (x5 : Vec F S1x1024 .f32)  (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (pointU (k0_pay3 x0 x1) x2 x3 du) ∗ owns (c : Thread nD τ) arg11 fullShare ((k0_pay3 x0 x1)) ∗ owns (c : Thread nD τ) arg12 fullShare (pointAcc (k0_pay3 x0 x1) x2 x3 x4 k0_pay4)) -∗ K ⟨⟩))
          ⊢ wp frame (wpE (defs₀ (F := F)) Variants.none c none) E (cc0_ffn1_fwd i arg2 harg2 arg3 harg3 arg4 harg4 arg5 harg5 arg6 harg6 arg7 harg7 arg8 harg8 arg9 harg9 arg10 harg10 arg11 harg11 arg12 harg12) K := by
    intro E K
    simp only [cc0_ffn1_fwd_eq_skeleton]; unfold cc0_ffn1_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e9, %f9, -, H9⟩, ⟨%e10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine Eq.trans ?_ (pointU_any (k0_pay3 x0 x1) x2 x3 (arg8.view.read (Elt F) f6) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread]
      all_goals rfl
    isplitl [H9]
    · iexists _; isplitr; swap; · iexact H9
      ipureintro
      sl_unfold_run_names
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread]
      all_goals rfl
    iexists _; isplitr; swap; · iexact H10
    ipureintro
    sl_unfold_run_names
    rw [View.read_writes_cons_put _ _ _ _ _ rfl, View.read_writes_cons_put _ _ _ _ _ rfl]
    simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread]
    all_goals rfl

set_option maxHeartbeats 4000000 in
/-- The body at a point that is neither the first nor the last of its block of rows. -/
theorem run_mid (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S2x1x512x768 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc1 : ¬ k0_cond1 i = 1#1) (hc2 : ¬ k0_cond2 i = 1#1)
    (x0 : Vec F S512x1024 .f32) (x1 : Vec F S1x1024 .f32) (x2 x3 x4 : Vec F S1x768x1024 .bf16) (x5 : Vec F S1x1024 .f32) (A : Vec F S512x1024 .bf16) (S : Vec F S512x1024 .f32) (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg11 fullShare A ∗ owns (c : Thread nD τ) arg12 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (pointU A x2 x3 du) ∗ owns (c : Thread nD τ) arg11 fullShare (A) ∗ owns (c : Thread nD τ) arg12 fullShare (pointAcc A x2 x3 x4 S)) -∗ K ⟨⟩))
          ⊢ wp frame (wpE (defs₀ (F := F)) Variants.none c none) E (cc0_ffn1_fwd i arg2 harg2 arg3 harg3 arg4 harg4 arg5 harg5 arg6 harg6 arg7 harg7 arg8 harg8 arg9 harg9 arg10 harg10 arg11 harg11 arg12 harg12) K := by
    intro E K
    simp only [cc0_ffn1_fwd_eq_skeleton]; unfold cc0_ffn1_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine Eq.trans ?_ (pointU_any A x2 x3 (arg8.view.read (Elt F) f6) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      all_goals rfl
    isplitl [H9]
    · iexists _; isplitr; swap; · iexact H9
      ipureintro
      sl_unfold_run_names
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      all_goals rfl
    iexists _; isplitr; swap; · iexact H10
    ipureintro
    sl_unfold_run_names
    rw [View.read_writes_cons_put _ _ _ _ _ rfl, View.read_writes_cons_put _ _ _ _ _ rfl, View.writes_nil]
    simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
    all_goals rfl

set_option maxHeartbeats 4000000 in
/-- The body at the last point of a block of rows. -/
theorem run_last (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S2x1x512x768 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (hc1 : ¬ k0_cond1 i = 1#1) (hc2 : k0_cond2 i = 1#1)
    (x0 : Vec F S512x1024 .f32) (x1 : Vec F S1x1024 .f32) (x2 x3 x4 : Vec F S1x768x1024 .bf16) (x5 : Vec F S1x1024 .f32) (A : Vec F S512x1024 .bf16) (S : Vec F S512x1024 .f32) (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare A ∗ owns (c : Thread nD τ) arg12 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (pointU A x2 x3 du) ∗ owns (c : Thread nD τ) arg9 fullShare ((pointAcc A x2 x3 x4 S)) ∗ owns (c : Thread nD τ) arg10 fullShare (k0_pay2 (pointAcc A x2 x3 x4 S) x0 x5) ∗ owns (c : Thread nD τ) arg11 fullShare (A) ∗ owns (c : Thread nD τ) arg12 fullShare (pointAcc A x2 x3 x4 S)) -∗ K ⟨⟩))
          ⊢ wp frame (wpE (defs₀ (F := F)) Variants.none c none) E (cc0_ffn1_fwd i arg2 harg2 arg3 harg3 arg4 harg4 arg5 harg5 arg6 harg6 arg7 harg7 arg8 harg8 arg9 harg9 arg10 harg10 arg11 harg11 arg12 harg12) K := by
    intro E K
    simp only [cc0_ffn1_fwd_eq_skeleton]; unfold cc0_ffn1_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine Eq.trans ?_ (pointU_any A x2 x3 (arg8.view.read (Elt F) f6) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      all_goals rfl
    isplitl [H7]
    · iexists _; isplitr; swap; · iexact H7
      ipureintro
      sl_unfold_run_names
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      rw [readCov_both arg12 _ _ S]
      all_goals rfl
    isplitl [H8]
    · iexists _; isplitr; swap; · iexact H8
      ipureintro
      sl_unfold_run_names
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      rw [readCov_both arg12 _ _ S]
      all_goals rfl
    isplitl [H9]
    · iexists _; isplitr; swap; · iexact H9
      ipureintro
      sl_unfold_run_names
      simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
      all_goals rfl
    iexists _; isplitr; swap; · iexact H10
    ipureintro
    sl_unfold_run_names
    rw [View.read_writes_cons_put _ _ _ _ _ rfl, View.read_writes_cons_put _ _ _ _ _ rfl, View.writes_nil]
    simp only [readAt_top arg11, readAt_bot arg11, readAt_top arg12, readAt_bot arg12, readCov_top, readCov_bot, readCov_row, readCov_bot_top arg12, View.readAt_full arg2.view, View.readAt_full arg3.view, View.readAt_full arg4.view, View.readAt_full arg5.view, View.readAt_full arg6.view, View.readAt_full arg7.view, View.readAt_full arg9.view, View.readAt_full arg10.view, View.readAt_full arg11.view, View.readAt_full arg12.view, View.read_writes_full arg9.view, View.read_writes_full arg10.view, View.read_writes_full arg11.view, View.read_writes_full arg12.view, View.read_writes_cons_put _ _ _ _ _ rfl, bot_put, View.writes_nil, harg2.read_unread, harg3.read_unread, harg4.read_unread, harg5.read_unread, harg6.read_unread, harg7.read_unread, hf9, hf10]
    all_goals rfl

end Cert.KernelFfn1FwdIdeal.Ffn
end
-- ==== Proof.Ffn1FwdFrame.lean ====
module

public import proofs.«01_k».proof.Proof.Ffn1FwdRun
public import proofs.«01_k».proof.Proof.Gen.KernelFfn1FwdIdeal.Frame
public import Idealize.ShloMosaic.Lib.Pipeline.FrameBody
public import Idealize.ShloMosaic.Lib.Pipeline.TableIdle
public import Idealize.ShloMosaic.Lib.WordCmp
public import Idealize.ShloMosaic.Lib.Claim

@[expose] public section

set_option maxRecDepth 16384

noncomputable section

namespace Cert.KernelFfn1FwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfn1FwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a block of rows takes the input norm and clears the accumulator. -/
theorem cond1_iff : ∀ t : Fin cfg0.N, k0_cond1 (grid0.coords t) = 1#1 ↔ t.val % 4 = 0 := by decide +kernel
/-- The last point of a block of rows takes the output norm. -/
theorem cond2_iff : ∀ t : Fin cfg0.N, k0_cond2 (grid0.coords t) = 1#1 ↔ t.val % 4 = 3 := by decide +kernel

theorem idle_7 : ∀ t : Fin cfg0.N, cfg0.idle 7 (cfg0.grid.coords t) = !decide (t.val % 4 = 3) := by decide +kernel
theorem idle_8 : ∀ t : Fin cfg0.N, cfg0.idle 8 (cfg0.grid.coords t) = !decide (t.val % 4 = 3) := by decide +kernel
theorem idle_9 : ∀ t : Fin cfg0.N, cfg0.idle 9 (cfg0.grid.coords t) = !decide (t.val % 4 = 0) := by decide +kernel
theorem flush_7 (t : Fin cfg0.N) : (cfg0.win 7).flush t = decide (t.val % 4 = 3) := by
  rw [Bool.eq_iff_iff, decide_eq_true_iff]; exact flush0_7 t
theorem flush_8 (t : Fin cfg0.N) : (cfg0.win 8).flush t = decide (t.val % 4 = 3) := by
  rw [Bool.eq_iff_iff, decide_eq_true_iff]; exact flush0_8 t
theorem flush_9 (t : Fin cfg0.N) : (cfg0.win 9).flush t = decide (t.val % 4 = 3) := by
  rw [Bool.eq_iff_iff, decide_eq_true_iff]; exact flush0_9 t

theorem fresh_9 (n : ℕ) (h : n ≤ cfg0.N) : cfg0.fresh 9 n = decide (n % 4 = 0) :=
  Pipeline.Cfg.fresh_tab cfg0 9 (fun n => decide (n % 4 = 0)) rfl (fun t => by
    rw [flush_9, idle_9]; revert t; decide +kernel) n h

/-- The normalized input of the block of rows a point is in. -/
def aAt (c : Dev nD) : (n : ℕ) → n < cfg0.N → Vec F S512x1024 .bf16
  | 0, h => k0_pay3 (iblk m c 0 ⟨0, h⟩) (iblk m c 1 ⟨0, h⟩)
  | n + 1, h => if (n + 1) % 4 = 0 then k0_pay3 (iblk m c 0 ⟨n + 1, h⟩) (iblk m c 1 ⟨n + 1, h⟩)
    else aAt c n (Nat.lt_of_succ_lt h)

theorem aAt_first (c : Dev nD) (t : Fin cfg0.N) (h0 : t.val % 4 = 0) :
    aAt m c t.val t.isLt = k0_pay3 (iblk m c 0 t) (iblk m c 1 t) := by
  obtain ⟨n, hn⟩ := t
  cases n with
  | zero => rfl
  | succ n => dsimp only at h0 ⊢; rw [aAt, if_pos h0]

theorem aAt_later (c : Dev nD) (t : Fin cfg0.N) (h0 : ¬ t.val % 4 = 0) :
    aAt m c t.val t.isLt = aAt m c (t.val - 1) (Nat.lt_of_le_of_lt (Nat.sub_le _ _) t.isLt) := by
  obtain ⟨n, hn⟩ := t
  cases n with
  | zero => exact absurd rfl h0
  | succ n => dsimp only at h0 ⊢; rw [aAt, if_neg h0]; rfl

/-- A point's step of the accumulated output of the block before the output norm. -/
def accStep (c : Dev nD) (t : Fin cfg0.N) (S : Vec F S512x1024 .f32) : Vec F S512x1024 .f32 :=
  pointAcc (aAt m c t.val t.isLt) (iblk m c 2 t) (iblk m c 3 t) (iblk m c 4 t) S

/-- The accumulated output of the block before the output norm, as a point leaves it. -/
def accAt (c : Dev nD) : (n : ℕ) → n < cfg0.N → Vec F S512x1024 .f32
  | 0, h => accStep m c ⟨0, h⟩ k0_pay4
  | n + 1, h => accStep m c ⟨n + 1, h⟩ (if (n + 1) % 4 = 0 then k0_pay4 else accAt c n (Nat.lt_of_succ_lt h))

theorem accAt_first (c : Dev nD) (t : Fin cfg0.N) (h0 : t.val % 4 = 0) : accAt m c t.val t.isLt = accStep m c t k0_pay4 := by
  obtain ⟨n, hn⟩ := t
  cases n with
  | zero => rfl
  | succ n => dsimp only at h0 ⊢; rw [accAt, if_pos h0]

theorem accAt_later (c : Dev nD) (t : Fin cfg0.N) (h0 : ¬ t.val % 4 = 0) :
    accAt m c t.val t.isLt = accStep m c t (accAt m c (t.val - 1) (Nat.lt_of_le_of_lt (Nat.sub_le _ _) t.isLt)) := by
  obtain ⟨n, hn⟩ := t
  cases n with
  | zero => exact absurd rfl h0
  | succ n => dsimp only at h0 ⊢; rw [accAt, if_neg h0]; rfl

/-- The buffer carried from point to point. -/
abbrev carried : Memref sig .tc .vmem S512x1024 .f32 := Memref.whole cc0_scratch0

theorem PhiA_eq (c : Dev nD) :
    (Pipeline.ΦA spec0 c : sProp 𝕄) = iprop((∃ d, owns (c : Thread nD τ) carried fullShare d) ∗ (∃ r, prngReg c r)) := by
  unfold Pipeline.ΦA; rw [scopedRest0_eq]; simp only [carried, owns_whole]; try rfl

/-- What holds before a point: the carried buffer has what the point before left in it. -/
def Phi (c : Dev nD) : (n : ℕ) → n ≤ cfg0.N → sProp 𝕄
  | 0, _ => Pipeline.ΦA spec0 c
  | n + 1, hn => iprop(owns (c : Thread nD τ) carried fullShare (accAt m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) carried fullShare (accAt m c n hn) ∗ (∃ r, prngReg c r)) := rfl

theorem Phi_pos (c : Dev nD) (n : ℕ) (h : n ≤ cfg0.N) (hz : n ≠ 0) :
    Phi m c n h = iprop(owns (c : Thread nD τ) carried fullShare (accAt m c (n - 1) (by omega)) ∗ (∃ r, prngReg c r)) := by
  cases n with
  | zero => exact absurd rfl hz
  | succ n => rfl

/-- What the run is over: the arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pointU (aAt m c t.val t.isLt) (iblk m c 2 t) (iblk m c 3 t) (constant S2x1x512x768 .bf16 0x0000#16)
    | ⟨7, _⟩ => accAt m c t.val t.isLt
    | ⟨8, _⟩ => k0_pay2 (accAt m c t.val t.isLt) (iblk m c 0 t) (iblk m c 5 t)
    | ⟨9, _⟩ => aAt m c t.val t.isLt
    | ⟨_ + 10, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = pointU (aAt m c t.val t.isLt) (iblk m c 2 t) (iblk m c 3 t) (constant S2x1x512x768 .bf16 0x0000#16) := by dsimp only [dats]
theorem after_7 (c : Dev nD) (t : Fin cfg0.N) : (dats m 0 c).after 7 t = accAt m c t.val t.isLt := by dsimp only [dats]
theorem after_8 (c : Dev nD) (t : Fin cfg0.N) : (dats m 0 c).after 8 t = k0_pay2 (accAt m c t.val t.isLt) (iblk m c 0 t) (iblk m c 5 t) := by dsimp only [dats]
theorem after_9 (c : Dev nD) (t : Fin cfg0.N) : (dats m 0 c).after 9 t = aAt m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A point finds in the normalized input what the point before left. -/
theorem before_9 (c : Dev nD) (t : Fin cfg0.N) (h0 : ¬ t.val % 4 = 0) (d) :
    (dats m 0 c).before 9 t d = aAt m c (t.val - 1) (Nat.lt_of_le_of_lt (Nat.sub_le _ _) t.isLt) := by
  have hN : t.val < 32 := lt_of_lt_of_eq t.isLt (show cfg0.N = 32 from N_0)
  rw [Dat.before_out_traj (dats m 0 c) 9 rfl (fun _ _ => rfl) (fun t ht hi hf => by
      rw [after_9, after_9]; exact aAt_later m c t (by simpa using (idle_9 t).symm.trans hi)) t.val t rfl d,
    fresh_9 t.val (Nat.le_of_lt t.isLt), if_neg (by simp only [decide_eq_true_eq]; omega), after_9]
abbrev stage_0 (t : Fin cfg0.N) : Memref sig .tc .vmem S512x1024 .f32 := win0_0.stage (cfg0.slots t 0)
abbrev stage_1 (t : Fin cfg0.N) : Memref sig .tc .vmem S1x1024 .f32 := win0_1.stage (cfg0.slots t 1)
abbrev stage_2 (t : Fin cfg0.N) : Memref sig .tc .vmem S1x768x1024 .bf16 := win0_2.stage (cfg0.slots t 2)
abbrev stage_3 (t : Fin cfg0.N) : Memref sig .tc .vmem S1x768x1024 .bf16 := win0_3.stage (cfg0.slots t 3)
abbrev stage_4 (t : Fin cfg0.N) : Memref sig .tc .vmem S1x768x1024 .bf16 := win0_4.stage (cfg0.slots t 4)
abbrev stage_5 (t : Fin cfg0.N) : Memref sig .tc .vmem S1x1024 .f32 := win0_5.stage (cfg0.slots t 5)
abbrev stage_6 (t : Fin cfg0.N) : Memref sig .tc .vmem S2x1x512x768 .bf16 := win0_6.stage (cfg0.slots t 6)
abbrev stage_7 (t : Fin cfg0.N) : Memref sig .tc .vmem S512x1024 .f32 := win0_7.stage (cfg0.slots t 7)
abbrev stage_8 (t : Fin cfg0.N) : Memref sig .tc .vmem S512x1024 .f32 := win0_8.stage (cfg0.slots t 8)
abbrev stage_9 (t : Fin cfg0.N) : Memref sig .tc .vmem S512x1024 .bf16 := win0_9.stage (cfg0.slots t 9)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d))
    ∗ (∃ d, owns (c : Thread nD τ) (stage_8 t) fullShare ((dats m 0 c).before 8 t d))
    ∗ (∃ d, owns (c : Thread nD τ) (stage_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ owns (c : Thread nD τ) (stage_4 t) fullShare ((dats m 0 c).after 4 t)
    ∗ owns (c : Thread nD τ) (stage_5 t) fullShare ((dats m 0 c).after 5 t)
    ∗ owns (c : Thread nD τ) (stage_6 t) fullShare ((dats m 0 c).after 6 t)
    ∗ (dats m 0 c).leavesExact 7 t
    ∗ (dats m 0 c).leavesExact 8 t
    ∗ (dats m 0 c).leavesExact 9 t)

theorem leaves_7_live (c : Dev nD) (t : Fin cfg0.N) (h : cfg0.idle 7 (cfg0.grid.coords t) = false ∨ (cfg0.win 7).flush t = true) :
    (dats m 0 c).leavesExact 7 t = owns (c : Thread nD τ) (stage_7 t) fullShare ((dats m 0 c).after 7 t) := by
  unfold Dat.leavesExact
  rcases h with h | h
  · rw [h]
  · rw [h]; split <;> rfl

theorem leaves_7_idle (c : Dev nD) (t : Fin cfg0.N) (hi : cfg0.idle 7 (cfg0.grid.coords t) = true) (hf : (cfg0.win 7).flush t = false) :
    (dats m 0 c).leavesExact 7 t = iprop(∃ d, owns (c : Thread nD τ) (stage_7 t) fullShare ((dats m 0 c).before 7 t d)) :=
  Dat.leavesExact_idle (dats m 0 c) 7 t hi hf

theorem leaves_8_live (c : Dev nD) (t : Fin cfg0.N) (h : cfg0.idle 8 (cfg0.grid.coords t) = false ∨ (cfg0.win 8).flush t = true) :
    (dats m 0 c).leavesExact 8 t = owns (c : Thread nD τ) (stage_8 t) fullShare ((dats m 0 c).after 8 t) := by
  unfold Dat.leavesExact
  rcases h with h | h
  · rw [h]
  · rw [h]; split <;> rfl

theorem leaves_8_idle (c : Dev nD) (t : Fin cfg0.N) (hi : cfg0.idle 8 (cfg0.grid.coords t) = true) (hf : (cfg0.win 8).flush t = false) :
    (dats m 0 c).leavesExact 8 t = iprop(∃ d, owns (c : Thread nD τ) (stage_8 t) fullShare ((dats m 0 c).before 8 t d)) :=
  Dat.leavesExact_idle (dats m 0 c) 8 t hi hf

theorem leaves_9_live (c : Dev nD) (t : Fin cfg0.N) (h : cfg0.idle 9 (cfg0.grid.coords t) = false ∨ (cfg0.win 9).flush t = true) :
    (dats m 0 c).leavesExact 9 t = owns (c : Thread nD τ) (stage_9 t) fullShare ((dats m 0 c).after 9 t) := by
  unfold Dat.leavesExact
  rcases h with h | h
  · rw [h]
  · rw [h]; split <;> rfl

theorem leaves_9_idle (c : Dev nD) (t : Fin cfg0.N) (hi : cfg0.idle 9 (cfg0.grid.coords t) = true) (hf : (cfg0.win 9).flush t = false) :
    (dats m 0 c).leavesExact 9 t = iprop(∃ d, owns (c : Thread nD τ) (stage_9 t) fullShare ((dats m 0 c).before 9 t d)) :=
  Dat.leavesExact_idle (dats m 0 c) 9 t hi hf

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before_0, before_1, before_2, before_3, before_4, before_5]
  rw [show (dats m 0 c).Φ t.succ = Phi m c (t.val + 1) t.isLt from rfl, Phi_succ, Phi_castSucc m c t,
    show (dats m 0 c).owesAt () t.succ = (dats m 0 c).owesAt () t.castSucc from rfl,
    after_0, after_1, after_2, after_3, after_4, after_5, after_6]
  by_cases h0 : t.val % 4 = 0
  · have hc1 := (cond1_iff t).mpr h0
    have hc2 : ¬ k0_cond2 (grid0.coords t) = 1#1 := fun h => by have := (cond2_iff t).mp h; omega
    by_cases hz : t.val = 0
    · rw [leaves_7_idle m c t (by rw [idle_7]; simp only [Bool.not_eq_true', decide_eq_false_iff_not]; omega) (by rw [flush_7]; simp only [decide_eq_false_iff_not]; omega), leaves_8_idle m c t (by rw [idle_8]; simp only [Bool.not_eq_true', decide_eq_false_iff_not]; omega) (by rw [flush_8]; simp only [decide_eq_false_iff_not]; omega), leaves_9_live m c t (.inl (by rw [idle_9]; simp only [Bool.not_eq_false', decide_eq_true_eq]; omega)),
        after_9, Phi_zero m c _ _ hz, PhiA_eq, accAt_first m c t h0]
      unfold accStep
      rw [aAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ hc1 hc2 (iblk m c 0 t) (iblk m c 1 t) (iblk m c 2 t) (iblk m c 3 t) (iblk m c 4 t) (iblk m c 5 t)  (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H9]; · iexists _; iexact H9
      isplitl [HS]; · iexact HS
      iintro ⟨H0, H1, H2, H3, H4, H5, H6, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexists d8; iexact H8
      iexact H9
    · rw [leaves_7_idle m c t (by rw [idle_7]; simp only [Bool.not_eq_true', decide_eq_false_iff_not]; omega) (by rw [flush_7]; simp only [decide_eq_false_iff_not]; omega), leaves_8_idle m c t (by rw [idle_8]; simp only [Bool.not_eq_true', decide_eq_false_iff_not]; omega) (by rw [flush_8]; simp only [decide_eq_false_iff_not]; omega), leaves_9_live m c t (.inl (by rw [idle_9]; simp only [Bool.not_eq_false', decide_eq_true_eq]; omega)),
        after_9, Phi_pos m c _ _ hz, accAt_first m c t h0]
      unfold accStep
      rw [aAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ hc1 hc2 (iblk m c 0 t) (iblk m c 1 t) (iblk m c 2 t) (iblk m c 3 t) (iblk m c 4 t) (iblk m c 5 t)  (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H9]; · iexists _; iexact H9
      isplitl [HS]; · iexists _; iexact HS
      iintro ⟨H0, H1, H2, H3, H4, H5, H6, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexists d8; iexact H8
      iexact H9
  · have hz : ¬ t.val = 0 := fun h => h0 (by omega)
    have hc1 : ¬ k0_cond1 (grid0.coords t) = 1#1 := fun h => h0 ((cond1_iff t).mp h)
    by_cases h3 : t.val % 4 = 3
    · have hc2 := (cond2_iff t).mpr h3
      rw [leaves_7_live m c t (.inl (by rw [idle_7]; simp only [Bool.not_eq_false', decide_eq_true_eq]; omega)), leaves_8_live m c t (.inl (by rw [idle_8]; simp only [Bool.not_eq_false', decide_eq_true_eq]; omega)), leaves_9_live m c t (.inr (by rw [flush_9]; simp only [decide_eq_true_eq]; omega)),
        after_7, after_8, after_9, Phi_pos m c _ _ hz, accAt_later m c t h0]
      simp only [before_9 m c t h0]
      unfold accStep
      rw [aAt_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c (grid0.coords t) _ _ _ _ _ _ _ _ _ _ _ _ _ _ _ _ _ _ _ _ _ _ hc1 hc2 (iblk m c 0 t) (iblk m c 1 t) (iblk m c 2 t) (iblk m c 3 t) (iblk m c 4 t) (iblk m c 5 t) _ _ (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc2 : ¬ k0_cond2 (grid0.coords t) = 1#1 := fun h => h3 ((cond2_iff t).mp h)
      rw [leaves_7_idle m c t (by rw [idle_7]; simp only [Bool.not_eq_true', decide_eq_false_iff_not]; omega) (by rw [flush_7]; simp only [decide_eq_false_iff_not]; omega), leaves_8_idle m c t (by rw [idle_8]; simp only [Bool.not_eq_true', decide_eq_false_iff_not]; omega) (by rw [flush_8]; simp only [decide_eq_false_iff_not]; omega), leaves_9_idle m c t (by rw [idle_9]; simp only [Bool.not_eq_true', decide_eq_false_iff_not]; omega) (by rw [flush_9]; simp only [decide_eq_false_iff_not]; omega),
        Phi_pos m c _ _ hz, accAt_later m c t h0]
      simp only [before_9 m c t h0]
      unfold accStep
      rw [aAt_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_mid c (grid0.coords t) _ _ _ _ _ _ _ _ _ _ _ _ _ _ _ _ _ _ _ _ _ _ hc1 hc2 (iblk m c 0 t) (iblk m c 1 t) (iblk m c 2 t) (iblk m c 3 t) (iblk m c 4 t) (iblk m c 5 t) _ _ (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H9]; · iexact H9
      isplitl [HS]; · iexact HS
      iintro ⟨H0, H1, H2, H3, H4, H5, H6, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexists d8; iexact H8
      iexists d9; iexact H9

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = Phi m c cfg0.N (Nat.le_refl _) from rfl, Phi_pos m c _ _ (by omega), PhiA_eq]
  iintro ⟨HS, Hg⟩
  isplitl [HS]
  · iexists _; iexact HS
  iexact Hg

set_option backward.isDefEq.respectTransparency.types false in
/-- The run of the program, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the program: every array of the pipeline ends at what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  frame_of m ρ (dats m) (A_eq m) (run_main m ρ)

/-- The frame: the program runs to the end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelFfn1FwdIdeal.Ffn
end
-- ==== Proof.FfnFwdMath.lean ====
module

public import proofs.«01_k».proof.Proof.FfnMath
public import Idealize.ShloMosaic.PureOps.Ideal
public import Idealize.ShloMosaic.PureOps.Ideal.Laws

@[expose] public section

noncomputable section

namespace Cert.Ffn

open Idealize.ShloMosaic

/-! ## The layer's forward pass over the extended real numbers -/

/-- The number a row is scaled by in its normalization. -/
def rsE (x : Fin 1024 → EReal) : EReal :=
  Ideal.rsqrt (Ideal.div (∑ j, x j * x j) (Ideal.ofBits .f32 1149239296#32) + Ideal.ofBits .f32 897988541#32)

/-- A hidden unit: its gate times the gate's logistic value, times its other factor. -/
def actE (g u : EReal) : EReal := g * Ideal.div 1 (1 + Ideal.exp (-g)) * u

/-- The layer's arguments. -/
structure Fwd where
  /-- its input, -/
  h : Fin 4096 → Fin 1024 → EReal
  /-- the weight of the normalization before it, -/
  pre : Fin 1024 → EReal
  /-- its two weights, -/
  w1 : Fin 1024 → Fin 5632 → EReal
  w2 : Fin 2816 → Fin 1024 → EReal
  /-- and the weight of the normalization after it. -/
  post : Fin 1024 → EReal

/-- The column of the first weight that lane `e` of chunk `k` of half `s` holds, for a lane that holds one. -/
abbrev fcol (s : Fin 2) (k : Fin 4) (e : Fin 768) (h : e.val % 384 < 352) : Fin 5632 := ⟨((s.val * 4 + k.val) * 2 + e.val / 384) * 352 + e.val % 384, by omega⟩

theorem fcol_gate (k : Fin 4) (e : Fin 768) (h : e.val % 384 < 352) : fcol 0 k e h = ⟨(lane k e h).val, by omega⟩ :=
  Fin.ext (by show ((0 * 4 + k.val) * 2 + e.val / 384) * 352 + e.val % 384 = (k.val * 2 + e.val / 384) * 352 + e.val % 384; omega)
theorem fcol_up (k : Fin 4) (e : Fin 768) (h : e.val % 384 < 352) : fcol 1 k e h = ⟨2816 + (lane k e h).val, by omega⟩ :=
  Fin.ext (by show ((1 * 4 + k.val) * 2 + e.val / 384) * 352 + e.val % 384 = 2816 + ((k.val * 2 + e.val / 384) * 352 + e.val % 384); omega)

namespace Fwd
variable (R : Fwd)

def a (i : Fin 4096) (j : Fin 1024) : EReal := R.h i j * rsE (R.h i) * R.pre j
def u (i : Fin 4096) (n : Fin 5632) : EReal := ∑ j, R.a i j * R.w1 j n
def hid (i : Fin 4096) (n : Fin 2816) : EReal := actE (R.u i ⟨n.val, by omega⟩) (R.u i ⟨2816 + n.val, by omega⟩)
def f (i : Fin 4096) (j : Fin 1024) : EReal := ∑ n, R.hid i n * R.w2 n j
def ho (i : Fin 4096) (j : Fin 1024) : EReal := R.h i j + Ideal.ofBits .f32 1056964608#32 * (R.f i j * rsE (R.f i) * R.post j)

/-- The weights at a chunk's lanes: zero at those that hold no column. -/
def pw1 (s : Fin 2) (k : Fin 4) (e : Fin 768) (j : Fin 1024) : EReal := if h : e.val % 384 < 352 then R.w1 j (fcol s k e h) else 0
def pw2 (k : Fin 4) (e : Fin 768) (j : Fin 1024) : EReal := if h : e.val % 384 < 352 then R.w2 (lane k e h) j else 0

/-- The first product at a chunk's lanes. -/
theorem pu (s : Fin 2) (k : Fin 4) (i : Fin 4096) (e : Fin 768) :
    ∑ j, R.a i j * R.pw1 s k e j = if h : e.val % 384 < 352 then R.u i (fcol s k e h) else 0 := by
  split
  · next h => exact Finset.sum_congr rfl fun j _ => by rw [pw1, dif_pos h]
  · next h => exact Finset.sum_eq_zero fun j _ => by rw [pw1, dif_neg h, mul_zero]

/-- What a chunk adds to a row of the second product. -/
def term (k : Fin 4) (i : Fin 4096) (j : Fin 1024) : EReal :=
  ∑ e, actE (∑ l, R.a i l * R.pw1 0 k e l) (∑ l, R.a i l * R.pw1 1 k e l) * R.pw2 k e j

theorem term_eq (k : Fin 4) (i : Fin 4096) (j : Fin 1024) :
    R.term k i j = ∑ e : Fin 768, if h : e.val % 384 < 352 then R.hid i (lane k e h) * R.w2 (lane k e h) j else 0 := by
  refine Finset.sum_congr rfl fun e _ => ?_
  rw [pu, pu, pw2]
  split
  · next h => rw [fcol_gate, fcol_up]; rfl
  · next h => exact mul_zero _

/-- The four chunks' additions make up the second product. -/
theorem sum_term (i : Fin 4096) (j : Fin 1024) : ∑ k, R.term k i j = R.f i j := by
  rw [Finset.sum_congr rfl fun k _ => R.term_eq k i j, sum_lanes (fun n => R.hid i n * R.w2 n j)]; rfl

/-- The same for a chunk counted from the start of the row block. -/
def termN (n : ℕ) (i : Fin 4096) (j : Fin 1024) : EReal := R.term ⟨n % 4, Nat.mod_lt _ (by decide)⟩ i j

theorem sum_termN (i : Fin 4096) (j : Fin 1024) : ∑ n ∈ Finset.range 4, R.termN n i j = R.f i j := by
  rw [← R.sum_term i j, Finset.sum_range]
  exact Finset.sum_congr rfl fun k _ => congrArg (fun q => R.term q i j) (Fin.ext (Nat.mod_eq_of_lt k.isLt))

end Fwd

/-! ## The loss -/

theorem word_two : Ideal.ofBits .f32 1073741824#32 = ((2 : ℝ) : EReal) := by
  simp [Ideal.ofBits, Ideal.ieee, -EReal.coe_mul]; norm_num
theorem word_1024th : Ideal.ofBits .f32 981467136#32 = ((1 / 1024 : ℝ) : EReal) := by
  simp [Ideal.ofBits, Ideal.ieee, -EReal.coe_mul]; norm_num
theorem word_2048th : Ideal.ofBits .f32 973078528#32 = ((1 / 2048 : ℝ) : EReal) := by
  simp [Ideal.ofBits, Ideal.ieee, -EReal.coe_mul]; norm_num

theorem div_1024 (x : EReal) : Ideal.div x (Ideal.ofBits .f32 1149239296#32) = x * ((1 / 1024 : ℝ) : EReal) := by
  rw [word_1024]
  unfold Ideal.div
  rw [if_neg (by norm_num), ← EReal.coe_inv, one_div]

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor comes out of a sum of numbers that are not negative. -/
theorem sum_mul_nonneg {ι : Type} (s : Finset ι) (g : ι → EReal) (h : ∀ i, 0 ≤ g i) (c : EReal) : ∑ i ∈ s, g i * c = (∑ i ∈ s, g i) * c := by
  classical
  induction s using Finset.induction_on with
  | empty => rw [Finset.sum_empty, Finset.sum_empty, zero_mul]
  | insert a s ha ih => rw [Finset.sum_insert ha, Finset.sum_insert ha, ih, EReal.right_distrib_of_nonneg (h a) (Finset.sum_nonneg fun i _ => h i)]

/-- Half the sum over a block's rows of each row's mean square is a 2048th of the sum of all its squares. -/
theorem loss_eq (g : Fin 512 → Fin 1024 → EReal) (h : ∀ r j, 0 ≤ g r j) :
    Ideal.ofBits .f32 1056964608#32 * ∑ r, Ideal.div (∑ j, g r j) (Ideal.ofBits .f32 1149239296#32) = Ideal.ofBits .f32 973078528#32 * ∑ r, ∑ j, g r j := by
  simp only [div_1024]
  rw [sum_mul_nonneg _ _ fun r => Finset.sum_nonneg fun j _ => h r j, word_half, word_2048th, mul_comm (∑ r, ∑ j, g r j), ← mul_assoc, ← EReal.coe_mul]
  norm_num

/-- The gradient of the loss with respect to one difference. -/
theorem grad_eq (x : EReal) : Ideal.div (Ideal.ofBits .f32 1056964608#32) (Ideal.ofBits .f32 1149239296#32) * (Ideal.ofBits .f32 1073741824#32 * x)
    = x * Ideal.ofBits .f32 981467136#32 := by
  rw [div_1024, word_half, word_two, word_1024th, ← mul_assoc, ← EReal.coe_mul, ← EReal.coe_mul, mul_comm x]
  norm_num

end Cert.Ffn
end
-- ==== Proof.Ffn1FwdPoint.lean ====
module

public import proofs.«01_k».proof.Proof.Ffn1FwdRun
public import proofs.«01_k».proof.Proof.FfnFwdMath
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfn1FwdIdeal.Ffn

open Cert.KernelFfn1FwdIdeal Cert.KernelFfn1FwdIdeal.Gen Cert.Ffn

/-! ## What a point computes for one of its rows -/

section
variable {A : Vec Ideal S256x1024 .bf16} {W Wg Wu : Vec Ideal S1x768x1024 .bf16} {S : Vec Ideal S256x1024 .f32}
  (r : Fin 256) (x : Fin 1024 → EReal) (w wg wu : Fin 768 → Fin 1024 → EReal)
  (hA : ∀ j, (A (ix2 r j) : EReal) = x j) (hW : ∀ e j, (W (ix3 0 e j) : EReal) = w e j)
  (hg : ∀ e j, (Wg (ix3 0 e j) : EReal) = wg e j) (hu : ∀ e j, (Wu (ix3 0 e j) : EReal) = wu e j)

section
include hA hg
theorem gate_top (e : Fin 768) : (k0_pay6 (F := Ideal) A Wg (ix2 r e) : EReal) = ∑ k, x k * wg e k := by
  pointwise [k0_pay6, k0_pay5]
  simp only [hA, hg]
theorem gate_bot (e : Fin 768) : (k0_pay13 (F := Ideal) A Wg (ix2 r e) : EReal) = ∑ k, x k * wg e k := by
  pointwise [k0_pay13, k0_pay12]
  simp only [hA, hg]
theorem gate_top_out (e : Fin 768) : (k0_pay8 (F := Ideal) A Wg (ix4 0 0 r e) : EReal) = ∑ k, x k * wg e k := by
  pointwise [k0_pay8]
  exact gate_top r x wg hA hg e
theorem gate_bot_out (e : Fin 768) : (k0_pay15 (F := Ideal) A Wg (ix4 0 0 r e) : EReal) = ∑ k, x k * wg e k := by
  pointwise [k0_pay15]
  exact gate_bot r x wg hA hg e
end
section
include hA hu
theorem up_top (e : Fin 768) : (k0_pay7 (F := Ideal) A Wu (ix2 r e) : EReal) = ∑ k, x k * wu e k := by
  pointwise [k0_pay7, k0_pay5]
  simp only [hA, hu]
theorem up_bot (e : Fin 768) : (k0_pay14 (F := Ideal) A Wu (ix2 r e) : EReal) = ∑ k, x k * wu e k := by
  pointwise [k0_pay14, k0_pay12]
  simp only [hA, hu]
theorem up_top_out (e : Fin 768) : (k0_pay9 (F := Ideal) A Wu (ix4 0 0 r e) : EReal) = ∑ k, x k * wu e k := by
  pointwise [k0_pay9]
  exact up_top r x wu hA hu e
theorem up_bot_out (e : Fin 768) : (k0_pay16 (F := Ideal) A Wu (ix4 0 0 r e) : EReal) = ∑ k, x k * wu e k := by
  pointwise [k0_pay16]
  exact up_bot r x wu hA hu e
end
section
include hA hg hu
theorem act_top (e : Fin 768) : (k0_pay10 (F := Ideal) A Wg Wu (ix2 r e) : EReal) = actE (∑ k, x k * wg e k) (∑ k, x k * wu e k) := by
  pointwise [k0_pay10]
  rw [gate_top r x wg hA hg, up_top r x wu hA hu, zero_sub]; rfl
theorem act_bot (e : Fin 768) : (k0_pay17 (F := Ideal) A Wg (ix2 r e) * k0_pay14 (F := Ideal) A Wu (ix2 r e) : EReal) = actE (∑ k, x k * wg e k) (∑ k, x k * wu e k) := by
  pointwise [k0_pay17]
  rw [gate_bot r x wg hA hg, up_bot r x wu hA hu, zero_sub]; rfl
include hW
theorem acc_top (j : Fin 1024) (s : EReal) (hS : (S (ix2 r j) : EReal) = s) :
    (k0_pay11 (F := Ideal) S (k0_pay10 A Wg Wu) W (ix2 r j) : EReal) = s + ∑ e, actE (∑ k, x k * wg e k) (∑ k, x k * wu e k) * w e j := by
  pointwise [k0_pay11]
  simp only [act_top r x wg wu hA hg hu, hW, hS]
theorem acc_bot (j : Fin 1024) (s : EReal) (hS : (S (ix2 r j) : EReal) = s) :
    (k0_pay1 (F := Ideal) (k0_pay14 A Wu) S (k0_pay17 A Wg) W (ix2 r j) : EReal) = s + ∑ e, actE (∑ k, x k * wg e k) (∑ k, x k * wu e k) * w e j := by
  pointwise [k0_pay1]
  simp only [act_bot r x wg wu hA hg hu, hW, hS]
end
end

/-! ## A point's rows, whichever half they are in -/

section
variable {e : EltTy}
theorem put_top (S : Vec Ideal S512x1024 e) (w w' : Vec Ideal S256x1024 e) (r : Fin 512) (j : Fin 1024) (h : r.val < 256) :
    VecWindow.put (VecWindow.put S ![0, 0] S256x1024.size w) ![256, 0] S256x1024.size w' (ix2 r j) = w (ix2 ⟨r.val, h⟩ j) := by
  refine (dif_neg fun hh => ?_).trans ((dif_pos fun a => ?_).trans (congrArg w (funext fun a => ?_)))
  · have h0 : 256 ≤ r.val := (hh 0).1
    omega
  · match a with
    | 0 => exact ⟨Nat.zero_le _, by show r.val < 0 + 256; omega⟩
    | 1 => exact ⟨Nat.zero_le _, by show j.val < 0 + 1024; omega⟩
  · match a with
    | 0 => exact Fin.ext (show r.val - 0 = r.val from Nat.sub_zero _)
    | 1 => exact Fin.ext (show j.val - 0 = j.val from Nat.sub_zero _)

theorem put_bot (S : Vec Ideal S512x1024 e) (w w' : Vec Ideal S256x1024 e) (r : Fin 512) (j : Fin 1024) (h : ¬r.val < 256) :
    VecWindow.put (VecWindow.put S ![0, 0] S256x1024.size w) ![256, 0] S256x1024.size w' (ix2 r j) = w' (ix2 ⟨r.val - 256, by omega⟩ j) := by
  refine (dif_pos fun a => ?_).trans (congrArg w' (funext fun a => ?_))
  · match a with
    | 0 => exact ⟨by show 256 ≤ r.val; omega, by show r.val < 256 + 256; omega⟩
    | 1 => exact ⟨Nat.zero_le _, by show j.val < 0 + 1024; omega⟩
  · match a with
    | 0 => rfl
    | 1 => exact Fin.ext (show j.val - 0 = j.val from Nat.sub_zero _)

theorem top_at (X : Vec Ideal S512x1024 e) (r : Fin 512) (j : Fin 1024) (h : r.val < 256) : top X (ix2 ⟨r.val, h⟩ j) = X (ix2 r j) := by
  refine congrArg X (funext fun a => ?_)
  match a with
  | 0 => exact Fin.ext ((ValueKit.rect_emb_unit_val _ _ _ _ _).trans (show 0 + r.val = r.val by omega))
  | 1 => exact Fin.ext ((ValueKit.rect_emb_unit_val _ _ _ _ _).trans (show 0 + j.val = j.val by omega))

theorem bot_at (X : Vec Ideal S512x1024 e) (r : Fin 512) (j : Fin 1024) (h : ¬r.val < 256) : bot X (ix2 ⟨r.val - 256, by omega⟩ j) = X (ix2 r j) := by
  refine congrArg X (funext fun a => ?_)
  match a with
  | 0 => exact Fin.ext ((ValueKit.rect_emb_unit_val _ _ _ _ _).trans (show 256 + (r.val - 256) = r.val by omega))
  | 1 => exact Fin.ext ((ValueKit.rect_emb_unit_val _ _ _ _ _).trans (show 0 + j.val = j.val by omega))
end

/-- Storing a quarter leaves it at its own rows. -/
theorem put4_hit (S : Vec Ideal S2x1x512x768 .bf16) (w : Vec Ideal S1x1x256x768 .bf16) (a b : ℕ) (s : Fin 2) (r : Fin 512) (x : Fin 768) (q : Fin 256)
    (hs : s.val = a) (hr : r.val = b + q.val) : VecWindow.put S ![a, 0, b, 0] S1x1x256x768.size w (ix4 s 0 r x) = w (ix4 0 0 q x) := by
  refine (dif_pos fun i => ?_).trans (congrArg w (funext fun i => ?_))
  · match i with
    | 0 => exact ⟨hs.ge, by show s.val < a + 1; omega⟩
    | 1 => exact ⟨Nat.zero_le _, by show 0 < 0 + 1; omega⟩
    | 2 => exact ⟨by show b ≤ r.val; omega, by show r.val < b + 256; omega⟩
    | 3 => exact ⟨Nat.zero_le _, by show x.val < 0 + 768; omega⟩
  · match i with
    | 0 => exact Fin.ext (show s.val - a = 0 by omega)
    | 1 => rfl
    | 2 => exact Fin.ext (show r.val - b = q.val by omega)
    | 3 => exact Fin.ext (show x.val - 0 = x.val from Nat.sub_zero _)

/-- And leaves the others as they were. -/
theorem put4_miss (S : Vec Ideal S2x1x512x768 .bf16) (w : Vec Ideal S1x1x256x768 .bf16) (a b : ℕ) (s : Fin 2) (r : Fin 512) (x : Fin 768)
    (h : s.val < a ∨ a + 1 ≤ s.val ∨ r.val < b ∨ b + 256 ≤ r.val) : VecWindow.put S ![a, 0, b, 0] S1x1x256x768.size w (ix4 s 0 r x) = S (ix4 s 0 r x) := by
  refine dif_neg fun hh => ?_
  have h0 : a ≤ s.val ∧ s.val < a + 1 := hh 0
  have h2 : b ≤ r.val ∧ r.val < b + 256 := hh 2
  omega

section
variable {A : Vec Ideal S512x1024 .bf16} {W Wg Wu : Vec Ideal S1x768x1024 .bf16} {S : Vec Ideal S512x1024 .f32}
  (r : Fin 512) (x : Fin 1024 → EReal) (w wg wu : Fin 768 → Fin 1024 → EReal)
  (hA : ∀ j, (A (ix2 r j) : EReal) = x j) (hW : ∀ e j, (W (ix3 0 e j) : EReal) = w e j)
  (hg : ∀ e j, (Wg (ix3 0 e j) : EReal) = wg e j) (hu : ∀ e j, (Wu (ix3 0 e j) : EReal) = wu e j)

include hA in
theorem pointU_gate (hg : ∀ e j, (Wg (ix3 0 e j) : EReal) = wg e j) (z : Vec Ideal S2x1x512x768 .bf16) (e : Fin 768) :
    (pointU (F := Ideal) A Wg Wu z (ix4 0 0 r e) : EReal) = ∑ k, x k * wg e k := by
  unfold pointU
  by_cases h : r.val < 256
  · refine (put4_miss _ _ 1 256 0 r e (by omega)).trans ((put4_miss _ _ 0 256 0 r e (by omega)).trans
      ((put4_miss _ _ 1 0 0 r e (by simp)).trans ((put4_hit _ _ 0 0 0 r e ⟨r.val, h⟩ rfl (Nat.zero_add _).symm).trans ?_)))
    exact gate_top_out _ x wg (fun j => (top_at A r j h).trans (hA j)) hg e
  · refine (put4_miss _ _ 1 256 0 r e (by simp)).trans
      ((put4_hit _ _ 0 256 0 r e ⟨r.val - 256, by omega⟩ rfl (by show r.val = 256 + (r.val - 256); omega)).trans ?_)
    exact gate_bot_out _ x wg (fun j => (bot_at A r j h).trans (hA j)) hg e

include hA in
theorem pointU_up (hu : ∀ e j, (Wu (ix3 0 e j) : EReal) = wu e j) (z : Vec Ideal S2x1x512x768 .bf16) (e : Fin 768) :
    (pointU (F := Ideal) A Wg Wu z (ix4 1 0 r e) : EReal) = ∑ k, x k * wu e k := by
  unfold pointU
  by_cases h : r.val < 256
  · refine (put4_miss _ _ 1 256 1 r e (by omega)).trans ((put4_miss _ _ 0 256 1 r e (by omega)).trans
      ((put4_hit _ _ 1 0 1 r e ⟨r.val, h⟩ rfl (Nat.zero_add _).symm).trans ?_))
    exact up_top_out _ x wu (fun j => (top_at A r j h).trans (hA j)) hu e
  · refine (put4_hit _ _ 1 256 1 r e ⟨r.val - 256, by omega⟩ rfl (by show r.val = 256 + (r.val - 256); omega)).trans ?_
    exact up_bot_out _ x wu (fun j => (bot_at A r j h).trans (hA j)) hu e

include hA hg hu hW in
theorem pointAcc_at (j : Fin 1024) (s : EReal) (hS : (S (ix2 r j) : EReal) = s) :
    (pointAcc (F := Ideal) A Wg Wu W S (ix2 r j) : EReal) = s + ∑ e, actE (∑ k, x k * wg e k) (∑ k, x k * wu e k) * w e j := by
  unfold pointAcc
  by_cases h : r.val < 256
  · exact (put_top _ _ _ r j h).trans (acc_top _ x w wg wu (fun j => (top_at A r j h).trans (hA j)) hW hg hu j s ((top_at S r j h).trans hS))
  · exact (put_bot _ _ _ r j h).trans (acc_bot _ x w wg wu (fun j => (bot_at A r j h).trans (hA j)) hW hg hu j s ((bot_at S r j h).trans hS))
end

/-! ## The two normalizations -/

theorem a_pay (h : Vec Ideal S512x1024 .f32) (pre : Vec Ideal S1x1024 .f32) (r : Fin 512) (x p : Fin 1024 → EReal)
    (hx : ∀ j, (h (ix2 r j) : EReal) = x j) (hp : ∀ j, (pre (ix2 0 j) : EReal) = p j) (j : Fin 1024) :
    (k0_pay3 (F := Ideal) h pre (ix2 r j) : EReal) = x j * rsE x * p j := by
  pointwise [k0_pay3]
  simp only [hx, hp]; rfl

theorem zero_pay (r : Fin 512) (j : Fin 1024) : (k0_pay4 (F := Ideal) (ix2 r j) : EReal) = 0 := by
  pointwise [k0_pay4]

theorem ho_pay (f h : Vec Ideal S512x1024 .f32) (post : Vec Ideal S1x1024 .f32) (r : Fin 512) (y x p : Fin 1024 → EReal)
    (hf : ∀ j, (f (ix2 r j) : EReal) = y j) (hx : ∀ j, (h (ix2 r j) : EReal) = x j) (hp : ∀ j, (post (ix2 0 j) : EReal) = p j) (j : Fin 1024) :
    (k0_pay2 (F := Ideal) f h post (ix2 r j) : EReal) = x j + Ideal.ofBits .f32 1056964608#32 * (y j * rsE y * p j) := by
  pointwise [k0_pay2]
  simp only [hf, hx, hp]; rfl

end Cert.KernelFfn1FwdIdeal.Ffn
end
-- ==== Proof.Ffn1FwdRef.lean ====
module

public import proofs.«01_k».proof.Defs
public import proofs.«01_k».proof.Proof.FfnFwdMath
public import proofs.«01_k».proof.Proof.Gen.ReferenceFfn1FwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceFfn1FwdIdeal.Ffn

open Cert.ReferenceFfn1FwdIdeal Cert.ReferenceFfn1FwdIdeal.Gen Cert.ReferenceFfn1FwdIdeal.Read Cert.Ffn

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2.2, sem_eq_zero_of_no_sems (by decide) r.2⟩) (Value.run (F := Ideal) m ρ)

/-- The padding word zero is the number zero. -/
theorem zero_word : (FloatOps.sitofp (F := Ideal) .f32 (0#32) : EReal) = 0 := by
  show (((0#32 : BitVec 32).toInt : ℝ) : EReal) = 0
  simp

/-! ## What each step of the reference computes -/

variable (A0 : FVec Ideal S4096x1024 .f32) (A1 : FVec Ideal S1x1024 .f32) (A2 : FVec Ideal S1024x5632 .f32) (A3 : FVec Ideal S2816x1024 .f32) (A4 : FVec Ideal S1x1024 .f32)

/-- The arguments, index by index. -/
def args : Fwd := ⟨fun i j => A0 (ix2 i j), fun j => A1 (ix2 0 j), fun j n => A2 (ix2 j n), fun n j => A3 (ix2 n j), fun j => A4 (ix2 0 j)⟩

theorem ref_a (i : Fin 4096) (j : Fin 1024) : (val_main_v11 (F := Ideal) A0 A1 (ix2 i j) : EReal) = (args A0 A1 A2 A3 A4).a i j := by
  pointwise [val_main_v11, val_main_v10, val_main_v9, val_main_v8, val_main_v7, val_main_v6, val_main_v5, val_main_v4, val_main_v3, val_main_v2, val_main_v1,
    val_main_v0, val_main_cst, val_main_cst_0, val_main_cst_1]
  rfl

theorem ref_u (i : Fin 4096) (n : Fin 5632) : (val_main_v12 (F := Ideal) A0 A1 A2 (ix2 i n) : EReal) = (args A0 A1 A2 A3 A4).u i n := by
  pointwise [val_main_v12]
  simp only [ref_a A0 A1 A2 A3 A4]; rfl

theorem ref_hid (i : Fin 4096) (n : Fin 2816) : (val_main_v16 (F := Ideal) A0 A1 A2 (ix2 i n) : EReal) = (args A0 A1 A2 A3 A4).hid i n := by
  pointwise [val_main_v16, val_main_v15, val_main_v14, val_main_v13, val_main_call0_v5, val_main_call0_v4, val_main_call0_v3, val_main_call0_v2, val_main_call0_v1, val_main_call0_v0,
    val_main_call0_cst, val_main_call0_cst_0]
  simp only [ref_u A0 A1 A2 A3 A4]; rfl

theorem ref_f (i : Fin 4096) (j : Fin 1024) : (val_main_v17 (F := Ideal) A0 A1 A2 A3 (ix2 i j) : EReal) = (args A0 A1 A2 A3 A4).f i j := by
  pointwise [val_main_v17]
  simp only [ref_hid A0 A1 A2 A3 A4]; rfl

theorem ref_ho (i : Fin 4096) (j : Fin 1024) : (val_main_v32 (F := Ideal) A0 A1 A2 A3 A4 (ix2 i j) : EReal) = (args A0 A1 A2 A3 A4).ho i j := by
  pointwise [val_main_v32, val_main_v31, val_main_v30, val_main_v29, val_main_v28, val_main_v27, val_main_v26, val_main_v25, val_main_v24, val_main_v23, val_main_v22, val_main_v21,
    val_main_v20, val_main_v19, val_main_v18, val_main_cst_2, val_main_cst_3, val_main_cst_4, val_main_cst_5]
  simp only [ref_f A0 A1 A2 A3 A4]; rfl

theorem ref_a_narrow (i : Fin 4096) (j : Fin 1024) : (val_main_v39 (F := Ideal) A0 A1 (ix2 i j) : EReal) = (args A0 A1 A2 A3 A4).a i j := by
  pointwise [val_main_v39]
  exact ref_a A0 A1 A2 A3 A4 i j

/-- The first product in the step's layout: at a lane that holds a column, -/
theorem ref_u_in (s : Fin 2) (k : Fin 4) (i : Fin 4096) (e : Fin 768) (h : e.val % 384 < 352) :
    (val_main_v38 (F := Ideal) A0 A1 A2 (ix4 s k i e) : EReal) = (args A0 A1 A2 A3 A4).u i (fcol s k e h) := by
  pointwise [val_main_v38, val_main_v37, val_main_v36, val_main_v35, val_main_v34, val_main_v33, val_main_call1_v0, val_main_c]
  refine (dif_pos ⟨by omega, h⟩).trans ((ref_u A0 A1 A2 A3 A4 i _).trans (congrArg _ (Fin.ext ?_)))
  with_reducible rfl

/-- and at one that holds none. -/
theorem ref_u_out (s : Fin 2) (k : Fin 4) (i : Fin 4096) (e : Fin 768) (h : ¬e.val % 384 < 352) :
    (val_main_v38 (F := Ideal) A0 A1 A2 (ix4 s k i e) : EReal) = 0 := by
  pointwise [val_main_v38, val_main_v37, val_main_v36, val_main_v35, val_main_v34, val_main_v33, val_main_call1_v0, val_main_c]
  exact (dif_neg fun h2 => h h2.2).trans zero_word

end Cert.ReferenceFfn1FwdIdeal.Ffn
end
-- ==== Proof.Ffn1FwdValue.lean ====
module

public import proofs.«01_k».proof.Proof.Ffn1FwdFrame
public import proofs.«01_k».proof.Proof.Ffn1FwdPoint
public import proofs.«01_k».proof.Proof.Ffn1FwdRef
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfn1FwdIdeal.Ffn

open Cert.KernelFfn1FwdIdeal Cert.KernelFfn1FwdIdeal.Gen Cert.Ffn
open Cert.ReferenceFfn1FwdIdeal.Read Cert.ReferenceFfn1FwdIdeal.Ffn

variable (m : (ℓ : Loc nD τ sig) → Buf (Elt Ideal) ℓ) (c : Dev nD)

/-- The layer's input, -/
abbrev a0 : FVec Ideal S4096x1024 .f32 := m ((c.tc : Thread nD τ).loc main_arg0)
/-- the weight of the first normalization, -/
abbrev a1 : FVec Ideal S1x1024 .f32 := m ((c.tc : Thread nD τ).loc main_arg1)
/-- the first product's weight, -/
abbrev a2 : FVec Ideal S1024x5632 .f32 := m ((c.tc : Thread nD τ).loc main_arg2)
/-- the second's, -/
abbrev a3 : FVec Ideal S2816x1024 .f32 := m ((c.tc : Thread nD τ).loc main_arg3)
/-- the weight of the second normalization. -/
abbrev a4 : FVec Ideal S1x1024 .f32 := m ((c.tc : Thread nD τ).loc main_arg4)
/-- All of them, index by index. -/
abbrev R : Fwd := args (a0 m c) (a1 m c) (a2 m c) (a3 m c) (a4 m c)

/-- The second weight's rows in the step's layout: blocks of 352, each padded to 384, two to a chunk. -/
def packedW2 (w : FVec Ideal S2816x1024 .f32) : FVec Ideal S4x768x1024 .bf16 :=
  truncf .bf16 (shapeCast S4x768x1024 (pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_) shapeCasts_S8x384x1024_S4x768x1024) bitsLt_bf16_f32

/-- The first weight's columns, turned into rows, in the step's layout. -/
def packedW1 (w : FVec Ideal S1024x5632 .f32) : FVec Ideal S8x768x1024 .bf16 :=
  truncf .bf16 (shapeCast S8x768x1024 (pad S16x384x1024 ![0, 0, 0] ![0, 32, 0] ![0, 0, 0] (shapeCast S16x352x1024
    (transpose S5632x1024 [1, 0] w transposes_S1024x5632_S5632x1024_1_0) shapeCasts_S5632x1024_S16x352x1024)
    (sitofp .f32 (constantI S_ 32 0#32)) pads_S16x352x1024_S16x384x1024_000_0320_000 h_S_) shapeCasts_S16x384x1024_S8x768x1024) bitsLt_bf16_f32

set_option maxHeartbeats 1000000 in
theorem V_w1 : Gen.V m c main_v4 = packedW1 (a2 m c) := by
  simp only [Gen.V, hostOps0, hostOps0_1, hostOps0_2, hostOps0_3, hostOps0_4, List.flatten_cons, List.flatten_nil, List.append_nil, List.cons_append, List.nil_append,
    TRef.nullary, TRef.binary, TRef.unary, TRef.toBuf, TRef.ofBuf, cast_eq]
  after_results_simp <;> rfl

set_option maxHeartbeats 1000000 in
theorem V_w2 : Gen.V m c main_v8 = packedW2 (a3 m c) := by
  simp only [Gen.V, hostOps0, hostOps0_1, hostOps0_2, hostOps0_3, hostOps0_4, List.flatten_cons, List.flatten_nil, List.append_nil, List.cons_append, List.nil_append,
    TRef.nullary, TRef.binary, TRef.unary, TRef.toBuf, TRef.ofBuf, cast_eq]
  after_results_simp <;> rfl

/-- The blocks of a point: row block `t / 4`, hidden chunk `t % 4`. -/
theorem idx : ∀ t : Fin cfg0.N, win0_0.index t = ![t.val / 4, 0] ∧ win0_1.index t = ![0, 0] ∧ win0_2.index t = ![t.val % 4, 0, 0] ∧ win0_3.index t = ![4 + t.val % 4, 0, 0] ∧ win0_4.index t = ![t.val % 4, 0, 0]
    ∧ win0_5.index t = ![0, 0] ∧ win0_6.index t = ![0, t.val % 4, t.val / 4, 0] ∧ win0_7.index t = ![t.val / 4, 0] ∧ win0_8.index t = ![t.val / 4, 0] ∧ win0_9.index t = ![t.val / 4, 0] := by
  decide +kernel

theorem point_lt (t : Fin cfg0.N) : t.val < 32 := t.isLt

/-- Row `r` of a point's row block. -/
abbrev row (t : Fin cfg0.N) (r : Fin 512) : Fin 4096 := ⟨t.val / 4 * 512 + r.val, by have := point_lt t; omega⟩
/-- The hidden chunk of a point. -/
abbrev chunk (t : Fin cfg0.N) : Fin 4 := ⟨t.val % 4, Nat.mod_lt _ (by decide)⟩

theorem packedW2_at (k : Fin 4) (e : Fin 768) (j : Fin 1024) : (packedW2 (a3 m c) (ix3 k e j) : EReal) = (R m c).pw2 k e j := by
  rw [Fwd.pw2]
  by_cases h : e.val % 384 < 352
  · rw [dif_pos h]
    pointwise [packedW2]
    refine (dif_pos ⟨by omega, h⟩).trans (congrArg (fun n => (R m c).w2 n j) (Fin.ext ?_))
    show (k.val * 2 + e.val / 384) * 352 + e.val % 384 = (k.val * 2 + e.val / 384) * 352 + e.val % 384
    with_reducible rfl
  · rw [dif_neg h]
    pointwise [packedW2]
    exact (dif_neg fun h2 => h h2.2).trans zero_word

theorem packedW1_at (p : Fin 8) (s : Fin 2) (k : Fin 4) (hp : p.val = s.val * 4 + k.val) (e : Fin 768) (j : Fin 1024) :
    (packedW1 (a2 m c) (ix3 p e j) : EReal) = (R m c).pw1 s k e j := by
  rw [Fwd.pw1]
  by_cases h : e.val % 384 < 352
  · rw [dif_pos h]
    pointwise [packedW1]
    refine (dif_pos ⟨by omega, h⟩).trans (congrArg (fun n => (R m c).w1 j n) (Fin.ext ?_))
    show (p.val * 2 + e.val / 384) * 352 + e.val % 384 = ((s.val * 4 + k.val) * 2 + e.val / 384) * 352 + e.val % 384
    rw [hp]
  · rw [dif_neg h]
    pointwise [packedW1]
    exact (dif_neg fun h2 => h h2.2).trans zero_word

/-! ## What a point's blocks hold -/

theorem b0 (t : Fin cfg0.N) (r : Fin 512) (j : Fin 1024) : (iblk m c 0 t (ix2 r j) : EReal) = (R m c).h (row t r) j := by
  have h : ∀ W : FVec Ideal S4096x1024 .f32, ((cfg0.win 0).blk t).view.read (Elt Ideal) W (ix2 r j) = W (ix2 (row t r) j) := fun W => by blk_ext [idx t]
  exact (h (Gen.V m c main_arg0)).trans (congrFun (V_main_arg0 m c) _)

theorem b1 (t : Fin cfg0.N) (j : Fin 1024) : (iblk m c 1 t (ix2 0 j) : EReal) = (R m c).pre j := by
  have h : ∀ W : FVec Ideal S1x1024 .f32, ((cfg0.win 1).blk t).view.read (Elt Ideal) W (ix2 0 j) = W (ix2 0 j) := fun W => by blk_ext [idx t]
  exact (h (Gen.V m c main_arg1)).trans (congrFun (V_main_arg1 m c) _)

theorem b2 (t : Fin cfg0.N) (e : Fin 768) (j : Fin 1024) : (iblk m c 2 t (ix3 0 e j) : EReal) = (R m c).pw1 0 (chunk t) e j := by
  have h : ∀ W : FVec Ideal S8x768x1024 .bf16, ((cfg0.win 2).blk t).view.read (Elt Ideal) W (ix3 0 e j)
      = W (ix3 ⟨t.val % 4, by omega⟩ e j) := fun W => by blk_ext [idx t]
  exact ((h (Gen.V m c main_v4)).trans (congrFun (V_w1 m c) _)).trans (packedW1_at m c _ 0 (chunk t) (by simp) _ _)

theorem b3 (t : Fin cfg0.N) (e : Fin 768) (j : Fin 1024) : (iblk m c 3 t (ix3 0 e j) : EReal) = (R m c).pw1 1 (chunk t) e j := by
  have h : ∀ W : FVec Ideal S8x768x1024 .bf16, ((cfg0.win 3).blk t).view.read (Elt Ideal) W (ix3 0 e j)
      = W (ix3 ⟨4 + t.val % 4, by omega⟩ e j) := fun W => by blk_ext [idx t]
  exact ((h (Gen.V m c main_v4)).trans (congrFun (V_w1 m c) _)).trans (packedW1_at m c _ 1 (chunk t) (by simp) _ _)

theorem b4 (t : Fin cfg0.N) (e : Fin 768) (j : Fin 1024) : (iblk m c 4 t (ix3 0 e j) : EReal) = (R m c).pw2 (chunk t) e j := by
  have h : ∀ W : FVec Ideal S4x768x1024 .bf16, ((cfg0.win 4).blk t).view.read (Elt Ideal) W (ix3 0 e j) = W (ix3 (chunk t) e j) := fun W => by blk_ext [idx t]
  exact ((h (Gen.V m c main_v8)).trans (congrFun (V_w2 m c) _)).trans (packedW2_at m c _ _ _)

theorem b5 (t : Fin cfg0.N) (j : Fin 1024) : (iblk m c 5 t (ix2 0 j) : EReal) = (R m c).post j := by
  have h : ∀ W : FVec Ideal S1x1024 .f32, ((cfg0.win 5).blk t).view.read (Elt Ideal) W (ix2 0 j) = W (ix2 0 j) := fun W => by blk_ext [idx t]
  exact (h (Gen.V m c main_arg4)).trans (congrFun (V_main_arg4 m c) _)

/-! ## What the points leave in the scratch and the revisited outputs -/

theorem aAt_at (n : ℕ) : ∀ (hn : n < cfg0.N) (r : Fin 512) (j : Fin 1024), (aAt m c n hn (ix2 r j) : EReal) = (R m c).a (row ⟨n, hn⟩ r) j := by
  induction n with
  | zero =>
    intro hn r j
    exact (congrFun (aAt_first m c ⟨0, hn⟩ rfl) _).trans (a_pay _ _ r _ _ (b0 m c _ r) (b1 m c _) j)
  | succ n ih =>
    intro hn r j
    by_cases h0 : (n + 1) % 4 = 0
    · exact (congrFun (aAt_first m c ⟨n + 1, hn⟩ h0) _).trans (a_pay _ _ r _ _ (b0 m c _ r) (b1 m c _) j)
    · refine (congrFun (aAt_later m c ⟨n + 1, hn⟩ h0) _).trans ((ih _ r j).trans (congrArg (fun i => (R m c).a i j) (Fin.ext ?_)))
      show n / 4 * 512 + r.val = (n + 1) / 4 * 512 + r.val
      omega

theorem accStep_at (t : Fin cfg0.N) (S : Vec Ideal S512x1024 .f32) (r : Fin 512) (j : Fin 1024) (s : EReal) (hS : (S (ix2 r j) : EReal) = s) :
    (accStep m c t S (ix2 r j) : EReal) = s + (R m c).termN (t.val % 4) (row t r) j := by
  refine (pointAcc_at r ((R m c).a (row t r)) ((R m c).pw2 (chunk t)) ((R m c).pw1 0 (chunk t)) ((R m c).pw1 1 (chunk t))
    (aAt_at m c t.val t.isLt r) (b4 m c t) (b2 m c t) (b3 m c t) j s hS).trans ?_
  exact congrArg (fun q => s + (R m c).term q (row t r) j) (Fin.ext (Nat.mod_mod _ _).symm)

theorem accAt_at (n : ℕ) : ∀ (hn : n < cfg0.N) (r : Fin 512) (j : Fin 1024),
    (accAt m c n hn (ix2 r j) : EReal) = ∑ q ∈ Finset.range (n % 4 + 1), (R m c).termN q (row ⟨n, hn⟩ r) j := by
  have first : ∀ (t : Fin cfg0.N), t.val % 4 = 0 → ∀ r j, (accAt m c t.val t.isLt (ix2 r j) : EReal)
      = ∑ q ∈ Finset.range (t.val % 4 + 1), (R m c).termN q (row t r) j := fun t h0 r j => by
    refine (congrFun (accAt_first m c t h0) _).trans ((accStep_at m c t _ r j 0 (zero_pay r j)).trans ?_)
    rw [h0, Finset.sum_range_one, zero_add]
  induction n with
  | zero => exact fun hn r j => first ⟨0, hn⟩ rfl r j
  | succ n ih =>
    intro hn r j
    by_cases h0 : (n + 1) % 4 = 0
    · exact first ⟨n + 1, hn⟩ h0 r j
    · refine (congrFun (accAt_later m c ⟨n + 1, hn⟩ h0) _).trans ((accStep_at m c ⟨n + 1, hn⟩ _ r j _ (ih _ r j)).trans ?_)
      have e0 : row ⟨n, Nat.lt_of_succ_lt hn⟩ r = row ⟨n + 1, hn⟩ r := Fin.ext (by show n / 4 * 512 + r.val = (n + 1) / 4 * 512 + r.val; omega)
      have e1 : (n + 1) % 4 = n % 4 + 1 := by omega
      rw [e0, Finset.sum_range_succ _ ((n + 1) % 4), e1]

/-- At the last chunk of a row block the sum is whole. -/
theorem accAt_last (t : Fin cfg0.N) (h : t.val % 4 = 3) (r : Fin 512) (j : Fin 1024) :
    (accAt m c t.val t.isLt (ix2 r j) : EReal) = (R m c).f (row t r) j := by
  have e : t.val % 4 + 1 = 4 := by omega
  have hs := accAt_at m c t.val t.isLt r j
  rw [e, Fwd.sum_termN] at hs
  exact hs

/-! ## The results -/

/-- The first product, kept for the backward pass, is the reference's. -/
theorem out_u : (dats m 0 c).arrAt 6 cfg0.N = val_main_v38 (F := Ideal) (a0 m c) (a1 m c) (a2 m c) := by
  refine (dats m 0 c).arrAt_eq_of_covers 6 _ (by decide +kernel) fun t hf y => ?_
  obtain ⟨s, r, e, rfl⟩ : ∃ (s : Fin 2) (r : Fin 512) (e : Fin 768), y = ix4 s 0 r e :=
    ⟨y 0, y 2, y 3, (eq_ix4 y).trans (congrArg (fun z => ix4 (y 0) z (y 2) (y 3)) (Subsingleton.elim (α := Fin 1) _ _))⟩
  rw [after_6]
  have hi : ((cfg0.win 6).blk t).view.emb (ix4 s 0 r e) = ix4 s (chunk t) (row t r) e := by blk_ext [idx t]
  refine Eq.trans ?_ (congrArg (val_main_v38 (F := Ideal) (a0 m c) (a1 m c) (a2 m c)) hi).symm
  have hr : (val_main_v38 (F := Ideal) (a0 m c) (a1 m c) (a2 m c) (ix4 s (chunk t) (row t r) e) : EReal)
      = ∑ j, (R m c).a (row t r) j * (R m c).pw1 s (chunk t) e j := by
    rw [Fwd.pu]
    split
    · next h => exact ref_u_in (a0 m c) (a1 m c) (a2 m c) (a3 m c) (a4 m c) s (chunk t) (row t r) e h
    · next h => exact ref_u_out (a0 m c) (a1 m c) (a2 m c) s (chunk t) (row t r) e h
  refine Eq.trans ?_ hr.symm
  obtain rfl | rfl : s = 0 ∨ s = 1 := by omega
  · exact pointU_gate r _ _ (aAt_at m c t.val t.isLt r) (b2 m c t) _ e
  · exact pointU_up r _ _ (aAt_at m c t.val t.isLt r) (b3 m c t) _ e

/-- The second product is the reference's. -/
theorem out_f : (dats m 0 c).arrAt 7 cfg0.N = val_main_v17 (F := Ideal) (a0 m c) (a1 m c) (a2 m c) (a3 m c) := by
  refine (dats m 0 c).arrAt_eq_of_covers 7 _ (by decide +kernel) fun t hf y => ?_
  obtain ⟨r, j, rfl⟩ : ∃ (r : Fin 512) (j : Fin 1024), y = ix2 r j := ⟨y 0, y 1, eq_ix2 y⟩
  have h3 : t.val % 4 = 3 := by rw [flush_7] at hf; exact of_decide_eq_true hf
  rw [after_7]
  have hi : ((cfg0.win 7).blk t).view.emb (ix2 r j) = ix2 (row t r) j := by blk_ext [idx t]
  refine Eq.trans ?_ (congrArg (val_main_v17 (F := Ideal) (a0 m c) (a1 m c) (a2 m c) (a3 m c)) hi).symm
  exact (accAt_last m c t h3 r j).trans (ref_f (a0 m c) (a1 m c) (a2 m c) (a3 m c) (a4 m c) _ j).symm

/-- The layer's result at a row of a point that ends its row block. -/
theorem ho_at (t : Fin cfg0.N) (h3 : t.val % 4 = 3) (r : Fin 512) (j : Fin 1024) :
    (k0_pay2 (accAt m c t.val t.isLt) (iblk m c 0 t) (iblk m c 5 t) (ix2 r j) : EReal) = (R m c).ho (row t r) j :=
  ho_pay _ _ _ r _ _ _ (accAt_last m c t h3 r) (b0 m c t r) (b5 m c t) j

/-- The layer's result is the reference's. -/
theorem out_ho : (dats m 0 c).arrAt 8 cfg0.N = val_main_v32 (F := Ideal) (a0 m c) (a1 m c) (a2 m c) (a3 m c) (a4 m c) := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  have h3 : t.val % 4 = 3 := by rw [flush_8] at hf; exact of_decide_eq_true hf
  rw [after_8]
  have hi : ((cfg0.win 8).blk t).view.emb (ix2 r j) = ix2 (row t r) j := by blk_ext [idx t]
  refine Eq.trans ?_ (congrArg (val_main_v32 (F := Ideal) (a0 m c) (a1 m c) (a2 m c) (a3 m c) (a4 m c)) hi).symm
  exact (ho_at m c t h3 r j).trans (ref_ho (a0 m c) (a1 m c) (a2 m c) (a3 m c) (a4 m c) _ j).symm

/-- The normalized input is the reference's. -/
theorem out_a : (dats m 0 c).arrAt 9 cfg0.N = val_main_v39 (F := Ideal) (a0 m c) (a1 m c) := by
  refine (dats m 0 c).arrAt_eq_of_covers 9 _ (by decide +kernel) fun t hf y => ?_
  obtain ⟨r, j, rfl⟩ : ∃ (r : Fin 512) (j : Fin 1024), y = ix2 r j := ⟨y 0, y 1, eq_ix2 y⟩
  rw [after_9]
  have hi : ((cfg0.win 9).blk t).view.emb (ix2 r j) = ix2 (row t r) j := by blk_ext [idx t]
  refine Eq.trans ?_ (congrArg (val_main_v39 (F := Ideal) (a0 m c) (a1 m c)) hi).symm
  exact (aAt_at m c t.val t.isLt r j).trans (ref_a_narrow (a0 m c) (a1 m c) (a2 m c) (a3 m c) (a4 m c) _ j).symm

end Cert.KernelFfn1FwdIdeal.Ffn
end
-- ==== Proof.Ffn1FwdClaim.lean ====
module

public import proofs.«01_k».proof.Defs
public import proofs.«01_k».proof.Proof.Ffn1FwdValue
public import proofs.«01_k».proof.Proof.Gen.KernelFfn1Fwd

@[expose] public section

set_option maxRecDepth 16384

noncomputable section

open Idealize.ShloMosaic Idealize.ShloMosaic.TcCoe Idealize.ShloMosaic.Tactic Idealize.ShloMosaic.StableHlo Idealize.SL.Sem

namespace Cert.KernelFfn1FwdIdeal.Ffn

open Cert.KernelFfn1FwdIdeal.Gen Cert.Ffn
open Cert.ReferenceFfn1FwdIdeal.Read Cert.ReferenceFfn1FwdIdeal.Ffn

set_option maxHeartbeats 8000000 in
/-- The two printings of the call have the same bodies. -/
theorem bodies : Cert.KernelFfn1Fwd.defs₀ (F := Bits) = Cert.KernelFfn1FwdIdeal.defs₀ (F := Bits) := by
  funext p l a
  cases p with
  | tc =>
    match l with
    | 0 => rfl
  | scScalar i => rfl
  | scVector i j => rfl

set_option maxHeartbeats 8000000 in
theorem tables : Cert.KernelFfn1Fwd.defs (F := Bits) = Cert.KernelFfn1FwdIdeal.defs (F := Bits) :=
  congrArg (Pipeline.defs (Cert.KernelFfn1FwdIdeal.pcfgs (F := Bits))) bodies

set_option maxHeartbeats 8000000 in
/-- The layer's forward call, over the device's own floats: it runs to the end, leaves its arguments as they were and every semaphore at zero. -/
theorem frame_kernel : Cert.quiescent_KernelFfn1Fwd := fun m ρ _ => by
  rw [tables]
  exact frame (F := Bits) m ρ

set_option maxHeartbeats 2000000 in
/-- The call's four results are the reference's, whatever the arguments. -/
theorem algebraic : Cert.algebraic_KernelFfn1FwdIdeal_ReferenceFfn1FwdIdeal := by
  intro m ρ m' ρ' hpre hagree
  refine ⟨fun c => val_main_v38 (F := Ideal) (a0 m c) (a1 m c) (a2 m c),
    fun c => val_main_v17 (F := Ideal) (a0 m c) (a1 m c) (a2 m c) (a3 m c),
    fun c => val_main_v32 (F := Ideal) (a0 m c) (a1 m c) (a2 m c) (a3 m c) (a4 m c),
    fun c => val_main_v39 (F := Ideal) (a0 m c) (a1 m c), ?_, ?_⟩
  · exact (θ_run _ _ _).mono (fun r h c => ⟨((h.1 c).1 6).trans (out_u m c), ((h.1 c).1 7).trans (out_f m c), ((h.1 c).1 8).trans (out_ho m c), ((h.1 c).1 9).trans (out_a m c), h.2 c⟩)
      (θ_run_and (run_main (F := Ideal) m ρ) (unchanged (F := Ideal) m ρ))
  · refine (θ_run _ _ _).mono (fun r h c => ?_) (Cert.ReferenceFfn1FwdIdeal.Value.run (F := Ideal) m' ρ')
    obtain ⟨h0, h1, h2, h3, h4⟩ := hagree c
    obtain ⟨e0, e1, e2, e3, e4⟩ := h c
    have k0 : m' ((c.tc : Thread Cert.ReferenceFfn1FwdIdeal.nD Cert.ReferenceFfn1FwdIdeal.τ).loc Cert.ReferenceFfn1FwdIdeal.main_arg0) = a0 m c := h0
    have k1 : m' ((c.tc : Thread Cert.ReferenceFfn1FwdIdeal.nD Cert.ReferenceFfn1FwdIdeal.τ).loc Cert.ReferenceFfn1FwdIdeal.main_arg1) = a1 m c := h1
    have k2 : m' ((c.tc : Thread Cert.ReferenceFfn1FwdIdeal.nD Cert.ReferenceFfn1FwdIdeal.τ).loc Cert.ReferenceFfn1FwdIdeal.main_arg2) = a2 m c := h2
    have k3 : m' ((c.tc : Thread Cert.ReferenceFfn1FwdIdeal.nD Cert.ReferenceFfn1FwdIdeal.τ).loc Cert.ReferenceFfn1FwdIdeal.main_arg3) = a3 m c := h3
    have k4 : m' ((c.tc : Thread Cert.ReferenceFfn1FwdIdeal.nD Cert.ReferenceFfn1FwdIdeal.τ).loc Cert.ReferenceFfn1FwdIdeal.main_arg4) = a4 m c := h4
    rw [val_main_v38_eq, k0, k1, k2] at e0
    rw [val_main_v17_eq, k0, k1, k2, k3] at e1
    rw [val_main_v32_eq, k0, k1, k2, k3, k4] at e2
    rw [val_main_v39_eq, k0, k1] at e3
    exact ⟨e0, e1, e2, e3, e4⟩

end Cert.KernelFfn1FwdIdeal.Ffn
end
-- ==== Proof.Ffn2FwdRun.lean ====
module

public import proofs.«01_k».proof.Proof.Gen.KernelFfn2FwdIdeal.Skeleton
public import Idealize.ShloMosaic.Lib.VecWindow
public import Idealize.ShloMosaic.Lib.Ring
public import Idealize.ShloMosaic.Lib.Tactic

@[expose] public section

set_option maxRecDepth 16384

noncomputable section

namespace Cert.KernelFfn2FwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelFfn2FwdIdeal.Gen

variable {F : FTy → Type} [FloatOps F]

local notation "𝕄" => MT nD τ sig Unit (Elt F) ℕ (UR sig nD τ) ℕ

/-- The first 256 rows of a block of 512. -/
def top {e : EltTy} (X : Vec F S512x1024 e) : Vec F S256x1024 e :=
  VecWindow.window X ![0, 0] S256x1024.size inb_S512x1024_S256x1024_0_0

/-- The last 256 rows of a block of 512. -/
def bot {e : EltTy} (X : Vec F S512x1024 e) : Vec F S256x1024 e :=
  VecWindow.window X ![256, 0] S256x1024.size inb_S512x1024_S256x1024_256_0

/-- What a point writes of `u`, over what the buffer held. -/
def pointU (A : Vec F S512x1024 .bf16) (Wg Wu : Vec F S1x768x1024 .bf16) (d : Vec F S2x1x512x768 .bf16) : Vec F S2x1x512x768 .bf16 :=
  VecWindow.put (VecWindow.put (VecWindow.put (VecWindow.put d
      ![0, 0, 0, 0] S1x1x256x768.size (k0_pay11 (top A) Wg))
      ![1, 0, 0, 0] S1x1x256x768.size (k0_pay12 (top A) Wu))
      ![0, 0, 256, 0] S1x1x256x768.size (k0_pay18 (bot A) Wg))
      ![1, 0, 256, 0] S1x1x256x768.size (k0_pay19 (bot A) Wu)

/-- The block's output before the output norm, accumulated over the hidden chunks, after a point that found `S` in it. -/
def pointAcc (A : Vec F S512x1024 .bf16) (Wg Wu W : Vec F S1x768x1024 .bf16) (S : Vec F S512x1024 .f32) : Vec F S512x1024 .f32 :=
  VecWindow.put (VecWindow.put S ![0, 0] S256x1024.size (k0_pay14 (top S) (k0_pay13 (top A) Wg Wu) W))
    ![256, 0] S256x1024.size (k0_pay1 (k0_pay17 (bot A) Wu) (bot S) (k0_pay20 (bot A) Wg) W)

/-- Filling both halves of the rows of both halves of `u` leaves nothing of what was there. -/
theorem pointU_any (A : Vec F S512x1024 .bf16) (Wg Wu : Vec F S1x768x1024 .bf16) (d d' : Vec F S2x1x512x768 .bf16) :
    pointU A Wg Wu d = pointU A Wg Wu d' := by
  funext y
  have h0 : (y 0).val < 2 := (y 0).isLt
  have h1 : (y 1).val < 1 := (y 1).isLt
  have h2 : (y 2).val < 512 := (y 2).isLt
  have h3 : (y 3).val < 768 := (y 3).isLt
  unfold pointU VecWindow.put
  split
  · rfl
  · next ha =>
    split
    · rfl
    · next hb =>
      split
      · rfl
      · next hc =>
        have hlt : (y 2).val < 256 := by
          by_contra hge
          by_cases hz : (y 0).val = 0
          · exact hb fun | 0 => ⟨Nat.zero_le _, by show _ < 0 + 1; omega⟩ | 1 => ⟨Nat.zero_le _, h1⟩ | 2 => ⟨by show 256 ≤ _; omega, h2⟩ | 3 => ⟨Nat.zero_le _, by show _ < 0 + 768; omega⟩
          · exact ha fun | 0 => ⟨by show 1 ≤ _; omega, h0⟩ | 1 => ⟨Nat.zero_le _, h1⟩ | 2 => ⟨by show 256 ≤ _; omega, h2⟩ | 3 => ⟨Nat.zero_le _, by show _ < 0 + 768; omega⟩
        have hz : (y 0).val = 0 := by
          by_contra hz
          exact hc fun | 0 => ⟨by show 1 ≤ _; omega, h0⟩ | 1 => ⟨Nat.zero_le _, h1⟩ | 2 => ⟨Nat.zero_le _, by show _ < 0 + 256; omega⟩ | 3 => ⟨Nat.zero_le _, by show _ < 0 + 768; omega⟩
        rw [dif_pos, dif_pos] <;> exact fun | 0 => ⟨Nat.zero_le _, by show _ < 0 + 1; omega⟩ | 1 => ⟨Nat.zero_le _, h1⟩ | 2 => ⟨Nat.zero_le _, by show _ < 0 + 256; omega⟩ | 3 => ⟨Nat.zero_le _, by show _ < 0 + 768; omega⟩

/-- Filling both halves of an accumulator leaves nothing of what was there. -/
theorem put_both (S S' : Vec F S512x1024 .f32) (w w' : Vec F S256x1024 .f32) :
    VecWindow.put (VecWindow.put S ![0, 0] S256x1024.size w) ![256, 0] S256x1024.size w'
      = VecWindow.put (VecWindow.put S' ![0, 0] S256x1024.size w) ![256, 0] S256x1024.size w' := by
  funext y
  have h0 : (y 0).val < 512 := (y 0).isLt
  have h1 : (y 1).val < 1024 := (y 1).isLt
  unfold VecWindow.put
  split
  · rfl
  · next h =>
    have hlt : (y 0).val < 256 := by
      by_contra hge
      exact h fun | 0 => ⟨by show 256 ≤ _; omega, h0⟩ | 1 => ⟨Nat.zero_le _, by show _ < 0 + 1024; omega⟩
    rw [dif_pos, dif_pos] <;> exact fun | 0 => ⟨Nat.zero_le _, by show _ < 0 + 256; omega⟩ | 1 => ⟨Nat.zero_le _, by show _ < 0 + 1024; omega⟩

/-- A load of the whole accumulator after both halves were stored. -/
theorem readCov_both (m : Memref sig .tc .vmem S512x1024 .f32) (w w' : Vec F S256x1024 .f32) (S : Vec F S512x1024 .f32) :
    m.view.readCov (Val := Elt F) [⟨Rect.unit ![256, 0] ![256, 1024] inb_S512x1024_S256x1024_256_0, w'⟩,
        ⟨Rect.unit ![0, 0] ![256, 1024] inb_S512x1024_S256x1024_0_0, w⟩] (Rect.unit ![0, 0] ![512, 1024] inb_S512x1024_S512x1024_0_0).toLoadRect
      = VecWindow.put (VecWindow.put S ![0, 0] S256x1024.size w) ![256, 0] S256x1024.size w' := by
  refine (View.readAt_full m.view _ _).trans ?_
  rw [View.read_writes_cons_put _ _ _ _ _ rfl, View.read_writes_cons_put _ _ _ _ _ rfl]
  exact put_both _ _ _ _

/-- The last rows do not change when the first are replaced. -/
theorem bot_put (S : Vec F S512x1024 .f32) (w : Vec F S256x1024 .f32) :
    bot (VecWindow.put S ![0, 0] S256x1024.size w) = bot S :=
  VecWindow.window_put_of_disjoint S _ _ _ _ _ _ (0 : Fin 2) (.inr (Nat.le_refl _))

/-- A load of the first rows after the whole was stored. -/
theorem readCov_top {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![0, 0] ![256, 1024] inb_S512x1024_S256x1024_0_0).toLoadRect = top S :=
  (View.readAt_unit m.view _ _ rfl _).trans (congrArg top (View.read_writes_full m.view _ _ _ _))

/-- A load of the last rows after the whole was stored. -/
theorem readCov_bot {e : EltTy} (m : Memref sig .tc .vmem S512x1024 e) (S : Vec F S512x1024 e) :
    m.view.readCov (Val := Elt F) [⟨Rect.unit ![0, 0] ![512, 1024] inb_S512x1024_S512x1024_0_0, S⟩]
      (Rect.unit ![256, 0] ![256, 1024] inb_S512x1024_S256x1024_256_0).toLoadRect = bot S :=
  (View.readAt_unit m.view _ _ rfl _).trans (congrArg bot (View.read_writes_full m.view _ _ _ _))

/-- A load of a row after it was stored. -/
theorem readCov_row (m : Memref sig .tc .vmem S1x1024 .f32) (S : Vec F S1x1024 .f32) :
    m.view.readCov (Val := Elt F) [⟨Rect.unit ![0, 0] ![1, 1024] inb_S1x1024_S1x1024_0_0, S⟩]
      (Rect.unit ![0, 0] ![1, 1024] inb_S1x1024_S1x1024_0_0).toLoadRect = S :=
  (View.readAt_full m.view _ _).trans (View.read_writes_full m.view _ _ _ _)

/-- A load of the last rows after the whole and then the first rows were stored. -/
theorem readCov_bot_top (m : Memref sig .tc .vmem S512x1024 .f32) (w : Vec F S256x1024 .f32) (S : Vec F S512x1024 .f32) :
    m.view.readCov (Val := Elt F) [⟨Rect.unit ![0, 0] ![256, 1024] inb_S512x1024_S256x1024_0_0, w⟩,
        ⟨Rect.unit ![0, 0] ![512, 1024] inb_S512x1024_S512x1024_0_0, S⟩] (Rect.unit ![256, 0] ![256, 1024] inb_S512x1024_S256x1024_256_0).toLoadRect
      = bot S := by
  refine (View.readAt_unit m.view _ _ rfl _).trans ?_
  rw [View.read_writes_cons_put _ _ _ _ _ rfl]
  exact (bot_put _ _).trans (congrArg bot (View.read_writes_full m.view _ _ _ _))

theorem readAt_top {e : EltTy} (m : Memref sig .tc .vmem S512x1024 e) (f : BufTy.Contents (Elt F) m.view.ty) :
    View.readAt (Elt F) m.view (Rect.unit (s := S512x1024) ![0, 0] S256x1024.size inb_S512x1024_S256x1024_0_0).toLoadRect f = top (m.view.read (Elt F) f) :=
  View.readAt_unit m.view f _ rfl _

theorem readAt_bot {e : EltTy} (m : Memref sig .tc .vmem S512x1024 e) (f : BufTy.Contents (Elt F) m.view.ty) :
    View.readAt (Elt F) m.view (Rect.unit (s := S512x1024) ![256, 0] S256x1024.size inb_S512x1024_S256x1024_256_0).toLoadRect f = bot (m.view.read (Elt F) f) :=
  View.readAt_unit m.view f _ rfl _

set_option maxHeartbeats 4000000 in
/-- The body at the first point of a block of rows. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S2x1x512x768 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (arg15 : Memref sig .tc .vmem S512x1024 .f32) (harg15 : arg15.IsWhole) (hc1 : k0_cond1 i = 1#1) (hc2 : ¬ k0_cond2 i = 1#1)
    (x0 : Vec F S512x1024 .f32) (x1 : Vec F S1x1024 .f32) (x2 x3 x4 : Vec F S1x768x1024 .bf16) (x5 : Vec F S1x1024 .f32) (x6 : Vec F S512x1024 .f32)  (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg12 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointU (k0_pay6 x0 x1) x2 x3 du) ∗ owns (c : Thread nD τ) arg12 fullShare ((k0_pay6 x0 x1)) ∗ owns (c : Thread nD τ) arg15 fullShare (pointAcc (k0_pay6 x0 x1) x2 x3 x4 k0_pay7)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_ffn2_fwd_loss_eq_skeleton]; unfold cc0_ffn2_fwd_loss_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e10, %f10, -, H10⟩, ⟨%e13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine Eq.trans ?_ (pointU_any (k0_pay6 x0 x1) x2 x3 (arg9.view.read (Elt F) f7) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread]
      all_goals rfl
    isplitl [H10]
    · iexists _; isplitr; swap; · iexact H10
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread]
      all_goals rfl
    iexists _; isplitr; swap; · iexact H13
    ipureintro
    sl_unfold_run_names
    rw [View.read_writes_cons_put _ _ _ _ _ rfl, View.read_writes_cons_put _ _ _ _ _ rfl]
    simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread]
    all_goals rfl

set_option maxHeartbeats 4000000 in
/-- The body at a point that is neither the first nor the last of its block of rows. -/
theorem run_mid (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S2x1x512x768 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (arg15 : Memref sig .tc .vmem S512x1024 .f32) (harg15 : arg15.IsWhole) (hc1 : ¬ k0_cond1 i = 1#1) (hc2 : ¬ k0_cond2 i = 1#1)
    (x0 : Vec F S512x1024 .f32) (x1 : Vec F S1x1024 .f32) (x2 x3 x4 : Vec F S1x768x1024 .bf16) (x5 : Vec F S1x1024 .f32) (x6 : Vec F S512x1024 .f32) (A : Vec F S512x1024 .bf16) (S : Vec F S512x1024 .f32) (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg12 fullShare A ∗ owns (c : Thread nD τ) arg15 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointU A x2 x3 du) ∗ owns (c : Thread nD τ) arg12 fullShare (A) ∗ owns (c : Thread nD τ) arg15 fullShare (pointAcc A x2 x3 x4 S)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_ffn2_fwd_loss_eq_skeleton]; unfold cc0_ffn2_fwd_loss_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%f10, %hf10, H10⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine Eq.trans ?_ (pointU_any A x2 x3 (arg9.view.read (Elt F) f7) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      all_goals rfl
    isplitl [H10]
    · iexists _; isplitr; swap; · iexact H10
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      all_goals rfl
    iexists _; isplitr; swap; · iexact H13
    ipureintro
    sl_unfold_run_names
    rw [View.read_writes_cons_put _ _ _ _ _ rfl, View.read_writes_cons_put _ _ _ _ _ rfl, View.writes_nil]
    simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
    all_goals rfl

set_option maxHeartbeats 4000000 in
/-- The body at the last point of a block of rows. -/
theorem run_last (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1x768x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S2x1x512x768 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S8x128 .f32) (harg14 : arg14.IsWhole) (arg15 : Memref sig .tc .vmem S512x1024 .f32) (harg15 : arg15.IsWhole) (hc1 : ¬ k0_cond1 i = 1#1) (hc2 : k0_cond2 i = 1#1)
    (x0 : Vec F S512x1024 .f32) (x1 : Vec F S1x1024 .f32) (x2 x3 x4 : Vec F S1x768x1024 .bf16) (x5 : Vec F S1x1024 .f32) (x6 : Vec F S512x1024 .f32) (A : Vec F S512x1024 .bf16) (S : Vec F S512x1024 .f32) (du : Vec F S2x1x512x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare A ∗ (∃ d, owns (c : Thread nD τ) arg13 fullShare d) ∗ (∃ d, owns (c : Thread nD τ) arg14 fullShare d) ∗ owns (c : Thread nD τ) arg15 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (pointU A x2 x3 du) ∗ owns (c : Thread nD τ) arg10 fullShare ((pointAcc A x2 x3 x4 S)) ∗ owns (c : Thread nD τ) arg11 fullShare (k0_pay2 (pointAcc A x2 x3 x4 S) x0 x5) ∗ owns (c : Thread nD τ) arg12 fullShare (A) ∗ owns (c : Thread nD τ) arg13 fullShare (k0_pay4 (pointAcc A x2 x3 x4 S) x0 x5 x6) ∗ owns (c : Thread nD τ) arg14 fullShare (k0_pay5 (pointAcc A x2 x3 x4 S) x0 x5 x6) ∗ owns (c : Thread nD τ) arg15 fullShare (pointAcc A x2 x3 x4 S)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_ffn2_fwd_loss_eq_skeleton]; unfold cc0_ffn2_fwd_loss_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, ⟨%f10, %hf10, H10⟩, ⟨%e11, %f11, -, H11⟩, ⟨%e12, %f12, -, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine Eq.trans ?_ (pointU_any A x2 x3 (arg9.view.read (Elt F) f7) du)
      sl_unfold_run_names
      rw [View.read_writes_cons_put _ _ _ _ _ rfl, View.read_writes_cons_put _ _ _ _ _ rfl, View.read_writes_cons_put _ _ _ _ _ rfl, View.read_writes_cons_put _ _ _ _ _ rfl, View.writes_nil]
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      all_goals rfl
    isplitl [H8]
    · iexists _; isplitr; swap; · iexact H8
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      rw [readCov_both arg15 _ _ S]
      all_goals rfl
    isplitl [H9]
    · iexists _; isplitr; swap; · iexact H9
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      rw [readCov_both arg15 _ _ S]
      all_goals rfl
    isplitl [H10]
    · iexists _; isplitr; swap; · iexact H10
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      all_goals rfl
    isplitl [H11]
    · iexists _; isplitr; swap; · iexact H11
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      rw [readCov_both arg15 _ _ S]
      all_goals rfl
    isplitl [H12]
    · iexists _; isplitr; swap; · iexact H12
      ipureintro
      sl_unfold_run_names
      simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
      rw [readCov_both arg15 _ _ S]
      all_goals rfl
    iexists _; isplitr; swap; · iexact H13
    ipureintro
    sl_unfold_run_names
    rw [View.read_writes_cons_put _ _ _ _ _ rfl, View.read_writes_cons_put _ _ _ _ _ rfl, View.writes_nil]
    simp only [readAt_top arg12, readAt_bot arg12, readAt_top arg15, readAt_bot arg15, readCov_top, readCov_bot, readCov_row, readCov_bot_top arg15, View.readAt_full arg2.view, View.readAt_full arg3.view, View.readAt_full arg4.view, View.readAt_full arg5.view, View.readAt_full arg6.view, View.readAt_full arg7.view, View.readAt_full arg8.view, View.readAt_full arg10.view, View.readAt_full arg11.view, View.readAt_full arg12.view, View.readAt_full arg13.view, View.readAt_full arg14.view, View.readAt_full arg15.view, View.read_writes_full arg10.view, View.read_writes_full arg11.view, View.read_writes_full arg12.view, View.read_writes_full arg13.view, View.read_writes_full arg14.view, View.read_writes_full arg15.view, View.read_writes_cons_put _ _ _ _ _ rfl, bot_put, View.writes_nil, harg2.read_unread, harg3.read_unread, harg4.read_unread, harg5.read_unread, harg6.read_unread, harg7.read_unread, harg8.read_unread, hf10, hf13]
    all_goals rfl

end Cert.KernelFfn2FwdIdeal.Ffn
end
-- ==== Proof.Ffn2FwdFrame.lean ====
module

public import proofs.«01_k».proof.Proof.Ffn2FwdRun
public import proofs.«01_k».proof.Proof.Gen.KernelFfn2FwdIdeal.Frame
public import Idealize.ShloMosaic.Lib.Pipeline.FrameBody
public import Idealize.ShloMosaic.Lib.Pipeline.TableIdle
public import Idealize.ShloMosaic.Lib.WordCmp
public import Idealize.ShloMosaic.Lib.Claim

@[expose] public section

set_option maxRecDepth 16384

noncomputable section

namespace Cert.KernelFfn2FwdIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfn2FwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a block of rows takes the input norm and clears the accumulator. -/
theorem cond1_iff : ∀ t : Fin cfg0.N, k0_cond1 (grid0.coords t) = 1#1 ↔ t.val % 4 = 0 := by decide +kernel
/-- The last point of a block of rows takes the output norm. -/
theorem cond2_iff : ∀ t : Fin cfg0.N, k0_cond2 (grid0.coords t) = 1#1 ↔ t.val % 4 = 3 := by decide +kernel

theorem idle_8 : ∀ t : Fin cfg0.N, cfg0.idle 8 (cfg0.grid.coords t) = !decide (t.val % 4 = 3) := by decide +kernel
theorem idle_9 : ∀ t : Fin cfg0.N, cfg0.idle 9 (cfg0.grid.coords t) = !decide (t.val % 4 = 3) := by decide +kernel
theorem idle_10 : ∀ t : Fin cfg0.N, cfg0.idle 10 (cfg0.grid.coords t) = !decide (t.val % 4 = 0) := by decide +kernel
theorem idle_11 : ∀ t : Fin cfg0.N, cfg0.idle 11 (cfg0.grid.coords t) = !decide (t.val % 4 = 3) := by decide +kernel
theorem idle_12 : ∀ t : Fin cfg0.N, cfg0.idle 12 (cfg0.grid.coords t) = !decide (t.val % 4 = 3) := by decide +kernel
theorem flush_8 (t : Fin cfg0.N) : (cfg0.win 8).flush t = decide (t.val % 4 = 3) := by
  rw [Bool.eq_iff_iff, decide_eq_true_iff]; exact flush0_8 t
theorem flush_9 (t : Fin cfg0.N) : (cfg0.win 9).flush t = decide (t.val % 4 = 3) := by
  rw [Bool.eq_iff_iff, decide_eq_true_iff]; exact flush0_9 t
theorem flush_10 (t : Fin cfg0.N) : (cfg0.win 10).flush t = decide (t.val % 4 = 3) := by
  rw [Bool.eq_iff_iff, decide_eq_true_iff]; exact flush0_10 t
theorem flush_11 (t : Fin cfg0.N) : (cfg0.win 11).flush t = decide (t.val % 4 = 3) := by
  rw [Bool.eq_iff_iff, decide_eq_true_iff]; exact flush0_11 t
theorem flush_12 (t : Fin cfg0.N) : (cfg0.win 12).flush t = decide (t.val % 4 = 3) := by
  rw [Bool.eq_iff_iff, decide_eq_true_iff]; exact flush0_12 t

theorem fresh_10 (n : ℕ) (h : n ≤ cfg0.N) : cfg0.fresh 10 n = decide (n % 4 = 0) :=
  Pipeline.Cfg.fresh_tab cfg0 10 (fun n => decide (n % 4 = 0)) rfl (fun t => by
    rw [flush_10, idle_10]; revert t; decide +kernel) n h

/-- The normalized input of the block of rows a point is in. -/
def aAt (c : Dev nD) : (n : ℕ) → n < cfg0.N → Vec F S512x1024 .bf16
  | 0, h => k0_pay6 (iblk m c 0 ⟨0, h⟩) (iblk m c 1 ⟨0, h⟩)
  | n + 1, h => if (n + 1) % 4 = 0 then k0_pay6 (iblk m c 0 ⟨n + 1, h⟩) (iblk m c 1 ⟨n + 1, h⟩)
    else aAt c n (Nat.lt_of_succ_lt h)

theorem aAt_first (c : Dev nD) (t : Fin cfg0.N) (h0 : t.val % 4 = 0) :
    aAt m c t.val t.isLt = k0_pay6 (iblk m c 0 t) (iblk m c 1 t) := by
  obtain ⟨n, hn⟩ := t
  cases n with
  | zero => rfl
  | succ n => dsimp only at h0 ⊢; rw [aAt, if_pos h0]

theorem aAt_later (c : Dev nD) (t : Fin cfg0.N) (h0 : ¬ t.val % 4 = 0) :
    aAt m c t.val t.isLt = aAt m c (t.val - 1) (Nat.lt_of_le_of_lt (Nat.sub_le _ _) t.isLt) := by
  obtain ⟨n, hn⟩ := t
  cases n with
  | zero => exact absurd rfl h0
  | succ n => dsimp only at h0 ⊢; rw [aAt, if_neg h0]; rfl

/-- A point's step of the accumulated output of the block before the output norm. -/
def accStep (c : Dev nD) (t : Fin cfg0.N) (S : Vec F S512x1024 .f32) : Vec F S512x1024 .f32 :=
  pointAcc (aAt m c t.val t.isLt) (iblk m c 2 t) (iblk m c 3 t) (iblk m c 4 t) S

/-- The accumulated output of the block before the output norm, as a point leaves it. -/
def accAt (c : Dev nD) : (n : ℕ) → n < cfg0.N → Vec F S512x1024 .f32
  | 0, h => accStep m c ⟨0, h⟩ k0_pay7
  | n + 1, h => accStep m c ⟨n + 1, h⟩ (if (n + 1) % 4 = 0 then k0_pay7 else accAt c n (Nat.lt_of_succ_lt h))

theorem accAt_first (c : Dev nD) (t : Fin cfg0.N) (h0 : t.val % 4 = 0) : accAt m c t.val t.isLt = accStep m c t k0_pay7 := by
  obtain ⟨n, hn⟩ := t
  cases n with
  | zero => rfl
  | succ n => dsimp only at h0 ⊢; rw [accAt, if_pos h0]

theorem accAt_later (c : Dev nD) (t : Fin cfg0.N) (h0 : ¬ t.val % 4 = 0) :
    accAt m c t.val t.isLt = accStep m c t (accAt m c (t.val - 1) (Nat.lt_of_le_of_lt (Nat.sub_le _ _) t.isLt)) := by
  obtain ⟨n, hn⟩ := t
  cases n with
  | zero => exact absurd rfl h0
  | succ n => dsimp only at h0 ⊢; rw [accAt, if_neg h0]; rfl

/-- The buffer carried from point to point. -/
abbrev carried : Memref sig .tc .vmem S512x1024 .f32 := Memref.whole cc0_scratch0

theorem PhiA_eq (c : Dev nD) :
    (Pipeline.ΦA spec0 c : sProp 𝕄) = iprop((∃ d, owns (c : Thread nD τ) carried fullShare d) ∗ (∃ r, prngReg c r)) := by
  unfold Pipeline.ΦA; rw [scopedRest0_eq]; simp only [carried, owns_whole]; try rfl

/-- What holds before a point: the carried buffer has what the point before left in it. -/
def Phi (c : Dev nD) : (n : ℕ) → n ≤ cfg0.N → sProp 𝕄
  | 0, _ => Pipeline.ΦA spec0 c
  | n + 1, hn => iprop(owns (c : Thread nD τ) carried fullShare (accAt m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) carried fullShare (accAt m c n hn) ∗ (∃ r, prngReg c r)) := rfl

theorem Phi_pos (c : Dev nD) (n : ℕ) (h : n ≤ cfg0.N) (hz : n ≠ 0) :
    Phi m c n h = iprop(owns (c : Thread nD τ) carried fullShare (accAt m c (n - 1) (by omega)) ∗ (∃ r, prngReg c r)) := by
  cases n with
  | zero => exact absurd rfl hz
  | succ n => rfl

/-- What the run is over: the arrays as the region finds them, and what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => pointU (aAt m c t.val t.isLt) (iblk m c 2 t) (iblk m c 3 t) (constant S2x1x512x768 .bf16 0x0000#16)
    | ⟨8, _⟩ => accAt m c t.val t.isLt
    | ⟨9, _⟩ => k0_pay2 (accAt m c t.val t.isLt) (iblk m c 0 t) (iblk m c 5 t)
    | ⟨10, _⟩ => aAt m c t.val t.isLt
    | ⟨11, _⟩ => k0_pay4 (accAt m c t.val t.isLt) (iblk m c 0 t) (iblk m c 5 t) (iblk m c 6 t)
    | ⟨12, _⟩ => k0_pay5 (accAt m c t.val t.isLt) (iblk m c 0 t) (iblk m c 5 t) (iblk m c 6 t)
    | ⟨_ + 13, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = pointU (aAt m c t.val t.isLt) (iblk m c 2 t) (iblk m c 3 t) (constant S2x1x512x768 .bf16 0x0000#16) := by dsimp only [dats]
theorem after_8 (c : Dev nD) (t : Fin cfg0.N) : (dats m 0 c).after 8 t = accAt m c t.val t.isLt := by dsimp only [dats]
theorem after_9 (c : Dev nD) (t : Fin cfg0.N) : (dats m 0 c).after 9 t = k0_pay2 (accAt m c t.val t.isLt) (iblk m c 0 t) (iblk m c 5 t) := by dsimp only [dats]
theorem after_10 (c : Dev nD) (t : Fin cfg0.N) : (dats m 0 c).after 10 t = aAt m c t.val t.isLt := by dsimp only [dats]
theorem after_11 (c : Dev nD) (t : Fin cfg0.N) : (dats m 0 c).after 11 t = k0_pay4 (accAt m c t.val t.isLt) (iblk m c 0 t) (iblk m c 5 t) (iblk m c 6 t) := by dsimp only [dats]
theorem after_12 (c : Dev nD) (t : Fin cfg0.N) : (dats m 0 c).after 12 t = k0_pay5 (accAt m c t.val t.isLt) (iblk m c 0 t) (iblk m c 5 t) (iblk m c 6 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- A point finds in the normalized input what the point before left. -/
theorem before_10 (c : Dev nD) (t : Fin cfg0.N) (h0 : ¬ t.val % 4 = 0) (d) :
    (dats m 0 c).before 10 t d = aAt m c (t.val - 1) (Nat.lt_of_le_of_lt (Nat.sub_le _ _) t.isLt) := by
  have hN : t.val < 32 := lt_of_lt_of_eq t.isLt (show cfg0.N = 32 from N_0)
  rw [Dat.before_out_traj (dats m 0 c) 10 rfl (fun _ _ => rfl) (fun t ht hi hf => by
      rw [after_10, after_10]; exact aAt_later m c t (by simpa using (idle_10 t).symm.trans hi)) t.val t rfl d,
    fresh_10 t.val (Nat.le_of_lt t.isLt), if_neg (by simp only [decide_eq_true_eq]; omega), after_10]
abbrev stage_0 (t : Fin cfg0.N) : Memref sig .tc .vmem S512x1024 .f32 := win0_0.stage (cfg0.slots t 0)
abbrev stage_1 (t : Fin cfg0.N) : Memref sig .tc .vmem S1x1024 .f32 := win0_1.stage (cfg0.slots t 1)
abbrev stage_2 (t : Fin cfg0.N) : Memref sig .tc .vmem S1x768x1024 .bf16 := win0_2.stage (cfg0.slots t 2)
abbrev stage_3 (t : Fin cfg0.N) : Memref sig .tc .vmem S1x768x1024 .bf16 := win0_3.stage (cfg0.slots t 3)
abbrev stage_4 (t : Fin cfg0.N) : Memref sig .tc .vmem S1x768x1024 .bf16 := win0_4.stage (cfg0.slots t 4)
abbrev stage_5 (t : Fin cfg0.N) : Memref sig .tc .vmem S1x1024 .f32 := win0_5.stage (cfg0.slots t 5)
abbrev stage_6 (t : Fin cfg0.N) : Memref sig .tc .vmem S512x1024 .f32 := win0_6.stage (cfg0.slots t 6)
abbrev stage_7 (t : Fin cfg0.N) : Memref sig .tc .vmem S2x1x512x768 .bf16 := win0_7.stage (cfg0.slots t 7)
abbrev stage_8 (t : Fin cfg0.N) : Memref sig .tc .vmem S512x1024 .f32 := win0_8.stage (cfg0.slots t 8)
abbrev stage_9 (t : Fin cfg0.N) : Memref sig .tc .vmem S512x1024 .f32 := win0_9.stage (cfg0.slots t 9)
abbrev stage_10 (t : Fin cfg0.N) : Memref sig .tc .vmem S512x1024 .bf16 := win0_10.stage (cfg0.slots t 10)
abbrev stage_11 (t : Fin cfg0.N) : Memref sig .tc .vmem S512x1024 .f32 := win0_11.stage (cfg0.slots t 11)
abbrev stage_12 (t : Fin cfg0.N) : Memref sig .tc .vmem S8x128 .f32 := win0_12.stage (cfg0.slots t 12)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d))
    ∗ (∃ d, owns (c : Thread nD τ) (stage_5 t) fullShare ((dats m 0 c).before 5 t d))
    ∗ (∃ d, owns (c : Thread nD τ) (stage_6 t) fullShare ((dats m 0 c).before 6 t d))
    ∗ (∃ d, owns (c : Thread nD τ) (stage_7 t) fullShare ((dats m 0 c).before 7 t d))
    ∗ (∃ d, owns (c : Thread nD τ) (stage_8 t) fullShare ((dats m 0 c).before 8 t d))
    ∗ (∃ d, owns (c : Thread nD τ) (stage_9 t) fullShare ((dats m 0 c).before 9 t d))
    ∗ (∃ d, owns (c : Thread nD τ) (stage_10 t) fullShare ((dats m 0 c).before 10 t d))
    ∗ (∃ d, owns (c : Thread nD τ) (stage_11 t) fullShare ((dats m 0 c).before 11 t d))
    ∗ (∃ d, owns (c : Thread nD τ) (stage_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ owns (c : Thread nD τ) (stage_4 t) fullShare ((dats m 0 c).after 4 t)
    ∗ owns (c : Thread nD τ) (stage_5 t) fullShare ((dats m 0 c).after 5 t)
    ∗ owns (c : Thread nD τ) (stage_6 t) fullShare ((dats m 0 c).after 6 t)
    ∗ owns (c : Thread nD τ) (stage_7 t) fullShare ((dats m 0 c).after 7 t)
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_8_live (c : Dev nD) (t : Fin cfg0.N) (h : cfg0.idle 8 (cfg0.grid.coords t) = false ∨ (cfg0.win 8).flush t = true) :
    (dats m 0 c).leavesExact 8 t = owns (c : Thread nD τ) (stage_8 t) fullShare ((dats m 0 c).after 8 t) := by
  unfold Dat.leavesExact
  rcases h with h | h
  · rw [h]
  · rw [h]; split <;> rfl

theorem leaves_8_idle (c : Dev nD) (t : Fin cfg0.N) (hi : cfg0.idle 8 (cfg0.grid.coords t) = true) (hf : (cfg0.win 8).flush t = false) :
    (dats m 0 c).leavesExact 8 t = iprop(∃ d, owns (c : Thread nD τ) (stage_8 t) fullShare ((dats m 0 c).before 8 t d)) :=
  Dat.leavesExact_idle (dats m 0 c) 8 t hi hf

theorem leaves_9_live (c : Dev nD) (t : Fin cfg0.N) (h : cfg0.idle 9 (cfg0.grid.coords t) = false ∨ (cfg0.win 9).flush t = true) :
    (dats m 0 c).leavesExact 9 t = owns (c : Thread nD τ) (stage_9 t) fullShare ((dats m 0 c).after 9 t) := by
  unfold Dat.leavesExact
  rcases h with h | h
  · rw [h]
  · rw [h]; split <;> rfl

theorem leaves_9_idle (c : Dev nD) (t : Fin cfg0.N) (hi : cfg0.idle 9 (cfg0.grid.coords t) = true) (hf : (cfg0.win 9).flush t = false) :
    (dats m 0 c).leavesExact 9 t = iprop(∃ d, owns (c : Thread nD τ) (stage_9 t) fullShare ((dats m 0 c).before 9 t d)) :=
  Dat.leavesExact_idle (dats m 0 c) 9 t hi hf

theorem leaves_10_live (c : Dev nD) (t : Fin cfg0.N) (h : cfg0.idle 10 (cfg0.grid.coords t) = false ∨ (cfg0.win 10).flush t = true) :
    (dats m 0 c).leavesExact 10 t = owns (c : Thread nD τ) (stage_10 t) fullShare ((dats m 0 c).after 10 t) := by
  unfold Dat.leavesExact
  rcases h with h | h
  · rw [h]
  · rw [h]; split <;> rfl

theorem leaves_10_idle (c : Dev nD) (t : Fin cfg0.N) (hi : cfg0.idle 10 (cfg0.grid.coords t) = true) (hf : (cfg0.win 10).flush t = false) :
    (dats m 0 c).leavesExact 10 t = iprop(∃ d, owns (c : Thread nD τ) (stage_10 t) fullShare ((dats m 0 c).before 10 t d)) :=
  Dat.leavesExact_idle (dats m 0 c) 10 t hi hf

theorem leaves_11_live (c : Dev nD) (t : Fin cfg0.N) (h : cfg0.idle 11 (cfg0.grid.coords t) = false ∨ (cfg0.win 11).flush t = true) :
    (dats m 0 c).leavesExact 11 t = owns (c : Thread nD τ) (stage_11 t) fullShare ((dats m 0 c).after 11 t) := by
  unfold Dat.leavesExact
  rcases h with h | h
  · rw [h]
  · rw [h]; split <;> rfl

theorem leaves_11_idle (c : Dev nD) (t : Fin cfg0.N) (hi : cfg0.idle 11 (cfg0.grid.coords t) = true) (hf : (cfg0.win 11).flush t = false) :
    (dats m 0 c).leavesExact 11 t = iprop(∃ d, owns (c : Thread nD τ) (stage_11 t) fullShare ((dats m 0 c).before 11 t d)) :=
  Dat.leavesExact_idle (dats m 0 c) 11 t hi hf

theorem leaves_12_live (c : Dev nD) (t : Fin cfg0.N) (h : cfg0.idle 12 (cfg0.grid.coords t) = false ∨ (cfg0.win 12).flush t = true) :
    (dats m 0 c).leavesExact 12 t = owns (c : Thread nD τ) (stage_12 t) fullShare ((dats m 0 c).after 12 t) := by
  unfold Dat.leavesExact
  rcases h with h | h
  · rw [h]
  · rw [h]; split <;> rfl

theorem leaves_12_idle (c : Dev nD) (t : Fin cfg0.N) (hi : cfg0.idle 12 (cfg0.grid.coords t) = true) (hf : (cfg0.win 12).flush t = false) :
    (dats m 0 c).leavesExact 12 t = iprop(∃ d, owns (c : Thread nD τ) (stage_12 t) fullShare ((dats m 0 c).before 12 t d)) :=
  Dat.leavesExact_idle (dats m 0 c) 12 t hi hf

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before_0, before_1, before_2, before_3, before_4, before_5, before_6]
  rw [show (dats m 0 c).Φ t.succ = Phi m c (t.val + 1) t.isLt from rfl, Phi_succ, Phi_castSucc m c t,
    show (dats m 0 c).owesAt () t.succ = (dats m 0 c).owesAt () t.castSucc from rfl,
    after_0, after_1, after_2, after_3, after_4, after_5, after_6, after_7]
  by_cases h0 : t.val % 4 = 0
  · have hc1 := (cond1_iff t).mpr h0
    have hc2 : ¬ k0_cond2 (grid0.coords t) = 1#1 := fun h => by have := (cond2_iff t).mp h; omega
    by_cases hz : t.val = 0
    · rw [leaves_8_idle m c t (by rw [idle_8]; simp only [Bool.not_eq_true', decide_eq_false_iff_not]; omega) (by rw [flush_8]; simp only [decide_eq_false_iff_not]; omega), leaves_9_idle m c t (by rw [idle_9]; simp only [Bool.not_eq_true', decide_eq_false_iff_not]; omega) (by rw [flush_9]; simp only [decide_eq_false_iff_not]; omega), leaves_10_live m c t (.inl (by rw [idle_10]; simp only [Bool.not_eq_false', decide_eq_true_eq]; omega)), leaves_11_idle m c t (by rw [idle_11]; simp only [Bool.not_eq_true', decide_eq_false_iff_not]; omega) (by rw [flush_11]; simp only [decide_eq_false_iff_not]; omega), leaves_12_idle m c t (by rw [idle_12]; simp only [Bool.not_eq_true', decide_eq_false_iff_not]; omega) (by rw [flush_12]; simp only [decide_eq_false_iff_not]; omega),
        after_10, Phi_zero m c _ _ hz, PhiA_eq, accAt_first m c t h0]
      unfold accStep
      rw [aAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c (grid0.coords t) _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t)  (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H10]; · iexists _; iexact H10
      isplitl [HS]; · iexact HS
      iintro ⟨H0, H1, H2, H3, H4, H5, H6, H7, H10, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexact H10
      isplitl [H11]; · iexists d11; iexact H11
      iexists d12; iexact H12
    · rw [leaves_8_idle m c t (by rw [idle_8]; simp only [Bool.not_eq_true', decide_eq_false_iff_not]; omega) (by rw [flush_8]; simp only [decide_eq_false_iff_not]; omega), leaves_9_idle m c t (by rw [idle_9]; simp only [Bool.not_eq_true', decide_eq_false_iff_not]; omega) (by rw [flush_9]; simp only [decide_eq_false_iff_not]; omega), leaves_10_live m c t (.inl (by rw [idle_10]; simp only [Bool.not_eq_false', decide_eq_true_eq]; omega)), leaves_11_idle m c t (by rw [idle_11]; simp only [Bool.not_eq_true', decide_eq_false_iff_not]; omega) (by rw [flush_11]; simp only [decide_eq_false_iff_not]; omega), leaves_12_idle m c t (by rw [idle_12]; simp only [Bool.not_eq_true', decide_eq_false_iff_not]; omega) (by rw [flush_12]; simp only [decide_eq_false_iff_not]; omega),
        after_10, Phi_pos m c _ _ hz, accAt_first m c t h0]
      unfold accStep
      rw [aAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c (grid0.coords t) _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t)  (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H10]; · iexists _; iexact H10
      isplitl [HS]; · iexists _; iexact HS
      iintro ⟨H0, H1, H2, H3, H4, H5, H6, H7, H10, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexact H10
      isplitl [H11]; · iexists d11; iexact H11
      iexists d12; iexact H12
  · have hz : ¬ t.val = 0 := fun h => h0 (by omega)
    have hc1 : ¬ k0_cond1 (grid0.coords t) = 1#1 := fun h => h0 ((cond1_iff t).mp h)
    by_cases h3 : t.val % 4 = 3
    · have hc2 := (cond2_iff t).mpr h3
      rw [leaves_8_live m c t (.inl (by rw [idle_8]; simp only [Bool.not_eq_false', decide_eq_true_eq]; omega)), leaves_9_live m c t (.inl (by rw [idle_9]; simp only [Bool.not_eq_false', decide_eq_true_eq]; omega)), leaves_10_live m c t (.inr (by rw [flush_10]; simp only [decide_eq_true_eq]; omega)), leaves_11_live m c t (.inl (by rw [idle_11]; simp only [Bool.not_eq_false', decide_eq_true_eq]; omega)), leaves_12_live m c t (.inl (by rw [idle_12]; simp only [Bool.not_eq_false', decide_eq_true_eq]; omega)),
        after_8, after_9, after_10, after_11, after_12, Phi_pos m c _ _ hz, accAt_later m c t h0]
      simp only [before_10 m c t h0]
      unfold accStep
      rw [aAt_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_last c (grid0.coords t) _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _ _ (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hc2 : ¬ k0_cond2 (grid0.coords t) = 1#1 := fun h => h3 ((cond2_iff t).mp h)
      rw [leaves_8_idle m c t (by rw [idle_8]; simp only [Bool.not_eq_true', decide_eq_false_iff_not]; omega) (by rw [flush_8]; simp only [decide_eq_false_iff_not]; omega), leaves_9_idle m c t (by rw [idle_9]; simp only [Bool.not_eq_true', decide_eq_false_iff_not]; omega) (by rw [flush_9]; simp only [decide_eq_false_iff_not]; omega), leaves_10_idle m c t (by rw [idle_10]; simp only [Bool.not_eq_true', decide_eq_false_iff_not]; omega) (by rw [flush_10]; simp only [decide_eq_false_iff_not]; omega), leaves_11_idle m c t (by rw [idle_11]; simp only [Bool.not_eq_true', decide_eq_false_iff_not]; omega) (by rw [flush_11]; simp only [decide_eq_false_iff_not]; omega), leaves_12_idle m c t (by rw [idle_12]; simp only [Bool.not_eq_true', decide_eq_false_iff_not]; omega) (by rw [flush_12]; simp only [decide_eq_false_iff_not]; omega),
        Phi_pos m c _ _ hz, accAt_later m c t h0]
      simp only [before_10 m c t h0]
      unfold accStep
      rw [aAt_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_mid c (grid0.coords t) _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) _ _ (constant S2x1x512x768 .bf16 0x0000#16) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H10]; · iexact H10
      isplitl [HS]; · iexact HS
      iintro ⟨H0, H1, H2, H3, H4, H5, H6, H7, H10, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexists d10; iexact H10
      isplitl [H11]; · iexists d11; iexact H11
      iexists d12; iexact H12

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = Phi m c cfg0.N (Nat.le_refl _) from rfl, Phi_pos m c _ _ (by omega), PhiA_eq]
  iintro ⟨HS, Hg⟩
  isplitl [HS]
  · iexists _; iexact HS
  iexact Hg

set_option backward.isDefEq.respectTransparency.types false in
/-- The run of the program, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the program: every array of the pipeline ends at what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  frame_of m ρ (dats m) (A_eq m) (run_main m ρ)

/-- The frame: the program runs to the end, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelFfn2FwdIdeal.Ffn
end
-- ==== Proof.Ffn2FwdPoint.lean ====
module

public import proofs.«01_k».proof.Proof.Ffn2FwdRun
public import proofs.«01_k».proof.Proof.FfnFwdMath
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfn2FwdIdeal.Ffn

open Cert.KernelFfn2FwdIdeal Cert.KernelFfn2FwdIdeal.Gen Cert.Ffn

/-! ## What a point computes for one of its rows -/

section
variable {A : Vec Ideal S256x1024 .bf16} {W Wg Wu : Vec Ideal S1x768x1024 .bf16} {S : Vec Ideal S256x1024 .f32}
  (r : Fin 256) (x : Fin 1024 → EReal) (w wg wu : Fin 768 → Fin 1024 → EReal)
  (hA : ∀ j, (A (ix2 r j) : EReal) = x j) (hW : ∀ e j, (W (ix3 0 e j) : EReal) = w e j)
  (hg : ∀ e j, (Wg (ix3 0 e j) : EReal) = wg e j) (hu : ∀ e j, (Wu (ix3 0 e j) : EReal) = wu e j)

section
include hA hg
theorem gate_top (e : Fin 768) : (k0_pay9 (F := Ideal) A Wg (ix2 r e) : EReal) = ∑ k, x k * wg e k := by
  pointwise [k0_pay9, k0_pay8]
  simp only [hA, hg]
theorem gate_bot (e : Fin 768) : (k0_pay16 (F := Ideal) A Wg (ix2 r e) : EReal) = ∑ k, x k * wg e k := by
  pointwise [k0_pay16, k0_pay15]
  simp only [hA, hg]
theorem gate_top_out (e : Fin 768) : (k0_pay11 (F := Ideal) A Wg (ix4 0 0 r e) : EReal) = ∑ k, x k * wg e k := by
  pointwise [k0_pay11]
  exact gate_top r x wg hA hg e
theorem gate_bot_out (e : Fin 768) : (k0_pay18 (F := Ideal) A Wg (ix4 0 0 r e) : EReal) = ∑ k, x k * wg e k := by
  pointwise [k0_pay18]
  exact gate_bot r x wg hA hg e
end
section
include hA hu
theorem up_top (e : Fin 768) : (k0_pay10 (F := Ideal) A Wu (ix2 r e) : EReal) = ∑ k, x k * wu e k := by
  pointwise [k0_pay10, k0_pay8]
  simp only [hA, hu]
theorem up_bot (e : Fin 768) : (k0_pay17 (F := Ideal) A Wu (ix2 r e) : EReal) = ∑ k, x k * wu e k := by
  pointwise [k0_pay17, k0_pay15]
  simp only [hA, hu]
theorem up_top_out (e : Fin 768) : (k0_pay12 (F := Ideal) A Wu (ix4 0 0 r e) : EReal) = ∑ k, x k * wu e k := by
  pointwise [k0_pay12]
  exact up_top r x wu hA hu e
theorem up_bot_out (e : Fin 768) : (k0_pay19 (F := Ideal) A Wu (ix4 0 0 r e) : EReal) = ∑ k, x k * wu e k := by
  pointwise [k0_pay19]
  exact up_bot r x wu hA hu e
end
section
include hA hg hu
theorem act_top (e : Fin 768) : (k0_pay13 (F := Ideal) A Wg Wu (ix2 r e) : EReal) = actE (∑ k, x k * wg e k) (∑ k, x k * wu e k) := by
  pointwise [k0_pay13]
  rw [gate_top r x wg hA hg, up_top r x wu hA hu, zero_sub]; rfl
theorem act_bot (e : Fin 768) : (k0_pay20 (F := Ideal) A Wg (ix2 r e) * k0_pay17 (F := Ideal) A Wu (ix2 r e) : EReal) = actE (∑ k, x k * wg e k) (∑ k, x k * wu e k) := by
  pointwise [k0_pay20]
  rw [gate_bot r x wg hA hg, up_bot r x wu hA hu, zero_sub]; rfl
include hW
theorem acc_top (j : Fin 1024) (s : EReal) (hS : (S (ix2 r j) : EReal) = s) :
    (k0_pay14 (F := Ideal) S (k0_pay13 A Wg Wu) W (ix2 r j) : EReal) = s + ∑ e, actE (∑ k, x k * wg e k) (∑ k, x k * wu e k) * w e j := by
  pointwise [k0_pay14]
  simp only [act_top r x wg wu hA hg hu, hW, hS]
theorem acc_bot (j : Fin 1024) (s : EReal) (hS : (S (ix2 r j) : EReal) = s) :
    (k0_pay1 (F := Ideal) (k0_pay17 A Wu) S (k0_pay20 A Wg) W (ix2 r j) : EReal) = s + ∑ e, actE (∑ k, x k * wg e k) (∑ k, x k * wu e k) * w e j := by
  pointwise [k0_pay1]
  simp only [act_bot r x wg wu hA hg hu, hW, hS]
end
end

/-! ## A point's rows, whichever half they are in -/

section
variable {e : EltTy}
theorem put_top (S : Vec Ideal S512x1024 e) (w w' : Vec Ideal S256x1024 e) (r : Fin 512) (j : Fin 1024) (h : r.val < 256) :
    VecWindow.put (VecWindow.put S ![0, 0] S256x1024.size w) ![256, 0] S256x1024.size w' (ix2 r j) = w (ix2 ⟨r.val, h⟩ j) := by
  refine (dif_neg fun hh => ?_).trans ((dif_pos fun a => ?_).trans (congrArg w (funext fun a => ?_)))
  · have h0 : 256 ≤ r.val := (hh 0).1
    omega
  · match a with
    | 0 => exact ⟨Nat.zero_le _, by show r.val < 0 + 256; omega⟩
    | 1 => exact ⟨Nat.zero_le _, by show j.val < 0 + 1024; omega⟩
  · match a with
    | 0 => exact Fin.ext (show r.val - 0 = r.val from Nat.sub_zero _)
    | 1 => exact Fin.ext (show j.val - 0 = j.val from Nat.sub_zero _)

theorem put_bot (S : Vec Ideal S512x1024 e) (w w' : Vec Ideal S256x1024 e) (r : Fin 512) (j : Fin 1024) (h : ¬r.val < 256) :
    VecWindow.put (VecWindow.put S ![0, 0] S256x1024.size w) ![256, 0] S256x1024.size w' (ix2 r j) = w' (ix2 ⟨r.val - 256, by omega⟩ j) := by
  refine (dif_pos fun a => ?_).trans (congrArg w' (funext fun a => ?_))
  · match a with
    | 0 => exact ⟨by show 256 ≤ r.val; omega, by show r.val < 256 + 256; omega⟩
    | 1 => exact ⟨Nat.zero_le _, by show j.val < 0 + 1024; omega⟩
  · match a with
    | 0 => rfl
    | 1 => exact Fin.ext (show j.val - 0 = j.val from Nat.sub_zero _)

theorem top_at (X : Vec Ideal S512x1024 e) (r : Fin 512) (j : Fin 1024) (h : r.val < 256) : top X (ix2 ⟨r.val, h⟩ j) = X (ix2 r j) := by
  refine congrArg X (funext fun a => ?_)
  match a with
  | 0 => exact Fin.ext ((ValueKit.rect_emb_unit_val _ _ _ _ _).trans (show 0 + r.val = r.val by omega))
  | 1 => exact Fin.ext ((ValueKit.rect_emb_unit_val _ _ _ _ _).trans (show 0 + j.val = j.val by omega))

theorem bot_at (X : Vec Ideal S512x1024 e) (r : Fin 512) (j : Fin 1024) (h : ¬r.val < 256) : bot X (ix2 ⟨r.val - 256, by omega⟩ j) = X (ix2 r j) := by
  refine congrArg X (funext fun a => ?_)
  match a with
  | 0 => exact Fin.ext ((ValueKit.rect_emb_unit_val _ _ _ _ _).trans (show 256 + (r.val - 256) = r.val by omega))
  | 1 => exact Fin.ext ((ValueKit.rect_emb_unit_val _ _ _ _ _).trans (show 0 + j.val = j.val by omega))
end

/-- Storing a quarter leaves it at its own rows. -/
theorem put4_hit (S : Vec Ideal S2x1x512x768 .bf16) (w : Vec Ideal S1x1x256x768 .bf16) (a b : ℕ) (s : Fin 2) (r : Fin 512) (x : Fin 768) (q : Fin 256)
    (hs : s.val = a) (hr : r.val = b + q.val) : VecWindow.put S ![a, 0, b, 0] S1x1x256x768.size w (ix4 s 0 r x) = w (ix4 0 0 q x) := by
  refine (dif_pos fun i => ?_).trans (congrArg w (funext fun i => ?_))
  · match i with
    | 0 => exact ⟨hs.ge, by show s.val < a + 1; omega⟩
    | 1 => exact ⟨Nat.zero_le _, by show 0 < 0 + 1; omega⟩
    | 2 => exact ⟨by show b ≤ r.val; omega, by show r.val < b + 256; omega⟩
    | 3 => exact ⟨Nat.zero_le _, by show x.val < 0 + 768; omega⟩
  · match i with
    | 0 => exact Fin.ext (show s.val - a = 0 by omega)
    | 1 => rfl
    | 2 => exact Fin.ext (show r.val - b = q.val by omega)
    | 3 => exact Fin.ext (show x.val - 0 = x.val from Nat.sub_zero _)

/-- And leaves the others as they were. -/
theorem put4_miss (S : Vec Ideal S2x1x512x768 .bf16) (w : Vec Ideal S1x1x256x768 .bf16) (a b : ℕ) (s : Fin 2) (r : Fin 512) (x : Fin 768)
    (h : s.val < a ∨ a + 1 ≤ s.val ∨ r.val < b ∨ b + 256 ≤ r.val) : VecWindow.put S ![a, 0, b, 0] S1x1x256x768.size w (ix4 s 0 r x) = S (ix4 s 0 r x) := by
  refine dif_neg fun hh => ?_
  have h0 : a ≤ s.val ∧ s.val < a + 1 := hh 0
  have h2 : b ≤ r.val ∧ r.val < b + 256 := hh 2
  omega

section
variable {A : Vec Ideal S512x1024 .bf16} {W Wg Wu : Vec Ideal S1x768x1024 .bf16} {S : Vec Ideal S512x1024 .f32}
  (r : Fin 512) (x : Fin 1024 → EReal) (w wg wu : Fin 768 → Fin 1024 → EReal)
  (hA : ∀ j, (A (ix2 r j) : EReal) = x j) (hW : ∀ e j, (W (ix3 0 e j) : EReal) = w e j)
  (hg : ∀ e j, (Wg (ix3 0 e j) : EReal) = wg e j) (hu : ∀ e j, (Wu (ix3 0 e j) : EReal) = wu e j)

include hA in
theorem pointU_gate (hg : ∀ e j, (Wg (ix3 0 e j) : EReal) = wg e j) (z : Vec Ideal S2x1x512x768 .bf16) (e : Fin 768) :
    (pointU (F := Ideal) A Wg Wu z (ix4 0 0 r e) : EReal) = ∑ k, x k * wg e k := by
  unfold pointU
  by_cases h : r.val < 256
  · refine (put4_miss _ _ 1 256 0 r e (by omega)).trans ((put4_miss _ _ 0 256 0 r e (by omega)).trans
      ((put4_miss _ _ 1 0 0 r e (by simp)).trans ((put4_hit _ _ 0 0 0 r e ⟨r.val, h⟩ rfl (Nat.zero_add _).symm).trans ?_)))
    exact gate_top_out _ x wg (fun j => (top_at A r j h).trans (hA j)) hg e
  · refine (put4_miss _ _ 1 256 0 r e (by simp)).trans
      ((put4_hit _ _ 0 256 0 r e ⟨r.val - 256, by omega⟩ rfl (by show r.val = 256 + (r.val - 256); omega)).trans ?_)
    exact gate_bot_out _ x wg (fun j => (bot_at A r j h).trans (hA j)) hg e

include hA in
theorem pointU_up (hu : ∀ e j, (Wu (ix3 0 e j) : EReal) = wu e j) (z : Vec Ideal S2x1x512x768 .bf16) (e : Fin 768) :
    (pointU (F := Ideal) A Wg Wu z (ix4 1 0 r e) : EReal) = ∑ k, x k * wu e k := by
  unfold pointU
  by_cases h : r.val < 256
  · refine (put4_miss _ _ 1 256 1 r e (by omega)).trans ((put4_miss _ _ 0 256 1 r e (by omega)).trans
      ((put4_hit _ _ 1 0 1 r e ⟨r.val, h⟩ rfl (Nat.zero_add _).symm).trans ?_))
    exact up_top_out _ x wu (fun j => (top_at A r j h).trans (hA j)) hu e
  · refine (put4_hit _ _ 1 256 1 r e ⟨r.val - 256, by omega⟩ rfl (by show r.val = 256 + (r.val - 256); omega)).trans ?_
    exact up_bot_out _ x wu (fun j => (bot_at A r j h).trans (hA j)) hu e

include hA hg hu hW in
theorem pointAcc_at (j : Fin 1024) (s : EReal) (hS : (S (ix2 r j) : EReal) = s) :
    (pointAcc (F := Ideal) A Wg Wu W S (ix2 r j) : EReal) = s + ∑ e, actE (∑ k, x k * wg e k) (∑ k, x k * wu e k) * w e j := by
  unfold pointAcc
  by_cases h : r.val < 256
  · exact (put_top _ _ _ r j h).trans (acc_top _ x w wg wu (fun j => (top_at A r j h).trans (hA j)) hW hg hu j s ((top_at S r j h).trans hS))
  · exact (put_bot _ _ _ r j h).trans (acc_bot _ x w wg wu (fun j => (bot_at A r j h).trans (hA j)) hW hg hu j s ((bot_at S r j h).trans hS))
end

/-! ## The two normalizations and the loss -/

theorem a_pay (h : Vec Ideal S512x1024 .f32) (pre : Vec Ideal S1x1024 .f32) (r : Fin 512) (x p : Fin 1024 → EReal)
    (hx : ∀ j, (h (ix2 r j) : EReal) = x j) (hp : ∀ j, (pre (ix2 0 j) : EReal) = p j) (j : Fin 1024) :
    (k0_pay6 (F := Ideal) h pre (ix2 r j) : EReal) = x j * rsE x * p j := by
  pointwise [k0_pay6]
  simp only [hx, hp]; rfl

theorem zero_pay (r : Fin 512) (j : Fin 1024) : (k0_pay7 (F := Ideal) (ix2 r j) : EReal) = 0 := by
  pointwise [k0_pay7]

theorem ho_pay (f h : Vec Ideal S512x1024 .f32) (post : Vec Ideal S1x1024 .f32) (r : Fin 512) (y x p : Fin 1024 → EReal)
    (hf : ∀ j, (f (ix2 r j) : EReal) = y j) (hx : ∀ j, (h (ix2 r j) : EReal) = x j) (hp : ∀ j, (post (ix2 0 j) : EReal) = p j) (j : Fin 1024) :
    (k0_pay2 (F := Ideal) f h post (ix2 r j) : EReal) = x j + Ideal.ofBits .f32 1056964608#32 * (y j * rsE y * p j) := by
  pointwise [k0_pay2]
  simp only [hf, hx, hp]; rfl

theorem dif_pay (f h : Vec Ideal S512x1024 .f32) (post : Vec Ideal S1x1024 .f32) (g : Vec Ideal S512x1024 .f32) (r : Fin 512) (j : Fin 1024) (a b : EReal)
    (ha : (k0_pay2 (F := Ideal) f h post (ix2 r j) : EReal) = a) (hb : (g (ix2 r j) : EReal) = b) : (k0_pay3 (F := Ideal) f h post g (ix2 r j) : EReal) = a - b := by
  pointwise [k0_pay3]
  rw [ha, hb]

theorem dy_pay (f h : Vec Ideal S512x1024 .f32) (post : Vec Ideal S1x1024 .f32) (g : Vec Ideal S512x1024 .f32) (r : Fin 512) (j : Fin 1024) :
    (k0_pay4 (F := Ideal) f h post g (ix2 r j) : EReal) = k0_pay3 (F := Ideal) f h post g (ix2 r j) * Ideal.ofBits .f32 981467136#32 := by
  pointwise [k0_pay4]

theorem loss_pay (f h : Vec Ideal S512x1024 .f32) (post : Vec Ideal S1x1024 .f32) (g : Vec Ideal S512x1024 .f32) (q : Fin 8) (x : Fin 128) (d : Fin 512 → Fin 1024 → EReal)
    (hd : ∀ r j, (k0_pay3 (F := Ideal) f h post g (ix2 r j) : EReal) = d r j) :
    (k0_pay5 (F := Ideal) f h post g (ix2 q x) : EReal) = Ideal.ofBits .f32 973078528#32 * ∑ r, ∑ j, d r j * d r j := by
  pointwise [k0_pay5]
  simp only [hd]

end Cert.KernelFfn2FwdIdeal.Ffn
end
-- ==== Proof.Ffn2FwdRef.lean ====
module

public import proofs.«01_k».proof.Defs
public import proofs.«01_k».proof.Proof.FfnFwdMath
public import proofs.«01_k».proof.Proof.Gen.ReferenceFfn2FwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceFfn2FwdIdeal.Ffn

open Cert.ReferenceFfn2FwdIdeal Cert.ReferenceFfn2FwdIdeal.Gen Cert.ReferenceFfn2FwdIdeal.Read Cert.Ffn

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2.2.2.2, sem_eq_zero_of_no_sems (by decide) r.2⟩) (Value.run (F := Ideal) m ρ)

/-- The padding word zero is the number zero. -/
theorem zero_word : (FloatOps.sitofp (F := Ideal) .f32 (0#32) : EReal) = 0 := by
  show (((0#32 : BitVec 32).toInt : ℝ) : EReal) = 0
  simp

/-! ## What each step of the reference computes -/

variable (A0 : FVec Ideal S4096x1024 .f32) (A1 : FVec Ideal S1x1024 .f32) (A2 : FVec Ideal S1024x5632 .f32) (A3 : FVec Ideal S2816x1024 .f32) (A4 : FVec Ideal S1x1024 .f32) (A5 : FVec Ideal S4096x1024 .f32)

/-- The arguments, index by index. -/
def args : Fwd := ⟨fun i j => A0 (ix2 i j), fun j => A1 (ix2 0 j), fun j n => A2 (ix2 j n), fun n j => A3 (ix2 n j), fun j => A4 (ix2 0 j)⟩

theorem ref_a (i : Fin 4096) (j : Fin 1024) : (val_main_v11 (F := Ideal) A0 A1 (ix2 i j) : EReal) = (args A0 A1 A2 A3 A4).a i j := by
  pointwise [val_main_v11, val_main_v10, val_main_v9, val_main_v8, val_main_v7, val_main_v6, val_main_v5, val_main_v4, val_main_v3, val_main_v2, val_main_v1,
    val_main_v0, val_main_cst, val_main_cst_0, val_main_cst_1]
  rfl

theorem ref_u (i : Fin 4096) (n : Fin 5632) : (val_main_v12 (F := Ideal) A0 A1 A2 (ix2 i n) : EReal) = (args A0 A1 A2 A3 A4).u i n := by
  pointwise [val_main_v12]
  simp only [ref_a A0 A1 A2 A3 A4]; rfl

theorem ref_hid (i : Fin 4096) (n : Fin 2816) : (val_main_v16 (F := Ideal) A0 A1 A2 (ix2 i n) : EReal) = (args A0 A1 A2 A3 A4).hid i n := by
  pointwise [val_main_v16, val_main_v15, val_main_v14, val_main_v13, val_main_call0_v5, val_main_call0_v4, val_main_call0_v3, val_main_call0_v2, val_main_call0_v1, val_main_call0_v0,
    val_main_call0_cst, val_main_call0_cst_0]
  simp only [ref_u A0 A1 A2 A3 A4]; rfl

theorem ref_f (i : Fin 4096) (j : Fin 1024) : (val_main_v17 (F := Ideal) A0 A1 A2 A3 (ix2 i j) : EReal) = (args A0 A1 A2 A3 A4).f i j := by
  pointwise [val_main_v17]
  simp only [ref_hid A0 A1 A2 A3 A4]; rfl

theorem ref_ho (i : Fin 4096) (j : Fin 1024) : (val_main_v32 (F := Ideal) A0 A1 A2 A3 A4 (ix2 i j) : EReal) = (args A0 A1 A2 A3 A4).ho i j := by
  pointwise [val_main_v32, val_main_v31, val_main_v30, val_main_v29, val_main_v28, val_main_v27, val_main_v26, val_main_v25, val_main_v24, val_main_v23, val_main_v22, val_main_v21,
    val_main_v20, val_main_v19, val_main_v18, val_main_cst_2, val_main_cst_3, val_main_cst_4, val_main_cst_5]
  simp only [ref_f A0 A1 A2 A3 A4]; rfl

theorem ref_a_narrow (i : Fin 4096) (j : Fin 1024) : (val_main_v62 (F := Ideal) A0 A1 (ix2 i j) : EReal) = (args A0 A1 A2 A3 A4).a i j := by
  pointwise [val_main_v62]
  exact ref_a A0 A1 A2 A3 A4 i j

/-- The first product in the step's layout: at a lane that holds a column, -/
theorem ref_u_in (s : Fin 2) (k : Fin 4) (i : Fin 4096) (e : Fin 768) (h : e.val % 384 < 352) :
    (val_main_v61 (F := Ideal) A0 A1 A2 (ix4 s k i e) : EReal) = (args A0 A1 A2 A3 A4).u i (fcol s k e h) := by
  pointwise [val_main_v61, val_main_v60, val_main_v59, val_main_v58, val_main_v57, val_main_v56, val_main_call1_v0, val_main_c]
  refine (dif_pos ⟨by omega, h⟩).trans ((ref_u A0 A1 A2 A3 A4 i _).trans (congrArg _ (Fin.ext ?_)))
  with_reducible rfl

/-- and at one that holds none. -/
theorem ref_u_out (s : Fin 2) (k : Fin 4) (i : Fin 4096) (e : Fin 768) (h : ¬e.val % 384 < 352) :
    (val_main_v61 (F := Ideal) A0 A1 A2 (ix4 s k i e) : EReal) = 0 := by
  pointwise [val_main_v61, val_main_v60, val_main_v59, val_main_v58, val_main_v57, val_main_v56, val_main_call1_v0, val_main_c]
  exact (dif_neg fun h2 => h h2.2).trans zero_word

/-- The difference from the target. -/
def dif (i : Fin 4096) (j : Fin 1024) : EReal := (args A0 A1 A2 A3 A4).ho i j - A5 (ix2 i j)

theorem ref_dif (i : Fin 4096) (j : Fin 1024) : (val_main_v33 (F := Ideal) A0 A1 A2 A3 A4 A5 (ix2 i j) : EReal) = dif A0 A1 A2 A3 A4 A5 i j := by
  pointwise [val_main_v33]
  rw [ref_ho A0 A1 A2 A3 A4]; rfl

theorem ref_dy (i : Fin 4096) (j : Fin 1024) : (val_main_v52 (F := Ideal) A0 A1 A2 A3 A4 A5 (ix2 i j) : EReal)
    = dif A0 A1 A2 A3 A4 A5 i j * Ideal.ofBits .f32 981467136#32 := by
  pointwise [val_main_v52, val_main_v51, val_main_v50, val_main_v49, val_main_v48, val_main_v47, val_main_v46, val_main_v45, val_main_v44, val_main_v36, val_main_v35,
    val_main_cst_6, val_main_cst_11, val_main_cst_12, val_main_cst_13]
  rw [ref_dif A0 A1 A2 A3 A4 A5]
  exact grad_eq _

/-- Row `r` of row block `b`. -/
abbrev rowOf (b : Fin 8) (r : Fin 512) : Fin 4096 := ⟨b.val * 512 + r.val, by omega⟩

theorem ref_loss (q : Fin 64) (x : Fin 128) : (val_main_v55 (F := Ideal) A0 A1 A2 A3 A4 A5 (ix2 q x) : EReal)
    = Ideal.ofBits .f32 973078528#32 * ∑ r, ∑ j, dif A0 A1 A2 A3 A4 A5 (rowOf ⟨q.val / 8, by omega⟩ r) j * dif A0 A1 A2 A3 A4 A5 (rowOf ⟨q.val / 8, by omega⟩ r) j := by
  pointwise [val_main_v55, val_main_v54, val_main_v53, val_main_v43, val_main_v42, val_main_v41, val_main_v40, val_main_v39, val_main_v38, val_main_v37, val_main_v34,
    val_main_cst_7, val_main_cst_8, val_main_cst_9, val_main_cst_10]
  simp only [ref_dif A0 A1 A2 A3 A4 A5]
  exact loss_eq _ fun r j => sq_nonneg _

end Cert.ReferenceFfn2FwdIdeal.Ffn
end
-- ==== Proof.Ffn2FwdValue.lean ====
module

public import proofs.«01_k».proof.Proof.Ffn2FwdFrame
public import proofs.«01_k».proof.Proof.Ffn2FwdPoint
public import proofs.«01_k».proof.Proof.Ffn2FwdRef
public import Idealize.ShloMosaic.Lib.Pipeline.ValueKit
public import Idealize.ShloMosaic.Lib.StableHlo.Run
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.KernelFfn2FwdIdeal.Ffn

open Cert.KernelFfn2FwdIdeal Cert.KernelFfn2FwdIdeal.Gen Cert.Ffn
open Cert.ReferenceFfn2FwdIdeal.Read Cert.ReferenceFfn2FwdIdeal.Ffn

variable (m : (ℓ : Loc nD τ sig) → Buf (Elt Ideal) ℓ) (c : Dev nD)

/-- The layer's input, -/
abbrev a0 : FVec Ideal S4096x1024 .f32 := m ((c.tc : Thread nD τ).loc main_arg0)
/-- the weight of the first normalization, -/
abbrev a1 : FVec Ideal S1x1024 .f32 := m ((c.tc : Thread nD τ).loc main_arg1)
/-- the first product's weight, -/
abbrev a2 : FVec Ideal S1024x5632 .f32 := m ((c.tc : Thread nD τ).loc main_arg2)
/-- the second's, -/
abbrev a3 : FVec Ideal S2816x1024 .f32 := m ((c.tc : Thread nD τ).loc main_arg3)
/-- the weight of the second normalization, -/
abbrev a4 : FVec Ideal S1x1024 .f32 := m ((c.tc : Thread nD τ).loc main_arg4)
/-- and the target. -/
abbrev a5 : FVec Ideal S4096x1024 .f32 := m ((c.tc : Thread nD τ).loc main_arg5)
/-- All of them, index by index. -/
abbrev R : Fwd := args (a0 m c) (a1 m c) (a2 m c) (a3 m c) (a4 m c)

/-- The second weight's rows in the step's layout: blocks of 352, each padded to 384, two to a chunk. -/
def packedW2 (w : FVec Ideal S2816x1024 .f32) : FVec Ideal S4x768x1024 .bf16 :=
  truncf .bf16 (shapeCast S4x768x1024 (pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_) shapeCasts_S8x384x1024_S4x768x1024) bitsLt_bf16_f32

/-- The first weight's columns, turned into rows, in the step's layout. -/
def packedW1 (w : FVec Ideal S1024x5632 .f32) : FVec Ideal S8x768x1024 .bf16 :=
  truncf .bf16 (shapeCast S8x768x1024 (pad S16x384x1024 ![0, 0, 0] ![0, 32, 0] ![0, 0, 0] (shapeCast S16x352x1024
    (transpose S5632x1024 [1, 0] w transposes_S1024x5632_S5632x1024_1_0) shapeCasts_S5632x1024_S16x352x1024)
    (sitofp .f32 (constantI S_ 32 0#32)) pads_S16x352x1024_S16x384x1024_000_0320_000 h_S_) shapeCasts_S16x384x1024_S8x768x1024) bitsLt_bf16_f32

set_option maxHeartbeats 1000000 in
theorem V_w1 : Gen.V m c main_v4 = packedW1 (a2 m c) := by
  simp only [Gen.V, hostOps0, hostOps0_1, hostOps0_2, hostOps0_3, hostOps0_4, List.flatten_cons, List.flatten_nil, List.append_nil, List.cons_append, List.nil_append,
    TRef.nullary, TRef.binary, TRef.unary, TRef.toBuf, TRef.ofBuf, cast_eq]
  after_results_simp <;> rfl

set_option maxHeartbeats 1000000 in
theorem V_w2 : Gen.V m c main_v8 = packedW2 (a3 m c) := by
  simp only [Gen.V, hostOps0, hostOps0_1, hostOps0_2, hostOps0_3, hostOps0_4, List.flatten_cons, List.flatten_nil, List.append_nil, List.cons_append, List.nil_append,
    TRef.nullary, TRef.binary, TRef.unary, TRef.toBuf, TRef.ofBuf, cast_eq]
  after_results_simp <;> rfl

/-- The blocks of a point: row block `t / 4`, hidden chunk `t % 4`. -/
theorem idx : ∀ t : Fin cfg0.N, win0_0.index t = ![t.val / 4, 0] ∧ win0_1.index t = ![0, 0] ∧ win0_2.index t = ![t.val % 4, 0, 0] ∧ win0_3.index t = ![4 + t.val % 4, 0, 0] ∧ win0_4.index t = ![t.val % 4, 0, 0]
    ∧ win0_5.index t = ![0, 0] ∧ win0_6.index t = ![t.val / 4, 0] ∧ win0_7.index t = ![0, t.val % 4, t.val / 4, 0] ∧ win0_8.index t = ![t.val / 4, 0] ∧ win0_9.index t = ![t.val / 4, 0]
    ∧ win0_10.index t = ![t.val / 4, 0] ∧ win0_11.index t = ![t.val / 4, 0] ∧ win0_12.index t = ![t.val / 4, 0] := by
  decide +kernel

theorem point_lt (t : Fin cfg0.N) : t.val < 32 := t.isLt

/-- Row `r` of a point's row block. -/
abbrev row (t : Fin cfg0.N) (r : Fin 512) : Fin 4096 := ⟨t.val / 4 * 512 + r.val, by have := point_lt t; omega⟩
/-- The hidden chunk of a point. -/
abbrev chunk (t : Fin cfg0.N) : Fin 4 := ⟨t.val % 4, Nat.mod_lt _ (by decide)⟩

theorem packedW2_at (k : Fin 4) (e : Fin 768) (j : Fin 1024) : (packedW2 (a3 m c) (ix3 k e j) : EReal) = (R m c).pw2 k e j := by
  rw [Fwd.pw2]
  by_cases h : e.val % 384 < 352
  · rw [dif_pos h]
    pointwise [packedW2]
    refine (dif_pos ⟨by omega, h⟩).trans (congrArg (fun n => (R m c).w2 n j) (Fin.ext ?_))
    show (k.val * 2 + e.val / 384) * 352 + e.val % 384 = (k.val * 2 + e.val / 384) * 352 + e.val % 384
    with_reducible rfl
  · rw [dif_neg h]
    pointwise [packedW2]
    exact (dif_neg fun h2 => h h2.2).trans zero_word

theorem packedW1_at (p : Fin 8) (s : Fin 2) (k : Fin 4) (hp : p.val = s.val * 4 + k.val) (e : Fin 768) (j : Fin 1024) :
    (packedW1 (a2 m c) (ix3 p e j) : EReal) = (R m c).pw1 s k e j := by
  rw [Fwd.pw1]
  by_cases h : e.val % 384 < 352
  · rw [dif_pos h]
    pointwise [packedW1]
    refine (dif_pos ⟨by omega, h⟩).trans (congrArg (fun n => (R m c).w1 j n) (Fin.ext ?_))
    show (p.val * 2 + e.val / 384) * 352 + e.val % 384 = ((s.val * 4 + k.val) * 2 + e.val / 384) * 352 + e.val % 384
    rw [hp]
  · rw [dif_neg h]
    pointwise [packedW1]
    exact (dif_neg fun h2 => h h2.2).trans zero_word

/-! ## What a point's blocks hold -/

theorem b0 (t : Fin cfg0.N) (r : Fin 512) (j : Fin 1024) : (iblk m c 0 t (ix2 r j) : EReal) = (R m c).h (row t r) j := by
  have h : ∀ W : FVec Ideal S4096x1024 .f32, ((cfg0.win 0).blk t).view.read (Elt Ideal) W (ix2 r j) = W (ix2 (row t r) j) := fun W => by blk_ext [idx t]
  exact (h (Gen.V m c main_arg0)).trans (congrFun (V_main_arg0 m c) _)

theorem b1 (t : Fin cfg0.N) (j : Fin 1024) : (iblk m c 1 t (ix2 0 j) : EReal) = (R m c).pre j := by
  have h : ∀ W : FVec Ideal S1x1024 .f32, ((cfg0.win 1).blk t).view.read (Elt Ideal) W (ix2 0 j) = W (ix2 0 j) := fun W => by blk_ext [idx t]
  exact (h (Gen.V m c main_arg1)).trans (congrFun (V_main_arg1 m c) _)

theorem b2 (t : Fin cfg0.N) (e : Fin 768) (j : Fin 1024) : (iblk m c 2 t (ix3 0 e j) : EReal) = (R m c).pw1 0 (chunk t) e j := by
  have h : ∀ W : FVec Ideal S8x768x1024 .bf16, ((cfg0.win 2).blk t).view.read (Elt Ideal) W (ix3 0 e j)
      = W (ix3 ⟨t.val % 4, by omega⟩ e j) := fun W => by blk_ext [idx t]
  exact ((h (Gen.V m c main_v4)).trans (congrFun (V_w1 m c) _)).trans (packedW1_at m c _ 0 (chunk t) (by simp) _ _)

theorem b3 (t : Fin cfg0.N) (e : Fin 768) (j : Fin 1024) : (iblk m c 3 t (ix3 0 e j) : EReal) = (R m c).pw1 1 (chunk t) e j := by
  have h : ∀ W : FVec Ideal S8x768x1024 .bf16, ((cfg0.win 3).blk t).view.read (Elt Ideal) W (ix3 0 e j)
      = W (ix3 ⟨4 + t.val % 4, by omega⟩ e j) := fun W => by blk_ext [idx t]
  exact ((h (Gen.V m c main_v4)).trans (congrFun (V_w1 m c) _)).trans (packedW1_at m c _ 1 (chunk t) (by simp) _ _)

theorem b4 (t : Fin cfg0.N) (e : Fin 768) (j : Fin 1024) : (iblk m c 4 t (ix3 0 e j) : EReal) = (R m c).pw2 (chunk t) e j := by
  have h : ∀ W : FVec Ideal S4x768x1024 .bf16, ((cfg0.win 4).blk t).view.read (Elt Ideal) W (ix3 0 e j) = W (ix3 (chunk t) e j) := fun W => by blk_ext [idx t]
  exact ((h (Gen.V m c main_v8)).trans (congrFun (V_w2 m c) _)).trans (packedW2_at m c _ _ _)

theorem b5 (t : Fin cfg0.N) (j : Fin 1024) : (iblk m c 5 t (ix2 0 j) : EReal) = (R m c).post j := by
  have h : ∀ W : FVec Ideal S1x1024 .f32, ((cfg0.win 5).blk t).view.read (Elt Ideal) W (ix2 0 j) = W (ix2 0 j) := fun W => by blk_ext [idx t]
  exact (h (Gen.V m c main_arg4)).trans (congrFun (V_main_arg4 m c) _)

theorem b6 (t : Fin cfg0.N) (r : Fin 512) (j : Fin 1024) : (iblk m c 6 t (ix2 r j) : EReal) = a5 m c (ix2 (row t r) j) := by
  have h : ∀ W : FVec Ideal S4096x1024 .f32, ((cfg0.win 6).blk t).view.read (Elt Ideal) W (ix2 r j) = W (ix2 (row t r) j) := fun W => by blk_ext [idx t]
  exact (h (Gen.V m c main_arg5)).trans (congrFun (V_main_arg5 m c) _)

/-! ## What the points leave in the scratch and the revisited outputs -/

theorem aAt_at (n : ℕ) : ∀ (hn : n < cfg0.N) (r : Fin 512) (j : Fin 1024), (aAt m c n hn (ix2 r j) : EReal) = (R m c).a (row ⟨n, hn⟩ r) j := by
  induction n with
  | zero =>
    intro hn r j
    exact (congrFun (aAt_first m c ⟨0, hn⟩ rfl) _).trans (a_pay _ _ r _ _ (b0 m c _ r) (b1 m c _) j)
  | succ n ih =>
    intro hn r j
    by_cases h0 : (n + 1) % 4 = 0
    · exact (congrFun (aAt_first m c ⟨n + 1, hn⟩ h0) _).trans (a_pay _ _ r _ _ (b0 m c _ r) (b1 m c _) j)
    · refine (congrFun (aAt_later m c ⟨n + 1, hn⟩ h0) _).trans ((ih _ r j).trans (congrArg (fun i => (R m c).a i j) (Fin.ext ?_)))
      show n / 4 * 512 + r.val = (n + 1) / 4 * 512 + r.val
      omega

theorem accStep_at (t : Fin cfg0.N) (S : Vec Ideal S512x1024 .f32) (r : Fin 512) (j : Fin 1024) (s : EReal) (hS : (S (ix2 r j) : EReal) = s) :
    (accStep m c t S (ix2 r j) : EReal) = s + (R m c).termN (t.val % 4) (row t r) j := by
  refine (pointAcc_at r ((R m c).a (row t r)) ((R m c).pw2 (chunk t)) ((R m c).pw1 0 (chunk t)) ((R m c).pw1 1 (chunk t))
    (aAt_at m c t.val t.isLt r) (b4 m c t) (b2 m c t) (b3 m c t) j s hS).trans ?_
  exact congrArg (fun q => s + (R m c).term q (row t r) j) (Fin.ext (Nat.mod_mod _ _).symm)

theorem accAt_at (n : ℕ) : ∀ (hn : n < cfg0.N) (r : Fin 512) (j : Fin 1024),
    (accAt m c n hn (ix2 r j) : EReal) = ∑ q ∈ Finset.range (n % 4 + 1), (R m c).termN q (row ⟨n, hn⟩ r) j := by
  have first : ∀ (t : Fin cfg0.N), t.val % 4 = 0 → ∀ r j, (accAt m c t.val t.isLt (ix2 r j) : EReal)
      = ∑ q ∈ Finset.range (t.val % 4 + 1), (R m c).termN q (row t r) j := fun t h0 r j => by
    refine (congrFun (accAt_first m c t h0) _).trans ((accStep_at m c t _ r j 0 (zero_pay r j)).trans ?_)
    rw [h0, Finset.sum_range_one, zero_add]
  induction n with
  | zero => exact fun hn r j => first ⟨0, hn⟩ rfl r j
  | succ n ih =>
    intro hn r j
    by_cases h0 : (n + 1) % 4 = 0
    · exact first ⟨n + 1, hn⟩ h0 r j
    · refine (congrFun (accAt_later m c ⟨n + 1, hn⟩ h0) _).trans ((accStep_at m c ⟨n + 1, hn⟩ _ r j _ (ih _ r j)).trans ?_)
      have e0 : row ⟨n, Nat.lt_of_succ_lt hn⟩ r = row ⟨n + 1, hn⟩ r := Fin.ext (by show n / 4 * 512 + r.val = (n + 1) / 4 * 512 + r.val; omega)
      have e1 : (n + 1) % 4 = n % 4 + 1 := by omega
      rw [e0, Finset.sum_range_succ _ ((n + 1) % 4), e1]

/-- At the last chunk of a row block the sum is whole. -/
theorem accAt_last (t : Fin cfg0.N) (h : t.val % 4 = 3) (r : Fin 512) (j : Fin 1024) :
    (accAt m c t.val t.isLt (ix2 r j) : EReal) = (R m c).f (row t r) j := by
  have e : t.val % 4 + 1 = 4 := by omega
  have hs := accAt_at m c t.val t.isLt r j
  rw [e, Fwd.sum_termN] at hs
  exact hs

/-! ## The results -/

/-- The first product, kept for the backward pass, is the reference's. -/
theorem out_u : (dats m 0 c).arrAt 7 cfg0.N = val_main_v61 (F := Ideal) (a0 m c) (a1 m c) (a2 m c) := by
  refine (dats m 0 c).arrAt_eq_of_covers 7 _ (by decide +kernel) fun t hf y => ?_
  obtain ⟨s, r, e, rfl⟩ : ∃ (s : Fin 2) (r : Fin 512) (e : Fin 768), y = ix4 s 0 r e :=
    ⟨y 0, y 2, y 3, (eq_ix4 y).trans (congrArg (fun z => ix4 (y 0) z (y 2) (y 3)) (Subsingleton.elim (α := Fin 1) _ _))⟩
  rw [after_7]
  have hi : ((cfg0.win 7).blk t).view.emb (ix4 s 0 r e) = ix4 s (chunk t) (row t r) e := by blk_ext [idx t]
  refine Eq.trans ?_ (congrArg (val_main_v61 (F := Ideal) (a0 m c) (a1 m c) (a2 m c)) hi).symm
  have hr : (val_main_v61 (F := Ideal) (a0 m c) (a1 m c) (a2 m c) (ix4 s (chunk t) (row t r) e) : EReal)
      = ∑ j, (R m c).a (row t r) j * (R m c).pw1 s (chunk t) e j := by
    rw [Fwd.pu]
    split
    · next h => exact ref_u_in (a0 m c) (a1 m c) (a2 m c) (a3 m c) (a4 m c) s (chunk t) (row t r) e h
    · next h => exact ref_u_out (a0 m c) (a1 m c) (a2 m c) s (chunk t) (row t r) e h
  refine Eq.trans ?_ hr.symm
  obtain rfl | rfl : s = 0 ∨ s = 1 := by omega
  · exact pointU_gate r _ _ (aAt_at m c t.val t.isLt r) (b2 m c t) _ e
  · exact pointU_up r _ _ (aAt_at m c t.val t.isLt r) (b3 m c t) _ e

/-- The second product is the reference's. -/
theorem out_f : (dats m 0 c).arrAt 8 cfg0.N = val_main_v17 (F := Ideal) (a0 m c) (a1 m c) (a2 m c) (a3 m c) := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  have h3 : t.val % 4 = 3 := by rw [flush_8] at hf; exact of_decide_eq_true hf
  rw [after_8]
  have hi : ((cfg0.win 8).blk t).view.emb (ix2 r j) = ix2 (row t r) j := by blk_ext [idx t]
  refine Eq.trans ?_ (congrArg (val_main_v17 (F := Ideal) (a0 m c) (a1 m c) (a2 m c) (a3 m c)) hi).symm
  exact (accAt_last m c t h3 r j).trans (ref_f (a0 m c) (a1 m c) (a2 m c) (a3 m c) (a4 m c) _ j).symm

/-- The layer's result at a row of a point that ends its row block. -/
theorem ho_at (t : Fin cfg0.N) (h3 : t.val % 4 = 3) (r : Fin 512) (j : Fin 1024) :
    (k0_pay2 (accAt m c t.val t.isLt) (iblk m c 0 t) (iblk m c 5 t) (ix2 r j) : EReal) = (R m c).ho (row t r) j :=
  ho_pay _ _ _ r _ _ _ (accAt_last m c t h3 r) (b0 m c t r) (b5 m c t) j

/-- The layer's result is the reference's. -/
theorem out_ho : (dats m 0 c).arrAt 9 cfg0.N = val_main_v32 (F := Ideal) (a0 m c) (a1 m c) (a2 m c) (a3 m c) (a4 m c) := by
  refine (dats m 0 c).arrAt_eq_of_covers 9 _ (by decide +kernel) fun t hf y => ?_
  obtain ⟨r, j, rfl⟩ : ∃ (r : Fin 512) (j : Fin 1024), y = ix2 r j := ⟨y 0, y 1, eq_ix2 y⟩
  have h3 : t.val % 4 = 3 := by rw [flush_9] at hf; exact of_decide_eq_true hf
  rw [after_9]
  have hi : ((cfg0.win 9).blk t).view.emb (ix2 r j) = ix2 (row t r) j := by blk_ext [idx t]
  refine Eq.trans ?_ (congrArg (val_main_v32 (F := Ideal) (a0 m c) (a1 m c) (a2 m c) (a3 m c) (a4 m c)) hi).symm
  exact (ho_at m c t h3 r j).trans (ref_ho (a0 m c) (a1 m c) (a2 m c) (a3 m c) (a4 m c) _ j).symm

/-- The normalized input is the reference's. -/
theorem out_a : (dats m 0 c).arrAt 10 cfg0.N = val_main_v62 (F := Ideal) (a0 m c) (a1 m c) := by
  refine (dats m 0 c).arrAt_eq_of_covers 10 _ (by decide +kernel) fun t hf y => ?_
  obtain ⟨r, j, rfl⟩ : ∃ (r : Fin 512) (j : Fin 1024), y = ix2 r j := ⟨y 0, y 1, eq_ix2 y⟩
  rw [after_10]
  have hi : ((cfg0.win 10).blk t).view.emb (ix2 r j) = ix2 (row t r) j := by blk_ext [idx t]
  refine Eq.trans ?_ (congrArg (val_main_v62 (F := Ideal) (a0 m c) (a1 m c)) hi).symm
  exact (aAt_at m c t.val t.isLt r j).trans (ref_a_narrow (a0 m c) (a1 m c) (a2 m c) (a3 m c) (a4 m c) _ j).symm

theorem dif_at (t : Fin cfg0.N) (h3 : t.val % 4 = 3) (r : Fin 512) (j : Fin 1024) :
    (k0_pay3 (accAt m c t.val t.isLt) (iblk m c 0 t) (iblk m c 5 t) (iblk m c 6 t) (ix2 r j) : EReal) = dif (a0 m c) (a1 m c) (a2 m c) (a3 m c) (a4 m c) (a5 m c) (row t r) j :=
  dif_pay _ _ _ _ r j _ _ (ho_at m c t h3 r j) (b6 m c t r j)

/-- The loss's gradient is the reference's. -/
theorem out_dy : (dats m 0 c).arrAt 11 cfg0.N = val_main_v52 (F := Ideal) (a0 m c) (a1 m c) (a2 m c) (a3 m c) (a4 m c) (a5 m c) := by
  refine (dats m 0 c).arrAt_eq_of_covers 11 _ (by decide +kernel) fun t hf y => ?_
  obtain ⟨r, j, rfl⟩ : ∃ (r : Fin 512) (j : Fin 1024), y = ix2 r j := ⟨y 0, y 1, eq_ix2 y⟩
  have h3 : t.val % 4 = 3 := by rw [flush_11] at hf; exact of_decide_eq_true hf
  rw [after_11]
  have hi : ((cfg0.win 11).blk t).view.emb (ix2 r j) = ix2 (row t r) j := by blk_ext [idx t]
  refine Eq.trans ?_ (congrArg (val_main_v52 (F := Ideal) (a0 m c) (a1 m c) (a2 m c) (a3 m c) (a4 m c) (a5 m c)) hi).symm
  exact (dy_pay _ _ _ _ r j).trans ((congrArg (· * _ : EReal → EReal) (dif_at m c t h3 r j)).trans (ref_dy (a0 m c) (a1 m c) (a2 m c) (a3 m c) (a4 m c) (a5 m c) _ j).symm)

/-- The loss, spread over a tile for each row block, is the reference's. -/
theorem out_loss : (dats m 0 c).arrAt 12 cfg0.N = val_main_v55 (F := Ideal) (a0 m c) (a1 m c) (a2 m c) (a3 m c) (a4 m c) (a5 m c) := by
  refine (dats m 0 c).arrAt_eq_of_covers 12 _ (by decide +kernel) fun t hf y => ?_
  obtain ⟨q, x, rfl⟩ : ∃ (q : Fin 8) (x : Fin 128), y = ix2 q x := ⟨y 0, y 1, eq_ix2 y⟩
  have h3 : t.val % 4 = 3 := by rw [flush_12] at hf; exact of_decide_eq_true hf
  rw [after_12]
  have hi : ((cfg0.win 12).blk t).view.emb (ix2 q x) = ix2 ⟨t.val / 4 * 8 + q.val, by have := point_lt t; omega⟩ x := by blk_ext [idx t]
  refine Eq.trans ?_ (congrArg (val_main_v55 (F := Ideal) (a0 m c) (a1 m c) (a2 m c) (a3 m c) (a4 m c) (a5 m c)) hi).symm
  refine (loss_pay _ _ _ _ q x _ (dif_at m c t h3)).trans (Eq.trans ?_ (ref_loss (a0 m c) (a1 m c) (a2 m c) (a3 m c) (a4 m c) (a5 m c) _ x).symm)
  have e : ∀ r, row t r = rowOf ⟨(t.val / 4 * 8 + q.val) / 8, by have := point_lt t; omega⟩ r := fun r =>
    Fin.ext (by show t.val / 4 * 512 + r.val = (t.val / 4 * 8 + q.val) / 8 * 512 + r.val; omega)
  simp only [e]

end Cert.KernelFfn2FwdIdeal.Ffn
end
-- ==== Proof.Ffn2FwdClaim.lean ====
module

public import proofs.«01_k».proof.Defs
public import proofs.«01_k».proof.Proof.Ffn2FwdValue
public import proofs.«01_k».proof.Proof.Gen.KernelFfn2Fwd

@[expose] public section

set_option maxRecDepth 16384

noncomputable section

open Idealize.ShloMosaic Idealize.ShloMosaic.TcCoe Idealize.ShloMosaic.Tactic Idealize.ShloMosaic.StableHlo Idealize.SL.Sem

namespace Cert.KernelFfn2FwdIdeal.Ffn

open Cert.KernelFfn2FwdIdeal.Gen Cert.Ffn
open Cert.ReferenceFfn2FwdIdeal.Read Cert.ReferenceFfn2FwdIdeal.Ffn

set_option maxHeartbeats 8000000 in
/-- The two printings of the call have the same bodies. -/
theorem bodies : Cert.KernelFfn2Fwd.defs₀ (F := Bits) = Cert.KernelFfn2FwdIdeal.defs₀ (F := Bits) := by
  funext p l a
  cases p with
  | tc =>
    match l with
    | 0 => rfl
  | scScalar i => rfl
  | scVector i j => rfl

set_option maxHeartbeats 8000000 in
theorem tables : Cert.KernelFfn2Fwd.defs (F := Bits) = Cert.KernelFfn2FwdIdeal.defs (F := Bits) :=
  congrArg (Pipeline.defs (Cert.KernelFfn2FwdIdeal.pcfgs (F := Bits))) bodies

set_option maxHeartbeats 8000000 in
/-- The layer's forward call, over the device's own floats: it runs to the end, leaves its arguments as they were and every semaphore at zero. -/
theorem frame_kernel : Cert.quiescent_KernelFfn2Fwd := fun m ρ _ => by
  rw [tables]
  exact frame (F := Bits) m ρ

set_option maxHeartbeats 2000000 in
/-- The call's six results are the reference's, whatever the arguments. -/
theorem algebraic : Cert.algebraic_KernelFfn2FwdIdeal_ReferenceFfn2FwdIdeal := by
  intro m ρ m' ρ' hpre hagree
  refine ⟨fun c => val_main_v61 (F := Ideal) (a0 m c) (a1 m c) (a2 m c),
    fun c => val_main_v17 (F := Ideal) (a0 m c) (a1 m c) (a2 m c) (a3 m c),
    fun c => val_main_v32 (F := Ideal) (a0 m c) (a1 m c) (a2 m c) (a3 m c) (a4 m c),
    fun c => val_main_v62 (F := Ideal) (a0 m c) (a1 m c),
    fun c => val_main_v52 (F := Ideal) (a0 m c) (a1 m c) (a2 m c) (a3 m c) (a4 m c) (a5 m c),
    fun c => val_main_v55 (F := Ideal) (a0 m c) (a1 m c) (a2 m c) (a3 m c) (a4 m c) (a5 m c), ?_, ?_⟩
  · exact (θ_run _ _ _).mono (fun r h c => ⟨((h.1 c).1 7).trans (out_u m c), ((h.1 c).1 8).trans (out_f m c), ((h.1 c).1 9).trans (out_ho m c), ((h.1 c).1 10).trans (out_a m c), ((h.1 c).1 11).trans (out_dy m c), ((h.1 c).1 12).trans (out_loss m c), h.2 c⟩)
      (θ_run_and (run_main (F := Ideal) m ρ) (unchanged (F := Ideal) m ρ))
  · refine (θ_run _ _ _).mono (fun r h c => ?_) (Cert.ReferenceFfn2FwdIdeal.Value.run (F := Ideal) m' ρ')
    obtain ⟨h0, h1, h2, h3, h4, h5⟩ := hagree c
    obtain ⟨e0, e1, e2, e3, e4, e5, e6⟩ := h c
    have k0 : m' ((c.tc : Thread Cert.ReferenceFfn2FwdIdeal.nD Cert.ReferenceFfn2FwdIdeal.τ).loc Cert.ReferenceFfn2FwdIdeal.main_arg0) = a0 m c := h0
    have k1 : m' ((c.tc : Thread Cert.ReferenceFfn2FwdIdeal.nD Cert.ReferenceFfn2FwdIdeal.τ).loc Cert.ReferenceFfn2FwdIdeal.main_arg1) = a1 m c := h1
    have k2 : m' ((c.tc : Thread Cert.ReferenceFfn2FwdIdeal.nD Cert.ReferenceFfn2FwdIdeal.τ).loc Cert.ReferenceFfn2FwdIdeal.main_arg2) = a2 m c := h2
    have k3 : m' ((c.tc : Thread Cert.ReferenceFfn2FwdIdeal.nD Cert.ReferenceFfn2FwdIdeal.τ).loc Cert.ReferenceFfn2FwdIdeal.main_arg3) = a3 m c := h3
    have k4 : m' ((c.tc : Thread Cert.ReferenceFfn2FwdIdeal.nD Cert.ReferenceFfn2FwdIdeal.τ).loc Cert.ReferenceFfn2FwdIdeal.main_arg4) = a4 m c := h4
    have k5 : m' ((c.tc : Thread Cert.ReferenceFfn2FwdIdeal.nD Cert.ReferenceFfn2FwdIdeal.τ).loc Cert.ReferenceFfn2FwdIdeal.main_arg5) = a5 m c := h5
    rw [val_main_v61_eq, k0, k1, k2] at e0
    rw [val_main_v17_eq, k0, k1, k2, k3] at e1
    rw [val_main_v32_eq, k0, k1, k2, k3, k4] at e2
    rw [val_main_v62_eq, k0, k1] at e3
    rw [val_main_v52_eq, k0, k1, k2, k3, k4, k5] at e4
    rw [val_main_v55_eq, k0, k1, k2, k3, k4, k5] at e5
    exact ⟨e0, e1, e2, e3, e4, e5, e6⟩

end Cert.KernelFfn2FwdIdeal.Ffn
end
-- ==== Proof.ProjRef.lean ====
module

public import proofs.«01_k».proof.Defs
public import proofs.«01_k».proof.Proof.FfnMath
public import proofs.«01_k».proof.Proof.Gen.ReferenceProjBwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.ShloMosaic.StableHlo Idealize.SL.Sem

namespace Cert.ReferenceProjBwdIdeal.Proj

open Cert.ReferenceProjBwdIdeal Cert.ReferenceProjBwdIdeal.Gen Cert.ReferenceProjBwdIdeal.Read Cert.Ffn

/-- The reference's frame: it runs to the end, leaves its arguments as they were and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Value.run (F := Ideal) m ρ)

/-! ## The projection's backward pass over the real numbers -/

/-- The call's arguments. -/
structure Args where
  /-- the gradient of the projections, side by side, -/
  dp : Fin 4096 → Fin 5120 → ℝ
  /-- their weights, side by side, -/
  w : Fin 1024 → Fin 5120 → ℝ
  /-- the normalization's input -/
  h : Fin 4096 → Fin 1024 → ℝ
  /-- and its weight, -/
  wn : Fin 1024 → ℝ
  /-- and the gradient that comes around them. -/
  dres : Fin 4096 → Fin 1024 → ℝ

namespace Args
variable (R : Args)

/-- The gradient of the normalized rows, -/
def da (i : Fin 4096) (j : Fin 1024) : ℝ := ∑ n, R.dp i n * R.w j n
/-- that of the input, -/
def dx (i : Fin 4096) (j : Fin 1024) : ℝ := R.dres i j + rmsb (R.h i) (fun k => R.da i k * R.wn k) j
/-- and that of the normalization's weight. -/
def gn (j : Fin 1024) : ℝ := ∑ i, R.da i j * (R.h i j * rs (R.h i))
end Args

variable (A0 : FVec Ideal S4096x5120 .f32) (A1 : FVec Ideal S1024x5120 .f32) (A2 : FVec Ideal S4096x1024 .f32) (A3 : FVec Ideal S1x1024 .f32) (A4 : FVec Ideal S4096x1024 .f32)

/-- The arguments are these real numbers. -/
structure Are (R : Args) : Prop where
  dp : ∀ i n, (A0 (ix2 i n) : EReal) = ((R.dp i n : ℝ) : EReal)
  w : ∀ j n, (A1 (ix2 j n) : EReal) = ((R.w j n : ℝ) : EReal)
  h : ∀ i j, (A2 (ix2 i j) : EReal) = ((R.h i j : ℝ) : EReal)
  wn : ∀ j, (A3 (ix2 0 j) : EReal) = ((R.wn j : ℝ) : EReal)
  dres : ∀ i j, (A4 (ix2 i j) : EReal) = ((R.dres i j : ℝ) : EReal)

variable {A0 A1 A2 A3 A4} {R : Args} (H : Are A0 A1 A2 A3 A4 R)

include H

theorem ref_ms (i : Fin 4096) : (val_main_v6 (F := Ideal) A2 (ix2 i 0) : EReal) = ((ms (R.h i) : ℝ) : EReal) := by
  pointwise [val_main_v6, val_main_v5, val_main_v4, val_main_v3, val_main_v2, val_main_v1, val_main_v0, val_main_cst, val_main_cst_0, val_main_cst_1]
  simp only [H.h]
  exact ms_coe _

theorem ref_rs (i : Fin 4096) : (val_main_v7 (F := Ideal) A2 (ix2 i 0) : EReal) = ((rs (R.h i) : ℝ) : EReal) := by
  pointwise [val_main_v7]
  rw [ref_ms H]
  exact rsqrt_ms _

theorem ref_drs (i : Fin 4096) : (val_main_v10 (F := Ideal) A2 (ix2 i 0) : EReal) = ((-(1 / 2) * (rs (R.h i) / ms (R.h i)) : ℝ) : EReal) := by
  pointwise [val_main_v10, val_main_v9, val_main_v8, val_main_cst_2]
  rw [ref_rs H, ref_ms H, div_coe _ _ (ms_pos _).ne', word_neg_half, ← EReal.coe_mul]

theorem ref_da (i : Fin 4096) (j : Fin 1024) : (val_main_v16 (F := Ideal) A0 A1 (ix2 i j) : EReal) = ((R.da i j : ℝ) : EReal) := by
  pointwise [val_main_v16]
  simp only [H.dp, H.w, ← EReal.coe_mul, sum_coe]; rfl

/-- The gradient of the normalization's weight. -/
theorem ref_gn (j : Fin 1024) : (val_main_v19 (F := Ideal) A0 A1 A2 (ix2 0 j) : EReal) = ((R.gn j : ℝ) : EReal) := by
  pointwise [val_main_v19, val_main_v18, val_main_v17, val_main_v12, val_main_v11, val_main_cst_3]
  simp only [ref_rs H, H.h, ref_da H, ← EReal.coe_mul, sum_coe]
  exact congrArg _ (Finset.sum_congr rfl fun i _ => mul_comm _ _)

theorem ref_y (i : Fin 4096) (j : Fin 1024) : (val_main_v21 (F := Ideal) A0 A1 A3 (ix2 i j) : EReal) = ((R.da i j * R.wn j : ℝ) : EReal) := by
  pointwise [val_main_v21, val_main_v20]
  rw [ref_da H, H.wn, ← EReal.coe_mul]

theorem ref_c (i : Fin 4096) (j : Fin 1024) :
    (val_main_v31 (F := Ideal) A0 A1 A2 A3 (ix2 i j) : EReal) = ((rmsc (R.h i) (fun k => R.da i k * R.wn k) : ℝ) : EReal) := by
  have e : (val_main_v29 (F := Ideal) A0 A1 A2 A3 (ix2 i 0) : EReal) = ((rmsc (R.h i) (fun k => R.da i k * R.wn k) : ℝ) : EReal) := by
    pointwise [val_main_v29, val_main_v28, val_main_v27, val_main_v24, val_main_v23, val_main_v22, val_main_cst_4, val_main_cst_5]
    simp only [H.h, ref_y H, ref_drs H, ← EReal.coe_mul, sum_coe]
    rw [word_1024, div_coe _ _ (by norm_num)]; rfl
  pointwise [val_main_v31, val_main_v30, val_main_cst_6]
  rw [Fin.sum_univ_one]
  exact e

/-- The gradient of the input. -/
theorem ref_dx (i : Fin 4096) (j : Fin 1024) : (val_main_v36 (F := Ideal) A0 A1 A2 A3 A4 (ix2 i j) : EReal) = ((R.dx i j : ℝ) : EReal) := by
  pointwise [val_main_v36, val_main_v35, val_main_v34, val_main_v33, val_main_v32, val_main_v26, val_main_v25]
  rw [ref_c H, ref_y H, ref_rs H, H.h, H.dres]
  simp only [← EReal.coe_mul, ← EReal.coe_add]
  exact congrArg _ (congrArg (R.dres i j + ·) (rmsb_eq (R.h i) (fun k => R.da i k * R.wn k) j))

end Cert.ReferenceProjBwdIdeal.Proj
end
-- ==== Proof.ProjBwd.lean ====
module

public import proofs.«01_k».proof.Defs
public import proofs.«01_k».proof.Proof.AttnPre
public import proofs.«01_k».proof.Proof.ProjRef
public import proofs.«01_k».proof.Proof.Gen.KernelProjBwdIdeal.Value
public import proofs.«01_k».proof.Proof.Gen.Pre_proj_finite
public import Idealize.ShloMosaic.Lib.StableHlo.Run

@[expose] public section

set_option maxRecDepth 16384

noncomputable section

open Idealize.ShloMosaic Idealize.ShloMosaic.TcCoe Idealize.ShloMosaic.Tactic Idealize.ShloMosaic.StableHlo Idealize.SL.Sem

namespace Cert.KernelProjBwdIdeal.Proj

open Cert.KernelProjBwdIdeal.Gen
open Cert.Ffn hiding Args
open Cert.ReferenceProjBwdIdeal.Read Cert.ReferenceProjBwdIdeal.Proj

variable (m : (ℓ : Loc nD τ sig) → Buf (Elt Ideal) ℓ) (c : Dev nD)

/-- The gradient of the projections, -/
abbrev a0 : FVec Ideal S4096x5120 .f32 := m ((c.tc : Thread nD τ).loc main_arg0)
/-- their weights, -/
abbrev a1 : FVec Ideal S1024x5120 .f32 := m ((c.tc : Thread nD τ).loc main_arg1)
/-- the normalization's input -/
abbrev a2 : FVec Ideal S4096x1024 .f32 := m ((c.tc : Thread nD τ).loc main_arg2)
/-- and its weight, -/
abbrev a3 : FVec Ideal S1x1024 .f32 := m ((c.tc : Thread nD τ).loc main_arg3)
/-- and the gradient that comes around them. -/
abbrev a4 : FVec Ideal S4096x1024 .f32 := m ((c.tc : Thread nD τ).loc main_arg4)

/-! ## The blocks of a point -/

theorem V_dp : Gen.V m c main_v0 = truncf .bf16 (a0 m c) bitsLt_bf16_f32 := by
  simp only [Gen.V, hostOps0, List.flatten_cons, List.flatten_nil, List.append_nil, List.cons_append, List.nil_append,
    TRef.nullary, TRef.binary, TRef.unary, TRef.toBuf, TRef.ofBuf, cast_eq]
  after_results_simp <;> rfl
theorem V_w : Gen.V m c main_v2 = truncf .bf16 (transpose S5120x1024 [1, 0] (a1 m c) transposes_S1024x5120_S5120x1024_1_0) bitsLt_bf16_f32 := by
  simp only [Gen.V, hostOps0, List.flatten_cons, List.flatten_nil, List.append_nil, List.cons_append, List.nil_append,
    TRef.nullary, TRef.binary, TRef.unary, TRef.toBuf, TRef.ofBuf, cast_eq]
  after_results_simp <;> rfl
theorem V_h : Gen.V m c main_arg2 = a2 m c := by
  simp only [Gen.V, hostOps0, List.flatten_cons, List.flatten_nil, List.append_nil, List.cons_append, List.nil_append,
    TRef.nullary, TRef.binary, TRef.unary, TRef.toBuf, TRef.ofBuf, cast_eq]
  after_results_simp <;> rfl
theorem V_wn : Gen.V m c main_arg3 = a3 m c := by
  simp only [Gen.V, hostOps0, List.flatten_cons, List.flatten_nil, List.append_nil, List.cons_append, List.nil_append,
    TRef.nullary, TRef.binary, TRef.unary, TRef.toBuf, TRef.ofBuf, cast_eq]
  after_results_simp <;> rfl
theorem V_dres : Gen.V m c main_arg4 = a4 m c := by
  simp only [Gen.V, hostOps0, List.flatten_cons, List.flatten_nil, List.append_nil, List.cons_append, List.nil_append,
    TRef.nullary, TRef.binary, TRef.unary, TRef.toBuf, TRef.ofBuf, cast_eq]
  after_results_simp <;> rfl

theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] ∧ win0_6.index t = ![0, 0] := by
  decide +kernel

theorem point_lt (t : Fin cfg0.N) : t.val < 8 := t.isLt

/-- Row `r` of row block `b`. -/
abbrev rowN (b : ℕ) (r : Fin 1024) : Fin 4096 := ⟨b % 4 * 1024 + r.val, by omega⟩
/-- Row `r` of a point's row block. -/
abbrev row (t : Fin cfg0.N) (r : Fin 1024) : Fin 4096 := ⟨t.val / 2 * 1024 + r.val, by have := point_lt t; omega⟩
/-- Column `e` of half `k` of the projections. -/
abbrev col (k : ℕ) (e : Fin 2560) : Fin 5120 := ⟨k % 2 * 2560 + e.val, by omega⟩

theorem row_eq (t : Fin cfg0.N) (r : Fin 1024) : rowN (t.val / 2) r = row t r :=
  Fin.ext (by have := point_lt t; show t.val / 2 % 4 * 1024 + r.val = t.val / 2 * 1024 + r.val; omega)

theorem sum_rows (g : Fin 4096 → ℝ) : ∑ b ∈ Finset.range 4, ∑ r, g (rowN b r) = ∑ i, g i := by
  rw [Finset.sum_range, ← Finset.sum_product']
  refine Finset.sum_bij' (fun p _ => rowN p.1.val p.2) (fun i _ => ((⟨i.val / 1024, by omega⟩, ⟨i.val % 1024, by omega⟩) : Fin 4 × Fin 1024))
    (fun p _ => Finset.mem_univ _) (fun i _ => Finset.mem_product.mpr ⟨Finset.mem_univ _, Finset.mem_univ _⟩) ?_ ?_ (fun p _ => rfl)
  · intro p _
    refine Prod.ext (Fin.ext ?_) (Fin.ext ?_)
    · show (p.1.val % 4 * 1024 + p.2.val) / 1024 = p.1.val
      omega
    · show (p.1.val % 4 * 1024 + p.2.val) % 1024 = p.2.val
      omega
  · intro i _
    refine Fin.ext ?_
    show i.val / 1024 % 4 * 1024 + i.val % 1024 = i.val
    omega

variable {R : Args} (H : Are (a0 m c) (a1 m c) (a2 m c) (a3 m c) (a4 m c) R)

section
variable {m c}
include H

theorem b0 (t : Fin cfg0.N) (r : Fin 1024) (e : Fin 2560) : (iblk m c 0 t (ix2 r e) : EReal) = ((R.dp (row t r) (col t.val e) : ℝ) : EReal) := by
  have h : ∀ W : FVec Ideal S4096x5120 .bf16, ((cfg0.win 0).blk t).view.read (Elt Ideal) W (ix2 r e) = W (ix2 (row t r) (col t.val e)) := fun W => by blk_ext [idx t]
  refine ((h (Gen.V m c main_v0)).trans (congrFun (V_dp m c) _)).trans ?_
  pointwise
  exact H.dp _ _
theorem b1 (t : Fin cfg0.N) (e : Fin 2560) (j : Fin 1024) : (iblk m c 1 t (ix2 e j) : EReal) = ((R.w j (col t.val e) : ℝ) : EReal) := by
  have h : ∀ W : FVec Ideal S5120x1024 .bf16, ((cfg0.win 1).blk t).view.read (Elt Ideal) W (ix2 e j) = W (ix2 (col t.val e) j) := fun W => by blk_ext [idx t]
  refine ((h (Gen.V m c main_v2)).trans (congrFun (V_w m c) _)).trans ?_
  pointwise
  exact H.w _ _
theorem b2 (t : Fin cfg0.N) (r : Fin 1024) (j : Fin 1024) : (iblk m c 2 t (ix2 r j) : EReal) = ((R.h (row t r) j : ℝ) : EReal) := by
  have h : ∀ W : FVec Ideal S4096x1024 .f32, ((cfg0.win 2).blk t).view.read (Elt Ideal) W (ix2 r j) = W (ix2 (row t r) j) := fun W => by blk_ext [idx t]
  exact ((h (Gen.V m c main_arg2)).trans (congrFun (V_h m c) _)).trans (H.h _ _)
theorem b3 (t : Fin cfg0.N) (j : Fin 1024) : (iblk m c 3 t (ix2 0 j) : EReal) = ((R.wn j : ℝ) : EReal) := by
  have h : ∀ W : FVec Ideal S1x1024 .f32, ((cfg0.win 3).blk t).view.read (Elt Ideal) W (ix2 0 j) = W (ix2 0 j) := fun W => by blk_ext [idx t]
  exact ((h (Gen.V m c main_arg3)).trans (congrFun (V_wn m c) _)).trans (H.wn _)
theorem b4 (t : Fin cfg0.N) (r : Fin 1024) (j : Fin 1024) : (iblk m c 4 t (ix2 r j) : EReal) = ((R.dres (row t r) j : ℝ) : EReal) := by
  have h : ∀ W : FVec Ideal S4096x1024 .f32, ((cfg0.win 4).blk t).view.read (Elt Ideal) W (ix2 r j) = W (ix2 (row t r) j) := fun W => by blk_ext [idx t]
  exact ((h (Gen.V m c main_arg4)).trans (congrFun (V_dres m c) _)).trans (H.dres _ _)
end

/-! ## What a point computes -/

theorem prod_pay (acc : Vec Ideal S1024x1024 .f32) (x : Vec Ideal S1024x2560 .bf16) (w : Vec Ideal S2560x1024 .bf16) (r j : Fin 1024) (s : ℝ) (p q : Fin 2560 → ℝ)
    (ha : (acc (ix2 r j) : EReal) = ((s : ℝ) : EReal)) (hx : ∀ e, (x (ix2 r e) : EReal) = ((p e : ℝ) : EReal)) (hw : ∀ e, (w (ix2 e j) : EReal) = ((q e : ℝ) : EReal)) :
    (k0_pay3 (F := Ideal) acc x w (ix2 r j) : EReal) = ((s + ∑ e, p e * q e : ℝ) : EReal) := by
  pointwise [k0_pay3]
  simp only [ha, hx, hw]
  simp only [← EReal.coe_mul, sum_coe, ← EReal.coe_add]

theorem dx_pay (h da dres : Vec Ideal S1024x1024 .f32) (wn : Vec Ideal S1x1024 .f32) (r : Fin 1024) (x a z p : Fin 1024 → ℝ)
    (hf : ∀ j, (h (ix2 r j) : EReal) = ((x j : ℝ) : EReal)) (ha : ∀ j, (da (ix2 r j) : EReal) = ((a j : ℝ) : EReal))
    (hz : ∀ j, (dres (ix2 r j) : EReal) = ((z j : ℝ) : EReal)) (hp : ∀ j, (wn (ix2 0 j) : EReal) = ((p j : ℝ) : EReal)) (j : Fin 1024) :
    (k0_pay6 (F := Ideal) h wn da dres (ix2 r j) : EReal) = ((z j + rmsb x (fun k => a k * p k) j : ℝ) : EReal) := by
  pointwise [k0_pay6, k0_pay5, k0_pay4]
  simp only [hf, ha, hz, hp, rs_coe]
  simp only [← EReal.coe_mul, sum_coe]
  rw [word_1024, div_coe _ _ (by norm_num), ← EReal.coe_mul, ← EReal.coe_sub, ← EReal.coe_mul, ← EReal.coe_add]; rfl

theorem gn_pay (h da : Vec Ideal S1024x1024 .f32) (G : Vec Ideal S1x1024 .f32) (x a : Fin 1024 → Fin 1024 → ℝ)
    (hf : ∀ r j, (h (ix2 r j) : EReal) = ((x r j : ℝ) : EReal)) (ha : ∀ r j, (da (ix2 r j) : EReal) = ((a r j : ℝ) : EReal))
    (j : Fin 1024) (s : ℝ) (hG : (G (ix2 0 j) : EReal) = ((s : ℝ) : EReal)) :
    (k0_pay7 (F := Ideal) h da G (ix2 0 j) : EReal) = ((s + ∑ r, a r j * (x r j * rs (x r)) : ℝ) : EReal) := by
  pointwise [k0_pay7, k0_pay5, k0_pay4]
  simp only [hf, ha, hG, rs_coe]
  simp only [← EReal.coe_mul, sum_coe, ← EReal.coe_add]

theorem zero_gn (j : Fin 1024) : (k0_pay1 (F := Ideal) (ix2 0 j) : EReal) = ((0 : ℝ) : EReal) := by
  pointwise [k0_pay1]
  exact EReal.coe_zero.symm
theorem zero_acc (r j : Fin 1024) : (k0_pay2 (F := Ideal) (ix2 r j) : EReal) = ((0 : ℝ) : EReal) := by
  pointwise [k0_pay2]
  exact EReal.coe_zero.symm

/-! ## What the buffers hold after a point -/

/-- What the running product holds after a point, -/
abbrev accAt (n : ℕ) (hn : n < cfg0.N) : Vec Ideal S1024x1024 .f32 := (outsAt0 m c n hn).2.2
/-- and what the weight's gradient holds. -/
abbrev gnAt (n : ℕ) (hn : n < cfg0.N) : Vec Ideal S1x1024 .f32 := (outsAt0 m c n hn).2.1
/-- The point before. -/
abbrev pred (t : Fin cfg0.N) : t.val - 1 < cfg0.N := Nat.lt_of_le_of_lt (Nat.sub_le _ _) t.isLt

theorem acc_first (t : Fin cfg0.N) (h1 : t.val % 2 = 0) :
    accAt m c t.val t.isLt = k0_pay3 (F := Ideal) (k0_pay2 (F := Ideal) : Vec Ideal S1024x1024 .f32) (iblk m c 0 t) (iblk m c 1 t) := by
  unfold accAt
  by_cases h0 : t.val % 8 = 0
  · rw [outsAt0_A m c t h0 h1 (by omega)]
    funext y
    frame_out
  · rw [outsAt0_C m c t h0 h1 (by omega)]
    funext y
    frame_out

theorem acc_last (t : Fin cfg0.N) (h2 : t.val % 2 = 1) :
    accAt m c t.val t.isLt = k0_pay3 (F := Ideal) (accAt m c (t.val - 1) (pred t)) (iblk m c 0 t) (iblk m c 1 t) := by
  unfold accAt
  rw [outsAt0_B m c t (by omega) (by omega) h2]
  funext y
  frame_out
  exact congrArg (fun z => k0_pay3 (F := Ideal) z (iblk m c 0 t) (iblk m c 1 t) y) ((Memref.isWhole_whole _).read_unread _)

theorem gn_zero (t : Fin cfg0.N) (h0 : t.val % 8 = 0) : gnAt m c t.val t.isLt = k0_pay1 (F := Ideal) := by
  unfold gnAt
  rw [outsAt0_A m c t h0 (by omega) (by omega)]
  funext y
  frame_out

theorem gn_first (t : Fin cfg0.N) (h0 : ¬t.val % 8 = 0) (h1 : t.val % 2 = 0) : gnAt m c t.val t.isLt = gnAt m c (t.val - 1) (pred t) := by
  unfold gnAt
  rw [outsAt0_C m c t h0 h1 (by omega)]
  rfl

theorem gn_last (t : Fin cfg0.N) (h2 : t.val % 2 = 1) :
    gnAt m c t.val t.isLt = k0_pay7 (F := Ideal) (iblk m c 2 t) (accAt m c t.val t.isLt) (gnAt m c (t.val - 1) (pred t)) := by
  rw [acc_last m c t h2]
  unfold gnAt accAt
  rw [outsAt0_B m c t (by omega) (by omega) h2]
  funext y
  frame_out
  exact congrArg (fun z => k0_pay7 (F := Ideal) (iblk m c 2 t) (k0_pay3 (F := Ideal) z (iblk m c 0 t) (iblk m c 1 t)) (gnAt m c (t.val - 1) (pred t)) y)
    ((Memref.isWhole_whole _).read_unread _)

theorem dx_last (t : Fin cfg0.N) (h2 : t.val % 2 = 1) :
    (outsAt0 m c t.val t.isLt).1 = k0_pay6 (F := Ideal) (iblk m c 2 t) (iblk m c 3 t) (accAt m c t.val t.isLt) (iblk m c 4 t) := by
  rw [acc_last m c t h2]
  unfold accAt
  rw [outsAt0_B m c t (by omega) (by omega) h2]
  funext y
  frame_out
  exact congrArg (fun z => k0_pay6 (F := Ideal) (iblk m c 2 t) (iblk m c 3 t) (k0_pay3 (F := Ideal) z (iblk m c 0 t) (iblk m c 1 t)) (iblk m c 4 t) y)
    ((Memref.isWhole_whole _).read_unread _)

include H

/-- After the second half the running product is the gradient of the normalized rows. -/
theorem acc_at (t : Fin cfg0.N) (h2 : t.val % 2 = 1) (r j : Fin 1024) : (accAt m c t.val t.isLt (ix2 r j) : EReal) = ((R.da (row t r) j : ℝ) : EReal) := by
  have hu := prod_pay (k0_pay2 (F := Ideal)) _ _ r j 0 _ _ (zero_acc r j) (b0 H ⟨t.val - 1, pred t⟩ r) (fun e => b1 H ⟨t.val - 1, pred t⟩ e j)
  have hu := (congrFun (acc_first m c ⟨t.val - 1, pred t⟩ (show (t.val - 1) % 2 = 0 by omega)) (ix2 r j)).trans hu
  refine (congrFun (acc_last m c t h2) _).trans ((prod_pay _ _ _ r j _ _ _ hu (b0 H t r) (fun e => b1 H t e j)).trans ?_)
  refine congrArg _ ?_
  rw [Cert.ReferenceProjBwdIdeal.Proj.Args.da, Fin.sum_univ_add (a := 2560) (b := 2560), zero_add]
  refine congrArg₂ (· + ·) (Finset.sum_congr rfl fun e _ => ?_) (Finset.sum_congr rfl fun e _ => ?_)
  · have er : row ⟨t.val - 1, pred t⟩ r = row t r := Fin.ext (by show (t.val - 1) / 2 * 1024 + r.val = t.val / 2 * 1024 + r.val; omega)
    have ec : col (t.val - 1) e = Fin.castAdd 2560 e := Fin.ext (by show (t.val - 1) % 2 * 2560 + e.val = e.val; omega)
    rw [er, ec]
  · have ec : col t.val e = Fin.natAdd 2560 e := Fin.ext (by show t.val % 2 * 2560 + e.val = 2560 + e.val; omega)
    rw [ec]

theorem gn_at (n : ℕ) : ∀ (hn : n < cfg0.N) (j : Fin 1024),
    (gnAt m c n hn (ix2 0 j) : EReal) = ((∑ b ∈ Finset.range ((n + 1) / 2), ∑ r, R.da (rowN b r) j * (R.h (rowN b r) j * rs (R.h (rowN b r))) : ℝ) : EReal) := by
  induction n with
  | zero =>
    intro hn j
    refine (congrFun (gn_zero m c ⟨0, hn⟩ rfl) _).trans ((zero_gn j).trans ?_)
    rw [show (0 + 1) / 2 = 0 from rfl, Finset.sum_range_zero]
  | succ n ih =>
    intro hn j
    by_cases h0 : (n + 1) % 2 = 1
    · refine (congrFun (gn_last m c ⟨n + 1, hn⟩ h0) _).trans ((gn_pay _ _ _ (fun r => R.h (row ⟨n + 1, hn⟩ r)) (fun r => R.da (row ⟨n + 1, hn⟩ r))
        (b2 H ⟨n + 1, hn⟩) (acc_at m c H ⟨n + 1, hn⟩ h0) j _ (ih (by omega) j)).trans (congrArg _ ?_))
      rw [show (n + 1 + 1) / 2 = (n + 1) / 2 + 1 by omega, Finset.sum_range_succ _ ((n + 1) / 2)]
      refine congrArg (_ + ·) (Finset.sum_congr rfl fun r _ => ?_)
      have e := row_eq ⟨n + 1, hn⟩ r
      rw [← e]
    · have hl : n + 1 < 8 := hn
      refine (congrFun (gn_first m c ⟨n + 1, hn⟩ (show ¬(n + 1) % 8 = 0 by omega) (show (n + 1) % 2 = 0 by omega)) _).trans ((ih (by omega) j).trans ?_)
      rw [show (n + 1 + 1) / 2 = (n + 1) / 2 by omega]

/-! ## The results -/

/-- The gradient of the input is the reference's. -/
theorem out_dx : (dats m 0 c).arrAt 5 cfg0.N = val_main_v36 (F := Ideal) (a0 m c) (a1 m c) (a2 m c) (a3 m c) (a4 m c) := by
  refine (dats m 0 c).arrAt_eq_of_covers 5 _ (by decide +kernel) fun t hf y => ?_
  obtain ⟨r, j, rfl⟩ : ∃ r j : Fin 1024, y = ix2 r j := ⟨y 0, y 1, eq_ix2 y⟩
  have h2 := (flush0_5 t).mp hf
  have hi : ((cfg0.win 5).blk t).view.emb (ix2 r j) = ix2 (row t r) j := by blk_ext [idx t]
  rw [after0_5, dx_last m c t h2]
  refine (dx_pay _ _ _ _ r _ _ _ _ (b2 H t r) (acc_at m c H t h2 r) (b4 H t r) (b3 H t) j).trans
    (Eq.trans ?_ (congrArg (val_main_v36 (F := Ideal) (a0 m c) (a1 m c) (a2 m c) (a3 m c) (a4 m c)) hi).symm)
  exact (ref_dx H (row t r) j).symm

/-- The gradient of the normalization's weight is the reference's. -/
theorem out_gn : (dats m 0 c).arrAt 6 cfg0.N = val_main_v19 (F := Ideal) (a0 m c) (a1 m c) (a2 m c) := by
  refine (dats m 0 c).arrAt_eq_of_covers 6 _ (by decide +kernel) fun t hf y => ?_
  obtain ⟨j, rfl⟩ : ∃ (j : Fin 1024), y = ix2 0 j := ⟨y 1, (eq_ix2 y).trans (congrArg (fun z => ix2 z (y 1)) (Subsingleton.elim (α := Fin 1) _ _))⟩
  have h7 := (flush0_6 t).mp hf
  have hl := point_lt t
  have hi : ((cfg0.win 6).blk t).view.emb (ix2 0 j) = ix2 0 j := by blk_ext [idx t]
  rw [after0_6]
  refine (gn_at m c H t.val t.isLt j).trans (Eq.trans ?_ (congrArg (val_main_v19 (F := Ideal) (a0 m c) (a1 m c) (a2 m c)) hi).symm)
  rw [ref_gn H, show (t.val + 1) / 2 = 4 by omega]
  exact congrArg _ (sum_rows fun i => R.da i j * (R.h i j * rs (R.h i)))

omit H

/-- Arguments that pass the finiteness check are real numbers. -/
theorem are_of_finite [Cert.Pre_proj_finite.Facts] (A0 : FVec Ideal S4096x5120 .f32) (A1 : FVec Ideal S1024x5120 .f32) (A2 : FVec Ideal S4096x1024 .f32)
    (A3 : FVec Ideal S1x1024 .f32) (A4 : FVec Ideal S4096x1024 .f32)
    (h : Cert.Pre_proj_finite.fn (F := Ideal) A0 A1 A2 A3 A4 = fun _ => 1#1) : ∃ R : Args, Are A0 A1 A2 A3 A4 R := by
  haveI : Subsingleton Cert.Pre_proj_finite.S_.Idx := ⟨fun a b => funext fun i => i.elim0⟩
  have e := congrFun h ix0
  simp only [Cert.Pre_proj_finite.fn, Cert.Pre_proj_finite.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have f0 : ∀ i, ∃ r : ℝ, A0 i = (r : EReal) := fun i => Cert.KernelIdeal.Attn.real_of_lt _ (Host.reduce_andi_all _ _ _ _ _ e0 i)
  have f1 : ∀ i, ∃ r : ℝ, A1 i = (r : EReal) := fun i => Cert.KernelIdeal.Attn.real_of_lt _ (Host.reduce_andi_all _ _ _ _ _ e1 i)
  have f2 : ∀ i, ∃ r : ℝ, A2 i = (r : EReal) := fun i => Cert.KernelIdeal.Attn.real_of_lt _ (Host.reduce_andi_all _ _ _ _ _ e2 i)
  have f3 : ∀ i, ∃ r : ℝ, A3 i = (r : EReal) := fun i => Cert.KernelIdeal.Attn.real_of_lt _ (Host.reduce_andi_all _ _ _ _ _ e3 i)
  have f4 : ∀ i, ∃ r : ℝ, A4 i = (r : EReal) := fun i => Cert.KernelIdeal.Attn.real_of_lt _ (Host.reduce_andi_all _ _ _ _ _ e4 i)
  choose r0 h0 using f0
  choose r1 h1 using f1
  choose r2 h2 using f2
  choose r3 h3 using f3
  choose r4 h4 using f4
  exact ⟨⟨fun i n => r0 (ix2 i n), fun j n => r1 (ix2 j n), fun i j => r2 (ix2 i j), fun j => r3 (ix2 0 j), fun i j => r4 (ix2 i j)⟩,
    ⟨fun _ _ => h0 _, fun _ _ => h1 _, fun _ _ => h2 _, fun _ => h3 _, fun _ _ => h4 _⟩⟩

/-- On finite arguments the call's two results are the reference's. -/
theorem algebraic : Cert.algebraic_KernelProjBwdIdeal_ReferenceProjBwdIdeal_pre_proj_finite := by
  intro m ρ m' ρ' hpre hagree
  refine ⟨fun c => val_main_v36 (F := Ideal) (a0 m c) (a1 m c) (a2 m c) (a3 m c) (a4 m c), fun c => val_main_v19 (F := Ideal) (a0 m c) (a1 m c) (a2 m c), ?_, ?_⟩
  · refine (θ_run _ _ _).mono (fun r h c => ?_) (Value.run_blocks (F := Ideal) m ρ)
    obtain ⟨R, H⟩ := are_of_finite _ _ _ _ _ (hpre c)
    exact ⟨(h c).1.trans (out_dx m c H), (h c).2.1.trans (out_gn m c H), (h c).2.2⟩
  · refine (θ_run _ _ _).mono (fun r h c => ?_) (Cert.ReferenceProjBwdIdeal.Value.run (F := Ideal) m' ρ')
    obtain ⟨h0, h1, h2, h3, h4⟩ := hagree c
    obtain ⟨e0, e1, e⟩ := h c
    rw [val_main_v36_eq, h0, h1, h2, h3, h4] at e0
    rw [val_main_v19_eq, h0, h1, h2] at e1
    exact ⟨e0, e1, e⟩

end Cert.KernelProjBwdIdeal.Proj
end
-- ==== Proof.lean ====
module

public import proofs.«01_k».proof.Defs
public import proofs.«01_k».proof.Proof.Gen.KernelDw1.Frame
public import proofs.«01_k».proof.Proof.Gen.KernelDw2.Frame
public import proofs.«01_k».proof.Proof.Gen.KernelDwIn.Frame
public import proofs.«01_k».proof.Proof.Gen.KernelProjBwd.Frame
public import proofs.«01_k».proof.Proof.Gen.KernelAdamW1.Frame
public import proofs.«01_k».proof.Proof.Gen.KernelAdamW2.Frame
public import proofs.«01_k».proof.Proof.Gen.KernelAdamIn.Frame
public import proofs.«01_k».proof.Proof.Gen.KernelAdamUq.Frame
public import proofs.«01_k».proof.Proof.Gen.KernelAdamUkv.Frame
public import proofs.«01_k».proof.Proof.Gen.KernelAdamBr.Frame
public import proofs.«01_k».proof.Proof.Gen.KernelAdamOut.Frame
public import proofs.«01_k».proof.Proof.Adam
public import Idealize.ShloMosaic.Adequacy
public import proofs.«01_k».proof.Proof.AttnClaim
public import proofs.«01_k».proof.Proof.GradDw1
public import proofs.«01_k».proof.Proof.GradDw2
public import proofs.«01_k».proof.Proof.GradIn
public import Idealize.ShloMosaic.Init
public import proofs.«01_k».proof.Proof.FfnClaim
public import proofs.«01_k».proof.Proof.Ffn1FwdClaim
public import proofs.«01_k».proof.Proof.Ffn2FwdClaim
public import proofs.«01_k».proof.Proof.ProjBwd

@[expose] public section

noncomputable section

namespace Cert.Proof

open Idealize.ShloMosaic Idealize.SL.Sem Cert.Kernel

/-- Every claim stated of the calls: each runs to the end, leaves its arguments as they were and its semaphores at zero; and each computes what its reference computes. -/
theorem claim : Cert.Claim := ⟨Cert.Kernel.Gen.facts, Cert.KernelIdeal.Gen.facts, Cert.ReferenceIdeal.Gen.facts, Cert.KernelDw1.Gen.facts, Cert.KernelDw1Ideal.Gen.facts, Cert.ReferenceDw1Ideal.Gen.facts, Cert.KernelDw2.Gen.facts, Cert.KernelDw2Ideal.Gen.facts, Cert.ReferenceDw2Ideal.Gen.facts, Cert.KernelDwIn.Gen.facts, Cert.KernelDwInIdeal.Gen.facts, Cert.ReferenceDwInIdeal.Gen.facts, Cert.KernelFfnBwd.Gen.facts, Cert.KernelFfnBwdIdeal.Gen.facts, Cert.ReferenceFfnBwdIdeal.Gen.facts, Cert.KernelFfn1Fwd.Gen.facts, Cert.KernelFfn1FwdIdeal.Gen.facts, Cert.ReferenceFfn1FwdIdeal.Gen.facts, Cert.KernelFfn2Fwd.Gen.facts, Cert.KernelFfn2FwdIdeal.Gen.facts, Cert.ReferenceFfn2FwdIdeal.Gen.facts, Cert.KernelProjBwd.Gen.facts, Cert.KernelProjBwdIdeal.Gen.facts, Cert.ReferenceProjBwdIdeal.Gen.facts, Cert.KernelAdamW1.Gen.facts, Cert.KernelAdamW1Ideal.Gen.facts, Cert.ReferenceAdamW1Ideal.Gen.facts, Cert.KernelAdamW2.Gen.facts, Cert.KernelAdamW2Ideal.Gen.facts, Cert.ReferenceAdamW2Ideal.Gen.facts, Cert.KernelAdamIn.Gen.facts, Cert.KernelAdamInIdeal.Gen.facts, Cert.ReferenceAdamInIdeal.Gen.facts, Cert.KernelAdamUq.Gen.facts, Cert.KernelAdamUqIdeal.Gen.facts, Cert.ReferenceAdamUqIdeal.Gen.facts, Cert.KernelAdamUkv.Gen.facts, Cert.KernelAdamUkvIdeal.Gen.facts, Cert.ReferenceAdamUkvIdeal.Gen.facts, Cert.KernelAdamBr.Gen.facts, Cert.KernelAdamBrIdeal.Gen.facts, Cert.ReferenceAdamBrIdeal.Gen.facts, Cert.KernelAdamOut.Gen.facts, Cert.KernelAdamOutIdeal.Gen.facts, Cert.ReferenceAdamOutIdeal.Gen.facts, Cert.Pre_finite.Gen.facts, Cert.Pre_ffn_finite.Gen.facts, Cert.Pre_proj_finite.Gen.facts,
  Cert.KernelIdeal.Attn.frame_kernel,
  fun m ρ _ => Cert.KernelIdeal.Attn.frame m ρ,
  fun m ρ _ => Cert.KernelIdeal.Attn.frame m ρ,
  fun m ρ _ => Cert.ReferenceIdeal.Attn.frame m ρ,
  fun m ρ _ => Cert.ReferenceIdeal.Attn.frame m ρ,
  fun m ρ _ => Cert.KernelDw1.Gen.frame m ρ,
  fun m ρ _ => Cert.KernelDw1Ideal.Gen.frame m ρ,
  fun m ρ _ => Cert.ReferenceDw1Ideal.Grad.frame m ρ,
  fun m ρ _ => Cert.KernelDw2.Gen.frame m ρ,
  fun m ρ _ => Cert.KernelDw2Ideal.Gen.frame m ρ,
  fun m ρ _ => Cert.ReferenceDw2Ideal.Grad.frame m ρ,
  fun m ρ _ => Cert.KernelDwIn.Gen.frame m ρ,
  fun m ρ _ => Cert.KernelDwInIdeal.Gen.frame m ρ,
  fun m ρ _ => Cert.ReferenceDwInIdeal.Grad.frame m ρ,
  Cert.KernelFfnBwdIdeal.Ffn.frame_kernel,
  fun m ρ _ => Cert.KernelFfnBwdIdeal.Ffn.frame m ρ,
  fun m ρ _ => Cert.KernelFfnBwdIdeal.Ffn.frame m ρ,
  fun m ρ _ => Cert.ReferenceFfnBwdIdeal.Ffn.frame m ρ,
  fun m ρ _ => Cert.ReferenceFfnBwdIdeal.Ffn.frame m ρ,
  Cert.KernelFfn1FwdIdeal.Ffn.frame_kernel,
  fun m ρ _ => Cert.KernelFfn1FwdIdeal.Ffn.frame m ρ,
  fun m ρ _ => Cert.ReferenceFfn1FwdIdeal.Ffn.frame m ρ,
  Cert.KernelFfn2FwdIdeal.Ffn.frame_kernel,
  fun m ρ _ => Cert.KernelFfn2FwdIdeal.Ffn.frame m ρ,
  fun m ρ _ => Cert.ReferenceFfn2FwdIdeal.Ffn.frame m ρ,
  fun m ρ _ => Cert.KernelProjBwd.Gen.frame m ρ,
  fun m ρ _ => Cert.KernelProjBwdIdeal.Gen.frame m ρ,
  fun m ρ _ => Cert.KernelProjBwdIdeal.Gen.frame m ρ,
  fun m ρ _ => Cert.ReferenceProjBwdIdeal.Proj.frame m ρ,
  fun m ρ _ => Cert.ReferenceProjBwdIdeal.Proj.frame m ρ,
  fun m ρ _ => Cert.KernelAdamW1.Gen.frame m ρ,
  fun m ρ _ => Cert.KernelAdamW1Ideal.Gen.frame m ρ,
  Cert.KernelAdamW1Ideal.Adam.ref_frame,
  fun m ρ _ => Cert.KernelAdamW2.Gen.frame m ρ,
  fun m ρ _ => Cert.KernelAdamW2Ideal.Gen.frame m ρ,
  Cert.KernelAdamW2Ideal.Adam.ref_frame,
  fun m ρ _ => Cert.KernelAdamIn.Gen.frame m ρ,
  fun m ρ _ => Cert.KernelAdamInIdeal.Gen.frame m ρ,
  Cert.KernelAdamInIdeal.Adam.ref_frame,
  fun m ρ _ => Cert.KernelAdamUq.Gen.frame m ρ,
  fun m ρ _ => Cert.KernelAdamUqIdeal.Gen.frame m ρ,
  Cert.KernelAdamUqIdeal.Adam.ref_frame,
  fun m ρ _ => Cert.KernelAdamUkv.Gen.frame m ρ,
  fun m ρ _ => Cert.KernelAdamUkvIdeal.Gen.frame m ρ,
  Cert.KernelAdamUkvIdeal.Adam.ref_frame,
  fun m ρ _ => Cert.KernelAdamBr.Gen.frame m ρ,
  fun m ρ _ => Cert.KernelAdamBrIdeal.Gen.frame m ρ,
  Cert.KernelAdamBrIdeal.Adam.ref_frame,
  fun m ρ _ => Cert.KernelAdamOut.Gen.frame m ρ,
  fun m ρ _ => Cert.KernelAdamOutIdeal.Gen.frame m ρ,
  Cert.KernelAdamOutIdeal.Adam.ref_frame,
  IdealRules.named_const.statement _ _ _ _ _ rfl,
  Cert.KernelIdeal.Attn.algebraic,
  trivial,
  Cert.KernelDw1Ideal.Grad.algebraic,
  trivial,
  Cert.KernelDw2Ideal.Grad.algebraic,
  trivial,
  Cert.KernelDwInIdeal.Grad.algebraic,
  trivial,
  Cert.KernelFfnBwdIdeal.Ffn.algebraic,
  trivial,
  Cert.KernelFfn1FwdIdeal.Ffn.algebraic,
  trivial,
  Cert.KernelFfn2FwdIdeal.Ffn.algebraic,
  trivial,
  Cert.KernelProjBwdIdeal.Proj.algebraic,
  trivial,
  Cert.KernelAdamW1Ideal.Adam.algebraic,
  trivial,
  Cert.KernelAdamW2Ideal.Adam.algebraic,
  trivial,
  Cert.KernelAdamInIdeal.Adam.algebraic,
  trivial,
  Cert.KernelAdamUqIdeal.Adam.algebraic,
  trivial,
  Cert.KernelAdamUkvIdeal.Adam.algebraic,
  trivial,
  Cert.KernelAdamBrIdeal.Adam.algebraic,
  trivial,
  Cert.KernelAdamOutIdeal.Adam.algebraic⟩

end Cert.Proof

end
